-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActRefIdeal (m : (ℓ : Loc Cert.DActRefIdeal.nD Cert.DActRefIdeal.τ Cert.DActRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DHn (m : (ℓ : Loc Cert.DHn.nD Cert.DHn.τ Cert.DHn.sig) → Buf (Elt Bits) ℓ) : Prop :=
  True

def Pre_DHnIdeal (m : (ℓ : Loc Cert.DHnIdeal.nD Cert.DHnIdeal.τ Cert.DHnIdeal.sig) → Buf (Elt Ideal) ℓ) : Prop :=
  True

def Pre_DHnRefIdeal (m : (ℓ : Loc Cert.DHnRefIdeal.nD Cert.DHnRefIdeal.τ Cert.DHnRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwSq (m : (ℓ : Loc Cert.DwSq.nD Cert.DwSq.τ Cert.DwSq.sig) → Buf (Elt Bits) ℓ) : Prop :=
  True

def Pre_DwSqIdeal (m : (ℓ : Loc Cert.DwSqIdeal.nD Cert.DwSqIdeal.τ Cert.DwSqIdeal.sig) → Buf (Elt Ideal) ℓ) : Prop :=
  True

def Pre_DwSqRefIdeal (m : (ℓ : Loc Cert.DwSqRefIdeal.nD Cert.DwSqRefIdeal.τ Cert.DwSqRefIdeal.sig) → Buf (Elt Ideal) ℓ) : Prop :=
  True

def Pre_DwInSq (m : (ℓ : Loc Cert.DwInSq.nD Cert.DwInSq.τ Cert.DwInSq.sig) → Buf (Elt Bits) ℓ) : Prop :=
  True

def Pre_DwInSqIdeal (m : (ℓ : Loc Cert.DwInSqIdeal.nD Cert.DwInSqIdeal.τ Cert.DwInSqIdeal.sig) → Buf (Elt Ideal) ℓ) : Prop :=
  True

def Pre_DwInSqRefIdeal (m : (ℓ : Loc Cert.DwInSqRefIdeal.nD Cert.DwInSqRefIdeal.τ Cert.DwInSqRefIdeal.sig) → Buf (Elt Ideal) ℓ) : Prop :=
  True

def Pre_DwInQkv (m : (ℓ : Loc Cert.DwInQkv.nD Cert.DwInQkv.τ Cert.DwInQkv.sig) → Buf (Elt Bits) ℓ) : Prop :=
  True

def Pre_DwInQkvIdeal (m : (ℓ : Loc Cert.DwInQkvIdeal.nD Cert.DwInQkvIdeal.τ Cert.DwInQkvIdeal.sig) → Buf (Elt Ideal) ℓ) : Prop :=
  True

def Pre_DwInQkvRefIdeal (m : (ℓ : Loc Cert.DwInQkvRefIdeal.nD Cert.DwInQkvRefIdeal.τ Cert.DwInQkvRefIdeal.sig) → Buf (Elt Ideal) ℓ) : Prop :=
  True

def Pre_DwInGate (m : (ℓ : Loc Cert.DwInGate.nD Cert.DwInGate.τ Cert.DwInGate.sig) → Buf (Elt Bits) ℓ) : Prop :=
  True

def Pre_DwInGateIdeal (m : (ℓ : Loc Cert.DwInGateIdeal.nD Cert.DwInGateIdeal.τ Cert.DwInGateIdeal.sig) → Buf (Elt Ideal) ℓ) : Prop :=
  True

def Pre_DwInGateRefIdeal (m : (ℓ : Loc Cert.DwInGateRefIdeal.nD Cert.DwInGateRefIdeal.τ Cert.DwInGateRefIdeal.sig) → Buf (Elt Ideal) ℓ) : Prop :=
  True

def Pre_DwInAb (m : (ℓ : Loc Cert.DwInAb.nD Cert.DwInAb.τ Cert.DwInAb.sig) → Buf (Elt Bits) ℓ) : Prop :=
  True

def Pre_DwInAbIdeal (m : (ℓ : Loc Cert.DwInAbIdeal.nD Cert.DwInAbIdeal.τ Cert.DwInAbIdeal.sig) → Buf (Elt Ideal) ℓ) : Prop :=
  True

def Pre_DwInAbRefIdeal (m : (ℓ : Loc Cert.DwInAbRefIdeal.nD Cert.DwInAbRefIdeal.τ Cert.DwInAbRefIdeal.sig) → Buf (Elt Ideal) ℓ) : Prop :=
  True

def Pre_DxSq (m : (ℓ : Loc Cert.DxSq.nD Cert.DxSq.τ Cert.DxSq.sig) → Buf (Elt Bits) ℓ) : Prop :=
  True

def Pre_DxSqIdeal (m : (ℓ : Loc Cert.DxSqIdeal.nD Cert.DxSqIdeal.τ Cert.DxSqIdeal.sig) → Buf (Elt Ideal) ℓ) : Prop :=
  True

def Pre_DxSqRefIdeal (m : (ℓ : Loc Cert.DxSqRefIdeal.nD Cert.DxSqRefIdeal.τ Cert.DxSqRefIdeal.sig) → Buf (Elt Ideal) ℓ) : Prop :=
  True

def Pre_DXo (m : (ℓ : Loc Cert.DXo.nD Cert.DXo.τ Cert.DXo.sig) → Buf (Elt Bits) ℓ) : Prop :=
  True

def Pre_DXoIdeal (m : (ℓ : Loc Cert.DXoIdeal.nD Cert.DXoIdeal.τ Cert.DXoIdeal.sig) → Buf (Elt Ideal) ℓ) : Prop :=
  True

def Pre_DXoRefIdeal (m : (ℓ : Loc Cert.DXoRefIdeal.nD Cert.DXoRefIdeal.τ Cert.DXoRefIdeal.sig) → Buf (Elt Ideal) ℓ) : Prop :=
  True

def Pre_DMn (m : (ℓ : Loc Cert.DMn.nD Cert.DMn.τ Cert.DMn.sig) → Buf (Elt Bits) ℓ) : Prop :=
  True

def Pre_DMnIdeal (m : (ℓ : Loc Cert.DMnIdeal.nD Cert.DMnIdeal.τ Cert.DMnIdeal.sig) → Buf (Elt Ideal) ℓ) : Prop :=
  True

def Pre_DMnRefIdeal (m : (ℓ : Loc Cert.DMnRefIdeal.nD Cert.DMnRefIdeal.τ Cert.DMnRefIdeal.sig) → Buf (Elt Ideal) ℓ) : Prop :=
  True

def Pre_DwXkv (m : (ℓ : Loc Cert.DwXkv.nD Cert.DwXkv.τ Cert.DwXkv.sig) → Buf (Elt Bits) ℓ) : Prop :=
  True

def Pre_DwXkvIdeal (m : (ℓ : Loc Cert.DwXkvIdeal.nD Cert.DwXkvIdeal.τ Cert.DwXkvIdeal.sig) → Buf (Elt Ideal) ℓ) : Prop :=
  True

def Pre_DwXkvRefIdeal (m : (ℓ : Loc Cert.DwXkvRefIdeal.nD Cert.DwXkvRefIdeal.τ Cert.DwXkvRefIdeal.sig) → Buf (Elt Ideal) ℓ) : Prop :=
  True

def Pre_ProjQkv (m : (ℓ : Loc Cert.ProjQkv.nD Cert.ProjQkv.τ Cert.ProjQkv.sig) → Buf (Elt Bits) ℓ) : Prop :=
  True

def Pre_ProjQkvIdeal (m : (ℓ : Loc Cert.ProjQkvIdeal.nD Cert.ProjQkvIdeal.τ Cert.ProjQkvIdeal.sig) → Buf (Elt Ideal) ℓ) : Prop :=
  True

def Pre_ProjQkvRefIdeal (m : (ℓ : Loc Cert.ProjQkvRefIdeal.nD Cert.ProjQkvRefIdeal.τ Cert.ProjQkvRefIdeal.sig) → Buf (Elt Ideal) ℓ) : Prop :=
  True

def Pre_ProjGate (m : (ℓ : Loc Cert.ProjGate.nD Cert.ProjGate.τ Cert.ProjGate.sig) → Buf (Elt Bits) ℓ) : Prop :=
  True

def Pre_ProjGateIdeal (m : (ℓ : Loc Cert.ProjGateIdeal.nD Cert.ProjGateIdeal.τ Cert.ProjGateIdeal.sig) → Buf (Elt Ideal) ℓ) : Prop :=
  True

def Pre_ProjGateRefIdeal (m : (ℓ : Loc Cert.ProjGateRefIdeal.nD Cert.ProjGateRefIdeal.τ Cert.ProjGateRefIdeal.sig) → Buf (Elt Ideal) ℓ) : Prop :=
  True

def Pre_ProjZ (m : (ℓ : Loc Cert.ProjZ.nD Cert.ProjZ.τ Cert.ProjZ.sig) → Buf (Elt Bits) ℓ) : Prop :=
  True

def Pre_ProjZIdeal (m : (ℓ : Loc Cert.ProjZIdeal.nD Cert.ProjZIdeal.τ Cert.ProjZIdeal.sig) → Buf (Elt Ideal) ℓ) : Prop :=
  True

def Pre_ProjZRefIdeal (m : (ℓ : Loc Cert.ProjZRefIdeal.nD Cert.ProjZRefIdeal.τ Cert.ProjZRefIdeal.sig) → Buf (Elt Ideal) ℓ) : Prop :=
  True

def Pre_ProjAb (m : (ℓ : Loc Cert.ProjAb.nD Cert.ProjAb.τ Cert.ProjAb.sig) → Buf (Elt Bits) ℓ) : Prop :=
  True

def Pre_ProjAbIdeal (m : (ℓ : Loc Cert.ProjAbIdeal.nD Cert.ProjAbIdeal.τ Cert.ProjAbIdeal.sig) → Buf (Elt Ideal) ℓ) : Prop :=
  True

def Pre_ProjAbRefIdeal (m : (ℓ : Loc Cert.ProjAbRefIdeal.nD Cert.ProjAbRefIdeal.τ Cert.ProjAbRefIdeal.sig) → Buf (Elt Ideal) ℓ) : Prop :=
  True

def Pre_XattnKv (m : (ℓ : Loc Cert.XattnKv.nD Cert.XattnKv.τ Cert.XattnKv.sig) → Buf (Elt Bits) ℓ) : Prop :=
  True

def Pre_XattnKvIdeal (m : (ℓ : Loc Cert.XattnKvIdeal.nD Cert.XattnKvIdeal.τ Cert.XattnKvIdeal.sig) → Buf (Elt Ideal) ℓ) : Prop :=
  True

def Pre_XattnKvRefIdeal (m : (ℓ : Loc Cert.XattnKvRefIdeal.nD Cert.XattnKvRefIdeal.τ Cert.XattnKvRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_ProjSq (m : (ℓ : Loc Cert.ProjSq.nD Cert.ProjSq.τ Cert.ProjSq.sig) → Buf (Elt Bits) ℓ) : Prop :=
  True

def Pre_ProjSqIdeal (m : (ℓ : Loc Cert.ProjSqIdeal.nD Cert.ProjSqIdeal.τ Cert.ProjSqIdeal.sig) → Buf (Elt Ideal) ℓ) : Prop :=
  True

def Pre_ProjSqRefIdeal (m : (ℓ : Loc Cert.ProjSqRefIdeal.nD Cert.ProjSqRefIdeal.τ Cert.ProjSqRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_LossDown (m : (ℓ : Loc Cert.LossDown.nD Cert.LossDown.τ Cert.LossDown.sig) → Buf (Elt Bits) ℓ) : Prop :=
  True

def Pre_LossDownIdeal (m : (ℓ : Loc Cert.LossDownIdeal.nD Cert.LossDownIdeal.τ Cert.LossDownIdeal.sig) → Buf (Elt Ideal) ℓ) : Prop :=
  True

def Pre_LossDownRefIdeal (m : (ℓ : Loc Cert.LossDownRefIdeal.nD Cert.LossDownRefIdeal.τ Cert.LossDownRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdRefIdeal (m : (ℓ : Loc Cert.NormMixBwdRefIdeal.nD Cert.NormMixBwdRefIdeal.τ Cert.NormMixBwdRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixRefIdeal (m : (ℓ : Loc Cert.NormMixRefIdeal.nD Cert.NormMixRefIdeal.τ Cert.NormMixRefIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemRefIdeal (m : (ℓ : Loc Cert.NormMemRefIdeal.nD Cert.NormMemRefIdeal.τ Cert.NormMemRefIdeal.sig) → Buf (Elt Ideal) ℓ) : Prop :=
  True

def Pre_XattnFwd (m : (ℓ : Loc Cert.XattnFwd.nD Cert.XattnFwd.τ Cert.XattnFwd.sig) → Buf (Elt Bits) ℓ) : Prop :=
  True

def Pre_XattnFwdIdeal (m : (ℓ : Loc Cert.XattnFwdIdeal.nD Cert.XattnFwdIdeal.τ Cert.XattnFwdIdeal.sig) → Buf (Elt Ideal) ℓ) : Prop :=
  True

def Pre_XattnFwdRefIdeal (m : (ℓ : Loc Cert.XattnFwdRefIdeal.nD Cert.XattnFwdRefIdeal.τ Cert.XattnFwdRefIdeal.sig) → Buf (Elt Ideal) ℓ) : Prop :=
  True

def Pre_FfnConv (m : (ℓ : Loc Cert.FfnConv.nD Cert.FfnConv.τ Cert.FfnConv.sig) → Buf (Elt Bits) ℓ) : Prop :=
  True

def Pre_FfnConvIdeal (m : (ℓ : Loc Cert.FfnConvIdeal.nD Cert.FfnConvIdeal.τ Cert.FfnConvIdeal.sig) → Buf (Elt Ideal) ℓ) : Prop :=
  True

def Pre_FfnConvRefIdeal (m : (ℓ : Loc Cert.FfnConvRefIdeal.nD Cert.FfnConvRefIdeal.τ Cert.FfnConvRefIdeal.sig) → Buf (Elt Ideal) ℓ) : Prop :=
  True

def Pre_SibEarly (m : (ℓ : Loc Cert.SibEarly.nD Cert.SibEarly.τ Cert.SibEarly.sig) → Buf (Elt Bits) ℓ) : Prop :=
  True

def Pre_SibEarlyIdeal (m : (ℓ : Loc Cert.SibEarlyIdeal.nD Cert.SibEarlyIdeal.τ Cert.SibEarlyIdeal.sig) → Buf (Elt Ideal) ℓ) : Prop :=
  True

def Pre_SibEarlyRefIdeal (m : (ℓ : Loc Cert.SibEarlyRefIdeal.nD Cert.SibEarlyRefIdeal.τ Cert.SibEarlyRefIdeal.sig) → Buf (Elt Ideal) ℓ) : Prop :=
  True

def Pre_SibLate (m : (ℓ : Loc Cert.SibLate.nD Cert.SibLate.τ Cert.SibLate.sig) → Buf (Elt Bits) ℓ) : Prop :=
  True

def Pre_SibLateIdeal (m : (ℓ : Loc Cert.SibLateIdeal.nD Cert.SibLateIdeal.τ Cert.SibLateIdeal.sig) → Buf (Elt Ideal) ℓ) : Prop :=
  True

def Pre_SibLateRefIdeal (m : (ℓ : Loc Cert.SibLateRefIdeal.nD Cert.SibLateRefIdeal.τ Cert.SibLateRefIdeal.sig) → Buf (Elt Ideal) ℓ) : Prop :=
  True

def Pre_DXn (m : (ℓ : Loc Cert.DXn.nD Cert.DXn.τ Cert.DXn.sig) → Buf (Elt Bits) ℓ) : Prop :=
  True

def Pre_DXnIdeal (m : (ℓ : Loc Cert.DXnIdeal.nD Cert.DXnIdeal.τ Cert.DXnIdeal.sig) → Buf (Elt Ideal) ℓ) : Prop :=
  True

def Pre_DXnRefIdeal (m : (ℓ : Loc Cert.DXnRefIdeal.nD Cert.DXnRefIdeal.τ Cert.DXnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActRefIdeal [hDActRefIdeal : Cert.DActRefIdeal.Facts] : Prop :=
  ∀ (m : (ℓ : Loc Cert.DActRefIdeal.nD Cert.DActRefIdeal.τ Cert.DActRefIdeal.sig) → Buf (Elt Ideal) ℓ) (g : Dev Cert.DActRefIdeal.nD → PrngReg), Pre_DActRefIdeal m →
    θ_run (Cert.DActRefIdeal.defs (F := Ideal)) (onTc (τ := Cert.DActRefIdeal.τ) (Cert.DActRefIdeal.main (F := Ideal))) ⟨m, fun _ => 0, g⟩ (fun r => (∀ c : Dev Cert.DActRefIdeal.nD,
      r.2.mem ((c.tc : Thread Cert.DActRefIdeal.nD Cert.DActRefIdeal.τ).loc Cert.DActRefIdeal.main_arg0) = m ((c.tc : Thread Cert.DActRefIdeal.nD Cert.DActRefIdeal.τ).loc Cert.DActRefIdeal.main_arg0)
      ∧ r.2.mem ((c.tc : Thread Cert.DActRefIdeal.nD Cert.DActRefIdeal.τ).loc Cert.DActRefIdeal.main_arg1) = m ((c.tc : Thread Cert.DActRefIdeal.nD Cert.DActRefIdeal.τ).loc Cert.DActRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1))
      ∧ r.2.sem = fun _ => 0)

def quiescent_DHn [hDHn : Cert.DHn.Facts] : Prop :=
  ∀ (m : (ℓ : Loc Cert.DHn.nD Cert.DHn.τ Cert.DHn.sig) → Buf (Elt Bits) ℓ) (g : Dev Cert.DHn.nD → PrngReg), Pre_DHn m →
    θ_run (Cert.DHn.defs (F := Bits)) (onTc (τ := Cert.DHn.τ) (Cert.DHn.main (F := Bits))) ⟨m, fun _ => 0, g⟩ (fun r => (∀ c : Dev Cert.DHn.nD,
      r.2.mem ((c.tc : Thread Cert.DHn.nD Cert.DHn.τ).loc Cert.DHn.main_arg0) = m ((c.tc : Thread Cert.DHn.nD Cert.DHn.τ).loc Cert.DHn.main_arg0)
      ∧ r.2.mem ((c.tc : Thread Cert.DHn.nD Cert.DHn.τ).loc Cert.DHn.main_arg1) = m ((c.tc : Thread Cert.DHn.nD Cert.DHn.τ).loc Cert.DHn.main_arg1))
      ∧ r.2.sem = fun _ => 0)

def quiescent_DHnIdeal [hDHnIdeal : Cert.DHnIdeal.Facts] : Prop :=
  ∀ (m : (ℓ : Loc Cert.DHnIdeal.nD Cert.DHnIdeal.τ Cert.DHnIdeal.sig) → Buf (Elt Ideal) ℓ) (g : Dev Cert.DHnIdeal.nD → PrngReg), Pre_DHnIdeal m →
    θ_run (Cert.DHnIdeal.defs (F := Ideal)) (onTc (τ := Cert.DHnIdeal.τ) (Cert.DHnIdeal.main (F := Ideal))) ⟨m, fun _ => 0, g⟩ (fun r => (∀ c : Dev Cert.DHnIdeal.nD,
      r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
      ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ r.2.sem = fun _ => 0)

def quiescent_DHnRefIdeal [hDHnRefIdeal : Cert.DHnRefIdeal.Facts] : Prop :=
  ∀ (m : (ℓ : Loc Cert.DHnRefIdeal.nD Cert.DHnRefIdeal.τ Cert.DHnRefIdeal.sig) → Buf (Elt Ideal) ℓ) (g : Dev Cert.DHnRefIdeal.nD → PrngReg), Pre_DHnRefIdeal m →
    θ_run (Cert.DHnRefIdeal.defs (F := Ideal)) (onTc (τ := Cert.DHnRefIdeal.τ) (Cert.DHnRefIdeal.main (F := Ideal))) ⟨m, fun _ => 0, g⟩ (fun r => (∀ c : Dev Cert.DHnRefIdeal.nD,
      r.2.mem ((c.tc : Thread Cert.DHnRefIdeal.nD Cert.DHnRefIdeal.τ).loc Cert.DHnRefIdeal.main_arg0) = m ((c.tc : Thread Cert.DHnRefIdeal.nD Cert.DHnRefIdeal.τ).loc Cert.DHnRefIdeal.main_arg0)
      ∧ r.2.mem ((c.tc : Thread Cert.DHnRefIdeal.nD Cert.DHnRefIdeal.τ).loc Cert.DHnRefIdeal.main_arg1) = m ((c.tc : Thread Cert.DHnRefIdeal.nD Cert.DHnRefIdeal.τ).loc Cert.DHnRefIdeal.main_arg1))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_DwSq [hDwSq : Cert.DwSq.Facts] : Prop :=
  ∀ (m : (ℓ : Loc Cert.DwSq.nD Cert.DwSq.τ Cert.DwSq.sig) → Buf (Elt Bits) ℓ) (g : Dev Cert.DwSq.nD → PrngReg), Pre_DwSq m →
    θ_run (Cert.DwSq.defs (F := Bits)) (onTc (τ := Cert.DwSq.τ) (Cert.DwSq.main (F := Bits))) ⟨m, fun _ => 0, g⟩ (fun r => (∀ c : Dev Cert.DwSq.nD,
      r.2.mem ((c.tc : Thread Cert.DwSq.nD Cert.DwSq.τ).loc Cert.DwSq.main_arg0) = m ((c.tc : Thread Cert.DwSq.nD Cert.DwSq.τ).loc Cert.DwSq.main_arg0)
      ∧ r.2.mem ((c.tc : Thread Cert.DwSq.nD Cert.DwSq.τ).loc Cert.DwSq.main_arg1) = m ((c.tc : Thread Cert.DwSq.nD Cert.DwSq.τ).loc Cert.DwSq.main_arg1))
      ∧ r.2.sem = fun _ => 0)

def quiescent_DwSqIdeal [hDwSqIdeal : Cert.DwSqIdeal.Facts] : Prop :=
  ∀ (m : (ℓ : Loc Cert.DwSqIdeal.nD Cert.DwSqIdeal.τ Cert.DwSqIdeal.sig) → Buf (Elt Ideal) ℓ) (g : Dev Cert.DwSqIdeal.nD → PrngReg), Pre_DwSqIdeal m →
    θ_run (Cert.DwSqIdeal.defs (F := Ideal)) (onTc (τ := Cert.DwSqIdeal.τ) (Cert.DwSqIdeal.main (F := Ideal))) ⟨m, fun _ => 0, g⟩ (fun r => (∀ c : Dev Cert.DwSqIdeal.nD,
      r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
      ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ r.2.sem = fun _ => 0)

def quiescent_DwSqRefIdeal [hDwSqRefIdeal : Cert.DwSqRefIdeal.Facts] : Prop :=
  ∀ (m : (ℓ : Loc Cert.DwSqRefIdeal.nD Cert.DwSqRefIdeal.τ Cert.DwSqRefIdeal.sig) → Buf (Elt Ideal) ℓ) (g : Dev Cert.DwSqRefIdeal.nD → PrngReg), Pre_DwSqRefIdeal m →
    θ_run (Cert.DwSqRefIdeal.defs (F := Ideal)) (onTc (τ := Cert.DwSqRefIdeal.τ) (Cert.DwSqRefIdeal.main (F := Ideal))) ⟨m, fun _ => 0, g⟩ (fun r => (∀ c : Dev Cert.DwSqRefIdeal.nD,
      r.2.mem ((c.tc : Thread Cert.DwSqRefIdeal.nD Cert.DwSqRefIdeal.τ).loc Cert.DwSqRefIdeal.main_arg0) = m ((c.tc : Thread Cert.DwSqRefIdeal.nD Cert.DwSqRefIdeal.τ).loc Cert.DwSqRefIdeal.main_arg0)
      ∧ r.2.mem ((c.tc : Thread Cert.DwSqRefIdeal.nD Cert.DwSqRefIdeal.τ).loc Cert.DwSqRefIdeal.main_arg1) = m ((c.tc : Thread Cert.DwSqRefIdeal.nD Cert.DwSqRefIdeal.τ).loc Cert.DwSqRefIdeal.main_arg1))
      ∧ r.2.sem = fun _ => 0)

def quiescent_DwInSq [hDwInSq : Cert.DwInSq.Facts] : Prop :=
  ∀ (m : (ℓ : Loc Cert.DwInSq.nD Cert.DwInSq.τ Cert.DwInSq.sig) → Buf (Elt Bits) ℓ) (g : Dev Cert.DwInSq.nD → PrngReg), Pre_DwInSq m →
    θ_run (Cert.DwInSq.defs (F := Bits)) (onTc (τ := Cert.DwInSq.τ) (Cert.DwInSq.main (F := Bits))) ⟨m, fun _ => 0, g⟩ (fun r => (∀ c : Dev Cert.DwInSq.nD,
      r.2.mem ((c.tc : Thread Cert.DwInSq.nD Cert.DwInSq.τ).loc Cert.DwInSq.main_arg0) = m ((c.tc : Thread Cert.DwInSq.nD Cert.DwInSq.τ).loc Cert.DwInSq.main_arg0)
      ∧ r.2.mem ((c.tc : Thread Cert.DwInSq.nD Cert.DwInSq.τ).loc Cert.DwInSq.main_arg1) = m ((c.tc : Thread Cert.DwInSq.nD Cert.DwInSq.τ).loc Cert.DwInSq.main_arg1))
      ∧ r.2.sem = fun _ => 0)

def quiescent_DwInSqIdeal [hDwInSqIdeal : Cert.DwInSqIdeal.Facts] : Prop :=
  ∀ (m : (ℓ : Loc Cert.DwInSqIdeal.nD Cert.DwInSqIdeal.τ Cert.DwInSqIdeal.sig) → Buf (Elt Ideal) ℓ) (g : Dev Cert.DwInSqIdeal.nD → PrngReg), Pre_DwInSqIdeal m →
    θ_run (Cert.DwInSqIdeal.defs (F := Ideal)) (onTc (τ := Cert.DwInSqIdeal.τ) (Cert.DwInSqIdeal.main (F := Ideal))) ⟨m, fun _ => 0, g⟩ (fun r => (∀ c : Dev Cert.DwInSqIdeal.nD,
      r.2.mem ((c.tc : Thread Cert.DwInSqIdeal.nD Cert.DwInSqIdeal.τ).loc Cert.DwInSqIdeal.main_arg0) = m ((c.tc : Thread Cert.DwInSqIdeal.nD Cert.DwInSqIdeal.τ).loc Cert.DwInSqIdeal.main_arg0)
      ∧ r.2.mem ((c.tc : Thread Cert.DwInSqIdeal.nD Cert.DwInSqIdeal.τ).loc Cert.DwInSqIdeal.main_arg1) = m ((c.tc : Thread Cert.DwInSqIdeal.nD Cert.DwInSqIdeal.τ).loc Cert.DwInSqIdeal.main_arg1))
      ∧ r.2.sem = fun _ => 0)

def quiescent_DwInSqRefIdeal [hDwInSqRefIdeal : Cert.DwInSqRefIdeal.Facts] : Prop :=
  ∀ (m : (ℓ : Loc Cert.DwInSqRefIdeal.nD Cert.DwInSqRefIdeal.τ Cert.DwInSqRefIdeal.sig) → Buf (Elt Ideal) ℓ) (g : Dev Cert.DwInSqRefIdeal.nD → PrngReg), Pre_DwInSqRefIdeal m →
    θ_run (Cert.DwInSqRefIdeal.defs (F := Ideal)) (onTc (τ := Cert.DwInSqRefIdeal.τ) (Cert.DwInSqRefIdeal.main (F := Ideal))) ⟨m, fun _ => 0, g⟩ (fun r => (∀ c : Dev Cert.DwInSqRefIdeal.nD,
      r.2.mem ((c.tc : Thread Cert.DwInSqRefIdeal.nD Cert.DwInSqRefIdeal.τ).loc Cert.DwInSqRefIdeal.main_arg0) = m ((c.tc : Thread Cert.DwInSqRefIdeal.nD Cert.DwInSqRefIdeal.τ).loc Cert.DwInSqRefIdeal.main_arg0)
      ∧ r.2.mem ((c.tc : Thread Cert.DwInSqRefIdeal.nD Cert.DwInSqRefIdeal.τ).loc Cert.DwInSqRefIdeal.main_arg1) = m ((c.tc : Thread Cert.DwInSqRefIdeal.nD Cert.DwInSqRefIdeal.τ).loc Cert.DwInSqRefIdeal.main_arg1))
      ∧ r.2.sem = fun _ => 0)

def quiescent_DwInQkv [hDwInQkv : Cert.DwInQkv.Facts] : Prop :=
  ∀ (m : (ℓ : Loc Cert.DwInQkv.nD Cert.DwInQkv.τ Cert.DwInQkv.sig) → Buf (Elt Bits) ℓ) (g : Dev Cert.DwInQkv.nD → PrngReg), Pre_DwInQkv m →
    θ_run (Cert.DwInQkv.defs (F := Bits)) (onTc (τ := Cert.DwInQkv.τ) (Cert.DwInQkv.main (F := Bits))) ⟨m, fun _ => 0, g⟩ (fun r => (∀ c : Dev Cert.DwInQkv.nD,
      r.2.mem ((c.tc : Thread Cert.DwInQkv.nD Cert.DwInQkv.τ).loc Cert.DwInQkv.main_arg0) = m ((c.tc : Thread Cert.DwInQkv.nD Cert.DwInQkv.τ).loc Cert.DwInQkv.main_arg0)
      ∧ r.2.mem ((c.tc : Thread Cert.DwInQkv.nD Cert.DwInQkv.τ).loc Cert.DwInQkv.main_arg1) = m ((c.tc : Thread Cert.DwInQkv.nD Cert.DwInQkv.τ).loc Cert.DwInQkv.main_arg1))
      ∧ r.2.sem = fun _ => 0)

def quiescent_DwInQkvIdeal [hDwInQkvIdeal : Cert.DwInQkvIdeal.Facts] : Prop :=
  ∀ (m : (ℓ : Loc Cert.DwInQkvIdeal.nD Cert.DwInQkvIdeal.τ Cert.DwInQkvIdeal.sig) → Buf (Elt Ideal) ℓ) (g : Dev Cert.DwInQkvIdeal.nD → PrngReg), Pre_DwInQkvIdeal m →
    θ_run (Cert.DwInQkvIdeal.defs (F := Ideal)) (onTc (τ := Cert.DwInQkvIdeal.τ) (Cert.DwInQkvIdeal.main (F := Ideal))) ⟨m, fun _ => 0, g⟩ (fun r => (∀ c : Dev Cert.DwInQkvIdeal.nD,
      r.2.mem ((c.tc : Thread Cert.DwInQkvIdeal.nD Cert.DwInQkvIdeal.τ).loc Cert.DwInQkvIdeal.main_arg0) = m ((c.tc : Thread Cert.DwInQkvIdeal.nD Cert.DwInQkvIdeal.τ).loc Cert.DwInQkvIdeal.main_arg0)
      ∧ r.2.mem ((c.tc : Thread Cert.DwInQkvIdeal.nD Cert.DwInQkvIdeal.τ).loc Cert.DwInQkvIdeal.main_arg1) = m ((c.tc : Thread Cert.DwInQkvIdeal.nD Cert.DwInQkvIdeal.τ).loc Cert.DwInQkvIdeal.main_arg1))
      ∧ r.2.sem = fun _ => 0)

def quiescent_DwInQkvRefIdeal [hDwInQkvRefIdeal : Cert.DwInQkvRefIdeal.Facts] : Prop :=
  ∀ (m : (ℓ : Loc Cert.DwInQkvRefIdeal.nD Cert.DwInQkvRefIdeal.τ Cert.DwInQkvRefIdeal.sig) → Buf (Elt Ideal) ℓ) (g : Dev Cert.DwInQkvRefIdeal.nD → PrngReg), Pre_DwInQkvRefIdeal m →
    θ_run (Cert.DwInQkvRefIdeal.defs (F := Ideal)) (onTc (τ := Cert.DwInQkvRefIdeal.τ) (Cert.DwInQkvRefIdeal.main (F := Ideal))) ⟨m, fun _ => 0, g⟩ (fun r => (∀ c : Dev Cert.DwInQkvRefIdeal.nD,
      r.2.mem ((c.tc : Thread Cert.DwInQkvRefIdeal.nD Cert.DwInQkvRefIdeal.τ).loc Cert.DwInQkvRefIdeal.main_arg0) = m ((c.tc : Thread Cert.DwInQkvRefIdeal.nD Cert.DwInQkvRefIdeal.τ).loc Cert.DwInQkvRefIdeal.main_arg0)
      ∧ r.2.mem ((c.tc : Thread Cert.DwInQkvRefIdeal.nD Cert.DwInQkvRefIdeal.τ).loc Cert.DwInQkvRefIdeal.main_arg1) = m ((c.tc : Thread Cert.DwInQkvRefIdeal.nD Cert.DwInQkvRefIdeal.τ).loc Cert.DwInQkvRefIdeal.main_arg1))
      ∧ r.2.sem = fun _ => 0)

def quiescent_DwInGate [hDwInGate : Cert.DwInGate.Facts] : Prop :=
  ∀ (m : (ℓ : Loc Cert.DwInGate.nD Cert.DwInGate.τ Cert.DwInGate.sig) → Buf (Elt Bits) ℓ) (g : Dev Cert.DwInGate.nD → PrngReg), Pre_DwInGate m →
    θ_run (Cert.DwInGate.defs (F := Bits)) (onTc (τ := Cert.DwInGate.τ) (Cert.DwInGate.main (F := Bits))) ⟨m, fun _ => 0, g⟩ (fun r => (∀ c : Dev Cert.DwInGate.nD,
      r.2.mem ((c.tc : Thread Cert.DwInGate.nD Cert.DwInGate.τ).loc Cert.DwInGate.main_arg0) = m ((c.tc : Thread Cert.DwInGate.nD Cert.DwInGate.τ).loc Cert.DwInGate.main_arg0)
      ∧ r.2.mem ((c.tc : Thread Cert.DwInGate.nD Cert.DwInGate.τ).loc Cert.DwInGate.main_arg1) = m ((c.tc : Thread Cert.DwInGate.nD Cert.DwInGate.τ).loc Cert.DwInGate.main_arg1))
      ∧ r.2.sem = fun _ => 0)

def quiescent_DwInGateIdeal [hDwInGateIdeal : Cert.DwInGateIdeal.Facts] : Prop :=
  ∀ (m : (ℓ : Loc Cert.DwInGateIdeal.nD Cert.DwInGateIdeal.τ Cert.DwInGateIdeal.sig) → Buf (Elt Ideal) ℓ) (g : Dev Cert.DwInGateIdeal.nD → PrngReg), Pre_DwInGateIdeal m →
    θ_run (Cert.DwInGateIdeal.defs (F := Ideal)) (onTc (τ := Cert.DwInGateIdeal.τ) (Cert.DwInGateIdeal.main (F := Ideal))) ⟨m, fun _ => 0, g⟩ (fun r => (∀ c : Dev Cert.DwInGateIdeal.nD,
      r.2.mem ((c.tc : Thread Cert.DwInGateIdeal.nD Cert.DwInGateIdeal.τ).loc Cert.DwInGateIdeal.main_arg0) = m ((c.tc : Thread Cert.DwInGateIdeal.nD Cert.DwInGateIdeal.τ).loc Cert.DwInGateIdeal.main_arg0)
      ∧ r.2.mem ((c.tc : Thread Cert.DwInGateIdeal.nD Cert.DwInGateIdeal.τ).loc Cert.DwInGateIdeal.main_arg1) = m ((c.tc : Thread Cert.DwInGateIdeal.nD Cert.DwInGateIdeal.τ).loc Cert.DwInGateIdeal.main_arg1))
      ∧ r.2.sem = fun _ => 0)

def quiescent_DwInGateRefIdeal [hDwInGateRefIdeal : Cert.DwInGateRefIdeal.Facts] : Prop :=
  ∀ (m : (ℓ : Loc Cert.DwInGateRefIdeal.nD Cert.DwInGateRefIdeal.τ Cert.DwInGateRefIdeal.sig) → Buf (Elt Ideal) ℓ) (g : Dev Cert.DwInGateRefIdeal.nD → PrngReg), Pre_DwInGateRefIdeal m →
    θ_run (Cert.DwInGateRefIdeal.defs (F := Ideal)) (onTc (τ := Cert.DwInGateRefIdeal.τ) (Cert.DwInGateRefIdeal.main (F := Ideal))) ⟨m, fun _ => 0, g⟩ (fun r => (∀ c : Dev Cert.DwInGateRefIdeal.nD,
      r.2.mem ((c.tc : Thread Cert.DwInGateRefIdeal.nD Cert.DwInGateRefIdeal.τ).loc Cert.DwInGateRefIdeal.main_arg0) = m ((c.tc : Thread Cert.DwInGateRefIdeal.nD Cert.DwInGateRefIdeal.τ).loc Cert.DwInGateRefIdeal.main_arg0)
      ∧ r.2.mem ((c.tc : Thread Cert.DwInGateRefIdeal.nD Cert.DwInGateRefIdeal.τ).loc Cert.DwInGateRefIdeal.main_arg1) = m ((c.tc : Thread Cert.DwInGateRefIdeal.nD Cert.DwInGateRefIdeal.τ).loc Cert.DwInGateRefIdeal.main_arg1))
      ∧ r.2.sem = fun _ => 0)

def quiescent_DwInAb [hDwInAb : Cert.DwInAb.Facts] : Prop :=
  ∀ (m : (ℓ : Loc Cert.DwInAb.nD Cert.DwInAb.τ Cert.DwInAb.sig) → Buf (Elt Bits) ℓ) (g : Dev Cert.DwInAb.nD → PrngReg), Pre_DwInAb m →
    θ_run (Cert.DwInAb.defs (F := Bits)) (onTc (τ := Cert.DwInAb.τ) (Cert.DwInAb.main (F := Bits))) ⟨m, fun _ => 0, g⟩ (fun r => (∀ c : Dev Cert.DwInAb.nD,
      r.2.mem ((c.tc : Thread Cert.DwInAb.nD Cert.DwInAb.τ).loc Cert.DwInAb.main_arg0) = m ((c.tc : Thread Cert.DwInAb.nD Cert.DwInAb.τ).loc Cert.DwInAb.main_arg0)
      ∧ r.2.mem ((c.tc : Thread Cert.DwInAb.nD Cert.DwInAb.τ).loc Cert.DwInAb.main_arg1) = m ((c.tc : Thread Cert.DwInAb.nD Cert.DwInAb.τ).loc Cert.DwInAb.main_arg1))
      ∧ r.2.sem = fun _ => 0)

def quiescent_DwInAbIdeal [hDwInAbIdeal : Cert.DwInAbIdeal.Facts] : Prop :=
  ∀ (m : (ℓ : Loc Cert.DwInAbIdeal.nD Cert.DwInAbIdeal.τ Cert.DwInAbIdeal.sig) → Buf (Elt Ideal) ℓ) (g : Dev Cert.DwInAbIdeal.nD → PrngReg), Pre_DwInAbIdeal m →
    θ_run (Cert.DwInAbIdeal.defs (F := Ideal)) (onTc (τ := Cert.DwInAbIdeal.τ) (Cert.DwInAbIdeal.main (F := Ideal))) ⟨m, fun _ => 0, g⟩ (fun r => (∀ c : Dev Cert.DwInAbIdeal.nD,
      r.2.mem ((c.tc : Thread Cert.DwInAbIdeal.nD Cert.DwInAbIdeal.τ).loc Cert.DwInAbIdeal.main_arg0) = m ((c.tc : Thread Cert.DwInAbIdeal.nD Cert.DwInAbIdeal.τ).loc Cert.DwInAbIdeal.main_arg0)
      ∧ r.2.mem ((c.tc : Thread Cert.DwInAbIdeal.nD Cert.DwInAbIdeal.τ).loc Cert.DwInAbIdeal.main_arg1) = m ((c.tc : Thread Cert.DwInAbIdeal.nD Cert.DwInAbIdeal.τ).loc Cert.DwInAbIdeal.main_arg1))
      ∧ r.2.sem = fun _ => 0)

def quiescent_DwInAbRefIdeal [hDwInAbRefIdeal : Cert.DwInAbRefIdeal.Facts] : Prop :=
  ∀ (m : (ℓ : Loc Cert.DwInAbRefIdeal.nD Cert.DwInAbRefIdeal.τ Cert.DwInAbRefIdeal.sig) → Buf (Elt Ideal) ℓ) (g : Dev Cert.DwInAbRefIdeal.nD → PrngReg), Pre_DwInAbRefIdeal m →
    θ_run (Cert.DwInAbRefIdeal.defs (F := Ideal)) (onTc (τ := Cert.DwInAbRefIdeal.τ) (Cert.DwInAbRefIdeal.main (F := Ideal))) ⟨m, fun _ => 0, g⟩ (fun r => (∀ c : Dev Cert.DwInAbRefIdeal.nD,
      r.2.mem ((c.tc : Thread Cert.DwInAbRefIdeal.nD Cert.DwInAbRefIdeal.τ).loc Cert.DwInAbRefIdeal.main_arg0) = m ((c.tc : Thread Cert.DwInAbRefIdeal.nD Cert.DwInAbRefIdeal.τ).loc Cert.DwInAbRefIdeal.main_arg0)
      ∧ r.2.mem ((c.tc : Thread Cert.DwInAbRefIdeal.nD Cert.DwInAbRefIdeal.τ).loc Cert.DwInAbRefIdeal.main_arg1) = m ((c.tc : Thread Cert.DwInAbRefIdeal.nD Cert.DwInAbRefIdeal.τ).loc Cert.DwInAbRefIdeal.main_arg1))
      ∧ r.2.sem = fun _ => 0)

def quiescent_DxSq [hDxSq : Cert.DxSq.Facts] : Prop :=
  ∀ (m : (ℓ : Loc Cert.DxSq.nD Cert.DxSq.τ Cert.DxSq.sig) → Buf (Elt Bits) ℓ) (g : Dev Cert.DxSq.nD → PrngReg), Pre_DxSq m →
    θ_run (Cert.DxSq.defs (F := Bits)) (onTc (τ := Cert.DxSq.τ) (Cert.DxSq.main (F := Bits))) ⟨m, fun _ => 0, g⟩ (fun r => (∀ c : Dev Cert.DxSq.nD,
      r.2.mem ((c.tc : Thread Cert.DxSq.nD Cert.DxSq.τ).loc Cert.DxSq.main_arg0) = m ((c.tc : Thread Cert.DxSq.nD Cert.DxSq.τ).loc Cert.DxSq.main_arg0)
      ∧ r.2.mem ((c.tc : Thread Cert.DxSq.nD Cert.DxSq.τ).loc Cert.DxSq.main_arg1) = m ((c.tc : Thread Cert.DxSq.nD Cert.DxSq.τ).loc Cert.DxSq.main_arg1))
      ∧ r.2.sem = fun _ => 0)

def quiescent_DxSqIdeal [hDxSqIdeal : Cert.DxSqIdeal.Facts] : Prop :=
  ∀ (m : (ℓ : Loc Cert.DxSqIdeal.nD Cert.DxSqIdeal.τ Cert.DxSqIdeal.sig) → Buf (Elt Ideal) ℓ) (g : Dev Cert.DxSqIdeal.nD → PrngReg), Pre_DxSqIdeal m →
    θ_run (Cert.DxSqIdeal.defs (F := Ideal)) (onTc (τ := Cert.DxSqIdeal.τ) (Cert.DxSqIdeal.main (F := Ideal))) ⟨m, fun _ => 0, g⟩ (fun r => (∀ c : Dev Cert.DxSqIdeal.nD,
      r.2.mem ((c.tc : Thread Cert.DxSqIdeal.nD Cert.DxSqIdeal.τ).loc Cert.DxSqIdeal.main_arg0) = m ((c.tc : Thread Cert.DxSqIdeal.nD Cert.DxSqIdeal.τ).loc Cert.DxSqIdeal.main_arg0)
      ∧ r.2.mem ((c.tc : Thread Cert.DxSqIdeal.nD Cert.DxSqIdeal.τ).loc Cert.DxSqIdeal.main_arg1) = m ((c.tc : Thread Cert.DxSqIdeal.nD Cert.DxSqIdeal.τ).loc Cert.DxSqIdeal.main_arg1))
      ∧ r.2.sem = fun _ => 0)

def quiescent_DxSqRefIdeal [hDxSqRefIdeal : Cert.DxSqRefIdeal.Facts] : Prop :=
  ∀ (m : (ℓ : Loc Cert.DxSqRefIdeal.nD Cert.DxSqRefIdeal.τ Cert.DxSqRefIdeal.sig) → Buf (Elt Ideal) ℓ) (g : Dev Cert.DxSqRefIdeal.nD → PrngReg), Pre_DxSqRefIdeal m →
    θ_run (Cert.DxSqRefIdeal.defs (F := Ideal)) (onTc (τ := Cert.DxSqRefIdeal.τ) (Cert.DxSqRefIdeal.main (F := Ideal))) ⟨m, fun _ => 0, g⟩ (fun r => (∀ c : Dev Cert.DxSqRefIdeal.nD,
      r.2.mem ((c.tc : Thread Cert.DxSqRefIdeal.nD Cert.DxSqRefIdeal.τ).loc Cert.DxSqRefIdeal.main_arg0) = m ((c.tc : Thread Cert.DxSqRefIdeal.nD Cert.DxSqRefIdeal.τ).loc Cert.DxSqRefIdeal.main_arg0)
      ∧ r.2.mem ((c.tc : Thread Cert.DxSqRefIdeal.nD Cert.DxSqRefIdeal.τ).loc Cert.DxSqRefIdeal.main_arg1) = m ((c.tc : Thread Cert.DxSqRefIdeal.nD Cert.DxSqRefIdeal.τ).loc Cert.DxSqRefIdeal.main_arg1))
      ∧ r.2.sem = fun _ => 0)

def quiescent_DXo [hDXo : Cert.DXo.Facts] : Prop :=
  ∀ (m : (ℓ : Loc Cert.DXo.nD Cert.DXo.τ Cert.DXo.sig) → Buf (Elt Bits) ℓ) (g : Dev Cert.DXo.nD → PrngReg), Pre_DXo m →
    θ_run (Cert.DXo.defs (F := Bits)) (onTc (τ := Cert.DXo.τ) (Cert.DXo.main (F := Bits))) ⟨m, fun _ => 0, g⟩ (fun r => (∀ c : Dev Cert.DXo.nD,
      r.2.mem ((c.tc : Thread Cert.DXo.nD Cert.DXo.τ).loc Cert.DXo.main_arg0) = m ((c.tc : Thread Cert.DXo.nD Cert.DXo.τ).loc Cert.DXo.main_arg0)
      ∧ r.2.mem ((c.tc : Thread Cert.DXo.nD Cert.DXo.τ).loc Cert.DXo.main_arg1) = m ((c.tc : Thread Cert.DXo.nD Cert.DXo.τ).loc Cert.DXo.main_arg1))
      ∧ r.2.sem = fun _ => 0)

def quiescent_DXoIdeal [hDXoIdeal : Cert.DXoIdeal.Facts] : Prop :=
  ∀ (m : (ℓ : Loc Cert.DXoIdeal.nD Cert.DXoIdeal.τ Cert.DXoIdeal.sig) → Buf (Elt Ideal) ℓ) (g : Dev Cert.DXoIdeal.nD → PrngReg), Pre_DXoIdeal m →
    θ_run (Cert.DXoIdeal.defs (F := Ideal)) (onTc (τ := Cert.DXoIdeal.τ) (Cert.DXoIdeal.main (F := Ideal))) ⟨m, fun _ => 0, g⟩ (fun r => (∀ c : Dev Cert.DXoIdeal.nD,
      r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
      ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ r.2.sem = fun _ => 0)

def quiescent_DXoRefIdeal [hDXoRefIdeal : Cert.DXoRefIdeal.Facts] : Prop :=
  ∀ (m : (ℓ : Loc Cert.DXoRefIdeal.nD Cert.DXoRefIdeal.τ Cert.DXoRefIdeal.sig) → Buf (Elt Ideal) ℓ) (g : Dev Cert.DXoRefIdeal.nD → PrngReg), Pre_DXoRefIdeal m →
    θ_run (Cert.DXoRefIdeal.defs (F := Ideal)) (onTc (τ := Cert.DXoRefIdeal.τ) (Cert.DXoRefIdeal.main (F := Ideal))) ⟨m, fun _ => 0, g⟩ (fun r => (∀ c : Dev Cert.DXoRefIdeal.nD,
      r.2.mem ((c.tc : Thread Cert.DXoRefIdeal.nD Cert.DXoRefIdeal.τ).loc Cert.DXoRefIdeal.main_arg0) = m ((c.tc : Thread Cert.DXoRefIdeal.nD Cert.DXoRefIdeal.τ).loc Cert.DXoRefIdeal.main_arg0)
      ∧ r.2.mem ((c.tc : Thread Cert.DXoRefIdeal.nD Cert.DXoRefIdeal.τ).loc Cert.DXoRefIdeal.main_arg1) = m ((c.tc : Thread Cert.DXoRefIdeal.nD Cert.DXoRefIdeal.τ).loc Cert.DXoRefIdeal.main_arg1))
      ∧ r.2.sem = fun _ => 0)

def quiescent_DMn [hDMn : Cert.DMn.Facts] : Prop :=
  ∀ (m : (ℓ : Loc Cert.DMn.nD Cert.DMn.τ Cert.DMn.sig) → Buf (Elt Bits) ℓ) (g : Dev Cert.DMn.nD → PrngReg), Pre_DMn m →
    θ_run (Cert.DMn.defs (F := Bits)) (onTc (τ := Cert.DMn.τ) (Cert.DMn.main (F := Bits))) ⟨m, fun _ => 0, g⟩ (fun r => (∀ c : Dev Cert.DMn.nD,
      r.2.mem ((c.tc : Thread Cert.DMn.nD Cert.DMn.τ).loc Cert.DMn.main_arg0) = m ((c.tc : Thread Cert.DMn.nD Cert.DMn.τ).loc Cert.DMn.main_arg0)
      ∧ r.2.mem ((c.tc : Thread Cert.DMn.nD Cert.DMn.τ).loc Cert.DMn.main_arg1) = m ((c.tc : Thread Cert.DMn.nD Cert.DMn.τ).loc Cert.DMn.main_arg1))
      ∧ r.2.sem = fun _ => 0)

def quiescent_DMnIdeal [hDMnIdeal : Cert.DMnIdeal.Facts] : Prop :=
  ∀ (m : (ℓ : Loc Cert.DMnIdeal.nD Cert.DMnIdeal.τ Cert.DMnIdeal.sig) → Buf (Elt Ideal) ℓ) (g : Dev Cert.DMnIdeal.nD → PrngReg), Pre_DMnIdeal m →
    θ_run (Cert.DMnIdeal.defs (F := Ideal)) (onTc (τ := Cert.DMnIdeal.τ) (Cert.DMnIdeal.main (F := Ideal))) ⟨m, fun _ => 0, g⟩ (fun r => (∀ c : Dev Cert.DMnIdeal.nD,
      r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
      ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1))
      ∧ r.2.sem = fun _ => 0)

def quiescent_DMnRefIdeal [hDMnRefIdeal : Cert.DMnRefIdeal.Facts] : Prop :=
  ∀ (m : (ℓ : Loc Cert.DMnRefIdeal.nD Cert.DMnRefIdeal.τ Cert.DMnRefIdeal.sig) → Buf (Elt Ideal) ℓ) (g : Dev Cert.DMnRefIdeal.nD → PrngReg), Pre_DMnRefIdeal m →
    θ_run (Cert.DMnRefIdeal.defs (F := Ideal)) (onTc (τ := Cert.DMnRefIdeal.τ) (Cert.DMnRefIdeal.main (F := Ideal))) ⟨m, fun _ => 0, g⟩ (fun r => (∀ c : Dev Cert.DMnRefIdeal.nD,
      r.2.mem ((c.tc : Thread Cert.DMnRefIdeal.nD Cert.DMnRefIdeal.τ).loc Cert.DMnRefIdeal.main_arg0) = m ((c.tc : Thread Cert.DMnRefIdeal.nD Cert.DMnRefIdeal.τ).loc Cert.DMnRefIdeal.main_arg0)
      ∧ r.2.mem ((c.tc : Thread Cert.DMnRefIdeal.nD Cert.DMnRefIdeal.τ).loc Cert.DMnRefIdeal.main_arg1) = m ((c.tc : Thread Cert.DMnRefIdeal.nD Cert.DMnRefIdeal.τ).loc Cert.DMnRefIdeal.main_arg1))
      ∧ r.2.sem = fun _ => 0)

def quiescent_DwXkv [hDwXkv : Cert.DwXkv.Facts] : Prop :=
  ∀ (m : (ℓ : Loc Cert.DwXkv.nD Cert.DwXkv.τ Cert.DwXkv.sig) → Buf (Elt Bits) ℓ) (g : Dev Cert.DwXkv.nD → PrngReg), Pre_DwXkv m →
    θ_run (Cert.DwXkv.defs (F := Bits)) (onTc (τ := Cert.DwXkv.τ) (Cert.DwXkv.main (F := Bits))) ⟨m, fun _ => 0, g⟩ (fun r => (∀ c : Dev Cert.DwXkv.nD,
      r.2.mem ((c.tc : Thread Cert.DwXkv.nD Cert.DwXkv.τ).loc Cert.DwXkv.main_arg0) = m ((c.tc : Thread Cert.DwXkv.nD Cert.DwXkv.τ).loc Cert.DwXkv.main_arg0)
      ∧ r.2.mem ((c.tc : Thread Cert.DwXkv.nD Cert.DwXkv.τ).loc Cert.DwXkv.main_arg1) = m ((c.tc : Thread Cert.DwXkv.nD Cert.DwXkv.τ).loc Cert.DwXkv.main_arg1))
      ∧ r.2.sem = fun _ => 0)

def quiescent_DwXkvIdeal [hDwXkvIdeal : Cert.DwXkvIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg), Pre_DwXkvIdeal m →
    θ_run (Cert.DwXkvIdeal.defs (F := Ideal)) (onTc (τ := Cert.DwXkvIdeal.τ) (Cert.DwXkvIdeal.main (F := Ideal))) ⟨m, fun _ => 0, g⟩ (fun r => (∀ c : Dev Cert.DwXkvIdeal.nD,
      r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
      ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ r.2.sem = fun _ => 0)

def quiescent_DwXkvRefIdeal [hDwXkvRefIdeal : Cert.DwXkvRefIdeal.Facts] : Prop :=
  ∀ (m : (ℓ : Loc Cert.DwXkvRefIdeal.nD Cert.DwXkvRefIdeal.τ Cert.DwXkvRefIdeal.sig) → Buf (Elt Ideal) ℓ) (g : Dev Cert.DwXkvRefIdeal.nD → PrngReg), Pre_DwXkvRefIdeal m →
    θ_run (Cert.DwXkvRefIdeal.defs (F := Ideal)) (onTc (τ := Cert.DwXkvRefIdeal.τ) (Cert.DwXkvRefIdeal.main (F := Ideal))) ⟨m, fun _ => 0, g⟩ (fun r => (∀ c : Dev Cert.DwXkvRefIdeal.nD,
      r.2.mem ((c.tc : Thread Cert.DwXkvRefIdeal.nD Cert.DwXkvRefIdeal.τ).loc Cert.DwXkvRefIdeal.main_arg0) = m ((c.tc : Thread Cert.DwXkvRefIdeal.nD Cert.DwXkvRefIdeal.τ).loc Cert.DwXkvRefIdeal.main_arg0)
      ∧ r.2.mem ((c.tc : Thread Cert.DwXkvRefIdeal.nD Cert.DwXkvRefIdeal.τ).loc Cert.DwXkvRefIdeal.main_arg1) = m ((c.tc : Thread Cert.DwXkvRefIdeal.nD Cert.DwXkvRefIdeal.τ).loc Cert.DwXkvRefIdeal.main_arg1))
      ∧ r.2.sem = fun _ => 0)

def quiescent_ProjQkv [hProjQkv : Cert.ProjQkv.Facts] : Prop :=
  ∀ (m : (ℓ : Loc Cert.ProjQkv.nD Cert.ProjQkv.τ Cert.ProjQkv.sig) → Buf (Elt Bits) ℓ) (g : Dev Cert.ProjQkv.nD → PrngReg), Pre_ProjQkv m →
    θ_run (Cert.ProjQkv.defs (F := Bits)) (onTc (τ := Cert.ProjQkv.τ) (Cert.ProjQkv.main (F := Bits))) ⟨m, fun _ => 0, g⟩ (fun r => (∀ c : Dev Cert.ProjQkv.nD,
      r.2.mem ((c.tc : Thread Cert.ProjQkv.nD Cert.ProjQkv.τ).loc Cert.ProjQkv.main_arg0) = m ((c.tc : Thread Cert.ProjQkv.nD Cert.ProjQkv.τ).loc Cert.ProjQkv.main_arg0)
      ∧ r.2.mem ((c.tc : Thread Cert.ProjQkv.nD Cert.ProjQkv.τ).loc Cert.ProjQkv.main_arg1) = m ((c.tc : Thread Cert.ProjQkv.nD Cert.ProjQkv.τ).loc Cert.ProjQkv.main_arg1))
      ∧ r.2.sem = fun _ => 0)

def quiescent_ProjQkvIdeal [hProjQkvIdeal : Cert.ProjQkvIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg), Pre_ProjQkvIdeal m →
    θ_run (Cert.ProjQkvIdeal.defs (F := Ideal)) (onTc (τ := Cert.ProjQkvIdeal.τ) (Cert.ProjQkvIdeal.main (F := Ideal))) ⟨m, fun _ => 0, g⟩ (fun r => (∀ c : Dev Cert.ProjQkvIdeal.nD,
      r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
      ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ r.2.sem = fun _ => 0)

def quiescent_ProjQkvRefIdeal [hProjQkvRefIdeal : Cert.ProjQkvRefIdeal.Facts] : Prop :=
  ∀ (m : (ℓ : Loc Cert.ProjQkvRefIdeal.nD Cert.ProjQkvRefIdeal.τ Cert.ProjQkvRefIdeal.sig) → Buf (Elt Ideal) ℓ) (g : Dev Cert.ProjQkvRefIdeal.nD → PrngReg), Pre_ProjQkvRefIdeal m →
    θ_run (Cert.ProjQkvRefIdeal.defs (F := Ideal)) (onTc (τ := Cert.ProjQkvRefIdeal.τ) (Cert.ProjQkvRefIdeal.main (F := Ideal))) ⟨m, fun _ => 0, g⟩ (fun r => (∀ c : Dev Cert.ProjQkvRefIdeal.nD,
      r.2.mem ((c.tc : Thread Cert.ProjQkvRefIdeal.nD Cert.ProjQkvRefIdeal.τ).loc Cert.ProjQkvRefIdeal.main_arg0) = m ((c.tc : Thread Cert.ProjQkvRefIdeal.nD Cert.ProjQkvRefIdeal.τ).loc Cert.ProjQkvRefIdeal.main_arg0)
      ∧ r.2.mem ((c.tc : Thread Cert.ProjQkvRefIdeal.nD Cert.ProjQkvRefIdeal.τ).loc Cert.ProjQkvRefIdeal.main_arg1) = m ((c.tc : Thread Cert.ProjQkvRefIdeal.nD Cert.ProjQkvRefIdeal.τ).loc Cert.ProjQkvRefIdeal.main_arg1))
      ∧ r.2.sem = fun _ => 0)

def quiescent_ProjGate [hProjGate : Cert.ProjGate.Facts] : Prop :=
  ∀ (m : (ℓ : Loc Cert.ProjGate.nD Cert.ProjGate.τ Cert.ProjGate.sig) → Buf (Elt Bits) ℓ) (g : Dev Cert.ProjGate.nD → PrngReg), Pre_ProjGate m →
    θ_run (Cert.ProjGate.defs (F := Bits)) (onTc (τ := Cert.ProjGate.τ) (Cert.ProjGate.main (F := Bits))) ⟨m, fun _ => 0, g⟩ (fun r => (∀ c : Dev Cert.ProjGate.nD,
      r.2.mem ((c.tc : Thread Cert.ProjGate.nD Cert.ProjGate.τ).loc Cert.ProjGate.main_arg0) = m ((c.tc : Thread Cert.ProjGate.nD Cert.ProjGate.τ).loc Cert.ProjGate.main_arg0)
      ∧ r.2.mem ((c.tc : Thread Cert.ProjGate.nD Cert.ProjGate.τ).loc Cert.ProjGate.main_arg1) = m ((c.tc : Thread Cert.ProjGate.nD Cert.ProjGate.τ).loc Cert.ProjGate.main_arg1))
      ∧ r.2.sem = fun _ => 0)

def quiescent_ProjGateIdeal [hProjGateIdeal : Cert.ProjGateIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg), Pre_ProjGateIdeal m →
    θ_run (Cert.ProjGateIdeal.defs (F := Ideal)) (onTc (τ := Cert.ProjGateIdeal.τ) (Cert.ProjGateIdeal.main (F := Ideal))) ⟨m, fun _ => 0, g⟩ (fun r => (∀ c : Dev Cert.ProjGateIdeal.nD,
      r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
      ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ r.2.sem = fun _ => 0)

def quiescent_ProjGateRefIdeal [hProjGateRefIdeal : Cert.ProjGateRefIdeal.Facts] : Prop :=
  ∀ (m : (ℓ : Loc Cert.ProjGateRefIdeal.nD Cert.ProjGateRefIdeal.τ Cert.ProjGateRefIdeal.sig) → Buf (Elt Ideal) ℓ) (g : Dev Cert.ProjGateRefIdeal.nD → PrngReg), Pre_ProjGateRefIdeal m →
    θ_run (Cert.ProjGateRefIdeal.defs (F := Ideal)) (onTc (τ := Cert.ProjGateRefIdeal.τ) (Cert.ProjGateRefIdeal.main (F := Ideal))) ⟨m, fun _ => 0, g⟩ (fun r => (∀ c : Dev Cert.ProjGateRefIdeal.nD,
      r.2.mem ((c.tc : Thread Cert.ProjGateRefIdeal.nD Cert.ProjGateRefIdeal.τ).loc Cert.ProjGateRefIdeal.main_arg0) = m ((c.tc : Thread Cert.ProjGateRefIdeal.nD Cert.ProjGateRefIdeal.τ).loc Cert.ProjGateRefIdeal.main_arg0)
      ∧ r.2.mem ((c.tc : Thread Cert.ProjGateRefIdeal.nD Cert.ProjGateRefIdeal.τ).loc Cert.ProjGateRefIdeal.main_arg1) = m ((c.tc : Thread Cert.ProjGateRefIdeal.nD Cert.ProjGateRefIdeal.τ).loc Cert.ProjGateRefIdeal.main_arg1))
      ∧ r.2.sem = fun _ => 0)

def quiescent_ProjZ [hProjZ : Cert.ProjZ.Facts] : Prop :=
  ∀ (m : (ℓ : Loc Cert.ProjZ.nD Cert.ProjZ.τ Cert.ProjZ.sig) → Buf (Elt Bits) ℓ) (g : Dev Cert.ProjZ.nD → PrngReg), Pre_ProjZ m →
    θ_run (Cert.ProjZ.defs (F := Bits)) (onTc (τ := Cert.ProjZ.τ) (Cert.ProjZ.main (F := Bits))) ⟨m, fun _ => 0, g⟩ (fun r => (∀ c : Dev Cert.ProjZ.nD,
      r.2.mem ((c.tc : Thread Cert.ProjZ.nD Cert.ProjZ.τ).loc Cert.ProjZ.main_arg0) = m ((c.tc : Thread Cert.ProjZ.nD Cert.ProjZ.τ).loc Cert.ProjZ.main_arg0)
      ∧ r.2.mem ((c.tc : Thread Cert.ProjZ.nD Cert.ProjZ.τ).loc Cert.ProjZ.main_arg1) = m ((c.tc : Thread Cert.ProjZ.nD Cert.ProjZ.τ).loc Cert.ProjZ.main_arg1))
      ∧ r.2.sem = fun _ => 0)

def quiescent_ProjZIdeal [hProjZIdeal : Cert.ProjZIdeal.Facts] : Prop :=
  ∀ (m : (ℓ : Loc Cert.ProjZIdeal.nD Cert.ProjZIdeal.τ Cert.ProjZIdeal.sig) → Buf (Elt Ideal) ℓ) (g : Dev Cert.ProjZIdeal.nD → PrngReg), Pre_ProjZIdeal m →
    θ_run (Cert.ProjZIdeal.defs (F := Ideal)) (onTc (τ := Cert.ProjZIdeal.τ) (Cert.ProjZIdeal.main (F := Ideal))) ⟨m, fun _ => 0, g⟩ (fun r => (∀ c : Dev Cert.ProjZIdeal.nD,
      r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
      ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ r.2.sem = fun _ => 0)

def quiescent_ProjZRefIdeal [hProjZRefIdeal : Cert.ProjZRefIdeal.Facts] : Prop :=
  ∀ (m : (ℓ : Loc Cert.ProjZRefIdeal.nD Cert.ProjZRefIdeal.τ Cert.ProjZRefIdeal.sig) → Buf (Elt Ideal) ℓ) (g : Dev Cert.ProjZRefIdeal.nD → PrngReg), Pre_ProjZRefIdeal m →
    θ_run (Cert.ProjZRefIdeal.defs (F := Ideal)) (onTc (τ := Cert.ProjZRefIdeal.τ) (Cert.ProjZRefIdeal.main (F := Ideal))) ⟨m, fun _ => 0, g⟩ (fun r => (∀ c : Dev Cert.ProjZRefIdeal.nD,
      r.2.mem ((c.tc : Thread Cert.ProjZRefIdeal.nD Cert.ProjZRefIdeal.τ).loc Cert.ProjZRefIdeal.main_arg0) = m ((c.tc : Thread Cert.ProjZRefIdeal.nD Cert.ProjZRefIdeal.τ).loc Cert.ProjZRefIdeal.main_arg0)
      ∧ r.2.mem ((c.tc : Thread Cert.ProjZRefIdeal.nD Cert.ProjZRefIdeal.τ).loc Cert.ProjZRefIdeal.main_arg1) = m ((c.tc : Thread Cert.ProjZRefIdeal.nD Cert.ProjZRefIdeal.τ).loc Cert.ProjZRefIdeal.main_arg1))
      ∧ r.2.sem = fun _ => 0)

def quiescent_ProjAb [hProjAb : Cert.ProjAb.Facts] : Prop :=
  ∀ (m : (ℓ : Loc Cert.ProjAb.nD Cert.ProjAb.τ Cert.ProjAb.sig) → Buf (Elt Bits) ℓ) (g : Dev Cert.ProjAb.nD → PrngReg), Pre_ProjAb m →
    θ_run (Cert.ProjAb.defs (F := Bits)) (onTc (τ := Cert.ProjAb.τ) (Cert.ProjAb.main (F := Bits))) ⟨m, fun _ => 0, g⟩ (fun r => (∀ c : Dev Cert.ProjAb.nD,
      r.2.mem ((c.tc : Thread Cert.ProjAb.nD Cert.ProjAb.τ).loc Cert.ProjAb.main_arg0) = m ((c.tc : Thread Cert.ProjAb.nD Cert.ProjAb.τ).loc Cert.ProjAb.main_arg0)
      ∧ r.2.mem ((c.tc : Thread Cert.ProjAb.nD Cert.ProjAb.τ).loc Cert.ProjAb.main_arg1) = m ((c.tc : Thread Cert.ProjAb.nD Cert.ProjAb.τ).loc Cert.ProjAb.main_arg1))
      ∧ r.2.sem = fun _ => 0)

def quiescent_ProjAbIdeal [hProjAbIdeal : Cert.ProjAbIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg), Pre_ProjAbIdeal m →
    θ_run (Cert.ProjAbIdeal.defs (F := Ideal)) (onTc (τ := Cert.ProjAbIdeal.τ) (Cert.ProjAbIdeal.main (F := Ideal))) ⟨m, fun _ => 0, g⟩ (fun r => (∀ c : Dev Cert.ProjAbIdeal.nD,
      r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
      ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ r.2.sem = fun _ => 0)

def quiescent_ProjAbRefIdeal [hProjAbRefIdeal : Cert.ProjAbRefIdeal.Facts] : Prop :=
  ∀ (m : (ℓ : Loc Cert.ProjAbRefIdeal.nD Cert.ProjAbRefIdeal.τ Cert.ProjAbRefIdeal.sig) → Buf (Elt Ideal) ℓ) (g : Dev Cert.ProjAbRefIdeal.nD → PrngReg), Pre_ProjAbRefIdeal m →
    θ_run (Cert.ProjAbRefIdeal.defs (F := Ideal)) (onTc (τ := Cert.ProjAbRefIdeal.τ) (Cert.ProjAbRefIdeal.main (F := Ideal))) ⟨m, fun _ => 0, g⟩ (fun r => (∀ c : Dev Cert.ProjAbRefIdeal.nD,
      r.2.mem ((c.tc : Thread Cert.ProjAbRefIdeal.nD Cert.ProjAbRefIdeal.τ).loc Cert.ProjAbRefIdeal.main_arg0) = m ((c.tc : Thread Cert.ProjAbRefIdeal.nD Cert.ProjAbRefIdeal.τ).loc Cert.ProjAbRefIdeal.main_arg0)
      ∧ r.2.mem ((c.tc : Thread Cert.ProjAbRefIdeal.nD Cert.ProjAbRefIdeal.τ).loc Cert.ProjAbRefIdeal.main_arg1) = m ((c.tc : Thread Cert.ProjAbRefIdeal.nD Cert.ProjAbRefIdeal.τ).loc Cert.ProjAbRefIdeal.main_arg1))
      ∧ r.2.sem = fun _ => 0)

def quiescent_XattnKv [hXattnKv : Cert.XattnKv.Facts] : Prop :=
  ∀ (m : (ℓ : Loc Cert.XattnKv.nD Cert.XattnKv.τ Cert.XattnKv.sig) → Buf (Elt Bits) ℓ) (g : Dev Cert.XattnKv.nD → PrngReg), Pre_XattnKv m →
    θ_run (Cert.XattnKv.defs (F := Bits)) (onTc (τ := Cert.XattnKv.τ) (Cert.XattnKv.main (F := Bits))) ⟨m, fun _ => 0, g⟩ (fun r => (∀ c : Dev Cert.XattnKv.nD,
      r.2.mem ((c.tc : Thread Cert.XattnKv.nD Cert.XattnKv.τ).loc Cert.XattnKv.main_arg0) = m ((c.tc : Thread Cert.XattnKv.nD Cert.XattnKv.τ).loc Cert.XattnKv.main_arg0)
      ∧ r.2.mem ((c.tc : Thread Cert.XattnKv.nD Cert.XattnKv.τ).loc Cert.XattnKv.main_arg1) = m ((c.tc : Thread Cert.XattnKv.nD Cert.XattnKv.τ).loc Cert.XattnKv.main_arg1))
      ∧ r.2.sem = fun _ => 0)

def quiescent_XattnKvIdeal [hXattnKvIdeal : Cert.XattnKvIdeal.Facts] : Prop :=
  ∀ (m : (ℓ : Loc Cert.XattnKvIdeal.nD Cert.XattnKvIdeal.τ Cert.XattnKvIdeal.sig) → Buf (Elt Ideal) ℓ) (g : Dev Cert.XattnKvIdeal.nD → PrngReg), Pre_XattnKvIdeal m →
    θ_run (Cert.XattnKvIdeal.defs (F := Ideal)) (onTc (τ := Cert.XattnKvIdeal.τ) (Cert.XattnKvIdeal.main (F := Ideal))) ⟨m, fun _ => 0, g⟩ (fun r => (∀ c : Dev Cert.XattnKvIdeal.nD,
      r.2.mem ((c.tc : Thread Cert.XattnKvIdeal.nD Cert.XattnKvIdeal.τ).loc Cert.XattnKvIdeal.main_arg0) = m ((c.tc : Thread Cert.XattnKvIdeal.nD Cert.XattnKvIdeal.τ).loc Cert.XattnKvIdeal.main_arg0)
      ∧ r.2.mem ((c.tc : Thread Cert.XattnKvIdeal.nD Cert.XattnKvIdeal.τ).loc Cert.XattnKvIdeal.main_arg1) = m ((c.tc : Thread Cert.XattnKvIdeal.nD Cert.XattnKvIdeal.τ).loc Cert.XattnKvIdeal.main_arg1))
      ∧ r.2.sem = fun _ => 0)

def quiescent_XattnKvRefIdeal [hXattnKvRefIdeal : Cert.XattnKvRefIdeal.Facts] : Prop :=
  ∀ (m : (ℓ : Loc Cert.XattnKvRefIdeal.nD Cert.XattnKvRefIdeal.τ Cert.XattnKvRefIdeal.sig) → Buf (Elt Ideal) ℓ) (g : Dev Cert.XattnKvRefIdeal.nD → PrngReg), Pre_XattnKvRefIdeal m →
    θ_run (Cert.XattnKvRefIdeal.defs (F := Ideal)) (onTc (τ := Cert.XattnKvRefIdeal.τ) (Cert.XattnKvRefIdeal.main (F := Ideal))) ⟨m, fun _ => 0, g⟩ (fun r => (∀ c : Dev Cert.XattnKvRefIdeal.nD,
      r.2.mem ((c.tc : Thread Cert.XattnKvRefIdeal.nD Cert.XattnKvRefIdeal.τ).loc Cert.XattnKvRefIdeal.main_arg0) = m ((c.tc : Thread Cert.XattnKvRefIdeal.nD Cert.XattnKvRefIdeal.τ).loc Cert.XattnKvRefIdeal.main_arg0)
      ∧ r.2.mem ((c.tc : Thread Cert.XattnKvRefIdeal.nD Cert.XattnKvRefIdeal.τ).loc Cert.XattnKvRefIdeal.main_arg1) = m ((c.tc : Thread Cert.XattnKvRefIdeal.nD Cert.XattnKvRefIdeal.τ).loc Cert.XattnKvRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_ProjSq [hProjSq : Cert.ProjSq.Facts] : Prop :=
  ∀ (m : (ℓ : Loc Cert.ProjSq.nD Cert.ProjSq.τ Cert.ProjSq.sig) → Buf (Elt Bits) ℓ) (g : Dev Cert.ProjSq.nD → PrngReg), Pre_ProjSq m →
    θ_run (Cert.ProjSq.defs (F := Bits)) (onTc (τ := Cert.ProjSq.τ) (Cert.ProjSq.main (F := Bits))) ⟨m, fun _ => 0, g⟩ (fun r => (∀ c : Dev Cert.ProjSq.nD,
      r.2.mem ((c.tc : Thread Cert.ProjSq.nD Cert.ProjSq.τ).loc Cert.ProjSq.main_arg0) = m ((c.tc : Thread Cert.ProjSq.nD Cert.ProjSq.τ).loc Cert.ProjSq.main_arg0)
      ∧ r.2.mem ((c.tc : Thread Cert.ProjSq.nD Cert.ProjSq.τ).loc Cert.ProjSq.main_arg1) = m ((c.tc : Thread Cert.ProjSq.nD Cert.ProjSq.τ).loc Cert.ProjSq.main_arg1))
      ∧ r.2.sem = fun _ => 0)

def quiescent_ProjSqIdeal [hProjSqIdeal : Cert.ProjSqIdeal.Facts] : Prop :=
  ∀ (m : (ℓ : Loc Cert.ProjSqIdeal.nD Cert.ProjSqIdeal.τ Cert.ProjSqIdeal.sig) → Buf (Elt Ideal) ℓ) (g : Dev Cert.ProjSqIdeal.nD → PrngReg), Pre_ProjSqIdeal m →
    θ_run (Cert.ProjSqIdeal.defs (F := Ideal)) (onTc (τ := Cert.ProjSqIdeal.τ) (Cert.ProjSqIdeal.main (F := Ideal))) ⟨m, fun _ => 0, g⟩ (fun r => (∀ c : Dev Cert.ProjSqIdeal.nD,
      r.2.mem ((c.tc : Thread Cert.ProjSqIdeal.nD Cert.ProjSqIdeal.τ).loc Cert.ProjSqIdeal.main_arg0) = m ((c.tc : Thread Cert.ProjSqIdeal.nD Cert.ProjSqIdeal.τ).loc Cert.ProjSqIdeal.main_arg0)
      ∧ r.2.mem ((c.tc : Thread Cert.ProjSqIdeal.nD Cert.ProjSqIdeal.τ).loc Cert.ProjSqIdeal.main_arg1) = m ((c.tc : Thread Cert.ProjSqIdeal.nD Cert.ProjSqIdeal.τ).loc Cert.ProjSqIdeal.main_arg1))
      ∧ r.2.sem = fun _ => 0)

def quiescent_ProjSqRefIdeal [hProjSqRefIdeal : Cert.ProjSqRefIdeal.Facts] : Prop :=
  ∀ (m : (ℓ : Loc Cert.ProjSqRefIdeal.nD Cert.ProjSqRefIdeal.τ Cert.ProjSqRefIdeal.sig) → Buf (Elt Ideal) ℓ) (g : Dev Cert.ProjSqRefIdeal.nD → PrngReg), Pre_ProjSqRefIdeal m →
    θ_run (Cert.ProjSqRefIdeal.defs (F := Ideal)) (onTc (τ := Cert.ProjSqRefIdeal.τ) (Cert.ProjSqRefIdeal.main (F := Ideal))) ⟨m, fun _ => 0, g⟩ (fun r => (∀ c : Dev Cert.ProjSqRefIdeal.nD,
      r.2.mem ((c.tc : Thread Cert.ProjSqRefIdeal.nD Cert.ProjSqRefIdeal.τ).loc Cert.ProjSqRefIdeal.main_arg0) = m ((c.tc : Thread Cert.ProjSqRefIdeal.nD Cert.ProjSqRefIdeal.τ).loc Cert.ProjSqRefIdeal.main_arg0)
      ∧ r.2.mem ((c.tc : Thread Cert.ProjSqRefIdeal.nD Cert.ProjSqRefIdeal.τ).loc Cert.ProjSqRefIdeal.main_arg1) = m ((c.tc : Thread Cert.ProjSqRefIdeal.nD Cert.ProjSqRefIdeal.τ).loc Cert.ProjSqRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3))
      ∧ r.2.sem = fun _ => 0)

def quiescent_LossDown [hLossDown : Cert.LossDown.Facts] : Prop :=
  ∀ (m : (ℓ : Loc Cert.LossDown.nD Cert.LossDown.τ Cert.LossDown.sig) → Buf (Elt Bits) ℓ) (g : Dev Cert.LossDown.nD → PrngReg), Pre_LossDown m →
    θ_run (Cert.LossDown.defs (F := Bits)) (onTc (τ := Cert.LossDown.τ) (Cert.LossDown.main (F := Bits))) ⟨m, fun _ => 0, g⟩ (fun r => (∀ c : Dev Cert.LossDown.nD,
      r.2.mem ((c.tc : Thread Cert.LossDown.nD Cert.LossDown.τ).loc Cert.LossDown.main_arg0) = m ((c.tc : Thread Cert.LossDown.nD Cert.LossDown.τ).loc Cert.LossDown.main_arg0)
      ∧ r.2.mem ((c.tc : Thread Cert.LossDown.nD Cert.LossDown.τ).loc Cert.LossDown.main_arg1) = m ((c.tc : Thread Cert.LossDown.nD Cert.LossDown.τ).loc Cert.LossDown.main_arg1)
      ∧ r.2.mem ((c.tc : Thread Cert.LossDown.nD Cert.LossDown.τ).loc Cert.LossDown.main_arg2) = m ((c.tc : Thread Cert.LossDown.nD Cert.LossDown.τ).loc Cert.LossDown.main_arg2)
      ∧ r.2.mem ((c.tc : Thread Cert.LossDown.nD Cert.LossDown.τ).loc Cert.LossDown.main_arg3) = m ((c.tc : Thread Cert.LossDown.nD Cert.LossDown.τ).loc Cert.LossDown.main_arg3))
      ∧ r.2.sem = fun _ => 0)

def quiescent_LossDownIdeal [hLossDownIdeal : Cert.LossDownIdeal.Facts] : Prop :=
  ∀ (m : (ℓ : Loc Cert.LossDownIdeal.nD Cert.LossDownIdeal.τ Cert.LossDownIdeal.sig) → Buf (Elt Ideal) ℓ) (g : Dev Cert.LossDownIdeal.nD → PrngReg), Pre_LossDownIdeal m →
    θ_run (Cert.LossDownIdeal.defs (F := Ideal)) (onTc (τ := Cert.LossDownIdeal.τ) (Cert.LossDownIdeal.main (F := Ideal))) ⟨m, fun _ => 0, g⟩ (fun r => (∀ c : Dev Cert.LossDownIdeal.nD,
      r.2.mem ((c.tc : Thread Cert.LossDownIdeal.nD Cert.LossDownIdeal.τ).loc Cert.LossDownIdeal.main_arg0) = m ((c.tc : Thread Cert.LossDownIdeal.nD Cert.LossDownIdeal.τ).loc Cert.LossDownIdeal.main_arg0)
      ∧ r.2.mem ((c.tc : Thread Cert.LossDownIdeal.nD Cert.LossDownIdeal.τ).loc Cert.LossDownIdeal.main_arg1) = m ((c.tc : Thread Cert.LossDownIdeal.nD Cert.LossDownIdeal.τ).loc Cert.LossDownIdeal.main_arg1)
      ∧ r.2.mem ((c.tc : Thread Cert.LossDownIdeal.nD Cert.LossDownIdeal.τ).loc Cert.LossDownIdeal.main_arg2) = m ((c.tc : Thread Cert.LossDownIdeal.nD Cert.LossDownIdeal.τ).loc Cert.LossDownIdeal.main_arg2)
      ∧ r.2.mem ((c.tc : Thread Cert.LossDownIdeal.nD Cert.LossDownIdeal.τ).loc Cert.LossDownIdeal.main_arg3) = m ((c.tc : Thread Cert.LossDownIdeal.nD Cert.LossDownIdeal.τ).loc Cert.LossDownIdeal.main_arg3))
      ∧ r.2.sem = fun _ => 0)

def quiescent_LossDownRefIdeal [hLossDownRefIdeal : Cert.LossDownRefIdeal.Facts] : Prop :=
  ∀ (m : (ℓ : Loc Cert.LossDownRefIdeal.nD Cert.LossDownRefIdeal.τ Cert.LossDownRefIdeal.sig) → Buf (Elt Ideal) ℓ) (g : Dev Cert.LossDownRefIdeal.nD → PrngReg), Pre_LossDownRefIdeal m →
    θ_run (Cert.LossDownRefIdeal.defs (F := Ideal)) (onTc (τ := Cert.LossDownRefIdeal.τ) (Cert.LossDownRefIdeal.main (F := Ideal))) ⟨m, fun _ => 0, g⟩ (fun r => (∀ c : Dev Cert.LossDownRefIdeal.nD,
      r.2.mem ((c.tc : Thread Cert.LossDownRefIdeal.nD Cert.LossDownRefIdeal.τ).loc Cert.LossDownRefIdeal.main_arg0) = m ((c.tc : Thread Cert.LossDownRefIdeal.nD Cert.LossDownRefIdeal.τ).loc Cert.LossDownRefIdeal.main_arg0)
      ∧ r.2.mem ((c.tc : Thread Cert.LossDownRefIdeal.nD Cert.LossDownRefIdeal.τ).loc Cert.LossDownRefIdeal.main_arg1) = m ((c.tc : Thread Cert.LossDownRefIdeal.nD Cert.LossDownRefIdeal.τ).loc Cert.LossDownRefIdeal.main_arg1)
      ∧ r.2.mem ((c.tc : Thread Cert.LossDownRefIdeal.nD Cert.LossDownRefIdeal.τ).loc Cert.LossDownRefIdeal.main_arg2) = m ((c.tc : Thread Cert.LossDownRefIdeal.nD Cert.LossDownRefIdeal.τ).loc Cert.LossDownRefIdeal.main_arg2)
      ∧ r.2.mem ((c.tc : Thread Cert.LossDownRefIdeal.nD Cert.LossDownRefIdeal.τ).loc Cert.LossDownRefIdeal.main_arg3) = m ((c.tc : Thread Cert.LossDownRefIdeal.nD Cert.LossDownRefIdeal.τ).loc Cert.LossDownRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ r.2.sem = fun _ => 0)

def quiescent_NormMixBwdRefIdeal [hNormMixBwdRefIdeal : Cert.NormMixBwdRefIdeal.Facts] : Prop :=
  ∀ (m : (ℓ : Loc Cert.NormMixBwdRefIdeal.nD Cert.NormMixBwdRefIdeal.τ Cert.NormMixBwdRefIdeal.sig) → Buf (Elt Ideal) ℓ) (g : Dev Cert.NormMixBwdRefIdeal.nD → PrngReg), Pre_NormMixBwdRefIdeal m →
    θ_run (Cert.NormMixBwdRefIdeal.defs (F := Ideal)) (onTc (τ := Cert.NormMixBwdRefIdeal.τ) (Cert.NormMixBwdRefIdeal.main (F := Ideal))) ⟨m, fun _ => 0, g⟩ (fun r => (∀ c : Dev Cert.NormMixBwdRefIdeal.nD,
      r.2.mem ((c.tc : Thread Cert.NormMixBwdRefIdeal.nD Cert.NormMixBwdRefIdeal.τ).loc Cert.NormMixBwdRefIdeal.main_arg0) = m ((c.tc : Thread Cert.NormMixBwdRefIdeal.nD Cert.NormMixBwdRefIdeal.τ).loc Cert.NormMixBwdRefIdeal.main_arg0)
      ∧ r.2.mem ((c.tc : Thread Cert.NormMixBwdRefIdeal.nD Cert.NormMixBwdRefIdeal.τ).loc Cert.NormMixBwdRefIdeal.main_arg1) = m ((c.tc : Thread Cert.NormMixBwdRefIdeal.nD Cert.NormMixBwdRefIdeal.τ).loc Cert.NormMixBwdRefIdeal.main_arg1)
      ∧ r.2.mem ((c.tc : Thread Cert.NormMixBwdRefIdeal.nD Cert.NormMixBwdRefIdeal.τ).loc Cert.NormMixBwdRefIdeal.main_arg2) = m ((c.tc : Thread Cert.NormMixBwdRefIdeal.nD Cert.NormMixBwdRefIdeal.τ).loc Cert.NormMixBwdRefIdeal.main_arg2)
      ∧ r.2.mem ((c.tc : Thread Cert.NormMixBwdRefIdeal.nD Cert.NormMixBwdRefIdeal.τ).loc Cert.NormMixBwdRefIdeal.main_arg3) = m ((c.tc : Thread Cert.NormMixBwdRefIdeal.nD Cert.NormMixBwdRefIdeal.τ).loc Cert.NormMixBwdRefIdeal.main_arg3))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixRefIdeal [hNormMixRefIdeal : Cert.NormMixRefIdeal.Facts] : Prop :=
  ∀ (m : (ℓ : Loc Cert.NormMixRefIdeal.nD Cert.NormMixRefIdeal.τ Cert.NormMixRefIdeal.sig) → Buf (Elt Ideal) ℓ) (g : Dev Cert.NormMixRefIdeal.nD → PrngReg), Pre_NormMixRefIdeal m →
    θ_run (Cert.NormMixRefIdeal.defs (F := Ideal)) (onTc (τ := Cert.NormMixRefIdeal.τ) (Cert.NormMixRefIdeal.main (F := Ideal))) ⟨m, fun _ => 0, g⟩ (fun r => (∀ c : Dev Cert.NormMixRefIdeal.nD,
      r.2.mem ((c.tc : Thread Cert.NormMixRefIdeal.nD Cert.NormMixRefIdeal.τ).loc Cert.NormMixRefIdeal.main_arg0) = m ((c.tc : Thread Cert.NormMixRefIdeal.nD Cert.NormMixRefIdeal.τ).loc Cert.NormMixRefIdeal.main_arg0)
      ∧ r.2.mem ((c.tc : Thread Cert.NormMixRefIdeal.nD Cert.NormMixRefIdeal.τ).loc Cert.NormMixRefIdeal.main_arg1) = m ((c.tc : Thread Cert.NormMixRefIdeal.nD Cert.NormMixRefIdeal.τ).loc Cert.NormMixRefIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemRefIdeal [hNormMemRefIdeal : Cert.NormMemRefIdeal.Facts] : Prop :=
  ∀ (m : (ℓ : Loc Cert.NormMemRefIdeal.nD Cert.NormMemRefIdeal.τ Cert.NormMemRefIdeal.sig) → Buf (Elt Ideal) ℓ) (g : Dev Cert.NormMemRefIdeal.nD → PrngReg), Pre_NormMemRefIdeal m →
    θ_run (Cert.NormMemRefIdeal.defs (F := Ideal)) (onTc (τ := Cert.NormMemRefIdeal.τ) (Cert.NormMemRefIdeal.main (F := Ideal))) ⟨m, fun _ => 0, g⟩ (fun r => (∀ c : Dev Cert.NormMemRefIdeal.nD,
      r.2.mem ((c.tc : Thread Cert.NormMemRefIdeal.nD Cert.NormMemRefIdeal.τ).loc Cert.NormMemRefIdeal.main_arg0) = m ((c.tc : Thread Cert.NormMemRefIdeal.nD Cert.NormMemRefIdeal.τ).loc Cert.NormMemRefIdeal.main_arg0)
      ∧ r.2.mem ((c.tc : Thread Cert.NormMemRefIdeal.nD Cert.NormMemRefIdeal.τ).loc Cert.NormMemRefIdeal.main_arg1) = m ((c.tc : Thread Cert.NormMemRefIdeal.nD Cert.NormMemRefIdeal.τ).loc Cert.NormMemRefIdeal.main_arg1))
      ∧ r.2.sem = fun _ => 0)

def quiescent_XattnFwd [hXattnFwd : Cert.XattnFwd.Facts] : Prop :=
  ∀ (m : (ℓ : Loc Cert.XattnFwd.nD Cert.XattnFwd.τ Cert.XattnFwd.sig) → Buf (Elt Bits) ℓ) (g : Dev Cert.XattnFwd.nD → PrngReg), Pre_XattnFwd m →
    θ_run (Cert.XattnFwd.defs (F := Bits)) (onTc (τ := Cert.XattnFwd.τ) (Cert.XattnFwd.main (F := Bits))) ⟨m, fun _ => 0, g⟩ (fun r => (∀ c : Dev Cert.XattnFwd.nD,
      r.2.mem ((c.tc : Thread Cert.XattnFwd.nD Cert.XattnFwd.τ).loc Cert.XattnFwd.main_arg0) = m ((c.tc : Thread Cert.XattnFwd.nD Cert.XattnFwd.τ).loc Cert.XattnFwd.main_arg0)
      ∧ r.2.mem ((c.tc : Thread Cert.XattnFwd.nD Cert.XattnFwd.τ).loc Cert.XattnFwd.main_arg1) = m ((c.tc : Thread Cert.XattnFwd.nD Cert.XattnFwd.τ).loc Cert.XattnFwd.main_arg1)
      ∧ r.2.mem ((c.tc : Thread Cert.XattnFwd.nD Cert.XattnFwd.τ).loc Cert.XattnFwd.main_arg2) = m ((c.tc : Thread Cert.XattnFwd.nD Cert.XattnFwd.τ).loc Cert.XattnFwd.main_arg2)
      ∧ r.2.mem ((c.tc : Thread Cert.XattnFwd.nD Cert.XattnFwd.τ).loc Cert.XattnFwd.main_arg3) = m ((c.tc : Thread Cert.XattnFwd.nD Cert.XattnFwd.τ).loc Cert.XattnFwd.main_arg3))
      ∧ r.2.sem = fun _ => 0)

def quiescent_XattnFwdIdeal [hXattnFwdIdeal : Cert.XattnFwdIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg), Pre_XattnFwdIdeal m →
    θ_run (Cert.XattnFwdIdeal.defs (F := Ideal)) (onTc (τ := Cert.XattnFwdIdeal.τ) (Cert.XattnFwdIdeal.main (F := Ideal))) ⟨m, fun _ => 0, g⟩ (fun r => (∀ c : Dev Cert.XattnFwdIdeal.nD,
      r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
      ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
      ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
      ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ r.2.sem = fun _ => 0)

def quiescent_XattnFwdRefIdeal [hXattnFwdRefIdeal : Cert.XattnFwdRefIdeal.Facts] : Prop :=
  ∀ (m : (ℓ : Loc Cert.XattnFwdRefIdeal.nD Cert.XattnFwdRefIdeal.τ Cert.XattnFwdRefIdeal.sig) → Buf (Elt Ideal) ℓ) (g : Dev Cert.XattnFwdRefIdeal.nD → PrngReg), Pre_XattnFwdRefIdeal m →
    θ_run (Cert.XattnFwdRefIdeal.defs (F := Ideal)) (onTc (τ := Cert.XattnFwdRefIdeal.τ) (Cert.XattnFwdRefIdeal.main (F := Ideal))) ⟨m, fun _ => 0, g⟩ (fun r => (∀ c : Dev Cert.XattnFwdRefIdeal.nD,
      r.2.mem ((c.tc : Thread Cert.XattnFwdRefIdeal.nD Cert.XattnFwdRefIdeal.τ).loc Cert.XattnFwdRefIdeal.main_arg0) = m ((c.tc : Thread Cert.XattnFwdRefIdeal.nD Cert.XattnFwdRefIdeal.τ).loc Cert.XattnFwdRefIdeal.main_arg0)
      ∧ r.2.mem ((c.tc : Thread Cert.XattnFwdRefIdeal.nD Cert.XattnFwdRefIdeal.τ).loc Cert.XattnFwdRefIdeal.main_arg1) = m ((c.tc : Thread Cert.XattnFwdRefIdeal.nD Cert.XattnFwdRefIdeal.τ).loc Cert.XattnFwdRefIdeal.main_arg1)
      ∧ r.2.mem ((c.tc : Thread Cert.XattnFwdRefIdeal.nD Cert.XattnFwdRefIdeal.τ).loc Cert.XattnFwdRefIdeal.main_arg2) = m ((c.tc : Thread Cert.XattnFwdRefIdeal.nD Cert.XattnFwdRefIdeal.τ).loc Cert.XattnFwdRefIdeal.main_arg2)
      ∧ r.2.mem ((c.tc : Thread Cert.XattnFwdRefIdeal.nD Cert.XattnFwdRefIdeal.τ).loc Cert.XattnFwdRefIdeal.main_arg3) = m ((c.tc : Thread Cert.XattnFwdRefIdeal.nD Cert.XattnFwdRefIdeal.τ).loc Cert.XattnFwdRefIdeal.main_arg3))
      ∧ r.2.sem = fun _ => 0)

def quiescent_FfnConv [hFfnConv : Cert.FfnConv.Facts] : Prop :=
  ∀ (m : (ℓ : Loc Cert.FfnConv.nD Cert.FfnConv.τ Cert.FfnConv.sig) → Buf (Elt Bits) ℓ) (g : Dev Cert.FfnConv.nD → PrngReg), Pre_FfnConv m →
    θ_run (Cert.FfnConv.defs (F := Bits)) (onTc (τ := Cert.FfnConv.τ) (Cert.FfnConv.main (F := Bits))) ⟨m, fun _ => 0, g⟩ (fun r => (∀ c : Dev Cert.FfnConv.nD,
      r.2.mem ((c.tc : Thread Cert.FfnConv.nD Cert.FfnConv.τ).loc Cert.FfnConv.main_arg0) = m ((c.tc : Thread Cert.FfnConv.nD Cert.FfnConv.τ).loc Cert.FfnConv.main_arg0)
      ∧ r.2.mem ((c.tc : Thread Cert.FfnConv.nD Cert.FfnConv.τ).loc Cert.FfnConv.main_arg1) = m ((c.tc : Thread Cert.FfnConv.nD Cert.FfnConv.τ).loc Cert.FfnConv.main_arg1))
      ∧ r.2.sem = fun _ => 0)

def quiescent_FfnConvIdeal [hFfnConvIdeal : Cert.FfnConvIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg), Pre_FfnConvIdeal m →
    θ_run (Cert.FfnConvIdeal.defs (F := Ideal)) (onTc (τ := Cert.FfnConvIdeal.τ) (Cert.FfnConvIdeal.main (F := Ideal))) ⟨m, fun _ => 0, g⟩ (fun r => (∀ c : Dev Cert.FfnConvIdeal.nD,
      r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
      ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1))
      ∧ r.2.sem = fun _ => 0)

def quiescent_FfnConvRefIdeal [hFfnConvRefIdeal : Cert.FfnConvRefIdeal.Facts] : Prop :=
  ∀ (m : (ℓ : Loc Cert.FfnConvRefIdeal.nD Cert.FfnConvRefIdeal.τ Cert.FfnConvRefIdeal.sig) → Buf (Elt Ideal) ℓ) (g : Dev Cert.FfnConvRefIdeal.nD → PrngReg), Pre_FfnConvRefIdeal m →
    θ_run (Cert.FfnConvRefIdeal.defs (F := Ideal)) (onTc (τ := Cert.FfnConvRefIdeal.τ) (Cert.FfnConvRefIdeal.main (F := Ideal))) ⟨m, fun _ => 0, g⟩ (fun r => (∀ c : Dev Cert.FfnConvRefIdeal.nD,
      r.2.mem ((c.tc : Thread Cert.FfnConvRefIdeal.nD Cert.FfnConvRefIdeal.τ).loc Cert.FfnConvRefIdeal.main_arg0) = m ((c.tc : Thread Cert.FfnConvRefIdeal.nD Cert.FfnConvRefIdeal.τ).loc Cert.FfnConvRefIdeal.main_arg0)
      ∧ r.2.mem ((c.tc : Thread Cert.FfnConvRefIdeal.nD Cert.FfnConvRefIdeal.τ).loc Cert.FfnConvRefIdeal.main_arg1) = m ((c.tc : Thread Cert.FfnConvRefIdeal.nD Cert.FfnConvRefIdeal.τ).loc Cert.FfnConvRefIdeal.main_arg1))
      ∧ r.2.sem = fun _ => 0)

def quiescent_SibEarly [hSibEarly : Cert.SibEarly.Facts] : Prop :=
  ∀ (m : (ℓ : Loc Cert.SibEarly.nD Cert.SibEarly.τ Cert.SibEarly.sig) → Buf (Elt Bits) ℓ) (g : Dev Cert.SibEarly.nD → PrngReg), Pre_SibEarly m →
    θ_run (Cert.SibEarly.defs (F := Bits)) (onTc (τ := Cert.SibEarly.τ) (Cert.SibEarly.main (F := Bits))) ⟨m, fun _ => 0, g⟩ (fun r => (∀ c : Dev Cert.SibEarly.nD,
      r.2.mem ((c.tc : Thread Cert.SibEarly.nD Cert.SibEarly.τ).loc Cert.SibEarly.main_arg0) = m ((c.tc : Thread Cert.SibEarly.nD Cert.SibEarly.τ).loc Cert.SibEarly.main_arg0))
      ∧ r.2.sem = fun _ => 0)

def quiescent_SibEarlyIdeal [hSibEarlyIdeal : Cert.SibEarlyIdeal.Facts] : Prop :=
  ∀ (m : (ℓ : Loc Cert.SibEarlyIdeal.nD Cert.SibEarlyIdeal.τ Cert.SibEarlyIdeal.sig) → Buf (Elt Ideal) ℓ) (g : Dev Cert.SibEarlyIdeal.nD → PrngReg), Pre_SibEarlyIdeal m →
    θ_run (Cert.SibEarlyIdeal.defs (F := Ideal)) (onTc (τ := Cert.SibEarlyIdeal.τ) (Cert.SibEarlyIdeal.main (F := Ideal))) ⟨m, fun _ => 0, g⟩ (fun r => (∀ c : Dev Cert.SibEarlyIdeal.nD,
      r.2.mem ((c.tc : Thread Cert.SibEarlyIdeal.nD Cert.SibEarlyIdeal.τ).loc Cert.SibEarlyIdeal.main_arg0) = m ((c.tc : Thread Cert.SibEarlyIdeal.nD Cert.SibEarlyIdeal.τ).loc Cert.SibEarlyIdeal.main_arg0))
      ∧ r.2.sem = fun _ => 0)

def quiescent_SibEarlyRefIdeal [hSibEarlyRefIdeal : Cert.SibEarlyRefIdeal.Facts] : Prop :=
  ∀ (m : (ℓ : Loc Cert.SibEarlyRefIdeal.nD Cert.SibEarlyRefIdeal.τ Cert.SibEarlyRefIdeal.sig) → Buf (Elt Ideal) ℓ) (g : Dev Cert.SibEarlyRefIdeal.nD → PrngReg), Pre_SibEarlyRefIdeal m →
    θ_run (Cert.SibEarlyRefIdeal.defs (F := Ideal)) (onTc (τ := Cert.SibEarlyRefIdeal.τ) (Cert.SibEarlyRefIdeal.main (F := Ideal))) ⟨m, fun _ => 0, g⟩ (fun r => (∀ c : Dev Cert.SibEarlyRefIdeal.nD,
      r.2.mem ((c.tc : Thread Cert.SibEarlyRefIdeal.nD Cert.SibEarlyRefIdeal.τ).loc Cert.SibEarlyRefIdeal.main_arg0) = m ((c.tc : Thread Cert.SibEarlyRefIdeal.nD Cert.SibEarlyRefIdeal.τ).loc Cert.SibEarlyRefIdeal.main_arg0))
      ∧ r.2.sem = fun _ => 0)

def quiescent_SibLate [hSibLate : Cert.SibLate.Facts] : Prop :=
  ∀ (m : (ℓ : Loc Cert.SibLate.nD Cert.SibLate.τ Cert.SibLate.sig) → Buf (Elt Bits) ℓ) (g : Dev Cert.SibLate.nD → PrngReg), Pre_SibLate m →
    θ_run (Cert.SibLate.defs (F := Bits)) (onTc (τ := Cert.SibLate.τ) (Cert.SibLate.main (F := Bits))) ⟨m, fun _ => 0, g⟩ (fun r => (∀ c : Dev Cert.SibLate.nD,
      r.2.mem ((c.tc : Thread Cert.SibLate.nD Cert.SibLate.τ).loc Cert.SibLate.main_arg0) = m ((c.tc : Thread Cert.SibLate.nD Cert.SibLate.τ).loc Cert.SibLate.main_arg0))
      ∧ r.2.sem = fun _ => 0)

def quiescent_SibLateIdeal [hSibLateIdeal : Cert.SibLateIdeal.Facts] : Prop :=
  ∀ (m : (ℓ : Loc Cert.SibLateIdeal.nD Cert.SibLateIdeal.τ Cert.SibLateIdeal.sig) → Buf (Elt Ideal) ℓ) (g : Dev Cert.SibLateIdeal.nD → PrngReg), Pre_SibLateIdeal m →
    θ_run (Cert.SibLateIdeal.defs (F := Ideal)) (onTc (τ := Cert.SibLateIdeal.τ) (Cert.SibLateIdeal.main (F := Ideal))) ⟨m, fun _ => 0, g⟩ (fun r => (∀ c : Dev Cert.SibLateIdeal.nD,
      r.2.mem ((c.tc : Thread Cert.SibLateIdeal.nD Cert.SibLateIdeal.τ).loc Cert.SibLateIdeal.main_arg0) = m ((c.tc : Thread Cert.SibLateIdeal.nD Cert.SibLateIdeal.τ).loc Cert.SibLateIdeal.main_arg0))
      ∧ r.2.sem = fun _ => 0)

def quiescent_SibLateRefIdeal [hSibLateRefIdeal : Cert.SibLateRefIdeal.Facts] : Prop :=
  ∀ (m : (ℓ : Loc Cert.SibLateRefIdeal.nD Cert.SibLateRefIdeal.τ Cert.SibLateRefIdeal.sig) → Buf (Elt Ideal) ℓ) (g : Dev Cert.SibLateRefIdeal.nD → PrngReg), Pre_SibLateRefIdeal m →
    θ_run (Cert.SibLateRefIdeal.defs (F := Ideal)) (onTc (τ := Cert.SibLateRefIdeal.τ) (Cert.SibLateRefIdeal.main (F := Ideal))) ⟨m, fun _ => 0, g⟩ (fun r => (∀ c : Dev Cert.SibLateRefIdeal.nD,
      r.2.mem ((c.tc : Thread Cert.SibLateRefIdeal.nD Cert.SibLateRefIdeal.τ).loc Cert.SibLateRefIdeal.main_arg0) = m ((c.tc : Thread Cert.SibLateRefIdeal.nD Cert.SibLateRefIdeal.τ).loc Cert.SibLateRefIdeal.main_arg0))
      ∧ r.2.sem = fun _ => 0)

def quiescent_DXn [hDXn : Cert.DXn.Facts] : Prop :=
  ∀ (m : (ℓ : Loc Cert.DXn.nD Cert.DXn.τ Cert.DXn.sig) → Buf (Elt Bits) ℓ) (g : Dev Cert.DXn.nD → PrngReg), Pre_DXn m →
    θ_run (Cert.DXn.defs (F := Bits)) (onTc (τ := Cert.DXn.τ) (Cert.DXn.main (F := Bits))) ⟨m, fun _ => 0, g⟩ (fun r => (∀ c : Dev Cert.DXn.nD,
      r.2.mem ((c.tc : Thread Cert.DXn.nD Cert.DXn.τ).loc Cert.DXn.main_arg0) = m ((c.tc : Thread Cert.DXn.nD Cert.DXn.τ).loc Cert.DXn.main_arg0)
      ∧ r.2.mem ((c.tc : Thread Cert.DXn.nD Cert.DXn.τ).loc Cert.DXn.main_arg1) = m ((c.tc : Thread Cert.DXn.nD Cert.DXn.τ).loc Cert.DXn.main_arg1)
      ∧ r.2.mem ((c.tc : Thread Cert.DXn.nD Cert.DXn.τ).loc Cert.DXn.main_arg2) = m ((c.tc : Thread Cert.DXn.nD Cert.DXn.τ).loc Cert.DXn.main_arg2)
      ∧ r.2.mem ((c.tc : Thread Cert.DXn.nD Cert.DXn.τ).loc Cert.DXn.main_arg3) = m ((c.tc : Thread Cert.DXn.nD Cert.DXn.τ).loc Cert.DXn.main_arg3)
      ∧ r.2.mem ((c.tc : Thread Cert.DXn.nD Cert.DXn.τ).loc Cert.DXn.main_arg4) = m ((c.tc : Thread Cert.DXn.nD Cert.DXn.τ).loc Cert.DXn.main_arg4)
      ∧ r.2.mem ((c.tc : Thread Cert.DXn.nD Cert.DXn.τ).loc Cert.DXn.main_arg5) = m ((c.tc : Thread Cert.DXn.nD Cert.DXn.τ).loc Cert.DXn.main_arg5)
      ∧ r.2.mem ((c.tc : Thread Cert.DXn.nD Cert.DXn.τ).loc Cert.DXn.main_arg6) = m ((c.tc : Thread Cert.DXn.nD Cert.DXn.τ).loc Cert.DXn.main_arg6)
      ∧ r.2.mem ((c.tc : Thread Cert.DXn.nD Cert.DXn.τ).loc Cert.DXn.main_arg7) = m ((c.tc : Thread Cert.DXn.nD Cert.DXn.τ).loc Cert.DXn.main_arg7)
      ∧ r.2.mem ((c.tc : Thread Cert.DXn.nD Cert.DXn.τ).loc Cert.DXn.main_arg8) = m ((c.tc : Thread Cert.DXn.nD Cert.DXn.τ).loc Cert.DXn.main_arg8)
      ∧ r.2.mem ((c.tc : Thread Cert.DXn.nD Cert.DXn.τ).loc Cert.DXn.main_arg9) = m ((c.tc : Thread Cert.DXn.nD Cert.DXn.τ).loc Cert.DXn.main_arg9)
      ∧ r.2.mem ((c.tc : Thread Cert.DXn.nD Cert.DXn.τ).loc Cert.DXn.main_arg10) = m ((c.tc : Thread Cert.DXn.nD Cert.DXn.τ).loc Cert.DXn.main_arg10)
      ∧ r.2.mem ((c.tc : Thread Cert.DXn.nD Cert.DXn.τ).loc Cert.DXn.main_arg11) = m ((c.tc : Thread Cert.DXn.nD Cert.DXn.τ).loc Cert.DXn.main_arg11)
      ∧ r.2.mem ((c.tc : Thread Cert.DXn.nD Cert.DXn.τ).loc Cert.DXn.main_arg12) = m ((c.tc : Thread Cert.DXn.nD Cert.DXn.τ).loc Cert.DXn.main_arg12)
      ∧ r.2.mem ((c.tc : Thread Cert.DXn.nD Cert.DXn.τ).loc Cert.DXn.main_arg13) = m ((c.tc : Thread Cert.DXn.nD Cert.DXn.τ).loc Cert.DXn.main_arg13)
      ∧ r.2.mem ((c.tc : Thread Cert.DXn.nD Cert.DXn.τ).loc Cert.DXn.main_arg14) = m ((c.tc : Thread Cert.DXn.nD Cert.DXn.τ).loc Cert.DXn.main_arg14))
      ∧ r.2.sem = fun _ => 0)

def quiescent_DXnIdeal [hDXnIdeal : Cert.DXnIdeal.Facts] : Prop :=
  ∀ (m : (ℓ : Loc Cert.DXnIdeal.nD Cert.DXnIdeal.τ Cert.DXnIdeal.sig) → Buf (Elt Ideal) ℓ) (g : Dev Cert.DXnIdeal.nD → PrngReg), Pre_DXnIdeal m →
    θ_run (Cert.DXnIdeal.defs (F := Ideal)) (onTc (τ := Cert.DXnIdeal.τ) (Cert.DXnIdeal.main (F := Ideal))) ⟨m, fun _ => 0, g⟩ (fun r => (∀ c : Dev Cert.DXnIdeal.nD,
      r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
      ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1)
      ∧ r.2.mem ((c.tc : Thread Cert.DXnIdeal.nD Cert.DXnIdeal.τ).loc Cert.DXnIdeal.main_arg2) = m ((c.tc : Thread Cert.DXnIdeal.nD Cert.DXnIdeal.τ).loc Cert.DXnIdeal.main_arg2)
      ∧ r.2.mem ((c.tc : Thread Cert.DXnIdeal.nD Cert.DXnIdeal.τ).loc Cert.DXnIdeal.main_arg3) = m ((c.tc : Thread Cert.DXnIdeal.nD Cert.DXnIdeal.τ).loc Cert.DXnIdeal.main_arg3)
      ∧ r.2.mem ((c.tc : Thread Cert.DXnIdeal.nD Cert.DXnIdeal.τ).loc Cert.DXnIdeal.main_arg4) = m ((c.tc : Thread Cert.DXnIdeal.nD Cert.DXnIdeal.τ).loc Cert.DXnIdeal.main_arg4)
      ∧ r.2.mem ((c.tc : Thread Cert.DXnIdeal.nD Cert.DXnIdeal.τ).loc Cert.DXnIdeal.main_arg5) = m ((c.tc : Thread Cert.DXnIdeal.nD Cert.DXnIdeal.τ).loc Cert.DXnIdeal.main_arg5)
      ∧ r.2.mem ((c.tc : Thread Cert.DXnIdeal.nD Cert.DXnIdeal.τ).loc Cert.DXnIdeal.main_arg6) = m ((c.tc : Thread Cert.DXnIdeal.nD Cert.DXnIdeal.τ).loc Cert.DXnIdeal.main_arg6)
      ∧ r.2.mem ((c.tc : Thread Cert.DXnIdeal.nD Cert.DXnIdeal.τ).loc Cert.DXnIdeal.main_arg7) = m ((c.tc : Thread Cert.DXnIdeal.nD Cert.DXnIdeal.τ).loc Cert.DXnIdeal.main_arg7)
      ∧ r.2.mem ((c.tc : Thread Cert.DXnIdeal.nD Cert.DXnIdeal.τ).loc Cert.DXnIdeal.main_arg8) = m ((c.tc : Thread Cert.DXnIdeal.nD Cert.DXnIdeal.τ).loc Cert.DXnIdeal.main_arg8)
      ∧ r.2.mem ((c.tc : Thread Cert.DXnIdeal.nD Cert.DXnIdeal.τ).loc Cert.DXnIdeal.main_arg9) = m ((c.tc : Thread Cert.DXnIdeal.nD Cert.DXnIdeal.τ).loc Cert.DXnIdeal.main_arg9)
      ∧ r.2.mem ((c.tc : Thread Cert.DXnIdeal.nD Cert.DXnIdeal.τ).loc Cert.DXnIdeal.main_arg10) = m ((c.tc : Thread Cert.DXnIdeal.nD Cert.DXnIdeal.τ).loc Cert.DXnIdeal.main_arg10)
      ∧ r.2.mem ((c.tc : Thread Cert.DXnIdeal.nD Cert.DXnIdeal.τ).loc Cert.DXnIdeal.main_arg11) = m ((c.tc : Thread Cert.DXnIdeal.nD Cert.DXnIdeal.τ).loc Cert.DXnIdeal.main_arg11)
      ∧ r.2.mem ((c.tc : Thread Cert.DXnIdeal.nD Cert.DXnIdeal.τ).loc Cert.DXnIdeal.main_arg12) = m ((c.tc : Thread Cert.DXnIdeal.nD Cert.DXnIdeal.τ).loc Cert.DXnIdeal.main_arg12)
      ∧ r.2.mem ((c.tc : Thread Cert.DXnIdeal.nD Cert.DXnIdeal.τ).loc Cert.DXnIdeal.main_arg13) = m ((c.tc : Thread Cert.DXnIdeal.nD Cert.DXnIdeal.τ).loc Cert.DXnIdeal.main_arg13)
      ∧ r.2.mem ((c.tc : Thread Cert.DXnIdeal.nD Cert.DXnIdeal.τ).loc Cert.DXnIdeal.main_arg14) = m ((c.tc : Thread Cert.DXnIdeal.nD Cert.DXnIdeal.τ).loc Cert.DXnIdeal.main_arg14))
      ∧ r.2.sem = fun _ => 0)

def quiescent_DXnRefIdeal [hDXnRefIdeal : Cert.DXnRefIdeal.Facts] : Prop :=
  ∀ (m : (ℓ : Loc Cert.DXnRefIdeal.nD Cert.DXnRefIdeal.τ Cert.DXnRefIdeal.sig) → Buf (Elt Ideal) ℓ) (g : Dev Cert.DXnRefIdeal.nD → PrngReg), Pre_DXnRefIdeal m →
    θ_run (Cert.DXnRefIdeal.defs (F := Ideal)) (onTc (τ := Cert.DXnRefIdeal.τ) (Cert.DXnRefIdeal.main (F := Ideal))) ⟨m, fun _ => 0, g⟩ (fun r => (∀ c : Dev Cert.DXnRefIdeal.nD,
      r.2.mem ((c.tc : Thread Cert.DXnRefIdeal.nD Cert.DXnRefIdeal.τ).loc Cert.DXnRefIdeal.main_arg0) = m ((c.tc : Thread Cert.DXnRefIdeal.nD Cert.DXnRefIdeal.τ).loc Cert.DXnRefIdeal.main_arg0)
      ∧ r.2.mem ((c.tc : Thread Cert.DXnRefIdeal.nD Cert.DXnRefIdeal.τ).loc Cert.DXnRefIdeal.main_arg1) = m ((c.tc : Thread Cert.DXnRefIdeal.nD Cert.DXnRefIdeal.τ).loc Cert.DXnRefIdeal.main_arg1)
      ∧ r.2.mem ((c.tc : Thread Cert.DXnRefIdeal.nD Cert.DXnRefIdeal.τ).loc Cert.DXnRefIdeal.main_arg2) = m ((c.tc : Thread Cert.DXnRefIdeal.nD Cert.DXnRefIdeal.τ).loc Cert.DXnRefIdeal.main_arg2)
      ∧ r.2.mem ((c.tc : Thread Cert.DXnRefIdeal.nD Cert.DXnRefIdeal.τ).loc Cert.DXnRefIdeal.main_arg3) = m ((c.tc : Thread Cert.DXnRefIdeal.nD Cert.DXnRefIdeal.τ).loc Cert.DXnRefIdeal.main_arg3)
      ∧ r.2.mem ((c.tc : Thread Cert.DXnRefIdeal.nD Cert.DXnRefIdeal.τ).loc Cert.DXnRefIdeal.main_arg4) = m ((c.tc : Thread Cert.DXnRefIdeal.nD Cert.DXnRefIdeal.τ).loc Cert.DXnRefIdeal.main_arg4)
      ∧ r.2.mem ((c.tc : Thread Cert.DXnRefIdeal.nD Cert.DXnRefIdeal.τ).loc Cert.DXnRefIdeal.main_arg5) = m ((c.tc : Thread Cert.DXnRefIdeal.nD Cert.DXnRefIdeal.τ).loc Cert.DXnRefIdeal.main_arg5)
      ∧ r.2.mem ((c.tc : Thread Cert.DXnRefIdeal.nD Cert.DXnRefIdeal.τ).loc Cert.DXnRefIdeal.main_arg6) = m ((c.tc : Thread Cert.DXnRefIdeal.nD Cert.DXnRefIdeal.τ).loc Cert.DXnRefIdeal.main_arg6)
      ∧ r.2.mem ((c.tc : Thread Cert.DXnRefIdeal.nD Cert.DXnRefIdeal.τ).loc Cert.DXnRefIdeal.main_arg7) = m ((c.tc : Thread Cert.DXnRefIdeal.nD Cert.DXnRefIdeal.τ).loc Cert.DXnRefIdeal.main_arg7)
      ∧ r.2.mem ((c.tc : Thread Cert.DXnRefIdeal.nD Cert.DXnRefIdeal.τ).loc Cert.DXnRefIdeal.main_arg8) = m ((c.tc : Thread Cert.DXnRefIdeal.nD Cert.DXnRefIdeal.τ).loc Cert.DXnRefIdeal.main_arg8)
      ∧ r.2.mem ((c.tc : Thread Cert.DXnRefIdeal.nD Cert.DXnRefIdeal.τ).loc Cert.DXnRefIdeal.main_arg9) = m ((c.tc : Thread Cert.DXnRefIdeal.nD Cert.DXnRefIdeal.τ).loc Cert.DXnRefIdeal.main_arg9)
      ∧ r.2.mem ((c.tc : Thread Cert.DXnRefIdeal.nD Cert.DXnRefIdeal.τ).loc Cert.DXnRefIdeal.main_arg10) = m ((c.tc : Thread Cert.DXnRefIdeal.nD Cert.DXnRefIdeal.τ).loc Cert.DXnRefIdeal.main_arg10)
      ∧ r.2.mem ((c.tc : Thread Cert.DXnRefIdeal.nD Cert.DXnRefIdeal.τ).loc Cert.DXnRefIdeal.main_arg11) = m ((c.tc : Thread Cert.DXnRefIdeal.nD Cert.DXnRefIdeal.τ).loc Cert.DXnRefIdeal.main_arg11)
      ∧ r.2.mem ((c.tc : Thread Cert.DXnRefIdeal.nD Cert.DXnRefIdeal.τ).loc Cert.DXnRefIdeal.main_arg12) = m ((c.tc : Thread Cert.DXnRefIdeal.nD Cert.DXnRefIdeal.τ).loc Cert.DXnRefIdeal.main_arg12)
      ∧ r.2.mem ((c.tc : Thread Cert.DXnRefIdeal.nD Cert.DXnRefIdeal.τ).loc Cert.DXnRefIdeal.main_arg13) = m ((c.tc : Thread Cert.DXnRefIdeal.nD Cert.DXnRefIdeal.τ).loc Cert.DXnRefIdeal.main_arg13)
      ∧ r.2.mem ((c.tc : Thread Cert.DXnRefIdeal.nD Cert.DXnRefIdeal.τ).loc Cert.DXnRefIdeal.main_arg14) = m ((c.tc : Thread Cert.DXnRefIdeal.nD Cert.DXnRefIdeal.τ).loc Cert.DXnRefIdeal.main_arg14))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_v121) = v1 c
          ∧ r.2.mem ((c.tc : Thread Cert.ReferenceIdeal.nD Cert.ReferenceIdeal.τ).loc Cert.ReferenceIdeal.main_v144) = v2 c
          ∧ r.2.mem ((c.tc : Thread Cert.ReferenceIdeal.nD Cert.ReferenceIdeal.τ).loc Cert.ReferenceIdeal.main_v143) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DAct_DActIdeal : Prop :=
  True

def algebraic_DActIdeal_DActRefIdeal [hDActIdeal : Cert.DActIdeal.Facts] [hDActRefIdeal : Cert.DActRefIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActRefIdeal.nD Cert.DActRefIdeal.τ Cert.DActRefIdeal.sig) → Buf (Elt Ideal) ℓ) (g' : Dev Cert.DActRefIdeal.nD → PrngReg), Pre_DActIdeal m →
    (∀ c : Dev Cert.DActIdeal.nD,
      m' ((c.tc : Thread Cert.DActRefIdeal.nD Cert.DActRefIdeal.τ).loc Cert.DActRefIdeal.main_arg0) = m ((c.tc : Thread Cert.DActIdeal.nD Cert.DActIdeal.τ).loc Cert.DActIdeal.main_arg0)
      ∧ m' ((c.tc : Thread Cert.DActRefIdeal.nD Cert.DActRefIdeal.τ).loc Cert.DActRefIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActRefIdeal.defs (F := Ideal)) (onTc (τ := Cert.DActRefIdeal.τ) (Cert.DActRefIdeal.main (F := Ideal))) ⟨m', fun _ => 0, g'⟩ (fun r => ∀ c : Dev Cert.DActRefIdeal.nD,
          r.2.mem ((c.tc : Thread Cert.DActRefIdeal.nD Cert.DActRefIdeal.τ).loc Cert.DActRefIdeal.main_v4) = v0 c
          ∧ r.2.mem ((c.tc : Thread Cert.DActRefIdeal.nD Cert.DActRefIdeal.τ).loc Cert.DActRefIdeal.main_arg0) = m' ((c.tc : Thread Cert.DActRefIdeal.nD Cert.DActRefIdeal.τ).loc Cert.DActRefIdeal.main_arg0)
          ∧ r.2.mem ((c.tc : Thread Cert.DActRefIdeal.nD Cert.DActRefIdeal.τ).loc Cert.DActRefIdeal.main_arg1) = m' ((c.tc : Thread Cert.DActRefIdeal.nD Cert.DActRefIdeal.τ).loc Cert.DActRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v5) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1))

def preserves_DHn_DHnIdeal : Prop :=
  True

def algebraic_DHnIdeal_DHnRefIdeal [hDHnIdeal : Cert.DHnIdeal.Facts] [hDHnRefIdeal : Cert.DHnRefIdeal.Facts] : Prop :=
  ∀ (m : (ℓ : Loc Cert.DHnIdeal.nD Cert.DHnIdeal.τ Cert.DHnIdeal.sig) → Buf (Elt Ideal) ℓ) (g : Dev Cert.DHnIdeal.nD → PrngReg)
    (m' : (ℓ : Loc Cert.DHnRefIdeal.nD Cert.DHnRefIdeal.τ Cert.DHnRefIdeal.sig) → Buf (Elt Ideal) ℓ) (g' : Dev Cert.DHnRefIdeal.nD → PrngReg), Pre_DHnIdeal m →
    (∀ c : Dev Cert.DHnIdeal.nD,
      m' ((c.tc : Thread Cert.DHnRefIdeal.nD Cert.DHnRefIdeal.τ).loc Cert.DHnRefIdeal.main_arg0) = m ((c.tc : Thread Cert.DHnIdeal.nD Cert.DHnIdeal.τ).loc Cert.DHnIdeal.main_arg0)
      ∧ m' ((c.tc : Thread Cert.DHnRefIdeal.nD Cert.DHnRefIdeal.τ).loc Cert.DHnRefIdeal.main_arg1) = m ((c.tc : Thread Cert.DHnIdeal.nD Cert.DHnIdeal.τ).loc Cert.DHnIdeal.main_arg1)) →
    ∃ (v0 : (c : Dev Cert.DHnIdeal.nD) → Buf (Elt Ideal) ((c.tc : Thread Cert.DHnIdeal.nD Cert.DHnIdeal.τ).loc Cert.DHnIdeal.main_v0)),
      θ_run (Cert.DHnIdeal.defs (F := Ideal)) (onTc (τ := Cert.DHnIdeal.τ) (Cert.DHnIdeal.main (F := Ideal))) ⟨m, fun _ => 0, g⟩ (fun r => ∀ c : Dev Cert.DHnIdeal.nD,
          r.2.mem ((c.tc : Thread Cert.DHnIdeal.nD Cert.DHnIdeal.τ).loc Cert.DHnIdeal.main_v0) = v0 c
          ∧ r.2.mem ((c.tc : Thread Cert.DHnIdeal.nD Cert.DHnIdeal.τ).loc Cert.DHnIdeal.main_arg0) = m ((c.tc : Thread Cert.DHnIdeal.nD Cert.DHnIdeal.τ).loc Cert.DHnIdeal.main_arg0)
          ∧ r.2.mem ((c.tc : Thread Cert.DHnIdeal.nD Cert.DHnIdeal.τ).loc Cert.DHnIdeal.main_arg1) = m ((c.tc : Thread Cert.DHnIdeal.nD Cert.DHnIdeal.τ).loc Cert.DHnIdeal.main_arg1))
      ∧ θ_run (Cert.DHnRefIdeal.defs (F := Ideal)) (onTc (τ := Cert.DHnRefIdeal.τ) (Cert.DHnRefIdeal.main (F := Ideal))) ⟨m', fun _ => 0, g'⟩ (fun r => ∀ c : Dev Cert.DHnRefIdeal.nD,
          r.2.mem ((c.tc : Thread Cert.DHnRefIdeal.nD Cert.DHnRefIdeal.τ).loc Cert.DHnRefIdeal.main_v5) = v0 c
          ∧ r.2.mem ((c.tc : Thread Cert.DHnRefIdeal.nD Cert.DHnRefIdeal.τ).loc Cert.DHnRefIdeal.main_arg0) = m' ((c.tc : Thread Cert.DHnRefIdeal.nD Cert.DHnRefIdeal.τ).loc Cert.DHnRefIdeal.main_arg0)
          ∧ r.2.mem ((c.tc : Thread Cert.DHnRefIdeal.nD Cert.DHnRefIdeal.τ).loc Cert.DHnRefIdeal.main_arg1) = m' ((c.tc : Thread Cert.DHnRefIdeal.nD Cert.DHnRefIdeal.τ).loc Cert.DHnRefIdeal.main_arg1))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v0)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v0) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v7) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_DwSq_DwSqIdeal : Prop :=
  True

def algebraic_DwSqIdeal_DwSqRefIdeal [hDwSqIdeal : Cert.DwSqIdeal.Facts] [hDwSqRefIdeal : Cert.DwSqRefIdeal.Facts] : Prop :=
  ∀ (m : (ℓ : Loc Cert.DwSqIdeal.nD Cert.DwSqIdeal.τ Cert.DwSqIdeal.sig) → Buf (Elt Ideal) ℓ) (g : Dev Cert.DwSqIdeal.nD → PrngReg)
    (m' : (ℓ : Loc Cert.DwSqRefIdeal.nD Cert.DwSqRefIdeal.τ Cert.DwSqRefIdeal.sig) → Buf (Elt Ideal) ℓ) (g' : Dev Cert.DwSqRefIdeal.nD → PrngReg), Pre_DwSqIdeal m →
    (∀ c : Dev Cert.DwSqIdeal.nD,
      m' ((c.tc : Thread Cert.DwSqRefIdeal.nD Cert.DwSqRefIdeal.τ).loc Cert.DwSqRefIdeal.main_arg0) = m ((c.tc : Thread Cert.DwSqIdeal.nD Cert.DwSqIdeal.τ).loc Cert.DwSqIdeal.main_arg0)
      ∧ m' ((c.tc : Thread Cert.DwSqRefIdeal.nD Cert.DwSqRefIdeal.τ).loc Cert.DwSqRefIdeal.main_arg1) = m ((c.tc : Thread Cert.DwSqIdeal.nD Cert.DwSqIdeal.τ).loc Cert.DwSqIdeal.main_arg1)) →
    ∃ (v0 : (c : Dev Cert.DwSqIdeal.nD) → Buf (Elt Ideal) ((c.tc : Thread Cert.DwSqIdeal.nD Cert.DwSqIdeal.τ).loc Cert.DwSqIdeal.main_v0)),
      θ_run (Cert.DwSqIdeal.defs (F := Ideal)) (onTc (τ := Cert.DwSqIdeal.τ) (Cert.DwSqIdeal.main (F := Ideal))) ⟨m, fun _ => 0, g⟩ (fun r => ∀ c : Dev Cert.DwSqIdeal.nD,
          r.2.mem ((c.tc : Thread Cert.DwSqIdeal.nD Cert.DwSqIdeal.τ).loc Cert.DwSqIdeal.main_v0) = v0 c
          ∧ r.2.mem ((c.tc : Thread Cert.DwSqIdeal.nD Cert.DwSqIdeal.τ).loc Cert.DwSqIdeal.main_arg0) = m ((c.tc : Thread Cert.DwSqIdeal.nD Cert.DwSqIdeal.τ).loc Cert.DwSqIdeal.main_arg0)
          ∧ r.2.mem ((c.tc : Thread Cert.DwSqIdeal.nD Cert.DwSqIdeal.τ).loc Cert.DwSqIdeal.main_arg1) = m ((c.tc : Thread Cert.DwSqIdeal.nD Cert.DwSqIdeal.τ).loc Cert.DwSqIdeal.main_arg1))
      ∧ θ_run (Cert.DwSqRefIdeal.defs (F := Ideal)) (onTc (τ := Cert.DwSqRefIdeal.τ) (Cert.DwSqRefIdeal.main (F := Ideal))) ⟨m', fun _ => 0, g'⟩ (fun r => ∀ c : Dev Cert.DwSqRefIdeal.nD,
          r.2.mem ((c.tc : Thread Cert.DwSqRefIdeal.nD Cert.DwSqRefIdeal.τ).loc Cert.DwSqRefIdeal.main_v5) = v0 c
          ∧ r.2.mem ((c.tc : Thread Cert.DwSqRefIdeal.nD Cert.DwSqRefIdeal.τ).loc Cert.DwSqRefIdeal.main_arg0) = m' ((c.tc : Thread Cert.DwSqRefIdeal.nD Cert.DwSqRefIdeal.τ).loc Cert.DwSqRefIdeal.main_arg0)
          ∧ r.2.mem ((c.tc : Thread Cert.DwSqRefIdeal.nD Cert.DwSqRefIdeal.τ).loc Cert.DwSqRefIdeal.main_arg1) = m' ((c.tc : Thread Cert.DwSqRefIdeal.nD Cert.DwSqRefIdeal.τ).loc Cert.DwSqRefIdeal.main_arg1))

def preserves_DwInSq_DwInSqIdeal : Prop :=
  True

def algebraic_DwInSqIdeal_DwInSqRefIdeal [hDwInSqIdeal : Cert.DwInSqIdeal.Facts] [hDwInSqRefIdeal : Cert.DwInSqRefIdeal.Facts] : Prop :=
  ∀ (m : (ℓ : Loc Cert.DwInSqIdeal.nD Cert.DwInSqIdeal.τ Cert.DwInSqIdeal.sig) → Buf (Elt Ideal) ℓ) (g : Dev Cert.DwInSqIdeal.nD → PrngReg)
    (m' : (ℓ : Loc Cert.DwInSqRefIdeal.nD Cert.DwInSqRefIdeal.τ Cert.DwInSqRefIdeal.sig) → Buf (Elt Ideal) ℓ) (g' : Dev Cert.DwInSqRefIdeal.nD → PrngReg), Pre_DwInSqIdeal m →
    (∀ c : Dev Cert.DwInSqIdeal.nD,
      m' ((c.tc : Thread Cert.DwInSqRefIdeal.nD Cert.DwInSqRefIdeal.τ).loc Cert.DwInSqRefIdeal.main_arg0) = m ((c.tc : Thread Cert.DwInSqIdeal.nD Cert.DwInSqIdeal.τ).loc Cert.DwInSqIdeal.main_arg0)
      ∧ m' ((c.tc : Thread Cert.DwInSqRefIdeal.nD Cert.DwInSqRefIdeal.τ).loc Cert.DwInSqRefIdeal.main_arg1) = m ((c.tc : Thread Cert.DwInSqIdeal.nD Cert.DwInSqIdeal.τ).loc Cert.DwInSqIdeal.main_arg1)) →
    ∃ (v0 : (c : Dev Cert.DwInSqIdeal.nD) → Buf (Elt Ideal) ((c.tc : Thread Cert.DwInSqIdeal.nD Cert.DwInSqIdeal.τ).loc Cert.DwInSqIdeal.main_v0)),
      θ_run (Cert.DwInSqIdeal.defs (F := Ideal)) (onTc (τ := Cert.DwInSqIdeal.τ) (Cert.DwInSqIdeal.main (F := Ideal))) ⟨m, fun _ => 0, g⟩ (fun r => ∀ c : Dev Cert.DwInSqIdeal.nD,
          r.2.mem ((c.tc : Thread Cert.DwInSqIdeal.nD Cert.DwInSqIdeal.τ).loc Cert.DwInSqIdeal.main_v0) = v0 c
          ∧ r.2.mem ((c.tc : Thread Cert.DwInSqIdeal.nD Cert.DwInSqIdeal.τ).loc Cert.DwInSqIdeal.main_arg0) = m ((c.tc : Thread Cert.DwInSqIdeal.nD Cert.DwInSqIdeal.τ).loc Cert.DwInSqIdeal.main_arg0)
          ∧ r.2.mem ((c.tc : Thread Cert.DwInSqIdeal.nD Cert.DwInSqIdeal.τ).loc Cert.DwInSqIdeal.main_arg1) = m ((c.tc : Thread Cert.DwInSqIdeal.nD Cert.DwInSqIdeal.τ).loc Cert.DwInSqIdeal.main_arg1))
      ∧ θ_run (Cert.DwInSqRefIdeal.defs (F := Ideal)) (onTc (τ := Cert.DwInSqRefIdeal.τ) (Cert.DwInSqRefIdeal.main (F := Ideal))) ⟨m', fun _ => 0, g'⟩ (fun r => ∀ c : Dev Cert.DwInSqRefIdeal.nD,
          r.2.mem ((c.tc : Thread Cert.DwInSqRefIdeal.nD Cert.DwInSqRefIdeal.τ).loc Cert.DwInSqRefIdeal.main_v7) = v0 c
          ∧ r.2.mem ((c.tc : Thread Cert.DwInSqRefIdeal.nD Cert.DwInSqRefIdeal.τ).loc Cert.DwInSqRefIdeal.main_arg0) = m' ((c.tc : Thread Cert.DwInSqRefIdeal.nD Cert.DwInSqRefIdeal.τ).loc Cert.DwInSqRefIdeal.main_arg0)
          ∧ r.2.mem ((c.tc : Thread Cert.DwInSqRefIdeal.nD Cert.DwInSqRefIdeal.τ).loc Cert.DwInSqRefIdeal.main_arg1) = m' ((c.tc : Thread Cert.DwInSqRefIdeal.nD Cert.DwInSqRefIdeal.τ).loc Cert.DwInSqRefIdeal.main_arg1))

def preserves_DwInQkv_DwInQkvIdeal : Prop :=
  True

def algebraic_DwInQkvIdeal_DwInQkvRefIdeal [hDwInQkvIdeal : Cert.DwInQkvIdeal.Facts] [hDwInQkvRefIdeal : Cert.DwInQkvRefIdeal.Facts] : Prop :=
  ∀ (m : (ℓ : Loc Cert.DwInQkvIdeal.nD Cert.DwInQkvIdeal.τ Cert.DwInQkvIdeal.sig) → Buf (Elt Ideal) ℓ) (g : Dev Cert.DwInQkvIdeal.nD → PrngReg)
    (m' : (ℓ : Loc Cert.DwInQkvRefIdeal.nD Cert.DwInQkvRefIdeal.τ Cert.DwInQkvRefIdeal.sig) → Buf (Elt Ideal) ℓ) (g' : Dev Cert.DwInQkvRefIdeal.nD → PrngReg), Pre_DwInQkvIdeal m →
    (∀ c : Dev Cert.DwInQkvIdeal.nD,
      m' ((c.tc : Thread Cert.DwInQkvRefIdeal.nD Cert.DwInQkvRefIdeal.τ).loc Cert.DwInQkvRefIdeal.main_arg0) = m ((c.tc : Thread Cert.DwInQkvIdeal.nD Cert.DwInQkvIdeal.τ).loc Cert.DwInQkvIdeal.main_arg0)
      ∧ m' ((c.tc : Thread Cert.DwInQkvRefIdeal.nD Cert.DwInQkvRefIdeal.τ).loc Cert.DwInQkvRefIdeal.main_arg1) = m ((c.tc : Thread Cert.DwInQkvIdeal.nD Cert.DwInQkvIdeal.τ).loc Cert.DwInQkvIdeal.main_arg1)) →
    ∃ (v0 : (c : Dev Cert.DwInQkvIdeal.nD) → Buf (Elt Ideal) ((c.tc : Thread Cert.DwInQkvIdeal.nD Cert.DwInQkvIdeal.τ).loc Cert.DwInQkvIdeal.main_v0)),
      θ_run (Cert.DwInQkvIdeal.defs (F := Ideal)) (onTc (τ := Cert.DwInQkvIdeal.τ) (Cert.DwInQkvIdeal.main (F := Ideal))) ⟨m, fun _ => 0, g⟩ (fun r => ∀ c : Dev Cert.DwInQkvIdeal.nD,
          r.2.mem ((c.tc : Thread Cert.DwInQkvIdeal.nD Cert.DwInQkvIdeal.τ).loc Cert.DwInQkvIdeal.main_v0) = v0 c
          ∧ r.2.mem ((c.tc : Thread Cert.DwInQkvIdeal.nD Cert.DwInQkvIdeal.τ).loc Cert.DwInQkvIdeal.main_arg0) = m ((c.tc : Thread Cert.DwInQkvIdeal.nD Cert.DwInQkvIdeal.τ).loc Cert.DwInQkvIdeal.main_arg0)
          ∧ r.2.mem ((c.tc : Thread Cert.DwInQkvIdeal.nD Cert.DwInQkvIdeal.τ).loc Cert.DwInQkvIdeal.main_arg1) = m ((c.tc : Thread Cert.DwInQkvIdeal.nD Cert.DwInQkvIdeal.τ).loc Cert.DwInQkvIdeal.main_arg1))
      ∧ θ_run (Cert.DwInQkvRefIdeal.defs (F := Ideal)) (onTc (τ := Cert.DwInQkvRefIdeal.τ) (Cert.DwInQkvRefIdeal.main (F := Ideal))) ⟨m', fun _ => 0, g'⟩ (fun r => ∀ c : Dev Cert.DwInQkvRefIdeal.nD,
          r.2.mem ((c.tc : Thread Cert.DwInQkvRefIdeal.nD Cert.DwInQkvRefIdeal.τ).loc Cert.DwInQkvRefIdeal.main_v7) = v0 c
          ∧ r.2.mem ((c.tc : Thread Cert.DwInQkvRefIdeal.nD Cert.DwInQkvRefIdeal.τ).loc Cert.DwInQkvRefIdeal.main_arg0) = m' ((c.tc : Thread Cert.DwInQkvRefIdeal.nD Cert.DwInQkvRefIdeal.τ).loc Cert.DwInQkvRefIdeal.main_arg0)
          ∧ r.2.mem ((c.tc : Thread Cert.DwInQkvRefIdeal.nD Cert.DwInQkvRefIdeal.τ).loc Cert.DwInQkvRefIdeal.main_arg1) = m' ((c.tc : Thread Cert.DwInQkvRefIdeal.nD Cert.DwInQkvRefIdeal.τ).loc Cert.DwInQkvRefIdeal.main_arg1))

def preserves_DwInGate_DwInGateIdeal : Prop :=
  True

def algebraic_DwInGateIdeal_DwInGateRefIdeal [hDwInGateIdeal : Cert.DwInGateIdeal.Facts] [hDwInGateRefIdeal : Cert.DwInGateRefIdeal.Facts] : Prop :=
  ∀ (m : (ℓ : Loc Cert.DwInGateIdeal.nD Cert.DwInGateIdeal.τ Cert.DwInGateIdeal.sig) → Buf (Elt Ideal) ℓ) (g : Dev Cert.DwInGateIdeal.nD → PrngReg)
    (m' : (ℓ : Loc Cert.DwInGateRefIdeal.nD Cert.DwInGateRefIdeal.τ Cert.DwInGateRefIdeal.sig) → Buf (Elt Ideal) ℓ) (g' : Dev Cert.DwInGateRefIdeal.nD → PrngReg), Pre_DwInGateIdeal m →
    (∀ c : Dev Cert.DwInGateIdeal.nD,
      m' ((c.tc : Thread Cert.DwInGateRefIdeal.nD Cert.DwInGateRefIdeal.τ).loc Cert.DwInGateRefIdeal.main_arg0) = m ((c.tc : Thread Cert.DwInGateIdeal.nD Cert.DwInGateIdeal.τ).loc Cert.DwInGateIdeal.main_arg0)
      ∧ m' ((c.tc : Thread Cert.DwInGateRefIdeal.nD Cert.DwInGateRefIdeal.τ).loc Cert.DwInGateRefIdeal.main_arg1) = m ((c.tc : Thread Cert.DwInGateIdeal.nD Cert.DwInGateIdeal.τ).loc Cert.DwInGateIdeal.main_arg1)) →
    ∃ (v0 : (c : Dev Cert.DwInGateIdeal.nD) → Buf (Elt Ideal) ((c.tc : Thread Cert.DwInGateIdeal.nD Cert.DwInGateIdeal.τ).loc Cert.DwInGateIdeal.main_v0)),
      θ_run (Cert.DwInGateIdeal.defs (F := Ideal)) (onTc (τ := Cert.DwInGateIdeal.τ) (Cert.DwInGateIdeal.main (F := Ideal))) ⟨m, fun _ => 0, g⟩ (fun r => ∀ c : Dev Cert.DwInGateIdeal.nD,
          r.2.mem ((c.tc : Thread Cert.DwInGateIdeal.nD Cert.DwInGateIdeal.τ).loc Cert.DwInGateIdeal.main_v0) = v0 c
          ∧ r.2.mem ((c.tc : Thread Cert.DwInGateIdeal.nD Cert.DwInGateIdeal.τ).loc Cert.DwInGateIdeal.main_arg0) = m ((c.tc : Thread Cert.DwInGateIdeal.nD Cert.DwInGateIdeal.τ).loc Cert.DwInGateIdeal.main_arg0)
          ∧ r.2.mem ((c.tc : Thread Cert.DwInGateIdeal.nD Cert.DwInGateIdeal.τ).loc Cert.DwInGateIdeal.main_arg1) = m ((c.tc : Thread Cert.DwInGateIdeal.nD Cert.DwInGateIdeal.τ).loc Cert.DwInGateIdeal.main_arg1))
      ∧ θ_run (Cert.DwInGateRefIdeal.defs (F := Ideal)) (onTc (τ := Cert.DwInGateRefIdeal.τ) (Cert.DwInGateRefIdeal.main (F := Ideal))) ⟨m', fun _ => 0, g'⟩ (fun r => ∀ c : Dev Cert.DwInGateRefIdeal.nD,
          r.2.mem ((c.tc : Thread Cert.DwInGateRefIdeal.nD Cert.DwInGateRefIdeal.τ).loc Cert.DwInGateRefIdeal.main_v7) = v0 c
          ∧ r.2.mem ((c.tc : Thread Cert.DwInGateRefIdeal.nD Cert.DwInGateRefIdeal.τ).loc Cert.DwInGateRefIdeal.main_arg0) = m' ((c.tc : Thread Cert.DwInGateRefIdeal.nD Cert.DwInGateRefIdeal.τ).loc Cert.DwInGateRefIdeal.main_arg0)
          ∧ r.2.mem ((c.tc : Thread Cert.DwInGateRefIdeal.nD Cert.DwInGateRefIdeal.τ).loc Cert.DwInGateRefIdeal.main_arg1) = m' ((c.tc : Thread Cert.DwInGateRefIdeal.nD Cert.DwInGateRefIdeal.τ).loc Cert.DwInGateRefIdeal.main_arg1))

def preserves_DwInAb_DwInAbIdeal : Prop :=
  True

def algebraic_DwInAbIdeal_DwInAbRefIdeal [hDwInAbIdeal : Cert.DwInAbIdeal.Facts] [hDwInAbRefIdeal : Cert.DwInAbRefIdeal.Facts] : Prop :=
  ∀ (m : (ℓ : Loc Cert.DwInAbIdeal.nD Cert.DwInAbIdeal.τ Cert.DwInAbIdeal.sig) → Buf (Elt Ideal) ℓ) (g : Dev Cert.DwInAbIdeal.nD → PrngReg)
    (m' : (ℓ : Loc Cert.DwInAbRefIdeal.nD Cert.DwInAbRefIdeal.τ Cert.DwInAbRefIdeal.sig) → Buf (Elt Ideal) ℓ) (g' : Dev Cert.DwInAbRefIdeal.nD → PrngReg), Pre_DwInAbIdeal m →
    (∀ c : Dev Cert.DwInAbIdeal.nD,
      m' ((c.tc : Thread Cert.DwInAbRefIdeal.nD Cert.DwInAbRefIdeal.τ).loc Cert.DwInAbRefIdeal.main_arg0) = m ((c.tc : Thread Cert.DwInAbIdeal.nD Cert.DwInAbIdeal.τ).loc Cert.DwInAbIdeal.main_arg0)
      ∧ m' ((c.tc : Thread Cert.DwInAbRefIdeal.nD Cert.DwInAbRefIdeal.τ).loc Cert.DwInAbRefIdeal.main_arg1) = m ((c.tc : Thread Cert.DwInAbIdeal.nD Cert.DwInAbIdeal.τ).loc Cert.DwInAbIdeal.main_arg1)) →
    ∃ (v0 : (c : Dev Cert.DwInAbIdeal.nD) → Buf (Elt Ideal) ((c.tc : Thread Cert.DwInAbIdeal.nD Cert.DwInAbIdeal.τ).loc Cert.DwInAbIdeal.main_v0)),
      θ_run (Cert.DwInAbIdeal.defs (F := Ideal)) (onTc (τ := Cert.DwInAbIdeal.τ) (Cert.DwInAbIdeal.main (F := Ideal))) ⟨m, fun _ => 0, g⟩ (fun r => ∀ c : Dev Cert.DwInAbIdeal.nD,
          r.2.mem ((c.tc : Thread Cert.DwInAbIdeal.nD Cert.DwInAbIdeal.τ).loc Cert.DwInAbIdeal.main_v0) = v0 c
          ∧ r.2.mem ((c.tc : Thread Cert.DwInAbIdeal.nD Cert.DwInAbIdeal.τ).loc Cert.DwInAbIdeal.main_arg0) = m ((c.tc : Thread Cert.DwInAbIdeal.nD Cert.DwInAbIdeal.τ).loc Cert.DwInAbIdeal.main_arg0)
          ∧ r.2.mem ((c.tc : Thread Cert.DwInAbIdeal.nD Cert.DwInAbIdeal.τ).loc Cert.DwInAbIdeal.main_arg1) = m ((c.tc : Thread Cert.DwInAbIdeal.nD Cert.DwInAbIdeal.τ).loc Cert.DwInAbIdeal.main_arg1))
      ∧ θ_run (Cert.DwInAbRefIdeal.defs (F := Ideal)) (onTc (τ := Cert.DwInAbRefIdeal.τ) (Cert.DwInAbRefIdeal.main (F := Ideal))) ⟨m', fun _ => 0, g'⟩ (fun r => ∀ c : Dev Cert.DwInAbRefIdeal.nD,
          r.2.mem ((c.tc : Thread Cert.DwInAbRefIdeal.nD Cert.DwInAbRefIdeal.τ).loc Cert.DwInAbRefIdeal.main_v7) = v0 c
          ∧ r.2.mem ((c.tc : Thread Cert.DwInAbRefIdeal.nD Cert.DwInAbRefIdeal.τ).loc Cert.DwInAbRefIdeal.main_arg0) = m' ((c.tc : Thread Cert.DwInAbRefIdeal.nD Cert.DwInAbRefIdeal.τ).loc Cert.DwInAbRefIdeal.main_arg0)
          ∧ r.2.mem ((c.tc : Thread Cert.DwInAbRefIdeal.nD Cert.DwInAbRefIdeal.τ).loc Cert.DwInAbRefIdeal.main_arg1) = m' ((c.tc : Thread Cert.DwInAbRefIdeal.nD Cert.DwInAbRefIdeal.τ).loc Cert.DwInAbRefIdeal.main_arg1))

def preserves_DxSq_DxSqIdeal : Prop :=
  True

def algebraic_DxSqIdeal_DxSqRefIdeal [hDxSqIdeal : Cert.DxSqIdeal.Facts] [hDxSqRefIdeal : Cert.DxSqRefIdeal.Facts] : Prop :=
  ∀ (m : (ℓ : Loc Cert.DxSqIdeal.nD Cert.DxSqIdeal.τ Cert.DxSqIdeal.sig) → Buf (Elt Ideal) ℓ) (g : Dev Cert.DxSqIdeal.nD → PrngReg)
    (m' : (ℓ : Loc Cert.DxSqRefIdeal.nD Cert.DxSqRefIdeal.τ Cert.DxSqRefIdeal.sig) → Buf (Elt Ideal) ℓ) (g' : Dev Cert.DxSqRefIdeal.nD → PrngReg), Pre_DxSqIdeal m →
    (∀ c : Dev Cert.DxSqIdeal.nD,
      m' ((c.tc : Thread Cert.DxSqRefIdeal.nD Cert.DxSqRefIdeal.τ).loc Cert.DxSqRefIdeal.main_arg0) = m ((c.tc : Thread Cert.DxSqIdeal.nD Cert.DxSqIdeal.τ).loc Cert.DxSqIdeal.main_arg0)
      ∧ m' ((c.tc : Thread Cert.DxSqRefIdeal.nD Cert.DxSqRefIdeal.τ).loc Cert.DxSqRefIdeal.main_arg1) = m ((c.tc : Thread Cert.DxSqIdeal.nD Cert.DxSqIdeal.τ).loc Cert.DxSqIdeal.main_arg1)) →
    ∃ (v0 : (c : Dev Cert.DxSqIdeal.nD) → Buf (Elt Ideal) ((c.tc : Thread Cert.DxSqIdeal.nD Cert.DxSqIdeal.τ).loc Cert.DxSqIdeal.main_v0)),
      θ_run (Cert.DxSqIdeal.defs (F := Ideal)) (onTc (τ := Cert.DxSqIdeal.τ) (Cert.DxSqIdeal.main (F := Ideal))) ⟨m, fun _ => 0, g⟩ (fun r => ∀ c : Dev Cert.DxSqIdeal.nD,
          r.2.mem ((c.tc : Thread Cert.DxSqIdeal.nD Cert.DxSqIdeal.τ).loc Cert.DxSqIdeal.main_v0) = v0 c
          ∧ r.2.mem ((c.tc : Thread Cert.DxSqIdeal.nD Cert.DxSqIdeal.τ).loc Cert.DxSqIdeal.main_arg0) = m ((c.tc : Thread Cert.DxSqIdeal.nD Cert.DxSqIdeal.τ).loc Cert.DxSqIdeal.main_arg0)
          ∧ r.2.mem ((c.tc : Thread Cert.DxSqIdeal.nD Cert.DxSqIdeal.τ).loc Cert.DxSqIdeal.main_arg1) = m ((c.tc : Thread Cert.DxSqIdeal.nD Cert.DxSqIdeal.τ).loc Cert.DxSqIdeal.main_arg1))
      ∧ θ_run (Cert.DxSqRefIdeal.defs (F := Ideal)) (onTc (τ := Cert.DxSqRefIdeal.τ) (Cert.DxSqRefIdeal.main (F := Ideal))) ⟨m', fun _ => 0, g'⟩ (fun r => ∀ c : Dev Cert.DxSqRefIdeal.nD,
          r.2.mem ((c.tc : Thread Cert.DxSqRefIdeal.nD Cert.DxSqRefIdeal.τ).loc Cert.DxSqRefIdeal.main_v4) = v0 c
          ∧ r.2.mem ((c.tc : Thread Cert.DxSqRefIdeal.nD Cert.DxSqRefIdeal.τ).loc Cert.DxSqRefIdeal.main_arg0) = m' ((c.tc : Thread Cert.DxSqRefIdeal.nD Cert.DxSqRefIdeal.τ).loc Cert.DxSqRefIdeal.main_arg0)
          ∧ r.2.mem ((c.tc : Thread Cert.DxSqRefIdeal.nD Cert.DxSqRefIdeal.τ).loc Cert.DxSqRefIdeal.main_arg1) = m' ((c.tc : Thread Cert.DxSqRefIdeal.nD Cert.DxSqRefIdeal.τ).loc Cert.DxSqRefIdeal.main_arg1))

def preserves_DXo_DXoIdeal : Prop :=
  True

def algebraic_DXoIdeal_DXoRefIdeal [hDXoIdeal : Cert.DXoIdeal.Facts] [hDXoRefIdeal : Cert.DXoRefIdeal.Facts] : Prop :=
  ∀ (m : (ℓ : Loc Cert.DXoIdeal.nD Cert.DXoIdeal.τ Cert.DXoIdeal.sig) → Buf (Elt Ideal) ℓ) (g : Dev Cert.DXoIdeal.nD → PrngReg)
    (m' : (ℓ : Loc Cert.DXoRefIdeal.nD Cert.DXoRefIdeal.τ Cert.DXoRefIdeal.sig) → Buf (Elt Ideal) ℓ) (g' : Dev Cert.DXoRefIdeal.nD → PrngReg), Pre_DXoIdeal m →
    (∀ c : Dev Cert.DXoIdeal.nD,
      m' ((c.tc : Thread Cert.DXoRefIdeal.nD Cert.DXoRefIdeal.τ).loc Cert.DXoRefIdeal.main_arg0) = m ((c.tc : Thread Cert.DXoIdeal.nD Cert.DXoIdeal.τ).loc Cert.DXoIdeal.main_arg0)
      ∧ m' ((c.tc : Thread Cert.DXoRefIdeal.nD Cert.DXoRefIdeal.τ).loc Cert.DXoRefIdeal.main_arg1) = m ((c.tc : Thread Cert.DXoIdeal.nD Cert.DXoIdeal.τ).loc Cert.DXoIdeal.main_arg1)) →
    ∃ (v0 : (c : Dev Cert.DXoIdeal.nD) → Buf (Elt Ideal) ((c.tc : Thread Cert.DXoIdeal.nD Cert.DXoIdeal.τ).loc Cert.DXoIdeal.main_v0)),
      θ_run (Cert.DXoIdeal.defs (F := Ideal)) (onTc (τ := Cert.DXoIdeal.τ) (Cert.DXoIdeal.main (F := Ideal))) ⟨m, fun _ => 0, g⟩ (fun r => ∀ c : Dev Cert.DXoIdeal.nD,
          r.2.mem ((c.tc : Thread Cert.DXoIdeal.nD Cert.DXoIdeal.τ).loc Cert.DXoIdeal.main_v0) = v0 c
          ∧ r.2.mem ((c.tc : Thread Cert.DXoIdeal.nD Cert.DXoIdeal.τ).loc Cert.DXoIdeal.main_arg0) = m ((c.tc : Thread Cert.DXoIdeal.nD Cert.DXoIdeal.τ).loc Cert.DXoIdeal.main_arg0)
          ∧ r.2.mem ((c.tc : Thread Cert.DXoIdeal.nD Cert.DXoIdeal.τ).loc Cert.DXoIdeal.main_arg1) = m ((c.tc : Thread Cert.DXoIdeal.nD Cert.DXoIdeal.τ).loc Cert.DXoIdeal.main_arg1))
      ∧ θ_run (Cert.DXoRefIdeal.defs (F := Ideal)) (onTc (τ := Cert.DXoRefIdeal.τ) (Cert.DXoRefIdeal.main (F := Ideal))) ⟨m', fun _ => 0, g'⟩ (fun r => ∀ c : Dev Cert.DXoRefIdeal.nD,
          r.2.mem ((c.tc : Thread Cert.DXoRefIdeal.nD Cert.DXoRefIdeal.τ).loc Cert.DXoRefIdeal.main_v5) = v0 c
          ∧ r.2.mem ((c.tc : Thread Cert.DXoRefIdeal.nD Cert.DXoRefIdeal.τ).loc Cert.DXoRefIdeal.main_arg0) = m' ((c.tc : Thread Cert.DXoRefIdeal.nD Cert.DXoRefIdeal.τ).loc Cert.DXoRefIdeal.main_arg0)
          ∧ r.2.mem ((c.tc : Thread Cert.DXoRefIdeal.nD Cert.DXoRefIdeal.τ).loc Cert.DXoRefIdeal.main_arg1) = m' ((c.tc : Thread Cert.DXoRefIdeal.nD Cert.DXoRefIdeal.τ).loc Cert.DXoRefIdeal.main_arg1))

def preserves_DMn_DMnIdeal : Prop :=
  True

def algebraic_DMnIdeal_DMnRefIdeal [hDMnIdeal : Cert.DMnIdeal.Facts] [hDMnRefIdeal : Cert.DMnRefIdeal.Facts] : Prop :=
  ∀ (m : (ℓ : Loc Cert.DMnIdeal.nD Cert.DMnIdeal.τ Cert.DMnIdeal.sig) → Buf (Elt Ideal) ℓ) (g : Dev Cert.DMnIdeal.nD → PrngReg)
    (m' : (ℓ : Loc Cert.DMnRefIdeal.nD Cert.DMnRefIdeal.τ Cert.DMnRefIdeal.sig) → Buf (Elt Ideal) ℓ) (g' : Dev Cert.DMnRefIdeal.nD → PrngReg), Pre_DMnIdeal m →
    (∀ c : Dev Cert.DMnIdeal.nD,
      m' ((c.tc : Thread Cert.DMnRefIdeal.nD Cert.DMnRefIdeal.τ).loc Cert.DMnRefIdeal.main_arg0) = m ((c.tc : Thread Cert.DMnIdeal.nD Cert.DMnIdeal.τ).loc Cert.DMnIdeal.main_arg0)
      ∧ m' ((c.tc : Thread Cert.DMnRefIdeal.nD Cert.DMnRefIdeal.τ).loc Cert.DMnRefIdeal.main_arg1) = m ((c.tc : Thread Cert.DMnIdeal.nD Cert.DMnIdeal.τ).loc Cert.DMnIdeal.main_arg1)) →
    ∃ (v0 : (c : Dev Cert.DMnIdeal.nD) → Buf (Elt Ideal) ((c.tc : Thread Cert.DMnIdeal.nD Cert.DMnIdeal.τ).loc Cert.DMnIdeal.main_v0)),
      θ_run (Cert.DMnIdeal.defs (F := Ideal)) (onTc (τ := Cert.DMnIdeal.τ) (Cert.DMnIdeal.main (F := Ideal))) ⟨m, fun _ => 0, g⟩ (fun r => ∀ c : Dev Cert.DMnIdeal.nD,
          r.2.mem ((c.tc : Thread Cert.DMnIdeal.nD Cert.DMnIdeal.τ).loc Cert.DMnIdeal.main_v0) = v0 c
          ∧ r.2.mem ((c.tc : Thread Cert.DMnIdeal.nD Cert.DMnIdeal.τ).loc Cert.DMnIdeal.main_arg0) = m ((c.tc : Thread Cert.DMnIdeal.nD Cert.DMnIdeal.τ).loc Cert.DMnIdeal.main_arg0)
          ∧ r.2.mem ((c.tc : Thread Cert.DMnIdeal.nD Cert.DMnIdeal.τ).loc Cert.DMnIdeal.main_arg1) = m ((c.tc : Thread Cert.DMnIdeal.nD Cert.DMnIdeal.τ).loc Cert.DMnIdeal.main_arg1))
      ∧ θ_run (Cert.DMnRefIdeal.defs (F := Ideal)) (onTc (τ := Cert.DMnRefIdeal.τ) (Cert.DMnRefIdeal.main (F := Ideal))) ⟨m', fun _ => 0, g'⟩ (fun r => ∀ c : Dev Cert.DMnRefIdeal.nD,
          r.2.mem ((c.tc : Thread Cert.DMnRefIdeal.nD Cert.DMnRefIdeal.τ).loc Cert.DMnRefIdeal.main_v6) = v0 c
          ∧ r.2.mem ((c.tc : Thread Cert.DMnRefIdeal.nD Cert.DMnRefIdeal.τ).loc Cert.DMnRefIdeal.main_arg0) = m' ((c.tc : Thread Cert.DMnRefIdeal.nD Cert.DMnRefIdeal.τ).loc Cert.DMnRefIdeal.main_arg0)
          ∧ r.2.mem ((c.tc : Thread Cert.DMnRefIdeal.nD Cert.DMnRefIdeal.τ).loc Cert.DMnRefIdeal.main_arg1) = m' ((c.tc : Thread Cert.DMnRefIdeal.nD Cert.DMnRefIdeal.τ).loc Cert.DMnRefIdeal.main_arg1))

def preserves_DwXkv_DwXkvIdeal : Prop :=
  True

def algebraic_DwXkvIdeal_DwXkvRefIdeal [hDwXkvIdeal : Cert.DwXkvIdeal.Facts] [hDwXkvRefIdeal : Cert.DwXkvRefIdeal.Facts] : Prop :=
  ∀ (m : (ℓ : Loc Cert.DwXkvIdeal.nD Cert.DwXkvIdeal.τ Cert.DwXkvIdeal.sig) → Buf (Elt Ideal) ℓ) (g : Dev Cert.DwXkvIdeal.nD → PrngReg)
    (m' : (ℓ : Loc Cert.DwXkvRefIdeal.nD Cert.DwXkvRefIdeal.τ Cert.DwXkvRefIdeal.sig) → Buf (Elt Ideal) ℓ) (g' : Dev Cert.DwXkvRefIdeal.nD → PrngReg), Pre_DwXkvIdeal m →
    (∀ c : Dev Cert.DwXkvIdeal.nD,
      m' ((c.tc : Thread Cert.DwXkvRefIdeal.nD Cert.DwXkvRefIdeal.τ).loc Cert.DwXkvRefIdeal.main_arg0) = m ((c.tc : Thread Cert.DwXkvIdeal.nD Cert.DwXkvIdeal.τ).loc Cert.DwXkvIdeal.main_arg0)
      ∧ m' ((c.tc : Thread Cert.DwXkvRefIdeal.nD Cert.DwXkvRefIdeal.τ).loc Cert.DwXkvRefIdeal.main_arg1) = m ((c.tc : Thread Cert.DwXkvIdeal.nD Cert.DwXkvIdeal.τ).loc Cert.DwXkvIdeal.main_arg1)) →
    ∃ (v0 : (c : Dev Cert.DwXkvIdeal.nD) → Buf (Elt Ideal) ((c.tc : Thread Cert.DwXkvIdeal.nD Cert.DwXkvIdeal.τ).loc Cert.DwXkvIdeal.main_v0)),
      θ_run (Cert.DwXkvIdeal.defs (F := Ideal)) (onTc (τ := Cert.DwXkvIdeal.τ) (Cert.DwXkvIdeal.main (F := Ideal))) ⟨m, fun _ => 0, g⟩ (fun r => ∀ c : Dev Cert.DwXkvIdeal.nD,
          r.2.mem ((c.tc : Thread Cert.DwXkvIdeal.nD Cert.DwXkvIdeal.τ).loc Cert.DwXkvIdeal.main_v0) = v0 c
          ∧ r.2.mem ((c.tc : Thread Cert.DwXkvIdeal.nD Cert.DwXkvIdeal.τ).loc Cert.DwXkvIdeal.main_arg0) = m ((c.tc : Thread Cert.DwXkvIdeal.nD Cert.DwXkvIdeal.τ).loc Cert.DwXkvIdeal.main_arg0)
          ∧ r.2.mem ((c.tc : Thread Cert.DwXkvIdeal.nD Cert.DwXkvIdeal.τ).loc Cert.DwXkvIdeal.main_arg1) = m ((c.tc : Thread Cert.DwXkvIdeal.nD Cert.DwXkvIdeal.τ).loc Cert.DwXkvIdeal.main_arg1))
      ∧ θ_run (Cert.DwXkvRefIdeal.defs (F := Ideal)) (onTc (τ := Cert.DwXkvRefIdeal.τ) (Cert.DwXkvRefIdeal.main (F := Ideal))) ⟨m', fun _ => 0, g'⟩ (fun r => ∀ c : Dev Cert.DwXkvRefIdeal.nD,
          r.2.mem ((c.tc : Thread Cert.DwXkvRefIdeal.nD Cert.DwXkvRefIdeal.τ).loc Cert.DwXkvRefIdeal.main_v8) = v0 c
          ∧ r.2.mem ((c.tc : Thread Cert.DwXkvRefIdeal.nD Cert.DwXkvRefIdeal.τ).loc Cert.DwXkvRefIdeal.main_arg0) = m' ((c.tc : Thread Cert.DwXkvRefIdeal.nD Cert.DwXkvRefIdeal.τ).loc Cert.DwXkvRefIdeal.main_arg0)
          ∧ r.2.mem ((c.tc : Thread Cert.DwXkvRefIdeal.nD Cert.DwXkvRefIdeal.τ).loc Cert.DwXkvRefIdeal.main_arg1) = m' ((c.tc : Thread Cert.DwXkvRefIdeal.nD Cert.DwXkvRefIdeal.τ).loc Cert.DwXkvRefIdeal.main_arg1))

def preserves_ProjQkv_ProjQkvIdeal : Prop :=
  True

def algebraic_ProjQkvIdeal_ProjQkvRefIdeal [hProjQkvIdeal : Cert.ProjQkvIdeal.Facts] [hProjQkvRefIdeal : Cert.ProjQkvRefIdeal.Facts] : Prop :=
  ∀ (m : (ℓ : Loc Cert.ProjQkvIdeal.nD Cert.ProjQkvIdeal.τ Cert.ProjQkvIdeal.sig) → Buf (Elt Ideal) ℓ) (g : Dev Cert.ProjQkvIdeal.nD → PrngReg)
    (m' : (ℓ : Loc Cert.ProjQkvRefIdeal.nD Cert.ProjQkvRefIdeal.τ Cert.ProjQkvRefIdeal.sig) → Buf (Elt Ideal) ℓ) (g' : Dev Cert.ProjQkvRefIdeal.nD → PrngReg), Pre_ProjQkvIdeal m →
    (∀ c : Dev Cert.ProjQkvIdeal.nD,
      m' ((c.tc : Thread Cert.ProjQkvRefIdeal.nD Cert.ProjQkvRefIdeal.τ).loc Cert.ProjQkvRefIdeal.main_arg0) = m ((c.tc : Thread Cert.ProjQkvIdeal.nD Cert.ProjQkvIdeal.τ).loc Cert.ProjQkvIdeal.main_arg0)
      ∧ m' ((c.tc : Thread Cert.ProjQkvRefIdeal.nD Cert.ProjQkvRefIdeal.τ).loc Cert.ProjQkvRefIdeal.main_arg1) = m ((c.tc : Thread Cert.ProjQkvIdeal.nD Cert.ProjQkvIdeal.τ).loc Cert.ProjQkvIdeal.main_arg1)) →
    ∃ (v0 : (c : Dev Cert.ProjQkvIdeal.nD) → Buf (Elt Ideal) ((c.tc : Thread Cert.ProjQkvIdeal.nD Cert.ProjQkvIdeal.τ).loc Cert.ProjQkvIdeal.main_v0)),
      θ_run (Cert.ProjQkvIdeal.defs (F := Ideal)) (onTc (τ := Cert.ProjQkvIdeal.τ) (Cert.ProjQkvIdeal.main (F := Ideal))) ⟨m, fun _ => 0, g⟩ (fun r => ∀ c : Dev Cert.ProjQkvIdeal.nD,
          r.2.mem ((c.tc : Thread Cert.ProjQkvIdeal.nD Cert.ProjQkvIdeal.τ).loc Cert.ProjQkvIdeal.main_v0) = v0 c
          ∧ r.2.mem ((c.tc : Thread Cert.ProjQkvIdeal.nD Cert.ProjQkvIdeal.τ).loc Cert.ProjQkvIdeal.main_arg0) = m ((c.tc : Thread Cert.ProjQkvIdeal.nD Cert.ProjQkvIdeal.τ).loc Cert.ProjQkvIdeal.main_arg0)
          ∧ r.2.mem ((c.tc : Thread Cert.ProjQkvIdeal.nD Cert.ProjQkvIdeal.τ).loc Cert.ProjQkvIdeal.main_arg1) = m ((c.tc : Thread Cert.ProjQkvIdeal.nD Cert.ProjQkvIdeal.τ).loc Cert.ProjQkvIdeal.main_arg1))
      ∧ θ_run (Cert.ProjQkvRefIdeal.defs (F := Ideal)) (onTc (τ := Cert.ProjQkvRefIdeal.τ) (Cert.ProjQkvRefIdeal.main (F := Ideal))) ⟨m', fun _ => 0, g'⟩ (fun r => ∀ c : Dev Cert.ProjQkvRefIdeal.nD,
          r.2.mem ((c.tc : Thread Cert.ProjQkvRefIdeal.nD Cert.ProjQkvRefIdeal.τ).loc Cert.ProjQkvRefIdeal.main_v3) = v0 c
          ∧ r.2.mem ((c.tc : Thread Cert.ProjQkvRefIdeal.nD Cert.ProjQkvRefIdeal.τ).loc Cert.ProjQkvRefIdeal.main_arg0) = m' ((c.tc : Thread Cert.ProjQkvRefIdeal.nD Cert.ProjQkvRefIdeal.τ).loc Cert.ProjQkvRefIdeal.main_arg0)
          ∧ r.2.mem ((c.tc : Thread Cert.ProjQkvRefIdeal.nD Cert.ProjQkvRefIdeal.τ).loc Cert.ProjQkvRefIdeal.main_arg1) = m' ((c.tc : Thread Cert.ProjQkvRefIdeal.nD Cert.ProjQkvRefIdeal.τ).loc Cert.ProjQkvRefIdeal.main_arg1))

def preserves_ProjGate_ProjGateIdeal : Prop :=
  True

def algebraic_ProjGateIdeal_ProjGateRefIdeal [hProjGateIdeal : Cert.ProjGateIdeal.Facts] [hProjGateRefIdeal : Cert.ProjGateRefIdeal.Facts] : Prop :=
  ∀ (m : (ℓ : Loc Cert.ProjGateIdeal.nD Cert.ProjGateIdeal.τ Cert.ProjGateIdeal.sig) → Buf (Elt Ideal) ℓ) (g : Dev Cert.ProjGateIdeal.nD → PrngReg)
    (m' : (ℓ : Loc Cert.ProjGateRefIdeal.nD Cert.ProjGateRefIdeal.τ Cert.ProjGateRefIdeal.sig) → Buf (Elt Ideal) ℓ) (g' : Dev Cert.ProjGateRefIdeal.nD → PrngReg), Pre_ProjGateIdeal m →
    (∀ c : Dev Cert.ProjGateIdeal.nD,
      m' ((c.tc : Thread Cert.ProjGateRefIdeal.nD Cert.ProjGateRefIdeal.τ).loc Cert.ProjGateRefIdeal.main_arg0) = m ((c.tc : Thread Cert.ProjGateIdeal.nD Cert.ProjGateIdeal.τ).loc Cert.ProjGateIdeal.main_arg0)
      ∧ m' ((c.tc : Thread Cert.ProjGateRefIdeal.nD Cert.ProjGateRefIdeal.τ).loc Cert.ProjGateRefIdeal.main_arg1) = m ((c.tc : Thread Cert.ProjGateIdeal.nD Cert.ProjGateIdeal.τ).loc Cert.ProjGateIdeal.main_arg1)) →
    ∃ (v0 : (c : Dev Cert.ProjGateIdeal.nD) → Buf (Elt Ideal) ((c.tc : Thread Cert.ProjGateIdeal.nD Cert.ProjGateIdeal.τ).loc Cert.ProjGateIdeal.main_v0)),
      θ_run (Cert.ProjGateIdeal.defs (F := Ideal)) (onTc (τ := Cert.ProjGateIdeal.τ) (Cert.ProjGateIdeal.main (F := Ideal))) ⟨m, fun _ => 0, g⟩ (fun r => ∀ c : Dev Cert.ProjGateIdeal.nD,
          r.2.mem ((c.tc : Thread Cert.ProjGateIdeal.nD Cert.ProjGateIdeal.τ).loc Cert.ProjGateIdeal.main_v0) = v0 c
          ∧ r.2.mem ((c.tc : Thread Cert.ProjGateIdeal.nD Cert.ProjGateIdeal.τ).loc Cert.ProjGateIdeal.main_arg0) = m ((c.tc : Thread Cert.ProjGateIdeal.nD Cert.ProjGateIdeal.τ).loc Cert.ProjGateIdeal.main_arg0)
          ∧ r.2.mem ((c.tc : Thread Cert.ProjGateIdeal.nD Cert.ProjGateIdeal.τ).loc Cert.ProjGateIdeal.main_arg1) = m ((c.tc : Thread Cert.ProjGateIdeal.nD Cert.ProjGateIdeal.τ).loc Cert.ProjGateIdeal.main_arg1))
      ∧ θ_run (Cert.ProjGateRefIdeal.defs (F := Ideal)) (onTc (τ := Cert.ProjGateRefIdeal.τ) (Cert.ProjGateRefIdeal.main (F := Ideal))) ⟨m', fun _ => 0, g'⟩ (fun r => ∀ c : Dev Cert.ProjGateRefIdeal.nD,
          r.2.mem ((c.tc : Thread Cert.ProjGateRefIdeal.nD Cert.ProjGateRefIdeal.τ).loc Cert.ProjGateRefIdeal.main_v3) = v0 c
          ∧ r.2.mem ((c.tc : Thread Cert.ProjGateRefIdeal.nD Cert.ProjGateRefIdeal.τ).loc Cert.ProjGateRefIdeal.main_arg0) = m' ((c.tc : Thread Cert.ProjGateRefIdeal.nD Cert.ProjGateRefIdeal.τ).loc Cert.ProjGateRefIdeal.main_arg0)
          ∧ r.2.mem ((c.tc : Thread Cert.ProjGateRefIdeal.nD Cert.ProjGateRefIdeal.τ).loc Cert.ProjGateRefIdeal.main_arg1) = m' ((c.tc : Thread Cert.ProjGateRefIdeal.nD Cert.ProjGateRefIdeal.τ).loc Cert.ProjGateRefIdeal.main_arg1))

def preserves_ProjZ_ProjZIdeal : Prop :=
  True

def algebraic_ProjZIdeal_ProjZRefIdeal [hProjZIdeal : Cert.ProjZIdeal.Facts] [hProjZRefIdeal : Cert.ProjZRefIdeal.Facts] : Prop :=
  ∀ (m : (ℓ : Loc Cert.ProjZIdeal.nD Cert.ProjZIdeal.τ Cert.ProjZIdeal.sig) → Buf (Elt Ideal) ℓ) (g : Dev Cert.ProjZIdeal.nD → PrngReg)
    (m' : (ℓ : Loc Cert.ProjZRefIdeal.nD Cert.ProjZRefIdeal.τ Cert.ProjZRefIdeal.sig) → Buf (Elt Ideal) ℓ) (g' : Dev Cert.ProjZRefIdeal.nD → PrngReg), Pre_ProjZIdeal m →
    (∀ c : Dev Cert.ProjZIdeal.nD,
      m' ((c.tc : Thread Cert.ProjZRefIdeal.nD Cert.ProjZRefIdeal.τ).loc Cert.ProjZRefIdeal.main_arg0) = m ((c.tc : Thread Cert.ProjZIdeal.nD Cert.ProjZIdeal.τ).loc Cert.ProjZIdeal.main_arg0)
      ∧ m' ((c.tc : Thread Cert.ProjZRefIdeal.nD Cert.ProjZRefIdeal.τ).loc Cert.ProjZRefIdeal.main_arg1) = m ((c.tc : Thread Cert.ProjZIdeal.nD Cert.ProjZIdeal.τ).loc Cert.ProjZIdeal.main_arg1)) →
    ∃ (v0 : (c : Dev Cert.ProjZIdeal.nD) → Buf (Elt Ideal) ((c.tc : Thread Cert.ProjZIdeal.nD Cert.ProjZIdeal.τ).loc Cert.ProjZIdeal.main_v0)),
      θ_run (Cert.ProjZIdeal.defs (F := Ideal)) (onTc (τ := Cert.ProjZIdeal.τ) (Cert.ProjZIdeal.main (F := Ideal))) ⟨m, fun _ => 0, g⟩ (fun r => ∀ c : Dev Cert.ProjZIdeal.nD,
          r.2.mem ((c.tc : Thread Cert.ProjZIdeal.nD Cert.ProjZIdeal.τ).loc Cert.ProjZIdeal.main_v0) = v0 c
          ∧ r.2.mem ((c.tc : Thread Cert.ProjZIdeal.nD Cert.ProjZIdeal.τ).loc Cert.ProjZIdeal.main_arg0) = m ((c.tc : Thread Cert.ProjZIdeal.nD Cert.ProjZIdeal.τ).loc Cert.ProjZIdeal.main_arg0)
          ∧ r.2.mem ((c.tc : Thread Cert.ProjZIdeal.nD Cert.ProjZIdeal.τ).loc Cert.ProjZIdeal.main_arg1) = m ((c.tc : Thread Cert.ProjZIdeal.nD Cert.ProjZIdeal.τ).loc Cert.ProjZIdeal.main_arg1))
      ∧ θ_run (Cert.ProjZRefIdeal.defs (F := Ideal)) (onTc (τ := Cert.ProjZRefIdeal.τ) (Cert.ProjZRefIdeal.main (F := Ideal))) ⟨m', fun _ => 0, g'⟩ (fun r => ∀ c : Dev Cert.ProjZRefIdeal.nD,
          r.2.mem ((c.tc : Thread Cert.ProjZRefIdeal.nD Cert.ProjZRefIdeal.τ).loc Cert.ProjZRefIdeal.main_v3) = v0 c
          ∧ r.2.mem ((c.tc : Thread Cert.ProjZRefIdeal.nD Cert.ProjZRefIdeal.τ).loc Cert.ProjZRefIdeal.main_arg0) = m' ((c.tc : Thread Cert.ProjZRefIdeal.nD Cert.ProjZRefIdeal.τ).loc Cert.ProjZRefIdeal.main_arg0)
          ∧ r.2.mem ((c.tc : Thread Cert.ProjZRefIdeal.nD Cert.ProjZRefIdeal.τ).loc Cert.ProjZRefIdeal.main_arg1) = m' ((c.tc : Thread Cert.ProjZRefIdeal.nD Cert.ProjZRefIdeal.τ).loc Cert.ProjZRefIdeal.main_arg1))

def preserves_ProjAb_ProjAbIdeal : Prop :=
  True

def algebraic_ProjAbIdeal_ProjAbRefIdeal [hProjAbIdeal : Cert.ProjAbIdeal.Facts] [hProjAbRefIdeal : Cert.ProjAbRefIdeal.Facts] : Prop :=
  ∀ (m : (ℓ : Loc Cert.ProjAbIdeal.nD Cert.ProjAbIdeal.τ Cert.ProjAbIdeal.sig) → Buf (Elt Ideal) ℓ) (g : Dev Cert.ProjAbIdeal.nD → PrngReg)
    (m' : (ℓ : Loc Cert.ProjAbRefIdeal.nD Cert.ProjAbRefIdeal.τ Cert.ProjAbRefIdeal.sig) → Buf (Elt Ideal) ℓ) (g' : Dev Cert.ProjAbRefIdeal.nD → PrngReg), Pre_ProjAbIdeal m →
    (∀ c : Dev Cert.ProjAbIdeal.nD,
      m' ((c.tc : Thread Cert.ProjAbRefIdeal.nD Cert.ProjAbRefIdeal.τ).loc Cert.ProjAbRefIdeal.main_arg0) = m ((c.tc : Thread Cert.ProjAbIdeal.nD Cert.ProjAbIdeal.τ).loc Cert.ProjAbIdeal.main_arg0)
      ∧ m' ((c.tc : Thread Cert.ProjAbRefIdeal.nD Cert.ProjAbRefIdeal.τ).loc Cert.ProjAbRefIdeal.main_arg1) = m ((c.tc : Thread Cert.ProjAbIdeal.nD Cert.ProjAbIdeal.τ).loc Cert.ProjAbIdeal.main_arg1)) →
    ∃ (v0 : (c : Dev Cert.ProjAbIdeal.nD) → Buf (Elt Ideal) ((c.tc : Thread Cert.ProjAbIdeal.nD Cert.ProjAbIdeal.τ).loc Cert.ProjAbIdeal.main_v0)),
      θ_run (Cert.ProjAbIdeal.defs (F := Ideal)) (onTc (τ := Cert.ProjAbIdeal.τ) (Cert.ProjAbIdeal.main (F := Ideal))) ⟨m, fun _ => 0, g⟩ (fun r => ∀ c : Dev Cert.ProjAbIdeal.nD,
          r.2.mem ((c.tc : Thread Cert.ProjAbIdeal.nD Cert.ProjAbIdeal.τ).loc Cert.ProjAbIdeal.main_v0) = v0 c
          ∧ r.2.mem ((c.tc : Thread Cert.ProjAbIdeal.nD Cert.ProjAbIdeal.τ).loc Cert.ProjAbIdeal.main_arg0) = m ((c.tc : Thread Cert.ProjAbIdeal.nD Cert.ProjAbIdeal.τ).loc Cert.ProjAbIdeal.main_arg0)
          ∧ r.2.mem ((c.tc : Thread Cert.ProjAbIdeal.nD Cert.ProjAbIdeal.τ).loc Cert.ProjAbIdeal.main_arg1) = m ((c.tc : Thread Cert.ProjAbIdeal.nD Cert.ProjAbIdeal.τ).loc Cert.ProjAbIdeal.main_arg1))
      ∧ θ_run (Cert.ProjAbRefIdeal.defs (F := Ideal)) (onTc (τ := Cert.ProjAbRefIdeal.τ) (Cert.ProjAbRefIdeal.main (F := Ideal))) ⟨m', fun _ => 0, g'⟩ (fun r => ∀ c : Dev Cert.ProjAbRefIdeal.nD,
          r.2.mem ((c.tc : Thread Cert.ProjAbRefIdeal.nD Cert.ProjAbRefIdeal.τ).loc Cert.ProjAbRefIdeal.main_v3) = v0 c
          ∧ r.2.mem ((c.tc : Thread Cert.ProjAbRefIdeal.nD Cert.ProjAbRefIdeal.τ).loc Cert.ProjAbRefIdeal.main_arg0) = m' ((c.tc : Thread Cert.ProjAbRefIdeal.nD Cert.ProjAbRefIdeal.τ).loc Cert.ProjAbRefIdeal.main_arg0)
          ∧ r.2.mem ((c.tc : Thread Cert.ProjAbRefIdeal.nD Cert.ProjAbRefIdeal.τ).loc Cert.ProjAbRefIdeal.main_arg1) = m' ((c.tc : Thread Cert.ProjAbRefIdeal.nD Cert.ProjAbRefIdeal.τ).loc Cert.ProjAbRefIdeal.main_arg1))

def preserves_XattnKv_XattnKvIdeal : Prop :=
  True

def algebraic_XattnKvIdeal_XattnKvRefIdeal [hXattnKvIdeal : Cert.XattnKvIdeal.Facts] [hXattnKvRefIdeal : Cert.XattnKvRefIdeal.Facts] : Prop :=
  ∀ (m : (ℓ : Loc Cert.XattnKvIdeal.nD Cert.XattnKvIdeal.τ Cert.XattnKvIdeal.sig) → Buf (Elt Ideal) ℓ) (g : Dev Cert.XattnKvIdeal.nD → PrngReg)
    (m' : (ℓ : Loc Cert.XattnKvRefIdeal.nD Cert.XattnKvRefIdeal.τ Cert.XattnKvRefIdeal.sig) → Buf (Elt Ideal) ℓ) (g' : Dev Cert.XattnKvRefIdeal.nD → PrngReg), Pre_XattnKvIdeal m →
    (∀ c : Dev Cert.XattnKvIdeal.nD,
      m' ((c.tc : Thread Cert.XattnKvRefIdeal.nD Cert.XattnKvRefIdeal.τ).loc Cert.XattnKvRefIdeal.main_arg0) = m ((c.tc : Thread Cert.XattnKvIdeal.nD Cert.XattnKvIdeal.τ).loc Cert.XattnKvIdeal.main_arg0)
      ∧ m' ((c.tc : Thread Cert.XattnKvRefIdeal.nD Cert.XattnKvRefIdeal.τ).loc Cert.XattnKvRefIdeal.main_arg1) = m ((c.tc : Thread Cert.XattnKvIdeal.nD Cert.XattnKvIdeal.τ).loc Cert.XattnKvIdeal.main_arg1)) →
    ∃ (v0 : (c : Dev Cert.XattnKvIdeal.nD) → Buf (Elt Ideal) ((c.tc : Thread Cert.XattnKvIdeal.nD Cert.XattnKvIdeal.τ).loc Cert.XattnKvIdeal.main_v0)),
      θ_run (Cert.XattnKvIdeal.defs (F := Ideal)) (onTc (τ := Cert.XattnKvIdeal.τ) (Cert.XattnKvIdeal.main (F := Ideal))) ⟨m, fun _ => 0, g⟩ (fun r => ∀ c : Dev Cert.XattnKvIdeal.nD,
          r.2.mem ((c.tc : Thread Cert.XattnKvIdeal.nD Cert.XattnKvIdeal.τ).loc Cert.XattnKvIdeal.main_v0) = v0 c
          ∧ r.2.mem ((c.tc : Thread Cert.XattnKvIdeal.nD Cert.XattnKvIdeal.τ).loc Cert.XattnKvIdeal.main_arg0) = m ((c.tc : Thread Cert.XattnKvIdeal.nD Cert.XattnKvIdeal.τ).loc Cert.XattnKvIdeal.main_arg0)
          ∧ r.2.mem ((c.tc : Thread Cert.XattnKvIdeal.nD Cert.XattnKvIdeal.τ).loc Cert.XattnKvIdeal.main_arg1) = m ((c.tc : Thread Cert.XattnKvIdeal.nD Cert.XattnKvIdeal.τ).loc Cert.XattnKvIdeal.main_arg1))
      ∧ θ_run (Cert.XattnKvRefIdeal.defs (F := Ideal)) (onTc (τ := Cert.XattnKvRefIdeal.τ) (Cert.XattnKvRefIdeal.main (F := Ideal))) ⟨m', fun _ => 0, g'⟩ (fun r => ∀ c : Dev Cert.XattnKvRefIdeal.nD,
          r.2.mem ((c.tc : Thread Cert.XattnKvRefIdeal.nD Cert.XattnKvRefIdeal.τ).loc Cert.XattnKvRefIdeal.main_v3) = v0 c
          ∧ r.2.mem ((c.tc : Thread Cert.XattnKvRefIdeal.nD Cert.XattnKvRefIdeal.τ).loc Cert.XattnKvRefIdeal.main_arg0) = m' ((c.tc : Thread Cert.XattnKvRefIdeal.nD Cert.XattnKvRefIdeal.τ).loc Cert.XattnKvRefIdeal.main_arg0)
          ∧ r.2.mem ((c.tc : Thread Cert.XattnKvRefIdeal.nD Cert.XattnKvRefIdeal.τ).loc Cert.XattnKvRefIdeal.main_arg1) = m' ((c.tc : Thread Cert.XattnKvRefIdeal.nD Cert.XattnKvRefIdeal.τ).loc Cert.XattnKvRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v3) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_ProjSq_ProjSqIdeal : Prop :=
  True

def algebraic_ProjSqIdeal_ProjSqRefIdeal [hProjSqIdeal : Cert.ProjSqIdeal.Facts] [hProjSqRefIdeal : Cert.ProjSqRefIdeal.Facts] : Prop :=
  ∀ (m : (ℓ : Loc Cert.ProjSqIdeal.nD Cert.ProjSqIdeal.τ Cert.ProjSqIdeal.sig) → Buf (Elt Ideal) ℓ) (g : Dev Cert.ProjSqIdeal.nD → PrngReg)
    (m' : (ℓ : Loc Cert.ProjSqRefIdeal.nD Cert.ProjSqRefIdeal.τ Cert.ProjSqRefIdeal.sig) → Buf (Elt Ideal) ℓ) (g' : Dev Cert.ProjSqRefIdeal.nD → PrngReg), Pre_ProjSqIdeal m →
    (∀ c : Dev Cert.ProjSqIdeal.nD,
      m' ((c.tc : Thread Cert.ProjSqRefIdeal.nD Cert.ProjSqRefIdeal.τ).loc Cert.ProjSqRefIdeal.main_arg0) = m ((c.tc : Thread Cert.ProjSqIdeal.nD Cert.ProjSqIdeal.τ).loc Cert.ProjSqIdeal.main_arg0)
      ∧ m' ((c.tc : Thread Cert.ProjSqRefIdeal.nD Cert.ProjSqRefIdeal.τ).loc Cert.ProjSqRefIdeal.main_arg1) = m ((c.tc : Thread Cert.ProjSqIdeal.nD Cert.ProjSqIdeal.τ).loc Cert.ProjSqIdeal.main_arg1)) →
    ∃ (v0 : (c : Dev Cert.ProjSqIdeal.nD) → Buf (Elt Ideal) ((c.tc : Thread Cert.ProjSqIdeal.nD Cert.ProjSqIdeal.τ).loc Cert.ProjSqIdeal.main_v0)),
      θ_run (Cert.ProjSqIdeal.defs (F := Ideal)) (onTc (τ := Cert.ProjSqIdeal.τ) (Cert.ProjSqIdeal.main (F := Ideal))) ⟨m, fun _ => 0, g⟩ (fun r => ∀ c : Dev Cert.ProjSqIdeal.nD,
          r.2.mem ((c.tc : Thread Cert.ProjSqIdeal.nD Cert.ProjSqIdeal.τ).loc Cert.ProjSqIdeal.main_v0) = v0 c
          ∧ r.2.mem ((c.tc : Thread Cert.ProjSqIdeal.nD Cert.ProjSqIdeal.τ).loc Cert.ProjSqIdeal.main_arg0) = m ((c.tc : Thread Cert.ProjSqIdeal.nD Cert.ProjSqIdeal.τ).loc Cert.ProjSqIdeal.main_arg0)
          ∧ r.2.mem ((c.tc : Thread Cert.ProjSqIdeal.nD Cert.ProjSqIdeal.τ).loc Cert.ProjSqIdeal.main_arg1) = m ((c.tc : Thread Cert.ProjSqIdeal.nD Cert.ProjSqIdeal.τ).loc Cert.ProjSqIdeal.main_arg1))
      ∧ θ_run (Cert.ProjSqRefIdeal.defs (F := Ideal)) (onTc (τ := Cert.ProjSqRefIdeal.τ) (Cert.ProjSqRefIdeal.main (F := Ideal))) ⟨m', fun _ => 0, g'⟩ (fun r => ∀ c : Dev Cert.ProjSqRefIdeal.nD,
          r.2.mem ((c.tc : Thread Cert.ProjSqRefIdeal.nD Cert.ProjSqRefIdeal.τ).loc Cert.ProjSqRefIdeal.main_v2) = v0 c
          ∧ r.2.mem ((c.tc : Thread Cert.ProjSqRefIdeal.nD Cert.ProjSqRefIdeal.τ).loc Cert.ProjSqRefIdeal.main_arg0) = m' ((c.tc : Thread Cert.ProjSqRefIdeal.nD Cert.ProjSqRefIdeal.τ).loc Cert.ProjSqRefIdeal.main_arg0)
          ∧ r.2.mem ((c.tc : Thread Cert.ProjSqRefIdeal.nD Cert.ProjSqRefIdeal.τ).loc Cert.ProjSqRefIdeal.main_arg1) = m' ((c.tc : Thread Cert.ProjSqRefIdeal.nD Cert.ProjSqRefIdeal.τ).loc Cert.ProjSqRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v3) = v0 c
          ∧ r.2.mem ((c.tc : Thread Cert.MixOutRefIdeal.nD Cert.MixOutRefIdeal.τ).loc Cert.MixOutRefIdeal.main_v18) = v1 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3))

def preserves_LossDown_LossDownIdeal : Prop :=
  True

def algebraic_LossDownIdeal_LossDownRefIdeal [hLossDownIdeal : Cert.LossDownIdeal.Facts] [hLossDownRefIdeal : Cert.LossDownRefIdeal.Facts] : Prop :=
  ∀ (m : (ℓ : Loc Cert.LossDownIdeal.nD Cert.LossDownIdeal.τ Cert.LossDownIdeal.sig) → Buf (Elt Ideal) ℓ) (g : Dev Cert.LossDownIdeal.nD → PrngReg)
    (m' : (ℓ : Loc Cert.LossDownRefIdeal.nD Cert.LossDownRefIdeal.τ Cert.LossDownRefIdeal.sig) → Buf (Elt Ideal) ℓ) (g' : Dev Cert.LossDownRefIdeal.nD → PrngReg), Pre_LossDownIdeal m →
    (∀ c : Dev Cert.LossDownIdeal.nD,
      m' ((c.tc : Thread Cert.LossDownRefIdeal.nD Cert.LossDownRefIdeal.τ).loc Cert.LossDownRefIdeal.main_arg0) = m ((c.tc : Thread Cert.LossDownIdeal.nD Cert.LossDownIdeal.τ).loc Cert.LossDownIdeal.main_arg0)
      ∧ m' ((c.tc : Thread Cert.LossDownRefIdeal.nD Cert.LossDownRefIdeal.τ).loc Cert.LossDownRefIdeal.main_arg1) = m ((c.tc : Thread Cert.LossDownIdeal.nD Cert.LossDownIdeal.τ).loc Cert.LossDownIdeal.main_arg1)
      ∧ m' ((c.tc : Thread Cert.LossDownRefIdeal.nD Cert.LossDownRefIdeal.τ).loc Cert.LossDownRefIdeal.main_arg2) = m ((c.tc : Thread Cert.LossDownIdeal.nD Cert.LossDownIdeal.τ).loc Cert.LossDownIdeal.main_arg2)
      ∧ m' ((c.tc : Thread Cert.LossDownRefIdeal.nD Cert.LossDownRefIdeal.τ).loc Cert.LossDownRefIdeal.main_arg3) = m ((c.tc : Thread Cert.LossDownIdeal.nD Cert.LossDownIdeal.τ).loc Cert.LossDownIdeal.main_arg3)) →
    ∃ (v0 : (c : Dev Cert.LossDownIdeal.nD) → Buf (Elt Ideal) ((c.tc : Thread Cert.LossDownIdeal.nD Cert.LossDownIdeal.τ).loc Cert.LossDownIdeal.main_v0_0)) (v1 : (c : Dev Cert.LossDownIdeal.nD) → Buf (Elt Ideal) ((c.tc : Thread Cert.LossDownIdeal.nD Cert.LossDownIdeal.τ).loc Cert.LossDownIdeal.main_v0_1)) (v2 : (c : Dev Cert.LossDownIdeal.nD) → Buf (Elt Ideal) ((c.tc : Thread Cert.LossDownIdeal.nD Cert.LossDownIdeal.τ).loc Cert.LossDownIdeal.main_v0_2)),
      θ_run (Cert.LossDownIdeal.defs (F := Ideal)) (onTc (τ := Cert.LossDownIdeal.τ) (Cert.LossDownIdeal.main (F := Ideal))) ⟨m, fun _ => 0, g⟩ (fun r => ∀ c : Dev Cert.LossDownIdeal.nD,
          r.2.mem ((c.tc : Thread Cert.LossDownIdeal.nD Cert.LossDownIdeal.τ).loc Cert.LossDownIdeal.main_v0_0) = v0 c
          ∧ r.2.mem ((c.tc : Thread Cert.LossDownIdeal.nD Cert.LossDownIdeal.τ).loc Cert.LossDownIdeal.main_v0_1) = v1 c
          ∧ r.2.mem ((c.tc : Thread Cert.LossDownIdeal.nD Cert.LossDownIdeal.τ).loc Cert.LossDownIdeal.main_v0_2) = v2 c
          ∧ r.2.mem ((c.tc : Thread Cert.LossDownIdeal.nD Cert.LossDownIdeal.τ).loc Cert.LossDownIdeal.main_arg0) = m ((c.tc : Thread Cert.LossDownIdeal.nD Cert.LossDownIdeal.τ).loc Cert.LossDownIdeal.main_arg0)
          ∧ r.2.mem ((c.tc : Thread Cert.LossDownIdeal.nD Cert.LossDownIdeal.τ).loc Cert.LossDownIdeal.main_arg1) = m ((c.tc : Thread Cert.LossDownIdeal.nD Cert.LossDownIdeal.τ).loc Cert.LossDownIdeal.main_arg1)
          ∧ r.2.mem ((c.tc : Thread Cert.LossDownIdeal.nD Cert.LossDownIdeal.τ).loc Cert.LossDownIdeal.main_arg2) = m ((c.tc : Thread Cert.LossDownIdeal.nD Cert.LossDownIdeal.τ).loc Cert.LossDownIdeal.main_arg2)
          ∧ r.2.mem ((c.tc : Thread Cert.LossDownIdeal.nD Cert.LossDownIdeal.τ).loc Cert.LossDownIdeal.main_arg3) = m ((c.tc : Thread Cert.LossDownIdeal.nD Cert.LossDownIdeal.τ).loc Cert.LossDownIdeal.main_arg3))
      ∧ θ_run (Cert.LossDownRefIdeal.defs (F := Ideal)) (onTc (τ := Cert.LossDownRefIdeal.τ) (Cert.LossDownRefIdeal.main (F := Ideal))) ⟨m', fun _ => 0, g'⟩ (fun r => ∀ c : Dev Cert.LossDownRefIdeal.nD,
          r.2.mem ((c.tc : Thread Cert.LossDownRefIdeal.nD Cert.LossDownRefIdeal.τ).loc Cert.LossDownRefIdeal.main_v18) = v0 c
          ∧ r.2.mem ((c.tc : Thread Cert.LossDownRefIdeal.nD Cert.LossDownRefIdeal.τ).loc Cert.LossDownRefIdeal.main_v19) = v1 c
          ∧ r.2.mem ((c.tc : Thread Cert.LossDownRefIdeal.nD Cert.LossDownRefIdeal.τ).loc Cert.LossDownRefIdeal.main_v20) = v2 c
          ∧ r.2.mem ((c.tc : Thread Cert.LossDownRefIdeal.nD Cert.LossDownRefIdeal.τ).loc Cert.LossDownRefIdeal.main_arg0) = m' ((c.tc : Thread Cert.LossDownRefIdeal.nD Cert.LossDownRefIdeal.τ).loc Cert.LossDownRefIdeal.main_arg0)
          ∧ r.2.mem ((c.tc : Thread Cert.LossDownRefIdeal.nD Cert.LossDownRefIdeal.τ).loc Cert.LossDownRefIdeal.main_arg1) = m' ((c.tc : Thread Cert.LossDownRefIdeal.nD Cert.LossDownRefIdeal.τ).loc Cert.LossDownRefIdeal.main_arg1)
          ∧ r.2.mem ((c.tc : Thread Cert.LossDownRefIdeal.nD Cert.LossDownRefIdeal.τ).loc Cert.LossDownRefIdeal.main_arg2) = m' ((c.tc : Thread Cert.LossDownRefIdeal.nD Cert.LossDownRefIdeal.τ).loc Cert.LossDownRefIdeal.main_arg2)
          ∧ r.2.mem ((c.tc : Thread Cert.LossDownRefIdeal.nD Cert.LossDownRefIdeal.τ).loc Cert.LossDownRefIdeal.main_arg3) = m' ((c.tc : Thread Cert.LossDownRefIdeal.nD Cert.LossDownRefIdeal.τ).loc Cert.LossDownRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v38) = v0 c
          ∧ r.2.mem ((c.tc : Thread Cert.NormBwdRefIdeal.nD Cert.NormBwdRefIdeal.τ).loc Cert.NormBwdRefIdeal.main_v39) = v1 c
          ∧ r.2.mem ((c.tc : Thread Cert.NormBwdRefIdeal.nD Cert.NormBwdRefIdeal.τ).loc Cert.NormBwdRefIdeal.main_v37) = v2 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormMixBwd_NormMixBwdIdeal : Prop :=
  True

def algebraic_NormMixBwdIdeal_NormMixBwdRefIdeal [hNormMixBwdIdeal : Cert.NormMixBwdIdeal.Facts] [hNormMixBwdRefIdeal : Cert.NormMixBwdRefIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdRefIdeal.nD Cert.NormMixBwdRefIdeal.τ Cert.NormMixBwdRefIdeal.sig) → Buf (Elt Ideal) ℓ) (g' : Dev Cert.NormMixBwdRefIdeal.nD → PrngReg), Pre_NormMixBwdIdeal m →
    (∀ c : Dev Cert.NormMixBwdIdeal.nD,
      m' ((c.tc : Thread Cert.NormMixBwdRefIdeal.nD Cert.NormMixBwdRefIdeal.τ).loc Cert.NormMixBwdRefIdeal.main_arg0) = m ((c.tc : Thread Cert.NormMixBwdIdeal.nD Cert.NormMixBwdIdeal.τ).loc Cert.NormMixBwdIdeal.main_arg0)
      ∧ m' ((c.tc : Thread Cert.NormMixBwdRefIdeal.nD Cert.NormMixBwdRefIdeal.τ).loc Cert.NormMixBwdRefIdeal.main_arg1) = m ((c.tc : Thread Cert.NormMixBwdIdeal.nD Cert.NormMixBwdIdeal.τ).loc Cert.NormMixBwdIdeal.main_arg1)
      ∧ m' ((c.tc : Thread Cert.NormMixBwdRefIdeal.nD Cert.NormMixBwdRefIdeal.τ).loc Cert.NormMixBwdRefIdeal.main_arg2) = m ((c.tc : Thread Cert.NormMixBwdIdeal.nD Cert.NormMixBwdIdeal.τ).loc Cert.NormMixBwdIdeal.main_arg2)
      ∧ m' ((c.tc : Thread Cert.NormMixBwdRefIdeal.nD Cert.NormMixBwdRefIdeal.τ).loc Cert.NormMixBwdRefIdeal.main_arg3) = m ((c.tc : Thread Cert.NormMixBwdIdeal.nD Cert.NormMixBwdIdeal.τ).loc Cert.NormMixBwdIdeal.main_arg3)) →
    ∃ (v0 : (c : Dev Cert.NormMixBwdIdeal.nD) → Buf (Elt Ideal) ((c.tc : Thread Cert.NormMixBwdIdeal.nD Cert.NormMixBwdIdeal.τ).loc Cert.NormMixBwdIdeal.main_v0_0)) (v1 : (c : Dev Cert.NormMixBwdIdeal.nD) → Buf (Elt Ideal) ((c.tc : Thread Cert.NormMixBwdIdeal.nD Cert.NormMixBwdIdeal.τ).loc Cert.NormMixBwdIdeal.main_v0_1)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v0_0) = v0 c
          ∧ r.2.mem ((c.tc : Thread Cert.NormMixBwdIdeal.nD Cert.NormMixBwdIdeal.τ).loc Cert.NormMixBwdIdeal.main_v0_1) = v1 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ θ_run (Cert.NormMixBwdRefIdeal.defs (F := Ideal)) (onTc (τ := Cert.NormMixBwdRefIdeal.τ) (Cert.NormMixBwdRefIdeal.main (F := Ideal))) ⟨m', fun _ => 0, g'⟩ (fun r => ∀ c : Dev Cert.NormMixBwdRefIdeal.nD,
          r.2.mem ((c.tc : Thread Cert.NormMixBwdRefIdeal.nD Cert.NormMixBwdRefIdeal.τ).loc Cert.NormMixBwdRefIdeal.main_v38) = v0 c
          ∧ r.2.mem ((c.tc : Thread Cert.NormMixBwdRefIdeal.nD Cert.NormMixBwdRefIdeal.τ).loc Cert.NormMixBwdRefIdeal.main_v37) = v1 c
          ∧ r.2.mem ((c.tc : Thread Cert.NormMixBwdRefIdeal.nD Cert.NormMixBwdRefIdeal.τ).loc Cert.NormMixBwdRefIdeal.main_arg0) = m' ((c.tc : Thread Cert.NormMixBwdRefIdeal.nD Cert.NormMixBwdRefIdeal.τ).loc Cert.NormMixBwdRefIdeal.main_arg0)
          ∧ r.2.mem ((c.tc : Thread Cert.NormMixBwdRefIdeal.nD Cert.NormMixBwdRefIdeal.τ).loc Cert.NormMixBwdRefIdeal.main_arg1) = m' ((c.tc : Thread Cert.NormMixBwdRefIdeal.nD Cert.NormMixBwdRefIdeal.τ).loc Cert.NormMixBwdRefIdeal.main_arg1)
          ∧ r.2.mem ((c.tc : Thread Cert.NormMixBwdRefIdeal.nD Cert.NormMixBwdRefIdeal.τ).loc Cert.NormMixBwdRefIdeal.main_arg2) = m' ((c.tc : Thread Cert.NormMixBwdRefIdeal.nD Cert.NormMixBwdRefIdeal.τ).loc Cert.NormMixBwdRefIdeal.main_arg2)
          ∧ r.2.mem ((c.tc : Thread Cert.NormMixBwdRefIdeal.nD Cert.NormMixBwdRefIdeal.τ).loc Cert.NormMixBwdRefIdeal.main_arg3) = m' ((c.tc : Thread Cert.NormMixBwdRefIdeal.nD Cert.NormMixBwdRefIdeal.τ).loc Cert.NormMixBwdRefIdeal.main_arg3))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v0)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0) = v0 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v18) = v0 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v32) = v0 c
          ∧ r.2.mem ((c.tc : Thread Cert.MergeBwdRefIdeal.nD Cert.MergeBwdRefIdeal.τ).loc Cert.MergeBwdRefIdeal.main_v33) = v1 c
          ∧ r.2.mem ((c.tc : Thread Cert.MergeBwdRefIdeal.nD Cert.MergeBwdRefIdeal.τ).loc Cert.MergeBwdRefIdeal.main_v34) = v2 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2))

def preserves_NormMix_NormMixIdeal : Prop :=
  True

def algebraic_NormMixIdeal_NormMixRefIdeal [hNormMixIdeal : Cert.NormMixIdeal.Facts] [hNormMixRefIdeal : Cert.NormMixRefIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixRefIdeal.nD Cert.NormMixRefIdeal.τ Cert.NormMixRefIdeal.sig) → Buf (Elt Ideal) ℓ) (g' : Dev Cert.NormMixRefIdeal.nD → PrngReg), Pre_NormMixIdeal m →
    (∀ c : Dev Cert.NormMixIdeal.nD,
      m' ((c.tc : Thread Cert.NormMixRefIdeal.nD Cert.NormMixRefIdeal.τ).loc Cert.NormMixRefIdeal.main_arg0) = m ((c.tc : Thread Cert.NormMixIdeal.nD Cert.NormMixIdeal.τ).loc Cert.NormMixIdeal.main_arg0)
      ∧ m' ((c.tc : Thread Cert.NormMixRefIdeal.nD Cert.NormMixRefIdeal.τ).loc Cert.NormMixRefIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixRefIdeal.defs (F := Ideal)) (onTc (τ := Cert.NormMixRefIdeal.τ) (Cert.NormMixRefIdeal.main (F := Ideal))) ⟨m', fun _ => 0, g'⟩ (fun r => ∀ c : Dev Cert.NormMixRefIdeal.nD,
          r.2.mem ((c.tc : Thread Cert.NormMixRefIdeal.nD Cert.NormMixRefIdeal.τ).loc Cert.NormMixRefIdeal.main_v14) = v0 c
          ∧ r.2.mem ((c.tc : Thread Cert.NormMixRefIdeal.nD Cert.NormMixRefIdeal.τ).loc Cert.NormMixRefIdeal.main_arg0) = m' ((c.tc : Thread Cert.NormMixRefIdeal.nD Cert.NormMixRefIdeal.τ).loc Cert.NormMixRefIdeal.main_arg0)
          ∧ r.2.mem ((c.tc : Thread Cert.NormMixRefIdeal.nD Cert.NormMixRefIdeal.τ).loc Cert.NormMixRefIdeal.main_arg1) = m' ((c.tc : Thread Cert.NormMixRefIdeal.nD Cert.NormMixRefIdeal.τ).loc Cert.NormMixRefIdeal.main_arg1))

def preserves_NormMem_NormMemIdeal : Prop :=
  True

def algebraic_NormMemIdeal_NormMemRefIdeal [hNormMemIdeal : Cert.NormMemIdeal.Facts] [hNormMemRefIdeal : Cert.NormMemRefIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemRefIdeal.nD Cert.NormMemRefIdeal.τ Cert.NormMemRefIdeal.sig) → Buf (Elt Ideal) ℓ) (g' : Dev Cert.NormMemRefIdeal.nD → PrngReg), Pre_NormMemIdeal m →
    (∀ c : Dev Cert.NormMemIdeal.nD,
      m' ((c.tc : Thread Cert.NormMemRefIdeal.nD Cert.NormMemRefIdeal.τ).loc Cert.NormMemRefIdeal.main_arg0) = m ((c.tc : Thread Cert.NormMemIdeal.nD Cert.NormMemIdeal.τ).loc Cert.NormMemIdeal.main_arg0)
      ∧ m' ((c.tc : Thread Cert.NormMemRefIdeal.nD Cert.NormMemRefIdeal.τ).loc Cert.NormMemRefIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemRefIdeal.defs (F := Ideal)) (onTc (τ := Cert.NormMemRefIdeal.τ) (Cert.NormMemRefIdeal.main (F := Ideal))) ⟨m', fun _ => 0, g'⟩ (fun r => ∀ c : Dev Cert.NormMemRefIdeal.nD,
          r.2.mem ((c.tc : Thread Cert.NormMemRefIdeal.nD Cert.NormMemRefIdeal.τ).loc Cert.NormMemRefIdeal.main_v14) = v0 c
          ∧ r.2.mem ((c.tc : Thread Cert.NormMemRefIdeal.nD Cert.NormMemRefIdeal.τ).loc Cert.NormMemRefIdeal.main_arg0) = m' ((c.tc : Thread Cert.NormMemRefIdeal.nD Cert.NormMemRefIdeal.τ).loc Cert.NormMemRefIdeal.main_arg0)
          ∧ r.2.mem ((c.tc : Thread Cert.NormMemRefIdeal.nD Cert.NormMemRefIdeal.τ).loc Cert.NormMemRefIdeal.main_arg1) = m' ((c.tc : Thread Cert.NormMemRefIdeal.nD Cert.NormMemRefIdeal.τ).loc Cert.NormMemRefIdeal.main_arg1))

def preserves_XattnFwd_XattnFwdIdeal : Prop :=
  True

def algebraic_XattnFwdIdeal_XattnFwdRefIdeal [hXattnFwdIdeal : Cert.XattnFwdIdeal.Facts] [hXattnFwdRefIdeal : Cert.XattnFwdRefIdeal.Facts] : Prop :=
  ∀ (m : (ℓ : Loc Cert.XattnFwdIdeal.nD Cert.XattnFwdIdeal.τ Cert.XattnFwdIdeal.sig) → Buf (Elt Ideal) ℓ) (g : Dev Cert.XattnFwdIdeal.nD → PrngReg)
    (m' : (ℓ : Loc Cert.XattnFwdRefIdeal.nD Cert.XattnFwdRefIdeal.τ Cert.XattnFwdRefIdeal.sig) → Buf (Elt Ideal) ℓ) (g' : Dev Cert.XattnFwdRefIdeal.nD → PrngReg), Pre_XattnFwdIdeal m →
    (∀ c : Dev Cert.XattnFwdIdeal.nD,
      m' ((c.tc : Thread Cert.XattnFwdRefIdeal.nD Cert.XattnFwdRefIdeal.τ).loc Cert.XattnFwdRefIdeal.main_arg0) = m ((c.tc : Thread Cert.XattnFwdIdeal.nD Cert.XattnFwdIdeal.τ).loc Cert.XattnFwdIdeal.main_arg0)
      ∧ m' ((c.tc : Thread Cert.XattnFwdRefIdeal.nD Cert.XattnFwdRefIdeal.τ).loc Cert.XattnFwdRefIdeal.main_arg1) = m ((c.tc : Thread Cert.XattnFwdIdeal.nD Cert.XattnFwdIdeal.τ).loc Cert.XattnFwdIdeal.main_arg1)
      ∧ m' ((c.tc : Thread Cert.XattnFwdRefIdeal.nD Cert.XattnFwdRefIdeal.τ).loc Cert.XattnFwdRefIdeal.main_arg2) = m ((c.tc : Thread Cert.XattnFwdIdeal.nD Cert.XattnFwdIdeal.τ).loc Cert.XattnFwdIdeal.main_arg2)
      ∧ m' ((c.tc : Thread Cert.XattnFwdRefIdeal.nD Cert.XattnFwdRefIdeal.τ).loc Cert.XattnFwdRefIdeal.main_arg3) = m ((c.tc : Thread Cert.XattnFwdIdeal.nD Cert.XattnFwdIdeal.τ).loc Cert.XattnFwdIdeal.main_arg3)) →
    ∃ (v0 : (c : Dev Cert.XattnFwdIdeal.nD) → Buf (Elt Ideal) ((c.tc : Thread Cert.XattnFwdIdeal.nD Cert.XattnFwdIdeal.τ).loc Cert.XattnFwdIdeal.main_v0)),
      θ_run (Cert.XattnFwdIdeal.defs (F := Ideal)) (onTc (τ := Cert.XattnFwdIdeal.τ) (Cert.XattnFwdIdeal.main (F := Ideal))) ⟨m, fun _ => 0, g⟩ (fun r => ∀ c : Dev Cert.XattnFwdIdeal.nD,
          r.2.mem ((c.tc : Thread Cert.XattnFwdIdeal.nD Cert.XattnFwdIdeal.τ).loc Cert.XattnFwdIdeal.main_v0) = v0 c
          ∧ r.2.mem ((c.tc : Thread Cert.XattnFwdIdeal.nD Cert.XattnFwdIdeal.τ).loc Cert.XattnFwdIdeal.main_arg0) = m ((c.tc : Thread Cert.XattnFwdIdeal.nD Cert.XattnFwdIdeal.τ).loc Cert.XattnFwdIdeal.main_arg0)
          ∧ r.2.mem ((c.tc : Thread Cert.XattnFwdIdeal.nD Cert.XattnFwdIdeal.τ).loc Cert.XattnFwdIdeal.main_arg1) = m ((c.tc : Thread Cert.XattnFwdIdeal.nD Cert.XattnFwdIdeal.τ).loc Cert.XattnFwdIdeal.main_arg1)
          ∧ r.2.mem ((c.tc : Thread Cert.XattnFwdIdeal.nD Cert.XattnFwdIdeal.τ).loc Cert.XattnFwdIdeal.main_arg2) = m ((c.tc : Thread Cert.XattnFwdIdeal.nD Cert.XattnFwdIdeal.τ).loc Cert.XattnFwdIdeal.main_arg2)
          ∧ r.2.mem ((c.tc : Thread Cert.XattnFwdIdeal.nD Cert.XattnFwdIdeal.τ).loc Cert.XattnFwdIdeal.main_arg3) = m ((c.tc : Thread Cert.XattnFwdIdeal.nD Cert.XattnFwdIdeal.τ).loc Cert.XattnFwdIdeal.main_arg3))
      ∧ θ_run (Cert.XattnFwdRefIdeal.defs (F := Ideal)) (onTc (τ := Cert.XattnFwdRefIdeal.τ) (Cert.XattnFwdRefIdeal.main (F := Ideal))) ⟨m', fun _ => 0, g'⟩ (fun r => ∀ c : Dev Cert.XattnFwdRefIdeal.nD,
          r.2.mem ((c.tc : Thread Cert.XattnFwdRefIdeal.nD Cert.XattnFwdRefIdeal.τ).loc Cert.XattnFwdRefIdeal.main_v50) = v0 c
          ∧ r.2.mem ((c.tc : Thread Cert.XattnFwdRefIdeal.nD Cert.XattnFwdRefIdeal.τ).loc Cert.XattnFwdRefIdeal.main_arg0) = m' ((c.tc : Thread Cert.XattnFwdRefIdeal.nD Cert.XattnFwdRefIdeal.τ).loc Cert.XattnFwdRefIdeal.main_arg0)
          ∧ r.2.mem ((c.tc : Thread Cert.XattnFwdRefIdeal.nD Cert.XattnFwdRefIdeal.τ).loc Cert.XattnFwdRefIdeal.main_arg1) = m' ((c.tc : Thread Cert.XattnFwdRefIdeal.nD Cert.XattnFwdRefIdeal.τ).loc Cert.XattnFwdRefIdeal.main_arg1)
          ∧ r.2.mem ((c.tc : Thread Cert.XattnFwdRefIdeal.nD Cert.XattnFwdRefIdeal.τ).loc Cert.XattnFwdRefIdeal.main_arg2) = m' ((c.tc : Thread Cert.XattnFwdRefIdeal.nD Cert.XattnFwdRefIdeal.τ).loc Cert.XattnFwdRefIdeal.main_arg2)
          ∧ r.2.mem ((c.tc : Thread Cert.XattnFwdRefIdeal.nD Cert.XattnFwdRefIdeal.τ).loc Cert.XattnFwdRefIdeal.main_arg3) = m' ((c.tc : Thread Cert.XattnFwdRefIdeal.nD Cert.XattnFwdRefIdeal.τ).loc Cert.XattnFwdRefIdeal.main_arg3))

def preserves_FfnConv_FfnConvIdeal : Prop :=
  True

def algebraic_FfnConvIdeal_FfnConvRefIdeal [hFfnConvIdeal : Cert.FfnConvIdeal.Facts] [hFfnConvRefIdeal : Cert.FfnConvRefIdeal.Facts] : Prop :=
  ∀ (m : (ℓ : Loc Cert.FfnConvIdeal.nD Cert.FfnConvIdeal.τ Cert.FfnConvIdeal.sig) → Buf (Elt Ideal) ℓ) (g : Dev Cert.FfnConvIdeal.nD → PrngReg)
    (m' : (ℓ : Loc Cert.FfnConvRefIdeal.nD Cert.FfnConvRefIdeal.τ Cert.FfnConvRefIdeal.sig) → Buf (Elt Ideal) ℓ) (g' : Dev Cert.FfnConvRefIdeal.nD → PrngReg), Pre_FfnConvIdeal m →
    (∀ c : Dev Cert.FfnConvIdeal.nD,
      m' ((c.tc : Thread Cert.FfnConvRefIdeal.nD Cert.FfnConvRefIdeal.τ).loc Cert.FfnConvRefIdeal.main_arg0) = m ((c.tc : Thread Cert.FfnConvIdeal.nD Cert.FfnConvIdeal.τ).loc Cert.FfnConvIdeal.main_arg0)
      ∧ m' ((c.tc : Thread Cert.FfnConvRefIdeal.nD Cert.FfnConvRefIdeal.τ).loc Cert.FfnConvRefIdeal.main_arg1) = m ((c.tc : Thread Cert.FfnConvIdeal.nD Cert.FfnConvIdeal.τ).loc Cert.FfnConvIdeal.main_arg1)) →
    ∃ (v0 : (c : Dev Cert.FfnConvIdeal.nD) → Buf (Elt Ideal) ((c.tc : Thread Cert.FfnConvIdeal.nD Cert.FfnConvIdeal.τ).loc Cert.FfnConvIdeal.main_v0)),
      θ_run (Cert.FfnConvIdeal.defs (F := Ideal)) (onTc (τ := Cert.FfnConvIdeal.τ) (Cert.FfnConvIdeal.main (F := Ideal))) ⟨m, fun _ => 0, g⟩ (fun r => ∀ c : Dev Cert.FfnConvIdeal.nD,
          r.2.mem ((c.tc : Thread Cert.FfnConvIdeal.nD Cert.FfnConvIdeal.τ).loc Cert.FfnConvIdeal.main_v0) = v0 c
          ∧ r.2.mem ((c.tc : Thread Cert.FfnConvIdeal.nD Cert.FfnConvIdeal.τ).loc Cert.FfnConvIdeal.main_arg0) = m ((c.tc : Thread Cert.FfnConvIdeal.nD Cert.FfnConvIdeal.τ).loc Cert.FfnConvIdeal.main_arg0)
          ∧ r.2.mem ((c.tc : Thread Cert.FfnConvIdeal.nD Cert.FfnConvIdeal.τ).loc Cert.FfnConvIdeal.main_arg1) = m ((c.tc : Thread Cert.FfnConvIdeal.nD Cert.FfnConvIdeal.τ).loc Cert.FfnConvIdeal.main_arg1))
      ∧ θ_run (Cert.FfnConvRefIdeal.defs (F := Ideal)) (onTc (τ := Cert.FfnConvRefIdeal.τ) (Cert.FfnConvRefIdeal.main (F := Ideal))) ⟨m', fun _ => 0, g'⟩ (fun r => ∀ c : Dev Cert.FfnConvRefIdeal.nD,
          r.2.mem ((c.tc : Thread Cert.FfnConvRefIdeal.nD Cert.FfnConvRefIdeal.τ).loc Cert.FfnConvRefIdeal.main_v35) = v0 c
          ∧ r.2.mem ((c.tc : Thread Cert.FfnConvRefIdeal.nD Cert.FfnConvRefIdeal.τ).loc Cert.FfnConvRefIdeal.main_arg0) = m' ((c.tc : Thread Cert.FfnConvRefIdeal.nD Cert.FfnConvRefIdeal.τ).loc Cert.FfnConvRefIdeal.main_arg0)
          ∧ r.2.mem ((c.tc : Thread Cert.FfnConvRefIdeal.nD Cert.FfnConvRefIdeal.τ).loc Cert.FfnConvRefIdeal.main_arg1) = m' ((c.tc : Thread Cert.FfnConvRefIdeal.nD Cert.FfnConvRefIdeal.τ).loc Cert.FfnConvRefIdeal.main_arg1))

def preserves_SibEarly_SibEarlyIdeal : Prop :=
  True

def algebraic_SibEarlyIdeal_SibEarlyRefIdeal [hSibEarlyIdeal : Cert.SibEarlyIdeal.Facts] [hSibEarlyRefIdeal : Cert.SibEarlyRefIdeal.Facts] : Prop :=
  ∀ (m : (ℓ : Loc Cert.SibEarlyIdeal.nD Cert.SibEarlyIdeal.τ Cert.SibEarlyIdeal.sig) → Buf (Elt Ideal) ℓ) (g : Dev Cert.SibEarlyIdeal.nD → PrngReg)
    (m' : (ℓ : Loc Cert.SibEarlyRefIdeal.nD Cert.SibEarlyRefIdeal.τ Cert.SibEarlyRefIdeal.sig) → Buf (Elt Ideal) ℓ) (g' : Dev Cert.SibEarlyRefIdeal.nD → PrngReg), Pre_SibEarlyIdeal m →
    (∀ c : Dev Cert.SibEarlyIdeal.nD,
      m ((c.tc : Thread Cert.SibEarlyIdeal.nD Cert.SibEarlyIdeal.τ).loc Cert.SibEarlyIdeal.main_arg0) = Layout.block ⟨3, ![8, 2048, 1024]⟩ ⟨3, ![64, 2048, 1024]⟩ 0 8 c (m' (((0 : Dev Cert.SibEarlyRefIdeal.nD).tc : Thread Cert.SibEarlyRefIdeal.nD Cert.SibEarlyRefIdeal.τ).loc Cert.SibEarlyRefIdeal.main_arg0))) →
    ∃ (v0 : Buf (Elt Ideal) (((0 : Dev Cert.SibEarlyRefIdeal.nD).tc : Thread Cert.SibEarlyRefIdeal.nD Cert.SibEarlyRefIdeal.τ).loc Cert.SibEarlyRefIdeal.main_v8)),
      θ_run (Cert.SibEarlyIdeal.defs (F := Ideal)) (onTc (τ := Cert.SibEarlyIdeal.τ) (Cert.SibEarlyIdeal.main (F := Ideal))) ⟨m, fun _ => 0, g⟩ (fun r => ∀ c : Dev Cert.SibEarlyIdeal.nD,
          r.2.mem ((c.tc : Thread Cert.SibEarlyIdeal.nD Cert.SibEarlyIdeal.τ).loc Cert.SibEarlyIdeal.main_v1) = Layout.block ⟨3, ![4, 2048, 1024]⟩ ⟨3, ![32, 2048, 1024]⟩ 0 8 c v0
          ∧ r.2.mem ((c.tc : Thread Cert.SibEarlyIdeal.nD Cert.SibEarlyIdeal.τ).loc Cert.SibEarlyIdeal.main_arg0) = m ((c.tc : Thread Cert.SibEarlyIdeal.nD Cert.SibEarlyIdeal.τ).loc Cert.SibEarlyIdeal.main_arg0))
      ∧ θ_run (Cert.SibEarlyRefIdeal.defs (F := Ideal)) (onTc (τ := Cert.SibEarlyRefIdeal.τ) (Cert.SibEarlyRefIdeal.main (F := Ideal))) ⟨m', fun _ => 0, g'⟩ (fun r =>
          r.2.mem (((0 : Dev Cert.SibEarlyRefIdeal.nD).tc : Thread Cert.SibEarlyRefIdeal.nD Cert.SibEarlyRefIdeal.τ).loc Cert.SibEarlyRefIdeal.main_v8) = v0
          ∧ r.2.mem (((0 : Dev Cert.SibEarlyRefIdeal.nD).tc : Thread Cert.SibEarlyRefIdeal.nD Cert.SibEarlyRefIdeal.τ).loc Cert.SibEarlyRefIdeal.main_arg0) = m' (((0 : Dev Cert.SibEarlyRefIdeal.nD).tc : Thread Cert.SibEarlyRefIdeal.nD Cert.SibEarlyRefIdeal.τ).loc Cert.SibEarlyRefIdeal.main_arg0))

def preserves_SibLate_SibLateIdeal : Prop :=
  True

def algebraic_SibLateIdeal_SibLateRefIdeal [hSibLateIdeal : Cert.SibLateIdeal.Facts] [hSibLateRefIdeal : Cert.SibLateRefIdeal.Facts] : Prop :=
  ∀ (m : (ℓ : Loc Cert.SibLateIdeal.nD Cert.SibLateIdeal.τ Cert.SibLateIdeal.sig) → Buf (Elt Ideal) ℓ) (g : Dev Cert.SibLateIdeal.nD → PrngReg)
    (m' : (ℓ : Loc Cert.SibLateRefIdeal.nD Cert.SibLateRefIdeal.τ Cert.SibLateRefIdeal.sig) → Buf (Elt Ideal) ℓ) (g' : Dev Cert.SibLateRefIdeal.nD → PrngReg), Pre_SibLateIdeal m →
    (∀ c : Dev Cert.SibLateIdeal.nD,
      m ((c.tc : Thread Cert.SibLateIdeal.nD Cert.SibLateIdeal.τ).loc Cert.SibLateIdeal.main_arg0) = Layout.block ⟨3, ![8, 1280, 1024]⟩ ⟨3, ![64, 1280, 1024]⟩ 0 8 c (m' (((0 : Dev Cert.SibLateRefIdeal.nD).tc : Thread Cert.SibLateRefIdeal.nD Cert.SibLateRefIdeal.τ).loc Cert.SibLateRefIdeal.main_arg0))) →
    ∃ (v0 : Buf (Elt Ideal) (((0 : Dev Cert.SibLateRefIdeal.nD).tc : Thread Cert.SibLateRefIdeal.nD Cert.SibLateRefIdeal.τ).loc Cert.SibLateRefIdeal.main_v8)),
      θ_run (Cert.SibLateIdeal.defs (F := Ideal)) (onTc (τ := Cert.SibLateIdeal.τ) (Cert.SibLateIdeal.main (F := Ideal))) ⟨m, fun _ => 0, g⟩ (fun r => ∀ c : Dev Cert.SibLateIdeal.nD,
          r.2.mem ((c.tc : Thread Cert.SibLateIdeal.nD Cert.SibLateIdeal.τ).loc Cert.SibLateIdeal.main_v1) = Layout.block ⟨3, ![4, 1280, 1024]⟩ ⟨3, ![32, 1280, 1024]⟩ 0 8 c v0
          ∧ r.2.mem ((c.tc : Thread Cert.SibLateIdeal.nD Cert.SibLateIdeal.τ).loc Cert.SibLateIdeal.main_arg0) = m ((c.tc : Thread Cert.SibLateIdeal.nD Cert.SibLateIdeal.τ).loc Cert.SibLateIdeal.main_arg0))
      ∧ θ_run (Cert.SibLateRefIdeal.defs (F := Ideal)) (onTc (τ := Cert.SibLateRefIdeal.τ) (Cert.SibLateRefIdeal.main (F := Ideal))) ⟨m', fun _ => 0, g'⟩ (fun r =>
          r.2.mem (((0 : Dev Cert.SibLateRefIdeal.nD).tc : Thread Cert.SibLateRefIdeal.nD Cert.SibLateRefIdeal.τ).loc Cert.SibLateRefIdeal.main_v8) = v0
          ∧ r.2.mem (((0 : Dev Cert.SibLateRefIdeal.nD).tc : Thread Cert.SibLateRefIdeal.nD Cert.SibLateRefIdeal.τ).loc Cert.SibLateRefIdeal.main_arg0) = m' (((0 : Dev Cert.SibLateRefIdeal.nD).tc : Thread Cert.SibLateRefIdeal.nD Cert.SibLateRefIdeal.τ).loc Cert.SibLateRefIdeal.main_arg0))

def preserves_DXn_DXnIdeal : Prop :=
  True

def algebraic_DXnIdeal_DXnRefIdeal [hDXnIdeal : Cert.DXnIdeal.Facts] [hDXnRefIdeal : Cert.DXnRefIdeal.Facts] : Prop :=
  ∀ (m : (ℓ : Loc Cert.DXnIdeal.nD Cert.DXnIdeal.τ Cert.DXnIdeal.sig) → Buf (Elt Ideal) ℓ) (g : Dev Cert.DXnIdeal.nD → PrngReg)
    (m' : (ℓ : Loc Cert.DXnRefIdeal.nD Cert.DXnRefIdeal.τ Cert.DXnRefIdeal.sig) → Buf (Elt Ideal) ℓ) (g' : Dev Cert.DXnRefIdeal.nD → PrngReg), Pre_DXnIdeal m →
    (∀ c : Dev Cert.DXnIdeal.nD,
      m ((c.tc : Thread Cert.DXnIdeal.nD Cert.DXnIdeal.τ).loc Cert.DXnIdeal.main_arg0) = Layout.block ⟨2, ![8192, 3072]⟩ ⟨2, ![65536, 3072]⟩ 0 8 c (m' (((0 : Dev Cert.DXnRefIdeal.nD).tc : Thread Cert.DXnRefIdeal.nD Cert.DXnRefIdeal.τ).loc Cert.DXnRefIdeal.main_arg0))
      ∧ m ((c.tc : Thread Cert.DXnIdeal.nD Cert.DXnIdeal.τ).loc Cert.DXnIdeal.main_arg1) = Layout.block ⟨2, ![8192, 128]⟩ ⟨2, ![65536, 128]⟩ 0 8 c (m' (((0 : Dev Cert.DXnRefIdeal.nD).tc : Thread Cert.DXnRefIdeal.nD Cert.DXnRefIdeal.τ).loc Cert.DXnRefIdeal.main_arg1))
      ∧ m ((c.tc : Thread Cert.DXnIdeal.nD Cert.DXnIdeal.τ).loc Cert.DXnIdeal.main_arg2) = Layout.block ⟨2, ![8192, 1024]⟩ ⟨2, ![65536, 1024]⟩ 0 8 c (m' (((0 : Dev Cert.DXnRefIdeal.nD).tc : Thread Cert.DXnRefIdeal.nD Cert.DXnRefIdeal.τ).loc Cert.DXnRefIdeal.main_arg2))
      ∧ m ((c.tc : Thread Cert.DXnIdeal.nD Cert.DXnIdeal.τ).loc Cert.DXnIdeal.main_arg3) = Layout.block ⟨2, ![8192, 1024]⟩ ⟨2, ![65536, 1024]⟩ 0 8 c (m' (((0 : Dev Cert.DXnRefIdeal.nD).tc : Thread Cert.DXnRefIdeal.nD Cert.DXnRefIdeal.τ).loc Cert.DXnRefIdeal.main_arg3))
      ∧ m ((c.tc : Thread Cert.DXnIdeal.nD Cert.DXnIdeal.τ).loc Cert.DXnIdeal.main_arg4) = Layout.block ⟨2, ![8192, 1024]⟩ ⟨2, ![65536, 1024]⟩ 0 8 c (m' (((0 : Dev Cert.DXnRefIdeal.nD).tc : Thread Cert.DXnRefIdeal.nD Cert.DXnRefIdeal.τ).loc Cert.DXnRefIdeal.main_arg4))
      ∧ m ((c.tc : Thread Cert.DXnIdeal.nD Cert.DXnIdeal.τ).loc Cert.DXnIdeal.main_arg5) = Layout.block ⟨2, ![8192, 1024]⟩ ⟨2, ![65536, 1024]⟩ 0 8 c (m' (((0 : Dev Cert.DXnRefIdeal.nD).tc : Thread Cert.DXnRefIdeal.nD Cert.DXnRefIdeal.τ).loc Cert.DXnRefIdeal.main_arg5))
      ∧ m ((c.tc : Thread Cert.DXnIdeal.nD Cert.DXnIdeal.τ).loc Cert.DXnIdeal.main_arg6) = Layout.block ⟨2, ![8192, 2048]⟩ ⟨2, ![65536, 2048]⟩ 0 8 c (m' (((0 : Dev Cert.DXnRefIdeal.nD).tc : Thread Cert.DXnRefIdeal.nD Cert.DXnRefIdeal.τ).loc Cert.DXnRefIdeal.main_arg6))
      ∧ m ((c.tc : Thread Cert.DXnIdeal.nD Cert.DXnIdeal.τ).loc Cert.DXnIdeal.main_arg7) = m' (((0 : Dev Cert.DXnRefIdeal.nD).tc : Thread Cert.DXnRefIdeal.nD Cert.DXnRefIdeal.τ).loc Cert.DXnRefIdeal.main_arg7)
      ∧ m ((c.tc : Thread Cert.DXnIdeal.nD Cert.DXnIdeal.τ).loc Cert.DXnIdeal.main_arg8) = m' (((0 : Dev Cert.DXnRefIdeal.nD).tc : Thread Cert.DXnRefIdeal.nD Cert.DXnRefIdeal.τ).loc Cert.DXnRefIdeal.main_arg8)
      ∧ m ((c.tc : Thread Cert.DXnIdeal.nD Cert.DXnIdeal.τ).loc Cert.DXnIdeal.main_arg9) = m' (((0 : Dev Cert.DXnRefIdeal.nD).tc : Thread Cert.DXnRefIdeal.nD Cert.DXnRefIdeal.τ).loc Cert.DXnRefIdeal.main_arg9)
      ∧ m ((c.tc : Thread Cert.DXnIdeal.nD Cert.DXnIdeal.τ).loc Cert.DXnIdeal.main_arg10) = m' (((0 : Dev Cert.DXnRefIdeal.nD).tc : Thread Cert.DXnRefIdeal.nD Cert.DXnRefIdeal.τ).loc Cert.DXnRefIdeal.main_arg10)
      ∧ m ((c.tc : Thread Cert.DXnIdeal.nD Cert.DXnIdeal.τ).loc Cert.DXnIdeal.main_arg11) = m' (((0 : Dev Cert.DXnRefIdeal.nD).tc : Thread Cert.DXnRefIdeal.nD Cert.DXnRefIdeal.τ).loc Cert.DXnRefIdeal.main_arg11)
      ∧ m ((c.tc : Thread Cert.DXnIdeal.nD Cert.DXnIdeal.τ).loc Cert.DXnIdeal.main_arg12) = m' (((0 : Dev Cert.DXnRefIdeal.nD).tc : Thread Cert.DXnRefIdeal.nD Cert.DXnRefIdeal.τ).loc Cert.DXnRefIdeal.main_arg12)
      ∧ m ((c.tc : Thread Cert.DXnIdeal.nD Cert.DXnIdeal.τ).loc Cert.DXnIdeal.main_arg13) = m' (((0 : Dev Cert.DXnRefIdeal.nD).tc : Thread Cert.DXnRefIdeal.nD Cert.DXnRefIdeal.τ).loc Cert.DXnRefIdeal.main_arg13)
      ∧ m ((c.tc : Thread Cert.DXnIdeal.nD Cert.DXnIdeal.τ).loc Cert.DXnIdeal.main_arg14) = Layout.block ⟨3, ![4, 1280, 1024]⟩ ⟨3, ![32, 1280, 1024]⟩ 0 8 c (m' (((0 : Dev Cert.DXnRefIdeal.nD).tc : Thread Cert.DXnRefIdeal.nD Cert.DXnRefIdeal.τ).loc Cert.DXnRefIdeal.main_arg14))) →
    ∃ (v0 : Buf (Elt Ideal) (((0 : Dev Cert.DXnRefIdeal.nD).tc : Thread Cert.DXnRefIdeal.nD Cert.DXnRefIdeal.τ).loc Cert.DXnRefIdeal.main_v41)) (v1 : Buf (Elt Ideal) (((0 : Dev Cert.DXnRefIdeal.nD).tc : Thread Cert.DXnRefIdeal.nD Cert.DXnRefIdeal.τ).loc Cert.DXnRefIdeal.main_v88)),
      θ_run (Cert.DXnIdeal.defs (F := Ideal)) (onTc (τ := Cert.DXnIdeal.τ) (Cert.DXnIdeal.main (F := Ideal))) ⟨m, fun _ => 0, g⟩ (fun r => ∀ c : Dev Cert.DXnIdeal.nD,
          r.2.mem ((c.tc : Thread Cert.DXnIdeal.nD Cert.DXnIdeal.τ).loc Cert.DXnIdeal.main_v1_0) = Layout.block ⟨2, ![8192, 1024]⟩ ⟨2, ![65536, 1024]⟩ 0 8 c v0
          ∧ r.2.mem ((c.tc : Thread Cert.DXnIdeal.nD Cert.DXnIdeal.τ).loc Cert.DXnIdeal.main_v1_1) = Layout.block ⟨3, ![3, 1280, 1024]⟩ ⟨3, ![24, 1280, 1024]⟩ 0 8 c v1
          ∧ r.2.mem ((c.tc : Thread Cert.DXnIdeal.nD Cert.DXnIdeal.τ).loc Cert.DXnIdeal.main_arg0) = m ((c.tc : Thread Cert.DXnIdeal.nD Cert.DXnIdeal.τ).loc Cert.DXnIdeal.main_arg0)
          ∧ r.2.mem ((c.tc : Thread Cert.DXnIdeal.nD Cert.DXnIdeal.τ).loc Cert.DXnIdeal.main_arg1) = m ((c.tc : Thread Cert.DXnIdeal.nD Cert.DXnIdeal.τ).loc Cert.DXnIdeal.main_arg1)
          ∧ r.2.mem ((c.tc : Thread Cert.DXnIdeal.nD Cert.DXnIdeal.τ).loc Cert.DXnIdeal.main_arg2) = m ((c.tc : Thread Cert.DXnIdeal.nD Cert.DXnIdeal.τ).loc Cert.DXnIdeal.main_arg2)
          ∧ r.2.mem ((c.tc : Thread Cert.DXnIdeal.nD Cert.DXnIdeal.τ).loc Cert.DXnIdeal.main_arg3) = m ((c.tc : Thread Cert.DXnIdeal.nD Cert.DXnIdeal.τ).loc Cert.DXnIdeal.main_arg3)
          ∧ r.2.mem ((c.tc : Thread Cert.DXnIdeal.nD Cert.DXnIdeal.τ).loc Cert.DXnIdeal.main_arg4) = m ((c.tc : Thread Cert.DXnIdeal.nD Cert.DXnIdeal.τ).loc Cert.DXnIdeal.main_arg4)
          ∧ r.2.mem ((c.tc : Thread Cert.DXnIdeal.nD Cert.DXnIdeal.τ).loc Cert.DXnIdeal.main_arg5) = m ((c.tc : Thread Cert.DXnIdeal.nD Cert.DXnIdeal.τ).loc Cert.DXnIdeal.main_arg5)
          ∧ r.2.mem ((c.tc : Thread Cert.DXnIdeal.nD Cert.DXnIdeal.τ).loc Cert.DXnIdeal.main_arg6) = m ((c.tc : Thread Cert.DXnIdeal.nD Cert.DXnIdeal.τ).loc Cert.DXnIdeal.main_arg6)
          ∧ r.2.mem ((c.tc : Thread Cert.DXnIdeal.nD Cert.DXnIdeal.τ).loc Cert.DXnIdeal.main_arg7) = m ((c.tc : Thread Cert.DXnIdeal.nD Cert.DXnIdeal.τ).loc Cert.DXnIdeal.main_arg7)
          ∧ r.2.mem ((c.tc : Thread Cert.DXnIdeal.nD Cert.DXnIdeal.τ).loc Cert.DXnIdeal.main_arg8) = m ((c.tc : Thread Cert.DXnIdeal.nD Cert.DXnIdeal.τ).loc Cert.DXnIdeal.main_arg8)
          ∧ r.2.mem ((c.tc : Thread Cert.DXnIdeal.nD Cert.DXnIdeal.τ).loc Cert.DXnIdeal.main_arg9) = m ((c.tc : Thread Cert.DXnIdeal.nD Cert.DXnIdeal.τ).loc Cert.DXnIdeal.main_arg9)
          ∧ r.2.mem ((c.tc : Thread Cert.DXnIdeal.nD Cert.DXnIdeal.τ).loc Cert.DXnIdeal.main_arg10) = m ((c.tc : Thread Cert.DXnIdeal.nD Cert.DXnIdeal.τ).loc Cert.DXnIdeal.main_arg10)
          ∧ r.2.mem ((c.tc : Thread Cert.DXnIdeal.nD Cert.DXnIdeal.τ).loc Cert.DXnIdeal.main_arg11) = m ((c.tc : Thread Cert.DXnIdeal.nD Cert.DXnIdeal.τ).loc Cert.DXnIdeal.main_arg11)
          ∧ r.2.mem ((c.tc : Thread Cert.DXnIdeal.nD Cert.DXnIdeal.τ).loc Cert.DXnIdeal.main_arg12) = m ((c.tc : Thread Cert.DXnIdeal.nD Cert.DXnIdeal.τ).loc Cert.DXnIdeal.main_arg12)
          ∧ r.2.mem ((c.tc : Thread Cert.DXnIdeal.nD Cert.DXnIdeal.τ).loc Cert.DXnIdeal.main_arg13) = m ((c.tc : Thread Cert.DXnIdeal.nD Cert.DXnIdeal.τ).loc Cert.DXnIdeal.main_arg13)
          ∧ r.2.mem ((c.tc : Thread Cert.DXnIdeal.nD Cert.DXnIdeal.τ).loc Cert.DXnIdeal.main_arg14) = m ((c.tc : Thread Cert.DXnIdeal.nD Cert.DXnIdeal.τ).loc Cert.DXnIdeal.main_arg14))
      ∧ θ_run (Cert.DXnRefIdeal.defs (F := Ideal)) (onTc (τ := Cert.DXnRefIdeal.τ) (Cert.DXnRefIdeal.main (F := Ideal))) ⟨m', fun _ => 0, g'⟩ (fun r =>
          r.2.mem (((0 : Dev Cert.DXnRefIdeal.nD).tc : Thread Cert.DXnRefIdeal.nD Cert.DXnRefIdeal.τ).loc Cert.DXnRefIdeal.main_v41) = v0
          ∧ r.2.mem (((0 : Dev Cert.DXnRefIdeal.nD).tc : Thread Cert.DXnRefIdeal.nD Cert.DXnRefIdeal.τ).loc Cert.DXnRefIdeal.main_v88) = v1
          ∧ r.2.mem (((0 : Dev Cert.DXnRefIdeal.nD).tc : Thread Cert.DXnRefIdeal.nD Cert.DXnRefIdeal.τ).loc Cert.DXnRefIdeal.main_arg0) = m' (((0 : Dev Cert.DXnRefIdeal.nD).tc : Thread Cert.DXnRefIdeal.nD Cert.DXnRefIdeal.τ).loc Cert.DXnRefIdeal.main_arg0)
          ∧ r.2.mem (((0 : Dev Cert.DXnRefIdeal.nD).tc : Thread Cert.DXnRefIdeal.nD Cert.DXnRefIdeal.τ).loc Cert.DXnRefIdeal.main_arg1) = m' (((0 : Dev Cert.DXnRefIdeal.nD).tc : Thread Cert.DXnRefIdeal.nD Cert.DXnRefIdeal.τ).loc Cert.DXnRefIdeal.main_arg1)
          ∧ r.2.mem (((0 : Dev Cert.DXnRefIdeal.nD).tc : Thread Cert.DXnRefIdeal.nD Cert.DXnRefIdeal.τ).loc Cert.DXnRefIdeal.main_arg2) = m' (((0 : Dev Cert.DXnRefIdeal.nD).tc : Thread Cert.DXnRefIdeal.nD Cert.DXnRefIdeal.τ).loc Cert.DXnRefIdeal.main_arg2)
          ∧ r.2.mem (((0 : Dev Cert.DXnRefIdeal.nD).tc : Thread Cert.DXnRefIdeal.nD Cert.DXnRefIdeal.τ).loc Cert.DXnRefIdeal.main_arg3) = m' (((0 : Dev Cert.DXnRefIdeal.nD).tc : Thread Cert.DXnRefIdeal.nD Cert.DXnRefIdeal.τ).loc Cert.DXnRefIdeal.main_arg3)
          ∧ r.2.mem (((0 : Dev Cert.DXnRefIdeal.nD).tc : Thread Cert.DXnRefIdeal.nD Cert.DXnRefIdeal.τ).loc Cert.DXnRefIdeal.main_arg4) = m' (((0 : Dev Cert.DXnRefIdeal.nD).tc : Thread Cert.DXnRefIdeal.nD Cert.DXnRefIdeal.τ).loc Cert.DXnRefIdeal.main_arg4)
          ∧ r.2.mem (((0 : Dev Cert.DXnRefIdeal.nD).tc : Thread Cert.DXnRefIdeal.nD Cert.DXnRefIdeal.τ).loc Cert.DXnRefIdeal.main_arg5) = m' (((0 : Dev Cert.DXnRefIdeal.nD).tc : Thread Cert.DXnRefIdeal.nD Cert.DXnRefIdeal.τ).loc Cert.DXnRefIdeal.main_arg5)
          ∧ r.2.mem (((0 : Dev Cert.DXnRefIdeal.nD).tc : Thread Cert.DXnRefIdeal.nD Cert.DXnRefIdeal.τ).loc Cert.DXnRefIdeal.main_arg6) = m' (((0 : Dev Cert.DXnRefIdeal.nD).tc : Thread Cert.DXnRefIdeal.nD Cert.DXnRefIdeal.τ).loc Cert.DXnRefIdeal.main_arg6)
          ∧ r.2.mem (((0 : Dev Cert.DXnRefIdeal.nD).tc : Thread Cert.DXnRefIdeal.nD Cert.DXnRefIdeal.τ).loc Cert.DXnRefIdeal.main_arg7) = m' (((0 : Dev Cert.DXnRefIdeal.nD).tc : Thread Cert.DXnRefIdeal.nD Cert.DXnRefIdeal.τ).loc Cert.DXnRefIdeal.main_arg7)
          ∧ r.2.mem (((0 : Dev Cert.DXnRefIdeal.nD).tc : Thread Cert.DXnRefIdeal.nD Cert.DXnRefIdeal.τ).loc Cert.DXnRefIdeal.main_arg8) = m' (((0 : Dev Cert.DXnRefIdeal.nD).tc : Thread Cert.DXnRefIdeal.nD Cert.DXnRefIdeal.τ).loc Cert.DXnRefIdeal.main_arg8)
          ∧ r.2.mem (((0 : Dev Cert.DXnRefIdeal.nD).tc : Thread Cert.DXnRefIdeal.nD Cert.DXnRefIdeal.τ).loc Cert.DXnRefIdeal.main_arg9) = m' (((0 : Dev Cert.DXnRefIdeal.nD).tc : Thread Cert.DXnRefIdeal.nD Cert.DXnRefIdeal.τ).loc Cert.DXnRefIdeal.main_arg9)
          ∧ r.2.mem (((0 : Dev Cert.DXnRefIdeal.nD).tc : Thread Cert.DXnRefIdeal.nD Cert.DXnRefIdeal.τ).loc Cert.DXnRefIdeal.main_arg10) = m' (((0 : Dev Cert.DXnRefIdeal.nD).tc : Thread Cert.DXnRefIdeal.nD Cert.DXnRefIdeal.τ).loc Cert.DXnRefIdeal.main_arg10)
          ∧ r.2.mem (((0 : Dev Cert.DXnRefIdeal.nD).tc : Thread Cert.DXnRefIdeal.nD Cert.DXnRefIdeal.τ).loc Cert.DXnRefIdeal.main_arg11) = m' (((0 : Dev Cert.DXnRefIdeal.nD).tc : Thread Cert.DXnRefIdeal.nD Cert.DXnRefIdeal.τ).loc Cert.DXnRefIdeal.main_arg11)
          ∧ r.2.mem (((0 : Dev Cert.DXnRefIdeal.nD).tc : Thread Cert.DXnRefIdeal.nD Cert.DXnRefIdeal.τ).loc Cert.DXnRefIdeal.main_arg12) = m' (((0 : Dev Cert.DXnRefIdeal.nD).tc : Thread Cert.DXnRefIdeal.nD Cert.DXnRefIdeal.τ).loc Cert.DXnRefIdeal.main_arg12)
          ∧ r.2.mem (((0 : Dev Cert.DXnRefIdeal.nD).tc : Thread Cert.DXnRefIdeal.nD Cert.DXnRefIdeal.τ).loc Cert.DXnRefIdeal.main_arg13) = m' (((0 : Dev Cert.DXnRefIdeal.nD).tc : Thread Cert.DXnRefIdeal.nD Cert.DXnRefIdeal.τ).loc Cert.DXnRefIdeal.main_arg13)
          ∧ r.2.mem (((0 : Dev Cert.DXnRefIdeal.nD).tc : Thread Cert.DXnRefIdeal.nD Cert.DXnRefIdeal.τ).loc Cert.DXnRefIdeal.main_arg14) = m' (((0 : Dev Cert.DXnRefIdeal.nD).tc : Thread Cert.DXnRefIdeal.nD Cert.DXnRefIdeal.τ).loc Cert.DXnRefIdeal.main_arg14))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActRefIdeal : Cert.DActRefIdeal.Facts) (hDwDown : Cert.DwDown.Facts) (hDwDownIdeal : Cert.DwDownIdeal.Facts) (hDwDownRefIdeal : Cert.DwDownRefIdeal.Facts) (hDHn : Cert.DHn.Facts) (hDHnIdeal : Cert.DHnIdeal.Facts) (hDHnRefIdeal : Cert.DHnRefIdeal.Facts) (hDwUp : Cert.DwUp.Facts) (hDwUpIdeal : Cert.DwUpIdeal.Facts) (hDwUpRefIdeal : Cert.DwUpRefIdeal.Facts) (hDwSq : Cert.DwSq.Facts) (hDwSqIdeal : Cert.DwSqIdeal.Facts) (hDwSqRefIdeal : Cert.DwSqRefIdeal.Facts) (hDwInSq : Cert.DwInSq.Facts) (hDwInSqIdeal : Cert.DwInSqIdeal.Facts) (hDwInSqRefIdeal : Cert.DwInSqRefIdeal.Facts) (hDwInQkv : Cert.DwInQkv.Facts) (hDwInQkvIdeal : Cert.DwInQkvIdeal.Facts) (hDwInQkvRefIdeal : Cert.DwInQkvRefIdeal.Facts) (hDwInGate : Cert.DwInGate.Facts) (hDwInGateIdeal : Cert.DwInGateIdeal.Facts) (hDwInGateRefIdeal : Cert.DwInGateRefIdeal.Facts) (hDwInAb : Cert.DwInAb.Facts) (hDwInAbIdeal : Cert.DwInAbIdeal.Facts) (hDwInAbRefIdeal : Cert.DwInAbRefIdeal.Facts) (hDxSq : Cert.DxSq.Facts) (hDxSqIdeal : Cert.DxSqIdeal.Facts) (hDxSqRefIdeal : Cert.DxSqRefIdeal.Facts) (hDXo : Cert.DXo.Facts) (hDXoIdeal : Cert.DXoIdeal.Facts) (hDXoRefIdeal : Cert.DXoRefIdeal.Facts) (hDMn : Cert.DMn.Facts) (hDMnIdeal : Cert.DMnIdeal.Facts) (hDMnRefIdeal : Cert.DMnRefIdeal.Facts) (hDwXkv : Cert.DwXkv.Facts) (hDwXkvIdeal : Cert.DwXkvIdeal.Facts) (hDwXkvRefIdeal : Cert.DwXkvRefIdeal.Facts) (hProjQkv : Cert.ProjQkv.Facts) (hProjQkvIdeal : Cert.ProjQkvIdeal.Facts) (hProjQkvRefIdeal : Cert.ProjQkvRefIdeal.Facts) (hProjGate : Cert.ProjGate.Facts) (hProjGateIdeal : Cert.ProjGateIdeal.Facts) (hProjGateRefIdeal : Cert.ProjGateRefIdeal.Facts) (hProjZ : Cert.ProjZ.Facts) (hProjZIdeal : Cert.ProjZIdeal.Facts) (hProjZRefIdeal : Cert.ProjZRefIdeal.Facts) (hProjAb : Cert.ProjAb.Facts) (hProjAbIdeal : Cert.ProjAbIdeal.Facts) (hProjAbRefIdeal : Cert.ProjAbRefIdeal.Facts) (hXattnKv : Cert.XattnKv.Facts) (hXattnKvIdeal : Cert.XattnKvIdeal.Facts) (hXattnKvRefIdeal : Cert.XattnKvRefIdeal.Facts) (hFfnUp : Cert.FfnUp.Facts) (hFfnUpIdeal : Cert.FfnUpIdeal.Facts) (hFfnUpRefIdeal : Cert.FfnUpRefIdeal.Facts) (hProjSq : Cert.ProjSq.Facts) (hProjSqIdeal : Cert.ProjSqIdeal.Facts) (hProjSqRefIdeal : Cert.ProjSqRefIdeal.Facts) (hMixOut : Cert.MixOut.Facts) (hMixOutIdeal : Cert.MixOutIdeal.Facts) (hMixOutRefIdeal : Cert.MixOutRefIdeal.Facts) (hLossDown : Cert.LossDown.Facts) (hLossDownIdeal : Cert.LossDownIdeal.Facts) (hLossDownRefIdeal : Cert.LossDownRefIdeal.Facts) (hNormBwd : Cert.NormBwd.Facts) (hNormBwdIdeal : Cert.NormBwdIdeal.Facts) (hNormBwdRefIdeal : Cert.NormBwdRefIdeal.Facts) (hNormMixBwd : Cert.NormMixBwd.Facts) (hNormMixBwdIdeal : Cert.NormMixBwdIdeal.Facts) (hNormMixBwdRefIdeal : Cert.NormMixBwdRefIdeal.Facts) (hNormMemBwd : Cert.NormMemBwd.Facts) (hNormMemBwdIdeal : Cert.NormMemBwdIdeal.Facts) (hNormMemBwdRefIdeal : Cert.NormMemBwdRefIdeal.Facts) (hMergeBwd : Cert.MergeBwd.Facts) (hMergeBwdIdeal : Cert.MergeBwdIdeal.Facts) (hMergeBwdRefIdeal : Cert.MergeBwdRefIdeal.Facts) (hMerge : Cert.Merge.Facts) (hMergeIdeal : Cert.MergeIdeal.Facts) (hMergeRefIdeal : Cert.MergeRefIdeal.Facts) (hNormMix : Cert.NormMix.Facts) (hNormMixIdeal : Cert.NormMixIdeal.Facts) (hNormMixRefIdeal : Cert.NormMixRefIdeal.Facts) (hNormMem : Cert.NormMem.Facts) (hNormMemIdeal : Cert.NormMemIdeal.Facts) (hNormMemRefIdeal : Cert.NormMemRefIdeal.Facts) (hXattnFwd : Cert.XattnFwd.Facts) (hXattnFwdIdeal : Cert.XattnFwdIdeal.Facts) (hXattnFwdRefIdeal : Cert.XattnFwdRefIdeal.Facts) (hFfnConv : Cert.FfnConv.Facts) (hFfnConvIdeal : Cert.FfnConvIdeal.Facts) (hFfnConvRefIdeal : Cert.FfnConvRefIdeal.Facts) (hSibEarly : Cert.SibEarly.Facts) (hSibEarlyIdeal : Cert.SibEarlyIdeal.Facts) (hSibEarlyRefIdeal : Cert.SibEarlyRefIdeal.Facts) (hSibLate : Cert.SibLate.Facts) (hSibLateIdeal : Cert.SibLateIdeal.Facts) (hSibLateRefIdeal : Cert.SibLateRefIdeal.Facts) (hDXn : Cert.DXn.Facts) (hDXnIdeal : Cert.DXnIdeal.Facts) (hDXnRefIdeal : Cert.DXnRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActRefIdeal (hDActRefIdeal := hDActRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DHn (hDHn := hDHn)
    ∧ quiescent_DHnIdeal (hDHnIdeal := hDHnIdeal)
    ∧ quiescent_DHnRefIdeal (hDHnRefIdeal := hDHnRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwSq (hDwSq := hDwSq)
    ∧ quiescent_DwSqIdeal (hDwSqIdeal := hDwSqIdeal)
    ∧ quiescent_DwSqRefIdeal (hDwSqRefIdeal := hDwSqRefIdeal)
    ∧ quiescent_DwInSq (hDwInSq := hDwInSq)
    ∧ quiescent_DwInSqIdeal (hDwInSqIdeal := hDwInSqIdeal)
    ∧ quiescent_DwInSqRefIdeal (hDwInSqRefIdeal := hDwInSqRefIdeal)
    ∧ quiescent_DwInQkv (hDwInQkv := hDwInQkv)
    ∧ quiescent_DwInQkvIdeal (hDwInQkvIdeal := hDwInQkvIdeal)
    ∧ quiescent_DwInQkvRefIdeal (hDwInQkvRefIdeal := hDwInQkvRefIdeal)
    ∧ quiescent_DwInGate (hDwInGate := hDwInGate)
    ∧ quiescent_DwInGateIdeal (hDwInGateIdeal := hDwInGateIdeal)
    ∧ quiescent_DwInGateRefIdeal (hDwInGateRefIdeal := hDwInGateRefIdeal)
    ∧ quiescent_DwInAb (hDwInAb := hDwInAb)
    ∧ quiescent_DwInAbIdeal (hDwInAbIdeal := hDwInAbIdeal)
    ∧ quiescent_DwInAbRefIdeal (hDwInAbRefIdeal := hDwInAbRefIdeal)
    ∧ quiescent_DxSq (hDxSq := hDxSq)
    ∧ quiescent_DxSqIdeal (hDxSqIdeal := hDxSqIdeal)
    ∧ quiescent_DxSqRefIdeal (hDxSqRefIdeal := hDxSqRefIdeal)
    ∧ quiescent_DXo (hDXo := hDXo)
    ∧ quiescent_DXoIdeal (hDXoIdeal := hDXoIdeal)
    ∧ quiescent_DXoRefIdeal (hDXoRefIdeal := hDXoRefIdeal)
    ∧ quiescent_DMn (hDMn := hDMn)
    ∧ quiescent_DMnIdeal (hDMnIdeal := hDMnIdeal)
    ∧ quiescent_DMnRefIdeal (hDMnRefIdeal := hDMnRefIdeal)
    ∧ quiescent_DwXkv (hDwXkv := hDwXkv)
    ∧ quiescent_DwXkvIdeal (hDwXkvIdeal := hDwXkvIdeal)
    ∧ quiescent_DwXkvRefIdeal (hDwXkvRefIdeal := hDwXkvRefIdeal)
    ∧ quiescent_ProjQkv (hProjQkv := hProjQkv)
    ∧ quiescent_ProjQkvIdeal (hProjQkvIdeal := hProjQkvIdeal)
    ∧ quiescent_ProjQkvRefIdeal (hProjQkvRefIdeal := hProjQkvRefIdeal)
    ∧ quiescent_ProjGate (hProjGate := hProjGate)
    ∧ quiescent_ProjGateIdeal (hProjGateIdeal := hProjGateIdeal)
    ∧ quiescent_ProjGateRefIdeal (hProjGateRefIdeal := hProjGateRefIdeal)
    ∧ quiescent_ProjZ (hProjZ := hProjZ)
    ∧ quiescent_ProjZIdeal (hProjZIdeal := hProjZIdeal)
    ∧ quiescent_ProjZRefIdeal (hProjZRefIdeal := hProjZRefIdeal)
    ∧ quiescent_ProjAb (hProjAb := hProjAb)
    ∧ quiescent_ProjAbIdeal (hProjAbIdeal := hProjAbIdeal)
    ∧ quiescent_ProjAbRefIdeal (hProjAbRefIdeal := hProjAbRefIdeal)
    ∧ quiescent_XattnKv (hXattnKv := hXattnKv)
    ∧ quiescent_XattnKvIdeal (hXattnKvIdeal := hXattnKvIdeal)
    ∧ quiescent_XattnKvRefIdeal (hXattnKvRefIdeal := hXattnKvRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_ProjSq (hProjSq := hProjSq)
    ∧ quiescent_ProjSqIdeal (hProjSqIdeal := hProjSqIdeal)
    ∧ quiescent_ProjSqRefIdeal (hProjSqRefIdeal := hProjSqRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_LossDown (hLossDown := hLossDown)
    ∧ quiescent_LossDownIdeal (hLossDownIdeal := hLossDownIdeal)
    ∧ quiescent_LossDownRefIdeal (hLossDownRefIdeal := hLossDownRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormMixBwd (hNormMixBwd := hNormMixBwd)
    ∧ quiescent_NormMixBwdIdeal (hNormMixBwdIdeal := hNormMixBwdIdeal)
    ∧ quiescent_NormMixBwdRefIdeal (hNormMixBwdRefIdeal := hNormMixBwdRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_NormMix (hNormMix := hNormMix)
    ∧ quiescent_NormMixIdeal (hNormMixIdeal := hNormMixIdeal)
    ∧ quiescent_NormMixRefIdeal (hNormMixRefIdeal := hNormMixRefIdeal)
    ∧ quiescent_NormMem (hNormMem := hNormMem)
    ∧ quiescent_NormMemIdeal (hNormMemIdeal := hNormMemIdeal)
    ∧ quiescent_NormMemRefIdeal (hNormMemRefIdeal := hNormMemRefIdeal)
    ∧ quiescent_XattnFwd (hXattnFwd := hXattnFwd)
    ∧ quiescent_XattnFwdIdeal (hXattnFwdIdeal := hXattnFwdIdeal)
    ∧ quiescent_XattnFwdRefIdeal (hXattnFwdRefIdeal := hXattnFwdRefIdeal)
    ∧ quiescent_FfnConv (hFfnConv := hFfnConv)
    ∧ quiescent_FfnConvIdeal (hFfnConvIdeal := hFfnConvIdeal)
    ∧ quiescent_FfnConvRefIdeal (hFfnConvRefIdeal := hFfnConvRefIdeal)
    ∧ quiescent_SibEarly (hSibEarly := hSibEarly)
    ∧ quiescent_SibEarlyIdeal (hSibEarlyIdeal := hSibEarlyIdeal)
    ∧ quiescent_SibEarlyRefIdeal (hSibEarlyRefIdeal := hSibEarlyRefIdeal)
    ∧ quiescent_SibLate (hSibLate := hSibLate)
    ∧ quiescent_SibLateIdeal (hSibLateIdeal := hSibLateIdeal)
    ∧ quiescent_SibLateRefIdeal (hSibLateRefIdeal := hSibLateRefIdeal)
    ∧ quiescent_DXn (hDXn := hDXn)
    ∧ quiescent_DXnIdeal (hDXnIdeal := hDXnIdeal)
    ∧ quiescent_DXnRefIdeal (hDXnRefIdeal := hDXnRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActRefIdeal (hDActIdeal := hDActIdeal) (hDActRefIdeal := hDActRefIdeal)
    ∧ preserves_DwDown_DwDownIdeal
    ∧ algebraic_DwDownIdeal_DwDownRefIdeal (hDwDownIdeal := hDwDownIdeal) (hDwDownRefIdeal := hDwDownRefIdeal)
    ∧ preserves_DHn_DHnIdeal
    ∧ algebraic_DHnIdeal_DHnRefIdeal (hDHnIdeal := hDHnIdeal) (hDHnRefIdeal := hDHnRefIdeal)
    ∧ preserves_DwUp_DwUpIdeal
    ∧ algebraic_DwUpIdeal_DwUpRefIdeal (hDwUpIdeal := hDwUpIdeal) (hDwUpRefIdeal := hDwUpRefIdeal)
    ∧ preserves_DwSq_DwSqIdeal
    ∧ algebraic_DwSqIdeal_DwSqRefIdeal (hDwSqIdeal := hDwSqIdeal) (hDwSqRefIdeal := hDwSqRefIdeal)
    ∧ preserves_DwInSq_DwInSqIdeal
    ∧ algebraic_DwInSqIdeal_DwInSqRefIdeal (hDwInSqIdeal := hDwInSqIdeal) (hDwInSqRefIdeal := hDwInSqRefIdeal)
    ∧ preserves_DwInQkv_DwInQkvIdeal
    ∧ algebraic_DwInQkvIdeal_DwInQkvRefIdeal (hDwInQkvIdeal := hDwInQkvIdeal) (hDwInQkvRefIdeal := hDwInQkvRefIdeal)
    ∧ preserves_DwInGate_DwInGateIdeal
    ∧ algebraic_DwInGateIdeal_DwInGateRefIdeal (hDwInGateIdeal := hDwInGateIdeal) (hDwInGateRefIdeal := hDwInGateRefIdeal)
    ∧ preserves_DwInAb_DwInAbIdeal
    ∧ algebraic_DwInAbIdeal_DwInAbRefIdeal (hDwInAbIdeal := hDwInAbIdeal) (hDwInAbRefIdeal := hDwInAbRefIdeal)
    ∧ preserves_DxSq_DxSqIdeal
    ∧ algebraic_DxSqIdeal_DxSqRefIdeal (hDxSqIdeal := hDxSqIdeal) (hDxSqRefIdeal := hDxSqRefIdeal)
    ∧ preserves_DXo_DXoIdeal
    ∧ algebraic_DXoIdeal_DXoRefIdeal (hDXoIdeal := hDXoIdeal) (hDXoRefIdeal := hDXoRefIdeal)
    ∧ preserves_DMn_DMnIdeal
    ∧ algebraic_DMnIdeal_DMnRefIdeal (hDMnIdeal := hDMnIdeal) (hDMnRefIdeal := hDMnRefIdeal)
    ∧ preserves_DwXkv_DwXkvIdeal
    ∧ algebraic_DwXkvIdeal_DwXkvRefIdeal (hDwXkvIdeal := hDwXkvIdeal) (hDwXkvRefIdeal := hDwXkvRefIdeal)
    ∧ preserves_ProjQkv_ProjQkvIdeal
    ∧ algebraic_ProjQkvIdeal_ProjQkvRefIdeal (hProjQkvIdeal := hProjQkvIdeal) (hProjQkvRefIdeal := hProjQkvRefIdeal)
    ∧ preserves_ProjGate_ProjGateIdeal
    ∧ algebraic_ProjGateIdeal_ProjGateRefIdeal (hProjGateIdeal := hProjGateIdeal) (hProjGateRefIdeal := hProjGateRefIdeal)
    ∧ preserves_ProjZ_ProjZIdeal
    ∧ algebraic_ProjZIdeal_ProjZRefIdeal (hProjZIdeal := hProjZIdeal) (hProjZRefIdeal := hProjZRefIdeal)
    ∧ preserves_ProjAb_ProjAbIdeal
    ∧ algebraic_ProjAbIdeal_ProjAbRefIdeal (hProjAbIdeal := hProjAbIdeal) (hProjAbRefIdeal := hProjAbRefIdeal)
    ∧ preserves_XattnKv_XattnKvIdeal
    ∧ algebraic_XattnKvIdeal_XattnKvRefIdeal (hXattnKvIdeal := hXattnKvIdeal) (hXattnKvRefIdeal := hXattnKvRefIdeal)
    ∧ preserves_FfnUp_FfnUpIdeal
    ∧ algebraic_FfnUpIdeal_FfnUpRefIdeal (hFfnUpIdeal := hFfnUpIdeal) (hFfnUpRefIdeal := hFfnUpRefIdeal)
    ∧ preserves_ProjSq_ProjSqIdeal
    ∧ algebraic_ProjSqIdeal_ProjSqRefIdeal (hProjSqIdeal := hProjSqIdeal) (hProjSqRefIdeal := hProjSqRefIdeal)
    ∧ preserves_MixOut_MixOutIdeal
    ∧ algebraic_MixOutIdeal_MixOutRefIdeal (hMixOutIdeal := hMixOutIdeal) (hMixOutRefIdeal := hMixOutRefIdeal)
    ∧ preserves_LossDown_LossDownIdeal
    ∧ algebraic_LossDownIdeal_LossDownRefIdeal (hLossDownIdeal := hLossDownIdeal) (hLossDownRefIdeal := hLossDownRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormMixBwd_NormMixBwdIdeal
    ∧ algebraic_NormMixBwdIdeal_NormMixBwdRefIdeal (hNormMixBwdIdeal := hNormMixBwdIdeal) (hNormMixBwdRefIdeal := hNormMixBwdRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_Merge_MergeIdeal
    ∧ algebraic_MergeIdeal_MergeRefIdeal (hMergeIdeal := hMergeIdeal) (hMergeRefIdeal := hMergeRefIdeal)
    ∧ preserves_NormMix_NormMixIdeal
    ∧ algebraic_NormMixIdeal_NormMixRefIdeal (hNormMixIdeal := hNormMixIdeal) (hNormMixRefIdeal := hNormMixRefIdeal)
    ∧ preserves_NormMem_NormMemIdeal
    ∧ algebraic_NormMemIdeal_NormMemRefIdeal (hNormMemIdeal := hNormMemIdeal) (hNormMemRefIdeal := hNormMemRefIdeal)
    ∧ preserves_XattnFwd_XattnFwdIdeal
    ∧ algebraic_XattnFwdIdeal_XattnFwdRefIdeal (hXattnFwdIdeal := hXattnFwdIdeal) (hXattnFwdRefIdeal := hXattnFwdRefIdeal)
    ∧ preserves_FfnConv_FfnConvIdeal
    ∧ algebraic_FfnConvIdeal_FfnConvRefIdeal (hFfnConvIdeal := hFfnConvIdeal) (hFfnConvRefIdeal := hFfnConvRefIdeal)
    ∧ preserves_SibEarly_SibEarlyIdeal
    ∧ algebraic_SibEarlyIdeal_SibEarlyRefIdeal (hSibEarlyIdeal := hSibEarlyIdeal) (hSibEarlyRefIdeal := hSibEarlyRefIdeal)
    ∧ preserves_SibLate_SibLateIdeal
    ∧ algebraic_SibLateIdeal_SibLateRefIdeal (hSibLateIdeal := hSibLateIdeal) (hSibLateRefIdeal := hSibLateRefIdeal)
    ∧ preserves_DXn_DXnIdeal
    ∧ algebraic_DXnIdeal_DXnRefIdeal (hDXnIdeal := hDXnIdeal) (hDXnRefIdeal := hDXnRefIdeal)
-- ==== Pre_finite.lean ====
abbrev S4x2048x1024 : Shape := ⟨3, ![4, 2048, 1024]⟩
abbrev S4x256x2048 : Shape := ⟨3, ![4, 256, 2048]⟩
abbrev S1x256 : Shape := ⟨2, ![1, 256]⟩
abbrev S4x256x1024 : Shape := ⟨3, ![4, 256, 1024]⟩
abbrev S_ : Shape := ⟨0, ![]⟩

class Facts : Prop where
  slices_S4x256x2048_S4x256x1024_0_0_1024 : S4x256x2048.Slices ![0, 0, 1024] S4x256x1024
  bcast_S_S4x256x1024 : S_.BroadcastsInDim S4x256x1024 (![] : Fin 0 → Fin S4x256x1024.rank)
  bcast_S_S1x256 : S_.BroadcastsInDim S1x256 (![] : Fin 0 → Fin S1x256.rank)
  bitsLt_bf16_f32 : FTy.bits .bf16 < FTy.bits .f32
  bcast_S_S4x2048x1024 : S_.BroadcastsInDim S4x2048x1024 (![] : Fin 0 → Fin S4x2048x1024.rank)

variable [Facts]

def fn {F : FTy → Type} [FloatOps F] (main_arg0 : FVec F S4x2048x1024 .f32) (main_arg1 : FVec F S4x256x2048 .f32) (main_arg2 : FVec F S1x256 .f32) (main_arg3 : FVec F S1x256 .f32) (main_arg4 : FVec F S4x2048x1024 .bf16) : IVec S4x256x1024 1 × IVec S1x256 1 × IVec S1x256 1 × IVec S4x2048x1024 1 :=
  let main_v0 : FVec F S4x256x1024 .f32 := (extractStridedSlice S4x256x1024 ![0, 0, 1024] · slices_S4x256x2048_S4x256x1024_0_0_1024) main_arg1
  let main_v1 : FVec F S4x256x1024 .f32 := Host.absf main_v0
  let main_cst : FVec F S_ .f32 := constant S_ .f32 0x7F800000#32
  let main_v2 : FVec F S4x256x1024 .f32 := broadcastInDim S4x256x1024 ![] bcast_S_S4x256x1024 main_cst
  let main_v3 : IVec S4x256x1024 1 := cmpf .olt main_v1 main_v2
  let main_v4 : FVec F S1x256 .f32 := Host.absf main_arg2
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_v7 : FVec F S1x256 .f32 := Host.absf main_arg3
  let main_cst_1 : FVec F S_ .f32 := constant S_ .f32 0x7F800000#32
  let main_v8 : FVec F S1x256 .f32 := broadcastInDim S1x256 ![] bcast_S_S1x256 main_cst_1
  let main_v9 : IVec S1x256 1 := cmpf .olt main_v7 main_v8
  let main_v10 : FVec F S4x2048x1024 .f32 := (extf .f32 · bitsLt_bf16_f32) main_arg4
  let main_v11 : FVec F S4x2048x1024 .f32 := Host.absf main_v10
  let main_cst_2 : FVec F S_ .f32 := constant S_ .f32 0x7F800000#32
  let main_v12 : FVec F S4x2048x1024 .f32 := broadcastInDim S4x2048x1024 ![] bcast_S_S4x2048x1024 main_cst_2
  let main_v13 : IVec S4x2048x1024 1 := cmpf .olt main_v11 main_v12
  (main_v3, main_v6, main_v9, main_v13)
-- ==== Kernel.lean ====
abbrev S4x2048x1024 : Shape := ⟨3, ![4, 2048, 1024]⟩
abbrev S4x256x2048 : Shape := ⟨3, ![4, 256, 2048]⟩
abbrev S1x256 : Shape := ⟨2, ![1, 256]⟩
abbrev S1x256x1024 : Shape := ⟨3, ![1, 256, 1024]⟩
abbrev S1x256x2048 : Shape := ⟨3, ![1, 256, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩
abbrev S256x1792 : Shape := ⟨2, ![256, 1792]⟩
abbrev S256x768 : Shape := ⟨2, ![256, 768]⟩
abbrev S256x1536 : Shape := ⟨2, ![256, 1536]⟩
abbrev S256x512 : Shape := ⟨2, ![256, 512]⟩
abbrev S256x1280 : Shape := ⟨2, ![256, 1280]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S1x256, .f32⟩
  | .hbm, ⟨3, _⟩ => ⟨S1x256, .f32⟩
  | .hbm, ⟨4, _⟩ => ⟨S4x2048x1024, .bf16⟩
  | .hbm, ⟨5, _⟩ => ⟨S4x2048x1024, .bf16⟩
  | .hbm, ⟨6, _⟩ => ⟨S4x256x2048, .f32⟩
  | .hbm, ⟨7, _⟩ => ⟨S1x256, .f32⟩
  | .hbm, ⟨8, _⟩ => ⟨S1x256, .f32⟩
  | .local _ .vmem, ⟨0, _⟩ => ⟨S1x256x1024, .f32⟩
  | .local _ .vmem, ⟨1, _⟩ => ⟨S1x256x1024, .f32⟩
  | .local _ .vmem, ⟨2, _⟩ => ⟨S1x256x2048, .f32⟩
  | .local _ .vmem, ⟨3, _⟩ => ⟨S1x256x2048, .f32⟩
  | .local _ .vmem, ⟨4, _⟩ => ⟨S1x256, .f32⟩
  | .local _ .vmem, ⟨5, _⟩ => ⟨S1x256, .f32⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x2048, .f32⟩
  | .local _ .vmem, ⟨11, _⟩ => ⟨S1x256x2048, .f32⟩
  | .local _ .vmem, ⟨12, _⟩ => ⟨S1x256, .f32⟩
  | .local _ .vmem, ⟨13, _⟩ => ⟨S1x256, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S4x2048x1024 : Shape := ⟨3, ![4, 2048, 1024]⟩
abbrev S4x256x2048 : Shape := ⟨3, ![4, 256, 2048]⟩
abbrev S1x256 : Shape := ⟨2, ![1, 256]⟩
abbrev S256 : Shape := ⟨1, ![256]⟩
abbrev S4x2048x4x256 : Shape := ⟨4, ![4, 2048, 4, 256]⟩
abbrev S_ : Shape := ⟨0, ![]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩
abbrev S4x256x1024 : Shape := ⟨3, ![4, 256, 1024]⟩
abbrev S4x256x4x256 : Shape := ⟨4, ![4, 256, 4, 256]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩
abbrev S4x4x256x256 : Shape := ⟨4, ![4, 4, 256, 256]⟩

abbrev nBuf : Space → Nat
  | .hbm => 185
  | .vmem => 0
  | .smem => 0
  | _ => 0

abbrev hbmTy0_0 (i : Nat) : BufTy := match i % 128 with
  | 0 => ⟨S4x2048x1024, .f32⟩
  | 1 => ⟨S4x256x2048, .f32⟩
  | 2 => ⟨S1x256, .f32⟩
  | 3 => ⟨S1x256, .f32⟩
  | 4 => ⟨S4x2048x1024, .bf16⟩
  | 5 => ⟨S256, .f32⟩
  | 6 => ⟨S256, .f32⟩
  | 7 => ⟨S4x2048x4x256, .f32⟩
  | 8 => ⟨S4x2048x4x256, .f32⟩
  | 9 => ⟨S_, .f32⟩
  | 10 => ⟨S4x2048x4, .f32⟩
  | 11 => ⟨S4x2048x4x1, .f32⟩
  | 12 => ⟨S_, .f32⟩
  | 13 => ⟨S4x2048x4x1, .f32⟩
  | 14 => ⟨S4x2048x4x1, .f32⟩
  | 15 => ⟨S_, .f32⟩
  | 16 => ⟨S4x2048x4x1, .f32⟩
  | 17 => ⟨S4x2048x4x1, .f32⟩
  | 18 => ⟨S4x2048x4x1, .f32⟩
  | 19 => ⟨S4x2048x4x1, .f32⟩
  | 20 => ⟨S_, .f32⟩
  | 21 => ⟨S4x2048x4x1, .f32⟩
  | 22 => ⟨S4x2048x4x1, .f32⟩
  | 23 => ⟨S4x2048x4x256, .f32⟩
  | 24 => ⟨S4x2048x4x256, .f32⟩
  | 25 => ⟨S1x1x1x256, .f32⟩
  | 26 => ⟨S4x2048x4x256, .f32⟩
  | 27 => ⟨S4x2048x4x256, .f32⟩
  | 28 => ⟨S4x256x1024, .f32⟩
  | 29 => ⟨S4x256x4x256, .f32⟩
  | 30 => ⟨S4x256x4x256, .f32⟩
  | 31 => ⟨S_, .f32⟩
  | 32 => ⟨S4x256x4, .f32⟩
  | 33 => ⟨S4x256x4x1, .f32⟩
  | 34 => ⟨S_, .f32⟩
  | 35 => ⟨S4x256x4x1, .f32⟩
  | 36 => ⟨S4x256x4x1, .f32⟩
  | 37 => ⟨S_, .f32⟩
  | 38 => ⟨S4x256x4x1, .f32⟩
  | 39 => ⟨S4x256x4x1, .f32⟩
  | 40 => ⟨S4x256x4x1, .f32⟩
  | 41 => ⟨S4x256x4x1, .f32⟩
  | 42 => ⟨S_, .f32⟩
  | 43 => ⟨S4x256x4x1, .f32⟩
  | 44 => ⟨S4x256x4x1, .f32⟩
  | 45 => ⟨S4x256x4x256, .f32⟩
  | 46 => ⟨S4x256x4x256, .f32⟩
  | 47 => ⟨S1x1x1x256, .f32⟩
  | 48 => ⟨S4x256x4x256, .f32⟩
  | 49 => ⟨S4x256x4x256, .f32⟩
  | 50 => ⟨S4x256x1024, .f32⟩
  | 51 => ⟨S4x256x4x256, .f32⟩
  | 52 => ⟨S4x4x2048x256, .f32⟩
  | 53 => ⟨S_, .f32⟩
  | 54 => ⟨S4x4x2048x256, .f32⟩
  | 55 => ⟨S4x4x2048x256, .f32⟩
  | 56 => ⟨S_, .f32⟩
  | 57 => ⟨S4x4x2048, .f32⟩
  | 58 => ⟨S4x4x2048x1, .f32⟩
  | 59 => ⟨S4x4x2048x256, .f32⟩
  | 60 => ⟨S4x4x2048x256, .i1⟩
  | 61 => ⟨S4x4x2048x256, .f32⟩
  | 62 => ⟨S_, .f32⟩
  | 63 => ⟨S4x4x2048, .f32⟩
  | 64 => ⟨S_, .f32⟩
  | 65 => ⟨S4x4x2048, .f32⟩
  | 66 => ⟨S4x4x2048, .f32⟩
  | 67 => ⟨S_, .f32⟩
  | 68 => ⟨S4x4x2048, .f32⟩
  | 69 => ⟨S4x4x2048, .i1⟩
  | 70 => ⟨S_, .f32⟩
  | 71 => ⟨S4x4x2048, .f32⟩
  | 72 => ⟨S4x4x2048, .i1⟩
  | 73 => ⟨S_, .f32⟩
  | 74 => ⟨S4x4x2048, .f32⟩
  | 75 => ⟨S_, .f32⟩
  | 76 => ⟨S4x4x2048, .f32⟩
  | 77 => ⟨S_, .f32⟩
  | 78 => ⟨S4x4x2048, .f32⟩
  | 79 => ⟨S4x4x2048, .f32⟩
  | 80 => ⟨S4x4x2048, .f32⟩
  | 81 => ⟨S4x4x2048x1, .f32⟩
  | 82 => ⟨S4x4x2048x256, .f32⟩
  | 83 => ⟨S4x4x2048x256, .f32⟩
  | 84 => ⟨S4x4x2048x256, .f32⟩
  | 85 => ⟨S_, .f32⟩
  | 86 => ⟨S4x4x2048, .f32⟩
  | 87 => ⟨S4x4x2048x1, .f32⟩
  | 88 => ⟨S4x4x2048x256, .f32⟩
  | 89 => ⟨S4x4x2048x256, .f32⟩
  | 90 => ⟨S4x4x2048x1, .f32⟩
  | 91 => ⟨S_, .f32⟩
  | 92 => ⟨S4x4x2048x1, .f32⟩
  | 93 => ⟨S4x4x2048x1, .f32⟩
  | 94 => ⟨S4x4x256x2048, .f32⟩
  | 95 => ⟨S4x2048x4x256, .f32⟩
  | 96 => ⟨S4x2048x1024, .f32⟩
  | 97 => ⟨S4x2048x1024, .f32⟩
  | 98 => ⟨S4x2048x4x256, .f32⟩
  | 99 => ⟨S4x4x256x2048, .f32⟩
  | 100 => ⟨S4x4x2048x256, .f32⟩
  | 101 => ⟨S4x4x256x256, .f32⟩
  | 102 => ⟨S4x256x4x256, .f32⟩
  | 103 => ⟨S4x4x2048x256, .f32⟩
  | 104 => ⟨S4x4x2048x256, .f32⟩
  | 105 => ⟨S4x4x2048x256, .f32⟩
  | 106 => ⟨S_, .f32⟩
  | 107 => ⟨S4x4x2048, .f32⟩
  | 108 => ⟨S4x4x2048x1, .f32⟩
  | 109 => ⟨S4x4x2048x1, .f32⟩
  | 110 => ⟨S4x4x2048x256, .f32⟩
  | 111 => ⟨S4x4x2048x256, .f32⟩
  | 112 => ⟨S_, .f32⟩
  | 113 => ⟨S4x4x2048, .f32⟩
  | 114 => ⟨S4x4x2048x256, .f32⟩
  | 115 => ⟨S4x4x2048x256, .f32⟩
  | 116 => ⟨S4x4x2048x256, .f32⟩
  | 117 => ⟨S_, .f32⟩
  | 118 => ⟨S4x4x2048x256, .f32⟩
  | 119 => ⟨S4x4x2048x256, .f32⟩
  | 120 => ⟨S4x4x256x256, .f32⟩
  | 121 => ⟨S4x256x4x256, .f32⟩
  | 122 => ⟨S4x4x2048x256, .f32⟩
  | 123 => ⟨S4x2048x4x256, .f32⟩
  | 124 => ⟨S4x256x1024, .f32⟩
  | 125 => ⟨S_, .f32⟩
  | 126 => ⟨S4x256x2048, .f32⟩
  | 127 => ⟨S4x256x4x256, .f32⟩
  | _ => ⟨S4x2048x1024, .f32⟩

abbrev hbmTy0_1 (i : Nat) : BufTy := match i % 128 with
  | 0 => ⟨S_, .f32⟩
  | 1 => ⟨S256, .f32⟩
  | 2 => ⟨S1x1x1x256, .f32⟩
  | 3 => ⟨S4x256x4x256, .f32⟩
  | 4 => ⟨S4x256x4x256, .f32⟩
  | 5 => ⟨S_, .f32⟩
  | 6 => ⟨S256, .f32⟩
  | 7 => ⟨S4x256x4x256, .f32⟩
  | 8 => ⟨S_, .f32⟩
  | 9 => ⟨S4x256x4, .f32⟩
  | 10 => ⟨S4x256x4x1, .f32⟩
  | 11 => ⟨S4x256x4x256, .f32⟩
  | 12 => ⟨S4x256x4x256, .f32⟩
  | 13 => ⟨S4x256x4x1, .f32⟩
  | 14 => ⟨S_, .f32⟩
  | 15 => ⟨S4x256x4x1, .f32⟩
  | 16 => ⟨S4x256x4x1, .f32⟩
  | 17 => ⟨S_, .f32⟩
  | 18 => ⟨S4x256x4, .f32⟩
  | 19 => ⟨S4x256x4x256, .f32⟩
  | 20 => ⟨S4x256x4x256, .f32⟩
  | 21 => ⟨S4x256x4x256, .f32⟩
  | 22 => ⟨S4x256x4x256, .f32⟩
  | 23 => ⟨S4x256x4x256, .f32⟩
  | 24 => ⟨S4x256x1024, .f32⟩
  | 25 => ⟨S_, .f32⟩
  | 26 => ⟨S4x256x2048, .f32⟩
  | 27 => ⟨S4x256x2048, .f32⟩
  | 28 => ⟨S4x2048x4x256, .f32⟩
  | 29 => ⟨S_, .f32⟩
  | 30 => ⟨S256, .f32⟩
  | 31 => ⟨S1x1x1x256, .f32⟩
  | 32 => ⟨S4x2048x4x256, .f32⟩
  | 33 => ⟨S4x2048x4x256, .f32⟩
  | 34 => ⟨S_, .f32⟩
  | 35 => ⟨S256, .f32⟩
  | 36 => ⟨S4x2048x4x256, .f32⟩
  | 37 => ⟨S_, .f32⟩
  | 38 => ⟨S4x2048x4, .f32⟩
  | 39 => ⟨S4x2048x4x1, .f32⟩
  | 40 => ⟨S4x2048x4x256, .f32⟩
  | 41 => ⟨S4x2048x4x256, .f32⟩
  | 42 => ⟨S4x2048x4x1, .f32⟩
  | 43 => ⟨S_, .f32⟩
  | 44 => ⟨S4x2048x4x1, .f32⟩
  | 45 => ⟨S4x2048x4x1, .f32⟩
  | 46 => ⟨S_, .f32⟩
  | 47 => ⟨S4x2048x4, .f32⟩
  | 48 => ⟨S4x2048x4x256, .f32⟩
  | 49 => ⟨S4x2048x4x256, .f32⟩
  | 50 => ⟨S4x2048x4x256, .f32⟩
  | 51 => ⟨S4x2048x4x256, .f32⟩
  | 52 => ⟨S4x2048x4x256, .f32⟩
  | 53 => ⟨S4x2048x1024, .f32⟩
  | 54 => ⟨S1x256, .f32⟩
  | 55 => ⟨S1x256, .f32⟩
  | 56 => ⟨S4x2048x1024, .bf16⟩
  | _ => ⟨S4x2048x1024, .f32⟩

abbrev hbmTy (i : Nat) : BufTy := match i / 128 with
  | 0 => hbmTy0_0 i
  | 1 => hbmTy0_1 i
  | _ => ⟨S4x2048x1024, .f32⟩

abbrev bufTy : (tb : Table) → Fin (tcTables nBuf tb) → BufTy
  | .hbm, ⟨i, _⟩ => hbmTy i
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_cst_8 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_9 : Ref sig .tc := ⟨.hbm, 62, rfl⟩
abbrev main_v47 : Ref sig .tc := ⟨.hbm, 63, rfl⟩
abbrev main_cst_10 : Ref sig .tc := ⟨.hbm, 64, rfl⟩
abbrev main_v48 : Ref sig .tc := ⟨.hbm, 65, rfl⟩
abbrev main_v49 : Ref sig .tc := ⟨.hbm, 66, rfl⟩
abbrev main_cst_11 : Ref sig .tc := ⟨.hbm, 67, rfl⟩
abbrev main_v50 : Ref sig .tc := ⟨.hbm, 68, rfl⟩
abbrev main_v51 : Ref sig .tc := ⟨.hbm, 69, rfl⟩
abbrev main_cst_12 : Ref sig .tc := ⟨.hbm, 70, rfl⟩
abbrev main_v52 : Ref sig .tc := ⟨.hbm, 71, rfl⟩
abbrev main_v53 : Ref sig .tc := ⟨.hbm, 72, rfl⟩
abbrev main_cst_13 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_16 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_17 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_cst_18 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_20 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_cst_22 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_23 : Ref sig .tc := ⟨.hbm, 133, rfl⟩
abbrev main_v104 : Ref sig .tc := ⟨.hbm, 134, rfl⟩
abbrev main_v105 : Ref sig .tc := ⟨.hbm, 135, rfl⟩
abbrev main_cst_24 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_cst_25 : Ref sig .tc := ⟨.hbm, 142, rfl⟩
abbrev main_v111 : Ref sig .tc := ⟨.hbm, 143, rfl⟩
abbrev main_v112 : Ref sig .tc := ⟨.hbm, 144, rfl⟩
abbrev main_cst_26 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_cst_27 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_cst_28 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_cst_29 : Ref sig .tc := ⟨.hbm, 162, rfl⟩
abbrev main_v127 : Ref sig .tc := ⟨.hbm, 163, rfl⟩
abbrev main_v128 : Ref sig .tc := ⟨.hbm, 164, rfl⟩
abbrev main_cst_30 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_cst_31 : Ref sig .tc := ⟨.hbm, 171, rfl⟩
abbrev main_v134 : Ref sig .tc := ⟨.hbm, 172, rfl⟩
abbrev main_v135 : Ref sig .tc := ⟨.hbm, 173, rfl⟩
abbrev main_cst_32 : Ref sig .tc := ⟨.hbm, 174, rfl⟩
abbrev main_v136 : Ref sig .tc := ⟨.hbm, 175, rfl⟩
abbrev main_v137 : Ref sig .tc := ⟨.hbm, 176, rfl⟩
abbrev main_v138 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩

abbrev nD : Nat := 1
abbrev τ : Topo := Topo.v7x

variable {F : FTy → Type} [FloatOps F]
-- ==== DAct.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActRefIdeal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x1024, .f32⟩
  | .hbm, ⟨3, _⟩ => ⟨S2816x1024, .f32⟩
  | .hbm, ⟨4, _⟩ => ⟨S_, .f32⟩
  | .hbm, ⟨5, _⟩ => ⟨S8192x2816, .f32⟩
  | .hbm, ⟨6, _⟩ => ⟨S8192x1024, .f32⟩
  | .hbm, ⟨7, _⟩ => ⟨S8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DHn.lean ====
abbrev S8192x5632 : Shape := ⟨2, ![8192, 5632]⟩
abbrev S5632x1024 : Shape := ⟨2, ![5632, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHnRefIdeal.lean ====
abbrev S8192x5632 : Shape := ⟨2, ![8192, 5632]⟩
abbrev S5632x1024 : Shape := ⟨2, ![5632, 1024]⟩
abbrev S_ : Shape := ⟨0, ![]⟩
abbrev S8192x1024 : Shape := ⟨2, ![8192, 1024]⟩
abbrev S1024x5632 : Shape := ⟨2, ![1024, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x1024, .bf16⟩
  | .hbm, ⟨2, _⟩ => ⟨S8192x5632, .f32⟩
  | .hbm, ⟨3, _⟩ => ⟨S5632x1024, .f32⟩
  | .hbm, ⟨4, _⟩ => ⟨S_, .f32⟩
  | .hbm, ⟨5, _⟩ => ⟨S8192x1024, .f32⟩
  | .hbm, ⟨6, _⟩ => ⟨S1024x5632, .f32⟩
  | .hbm, ⟨7, _⟩ => ⟨S8192x5632, .f32⟩
  | .hbm, ⟨8, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwUp.lean ====
abbrev S8192x5632 : Shape := ⟨2, ![8192, 5632]⟩
abbrev S8192x1024 : Shape := ⟨2, ![8192, 1024]⟩
abbrev S5632x1024 : Shape := ⟨2, ![5632, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S5632x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpRefIdeal.lean ====
abbrev S8192x5632 : Shape := ⟨2, ![8192, 5632]⟩
abbrev S8192x1024 : Shape := ⟨2, ![8192, 1024]⟩
abbrev S_ : Shape := ⟨0, ![]⟩
abbrev S5632x1024 : Shape := ⟨2, ![5632, 1024]⟩
abbrev S1024x5632 : Shape := ⟨2, ![1024, 5632]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x1024, .bf16⟩
  | .hbm, ⟨2, _⟩ => ⟨S8192x5632, .f32⟩
  | .hbm, ⟨3, _⟩ => ⟨S8192x1024, .f32⟩
  | .hbm, ⟨4, _⟩ => ⟨S_, .f32⟩
  | .hbm, ⟨5, _⟩ => ⟨S5632x1024, .f32⟩
  | .hbm, ⟨6, _⟩ => ⟨S1024x5632, .f32⟩
  | .hbm, ⟨7, _⟩ => ⟨S8192x5632, .f32⟩
  | .hbm, ⟨8, _⟩ => ⟨S5632x1024, .f32⟩
  | .hbm, ⟨9, _⟩ => ⟨S1024x5632, .f32⟩
  | .hbm, ⟨10, _⟩ => ⟨S5632x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwSq.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwInSq.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInSqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S8192x1024, .f32⟩
  | .hbm, ⟨8, _⟩ => ⟨S1024x1024, .f32⟩
  | .hbm, ⟨9, _⟩ => ⟨S1024x1024, .f32⟩
  | .hbm, ⟨10, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInQkv.lean ====
abbrev S8192x3072 : Shape := ⟨2, ![8192, 3072]⟩
abbrev S8192x1024 : Shape := ⟨2, ![8192, 1024]⟩
abbrev S3072x1024 : Shape := ⟨2, ![3072, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S3072x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInQkvRefIdeal.lean ====
abbrev S8192x3072 : Shape := ⟨2, ![8192, 3072]⟩
abbrev S8192x1024 : Shape := ⟨2, ![8192, 1024]⟩
abbrev S_ : Shape := ⟨0, ![]⟩
abbrev S3072x1024 : Shape := ⟨2, ![3072, 1024]⟩
abbrev S1024x3072 : Shape := ⟨2, ![1024, 3072]⟩

abbrev nBuf : Space → Nat
  | .hbm => 11
  | .vmem => 0
  | .smem => 0
  | _ => 0

abbrev bufTy : (tb : Table) → Fin (tcTables nBuf tb) → BufTy
  | .hbm, ⟨0, _⟩ => ⟨S8192x3072, .bf16⟩
  | .hbm, ⟨1, _⟩ => ⟨S8192x1024, .bf16⟩
  | .hbm, ⟨2, _⟩ => ⟨S8192x3072, .f32⟩
  | .hbm, ⟨3, _⟩ => ⟨S8192x1024, .f32⟩
  | .hbm, ⟨4, _⟩ => ⟨S_, .f32⟩
  | .hbm, ⟨5, _⟩ => ⟨S3072x1024, .f32⟩
  | .hbm, ⟨6, _⟩ => ⟨S1024x3072, .f32⟩
  | .hbm, ⟨7, _⟩ => ⟨S8192x3072, .f32⟩
  | .hbm, ⟨8, _⟩ => ⟨S3072x1024, .f32⟩
  | .hbm, ⟨9, _⟩ => ⟨S1024x3072, .f32⟩
  | .hbm, ⟨10, _⟩ => ⟨S3072x1024, .f32⟩
  | _, _ => ⟨S8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInGate.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInGateRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwInAb.lean ====
abbrev S8192x128 : Shape := ⟨2, ![8192, 128]⟩
abbrev S8192x1024 : Shape := ⟨2, ![8192, 1024]⟩
abbrev S128x1024 : Shape := ⟨2, ![128, 1024]⟩
abbrev S1024x128 : Shape := ⟨2, ![1024, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S128x1024, .f32⟩
  | .local _ .vmem, ⟨0, _⟩ => ⟨S1024x128, .bf16⟩
  | .local _ .vmem, ⟨1, _⟩ => ⟨S1024x128, .bf16⟩
  | .local _ .vmem, ⟨2, _⟩ => ⟨S1024x1024, .bf16⟩
  | .local _ .vmem, ⟨3, _⟩ => ⟨S1024x1024, .bf16⟩
  | .local _ .vmem, ⟨4, _⟩ => ⟨S128x1024, .f32⟩
  | .local _ .vmem, ⟨5, _⟩ => ⟨S128x1024, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_6 : BitVec 32 := 7#32
  let v11 : BitVec 1 := Scalar.cmpi .eq arg2 c7_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInAbRefIdeal.lean ====
abbrev S8192x128 : Shape := ⟨2, ![8192, 128]⟩
abbrev S8192x1024 : Shape := ⟨2, ![8192, 1024]⟩
abbrev S_ : Shape := ⟨0, ![]⟩
abbrev S128x1024 : Shape := ⟨2, ![128, 1024]⟩
abbrev S1024x128 : Shape := ⟨2, ![1024, 128]⟩

abbrev nBuf : Space → Nat
  | .hbm => 11
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x1024, .bf16⟩
  | .hbm, ⟨2, _⟩ => ⟨S8192x128, .f32⟩
  | .hbm, ⟨3, _⟩ => ⟨S8192x1024, .f32⟩
  | .hbm, ⟨4, _⟩ => ⟨S_, .f32⟩
  | .hbm, ⟨5, _⟩ => ⟨S128x1024, .f32⟩
  | .hbm, ⟨6, _⟩ => ⟨S1024x128, .f32⟩
  | .hbm, ⟨7, _⟩ => ⟨S8192x128, .f32⟩
  | .hbm, ⟨8, _⟩ => ⟨S128x1024, .f32⟩
  | .hbm, ⟨9, _⟩ => ⟨S1024x128, .f32⟩
  | .hbm, ⟨10, _⟩ => ⟨S128x1024, .f32⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DxSq.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxSqRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DXo.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DXoRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMn.lean ====
abbrev S1024x2048 : Shape := ⟨2, ![1024, 2048]⟩
abbrev S2048x1024 : Shape := ⟨2, ![2048, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S2048x1024, .bf16⟩
  | .hbm, ⟨2, _⟩ => ⟨S1024x1024, .f32⟩
  | .local _ .vmem, ⟨0, _⟩ => ⟨S1024x512, .f32⟩
  | .local _ .vmem, ⟨1, _⟩ => ⟨S1024x512, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v12 : BitVec 1 := Scalar.cmpi .eq arg2 c3_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DMnRefIdeal.lean ====
abbrev S1024x2048 : Shape := ⟨2, ![1024, 2048]⟩
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x1024, .bf16⟩
  | .hbm, ⟨2, _⟩ => ⟨S1024x2048, .bf16⟩
  | .hbm, ⟨3, _⟩ => ⟨S1024x2048, .f32⟩
  | .hbm, ⟨4, _⟩ => ⟨S2048x1024, .f32⟩
  | .hbm, ⟨5, _⟩ => ⟨S_, .f32⟩
  | .hbm, ⟨6, _⟩ => ⟨S1024x1024, .f32⟩
  | .hbm, ⟨7, _⟩ => ⟨S1024x2048, .f32⟩
  | .hbm, ⟨8, _⟩ => ⟨S1024x2048, .f32⟩
  | .hbm, ⟨9, _⟩ => ⟨S1024x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwXkv.lean ====
abbrev S1024x2048 : Shape := ⟨2, ![1024, 2048]⟩
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x2048, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXkvRefIdeal.lean ====
abbrev S1024x2048 : Shape := ⟨2, ![1024, 2048]⟩
abbrev S1024x1024 : Shape := ⟨2, ![1024, 1024]⟩
abbrev S_ : Shape := ⟨0, ![]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x1024, .bf16⟩
  | .hbm, ⟨2, _⟩ => ⟨S1024x2048, .bf16⟩
  | .hbm, ⟨3, _⟩ => ⟨S1024x2048, .f32⟩
  | .hbm, ⟨4, _⟩ => ⟨S1024x1024, .f32⟩
  | .hbm, ⟨5, _⟩ => ⟨S_, .f32⟩
  | .hbm, ⟨6, _⟩ => ⟨S2048x1024, .f32⟩
  | .hbm, ⟨7, _⟩ => ⟨S1024x2048, .f32⟩
  | .hbm, ⟨8, _⟩ => ⟨S1024x2048, .f32⟩
  | .hbm, ⟨9, _⟩ => ⟨S2048x1024, .f32⟩
  | .hbm, ⟨10, _⟩ => ⟨S1024x2048, .f32⟩
  | .hbm, ⟨11, _⟩ => ⟨S2048x1024, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== ProjQkv.lean ====
abbrev S8192x1024 : Shape := ⟨2, ![8192, 1024]⟩
abbrev S3072x1024 : Shape := ⟨2, ![3072, 1024]⟩
abbrev S8192x3072 : Shape := ⟨2, ![8192, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjQkvRefIdeal.lean ====
abbrev S8192x1024 : Shape := ⟨2, ![8192, 1024]⟩
abbrev S3072x1024 : Shape := ⟨2, ![3072, 1024]⟩
abbrev S1024x3072 : Shape := ⟨2, ![1024, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3072x1024, .bf16⟩
  | .hbm, ⟨2, _⟩ => ⟨S8192x1024, .f32⟩
  | .hbm, ⟨3, _⟩ => ⟨S3072x1024, .f32⟩
  | .hbm, ⟨4, _⟩ => ⟨S1024x3072, .f32⟩
  | .hbm, ⟨5, _⟩ => ⟨S8192x3072, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjGate.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjGateRefIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x1024, .f32⟩
  | .hbm, ⟨3, _⟩ => ⟨S2048x1024, .f32⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjZ.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjZRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S1024x1024, .f32⟩
  | .hbm, ⟨5, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjAb.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjAbRefIdeal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S128x1024, .f32⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== XattnKv.lean ====
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S1024x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XattnKvRefIdeal.lean ====
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S2048x1024, .bf16⟩
  | .hbm, ⟨2, _⟩ => ⟨S1024x1024, .f32⟩
  | .hbm, ⟨3, _⟩ => ⟨S2048x1024, .f32⟩
  | .hbm, ⟨4, _⟩ => ⟨S1024x2048, .f32⟩
  | .hbm, ⟨5, _⟩ => ⟨S1024x2048, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S8192x1024 : Shape := ⟨2, ![8192, 1024]⟩
abbrev S5632x1024 : Shape := ⟨2, ![5632, 1024]⟩
abbrev S8192x5632 : Shape := ⟨2, ![8192, 5632]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x5632, .f32⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .f32⟩
  | .local _ .vmem, ⟨5, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpRefIdeal.lean ====
abbrev S8192x1024 : Shape := ⟨2, ![8192, 1024]⟩
abbrev S5632x1024 : Shape := ⟨2, ![5632, 1024]⟩
abbrev S1024x5632 : Shape := ⟨2, ![1024, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S5632x1024, .bf16⟩
  | .hbm, ⟨2, _⟩ => ⟨S8192x1024, .f32⟩
  | .hbm, ⟨3, _⟩ => ⟨S5632x1024, .f32⟩
  | .hbm, ⟨4, _⟩ => ⟨S1024x5632, .f32⟩
  | .hbm, ⟨5, _⟩ => ⟨S8192x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ProjSq.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjSqRefIdeal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MixOutRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== LossDown.lean ====
abbrev S8192x2816 : Shape := ⟨2, ![8192, 2816]⟩
abbrev S2816x1024 : Shape := ⟨2, ![2816, 1024]⟩
abbrev S8192x1024 : Shape := ⟨2, ![8192, 1024]⟩
abbrev S1x128 : Shape := ⟨2, ![1, 128]⟩
abbrev S1024x1408 : Shape := ⟨2, ![1024, 1408]⟩
abbrev S1408x1024 : Shape := ⟨2, ![1408, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩

abbrev nBuf : Space → Nat
  | .hbm => 7
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x128, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x128, .f32⟩
  | .local _ .vmem, ⟨13, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_23 : BitVec 32 := 0#32
  let v35 : BitVec 1 := Scalar.cmpi .eq arg0 c0_i32_23
  let arg1 : BitVec 32 := BitVec.ofNat 32 (i 1).val
  let c0_i32_24 : BitVec 32 := 0#32
  let v36 : BitVec 1 := Scalar.cmpi .eq arg1 c0_i32_24
  let v37 : BitVec 1 := Scalar.andi v35 v36
  let v38 : BitVec 32 := Scalar.extui v37
  let c0_i32_25 : BitVec 32 := 0#32
  let v39 : BitVec 1 := Scalar.cmpi .ne v38 c0_i32_25
  v39

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== LossDownRefIdeal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩
abbrev S8192 : Shape := ⟨1, ![8192]⟩
abbrev S1x128 : Shape := ⟨2, ![1, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1024, .f32⟩
  | .hbm, ⟨30, _⟩ => ⟨S8192x1024, .f32⟩
  | .hbm, ⟨31, _⟩ => ⟨S8192x1024, .bf16⟩
  | .hbm, ⟨32, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_cst_4 : Ref sig .tc := ⟨.hbm, 22, rfl⟩
abbrev main_cst_5 : Ref sig .tc := ⟨.hbm, 23, rfl⟩
abbrev main_v13 : Ref sig .tc := ⟨.hbm, 24, rfl⟩
abbrev main_v14 : Ref sig .tc := ⟨.hbm, 25, rfl⟩
abbrev main_cst_6 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== NormBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormMixBwd.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormMemBwd.lean ====
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 4
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormMemBwdRefIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024, .f32⟩
  | .hbm, ⟨3, _⟩ => ⟨S1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1, .f32⟩
  | .hbm, ⟨8, _⟩ => ⟨S_, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x1, .f32⟩
  | .hbm, ⟨15, _⟩ => ⟨S1024x1024, .f32⟩
  | .hbm, ⟨16, _⟩ => ⟨S1024x1024, .f32⟩
  | .hbm, ⟨17, _⟩ => ⟨S1x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024, .f32⟩
  | .hbm, ⟨23, _⟩ => ⟨S1x1024, .f32⟩
  | .hbm, ⟨24, _⟩ => ⟨S_, .f32⟩
  | .hbm, ⟨25, _⟩ => ⟨S1024, .f32⟩
  | .hbm, ⟨26, _⟩ => ⟨S1x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== MergeBwd.lean ====
abbrev S8192x1024 : Shape := ⟨2, ![8192, 1024]⟩
abbrev S8192x2048 : Shape := ⟨2, ![8192, 2048]⟩
abbrev S256x1024 : Shape := ⟨2, ![256, 1024]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S8192x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== MergeBwdRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x2048, .f32⟩
  | .hbm, ⟨42, _⟩ => ⟨S8192x1024, .bf16⟩
  | .hbm, ⟨43, _⟩ => ⟨S8192x1024, .bf16⟩
  | .hbm, ⟨44, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S256x1024 : Shape := ⟨2, ![256, 1024]⟩
abbrev S256x2048 : Shape := ⟨2, ![256, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S256x1024, .bf16⟩
  | .local _ .vmem, ⟨7, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MergeRefIdeal.lean ====
abbrev S8192x1024 : Shape := ⟨2, ![8192, 1024]⟩
abbrev S8192x2048 : Shape := ⟨2, ![8192, 2048]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== NormMix.lean ====
abbrev S8192x1024 : Shape := ⟨2, ![8192, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormMem.lean ====
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMemRefIdeal.lean ====
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S1024x1 : Shape := ⟨2, ![1024, 1]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1x1024, .f32⟩
  | .hbm, ⟨2, _⟩ => ⟨S1024, .f32⟩
  | .hbm, ⟨3, _⟩ => ⟨S1024x1024, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x1024, .f32⟩
  | .hbm, ⟨15, _⟩ => ⟨S1024x1024, .f32⟩
  | .hbm, ⟨16, _⟩ => ⟨S1x1024, .f32⟩
  | .hbm, ⟨17, _⟩ => ⟨S1024x1024, .f32⟩
  | .hbm, ⟨18, _⟩ => ⟨S1024x1024, .f32⟩
  | .hbm, ⟨19, _⟩ => ⟨S1024x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== XattnFwd.lean ====
abbrev S4x2048x1024 : Shape := ⟨3, ![4, 2048, 1024]⟩
abbrev S4x256x2048 : Shape := ⟨3, ![4, 256, 2048]⟩
abbrev S1x256 : Shape := ⟨2, ![1, 256]⟩
abbrev S1x256x1024 : Shape := ⟨3, ![1, 256, 1024]⟩
abbrev S1x256x2048 : Shape := ⟨3, ![1, 256, 2048]⟩
abbrev S256x1024 : Shape := ⟨2, ![256, 1024]⟩
abbrev S256x2048 : Shape := ⟨2, ![256, 2048]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S1x256, .f32⟩
  | .hbm, ⟨3, _⟩ => ⟨S1x256, .f32⟩
  | .hbm, ⟨4, _⟩ => ⟨S4x2048x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x2048, .f32⟩
  | .local _ .vmem, ⟨3, _⟩ => ⟨S1x256x2048, .f32⟩
  | .local _ .vmem, ⟨4, _⟩ => ⟨S1x256, .f32⟩
  | .local _ .vmem, ⟨5, _⟩ => ⟨S1x256, .f32⟩
  | .local _ .vmem, ⟨6, _⟩ => ⟨S1x256x1024, .bf16⟩
  | .local _ .vmem, ⟨7, _⟩ => ⟨S1x256x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== XattnFwdRefIdeal.lean ====
abbrev S4x2048x1024 : Shape := ⟨3, ![4, 2048, 1024]⟩
abbrev S4x256x2048 : Shape := ⟨3, ![4, 256, 2048]⟩
abbrev S1x256 : Shape := ⟨2, ![1, 256]⟩
abbrev S256 : Shape := ⟨1, ![256]⟩
abbrev S4x2048x4x256 : Shape := ⟨4, ![4, 2048, 4, 256]⟩
abbrev S_ : Shape := ⟨0, ![]⟩
abbrev S4x2048x4 : Shape := ⟨3, ![4, 2048, 4]⟩
abbrev S4x2048x4x1 : Shape := ⟨4, ![4, 2048, 4, 1]⟩
abbrev S1x1x1x256 : Shape := ⟨4, ![1, 1, 1, 256]⟩
abbrev S4x256x1024 : Shape := ⟨3, ![4, 256, 1024]⟩
abbrev S4x256x4x256 : Shape := ⟨4, ![4, 256, 4, 256]⟩
abbrev S4x256x4 : Shape := ⟨3, ![4, 256, 4]⟩
abbrev S4x256x4x1 : Shape := ⟨4, ![4, 256, 4, 1]⟩
abbrev S4x4x2048x256 : Shape := ⟨4, ![4, 4, 2048, 256]⟩
abbrev S4x4x2048 : Shape := ⟨3, ![4, 4, 2048]⟩
abbrev S4x4x2048x1 : Shape := ⟨4, ![4, 4, 2048, 1]⟩
abbrev S4x4x256x2048 : Shape := ⟨4, ![4, 4, 256, 2048]⟩

abbrev nBuf : Space → Nat
  | .hbm => 65
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x256x2048, .f32⟩
  | .hbm, ⟨2, _⟩ => ⟨S1x256, .f32⟩
  | .hbm, ⟨3, _⟩ => ⟨S1x256, .f32⟩
  | .hbm, ⟨4, _⟩ => ⟨S256, .f32⟩
  | .hbm, ⟨5, _⟩ => ⟨S256, .f32⟩
  | .hbm, ⟨6, _⟩ => ⟨S4x2048x4x256, .f32⟩
  | .hbm, ⟨7, _⟩ => ⟨S4x2048x4x256, .f32⟩
  | .hbm, ⟨8, _⟩ => ⟨S_, .f32⟩
  | .hbm, ⟨9, _⟩ => ⟨S4x2048x4, .f32⟩
  | .hbm, ⟨10, _⟩ => ⟨S4x2048x4x1, .f32⟩
  | .hbm, ⟨11, _⟩ => ⟨S_, .f32⟩
  | .hbm, ⟨12, _⟩ => ⟨S4x2048x4x1, .f32⟩
  | .hbm, ⟨13, _⟩ => ⟨S4x2048x4x1, .f32⟩
  | .hbm, ⟨14, _⟩ => ⟨S_, .f32⟩
  | .hbm, ⟨15, _⟩ => ⟨S4x2048x4x1, .f32⟩
  | .hbm, ⟨16, _⟩ => ⟨S4x2048x4x1, .f32⟩
  | .hbm, ⟨17, _⟩ => ⟨S4x2048x4x1, .f32⟩
  | .hbm, ⟨18, _⟩ => ⟨S4x2048x4x256, .f32⟩
  | .hbm, ⟨19, _⟩ => ⟨S4x2048x4x256, .f32⟩
  | .hbm, ⟨20, _⟩ => ⟨S1x1x1x256, .f32⟩
  | .hbm, ⟨21, _⟩ => ⟨S4x2048x4x256, .f32⟩
  | .hbm, ⟨22, _⟩ => ⟨S4x2048x4x256, .f32⟩
  | .hbm, ⟨23, _⟩ => ⟨S4x256x1024, .f32⟩
  | .hbm, ⟨24, _⟩ => ⟨S4x256x4x256, .f32⟩
  | .hbm, ⟨25, _⟩ => ⟨S4x256x4x256, .f32⟩
  | .hbm, ⟨26, _⟩ => ⟨S_, .f32⟩
  | .hbm, ⟨27, _⟩ => ⟨S4x256x4, .f32⟩
  | .hbm, ⟨28, _⟩ => ⟨S4x256x4x1, .f32⟩
  | .hbm, ⟨29, _⟩ => ⟨S_, .f32⟩
  | .hbm, ⟨30, _⟩ => ⟨S4x256x4x1, .f32⟩
  | .hbm, ⟨31, _⟩ => ⟨S4x256x4x1, .f32⟩
  | .hbm, ⟨32, _⟩ => ⟨S_, .f32⟩
  | .hbm, ⟨33, _⟩ => ⟨S4x256x4x1, .f32⟩
  | .hbm, ⟨34, _⟩ => ⟨S4x256x4x1, .f32⟩
  | .hbm, ⟨35, _⟩ => ⟨S4x256x4x1, .f32⟩
  | .hbm, ⟨36, _⟩ => ⟨S4x256x4x256, .f32⟩
  | .hbm, ⟨37, _⟩ => ⟨S4x256x4x256, .f32⟩
  | .hbm, ⟨38, _⟩ => ⟨S1x1x1x256, .f32⟩
  | .hbm, ⟨39, _⟩ => ⟨S4x256x4x256, .f32⟩
  | .hbm, ⟨40, _⟩ => ⟨S4x256x4x256, .f32⟩
  | .hbm, ⟨41, _⟩ => ⟨S4x256x1024, .f32⟩
  | .hbm, ⟨42, _⟩ => ⟨S4x256x4x256, .f32⟩
  | .hbm, ⟨43, _⟩ => ⟨S4x4x2048x256, .f32⟩
  | .hbm, ⟨44, _⟩ => ⟨S_, .f32⟩
  | .hbm, ⟨45, _⟩ => ⟨S4x4x2048x256, .f32⟩
  | .hbm, ⟨46, _⟩ => ⟨S4x4x2048x256, .f32⟩
  | .hbm, ⟨47, _⟩ => ⟨S_, .f32⟩
  | .hbm, ⟨48, _⟩ => ⟨S4x4x2048, .f32⟩
  | .hbm, ⟨49, _⟩ => ⟨S_, .f32⟩
  | .hbm, ⟨50, _⟩ => ⟨S4x4x2048, .f32⟩
  | .hbm, ⟨51, _⟩ => ⟨S4x4x2048, .f32⟩
  | .hbm, ⟨52, _⟩ => ⟨S4x4x2048x1, .f32⟩
  | .hbm, ⟨53, _⟩ => ⟨S4x4x2048x256, .f32⟩
  | .hbm, ⟨54, _⟩ => ⟨S4x4x2048x256, .f32⟩
  | .hbm, ⟨55, _⟩ => ⟨S4x4x2048x256, .f32⟩
  | .hbm, ⟨56, _⟩ => ⟨S_, .f32⟩
  | .hbm, ⟨57, _⟩ => ⟨S4x4x2048, .f32⟩
  | .hbm, ⟨58, _⟩ => ⟨S4x4x2048x1, .f32⟩
  | .hbm, ⟨59, _⟩ => ⟨S4x4x2048x256, .f32⟩
  | .hbm, ⟨60, _⟩ => ⟨S4x4x2048x256, .f32⟩
  | .hbm, ⟨61, _⟩ => ⟨S4x4x256x2048, .f32⟩
  | .hbm, ⟨62, _⟩ => ⟨S4x2048x4x256, .f32⟩
  | .hbm, ⟨63, _⟩ => ⟨S4x2048x1024, .f32⟩
  | .hbm, ⟨64, _⟩ => ⟨S4x2048x1024, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_cst_7 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== FfnConv.lean ====
abbrev S4x2048x5632 : Shape := ⟨3, ![4, 2048, 5632]⟩
abbrev S4x5632 : Shape := ⟨2, ![4, 5632]⟩
abbrev S4x2048x2816 : Shape := ⟨3, ![4, 2048, 2816]⟩
abbrev S1x2048x256 : Shape := ⟨3, ![1, 2048, 256]⟩
abbrev S4x256 : Shape := ⟨2, ![4, 256]⟩
abbrev S2048x256 : Shape := ⟨2, ![2048, 256]⟩
abbrev S1x256 : Shape := ⟨2, ![1, 256]⟩
abbrev S8x256 : Shape := ⟨2, ![8, 256]⟩
abbrev S2040x256 : Shape := ⟨2, ![2040, 256]⟩

abbrev nBuf : Space → Nat
  | .hbm => 3
  | .vmem => 10
  | .smem => 0
  | _ => 0

abbrev bufTy : (tb : Table) → Fin (tcTables nBuf tb) → BufTy
  | .hbm, ⟨0, _⟩ => ⟨S4x2048x5632, .f32⟩
  | .hbm, ⟨1, _⟩ => ⟨S4x5632, .f32⟩
  | .hbm, ⟨2, _⟩ => ⟨S4x2048x2816, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S1x2048x256, .bf16⟩
  | .local _ .vmem, ⟨9, _⟩ => ⟨S1x2048x256, .bf16⟩
  | _, _ => ⟨S4x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S4x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnConvRefIdeal.lean ====
abbrev S4x2048x5632 : Shape := ⟨3, ![4, 2048, 5632]⟩
abbrev S4x5632 : Shape := ⟨2, ![4, 5632]⟩
abbrev S_ : Shape := ⟨0, ![]⟩
abbrev S4x3x5632 : Shape := ⟨3, ![4, 3, 5632]⟩
abbrev S4x2051x5632 : Shape := ⟨3, ![4, 2051, 5632]⟩
abbrev S1x5632 : Shape := ⟨2, ![1, 5632]⟩
abbrev S5632 : Shape := ⟨1, ![5632]⟩
abbrev S1x1x5632 : Shape := ⟨3, ![1, 1, 5632]⟩
abbrev S4x2048x2816 : Shape := ⟨3, ![4, 2048, 2816]⟩

abbrev nBuf : Space → Nat
  | .hbm => 48
  | .vmem => 0
  | .smem => 0
  | _ => 0

abbrev bufTy : (tb : Table) → Fin (tcTables nBuf tb) → BufTy
  | .hbm, ⟨0, _⟩ => ⟨S4x2048x5632, .f32⟩
  | .hbm, ⟨1, _⟩ => ⟨S4x5632, .f32⟩
  | .hbm, ⟨2, _⟩ => ⟨S_, .f32⟩
  | .hbm, ⟨3, _⟩ => ⟨S4x3x5632, .f32⟩
  | .hbm, ⟨4, _⟩ => ⟨S4x2051x5632, .f32⟩
  | .hbm, ⟨5, _⟩ => ⟨S4x2048x5632, .f32⟩
  | .hbm, ⟨6, _⟩ => ⟨S1x5632, .f32⟩
  | .hbm, ⟨7, _⟩ => ⟨S5632, .f32⟩
  | .hbm, ⟨8, _⟩ => ⟨S1x1x5632, .f32⟩
  | .hbm, ⟨9, _⟩ => ⟨S4x2048x5632, .f32⟩
  | .hbm, ⟨10, _⟩ => ⟨S4x2048x5632, .f32⟩
  | .hbm, ⟨11, _⟩ => ⟨S_, .f32⟩
  | .hbm, ⟨12, _⟩ => ⟨S4x2048x5632, .f32⟩
  | .hbm, ⟨13, _⟩ => ⟨S4x2048x5632, .f32⟩
  | .hbm, ⟨14, _⟩ => ⟨S4x2048x5632, .f32⟩
  | .hbm, ⟨15, _⟩ => ⟨S1x5632, .f32⟩
  | .hbm, ⟨16, _⟩ => ⟨S5632, .f32⟩
  | .hbm, ⟨17, _⟩ => ⟨S1x1x5632, .f32⟩
  | .hbm, ⟨18, _⟩ => ⟨S4x2048x5632, .f32⟩
  | .hbm, ⟨19, _⟩ => ⟨S4x2048x5632, .f32⟩
  | .hbm, ⟨20, _⟩ => ⟨S4x2048x5632, .f32⟩
  | .hbm, ⟨21, _⟩ => ⟨S4x2048x5632, .f32⟩
  | .hbm, ⟨22, _⟩ => ⟨S1x5632, .f32⟩
  | .hbm, ⟨23, _⟩ => ⟨S5632, .f32⟩
  | .hbm, ⟨24, _⟩ => ⟨S1x1x5632, .f32⟩
  | .hbm, ⟨25, _⟩ => ⟨S4x2048x5632, .f32⟩
  | .hbm, ⟨26, _⟩ => ⟨S4x2048x5632, .f32⟩
  | .hbm, ⟨27, _⟩ => ⟨S4x2048x5632, .f32⟩
  | .hbm, ⟨28, _⟩ => ⟨S4x2048x5632, .f32⟩
  | .hbm, ⟨29, _⟩ => ⟨S1x5632, .f32⟩
  | .hbm, ⟨30, _⟩ => ⟨S5632, .f32⟩
  | .hbm, ⟨31, _⟩ => ⟨S1x1x5632, .f32⟩
  | .hbm, ⟨32, _⟩ => ⟨S4x2048x5632, .f32⟩
  | .hbm, ⟨33, _⟩ => ⟨S4x2048x5632, .f32⟩
  | .hbm, ⟨34, _⟩ => ⟨S4x2048x5632, .f32⟩
  | .hbm, ⟨35, _⟩ => ⟨S4x2048x2816, .f32⟩
  | .hbm, ⟨36, _⟩ => ⟨S4x2048x2816, .f32⟩
  | .hbm, ⟨37, _⟩ => ⟨S4x2048x2816, .f32⟩
  | .hbm, ⟨38, _⟩ => ⟨S_, .f32⟩
  | .hbm, ⟨39, _⟩ => ⟨S4x2048x2816, .f32⟩
  | .hbm, ⟨40, _⟩ => ⟨S4x2048x2816, .f32⟩
  | .hbm, ⟨41, _⟩ => ⟨S_, .f32⟩
  | .hbm, ⟨42, _⟩ => ⟨S4x2048x2816, .f32⟩
  | .hbm, ⟨43, _⟩ => ⟨S4x2048x2816, .f32⟩
  | .hbm, ⟨44, _⟩ => ⟨S4x2048x2816, .f32⟩
  | .hbm, ⟨45, _⟩ => ⟨S4x2048x2816, .f32⟩
  | .hbm, ⟨46, _⟩ => ⟨S4x2048x2816, .f32⟩
  | .hbm, ⟨47, _⟩ => ⟨S4x2048x2816, .bf16⟩
  | _, _ => ⟨S4x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]
-- ==== SibEarly.lean ====
abbrev S8x2048x1024 : Shape := ⟨3, ![8, 2048, 1024]⟩
abbrev S4x2048x1024 : Shape := ⟨3, ![4, 2048, 1024]⟩
abbrev S4 : Shape := ⟨1, ![4]⟩
abbrev S1 : Shape := ⟨1, ![1]⟩
abbrev S_ : Shape := ⟨0, ![]⟩
abbrev S1x2048x1024 : Shape := ⟨3, ![1, 2048, 1024]⟩
abbrev S2048x1024 : Shape := ⟨2, ![2048, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S4x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v10 : BitVec 32 := Scalar.addi c0_i32 v9
  let c0_i32_22 : BitVec 32 := 0#32
  let c0_i32_23 : BitVec 32 := 0#32
  ![v10.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v21 : BitVec 32 := Scalar.muli v2 c4_i32_16
  let v22 : BitVec 32 := Scalar.addi c0_i32_17 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v23 : BitVec 32 := Scalar.muli v5 c2_i32_18
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_19 : BitVec 32 := 1#32
  let v25 : BitVec 32 := Scalar.muli v11 c1_i32_19
  let v26 : BitVec 32 := Scalar.addi v24 v25
  v26.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_30 : BitVec 32 := 1#32
  let v39 : BitVec 32 := Scalar.muli v14 c1_i32_30
  let v40 : BitVec 32 := Scalar.addi v38 v39
  v40.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v49 : BitVec 32 := Scalar.muli v2 c4_i32_38
  let v50 : BitVec 32 := Scalar.addi c0_i32_39 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v51 : BitVec 32 := Scalar.muli v5 c2_i32_40
  let v52 : BitVec 32 := Scalar.addi v50 v51
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_10 v8
  let c1_i32_41 : BitVec 32 := 1#32
  let v53 : BitVec 32 := Scalar.muli v17 c1_i32_41
  let v54 : BitVec 32 := Scalar.addi v52 v53
  v54.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v65 : BitVec 32 := Scalar.muli v5 c2_i32_50
  let v66 : BitVec 32 := Scalar.addi v64 v65
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_51 : BitVec 32 := 1#32
  let v67 : BitVec 32 := Scalar.muli v20 c1_i32_51
  let v68 : BitVec 32 := Scalar.addi v66 v67
  v68.toNat
-- ==== SibEarlyRefIdeal.lean ====
abbrev S64x2048x1024 : Shape := ⟨3, ![64, 2048, 1024]⟩
abbrev S4x2x4x2x2048x1024 : Shape := ⟨6, ![4, 2, 4, 2, 2048, 1024]⟩
abbrev S4x1x4x1x2048x1024 : Shape := ⟨6, ![4, 1, 4, 1, 2048, 1024]⟩
abbrev S4x4x2048x1024 : Shape := ⟨4, ![4, 4, 2048, 1024]⟩
abbrev S4x1x4x2048x1024 : Shape := ⟨5, ![4, 1, 4, 2048, 1024]⟩
abbrev S4x2x4x2048x1024 : Shape := ⟨5, ![4, 2, 4, 2048, 1024]⟩
abbrev S32x2048x1024 : Shape := ⟨3, ![32, 2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S4x2x4x2x2048x1024, .f32⟩
  | .hbm, ⟨2, _⟩ => ⟨S4x1x4x1x2048x1024, .f32⟩
  | .hbm, ⟨3, _⟩ => ⟨S4x4x2048x1024, .f32⟩
  | .hbm, ⟨4, _⟩ => ⟨S4x1x4x1x2048x1024, .f32⟩
  | .hbm, ⟨5, _⟩ => ⟨S4x4x2048x1024, .f32⟩
  | .hbm, ⟨6, _⟩ => ⟨S4x1x4x2048x1024, .f32⟩
  | .hbm, ⟨7, _⟩ => ⟨S4x1x4x2048x1024, .f32⟩
  | .hbm, ⟨8, _⟩ => ⟨S4x2x4x2048x1024, .f32⟩
  | .hbm, ⟨9, _⟩ => ⟨S32x2048x1024, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== SibLate.lean ====
abbrev S8x1280x1024 : Shape := ⟨3, ![8, 1280, 1024]⟩
abbrev S4x1280x1024 : Shape := ⟨3, ![4, 1280, 1024]⟩
abbrev S4 : Shape := ⟨1, ![4]⟩
abbrev S1 : Shape := ⟨1, ![1]⟩
abbrev S_ : Shape := ⟨0, ![]⟩
abbrev S1x1280x1024 : Shape := ⟨3, ![1, 1280, 1024]⟩
abbrev S1280x1024 : Shape := ⟨2, ![1280, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x1280x1024, .f32⟩
  | .hbm, ⟨1, _⟩ => ⟨S4x1280x1024, .f32⟩
  | _, _ => ⟨S8x1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let v10 : BitVec 32 := Scalar.addi c0_i32 v9
  let c0_i32_22 : BitVec 32 := 0#32
  let c0_i32_23 : BitVec 32 := 0#32
  ![v10.toNat, 0, 0]
def k0_dev1 (d0 : Dev nD) : Nat :=
  let c0_i32_17 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_16 : BitVec 32 := 4#32
  let v21 : BitVec 32 := Scalar.muli v2 c4_i32_16
  let v22 : BitVec 32 := Scalar.addi c0_i32_17 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v23 : BitVec 32 := Scalar.muli v5 c2_i32_18
  let v24 : BitVec 32 := Scalar.addi v22 v23
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_19 : BitVec 32 := 1#32
  let v25 : BitVec 32 := Scalar.muli v11 c1_i32_19
  let v26 : BitVec 32 := Scalar.addi v24 v25
  v26.toNat
def k0_dev2 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_27 : BitVec 32 := 4#32
  let v35 : BitVec 32 := Scalar.muli v2 c4_i32_27
  let v36 : BitVec 32 := Scalar.addi c0_i32_28 v35
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_29 : BitVec 32 := 2#32
  let v37 : BitVec 32 := Scalar.muli v5 c2_i32_29
  let v38 : BitVec 32 := Scalar.addi v36 v37
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_7 v8
  let c1_i32_30 : BitVec 32 := 1#32
  let v39 : BitVec 32 := Scalar.muli v14 c1_i32_30
  let v40 : BitVec 32 := Scalar.addi v38 v39
  v40.toNat
def k0_dev3 (d0 : Dev nD) : Nat :=
  let c0_i32_39 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_38 : BitVec 32 := 4#32
  let v49 : BitVec 32 := Scalar.muli v2 c4_i32_38
  let v50 : BitVec 32 := Scalar.addi c0_i32_39 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_40 : BitVec 32 := 2#32
  let v51 : BitVec 32 := Scalar.muli v5 c2_i32_40
  let v52 : BitVec 32 := Scalar.addi v50 v51
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_10 v8
  let c1_i32_41 : BitVec 32 := 1#32
  let v53 : BitVec 32 := Scalar.muli v17 c1_i32_41
  let v54 : BitVec 32 := Scalar.addi v52 v53
  v54.toNat
def k0_dev4 (d0 : Dev nD) : Nat :=
  let c0_i32_49 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_48 : BitVec 32 := 4#32
  let v63 : BitVec 32 := Scalar.muli v2 c4_i32_48
  let v64 : BitVec 32 := Scalar.addi c0_i32_49 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_50 : BitVec 32 := 2#32
  let v65 : BitVec 32 := Scalar.muli v5 c2_i32_50
  let v66 : BitVec 32 := Scalar.addi v64 v65
  let c1_i32_12 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_12 v8
  let c1_i32_51 : BitVec 32 := 1#32
  let v67 : BitVec 32 := Scalar.muli v20 c1_i32_51
  let v68 : BitVec 32 := Scalar.addi v66 v67
  v68.toNat
-- ==== SibLateRefIdeal.lean ====
abbrev S64x1280x1024 : Shape := ⟨3, ![64, 1280, 1024]⟩
abbrev S4x2x4x2x1280x1024 : Shape := ⟨6, ![4, 2, 4, 2, 1280, 1024]⟩
abbrev S4x1x4x1x1280x1024 : Shape := ⟨6, ![4, 1, 4, 1, 1280, 1024]⟩
abbrev S4x4x1280x1024 : Shape := ⟨4, ![4, 4, 1280, 1024]⟩
abbrev S4x1x4x1280x1024 : Shape := ⟨5, ![4, 1, 4, 1280, 1024]⟩
abbrev S4x2x4x1280x1024 : Shape := ⟨5, ![4, 2, 4, 1280, 1024]⟩
abbrev S32x1280x1024 : Shape := ⟨3, ![32, 1280, 1024]⟩

abbrev nBuf : Space → Nat
  | .hbm => 10
  | .vmem => 0
  | .smem => 0
  | _ => 0

abbrev bufTy : (tb : Table) → Fin (tcTables nBuf tb) → BufTy
  | .hbm, ⟨0, _⟩ => ⟨S64x1280x1024, .f32⟩
  | .hbm, ⟨1, _⟩ => ⟨S4x2x4x2x1280x1024, .f32⟩
  | .hbm, ⟨2, _⟩ => ⟨S4x1x4x1x1280x1024, .f32⟩
  | .hbm, ⟨3, _⟩ => ⟨S4x4x1280x1024, .f32⟩
  | .hbm, ⟨4, _⟩ => ⟨S4x1x4x1x1280x1024, .f32⟩
  | .hbm, ⟨5, _⟩ => ⟨S4x4x1280x1024, .f32⟩
  | .hbm, ⟨6, _⟩ => ⟨S4x1x4x1280x1024, .f32⟩
  | .hbm, ⟨7, _⟩ => ⟨S4x1x4x1280x1024, .f32⟩
  | .hbm, ⟨8, _⟩ => ⟨S4x2x4x1280x1024, .f32⟩
  | .hbm, ⟨9, _⟩ => ⟨S32x1280x1024, .f32⟩
  | _, _ => ⟨S64x1280x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== DXn.lean ====
abbrev S8192x3072 : Shape := ⟨2, ![8192, 3072]⟩
abbrev S8192x128 : Shape := ⟨2, ![8192, 128]⟩
abbrev S8192x1024 : Shape := ⟨2, ![8192, 1024]⟩
abbrev S8192x2048 : Shape := ⟨2, ![8192, 2048]⟩
abbrev S3072x1024 : Shape := ⟨2, ![3072, 1024]⟩
abbrev S128x1024 : Shape := ⟨2, ![128, 1024]⟩
abbrev S1024x1024 : Shape := ⟨2, ![1024, 1024]⟩
abbrev S2048x1024 : Shape := ⟨2, ![2048, 1024]⟩
abbrev S4x1280x1024 : Shape := ⟨3, ![4, 1280, 1024]⟩
abbrev S3x1280x1024 : Shape := ⟨3, ![3, 1280, 1024]⟩
abbrev S1024x512 : Shape := ⟨2, ![1024, 512]⟩
abbrev S512x1024 : Shape := ⟨2, ![512, 1024]⟩
abbrev S1024x128 : Shape := ⟨2, ![1024, 128]⟩
abbrev S3 : Shape := ⟨1, ![3]⟩
abbrev S1 : Shape := ⟨1, ![1]⟩
abbrev S_ : Shape := ⟨0, ![]⟩
abbrev S1x1280x1024 : Shape := ⟨3, ![1, 1280, 1024]⟩
abbrev S1280x1024 : Shape := ⟨2, ![1280, 1024]⟩

abbrev nBuf : Space → Nat
  | .hbm => 17
  | .vmem => 31
  | .smem => 0
  | _ => 0

abbrev bufTy : (tb : Table) → Fin (tcTables nBuf tb) → BufTy
  | .hbm, ⟨0, _⟩ => ⟨S8192x3072, .bf16⟩
  | .hbm, ⟨1, _⟩ => ⟨S8192x128, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x2048, .bf16⟩
  | .hbm, ⟨7, _⟩ => ⟨S3072x1024, .bf16⟩
  | .hbm, ⟨8, _⟩ => ⟨S128x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2048x1024, .bf16⟩
  | .hbm, ⟨14, _⟩ => ⟨S4x1280x1024, .bf16⟩
  | .hbm, ⟨15, _⟩ => ⟨S8192x1024, .f32⟩
  | .hbm, ⟨16, _⟩ => ⟨S3x1280x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x128, .bf16⟩
  | .local _ .vmem, ⟨5, _⟩ => ⟨S1024x128, .bf16⟩
  | .local _ .vmem, ⟨6, _⟩ => ⟨S128x1024, .bf16⟩
  | .local _ .vmem, ⟨7, _⟩ => ⟨S128x1024, .bf16⟩
  | .local _ .vmem, ⟨8, _⟩ => ⟨S1024x512, .bf16⟩
  | .local _ .vmem, ⟨9, _⟩ => ⟨S1024x512, .bf16⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | .local _ .vmem, ⟨14, _⟩ => ⟨S512x1024, .bf16⟩
  | .local _ .vmem, ⟨15, _⟩ => ⟨S512x1024, .bf16⟩
  | .local _ .vmem, ⟨16, _⟩ => ⟨S1024x512, .bf16⟩
  | .local _ .vmem, ⟨17, _⟩ => ⟨S1024x512, .bf16⟩
  | .local _ .vmem, ⟨18, _⟩ => ⟨S512x1024, .bf16⟩
  | .local _ .vmem, ⟨19, _⟩ => ⟨S512x1024, .bf16⟩
  | .local _ .vmem, ⟨20, _⟩ => ⟨S1024x512, .bf16⟩
  | .local _ .vmem, ⟨21, _⟩ => ⟨S1024x512, .bf16⟩
  | .local _ .vmem, ⟨22, _⟩ => ⟨S512x1024, .bf16⟩
  | .local _ .vmem, ⟨23, _⟩ => ⟨S512x1024, .bf16⟩
  | .local _ .vmem, ⟨24, _⟩ => ⟨S1024x512, .bf16⟩
  | .local _ .vmem, ⟨25, _⟩ => ⟨S1024x512, .bf16⟩
  | .local _ .vmem, ⟨26, _⟩ => ⟨S512x1024, .bf16⟩
  | .local _ .vmem, ⟨27, _⟩ => ⟨S512x1024, .bf16⟩
  | .local _ .vmem, ⟨28, _⟩ => ⟨S1024x1024, .f32⟩
  | .local _ .vmem, ⟨29, _⟩ => ⟨S1024x1024, .f32⟩
  | .local _ .vmem, ⟨30, _⟩ => ⟨S1024x1024, .f32⟩
  | _, _ => ⟨S8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v1_0 : Ref sig .tc := ⟨.hbm, 15, rfl⟩
abbrev main_v1_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 8
abbrev τ : Topo := Topo.v7x

variable {F : FTy → Type} [FloatOps F]

abbrev grid0 : Pipeline.Grid := ⟨2, ![8, 19], ![false, false]⟩

def k0_cond1 (i : grid0.Coords) : BitVec 1 :=
  let arg0 : BitVec 32 := BitVec.ofNat 32 (i 0).val
  let c0_i32_11 : BitVec 32 := 0#32
  let v21 : BitVec 1 := Scalar.cmpi .eq arg0 c0_i32_11
  let arg1 : BitVec 32 := BitVec.ofNat 32 (i 1).val
  let c0_i32_12 : BitVec 32 := 0#32
  let v22 : BitVec 1 := Scalar.cmpi .eq arg1 c0_i32_12
  let v23 : BitVec 1 := Scalar.andi v21 v22
  let v24 : BitVec 32 := Scalar.extui v23
  let c0_i32_22 : BitVec 32 := 0#32
  let v25 : BitVec 1 := Scalar.cmpi .ne v24 c0_i32_22
  v25

def k0_off1 (d0 : Dev nD) (c0_i32 : BitVec 32) (c1_i32_3 : BitVec 32) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.xori v2 c0_i32
  let v11 : BitVec 32 := Scalar.muli c2_i32_4 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 c1_i32_3
  let v12 : BitVec 32 := Scalar.addi v11 v10
  let c0_i32_58 : BitVec 32 := 0#32
  let c0_i32_59 : BitVec 32 := 0#32
  ![v12.toNat, 0, 0]
def k0_off1_at (r : Fin 3) : BitVec 32 × BitVec 32 :=
  if r.val < 1 then
    (0#32, 1#32)
  else
    if r.val < 2 then
      (1#32, 0#32)
    else
      (1#32, 1#32)
def k0_dev1 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v9 : BitVec 32 := Scalar.xori v2 c0_i32
  let c4_i32_52 : BitVec 32 := 4#32
  let v72 : BitVec 32 := Scalar.muli v9 c4_i32_52
  let v73 : BitVec 32 := Scalar.addi c0_i32_53 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_3 : BitVec 32 := 1#32
  let v10 : BitVec 32 := Scalar.xori v5 c1_i32_3
  let c2_i32_54 : BitVec 32 := 2#32
  let v74 : BitVec 32 := Scalar.muli v10 c2_i32_54
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v76 : BitVec 32 := Scalar.muli v8 c1_i32_55
  let v77 : BitVec 32 := Scalar.addi v75 v76
  v77.toNat
def k0_dev2 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_5 : BitVec 32 := 1#32
  let v13 : BitVec 32 := Scalar.xori v2 c1_i32_5
  let c4_i32_60 : BitVec 32 := 4#32
  let v86 : BitVec 32 := Scalar.muli v13 c4_i32_60
  let v87 : BitVec 32 := Scalar.addi c0_i32_61 v86
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_6 : BitVec 32 := 0#32
  let v14 : BitVec 32 := Scalar.xori v5 c0_i32_6
  let c2_i32_62 : BitVec 32 := 2#32
  let v88 : BitVec 32 := Scalar.muli v14 c2_i32_62
  let v89 : BitVec 32 := Scalar.addi v87 v88
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_63 : BitVec 32 := 1#32
  let v90 : BitVec 32 := Scalar.muli v8 c1_i32_63
  let v91 : BitVec 32 := Scalar.addi v89 v90
  v91.toNat
def k0_dev3 (d0 : Dev nD) : Nat :=
  let c0_i32_69 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_8 : BitVec 32 := 1#32
  let v17 : BitVec 32 := Scalar.xori v2 c1_i32_8
  let c4_i32_68 : BitVec 32 := 4#32
  let v100 : BitVec 32 := Scalar.muli v17 c4_i32_68
  let v101 : BitVec 32 := Scalar.addi c0_i32_69 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_9 : BitVec 32 := 1#32
  let v18 : BitVec 32 := Scalar.xori v5 c1_i32_9
  let c2_i32_70 : BitVec 32 := 2#32
  let v102 : BitVec 32 := Scalar.muli v18 c2_i32_70
  let v103 : BitVec 32 := Scalar.addi v101 v102
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_71 : BitVec 32 := 1#32
  let v104 : BitVec 32 := Scalar.muli v8 c1_i32_71
  let v105 : BitVec 32 := Scalar.addi v103 v104
  v105.toNat
def k0_cond11 (i : grid0.Coords) : BitVec 1 :=
  let arg0 : BitVec 32 := BitVec.ofNat 32 (i 0).val
  let c7_i32_40 : BitVec 32 := 7#32
  let v67 : BitVec 1 := Scalar.cmpi .eq arg0 c7_i32_40
  let arg1 : BitVec 32 := BitVec.ofNat 32 (i 1).val
  let c18_i32_41 : BitVec 32 := 18#32
  let v68 : BitVec 1 := Scalar.cmpi .eq arg1 c18_i32_41
  let v69 : BitVec 1 := Scalar.andi v67 v68
  let v70 : BitVec 32 := Scalar.extui v69
  let c0_i32_51 : BitVec 32 := 0#32
  let v71 : BitVec 1 := Scalar.cmpi .ne v70 c0_i32_51
  v71

def k0_off2 (d0 : Dev nD) (c0_i32 : BitVec 32) (c1_i32_3 : BitVec 32) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.xori v2 c0_i32
  let v11 : BitVec 32 := Scalar.muli c2_i32_4 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.xori v5 c1_i32_3
  let v12 : BitVec 32 := Scalar.addi v11 v10
  let c0_i32_58 : BitVec 32 := 0#32
  let c0_i32_59 : BitVec 32 := 0#32
  ![v12.toNat, 0, 0]
def k0_off2_at (r : Fin 3) : BitVec 32 × BitVec 32 :=
  if r.val < 1 then
    (0#32, 1#32)
  else
    if r.val < 2 then
      (1#32, 0#32)
    else
      (1#32, 1#32)
def k0_cond10 (i : grid0.Coords) : BitVec 1 :=
  let arg1 : BitVec 32 := BitVec.ofNat 32 (i 1).val
  let c18_i32 : BitVec 32 := 18#32
  let v64 : BitVec 1 := Scalar.cmpi .eq arg1 c18_i32
  let v65 : BitVec 32 := Scalar.extui v64
  let c0_i32_39 : BitVec 32 := 0#32
  let v66 : BitVec 1 := Scalar.cmpi .ne v65 c0_i32_39
  v66

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c5_i32 : BitVec 32 := 5#32
  let v1 : BitVec 32 := Scalar.maxsi c0_i32_0 v0
  let v2 : BitVec 32 := Scalar.minsi c5_i32 v1
  let c0_i32_1 : BitVec 32 := 0#32
  let c0_i32_2 : BitVec 32 := 0#32
  ![v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.subi arg1 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![v2.toNat, c0_i32_1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.subi arg1 c11_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let c13_i32 : BitVec 32 := 13#32
  let v0 : BitVec 32 := Scalar.subi arg1 c13_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![v2.toNat, c0_i32_0.toNat]

def cc0_transform_12 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi arg1 c15_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_13 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi arg1 c15_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![v2.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1024x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== DXnRefIdeal.lean ====
abbrev S65536x3072 : Shape := ⟨2, ![65536, 3072]⟩
abbrev S65536x128 : Shape := ⟨2, ![65536, 128]⟩
abbrev S65536x1024 : Shape := ⟨2, ![65536, 1024]⟩
abbrev S65536x2048 : Shape := ⟨2, ![65536, 2048]⟩
abbrev S3072x1024 : Shape := ⟨2, ![3072, 1024]⟩
abbrev S128x1024 : Shape := ⟨2, ![128, 1024]⟩
abbrev S1024x1024 : Shape := ⟨2, ![1024, 1024]⟩
abbrev S2048x1024 : Shape := ⟨2, ![2048, 1024]⟩
abbrev S32x1280x1024 : Shape := ⟨3, ![32, 1280, 1024]⟩
abbrev S_ : Shape := ⟨0, ![]⟩
abbrev S1024x3072 : Shape := ⟨2, ![1024, 3072]⟩
abbrev S1024x128 : Shape := ⟨2, ![1024, 128]⟩
abbrev S1024x2048 : Shape := ⟨2, ![1024, 2048]⟩
abbrev S4x2x4x1280x1024 : Shape := ⟨5, ![4, 2, 4, 1280, 1024]⟩
abbrev S1x2x1x1280x1024 : Shape := ⟨5, ![1, 2, 1, 1280, 1024]⟩
abbrev S2x1280x1024 : Shape := ⟨3, ![2, 1280, 1024]⟩
abbrev S2x1x1280x1024 : Shape := ⟨4, ![2, 1, 1280, 1024]⟩
abbrev S2x3x1280x1024 : Shape := ⟨4, ![2, 3, 1280, 1024]⟩
abbrev S1x2x3x1280x1024 : Shape := ⟨5, ![1, 2, 3, 1280, 1024]⟩
abbrev S4x2x3x1280x1024 : Shape := ⟨5, ![4, 2, 3, 1280, 1024]⟩
abbrev S24x1280x1024 : Shape := ⟨3, ![24, 1280, 1024]⟩

abbrev nBuf : Space → Nat
  | .hbm => 105
  | .vmem => 0
  | .smem => 0
  | _ => 0

abbrev bufTy : (tb : Table) → Fin (tcTables nBuf tb) → BufTy
  | .hbm, ⟨0, _⟩ => ⟨S65536x3072, .bf16⟩
  | .hbm, ⟨1, _⟩ => ⟨S65536x128, .bf16⟩
  | .hbm, ⟨2, _⟩ => ⟨S65536x1024, .bf16⟩
  | .hbm, ⟨3, _⟩ => ⟨S65536x1024, .bf16⟩
  | .hbm, ⟨4, _⟩ => ⟨S65536x1024, .bf16⟩
  | .hbm, ⟨5, _⟩ => ⟨S65536x1024, .bf16⟩
  | .hbm, ⟨6, _⟩ => ⟨S65536x2048, .bf16⟩
  | .hbm, ⟨7, _⟩ => ⟨S3072x1024, .bf16⟩
  | .hbm, ⟨8, _⟩ => ⟨S128x1024, .bf16⟩
  | .hbm, ⟨9, _⟩ => ⟨S1024x1024, .bf16⟩
  | .hbm, ⟨10, _⟩ => ⟨S1024x1024, .bf16⟩
  | .hbm, ⟨11, _⟩ => ⟨S1024x1024, .bf16⟩
  | .hbm, ⟨12, _⟩ => ⟨S1024x1024, .bf16⟩
  | .hbm, ⟨13, _⟩ => ⟨S2048x1024, .bf16⟩
  | .hbm, ⟨14, _⟩ => ⟨S32x1280x1024, .bf16⟩
  | .hbm, ⟨15, _⟩ => ⟨S65536x3072, .f32⟩
  | .hbm, ⟨16, _⟩ => ⟨S65536x128, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .f32⟩
  | .hbm, ⟨21, _⟩ => ⟨S65536x2048, .f32⟩
  | .hbm, ⟨22, _⟩ => ⟨S3072x1024, .f32⟩
  | .hbm, ⟨23, _⟩ => ⟨S128x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S2048x1024, .f32⟩
  | .hbm, ⟨29, _⟩ => ⟨S_, .f32⟩
  | .hbm, ⟨30, _⟩ => ⟨S65536x1024, .f32⟩
  | .hbm, ⟨31, _⟩ => ⟨S1024x3072, .f32⟩
  | .hbm, ⟨32, _⟩ => ⟨S65536x3072, .f32⟩
  | .hbm, ⟨33, _⟩ => ⟨S1024x128, .f32⟩
  | .hbm, ⟨34, _⟩ => ⟨S65536x128, .f32⟩
  | .hbm, ⟨35, _⟩ => ⟨S1024x1024, .f32⟩
  | .hbm, ⟨36, _⟩ => ⟨S65536x1024, .f32⟩
  | .hbm, ⟨37, _⟩ => ⟨S1024x1024, .f32⟩
  | .hbm, ⟨38, _⟩ => ⟨S65536x1024, .f32⟩
  | .hbm, ⟨39, _⟩ => ⟨S1024x1024, .f32⟩
  | .hbm, ⟨40, _⟩ => ⟨S65536x1024, .f32⟩
  | .hbm, ⟨41, _⟩ => ⟨S1024x1024, .f32⟩
  | .hbm, ⟨42, _⟩ => ⟨S65536x1024, .f32⟩
  | .hbm, ⟨43, _⟩ => ⟨S1024x2048, .f32⟩
  | .hbm, ⟨44, _⟩ => ⟨S65536x2048, .f32⟩
  | .hbm, ⟨45, _⟩ => ⟨S65536x1024, .f32⟩
  | .hbm, ⟨46, _⟩ => ⟨S65536x1024, .f32⟩
  | .hbm, ⟨47, _⟩ => ⟨S65536x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S65536x1024, .f32⟩
  | .hbm, ⟨53, _⟩ => ⟨S65536x1024, .f32⟩
  | .hbm, ⟨54, _⟩ => ⟨S65536x1024, .f32⟩
  | .hbm, ⟨55, _⟩ => ⟨S65536x1024, .f32⟩
  | .hbm, ⟨56, _⟩ => ⟨S65536x1024, .f32⟩
  | .hbm, ⟨57, _⟩ => ⟨S65536x1024, .f32⟩
  | .hbm, ⟨58, _⟩ => ⟨S4x2x4x1280x1024, .bf16⟩
  | .hbm, ⟨59, _⟩ => ⟨S1x2x1x1280x1024, .bf16⟩
  | .hbm, ⟨60, _⟩ => ⟨S2x1280x1024, .bf16⟩
  | .hbm, ⟨61, _⟩ => ⟨S1x2x1x1280x1024, .bf16⟩
  | .hbm, ⟨62, _⟩ => ⟨S2x1280x1024, .bf16⟩
  | .hbm, ⟨63, _⟩ => ⟨S1x2x1x1280x1024, .bf16⟩
  | .hbm, ⟨64, _⟩ => ⟨S2x1280x1024, .bf16⟩
  | .hbm, ⟨65, _⟩ => ⟨S2x1x1280x1024, .bf16⟩
  | .hbm, ⟨66, _⟩ => ⟨S2x1x1280x1024, .bf16⟩
  | .hbm, ⟨67, _⟩ => ⟨S2x1x1280x1024, .bf16⟩
  | .hbm, ⟨68, _⟩ => ⟨S2x3x1280x1024, .bf16⟩
  | .hbm, ⟨69, _⟩ => ⟨S1x2x1x1280x1024, .bf16⟩
  | .hbm, ⟨70, _⟩ => ⟨S2x1280x1024, .bf16⟩
  | .hbm, ⟨71, _⟩ => ⟨S1x2x1x1280x1024, .bf16⟩
  | .hbm, ⟨72, _⟩ => ⟨S2x1280x1024, .bf16⟩
  | .hbm, ⟨73, _⟩ => ⟨S1x2x1x1280x1024, .bf16⟩
  | .hbm, ⟨74, _⟩ => ⟨S2x1280x1024, .bf16⟩
  | .hbm, ⟨75, _⟩ => ⟨S2x1x1280x1024, .bf16⟩
  | .hbm, ⟨76, _⟩ => ⟨S2x1x1280x1024, .bf16⟩
  | .hbm, ⟨77, _⟩ => ⟨S2x1x1280x1024, .bf16⟩
  | .hbm, ⟨78, _⟩ => ⟨S2x3x1280x1024, .bf16⟩
  | .hbm, ⟨79, _⟩ => ⟨S1x2x1x1280x1024, .bf16⟩
  | .hbm, ⟨80, _⟩ => ⟨S2x1280x1024, .bf16⟩
  | .hbm, ⟨81, _⟩ => ⟨S1x2x1x1280x1024, .bf16⟩
  | .hbm, ⟨82, _⟩ => ⟨S2x1280x1024, .bf16⟩
  | .hbm, ⟨83, _⟩ => ⟨S1x2x1x1280x1024, .bf16⟩
  | .hbm, ⟨84, _⟩ => ⟨S2x1280x1024, .bf16⟩
  | .hbm, ⟨85, _⟩ => ⟨S2x1x1280x1024, .bf16⟩
  | .hbm, ⟨86, _⟩ => ⟨S2x1x1280x1024, .bf16⟩
  | .hbm, ⟨87, _⟩ => ⟨S2x1x1280x1024, .bf16⟩
  | .hbm, ⟨88, _⟩ => ⟨S2x3x1280x1024, .bf16⟩
  | .hbm, ⟨89, _⟩ => ⟨S1x2x1x1280x1024, .bf16⟩
  | .hbm, ⟨90, _⟩ => ⟨S2x1280x1024, .bf16⟩
  | .hbm, ⟨91, _⟩ => ⟨S1x2x1x1280x1024, .bf16⟩
  | .hbm, ⟨92, _⟩ => ⟨S2x1280x1024, .bf16⟩
  | .hbm, ⟨93, _⟩ => ⟨S1x2x1x1280x1024, .bf16⟩
  | .hbm, ⟨94, _⟩ => ⟨S2x1280x1024, .bf16⟩
  | .hbm, ⟨95, _⟩ => ⟨S2x1x1280x1024, .bf16⟩
  | .hbm, ⟨96, _⟩ => ⟨S2x1x1280x1024, .bf16⟩
  | .hbm, ⟨97, _⟩ => ⟨S2x1x1280x1024, .bf16⟩
  | .hbm, ⟨98, _⟩ => ⟨S2x3x1280x1024, .bf16⟩
  | .hbm, ⟨99, _⟩ => ⟨S1x2x3x1280x1024, .bf16⟩
  | .hbm, ⟨100, _⟩ => ⟨S1x2x3x1280x1024, .bf16⟩
  | .hbm, ⟨101, _⟩ => ⟨S1x2x3x1280x1024, .bf16⟩
  | .hbm, ⟨102, _⟩ => ⟨S1x2x3x1280x1024, .bf16⟩
  | .hbm, ⟨103, _⟩ => ⟨S4x2x3x1280x1024, .bf16⟩
  | .hbm, ⟨104, _⟩ => ⟨S24x1280x1024, .bf16⟩
  | _, _ => ⟨S65536x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩

abbrev nD : Nat := 1
abbrev τ : Topo := Topo.v7x

variable {F : FTy → Type} [FloatOps F]
-- ==== Proof.Products.lean ====
/-
  Sums taken block by block: what a blocked product keeps while it goes along its depth.
-/
module

public import Idealize.ShloMosaic.Lib.Pointwise
public import Idealize.ShloMosaic.Lib.Pipeline.ValueKit.Geometry
public import Idealize.ShloMosaic.Lib.Pipeline.ValueKit

@[expose] public section

noncomputable section

namespace Cert.Products

open Idealize.ShloMosaic
open scoped BigOperators

theorem zeros2 : (![0, 0] : Fin 2 → Nat) = fun _ => 0 := funext fun a => by fin_cases a <;> rfl

/-- An index of two axes is its two coordinates. -/
theorem eq_ix2 {a b : ℕ} (y : (⟨2, ![a, b]⟩ : Shape).Idx) : ∃ (r : Fin a) (s : Fin b), y = ix2 r s :=
  ⟨y 0, y 1, by funext d; match d with | ⟨0, _⟩ => rfl | ⟨1, _⟩ => rfl⟩

/-- What the sum holds before the last of `P` steps: the first step begins it, each further one adds to it. -/
theorem partSum {N P : ℕ} (acc part : (n : ℕ) → n < N → EReal)
    (first : ∀ n h, n % P = 0 → acc n h = part n h)
    (next : ∀ n h, ¬n % P = 0 → ¬n % P = P - 1 → acc n h = acc (n - 1) (Nat.lt_of_le_of_lt (Nat.sub_le _ _) h) + part n h)
    (b : ℕ) : ∀ (i : ℕ) (hi : i + 1 < P) (h : P * b + i < N),
      acc (P * b + i) h = ∑ j : Fin (i + 1), part (P * b + j) (lt_of_le_of_lt (by have := j.isLt; omega) h)
  | 0, hi, h => by
    rw [first _ h (by simp), Fin.sum_univ_one]
    rfl
  | i + 1, hi, h => by
    rw [next _ h (by rw [Nat.mul_add_mod, Nat.mod_eq_of_lt (by omega)]; omega)
      (by rw [Nat.mul_add_mod, Nat.mod_eq_of_lt (by omega)]; omega), Fin.sum_univ_castSucc]
    congr 1
    exact partSum acc part first next b i (by omega) (by omega)

/-- The last step writes out what was kept and its own part: all parts together. -/
theorem allSum {N P : ℕ} (out acc part : (n : ℕ) → n < N → EReal)
    (first : ∀ n h, n % P = 0 → acc n h = part n h)
    (next : ∀ n h, ¬n % P = 0 → ¬n % P = P - 1 → acc n h = acc (n - 1) (Nat.lt_of_le_of_lt (Nat.sub_le _ _) h) + part n h)
    (last : ∀ n h, n % P = P - 1 → out n h = acc (n - 1) (Nat.lt_of_le_of_lt (Nat.sub_le _ _) h) + part n h)
    (Q : ℕ) (hQ : P = Q + 2) (n : ℕ) (hn : n < N) (hl : n % P = P - 1) :
    out n hn = ∑ j : Fin P, part (P * (n / P) + j) (by
      have := Nat.div_add_mod n P; have := j.isLt; omega) := by
  subst hQ
  have hd := Nat.div_add_mod n (Q + 2)
  have hh : (Q + 2) * (n / (Q + 2)) + Q < N := by omega
  rw [last n hn hl, Fin.sum_univ_castSucc]
  congr 1
  · have e := partSum acc part first next (n / (Q + 2)) Q (by omega) hh
    refine Eq.trans ?_ e
    congr 1
    omega
  · congr 1
    simp only [Fin.val_last]
    omega

/-- A sum over the depth, block by block. -/
theorem blockSum {P L K : ℕ} (hK : P * L = K) (f : Fin K → EReal) :
    ∑ j : Fin P, ∑ k : Fin L, f ⟨j.val * L + k.val, by
      have h1 := j.isLt; have h2 := k.isLt
      calc j.val * L + k.val < j.val * L + L := by omega
        _ = (j.val + 1) * L := by ring
        _ ≤ P * L := Nat.mul_le_mul_right _ h1
        _ = K := hK⟩ = ∑ k : Fin K, f k := by
  subst hK
  rw [← Fintype.sum_prod_type', ← (finProdFinEquiv (m := P) (n := L)).sum_comp]
  refine Finset.sum_congr rfl fun p _ => ?_
  congr 1
  apply Fin.ext
  show (p.1 : ℕ) * L + p.2 = p.2 + L * p.1
  ring

end Cert.Products

end
-- ==== Proof.DActClaims.lean ====
/-
  The activations' gradient: a product with the down projection's transpose, taken block by block.
-/
module

public import proofs.«01_k».proof.Defs
public import proofs.«01_k».proof.Proof.Products
public import proofs.«01_k».proof.Proof.Gen.DActIdeal.Value
public import proofs.«01_k».proof.Proof.Gen.DActRefIdeal.Run
public import proofs.«01_k».proof.Proof.Gen.DActRefIdeal.Read
public import Idealize.ShloMosaic.Adequacy

@[expose] public section

set_option maxRecDepth 16384

noncomputable section

namespace Cert.DActIdeal.Prod

open Idealize.ShloMosaic Idealize.ShloMosaic.TcCoe Idealize.SL.Sem Cert.DActIdeal Cert.DActIdeal.Gen Cert.Products
open scoped BigOperators

/-- The product, entry by entry. -/
def prod (a : Vec Ideal S8192x1024 .bf16) (b : Vec Ideal S2816x1024 .bf16) : Vec Ideal S8192x2816 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 2, 0] :=
  (by decide +kernel : ∀ t : Fin grid0.N, win0_0.index t = ![t.val / 2, 0])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, t.val % 2] :=
  (by decide +kernel : ∀ t : Fin grid0.N, win0_2.index t = ![t.val / 2, t.val % 2])

theorem lt_points (t : Fin cfg0.N) : t.val < 16 := lt_of_lt_of_eq t.isLt N_0

/-- The array's row of a point's row. -/
def row (t : Fin cfg0.N) (r : Fin 1024) : Fin 8192 := ⟨t.val / 2 * 1024 + r, by have := lt_points t; omega⟩
/-- The array's column of a point's column. -/
def col (t : Fin cfg0.N) (s : Fin 1408) : Fin 2816 := ⟨t.val % 2 * 1408 + s, by omega⟩

abbrev lhs : Vec Ideal S8192x1024 .bf16 := V m c main_arg0
abbrev rhs : Vec Ideal S2816x1024 .bf16 := V m c main_arg1

theorem iblk0_apply (t : Fin cfg0.N) (r : Fin 1024) (k : Fin 1024) :
    (iblk m c 0 t : Vec Ideal S1024x1024 .bf16) (ix2 r k) = lhs m c (ix2 (row t r) k) := by
  blk_simp [iblk]
  congr 1
  blk_ext [at0, row]

theorem iblk1_apply (t : Fin cfg0.N) (s : Fin 1408) (k : Fin 1024) :
    (iblk m c 1 t : Vec Ideal S1408x1024 .bf16) (ix2 s k) = rhs m c (ix2 (col t s) k) := by
  blk_simp [iblk]
  congr 1
  blk_ext [at1, col]

theorem part_apply (x0 : Vec Ideal S1024x1024 .bf16) (x1 : Vec Ideal S1408x1024 .bf16) (r : Fin 1024) (s : Fin 1408) :
    k0_pay1 x0 x1 (ix2 r s) = ∑ k : Fin 1024, x0 (ix2 r k) * x1 (ix2 s k) := by
  unfold k0_pay1
  pointwise

theorem out_apply (t : Fin cfg0.N) (r : Fin 1024) (s : Fin 1408) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1408) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S2816x1024 .bf16) :
    DActRefIdeal.Read.val_main_v4 (F := Ideal) a b = prod a b := by
  funext y
  obtain ⟨r, s, rfl⟩ := eq_ix2 (a := 8192) (b := 2816) y
  unfold DActRefIdeal.Read.val_main_v4 DActRefIdeal.Read.val_main_v0 DActRefIdeal.Read.val_main_v1
  pointwise [prod]

theorem frame_reference : quiescent_DActRefIdeal (hDActRefIdeal := DActRefIdeal.Gen.facts) := fun m g _ =>
  (θ_run (DActRefIdeal.defs (F := Ideal)) _ _).mono
    (fun r h => ⟨fun c => (h c).2, sem_eq_zero_of_no_sems (by decide) r.2⟩)
    (DActRefIdeal.Value.run (F := Ideal) m g)

theorem algebraic : algebraic_DActIdeal_DActRefIdeal (hDActIdeal := DActIdeal.Gen.facts)
    (hDActRefIdeal := DActRefIdeal.Gen.facts) := by
  intro m g m' g' _ hagree
  refine ⟨fun c => prod (lhs m c) (rhs m c), ?_, ?_⟩
  · exact (θ_run DActIdeal.defs _ _).mono (fun r h c => ⟨(h c).1.trans (final m c), (h c).2⟩) (DActIdeal.Value.run_blocks m g)
  · refine (θ_run DActRefIdeal.defs _ _).mono (fun r h c => ⟨?_, (h c).2⟩) (DActRefIdeal.Value.run (F := Ideal) m' g')
    obtain ⟨e0, e1⟩ := hagree c
    refine (h c).1.trans ((DActRefIdeal.Read.val_main_v4_eq _ _).trans ((reference _ _).trans ?_))
    rw [e0, e1]

end Cert.DActIdeal.Prod

end
-- ==== Proof.DwDownClaims.lean ====
/-
  The down projection's weight gradient: a product over the positions, taken block by block.
-/
module

public import proofs.«01_k».proof.Defs
public import proofs.«01_k».proof.Proof.Products
public import proofs.«01_k».proof.Proof.Gen.DwDownIdeal.Value
public import proofs.«01_k».proof.Proof.Gen.DwDownRefIdeal.Run
public import proofs.«01_k».proof.Proof.Gen.DwDownRefIdeal.Read
public import Idealize.ShloMosaic.Adequacy

@[expose] public section

set_option maxRecDepth 16384

noncomputable section

namespace Cert.DwDownIdeal.Prod

open Idealize.ShloMosaic Idealize.ShloMosaic.TcCoe Idealize.SL.Sem Cert.DwDownIdeal Cert.DwDownIdeal.Gen Cert.Products
open scoped BigOperators

/-- The product, entry by entry. -/
def prod (a : Vec Ideal S8192x2816 .bf16) (b : Vec Ideal S8192x1024 .bf16) : Vec Ideal S2816x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 16 := lt_of_lt_of_eq t.isLt N_0

/-- The array's row of a point's row. -/
def row (t : Fin cfg0.N) (r : Fin 1408) : Fin 2816 := ⟨t.val / 8 * 1408 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x2816 .bf16 := V m c main_arg0
abbrev rhs : Vec Ideal S8192x1024 .bf16 := V m c main_arg1

theorem iblk0_apply (t : Fin cfg0.N) (r : Fin 1408) (k : Fin 1024) :
    (iblk m c 0 t : Vec Ideal S1024x1408 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1408 .bf16) (x1 : Vec Ideal S1024x1024 .bf16) (r : Fin 1408) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1408x1024 .f32 := k0_pay1 (iblk m c 0 ⟨n, h⟩) (iblk m c 1 ⟨n, h⟩)

theorem begun (t : Fin cfg0.N) (h : t.val % 8 = 0) (r : Fin 1408) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1408) zeros2, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1408) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1024x1024) zeros2, View.ld_unit_zero (S := S1408x1024) zeros2]
  unfold k0_pay3
  simp only [shapeCast_self]
  rfl

theorem ended (t : Fin cfg0.N) (h : t.val % 8 = 8 - 1) (r : Fin 1408) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1024x1024) zeros2, View.ld_unit_zero (S := S1408x1024) zeros2]
  rfl

theorem out_apply (t : Fin cfg0.N) (h : t.val % 8 = 8 - 1) (r : Fin 1408) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1408) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x2816 .bf16) (b : Vec Ideal S8192x1024 .bf16) :
    DwDownRefIdeal.Read.val_main_v5 (F := Ideal) a b = prod a b := by
  funext y
  obtain ⟨r, s, rfl⟩ := eq_ix2 (a := 2816) (b := 1024) y
  unfold DwDownRefIdeal.Read.val_main_v5 DwDownRefIdeal.Read.val_main_v4 DwDownRefIdeal.Read.val_main_v1 DwDownRefIdeal.Read.val_main_v0
  pointwise [prod]
  refine Finset.sum_congr rfl fun k _ => ?_
  exact mul_comm _ _

theorem frame_reference : quiescent_DwDownRefIdeal (hDwDownRefIdeal := DwDownRefIdeal.Gen.facts) := fun m g _ =>
  (θ_run (DwDownRefIdeal.defs (F := Ideal)) _ _).mono
    (fun r h => ⟨fun c => (h c).2, sem_eq_zero_of_no_sems (by decide) r.2⟩)
    (DwDownRefIdeal.Value.run (F := Ideal) m g)

theorem algebraic : algebraic_DwDownIdeal_DwDownRefIdeal (hDwDownIdeal := DwDownIdeal.Gen.facts)
    (hDwDownRefIdeal := DwDownRefIdeal.Gen.facts) := by
  intro m g m' g' _ hagree
  refine ⟨fun c => prod (lhs m c) (rhs m c), ?_, ?_⟩
  · exact (θ_run DwDownIdeal.defs _ _).mono (fun r h c => ⟨(h c).1.trans (final m c), (h c).2⟩) (DwDownIdeal.Value.run_blocks m g)
  · refine (θ_run DwDownRefIdeal.defs _ _).mono (fun r h c => ⟨?_, (h c).2⟩) (DwDownRefIdeal.Value.run (F := Ideal) m' g')
    obtain ⟨e0, e1⟩ := hagree c
    refine (h c).1.trans ((DwDownRefIdeal.Read.val_main_v5_eq _ _).trans ((reference _ _).trans ?_))
    rw [e0, e1]

end Cert.DwDownIdeal.Prod

end
-- ==== Proof.DHnClaims.lean ====
/-
  The gradient of the feed-forward input: a product with the up projection, taken block by block.
-/
module

public import proofs.«01_k».proof.Defs
public import proofs.«01_k».proof.Proof.Products
public import proofs.«01_k».proof.Proof.Gen.DHnIdeal.Value
public import proofs.«01_k».proof.Proof.Gen.DHnRefIdeal.Run
public import proofs.«01_k».proof.Proof.Gen.DHnRefIdeal.Read
public import Idealize.ShloMosaic.Adequacy

@[expose] public section

set_option maxRecDepth 16384

noncomputable section

namespace Cert.DHnIdeal.Prod

open Idealize.ShloMosaic Idealize.ShloMosaic.TcCoe Idealize.SL.Sem Cert.DHnIdeal Cert.DHnIdeal.Gen Cert.Products
open scoped BigOperators

/-- The product, entry by entry. -/
def prod (a : Vec Ideal S8192x5632 .bf16) (b : Vec Ideal S5632x1024 .bf16) : Vec Ideal S8192x1024 .f32 :=
  fun i => ∑ k : Fin 5632, a (ix2 (i 0) k) * b (ix2 k (i 1))

variable (m : (ℓ : Loc nD τ sig) → Buf (Elt Ideal) ℓ) (c : Dev nD)

theorem at0 : ∀ t : Fin cfg0.N, win0_0.index t = ![t.val / 4, t.val % 4] :=
  (by decide +kernel : ∀ t : Fin grid0.N, win0_0.index t = ![t.val / 4, t.val % 4])
theorem at1 : ∀ t : Fin cfg0.N, win0_1.index t = ![t.val % 4, t.val / 4 % 1] :=
  (by decide +kernel : ∀ t : Fin grid0.N, win0_1.index t = ![t.val % 4, t.val / 4 % 1])
theorem at2 : ∀ t : Fin cfg0.N, win0_2.index t = ![t.val / 4, t.val / 4 % 1] :=
  (by decide +kernel : ∀ t : Fin grid0.N, win0_2.index t = ![t.val / 4, t.val / 4 % 1])

theorem lt_points (t : Fin cfg0.N) : t.val < 32 := lt_of_lt_of_eq t.isLt N_0

/-- The array's row of a point's row. -/
def row (t : Fin cfg0.N) (r : Fin 1024) : Fin 8192 := ⟨t.val / 4 * 1024 + r, by have := lt_points t; omega⟩
/-- The array's column of a point's column. -/
def col (t : Fin cfg0.N) (s : Fin 1024) : Fin 1024 := ⟨t.val / 4 % 1 * 1024 + s, by omega⟩
/-- The place along the depth of a point's. -/
def dep (t : Fin cfg0.N) (k : Fin 1408) : Fin 5632 := ⟨t.val % 4 * 1408 + k, by omega⟩

abbrev lhs : Vec Ideal S8192x5632 .bf16 := V m c main_arg0
abbrev rhs : Vec Ideal S5632x1024 .bf16 := V m c main_arg1

theorem iblk0_apply (t : Fin cfg0.N) (r : Fin 1024) (k : Fin 1408) :
    (iblk m c 0 t : Vec Ideal S1024x1408 .bf16) (ix2 r k) = lhs m c (ix2 (row t r) (dep t k)) := by
  blk_simp [iblk]
  congr 1
  blk_ext [at0, row, dep]

theorem iblk1_apply (t : Fin cfg0.N) (s : Fin 1024) (k : Fin 1408) :
    (iblk m c 1 t : Vec Ideal S1408x1024 .bf16) (ix2 k s) = rhs m c (ix2 (dep t k) (col t s)) := by
  blk_simp [iblk]
  congr 1
  blk_ext [at1, col, dep]

theorem part_apply (x0 : Vec Ideal S1024x1408 .bf16) (x1 : Vec Ideal S1408x1024 .bf16) (r : Fin 1024) (s : Fin 1024) :
    k0_pay1 x0 x1 (ix2 r s) = ∑ k : Fin 1408, x0 (ix2 r k) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 4 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1408) zeros2, View.ld_unit_zero (S := S1408x1024) zeros2]
  unfold k0_pay2
  simp only [shapeCast_self]
  rfl

theorem kept (t : Fin cfg0.N) (h0 : ¬t.val % 4 = 0) (h1 : ¬t.val % 4 = 4 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1408x1024) zeros2, View.ld_unit_zero (S := S1024x1024) zeros2]
  unfold k0_pay3
  simp only [shapeCast_self]
  rfl

theorem ended (t : Fin cfg0.N) (h : t.val % 4 = 4 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1408x1024) zeros2, View.ld_unit_zero (S := S1024x1024) zeros2]
  rfl

theorem out_apply (t : Fin cfg0.N) (h : t.val % 4 = 4 - 1) (r : Fin 1024) (s : Fin 1024) :
    (outsAt0 m c t.val t.isLt).1 (ix2 r s)
      = ∑ k : Fin 5632, lhs m c (ix2 (row t r) k) * rhs m c (ix2 k (col t s)) := by
  refine (allSum (P := 4) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 2 rfl t.val t.isLt h).trans ?_
  rw [← blockSum (P := 4) (L := 1408) (K := 5632) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x5632 .bf16) (b : Vec Ideal S5632x1024 .bf16) :
    DHnRefIdeal.Read.val_main_v5 (F := Ideal) a b = prod a b := by
  funext y
  obtain ⟨r, s, rfl⟩ := eq_ix2 (a := 8192) (b := 1024) y
  unfold DHnRefIdeal.Read.val_main_v5 DHnRefIdeal.Read.val_main_v3 DHnRefIdeal.Read.val_main_v1 DHnRefIdeal.Read.val_main_v0
  pointwise [prod]

theorem frame_reference : quiescent_DHnRefIdeal (hDHnRefIdeal := DHnRefIdeal.Gen.facts) := fun m g _ =>
  (θ_run (DHnRefIdeal.defs (F := Ideal)) _ _).mono
    (fun r h => ⟨fun c => (h c).2, sem_eq_zero_of_no_sems (by decide) r.2⟩)
    (DHnRefIdeal.Value.run (F := Ideal) m g)

theorem algebraic : algebraic_DHnIdeal_DHnRefIdeal (hDHnIdeal := DHnIdeal.Gen.facts)
    (hDHnRefIdeal := DHnRefIdeal.Gen.facts) := by
  intro m g m' g' _ hagree
  refine ⟨fun c => prod (lhs m c) (rhs m c), ?_, ?_⟩
  · exact (θ_run DHnIdeal.defs _ _).mono (fun r h c => ⟨(h c).1.trans (final m c), (h c).2⟩) (DHnIdeal.Value.run_blocks m g)
  · refine (θ_run DHnRefIdeal.defs _ _).mono (fun r h c => ⟨?_, (h c).2⟩) (DHnRefIdeal.Value.run (F := Ideal) m' g')
    obtain ⟨e0, e1⟩ := hagree c
    refine (h c).1.trans ((DHnRefIdeal.Read.val_main_v5_eq _ _).trans ((reference _ _).trans ?_))
    rw [e0, e1]

end Cert.DHnIdeal.Prod

end
-- ==== Proof.DwUpClaims.lean ====
/-
  The up projection's weight gradient: a product over the positions, taken block by block.
-/
module

public import proofs.«01_k».proof.Defs
public import proofs.«01_k».proof.Proof.Products
public import proofs.«01_k».proof.Proof.Gen.DwUpIdeal.Value
public import proofs.«01_k».proof.Proof.Gen.DwUpRefIdeal.Run
public import proofs.«01_k».proof.Proof.Gen.DwUpRefIdeal.Read
public import Idealize.ShloMosaic.Adequacy

@[expose] public section

set_option maxRecDepth 16384

noncomputable section

namespace Cert.DwUpIdeal.Prod

open Idealize.ShloMosaic Idealize.ShloMosaic.TcCoe Idealize.SL.Sem Cert.DwUpIdeal Cert.DwUpIdeal.Gen Cert.Products
open scoped BigOperators

/-- The product, entry by entry. -/
def prod (a : Vec Ideal S8192x5632 .bf16) (b : Vec Ideal S8192x1024 .bf16) : Vec Ideal S5632x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 32 := lt_of_lt_of_eq t.isLt N_0

/-- The array's row of a point's row. -/
def row (t : Fin cfg0.N) (r : Fin 1408) : Fin 5632 := ⟨t.val / 8 * 1408 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x5632 .bf16 := V m c main_arg0
abbrev rhs : Vec Ideal S8192x1024 .bf16 := V m c main_arg1

theorem iblk0_apply (t : Fin cfg0.N) (r : Fin 1408) (k : Fin 1024) :
    (iblk m c 0 t : Vec Ideal S1024x1408 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1408 .bf16) (x1 : Vec Ideal S1024x1024 .bf16) (r : Fin 1408) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1408x1024 .f32 := k0_pay1 (iblk m c 0 ⟨n, h⟩) (iblk m c 1 ⟨n, h⟩)

theorem begun (t : Fin cfg0.N) (h : t.val % 8 = 0) (r : Fin 1408) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1408) zeros2, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1408) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1024x1024) zeros2, View.ld_unit_zero (S := S1408x1024) zeros2]
  unfold k0_pay3
  simp only [shapeCast_self]
  rfl

theorem ended (t : Fin cfg0.N) (h : t.val % 8 = 8 - 1) (r : Fin 1408) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1408) zeros2, View.ld_unit_zero (S := S1024x1024) zeros2, View.ld_unit_zero (S := S1408x1024) zeros2]
  rfl

theorem out_apply (t : Fin cfg0.N) (h : t.val % 8 = 8 - 1) (r : Fin 1408) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1408) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x5632 .bf16) (b : Vec Ideal S8192x1024 .bf16) :
    DwUpRefIdeal.Read.val_main_v7 (F := Ideal) a b = prod a b := by
  funext y
  obtain ⟨r, s, rfl⟩ := eq_ix2 (a := 5632) (b := 1024) y
  unfold DwUpRefIdeal.Read.val_main_v7 DwUpRefIdeal.Read.val_main_v6 DwUpRefIdeal.Read.val_main_v5 DwUpRefIdeal.Read.val_main_v1 DwUpRefIdeal.Read.val_main_v0
  pointwise [prod]

theorem frame_reference : quiescent_DwUpRefIdeal (hDwUpRefIdeal := DwUpRefIdeal.Gen.facts) := fun m g _ =>
  (θ_run (DwUpRefIdeal.defs (F := Ideal)) _ _).mono
    (fun r h => ⟨fun c => (h c).2, sem_eq_zero_of_no_sems (by decide) r.2⟩)
    (DwUpRefIdeal.Value.run (F := Ideal) m g)

theorem algebraic : algebraic_DwUpIdeal_DwUpRefIdeal (hDwUpIdeal := DwUpIdeal.Gen.facts)
    (hDwUpRefIdeal := DwUpRefIdeal.Gen.facts) := by
  intro m g m' g' _ hagree
  refine ⟨fun c => prod (lhs m c) (rhs m c), ?_, ?_⟩
  · exact (θ_run DwUpIdeal.defs _ _).mono (fun r h c => ⟨(h c).1.trans (final m c), (h c).2⟩) (DwUpIdeal.Value.run_blocks m g)
  · refine (θ_run DwUpRefIdeal.defs _ _).mono (fun r h c => ⟨?_, (h c).2⟩) (DwUpRefIdeal.Value.run (F := Ideal) m' g')
    obtain ⟨e0, e1⟩ := hagree c
    refine (h c).1.trans ((DwUpRefIdeal.Read.val_main_v7_eq _ _).trans ((reference _ _).trans ?_))
    rw [e0, e1]

end Cert.DwUpIdeal.Prod

end
-- ==== Proof.DwSqClaims.lean ====
/-
  The gradient of a square weight: a product over the positions, taken block by block.
-/
module

public import proofs.«01_k».proof.Defs
public import proofs.«01_k».proof.Proof.Products
public import proofs.«01_k».proof.Proof.Gen.DwSqIdeal.Value
public import proofs.«01_k».proof.Proof.Gen.DwSqRefIdeal.Run
public import proofs.«01_k».proof.Proof.Gen.DwSqRefIdeal.Read
public import Idealize.ShloMosaic.Adequacy

@[expose] public section

set_option maxRecDepth 16384

noncomputable section

namespace Cert.DwSqIdeal.Prod

open Idealize.ShloMosaic Idealize.ShloMosaic.TcCoe Idealize.SL.Sem Cert.DwSqIdeal Cert.DwSqIdeal.Gen Cert.Products
open scoped BigOperators

/-- The product, entry by entry. -/
def prod (a : Vec Ideal S8192x1024 .bf16) (b : Vec Ideal S8192x1024 .bf16) : Vec Ideal S1024x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 8 := lt_of_lt_of_eq t.isLt N_0

/-- The array's row of a point's row. -/
def row (t : Fin cfg0.N) (r : Fin 1024) : Fin 1024 := ⟨t.val / 8 * 1024 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x1024 .bf16 := V m c main_arg0
abbrev rhs : Vec Ideal S8192x1024 .bf16 := V m c main_arg1

theorem iblk0_apply (t : Fin cfg0.N) (r : Fin 1024) (k : Fin 1024) :
    (iblk m c 0 t : Vec Ideal S1024x1024 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 8 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  unfold k0_pay3
  simp only [shapeCast_self]
  rfl

theorem ended (t : Fin cfg0.N) (h : t.val % 8 = 8 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  rfl

theorem out_apply (t : Fin cfg0.N) (h : t.val % 8 = 8 - 1) (r : Fin 1024) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x1024 .bf16) (b : Vec Ideal S8192x1024 .bf16) :
    DwSqRefIdeal.Read.val_main_v5 (F := Ideal) a b = prod a b := by
  funext y
  obtain ⟨r, s, rfl⟩ := eq_ix2 (a := 1024) (b := 1024) y
  unfold DwSqRefIdeal.Read.val_main_v5 DwSqRefIdeal.Read.val_main_v4 DwSqRefIdeal.Read.val_main_v1 DwSqRefIdeal.Read.val_main_v0
  pointwise [prod]
  exact Finset.sum_congr rfl fun k _ => mul_comm _ _

theorem frame_reference : quiescent_DwSqRefIdeal (hDwSqRefIdeal := DwSqRefIdeal.Gen.facts) := fun m g _ =>
  (θ_run (DwSqRefIdeal.defs (F := Ideal)) _ _).mono
    (fun r h => ⟨fun c => (h c).2, sem_eq_zero_of_no_sems (by decide) r.2⟩)
    (DwSqRefIdeal.Value.run (F := Ideal) m g)

theorem algebraic : algebraic_DwSqIdeal_DwSqRefIdeal (hDwSqIdeal := DwSqIdeal.Gen.facts)
    (hDwSqRefIdeal := DwSqRefIdeal.Gen.facts) := by
  intro m g m' g' _ hagree
  refine ⟨fun c => prod (lhs m c) (rhs m c), ?_, ?_⟩
  · exact (θ_run DwSqIdeal.defs _ _).mono (fun r h c => ⟨(h c).1.trans (final m c), (h c).2⟩) (DwSqIdeal.Value.run_blocks m g)
  · refine (θ_run DwSqRefIdeal.defs _ _).mono (fun r h c => ⟨?_, (h c).2⟩) (DwSqRefIdeal.Value.run (F := Ideal) m' g')
    obtain ⟨e0, e1⟩ := hagree c
    refine (h c).1.trans ((DwSqRefIdeal.Read.val_main_v5_eq _ _).trans ((reference _ _).trans ?_))
    rw [e0, e1]

end Cert.DwSqIdeal.Prod

end
-- ==== Proof.DwInSqClaims.lean ====
/-
  The gradient of a square part of the input projection: a product over the positions, taken block by block.
-/
module

public import proofs.«01_k».proof.Defs
public import proofs.«01_k».proof.Proof.Products
public import proofs.«01_k».proof.Proof.Gen.DwInSqIdeal.Value
public import proofs.«01_k».proof.Proof.Gen.DwInSqRefIdeal.Run
public import proofs.«01_k».proof.Proof.Gen.DwInSqRefIdeal.Read
public import Idealize.ShloMosaic.Adequacy

@[expose] public section

set_option maxRecDepth 16384

noncomputable section

namespace Cert.DwInSqIdeal.Prod

open Idealize.ShloMosaic Idealize.ShloMosaic.TcCoe Idealize.SL.Sem Cert.DwInSqIdeal Cert.DwInSqIdeal.Gen Cert.Products
open scoped BigOperators

/-- The product, entry by entry. -/
def prod (a : Vec Ideal S8192x1024 .bf16) (b : Vec Ideal S8192x1024 .bf16) : Vec Ideal S1024x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 8 := lt_of_lt_of_eq t.isLt N_0

/-- The array's row of a point's row. -/
def row (t : Fin cfg0.N) (r : Fin 1024) : Fin 1024 := ⟨t.val / 8 * 1024 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x1024 .bf16 := V m c main_arg0
abbrev rhs : Vec Ideal S8192x1024 .bf16 := V m c main_arg1

theorem iblk0_apply (t : Fin cfg0.N) (r : Fin 1024) (k : Fin 1024) :
    (iblk m c 0 t : Vec Ideal S1024x1024 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 8 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  unfold k0_pay3
  simp only [shapeCast_self]
  rfl

theorem ended (t : Fin cfg0.N) (h : t.val % 8 = 8 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  rfl

theorem out_apply (t : Fin cfg0.N) (h : t.val % 8 = 8 - 1) (r : Fin 1024) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x1024 .bf16) (b : Vec Ideal S8192x1024 .bf16) :
    DwInSqRefIdeal.Read.val_main_v7 (F := Ideal) a b = prod a b := by
  funext y
  obtain ⟨r, s, rfl⟩ := eq_ix2 (a := 1024) (b := 1024) y
  unfold DwInSqRefIdeal.Read.val_main_v7 DwInSqRefIdeal.Read.val_main_v6 DwInSqRefIdeal.Read.val_main_v5 DwInSqRefIdeal.Read.val_main_v0 DwInSqRefIdeal.Read.val_main_v1
  pointwise [prod]

theorem frame_reference : quiescent_DwInSqRefIdeal (hDwInSqRefIdeal := DwInSqRefIdeal.Gen.facts) := fun m g _ =>
  (θ_run (DwInSqRefIdeal.defs (F := Ideal)) _ _).mono
    (fun r h => ⟨fun c => (h c).2, sem_eq_zero_of_no_sems (by decide) r.2⟩)
    (DwInSqRefIdeal.Value.run (F := Ideal) m g)

theorem algebraic : algebraic_DwInSqIdeal_DwInSqRefIdeal (hDwInSqIdeal := DwInSqIdeal.Gen.facts)
    (hDwInSqRefIdeal := DwInSqRefIdeal.Gen.facts) := by
  intro m g m' g' _ hagree
  refine ⟨fun c => prod (lhs m c) (rhs m c), ?_, ?_⟩
  · exact (θ_run DwInSqIdeal.defs _ _).mono (fun r h c => ⟨(h c).1.trans (final m c), (h c).2⟩) (DwInSqIdeal.Value.run_blocks m g)
  · refine (θ_run DwInSqRefIdeal.defs _ _).mono (fun r h c => ⟨?_, (h c).2⟩) (DwInSqRefIdeal.Value.run (F := Ideal) m' g')
    obtain ⟨e0, e1⟩ := hagree c
    refine (h c).1.trans ((DwInSqRefIdeal.Read.val_main_v7_eq _ _).trans ((reference _ _).trans ?_))
    rw [e0, e1]

end Cert.DwInSqIdeal.Prod

end
-- ==== Proof.DwInQkvClaims.lean ====
/-
  The gradient of the recurrence's part of the input projection: a product over the positions, taken block by block.
-/
module

public import proofs.«01_k».proof.Defs
public import proofs.«01_k».proof.Proof.Products
public import proofs.«01_k».proof.Proof.Gen.DwInQkvIdeal.Value
public import proofs.«01_k».proof.Proof.Gen.DwInQkvRefIdeal.Run
public import proofs.«01_k».proof.Proof.Gen.DwInQkvRefIdeal.Read
public import Idealize.ShloMosaic.Adequacy

@[expose] public section

set_option maxRecDepth 16384

noncomputable section

namespace Cert.DwInQkvIdeal.Prod

open Idealize.ShloMosaic Idealize.ShloMosaic.TcCoe Idealize.SL.Sem Cert.DwInQkvIdeal Cert.DwInQkvIdeal.Gen Cert.Products
open scoped BigOperators

/-- The product, entry by entry. -/
def prod (a : Vec Ideal S8192x3072 .bf16) (b : Vec Ideal S8192x1024 .bf16) : Vec Ideal S3072x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 24 := lt_of_lt_of_eq t.isLt N_0

/-- The array's row of a point's row. -/
def row (t : Fin cfg0.N) (r : Fin 1024) : Fin 3072 := ⟨t.val / 8 * 1024 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x3072 .bf16 := V m c main_arg0
abbrev rhs : Vec Ideal S8192x1024 .bf16 := V m c main_arg1

theorem iblk0_apply (t : Fin cfg0.N) (r : Fin 1024) (k : Fin 1024) :
    (iblk m c 0 t : Vec Ideal S1024x1024 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 8 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  unfold k0_pay3
  simp only [shapeCast_self]
  rfl

theorem ended (t : Fin cfg0.N) (h : t.val % 8 = 8 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  rfl

theorem out_apply (t : Fin cfg0.N) (h : t.val % 8 = 8 - 1) (r : Fin 1024) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x3072 .bf16) (b : Vec Ideal S8192x1024 .bf16) :
    DwInQkvRefIdeal.Read.val_main_v7 (F := Ideal) a b = prod a b := by
  funext y
  obtain ⟨r, s, rfl⟩ := eq_ix2 (a := 3072) (b := 1024) y
  unfold DwInQkvRefIdeal.Read.val_main_v7 DwInQkvRefIdeal.Read.val_main_v6 DwInQkvRefIdeal.Read.val_main_v5 DwInQkvRefIdeal.Read.val_main_v0 DwInQkvRefIdeal.Read.val_main_v1
  pointwise [prod]

theorem frame_reference : quiescent_DwInQkvRefIdeal (hDwInQkvRefIdeal := DwInQkvRefIdeal.Gen.facts) := fun m g _ =>
  (θ_run (DwInQkvRefIdeal.defs (F := Ideal)) _ _).mono
    (fun r h => ⟨fun c => (h c).2, sem_eq_zero_of_no_sems (by decide) r.2⟩)
    (DwInQkvRefIdeal.Value.run (F := Ideal) m g)

theorem algebraic : algebraic_DwInQkvIdeal_DwInQkvRefIdeal (hDwInQkvIdeal := DwInQkvIdeal.Gen.facts)
    (hDwInQkvRefIdeal := DwInQkvRefIdeal.Gen.facts) := by
  intro m g m' g' _ hagree
  refine ⟨fun c => prod (lhs m c) (rhs m c), ?_, ?_⟩
  · exact (θ_run DwInQkvIdeal.defs _ _).mono (fun r h c => ⟨(h c).1.trans (final m c), (h c).2⟩) (DwInQkvIdeal.Value.run_blocks m g)
  · refine (θ_run DwInQkvRefIdeal.defs _ _).mono (fun r h c => ⟨?_, (h c).2⟩) (DwInQkvRefIdeal.Value.run (F := Ideal) m' g')
    obtain ⟨e0, e1⟩ := hagree c
    refine (h c).1.trans ((DwInQkvRefIdeal.Read.val_main_v7_eq _ _).trans ((reference _ _).trans ?_))
    rw [e0, e1]

end Cert.DwInQkvIdeal.Prod

end
-- ==== Proof.DwInGateClaims.lean ====
/-
  The gradient of the gates' part of the input projection: a product over the positions, taken block by block.
-/
module

public import proofs.«01_k».proof.Defs
public import proofs.«01_k».proof.Proof.Products
public import proofs.«01_k».proof.Proof.Gen.DwInGateIdeal.Value
public import proofs.«01_k».proof.Proof.Gen.DwInGateRefIdeal.Run
public import proofs.«01_k».proof.Proof.Gen.DwInGateRefIdeal.Read
public import Idealize.ShloMosaic.Adequacy

@[expose] public section

set_option maxRecDepth 16384

noncomputable section

namespace Cert.DwInGateIdeal.Prod

open Idealize.ShloMosaic Idealize.ShloMosaic.TcCoe Idealize.SL.Sem Cert.DwInGateIdeal Cert.DwInGateIdeal.Gen Cert.Products
open scoped BigOperators

/-- The product, entry by entry. -/
def prod (a : Vec Ideal S8192x2048 .bf16) (b : Vec Ideal S8192x1024 .bf16) : Vec Ideal S2048x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 16 := lt_of_lt_of_eq t.isLt N_0

/-- The array's row of a point's row. -/
def row (t : Fin cfg0.N) (r : Fin 1024) : Fin 2048 := ⟨t.val / 8 * 1024 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x2048 .bf16 := V m c main_arg0
abbrev rhs : Vec Ideal S8192x1024 .bf16 := V m c main_arg1

theorem iblk0_apply (t : Fin cfg0.N) (r : Fin 1024) (k : Fin 1024) :
    (iblk m c 0 t : Vec Ideal S1024x1024 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 8 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1024) zeros2]
  unfold k0_pay2
  simp only [shapeCast_self]
  rfl

theorem kept (t : Fin cfg0.N) (h0 : ¬t.val % 8 = 0) (h1 : ¬t.val % 8 = 8 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  unfold k0_pay3
  simp only [shapeCast_self]
  rfl

theorem ended (t : Fin cfg0.N) (h : t.val % 8 = 8 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x1024) zeros2]
  rfl

theorem out_apply (t : Fin cfg0.N) (h : t.val % 8 = 8 - 1) (r : Fin 1024) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x2048 .bf16) (b : Vec Ideal S8192x1024 .bf16) :
    DwInGateRefIdeal.Read.val_main_v7 (F := Ideal) a b = prod a b := by
  funext y
  obtain ⟨r, s, rfl⟩ := eq_ix2 (a := 2048) (b := 1024) y
  unfold DwInGateRefIdeal.Read.val_main_v7 DwInGateRefIdeal.Read.val_main_v6 DwInGateRefIdeal.Read.val_main_v5 DwInGateRefIdeal.Read.val_main_v0 DwInGateRefIdeal.Read.val_main_v1
  pointwise [prod]

theorem frame_reference : quiescent_DwInGateRefIdeal (hDwInGateRefIdeal := DwInGateRefIdeal.Gen.facts) := fun m g _ =>
  (θ_run (DwInGateRefIdeal.defs (F := Ideal)) _ _).mono
    (fun r h => ⟨fun c => (h c).2, sem_eq_zero_of_no_sems (by decide) r.2⟩)
    (DwInGateRefIdeal.Value.run (F := Ideal) m g)

theorem algebraic : algebraic_DwInGateIdeal_DwInGateRefIdeal (hDwInGateIdeal := DwInGateIdeal.Gen.facts)
    (hDwInGateRefIdeal := DwInGateRefIdeal.Gen.facts) := by
  intro m g m' g' _ hagree
  refine ⟨fun c => prod (lhs m c) (rhs m c), ?_, ?_⟩
  · exact (θ_run DwInGateIdeal.defs _ _).mono (fun r h c => ⟨(h c).1.trans (final m c), (h c).2⟩) (DwInGateIdeal.Value.run_blocks m g)
  · refine (θ_run DwInGateRefIdeal.defs _ _).mono (fun r h c => ⟨?_, (h c).2⟩) (DwInGateRefIdeal.Value.run (F := Ideal) m' g')
    obtain ⟨e0, e1⟩ := hagree c
    refine (h c).1.trans ((DwInGateRefIdeal.Read.val_main_v7_eq _ _).trans ((reference _ _).trans ?_))
    rw [e0, e1]

end Cert.DwInGateIdeal.Prod

end
-- ==== Proof.DwInAbClaims.lean ====
/-
  The gradient of the decays' part of the input projection: a product over the positions, taken block by block.
-/
module

public import proofs.«01_k».proof.Defs
public import proofs.«01_k».proof.Proof.Products
public import proofs.«01_k».proof.Proof.Gen.DwInAbIdeal.Value
public import proofs.«01_k».proof.Proof.Gen.DwInAbRefIdeal.Run
public import proofs.«01_k».proof.Proof.Gen.DwInAbRefIdeal.Read
public import Idealize.ShloMosaic.Adequacy

@[expose] public section

set_option maxRecDepth 16384

noncomputable section

namespace Cert.DwInAbIdeal.Prod

open Idealize.ShloMosaic Idealize.ShloMosaic.TcCoe Idealize.SL.Sem Cert.DwInAbIdeal Cert.DwInAbIdeal.Gen Cert.Products
open scoped BigOperators

/-- The product, entry by entry. -/
def prod (a : Vec Ideal S8192x128 .bf16) (b : Vec Ideal S8192x1024 .bf16) : Vec Ideal S128x1024 .f32 :=
  fun i => ∑ k : Fin 8192, a (ix2 k (i 0)) * b (ix2 k (i 1))

variable (m : (ℓ : Loc nD τ sig) → Buf (Elt Ideal) ℓ) (c : Dev nD)

theorem at0 : ∀ t : Fin cfg0.N, win0_0.index t = ![t.val % 8, t.val / 8] :=
  (by decide +kernel : ∀ t : Fin grid0.N, win0_0.index t = ![t.val % 8, t.val / 8])
theorem at1 : ∀ t : Fin cfg0.N, win0_1.index t = ![t.val % 8, t.val / 8 % 1] :=
  (by decide +kernel : ∀ t : Fin grid0.N, win0_1.index t = ![t.val % 8, t.val / 8 % 1])
theorem at2 : ∀ t : Fin cfg0.N, win0_2.index t = ![t.val / 8, t.val / 8 % 1] :=
  (by decide +kernel : ∀ t : Fin grid0.N, win0_2.index t = ![t.val / 8, t.val / 8 % 1])

theorem lt_points (t : Fin cfg0.N) : t.val < 8 := lt_of_lt_of_eq t.isLt N_0

/-- The array's row of a point's row. -/
def row (t : Fin cfg0.N) (r : Fin 128) : Fin 128 := ⟨t.val / 8 * 128 + r, by have := lt_points t; omega⟩
/-- The array's column of a point's column. -/
def col (t : Fin cfg0.N) (s : Fin 1024) : Fin 1024 := ⟨t.val / 8 % 1 * 1024 + s, by omega⟩
/-- The place along the depth of a point's. -/
def dep (t : Fin cfg0.N) (k : Fin 1024) : Fin 8192 := ⟨t.val % 8 * 1024 + k, by omega⟩

abbrev lhs : Vec Ideal S8192x128 .bf16 := V m c main_arg0
abbrev rhs : Vec Ideal S8192x1024 .bf16 := V m c main_arg1

theorem iblk0_apply (t : Fin cfg0.N) (r : Fin 128) (k : Fin 1024) :
    (iblk m c 0 t : Vec Ideal S1024x128 .bf16) (ix2 k r) = lhs m c (ix2 (dep t k) (row t r)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x128 .bf16) (x1 : Vec Ideal S1024x1024 .bf16) (r : Fin 128) (s : Fin 1024) :
    k0_pay1 x0 x1 (ix2 r s) = ∑ k : Fin 1024, x0 (ix2 k r) * x1 (ix2 k s) := by
  unfold k0_pay1
  pointwise

/-- What a point's blocks give. -/
def part (n : ℕ) (h : n < cfg0.N) : Vec Ideal S128x1024 .f32 := k0_pay1 (iblk m c 0 ⟨n, h⟩) (iblk m c 1 ⟨n, h⟩)

theorem begun (t : Fin cfg0.N) (h : t.val % 8 = 0) (r : Fin 128) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x128) zeros2, View.ld_unit_zero (S := S1024x1024) zeros2]
  unfold k0_pay2
  simp only [shapeCast_self]
  rfl

theorem kept (t : Fin cfg0.N) (h0 : ¬t.val % 8 = 0) (h1 : ¬t.val % 8 = 8 - 1) (r : Fin 128) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x128) zeros2, View.ld_unit_zero (S := S1024x1024) zeros2, View.ld_unit_zero (S := S128x1024) zeros2]
  unfold k0_pay3
  simp only [shapeCast_self]
  rfl

theorem ended (t : Fin cfg0.N) (h : t.val % 8 = 8 - 1) (r : Fin 128) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x128) zeros2, View.ld_unit_zero (S := S1024x1024) zeros2, View.ld_unit_zero (S := S128x1024) zeros2]
  rfl

theorem out_apply (t : Fin cfg0.N) (h : t.val % 8 = 8 - 1) (r : Fin 128) (s : Fin 1024) :
    (outsAt0 m c t.val t.isLt).1 (ix2 r s)
      = ∑ k : Fin 8192, lhs m c (ix2 k (row t r)) * rhs m c (ix2 k (col t s)) := by
  refine (allSum (P := 8) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 6 rfl t.val t.isLt h).trans ?_
  rw [← blockSum (P := 8) (L := 1024) (K := 8192) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 128) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S8192x128 .bf16) (b : Vec Ideal S8192x1024 .bf16) :
    DwInAbRefIdeal.Read.val_main_v7 (F := Ideal) a b = prod a b := by
  funext y
  obtain ⟨r, s, rfl⟩ := eq_ix2 (a := 128) (b := 1024) y
  unfold DwInAbRefIdeal.Read.val_main_v7 DwInAbRefIdeal.Read.val_main_v6 DwInAbRefIdeal.Read.val_main_v5 DwInAbRefIdeal.Read.val_main_v0 DwInAbRefIdeal.Read.val_main_v1
  pointwise [prod]

theorem frame_reference : quiescent_DwInAbRefIdeal (hDwInAbRefIdeal := DwInAbRefIdeal.Gen.facts) := fun m g _ =>
  (θ_run (DwInAbRefIdeal.defs (F := Ideal)) _ _).mono
    (fun r h => ⟨fun c => (h c).2, sem_eq_zero_of_no_sems (by decide) r.2⟩)
    (DwInAbRefIdeal.Value.run (F := Ideal) m g)

theorem algebraic : algebraic_DwInAbIdeal_DwInAbRefIdeal (hDwInAbIdeal := DwInAbIdeal.Gen.facts)
    (hDwInAbRefIdeal := DwInAbRefIdeal.Gen.facts) := by
  intro m g m' g' _ hagree
  refine ⟨fun c => prod (lhs m c) (rhs m c), ?_, ?_⟩
  · exact (θ_run DwInAbIdeal.defs _ _).mono (fun r h c => ⟨(h c).1.trans (final m c), (h c).2⟩) (DwInAbIdeal.Value.run_blocks m g)
  · refine (θ_run DwInAbRefIdeal.defs _ _).mono (fun r h c => ⟨?_, (h c).2⟩) (DwInAbRefIdeal.Value.run (F := Ideal) m' g')
    obtain ⟨e0, e1⟩ := hagree c
    refine (h c).1.trans ((DwInAbRefIdeal.Read.val_main_v7_eq _ _).trans ((reference _ _).trans ?_))
    rw [e0, e1]

end Cert.DwInAbIdeal.Prod

end
-- ==== Proof.DxSqClaims.lean ====
/-
  The gradient that a square weight passes back: a product with its transpose, taken block by block.
-/
module

public import proofs.«01_k».proof.Defs
public import proofs.«01_k».proof.Proof.Products
public import proofs.«01_k».proof.Proof.Gen.DxSqIdeal.Value
public import proofs.«01_k».proof.Proof.Gen.DxSqRefIdeal.Run
public import proofs.«01_k».proof.Proof.Gen.DxSqRefIdeal.Read
public import Idealize.ShloMosaic.Adequacy

@[expose] public section

set_option maxRecDepth 16384

noncomputable section

namespace Cert.DxSqIdeal.Prod

open Idealize.ShloMosaic Idealize.ShloMosaic.TcCoe Idealize.SL.Sem Cert.DxSqIdeal Cert.DxSqIdeal.Gen Cert.Products
open scoped BigOperators

/-- The product, entry by entry. -/
def prod (a : Vec Ideal S8192x1024 .bf16) (b : Vec Ideal S1024x1024 .bf16) : Vec Ideal S8192x1024 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 1, t.val % 1] :=
  (by decide +kernel : ∀ t : Fin grid0.N, win0_0.index t = ![t.val / 1, t.val % 1])
theorem at1 : ∀ t : Fin cfg0.N, win0_1.index t = ![t.val / 1 % 1, t.val % 1] :=
  (by decide +kernel : ∀ t : Fin grid0.N, win0_1.index t = ![t.val / 1 % 1, t.val % 1])
theorem at2 : ∀ t : Fin cfg0.N, win0_2.index t = ![t.val / 1, t.val / 1 % 1] :=
  (by decide +kernel : ∀ t : Fin grid0.N, win0_2.index t = ![t.val / 1, t.val / 1 % 1])

theorem lt_points (t : Fin cfg0.N) : t.val < 8 := lt_of_lt_of_eq t.isLt N_0

/-- The array's row of a point's row. -/
def row (t : Fin cfg0.N) (r : Fin 1024) : Fin 8192 := ⟨t.val / 1 * 1024 + r, by have := lt_points t; omega⟩
/-- The array's column of a point's column. -/
def col (t : Fin cfg0.N) (s : Fin 1024) : Fin 1024 := ⟨t.val / 1 % 1 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S1024x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S1024x1024 .bf16) :
    DxSqRefIdeal.Read.val_main_v4 (F := Ideal) a b = prod a b := by
  funext y
  obtain ⟨r, s, rfl⟩ := eq_ix2 (a := 8192) (b := 1024) y
  unfold DxSqRefIdeal.Read.val_main_v4 DxSqRefIdeal.Read.val_main_v0 DxSqRefIdeal.Read.val_main_v1
  pointwise [prod]

theorem frame_reference : quiescent_DxSqRefIdeal (hDxSqRefIdeal := DxSqRefIdeal.Gen.facts) := fun m g _ =>
  (θ_run (DxSqRefIdeal.defs (F := Ideal)) _ _).mono
    (fun r h => ⟨fun c => (h c).2, sem_eq_zero_of_no_sems (by decide) r.2⟩)
    (DxSqRefIdeal.Value.run (F := Ideal) m g)

theorem algebraic : algebraic_DxSqIdeal_DxSqRefIdeal (hDxSqIdeal := DxSqIdeal.Gen.facts)
    (hDxSqRefIdeal := DxSqRefIdeal.Gen.facts) := by
  intro m g m' g' _ hagree
  refine ⟨fun c => prod (lhs m c) (rhs m c), ?_, ?_⟩
  · exact (θ_run DxSqIdeal.defs _ _).mono (fun r h c => ⟨(h c).1.trans (final m c), (h c).2⟩) (DxSqIdeal.Value.run_blocks m g)
  · refine (θ_run DxSqRefIdeal.defs _ _).mono (fun r h c => ⟨?_, (h c).2⟩) (DxSqRefIdeal.Value.run (F := Ideal) m' g')
    obtain ⟨e0, e1⟩ := hagree c
    refine (h c).1.trans ((DxSqRefIdeal.Read.val_main_v4_eq _ _).trans ((reference _ _).trans ?_))
    rw [e0, e1]

end Cert.DxSqIdeal.Prod

end
-- ==== Proof.DXoClaims.lean ====
/-
  The gradient of the attention's output, rounded: a product with the weight's transpose, taken block by block.
-/
module

public import proofs.«01_k».proof.Defs
public import proofs.«01_k».proof.Proof.Products
public import proofs.«01_k».proof.Proof.Gen.DXoIdeal.Value
public import proofs.«01_k».proof.Proof.Gen.DXoRefIdeal.Run
public import proofs.«01_k».proof.Proof.Gen.DXoRefIdeal.Read
public import Idealize.ShloMosaic.Adequacy

@[expose] public section

set_option maxRecDepth 16384

noncomputable section

namespace Cert.DXoIdeal.Prod

open Idealize.ShloMosaic Idealize.ShloMosaic.TcCoe Idealize.SL.Sem Cert.DXoIdeal Cert.DXoIdeal.Gen Cert.Products
open scoped BigOperators

/-- The product, entry by entry. -/
def prod (a : Vec Ideal S8192x1024 .bf16) (b : Vec Ideal S1024x1024 .bf16) : Vec Ideal S8192x1024 .bf16 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 1, t.val % 1] :=
  (by decide +kernel : ∀ t : Fin grid0.N, win0_0.index t = ![t.val / 1, t.val % 1])
theorem at1 : ∀ t : Fin cfg0.N, win0_1.index t = ![t.val / 1 % 1, t.val % 1] :=
  (by decide +kernel : ∀ t : Fin grid0.N, win0_1.index t = ![t.val / 1 % 1, t.val % 1])
theorem at2 : ∀ t : Fin cfg0.N, win0_2.index t = ![t.val / 1, t.val / 1 % 1] :=
  (by decide +kernel : ∀ t : Fin grid0.N, win0_2.index t = ![t.val / 1, t.val / 1 % 1])

theorem lt_points (t : Fin cfg0.N) : t.val < 8 := lt_of_lt_of_eq t.isLt N_0

/-- The array's row of a point's row. -/
def row (t : Fin cfg0.N) (r : Fin 1024) : Fin 8192 := ⟨t.val / 1 * 1024 + r, by have := lt_points t; omega⟩
/-- The array's column of a point's column. -/
def col (t : Fin cfg0.N) (s : Fin 1024) : Fin 1024 := ⟨t.val / 1 % 1 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S1024x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S1024x1024 .bf16) :
    DXoRefIdeal.Read.val_main_v5 (F := Ideal) a b = prod a b := by
  funext y
  obtain ⟨r, s, rfl⟩ := eq_ix2 (a := 8192) (b := 1024) y
  unfold DXoRefIdeal.Read.val_main_v5 DXoRefIdeal.Read.val_main_v4 DXoRefIdeal.Read.val_main_v0 DXoRefIdeal.Read.val_main_v1
  pointwise [prod]

theorem frame_reference : quiescent_DXoRefIdeal (hDXoRefIdeal := DXoRefIdeal.Gen.facts) := fun m g _ =>
  (θ_run (DXoRefIdeal.defs (F := Ideal)) _ _).mono
    (fun r h => ⟨fun c => (h c).2, sem_eq_zero_of_no_sems (by decide) r.2⟩)
    (DXoRefIdeal.Value.run (F := Ideal) m g)

theorem algebraic : algebraic_DXoIdeal_DXoRefIdeal (hDXoIdeal := DXoIdeal.Gen.facts)
    (hDXoRefIdeal := DXoRefIdeal.Gen.facts) := by
  intro m g m' g' _ hagree
  refine ⟨fun c => prod (lhs m c) (rhs m c), ?_, ?_⟩
  · exact (θ_run DXoIdeal.defs _ _).mono (fun r h c => ⟨(h c).1.trans (final m c), (h c).2⟩) (DXoIdeal.Value.run_blocks m g)
  · refine (θ_run DXoRefIdeal.defs _ _).mono (fun r h c => ⟨?_, (h c).2⟩) (DXoRefIdeal.Value.run (F := Ideal) m' g')
    obtain ⟨e0, e1⟩ := hagree c
    refine (h c).1.trans ((DXoRefIdeal.Read.val_main_v5_eq _ _).trans ((reference _ _).trans ?_))
    rw [e0, e1]

end Cert.DXoIdeal.Prod

end
-- ==== Proof.DMnClaims.lean ====
/-
  The gradient of the normed memory: a product with the weight, taken block by block.
-/
module

public import proofs.«01_k».proof.Defs
public import proofs.«01_k».proof.Proof.Products
public import proofs.«01_k».proof.Proof.Gen.DMnIdeal.Value
public import proofs.«01_k».proof.Proof.Gen.DMnRefIdeal.Run
public import proofs.«01_k».proof.Proof.Gen.DMnRefIdeal.Read
public import Idealize.ShloMosaic.Adequacy

@[expose] public section

set_option maxRecDepth 16384

noncomputable section

namespace Cert.DMnIdeal.Prod

open Idealize.ShloMosaic Idealize.ShloMosaic.TcCoe Idealize.SL.Sem Cert.DMnIdeal Cert.DMnIdeal.Gen Cert.Products
open scoped BigOperators

/-- The product, entry by entry. -/
def prod (a : Vec Ideal S1024x2048 .f32) (b : Vec Ideal S2048x1024 .bf16) : Vec Ideal S1024x1024 .f32 :=
  fun i => ∑ k : Fin 2048, a (ix2 (i 0) k) * b (ix2 k (i 1))

variable (m : (ℓ : Loc nD τ sig) → Buf (Elt Ideal) ℓ) (c : Dev nD)

theorem at0 : ∀ t : Fin cfg0.N, win0_0.index t = ![t.val / 4, t.val % 4] :=
  (by decide +kernel : ∀ t : Fin grid0.N, win0_0.index t = ![t.val / 4, t.val % 4])
theorem at1 : ∀ t : Fin cfg0.N, win0_1.index t = ![t.val % 4, t.val / 4 % 1] :=
  (by decide +kernel : ∀ t : Fin grid0.N, win0_1.index t = ![t.val % 4, t.val / 4 % 1])
theorem at2 : ∀ t : Fin cfg0.N, win0_2.index t = ![t.val / 4, t.val / 4 % 1] :=
  (by decide +kernel : ∀ t : Fin grid0.N, win0_2.index t = ![t.val / 4, t.val / 4 % 1])

theorem lt_points (t : Fin cfg0.N) : t.val < 4 := lt_of_lt_of_eq t.isLt N_0

/-- The array's row of a point's row. -/
def row (t : Fin cfg0.N) (r : Fin 1024) : Fin 1024 := ⟨t.val / 4 * 1024 + r, by have := lt_points t; omega⟩
/-- The array's column of a point's column. -/
def col (t : Fin cfg0.N) (s : Fin 1024) : Fin 1024 := ⟨t.val / 4 % 1 * 1024 + s, by omega⟩
/-- The place along the depth of a point's. -/
def dep (t : Fin cfg0.N) (k : Fin 512) : Fin 2048 := ⟨t.val % 4 * 512 + k, by omega⟩

abbrev lhs : Vec Ideal S1024x2048 .f32 := V m c main_arg0
abbrev rhs : Vec Ideal S2048x1024 .bf16 := V m c main_arg1

theorem iblk0_apply (t : Fin cfg0.N) (r : Fin 1024) (k : Fin 512) :
    (iblk m c 0 t : Vec Ideal S1024x512 .f32) (ix2 r k) = lhs m c (ix2 (row t r) (dep t k)) := by
  blk_simp [iblk]
  congr 1
  blk_ext [at0, row, dep]

theorem iblk1_apply (t : Fin cfg0.N) (s : Fin 1024) (k : Fin 512) :
    (iblk m c 1 t : Vec Ideal S512x1024 .bf16) (ix2 k s) = rhs m c (ix2 (dep t k) (col t s)) := by
  blk_simp [iblk]
  congr 1
  blk_ext [at1, col, dep]

theorem part_apply (x0 : Vec Ideal S1024x512 .f32) (x1 : Vec Ideal S512x1024 .bf16) (r : Fin 1024) (s : Fin 1024) :
    k0_pay1 x0 x1 (ix2 r s) = ∑ k : Fin 512, x0 (ix2 r k) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 4 = 0) (r : Fin 1024) (s : Fin 1024) :
    (outsAt0 m c t.val t.isLt).2 (ix2 r s) = part m c t.val t.isLt (ix2 r s) := by
  rw [outsAt0_A m c t h (by omega) (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x512) zeros2, View.ld_unit_zero (S := S512x1024) zeros2]
  unfold k0_pay2
  simp only [shapeCast_self]
  rfl

theorem kept (t : Fin cfg0.N) (h0 : ¬t.val % 4 = 0) (h1 : ¬t.val % 4 = 4 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  rw [outsAt0_B m c t h0 (by omega) (by omega)]
  dsimp only
  unfold sout0_B_0
  rw [View.read_writes_eq_canon _ _ _ (fun y => scover0_B_0 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x512) zeros2, View.ld_unit_zero (S := S512x1024) zeros2, View.ld_unit_zero (S := S1024x1024) zeros2]
  unfold k0_pay3
  simp only [shapeCast_self]
  rfl

theorem ended (t : Fin cfg0.N) (h : t.val % 4 = 4 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_C m c t (by omega) (by omega) (by omega)]
  dsimp only
  unfold out0_C_2
  rw [View.read_writes_eq_canon _ _ _ (fun y => cover0_C_2 (y := y) ..)]
  unfold kernelRun0_C
  dsimp only
  sl_unfold_words
  rw [View.canon_unit_zero zeros2]
  simp only [View.readAt_eq_ld, (hs0_0 t).read_unread, (hs0_1 t).read_unread, (Memref.isWhole_whole cc0_scratch0).read_unread, View.ld_unit_zero (S := S1024x512) zeros2, View.ld_unit_zero (S := S512x1024) zeros2, View.ld_unit_zero (S := S1024x1024) zeros2]
  rfl

theorem out_apply (t : Fin cfg0.N) (h : t.val % 4 = 4 - 1) (r : Fin 1024) (s : Fin 1024) :
    (outsAt0 m c t.val t.isLt).1 (ix2 r s)
      = ∑ k : Fin 2048, lhs m c (ix2 (row t r) k) * rhs m c (ix2 k (col t s)) := by
  refine (allSum (P := 4) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 2 rfl t.val t.isLt h).trans ?_
  rw [← blockSum (P := 4) (L := 512) (K := 2048) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S1024x2048 .f32) (b : Vec Ideal S2048x1024 .bf16) :
    DMnRefIdeal.Read.val_main_v6 (F := Ideal) a b = prod a b := by
  funext y
  obtain ⟨r, s, rfl⟩ := eq_ix2 (a := 1024) (b := 1024) y
  unfold DMnRefIdeal.Read.val_main_v6 DMnRefIdeal.Read.val_main_v1 DMnRefIdeal.Read.val_main_v4 DMnRefIdeal.Read.val_main_v0 DMnRefIdeal.Read.val_main_v2
  pointwise [prod]

theorem frame_reference : quiescent_DMnRefIdeal (hDMnRefIdeal := DMnRefIdeal.Gen.facts) := fun m g _ =>
  (θ_run (DMnRefIdeal.defs (F := Ideal)) _ _).mono
    (fun r h => ⟨fun c => (h c).2, sem_eq_zero_of_no_sems (by decide) r.2⟩)
    (DMnRefIdeal.Value.run (F := Ideal) m g)

theorem algebraic : algebraic_DMnIdeal_DMnRefIdeal (hDMnIdeal := DMnIdeal.Gen.facts)
    (hDMnRefIdeal := DMnRefIdeal.Gen.facts) := by
  intro m g m' g' _ hagree
  refine ⟨fun c => prod (lhs m c) (rhs m c), ?_, ?_⟩
  · exact (θ_run DMnIdeal.defs _ _).mono (fun r h c => ⟨(h c).1.trans (final m c), (h c).2⟩) (DMnIdeal.Value.run_blocks m g)
  · refine (θ_run DMnRefIdeal.defs _ _).mono (fun r h c => ⟨?_, (h c).2⟩) (DMnRefIdeal.Value.run (F := Ideal) m' g')
    obtain ⟨e0, e1⟩ := hagree c
    refine (h c).1.trans ((DMnRefIdeal.Read.val_main_v6_eq _ _).trans ((reference _ _).trans ?_))
    rw [e0, e1]

end Cert.DMnIdeal.Prod

end
-- ==== Proof.DwXkvClaims.lean ====
/-
  The gradient of the keys' and values' weight: a product over the memory, taken block by block.
-/
module

public import proofs.«01_k».proof.Defs
public import proofs.«01_k».proof.Proof.Products
public import proofs.«01_k».proof.Proof.Gen.DwXkvIdeal.Value
public import proofs.«01_k».proof.Proof.Gen.DwXkvRefIdeal.Run
public import proofs.«01_k».proof.Proof.Gen.DwXkvRefIdeal.Read
public import Idealize.ShloMosaic.Adequacy

@[expose] public section

set_option maxRecDepth 16384

noncomputable section

namespace Cert.DwXkvIdeal.Prod

open Idealize.ShloMosaic Idealize.ShloMosaic.TcCoe Idealize.SL.Sem Cert.DwXkvIdeal Cert.DwXkvIdeal.Gen Cert.Products
open scoped BigOperators

/-- The product, entry by entry. -/
def prod (a : Vec Ideal S1024x2048 .f32) (b : Vec Ideal S1024x1024 .bf16) : Vec Ideal S2048x1024 .f32 :=
  fun i => ∑ k : Fin 1024, a (ix2 k (i 0)) * b (ix2 k (i 1))

variable (m : (ℓ : Loc nD τ sig) → Buf (Elt Ideal) ℓ) (c : Dev nD)

theorem at0 : ∀ t : Fin cfg0.N, win0_0.index t = ![t.val % 2, t.val / 2] :=
  (by decide +kernel : ∀ t : Fin grid0.N, win0_0.index t = ![t.val % 2, t.val / 2])
theorem at1 : ∀ t : Fin cfg0.N, win0_1.index t = ![t.val % 2, t.val / 2 % 1] :=
  (by decide +kernel : ∀ t : Fin grid0.N, win0_1.index t = ![t.val % 2, t.val / 2 % 1])
theorem at2 : ∀ t : Fin cfg0.N, win0_2.index t = ![t.val / 2, t.val / 2 % 1] :=
  (by decide +kernel : ∀ t : Fin grid0.N, win0_2.index t = ![t.val / 2, t.val / 2 % 1])

theorem lt_points (t : Fin cfg0.N) : t.val < 4 := lt_of_lt_of_eq t.isLt N_0

/-- The array's row of a point's row. -/
def row (t : Fin cfg0.N) (r : Fin 1024) : Fin 2048 := ⟨t.val / 2 * 1024 + r, by have := lt_points t; omega⟩
/-- The array's column of a point's column. -/
def col (t : Fin cfg0.N) (s : Fin 1024) : Fin 1024 := ⟨t.val / 2 % 1 * 1024 + s, by omega⟩
/-- The place along the depth of a point's. -/
def dep (t : Fin cfg0.N) (k : Fin 512) : Fin 1024 := ⟨t.val % 2 * 512 + k, by omega⟩

abbrev lhs : Vec Ideal S1024x2048 .f32 := V m c main_arg0
abbrev rhs : Vec Ideal S1024x1024 .bf16 := V m c main_arg1

theorem iblk0_apply (t : Fin cfg0.N) (r : Fin 1024) (k : Fin 512) :
    (iblk m c 0 t : Vec Ideal S512x1024 .f32) (ix2 k r) = lhs m c (ix2 (dep t k) (row t r)) := by
  blk_simp [iblk]
  congr 1
  blk_ext [at0, row, dep]

theorem iblk1_apply (t : Fin cfg0.N) (s : Fin 1024) (k : Fin 512) :
    (iblk m c 1 t : Vec Ideal S512x1024 .bf16) (ix2 k s) = rhs m c (ix2 (dep t k) (col t s)) := by
  blk_simp [iblk]
  congr 1
  blk_ext [at1, col, dep]

theorem part_apply (x0 : Vec Ideal S512x1024 .f32) (x1 : Vec Ideal S512x1024 .bf16) (r : Fin 1024) (s : Fin 1024) :
    k0_pay1 x0 x1 (ix2 r s) = ∑ k : Fin 512, x0 (ix2 k r) * x1 (ix2 k s) := by
  unfold k0_pay1
  pointwise

/-- What a point's blocks give. -/
def part (n : ℕ) (h : n < cfg0.N) : Vec Ideal S1024x1024 .f32 := k0_pay1 (iblk m c 0 ⟨n, h⟩) (iblk m c 1 ⟨n, h⟩)

theorem begun (t : Fin cfg0.N) (h : t.val % 2 = 0) (r : Fin 1024) (s : Fin 1024) :
    (outsAt0 m c t.val t.isLt).2 (ix2 r s) = part m c t.val t.isLt (ix2 r s) := by
  rw [outsAt0_A m c t h (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S512x1024) zeros2]
  unfold k0_pay2
  simp only [shapeCast_self]
  rfl

theorem kept (t : Fin cfg0.N) (h0 : ¬t.val % 2 = 0) (h1 : ¬t.val % 2 = 2 - 1) (r : Fin 1024) (s : Fin 1024) :
    (outsAt0 m c t.val t.isLt).2 (ix2 r s)
      = (outsAt0 m c (t.val - 1) (Nat.lt_of_le_of_lt (Nat.sub_le _ _) t.isLt)).2 (ix2 r s) + part m c t.val t.isLt (ix2 r s) := by
  omega

theorem ended (t : Fin cfg0.N) (h : t.val % 2 = 2 - 1) (r : Fin 1024) (s : Fin 1024) :
    (outsAt0 m c t.val t.isLt).1 (ix2 r s)
      = (outsAt0 m c (t.val - 1) (Nat.lt_of_le_of_lt (Nat.sub_le _ _) t.isLt)).2 (ix2 r s) + part m c t.val t.isLt (ix2 r s) := by
  rw [outsAt0_B m c t (by omega) (by omega)]
  dsimp only
  unfold out0_B_2
  rw [View.read_writes_eq_canon _ _ _ (fun y => cover0_B_2 (y := y) ..)]
  unfold kernelRun0_B
  dsimp only
  sl_unfold_words
  rw [View.canon_unit_zero zeros2]
  simp only [View.readAt_eq_ld, (hs0_0 t).read_unread, (hs0_1 t).read_unread, (Memref.isWhole_whole cc0_scratch0).read_unread, View.ld_unit_zero (S := S512x1024) zeros2, View.ld_unit_zero (S := S1024x1024) zeros2]
  rfl

theorem out_apply (t : Fin cfg0.N) (h : t.val % 2 = 2 - 1) (r : Fin 1024) (s : Fin 1024) :
    (outsAt0 m c t.val t.isLt).1 (ix2 r s)
      = ∑ k : Fin 1024, lhs m c (ix2 k (row t r)) * rhs m c (ix2 k (col t s)) := by
  refine (allSum (P := 2) (fun n h => (outsAt0 m c n h).1 (ix2 r s)) (fun n h => (outsAt0 m c n h).2 (ix2 r s))
    (fun n h => part m c n h (ix2 r s))
    (fun n h h0 => begun m c ⟨n, h⟩ h0 r s) (fun n h h0 h1 => kept m c ⟨n, h⟩ h0 h1 r s)
    (fun n h h1 => ended m c ⟨n, h⟩ h1 r s) 0 rfl t.val t.isLt h).trans ?_
  rw [← blockSum (P := 2) (L := 512) (K := 1024) rfl]
  refine Finset.sum_congr rfl fun j _ => ?_
  refine (part_apply _ _ r s).trans (Finset.sum_congr rfl fun k _ => ?_)
  rw [iblk0_apply, iblk1_apply]
  have hj := j.isLt
  congr 3 <;> apply Fin.ext <;> simp only [row, col, dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t ((flush0_2 t).mp hf) r s).trans ?_
  have e : (win0_2.blk t).view.emb (ix2 r s) = ix2 (row t r) (col t s) := by
    blk_ext [at2, row, col]
  rw [e]
  rfl

theorem reference (a : Vec Ideal S1024x2048 .f32) (b : Vec Ideal S1024x1024 .bf16) :
    DwXkvRefIdeal.Read.val_main_v8 (F := Ideal) a b = prod a b := by
  funext y
  obtain ⟨r, s, rfl⟩ := eq_ix2 (a := 2048) (b := 1024) y
  unfold DwXkvRefIdeal.Read.val_main_v8 DwXkvRefIdeal.Read.val_main_v7 DwXkvRefIdeal.Read.val_main_v6 DwXkvRefIdeal.Read.val_main_v1 DwXkvRefIdeal.Read.val_main_v2 DwXkvRefIdeal.Read.val_main_v0
  pointwise [prod]

theorem frame_reference : quiescent_DwXkvRefIdeal (hDwXkvRefIdeal := DwXkvRefIdeal.Gen.facts) := fun m g _ =>
  (θ_run (DwXkvRefIdeal.defs (F := Ideal)) _ _).mono
    (fun r h => ⟨fun c => (h c).2, sem_eq_zero_of_no_sems (by decide) r.2⟩)
    (DwXkvRefIdeal.Value.run (F := Ideal) m g)

theorem algebraic : algebraic_DwXkvIdeal_DwXkvRefIdeal (hDwXkvIdeal := DwXkvIdeal.Gen.facts)
    (hDwXkvRefIdeal := DwXkvRefIdeal.Gen.facts) := by
  intro m g m' g' _ hagree
  refine ⟨fun c => prod (lhs m c) (rhs m c), ?_, ?_⟩
  · exact (θ_run DwXkvIdeal.defs _ _).mono (fun r h c => ⟨(h c).1.trans (final m c), (h c).2⟩) (DwXkvIdeal.Value.run_blocks m g)
  · refine (θ_run DwXkvRefIdeal.defs _ _).mono (fun r h c => ⟨?_, (h c).2⟩) (DwXkvRefIdeal.Value.run (F := Ideal) m' g')
    obtain ⟨e0, e1⟩ := hagree c
    refine (h c).1.trans ((DwXkvRefIdeal.Read.val_main_v8_eq _ _).trans ((reference _ _).trans ?_))
    rw [e0, e1]

end Cert.DwXkvIdeal.Prod

end
-- ==== Proof.ProjQkvClaims.lean ====
/-
  The queries', keys' and values' projection: a product with the weight's rows, taken block by block.
-/
module

public import proofs.«01_k».proof.Defs
public import proofs.«01_k».proof.Proof.Products
public import proofs.«01_k».proof.Proof.Gen.ProjQkvIdeal.Value
public import proofs.«01_k».proof.Proof.Gen.ProjQkvRefIdeal.Run
public import proofs.«01_k».proof.Proof.Gen.ProjQkvRefIdeal.Read
public import Idealize.ShloMosaic.Adequacy

@[expose] public section

set_option maxRecDepth 16384

noncomputable section

namespace Cert.ProjQkvIdeal.Prod

open Idealize.ShloMosaic Idealize.ShloMosaic.TcCoe Idealize.SL.Sem Cert.ProjQkvIdeal Cert.ProjQkvIdeal.Gen Cert.Products
open scoped BigOperators

/-- The product, entry by entry. -/
def prod (a : Vec Ideal S8192x1024 .bf16) (b : Vec Ideal S3072x1024 .bf16) : Vec Ideal S8192x3072 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 3, t.val % 1] :=
  (by decide +kernel : ∀ t : Fin grid0.N, win0_0.index t = ![t.val / 3, t.val % 1])
theorem at1 : ∀ t : Fin cfg0.N, win0_1.index t = ![t.val / 1 % 3, t.val % 1] :=
  (by decide +kernel : ∀ t : Fin grid0.N, win0_1.index t = ![t.val / 1 % 3, t.val % 1])
theorem at2 : ∀ t : Fin cfg0.N, win0_2.index t = ![t.val / 3, t.val / 1 % 3] :=
  (by decide +kernel : ∀ t : Fin grid0.N, win0_2.index t = ![t.val / 3, t.val / 1 % 3])

theorem lt_points (t : Fin cfg0.N) : t.val < 24 := lt_of_lt_of_eq t.isLt N_0

/-- The array's row of a point's row. -/
def row (t : Fin cfg0.N) (r : Fin 1024) : Fin 8192 := ⟨t.val / 3 * 1024 + r, by have := lt_points t; omega⟩
/-- The array's column of a point's column. -/
def col (t : Fin cfg0.N) (s : Fin 1024) : Fin 3072 := ⟨t.val / 1 % 3 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S3072x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S3072x1024 .bf16) :
    ProjQkvRefIdeal.Read.val_main_v3 (F := Ideal) a b = prod a b := by
  funext y
  obtain ⟨r, s, rfl⟩ := eq_ix2 (a := 8192) (b := 3072) y
  unfold ProjQkvRefIdeal.Read.val_main_v3 ProjQkvRefIdeal.Read.val_main_v0 ProjQkvRefIdeal.Read.val_main_v2 ProjQkvRefIdeal.Read.val_main_v1
  pointwise [prod]

theorem frame_reference : quiescent_ProjQkvRefIdeal (hProjQkvRefIdeal := ProjQkvRefIdeal.Gen.facts) := fun m g _ =>
  (θ_run (ProjQkvRefIdeal.defs (F := Ideal)) _ _).mono
    (fun r h => ⟨fun c => (h c).2, sem_eq_zero_of_no_sems (by decide) r.2⟩)
    (ProjQkvRefIdeal.Value.run (F := Ideal) m g)

theorem algebraic : algebraic_ProjQkvIdeal_ProjQkvRefIdeal (hProjQkvIdeal := ProjQkvIdeal.Gen.facts)
    (hProjQkvRefIdeal := ProjQkvRefIdeal.Gen.facts) := by
  intro m g m' g' _ hagree
  refine ⟨fun c => prod (lhs m c) (rhs m c), ?_, ?_⟩
  · exact (θ_run ProjQkvIdeal.defs _ _).mono (fun r h c => ⟨(h c).1.trans (final m c), (h c).2⟩) (ProjQkvIdeal.Value.run_blocks m g)
  · refine (θ_run ProjQkvRefIdeal.defs _ _).mono (fun r h c => ⟨?_, (h c).2⟩) (ProjQkvRefIdeal.Value.run (F := Ideal) m' g')
    obtain ⟨e0, e1⟩ := hagree c
    refine (h c).1.trans ((ProjQkvRefIdeal.Read.val_main_v3_eq _ _).trans ((reference _ _).trans ?_))
    rw [e0, e1]

end Cert.ProjQkvIdeal.Prod

end
-- ==== Proof.ProjGateClaims.lean ====
/-
  The gates' projection: a product with the weight's rows, taken block by block.
-/
module

public import proofs.«01_k».proof.Defs
public import proofs.«01_k».proof.Proof.Products
public import proofs.«01_k».proof.Proof.Gen.ProjGateIdeal.Value
public import proofs.«01_k».proof.Proof.Gen.ProjGateRefIdeal.Run
public import proofs.«01_k».proof.Proof.Gen.ProjGateRefIdeal.Read
public import Idealize.ShloMosaic.Adequacy

@[expose] public section

set_option maxRecDepth 16384

noncomputable section

namespace Cert.ProjGateIdeal.Prod

open Idealize.ShloMosaic Idealize.ShloMosaic.TcCoe Idealize.SL.Sem Cert.ProjGateIdeal Cert.ProjGateIdeal.Gen Cert.Products
open scoped BigOperators

/-- The product, entry by entry. -/
def prod (a : Vec Ideal S8192x1024 .bf16) (b : Vec Ideal S2048x1024 .bf16) : Vec Ideal S8192x2048 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 2, t.val % 1] :=
  (by decide +kernel : ∀ t : Fin grid0.N, win0_0.index t = ![t.val / 2, t.val % 1])
theorem at1 : ∀ t : Fin cfg0.N, win0_1.index t = ![t.val / 1 % 2, t.val % 1] :=
  (by decide +kernel : ∀ t : Fin grid0.N, win0_1.index t = ![t.val / 1 % 2, t.val % 1])
theorem at2 : ∀ t : Fin cfg0.N, win0_2.index t = ![t.val / 2, t.val / 1 % 2] :=
  (by decide +kernel : ∀ t : Fin grid0.N, win0_2.index t = ![t.val / 2, t.val / 1 % 2])

theorem lt_points (t : Fin cfg0.N) : t.val < 16 := lt_of_lt_of_eq t.isLt N_0

/-- The array's row of a point's row. -/
def row (t : Fin cfg0.N) (r : Fin 1024) : Fin 8192 := ⟨t.val / 2 * 1024 + r, by have := lt_points t; omega⟩
/-- The array's column of a point's column. -/
def col (t : Fin cfg0.N) (s : Fin 1024) : Fin 2048 := ⟨t.val / 1 % 2 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S2048x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S2048x1024 .bf16) :
    ProjGateRefIdeal.Read.val_main_v3 (F := Ideal) a b = prod a b := by
  funext y
  obtain ⟨r, s, rfl⟩ := eq_ix2 (a := 8192) (b := 2048) y
  unfold ProjGateRefIdeal.Read.val_main_v3 ProjGateRefIdeal.Read.val_main_v0 ProjGateRefIdeal.Read.val_main_v2 ProjGateRefIdeal.Read.val_main_v1
  pointwise [prod]

theorem frame_reference : quiescent_ProjGateRefIdeal (hProjGateRefIdeal := ProjGateRefIdeal.Gen.facts) := fun m g _ =>
  (θ_run (ProjGateRefIdeal.defs (F := Ideal)) _ _).mono
    (fun r h => ⟨fun c => (h c).2, sem_eq_zero_of_no_sems (by decide) r.2⟩)
    (ProjGateRefIdeal.Value.run (F := Ideal) m g)

theorem algebraic : algebraic_ProjGateIdeal_ProjGateRefIdeal (hProjGateIdeal := ProjGateIdeal.Gen.facts)
    (hProjGateRefIdeal := ProjGateRefIdeal.Gen.facts) := by
  intro m g m' g' _ hagree
  refine ⟨fun c => prod (lhs m c) (rhs m c), ?_, ?_⟩
  · exact (θ_run ProjGateIdeal.defs _ _).mono (fun r h c => ⟨(h c).1.trans (final m c), (h c).2⟩) (ProjGateIdeal.Value.run_blocks m g)
  · refine (θ_run ProjGateRefIdeal.defs _ _).mono (fun r h c => ⟨?_, (h c).2⟩) (ProjGateRefIdeal.Value.run (F := Ideal) m' g')
    obtain ⟨e0, e1⟩ := hagree c
    refine (h c).1.trans ((ProjGateRefIdeal.Read.val_main_v3_eq _ _).trans ((reference _ _).trans ?_))
    rw [e0, e1]

end Cert.ProjGateIdeal.Prod

end
-- ==== Proof.ProjZClaims.lean ====
/-
  A square projection by rows: a product with the weight's rows, taken block by block.
-/
module

public import proofs.«01_k».proof.Defs
public import proofs.«01_k».proof.Proof.Products
public import proofs.«01_k».proof.Proof.Gen.ProjZIdeal.Value
public import proofs.«01_k».proof.Proof.Gen.ProjZRefIdeal.Run
public import proofs.«01_k».proof.Proof.Gen.ProjZRefIdeal.Read
public import Idealize.ShloMosaic.Adequacy

@[expose] public section

set_option maxRecDepth 16384

noncomputable section

namespace Cert.ProjZIdeal.Prod

open Idealize.ShloMosaic Idealize.ShloMosaic.TcCoe Idealize.SL.Sem Cert.ProjZIdeal Cert.ProjZIdeal.Gen Cert.Products
open scoped BigOperators

/-- The product, entry by entry. -/
def prod (a : Vec Ideal S8192x1024 .bf16) (b : Vec Ideal S1024x1024 .bf16) : Vec Ideal S8192x1024 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 1, t.val % 1] :=
  (by decide +kernel : ∀ t : Fin grid0.N, win0_0.index t = ![t.val / 1, t.val % 1])
theorem at1 : ∀ t : Fin cfg0.N, win0_1.index t = ![t.val / 1 % 1, t.val % 1] :=
  (by decide +kernel : ∀ t : Fin grid0.N, win0_1.index t = ![t.val / 1 % 1, t.val % 1])
theorem at2 : ∀ t : Fin cfg0.N, win0_2.index t = ![t.val / 1, t.val / 1 % 1] :=
  (by decide +kernel : ∀ t : Fin grid0.N, win0_2.index t = ![t.val / 1, t.val / 1 % 1])

theorem lt_points (t : Fin cfg0.N) : t.val < 8 := lt_of_lt_of_eq t.isLt N_0

/-- The array's row of a point's row. -/
def row (t : Fin cfg0.N) (r : Fin 1024) : Fin 8192 := ⟨t.val / 1 * 1024 + r, by have := lt_points t; omega⟩
/-- The array's column of a point's column. -/
def col (t : Fin cfg0.N) (s : Fin 1024) : Fin 1024 := ⟨t.val / 1 % 1 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S1024x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S1024x1024 .bf16) :
    ProjZRefIdeal.Read.val_main_v3 (F := Ideal) a b = prod a b := by
  funext y
  obtain ⟨r, s, rfl⟩ := eq_ix2 (a := 8192) (b := 1024) y
  unfold ProjZRefIdeal.Read.val_main_v3 ProjZRefIdeal.Read.val_main_v0 ProjZRefIdeal.Read.val_main_v2 ProjZRefIdeal.Read.val_main_v1
  pointwise [prod]

theorem frame_reference : quiescent_ProjZRefIdeal (hProjZRefIdeal := ProjZRefIdeal.Gen.facts) := fun m g _ =>
  (θ_run (ProjZRefIdeal.defs (F := Ideal)) _ _).mono
    (fun r h => ⟨fun c => (h c).2, sem_eq_zero_of_no_sems (by decide) r.2⟩)
    (ProjZRefIdeal.Value.run (F := Ideal) m g)

theorem algebraic : algebraic_ProjZIdeal_ProjZRefIdeal (hProjZIdeal := ProjZIdeal.Gen.facts)
    (hProjZRefIdeal := ProjZRefIdeal.Gen.facts) := by
  intro m g m' g' _ hagree
  refine ⟨fun c => prod (lhs m c) (rhs m c), ?_, ?_⟩
  · exact (θ_run ProjZIdeal.defs _ _).mono (fun r h c => ⟨(h c).1.trans (final m c), (h c).2⟩) (ProjZIdeal.Value.run_blocks m g)
  · refine (θ_run ProjZRefIdeal.defs _ _).mono (fun r h c => ⟨?_, (h c).2⟩) (ProjZRefIdeal.Value.run (F := Ideal) m' g')
    obtain ⟨e0, e1⟩ := hagree c
    refine (h c).1.trans ((ProjZRefIdeal.Read.val_main_v3_eq _ _).trans ((reference _ _).trans ?_))
    rw [e0, e1]

end Cert.ProjZIdeal.Prod

end
-- ==== Proof.ProjAbClaims.lean ====
/-
  The decays' projection: a product with the weight's rows, taken block by block.
-/
module

public import proofs.«01_k».proof.Defs
public import proofs.«01_k».proof.Proof.Products
public import proofs.«01_k».proof.Proof.Gen.ProjAbIdeal.Value
public import proofs.«01_k».proof.Proof.Gen.ProjAbRefIdeal.Run
public import proofs.«01_k».proof.Proof.Gen.ProjAbRefIdeal.Read
public import Idealize.ShloMosaic.Adequacy

@[expose] public section

set_option maxRecDepth 16384

noncomputable section

namespace Cert.ProjAbIdeal.Prod

open Idealize.ShloMosaic Idealize.ShloMosaic.TcCoe Idealize.SL.Sem Cert.ProjAbIdeal Cert.ProjAbIdeal.Gen Cert.Products
open scoped BigOperators

/-- The product, entry by entry. -/
def prod (a : Vec Ideal S8192x1024 .bf16) (b : Vec Ideal S128x1024 .bf16) : Vec Ideal S8192x128 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 1, t.val % 1] :=
  (by decide +kernel : ∀ t : Fin grid0.N, win0_0.index t = ![t.val / 1, t.val % 1])
theorem at1 : ∀ t : Fin cfg0.N, win0_1.index t = ![t.val / 1 % 1, t.val % 1] :=
  (by decide +kernel : ∀ t : Fin grid0.N, win0_1.index t = ![t.val / 1 % 1, t.val % 1])
theorem at2 : ∀ t : Fin cfg0.N, win0_2.index t = ![t.val / 1, t.val / 1 % 1] :=
  (by decide +kernel : ∀ t : Fin grid0.N, win0_2.index t = ![t.val / 1, t.val / 1 % 1])

theorem lt_points (t : Fin cfg0.N) : t.val < 8 := lt_of_lt_of_eq t.isLt N_0

/-- The array's row of a point's row. -/
def row (t : Fin cfg0.N) (r : Fin 1024) : Fin 8192 := ⟨t.val / 1 * 1024 + r, by have := lt_points t; omega⟩
/-- The array's column of a point's column. -/
def col (t : Fin cfg0.N) (s : Fin 128) : Fin 128 := ⟨t.val / 1 % 1 * 128 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S128x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 128) (k : Fin 1024) :
    (iblk m c 1 t : Vec Ideal S128x1024 .bf16) (ix2 s k) = rhs m c (ix2 (col t s) (dep t k)) := by
  blk_simp [iblk]
  congr 1
  blk_ext [at1, col, dep]

theorem part_apply (x0 : Vec Ideal S1024x1024 .bf16) (x1 : Vec Ideal S128x1024 .bf16) (r : Fin 1024) (s : Fin 128) :
    k0_pay1 x0 x1 (ix2 r s) = ∑ k : Fin 1024, x0 (ix2 r k) * x1 (ix2 s k) := by
  unfold k0_pay1
  pointwise

theorem out_apply (t : Fin cfg0.N) (r : Fin 1024) (s : Fin 128) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 128) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S128x1024 .bf16) :
    ProjAbRefIdeal.Read.val_main_v3 (F := Ideal) a b = prod a b := by
  funext y
  obtain ⟨r, s, rfl⟩ := eq_ix2 (a := 8192) (b := 128) y
  unfold ProjAbRefIdeal.Read.val_main_v3 ProjAbRefIdeal.Read.val_main_v0 ProjAbRefIdeal.Read.val_main_v2 ProjAbRefIdeal.Read.val_main_v1
  pointwise [prod]

theorem frame_reference : quiescent_ProjAbRefIdeal (hProjAbRefIdeal := ProjAbRefIdeal.Gen.facts) := fun m g _ =>
  (θ_run (ProjAbRefIdeal.defs (F := Ideal)) _ _).mono
    (fun r h => ⟨fun c => (h c).2, sem_eq_zero_of_no_sems (by decide) r.2⟩)
    (ProjAbRefIdeal.Value.run (F := Ideal) m g)

theorem algebraic : algebraic_ProjAbIdeal_ProjAbRefIdeal (hProjAbIdeal := ProjAbIdeal.Gen.facts)
    (hProjAbRefIdeal := ProjAbRefIdeal.Gen.facts) := by
  intro m g m' g' _ hagree
  refine ⟨fun c => prod (lhs m c) (rhs m c), ?_, ?_⟩
  · exact (θ_run ProjAbIdeal.defs _ _).mono (fun r h c => ⟨(h c).1.trans (final m c), (h c).2⟩) (ProjAbIdeal.Value.run_blocks m g)
  · refine (θ_run ProjAbRefIdeal.defs _ _).mono (fun r h c => ⟨?_, (h c).2⟩) (ProjAbRefIdeal.Value.run (F := Ideal) m' g')
    obtain ⟨e0, e1⟩ := hagree c
    refine (h c).1.trans ((ProjAbRefIdeal.Read.val_main_v3_eq _ _).trans ((reference _ _).trans ?_))
    rw [e0, e1]

end Cert.ProjAbIdeal.Prod

end
-- ==== Proof.XattnKvClaims.lean ====
/-
  The memory's keys and values: a product with the weight's rows, taken block by block.
-/
module

public import proofs.«01_k».proof.Defs
public import proofs.«01_k».proof.Proof.Products
public import proofs.«01_k».proof.Proof.Gen.XattnKvIdeal.Value
public import proofs.«01_k».proof.Proof.Gen.XattnKvRefIdeal.Run
public import proofs.«01_k».proof.Proof.Gen.XattnKvRefIdeal.Read
public import Idealize.ShloMosaic.Adequacy

@[expose] public section

set_option maxRecDepth 16384

noncomputable section

namespace Cert.XattnKvIdeal.Prod

open Idealize.ShloMosaic Idealize.ShloMosaic.TcCoe Idealize.SL.Sem Cert.XattnKvIdeal Cert.XattnKvIdeal.Gen Cert.Products
open scoped BigOperators

/-- The product, entry by entry. -/
def prod (a : Vec Ideal S1024x1024 .bf16) (b : Vec Ideal S2048x1024 .bf16) : Vec Ideal S1024x2048 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 2, t.val % 1] :=
  (by decide +kernel : ∀ t : Fin grid0.N, win0_0.index t = ![t.val / 2, t.val % 1])
theorem at1 : ∀ t : Fin cfg0.N, win0_1.index t = ![t.val / 1 % 2, t.val % 1] :=
  (by decide +kernel : ∀ t : Fin grid0.N, win0_1.index t = ![t.val / 1 % 2, t.val % 1])
theorem at2 : ∀ t : Fin cfg0.N, win0_2.index t = ![t.val / 2, t.val / 1 % 2] :=
  (by decide +kernel : ∀ t : Fin grid0.N, win0_2.index t = ![t.val / 2, t.val / 1 % 2])

theorem lt_points (t : Fin cfg0.N) : t.val < 2 := lt_of_lt_of_eq t.isLt N_0

/-- The array's row of a point's row. -/
def row (t : Fin cfg0.N) (r : Fin 1024) : Fin 1024 := ⟨t.val / 2 * 1024 + r, by have := lt_points t; omega⟩
/-- The array's column of a point's column. -/
def col (t : Fin cfg0.N) (s : Fin 1024) : Fin 2048 := ⟨t.val / 1 % 2 * 1024 + s, by omega⟩
/-- The place along the depth of a point's. -/
def dep (t : Fin cfg0.N) (k : Fin 1024) : Fin 1024 := ⟨t.val % 1 * 1024 + k, by omega⟩

abbrev lhs : Vec Ideal S1024x1024 .bf16 := V m c main_arg0
abbrev rhs : Vec Ideal S2048x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 s k) = rhs m c (ix2 (col t s) (dep t k)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 s k) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S1024x1024 .bf16) (b : Vec Ideal S2048x1024 .bf16) :
    XattnKvRefIdeal.Read.val_main_v3 (F := Ideal) a b = prod a b := by
  funext y
  obtain ⟨r, s, rfl⟩ := eq_ix2 (a := 1024) (b := 2048) y
  unfold XattnKvRefIdeal.Read.val_main_v3 XattnKvRefIdeal.Read.val_main_v0 XattnKvRefIdeal.Read.val_main_v2 XattnKvRefIdeal.Read.val_main_v1
  pointwise [prod]

theorem frame_reference : quiescent_XattnKvRefIdeal (hXattnKvRefIdeal := XattnKvRefIdeal.Gen.facts) := fun m g _ =>
  (θ_run (XattnKvRefIdeal.defs (F := Ideal)) _ _).mono
    (fun r h => ⟨fun c => (h c).2, sem_eq_zero_of_no_sems (by decide) r.2⟩)
    (XattnKvRefIdeal.Value.run (F := Ideal) m g)

theorem algebraic : algebraic_XattnKvIdeal_XattnKvRefIdeal (hXattnKvIdeal := XattnKvIdeal.Gen.facts)
    (hXattnKvRefIdeal := XattnKvRefIdeal.Gen.facts) := by
  intro m g m' g' _ hagree
  refine ⟨fun c => prod (lhs m c) (rhs m c), ?_, ?_⟩
  · exact (θ_run XattnKvIdeal.defs _ _).mono (fun r h c => ⟨(h c).1.trans (final m c), (h c).2⟩) (XattnKvIdeal.Value.run_blocks m g)
  · refine (θ_run XattnKvRefIdeal.defs _ _).mono (fun r h c => ⟨?_, (h c).2⟩) (XattnKvRefIdeal.Value.run (F := Ideal) m' g')
    obtain ⟨e0, e1⟩ := hagree c
    refine (h c).1.trans ((XattnKvRefIdeal.Read.val_main_v3_eq _ _).trans ((reference _ _).trans ?_))
    rw [e0, e1]

end Cert.XattnKvIdeal.Prod

end
-- ==== Proof.FfnUpClaims.lean ====
/-
  The up projection: a product with the weight's rows, taken block by block.
-/
module

public import proofs.«01_k».proof.Defs
public import proofs.«01_k».proof.Proof.Products
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Adequacy

@[expose] public section

set_option maxRecDepth 16384

noncomputable section

namespace Cert.FfnUpIdeal.Prod

open Idealize.ShloMosaic Idealize.ShloMosaic.TcCoe Idealize.SL.Sem Cert.FfnUpIdeal Cert.FfnUpIdeal.Gen Cert.Products
open scoped BigOperators

/-- The product, entry by entry. -/
def prod (a : Vec Ideal S8192x1024 .bf16) (b : Vec Ideal S5632x1024 .bf16) : Vec Ideal S8192x5632 .f32 :=
  fun i => ∑ k : Fin 1024, a (ix2 (i 0) k) * b (ix2 (i 1) k)

variable (m : (ℓ : Loc nD τ sig) → Buf (Elt Ideal) ℓ) (c : Dev nD)

theorem at0 : ∀ t : Fin cfg0.N, win0_0.index t = ![t.val / 4, t.val % 1] :=
  (by decide +kernel : ∀ t : Fin grid0.N, win0_0.index t = ![t.val / 4, t.val % 1])
theorem at1 : ∀ t : Fin cfg0.N, win0_1.index t = ![t.val / 1 % 4, t.val % 1] :=
  (by decide +kernel : ∀ t : Fin grid0.N, win0_1.index t = ![t.val / 1 % 4, t.val % 1])
theorem at2 : ∀ t : Fin cfg0.N, win0_2.index t = ![t.val / 4, t.val / 1 % 4] :=
  (by decide +kernel : ∀ t : Fin grid0.N, win0_2.index t = ![t.val / 4, t.val / 1 % 4])

theorem lt_points (t : Fin cfg0.N) : t.val < 32 := lt_of_lt_of_eq t.isLt N_0

/-- The array's row of a point's row. -/
def row (t : Fin cfg0.N) (r : Fin 1024) : Fin 8192 := ⟨t.val / 4 * 1024 + r, by have := lt_points t; omega⟩
/-- The array's column of a point's column. -/
def col (t : Fin cfg0.N) (s : Fin 1408) : Fin 5632 := ⟨t.val / 1 % 4 * 1408 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S5632x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1408) (k : Fin 1024) :
    (iblk m c 1 t : Vec Ideal S1408x1024 .bf16) (ix2 s k) = rhs m c (ix2 (col t s) (dep t k)) := by
  blk_simp [iblk]
  congr 1
  blk_ext [at1, col, dep]

theorem part_apply (x0 : Vec Ideal S1024x1024 .bf16) (x1 : Vec Ideal S1408x1024 .bf16) (r : Fin 1024) (s : Fin 1408) :
    k0_pay1 x0 x1 (ix2 r s) = ∑ k : Fin 1024, x0 (ix2 r k) * x1 (ix2 s k) := by
  unfold k0_pay1
  pointwise

theorem out_apply (t : Fin cfg0.N) (r : Fin 1024) (s : Fin 1408) :
    out0_2 (iblk m c 0 t) (iblk m c 1 t) (ix2 r s)
      = ∑ k : Fin 1024, lhs m c (ix2 (row t r) k) * rhs m c (ix2 (col t s) k) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1408) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S5632x1024 .bf16) :
    FfnUpRefIdeal.Read.val_main_v3 (F := Ideal) a b = prod a b := by
  funext y
  obtain ⟨r, s, rfl⟩ := eq_ix2 (a := 8192) (b := 5632) y
  unfold FfnUpRefIdeal.Read.val_main_v3 FfnUpRefIdeal.Read.val_main_v0 FfnUpRefIdeal.Read.val_main_v2 FfnUpRefIdeal.Read.val_main_v1
  pointwise [prod]

theorem frame_reference : quiescent_FfnUpRefIdeal (hFfnUpRefIdeal := FfnUpRefIdeal.Gen.facts) := fun m g _ =>
  (θ_run (FfnUpRefIdeal.defs (F := Ideal)) _ _).mono
    (fun r h => ⟨fun c => (h c).2, sem_eq_zero_of_no_sems (by decide) r.2⟩)
    (FfnUpRefIdeal.Value.run (F := Ideal) m g)

theorem algebraic : algebraic_FfnUpIdeal_FfnUpRefIdeal (hFfnUpIdeal := FfnUpIdeal.Gen.facts)
    (hFfnUpRefIdeal := FfnUpRefIdeal.Gen.facts) := by
  intro m g m' g' _ hagree
  refine ⟨fun c => prod (lhs m c) (rhs m c), ?_, ?_⟩
  · exact (θ_run FfnUpIdeal.defs _ _).mono (fun r h c => ⟨(h c).1.trans (final m c), (h c).2⟩) (FfnUpIdeal.Value.run_blocks m g)
  · refine (θ_run FfnUpRefIdeal.defs _ _).mono (fun r h c => ⟨?_, (h c).2⟩) (FfnUpRefIdeal.Value.run (F := Ideal) m' g')
    obtain ⟨e0, e1⟩ := hagree c
    refine (h c).1.trans ((FfnUpRefIdeal.Read.val_main_v3_eq _ _).trans ((reference _ _).trans ?_))
    rw [e0, e1]

end Cert.FfnUpIdeal.Prod

end
-- ==== Proof.ProjSqClaims.lean ====
/-
  A square projection: a product with the weight, taken block by block.
-/
module

public import proofs.«01_k».proof.Defs
public import proofs.«01_k».proof.Proof.Products
public import proofs.«01_k».proof.Proof.Gen.ProjSqIdeal.Value
public import proofs.«01_k».proof.Proof.Gen.ProjSqRefIdeal.Run
public import proofs.«01_k».proof.Proof.Gen.ProjSqRefIdeal.Read
public import Idealize.ShloMosaic.Adequacy

@[expose] public section

set_option maxRecDepth 16384

noncomputable section

namespace Cert.ProjSqIdeal.Prod

open Idealize.ShloMosaic Idealize.ShloMosaic.TcCoe Idealize.SL.Sem Cert.ProjSqIdeal Cert.ProjSqIdeal.Gen Cert.Products
open scoped BigOperators

/-- The product, entry by entry. -/
def prod (a : Vec Ideal S8192x1024 .bf16) (b : Vec Ideal S1024x1024 .bf16) : Vec Ideal S8192x1024 .f32 :=
  fun i => ∑ k : Fin 1024, a (ix2 (i 0) k) * b (ix2 k (i 1))

variable (m : (ℓ : Loc nD τ sig) → Buf (Elt Ideal) ℓ) (c : Dev nD)

theorem at0 : ∀ t : Fin cfg0.N, win0_0.index t = ![t.val / 1, t.val % 1] :=
  (by decide +kernel : ∀ t : Fin grid0.N, win0_0.index t = ![t.val / 1, t.val % 1])
theorem at1 : ∀ t : Fin cfg0.N, win0_1.index t = ![t.val % 1, t.val / 1 % 1] :=
  (by decide +kernel : ∀ t : Fin grid0.N, win0_1.index t = ![t.val % 1, t.val / 1 % 1])
theorem at2 : ∀ t : Fin cfg0.N, win0_2.index t = ![t.val / 1, t.val / 1 % 1] :=
  (by decide +kernel : ∀ t : Fin grid0.N, win0_2.index t = ![t.val / 1, t.val / 1 % 1])

theorem lt_points (t : Fin cfg0.N) : t.val < 8 := lt_of_lt_of_eq t.isLt N_0

/-- The array's row of a point's row. -/
def row (t : Fin cfg0.N) (r : Fin 1024) : Fin 8192 := ⟨t.val / 1 * 1024 + r, by have := lt_points t; omega⟩
/-- The array's column of a point's column. -/
def col (t : Fin cfg0.N) (s : Fin 1024) : Fin 1024 := ⟨t.val / 1 % 1 * 1024 + s, by omega⟩
/-- The place along the depth of a point's. -/
def dep (t : Fin cfg0.N) (k : Fin 1024) : Fin 1024 := ⟨t.val % 1 * 1024 + k, by omega⟩

abbrev lhs : Vec Ideal S8192x1024 .bf16 := V m c main_arg0
abbrev rhs : Vec Ideal S1024x1024 .bf16 := V m c main_arg1

theorem iblk0_apply (t : Fin cfg0.N) (r : Fin 1024) (k : Fin 1024) :
    (iblk m c 0 t : Vec Ideal S1024x1024 .bf16) (ix2 r k) = lhs m c (ix2 (row t r) (dep t k)) := by
  blk_simp [iblk]
  congr 1
  blk_ext [at0, row, dep]

theorem iblk1_apply (t : Fin cfg0.N) (s : Fin 1024) (k : Fin 1024) :
    (iblk m c 1 t : Vec Ideal S1024x1024 .bf16) (ix2 k s) = rhs m c (ix2 (dep t k) (col t s)) := by
  blk_simp [iblk]
  congr 1
  blk_ext [at1, col, dep]

theorem part_apply (x0 : Vec Ideal S1024x1024 .bf16) (x1 : Vec Ideal S1024x1024 .bf16) (r : Fin 1024) (s : Fin 1024) :
    k0_pay1 x0 x1 (ix2 r s) = ∑ k : Fin 1024, x0 (ix2 r k) * x1 (ix2 k s) := by
  unfold k0_pay1
  pointwise

theorem out_apply (t : Fin cfg0.N) (r : Fin 1024) (s : Fin 1024) :
    out0_2 (iblk m c 0 t) (iblk m c 1 t) (ix2 r s)
      = ∑ k : Fin 1024, lhs m c (ix2 (row t r) k) * rhs m c (ix2 k (col t s)) := by
  unfold out0_2
  rw [View.canon_unit_zero zeros2, View.ld_unit_zero zeros2, View.ld_unit_zero zeros2]
  refine (part_apply _ _ r s).trans (Finset.sum_congr rfl fun k _ => ?_)
  rw [iblk0_apply, iblk1_apply]
  congr 3 <;> apply Fin.ext <;> simp only [dep] <;> omega

theorem final : (dats m 0 c).arrAt 2 cfg0.N = prod (lhs m c) (rhs m c) := by
  refine (dats m 0 c).arrAt_eq_of_covers 2 _ (by decide +kernel) fun t hf y => ?_
  blk_simp
  rw [after0_2]
  obtain ⟨r, s, rfl⟩ := eq_ix2 (a := 1024) (b := 1024) y
  refine (out_apply m c t r s).trans ?_
  have e : (win0_2.blk t).view.emb (ix2 r s) = ix2 (row t r) (col t s) := by
    blk_ext [at2, row, col]
  rw [e]
  rfl

theorem reference (a : Vec Ideal S8192x1024 .bf16) (b : Vec Ideal S1024x1024 .bf16) :
    ProjSqRefIdeal.Read.val_main_v2 (F := Ideal) a b = prod a b := by
  funext y
  obtain ⟨r, s, rfl⟩ := eq_ix2 (a := 8192) (b := 1024) y
  unfold ProjSqRefIdeal.Read.val_main_v2 ProjSqRefIdeal.Read.val_main_v0 ProjSqRefIdeal.Read.val_main_v1
  pointwise [prod]

theorem frame_reference : quiescent_ProjSqRefIdeal (hProjSqRefIdeal := ProjSqRefIdeal.Gen.facts) := fun m g _ =>
  (θ_run (ProjSqRefIdeal.defs (F := Ideal)) _ _).mono
    (fun r h => ⟨fun c => (h c).2, sem_eq_zero_of_no_sems (by decide) r.2⟩)
    (ProjSqRefIdeal.Value.run (F := Ideal) m g)

theorem algebraic : algebraic_ProjSqIdeal_ProjSqRefIdeal (hProjSqIdeal := ProjSqIdeal.Gen.facts)
    (hProjSqRefIdeal := ProjSqRefIdeal.Gen.facts) := by
  intro m g m' g' _ hagree
  refine ⟨fun c => prod (lhs m c) (rhs m c), ?_, ?_⟩
  · exact (θ_run ProjSqIdeal.defs _ _).mono (fun r h c => ⟨(h c).1.trans (final m c), (h c).2⟩) (ProjSqIdeal.Value.run_blocks m g)
  · refine (θ_run ProjSqRefIdeal.defs _ _).mono (fun r h c => ⟨?_, (h c).2⟩) (ProjSqRefIdeal.Value.run (F := Ideal) m' g')
    obtain ⟨e0, e1⟩ := hagree c
    refine (h c).1.trans ((ProjSqRefIdeal.Read.val_main_v2_eq _ _).trans ((reference _ _).trans ?_))
    rw [e0, e1]

end Cert.ProjSqIdeal.Prod

end
-- ==== Proof.Rows.lean ====
/-
  The norm of a row of 1024 numbers over extended reals, and its gradient.
-/
module

public import Idealize.ShloMosaic.Lib.Pointwise
public import Idealize.ShloMosaic.Lib.IdealHost
public import proofs.«01_k».proof.Proof.Products

@[expose] public section

noncomputable section

namespace Cert.Rows

open Idealize.ShloMosaic
open scoped BigOperators

abbrev Row := Fin 1024 → EReal

/-- The length of a row. -/
def len : EReal := Ideal.ofBits .f32 0x44800000#32
/-- The norm's constant. -/
def eps : EReal := Ideal.ofBits .f32 0x358637BD#32
/-- Minus a half. -/
def mhalf : EReal := Ideal.ofBits .f32 0xBF000000#32

/-- The mean square and the constant. -/
def ms (x : Row) : EReal := Ideal.div (∑ k, x k * x k) len + eps
/-- Its reciprocal root. -/
def ri (x : Row) : EReal := Ideal.rsqrt (ms x)
/-- The derivative of the reciprocal root. -/
def di (x : Row) : EReal := mhalf * Ideal.div (ri x) (ms x)
/-- The row over its root mean square. -/
def nr (x : Row) (k : Fin 1024) : EReal := x k * ri x
/-- The normed row times the gain. -/
def hat (x g : Row) (k : Fin 1024) : EReal := nr x k * g k
/-- The gradient of the mean square, over the length. -/
def tl (x g dy : Row) : EReal := Ideal.div ((∑ k, x k * (dy k * g k)) * di x) len
/-- The gradient of the row. -/
def back (x g dy : Row) (k : Fin 1024) : EReal := dy k * g k * ri x + x k * tl x g dy + tl x g dy * x k

/-- The row `r` of an array. -/
def at_ {n : ℕ} (x : (⟨2, ![n, 1024]⟩ : Shape).Idx → EReal) (r : Fin n) : Row := fun k => x (ix2 r k)

/-- The one row of a gain. -/
def gain (g : (⟨2, ![1, 1024]⟩ : Shape).Idx → EReal) : Row := fun k => g (ix2 0 k)

end Cert.Rows

end
-- ==== Proof.MixOutClaims.lean ====
/-
  A product added to the residual stream, and the normed rows of the sum.
-/
module

public import proofs.«01_k».proof.Defs
public import proofs.«01_k».proof.Proof.Products
public import proofs.«01_k».proof.Proof.Rows
public import proofs.«01_k».proof.Proof.Gen.MixOutIdeal.Value
public import proofs.«01_k».proof.Proof.Gen.MixOutRefIdeal.Run
public import proofs.«01_k».proof.Proof.Gen.MixOutRefIdeal.Read
public import Idealize.ShloMosaic.Adequacy

@[expose] public section

set_option maxRecDepth 16384

noncomputable section

namespace Cert.MixOutIdeal.Prod

open Idealize.ShloMosaic Idealize.ShloMosaic.TcCoe Idealize.SL.Sem Cert.MixOutIdeal Cert.MixOutIdeal.Gen Cert.Products Cert.Rows
open scoped BigOperators

/-- The sum, entry by entry. -/
def total (a : Vec Ideal S8192x1024 .bf16) (b : Vec Ideal S1024x1024 .bf16) (h : Vec Ideal S8192x1024 .f32) :
    Vec Ideal S8192x1024 .f32 :=
  fun i => h i + ∑ k : Fin 1024, a (ix2 (i 0) k) * b (ix2 k (i 1))

/-- Its normed rows. -/
def normed (a : Vec Ideal S8192x1024 .bf16) (b : Vec Ideal S1024x1024 .bf16) (h : Vec Ideal S8192x1024 .f32)
    (g : Vec Ideal S1x1024 .f32) : Vec Ideal S8192x1024 .bf16 :=
  fun i => hat (at_ (total a b h) (i 0)) (gain g) (i 1)

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])

theorem lt_points (t : Fin cfg0.N) : t.val < 8 := lt_of_lt_of_eq t.isLt N_0

/-- The array's row of a point's row. -/
def row (t : Fin cfg0.N) (r : Fin 1024) : Fin 8192 := ⟨t.val * 1024 + r, by have := lt_points t; omega⟩

abbrev lhs : Vec Ideal S8192x1024 .bf16 := V m c main_arg0
abbrev rhs : Vec Ideal S1024x1024 .bf16 := V m c main_arg1
abbrev res : Vec Ideal S8192x1024 .f32 := V m c main_arg2
abbrev gn : Vec Ideal S1x1024 .f32 := V m c main_arg3

theorem iblk0_apply (t : Fin cfg0.N) (r : Fin 1024) (k : Fin 1024) :
    (iblk m c 0 t : Vec Ideal S1024x1024 .bf16) (ix2 r k) = lhs m c (ix2 (row t r) k) := by
  blk_simp [iblk]
  congr 1
  blk_ext [at0, row]

theorem iblk1_apply (t : Fin cfg0.N) (k : Fin 1024) (s : Fin 1024) :
    (iblk m c 1 t : Vec Ideal S1024x1024 .bf16) (ix2 k s) = rhs m c (ix2 k s) := by
  blk_simp [iblk]
  congr 1
  blk_ext [at1]

theorem iblk2_apply (t : Fin cfg0.N) (r : Fin 1024) (s : Fin 1024) :
    (iblk m c 2 t : Vec Ideal S1024x1024 .f32) (ix2 r s) = res m c (ix2 (row t r) s) := by
  blk_simp [iblk]
  congr 1
  blk_ext [at2, row]

theorem iblk3_apply (t : Fin cfg0.N) (z : Fin 1) (s : Fin 1024) :
    (iblk m c 3 t : Vec Ideal S1x1024 .f32) (ix2 z s) = gn m c (ix2 z s) := by
  blk_simp [iblk]
  congr 1
  blk_ext [at3]

theorem sum_apply (x0 : Vec Ideal S1024x1024 .bf16) (x1 : Vec Ideal S1024x1024 .bf16) (x2 : Vec Ideal S1024x1024 .f32)
    (r : Fin 1024) (s : Fin 1024) :
    k0_pay1 x0 x1 x2 (ix2 r s) = x2 (ix2 r s) + ∑ k : Fin 1024, x0 (ix2 r k) * x1 (ix2 k s) := by
  unfold k0_pay1
  pointwise
  exact add_comm _ _

theorem norm_apply (x0 : Vec Ideal S1024x1024 .bf16) (x1 : Vec Ideal S1024x1024 .bf16) (x2 : Vec Ideal S1024x1024 .f32)
    (x3 : Vec Ideal S1x1024 .f32) (r : Fin 1024) (s : Fin 1024) :
    k0_pay2 x0 x1 x2 x3 (ix2 r s) = hat (at_ (k0_pay1 x0 x1 x2) r) (gain x3) s := by
  unfold k0_pay2
  generalize k0_pay1 x0 x1 x2 = y
  pointwise
  rfl

theorem block_sum (t : Fin cfg0.N) (r : Fin 1024) (s : Fin 1024) :
    k0_pay1 (iblk m c 0 t) (iblk m c 1 t) (iblk m c 2 t) (ix2 r s)
      = total (lhs m c) (rhs m c) (res m c) (ix2 (row t r) s) := by
  refine (sum_apply _ _ _ r s).trans ?_
  rw [iblk2_apply]
  refine congrArg (res m c (ix2 (row t r) s) + ·) (Finset.sum_congr rfl fun k _ => ?_)
  rw [iblk0_apply, iblk1_apply]
  rfl

theorem out4_apply (t : Fin cfg0.N) (r : Fin 1024) (s : Fin 1024) :
    out0_4 (iblk m c 0 t) (iblk m c 1 t) (iblk m c 2 t) (iblk m c 3 t) (ix2 r s)
      = total (lhs m c) (rhs m c) (res m c) (ix2 (row t r) s) := by
  unfold out0_4
  rw [View.canon_unit_zero zeros2, View.ld_unit_zero zeros2, View.ld_unit_zero zeros2, View.ld_unit_zero zeros2]
  exact block_sum m c t r s

theorem out5_apply (t : Fin cfg0.N) (r : Fin 1024) (s : Fin 1024) :
    out0_5 (iblk m c 0 t) (iblk m c 1 t) (iblk m c 2 t) (iblk m c 3 t) (ix2 r s)
      = normed (lhs m c) (rhs m c) (res m c) (gn m c) (ix2 (row t r) s) := by
  unfold out0_5
  rw [View.canon_unit_zero zeros2, View.ld_unit_zero zeros2, View.ld_unit_zero zeros2, View.ld_unit_zero zeros2,
    View.ld_unit_zero zeros2]
  refine (norm_apply _ _ _ _ r s).trans ?_
  have e0 : at_ (k0_pay1 (iblk m c 0 t) (iblk m c 1 t) (iblk m c 2 t)) r
      = at_ (total (lhs m c) (rhs m c) (res m c)) (row t r) := funext fun k => block_sum m c t r k
  have e1 : gain (iblk m c 3 t) = gain (gn m c) := funext fun k => iblk3_apply m c t 0 k
  rw [e0, e1]
  rfl

theorem final4 : (dats m 0 c).arrAt 4 cfg0.N = total (lhs m c) (rhs m c) (res m c) := by
  refine (dats m 0 c).arrAt_eq_of_covers 4 _ (by decide +kernel) fun t hf y => ?_
  blk_simp
  rw [after0_4]
  obtain ⟨r, s, rfl⟩ := eq_ix2 (a := 1024) (b := 1024) y
  refine (out4_apply m c t r s).trans ?_
  congr 1
  blk_ext [at4, row]

theorem final5 : (dats m 0 c).arrAt 5 cfg0.N = normed (lhs m c) (rhs m c) (res m c) (gn m c) := by
  refine (dats m 0 c).arrAt_eq_of_covers 5 _ (by decide +kernel) fun t hf y => ?_
  blk_simp
  rw [after0_5]
  obtain ⟨r, s, rfl⟩ := eq_ix2 (a := 1024) (b := 1024) y
  refine (out5_apply m c t r s).trans ?_
  congr 1
  blk_ext [at5, row]

theorem reference_sum (a : Vec Ideal S8192x1024 .bf16) (b : Vec Ideal S1024x1024 .bf16) (h : Vec Ideal S8192x1024 .f32) :
    MixOutRefIdeal.Read.val_main_v3 (F := Ideal) a b h = total a b h := by
  funext y
  obtain ⟨r, s, rfl⟩ := eq_ix2 (a := 8192) (b := 1024) y
  unfold MixOutRefIdeal.Read.val_main_v3 MixOutRefIdeal.Read.val_main_v2 MixOutRefIdeal.Read.val_main_v0
    MixOutRefIdeal.Read.val_main_v1
  pointwise [total]

theorem reference_norm (a : Vec Ideal S8192x1024 .bf16) (b : Vec Ideal S1024x1024 .bf16) (h : Vec Ideal S8192x1024 .f32)
    (g : Vec Ideal S1x1024 .f32) :
    MixOutRefIdeal.Read.val_main_v18 (F := Ideal) a b h g = normed a b h g := by
  funext y
  obtain ⟨r, s, rfl⟩ := eq_ix2 (a := 8192) (b := 1024) y
  have e := reference_sum a b h
  unfold normed
  rw [← e]
  unfold MixOutRefIdeal.Read.val_main_v18 MixOutRefIdeal.Read.val_main_v17 MixOutRefIdeal.Read.val_main_v14
    MixOutRefIdeal.Read.val_main_v13 MixOutRefIdeal.Read.val_main_v12 MixOutRefIdeal.Read.val_main_v11
    MixOutRefIdeal.Read.val_main_v9 MixOutRefIdeal.Read.val_main_v7 MixOutRefIdeal.Read.val_main_v6
    MixOutRefIdeal.Read.val_main_v5
  generalize MixOutRefIdeal.Read.val_main_v3 (F := Ideal) a b h = y
  pointwise [MixOutRefIdeal.Read.val_main_v16, MixOutRefIdeal.Read.val_main_v15, MixOutRefIdeal.Read.val_main_v4,
    MixOutRefIdeal.Read.val_main_v8, MixOutRefIdeal.Read.val_main_v10, MixOutRefIdeal.Read.val_main_cst,
    MixOutRefIdeal.Read.val_main_cst_0, MixOutRefIdeal.Read.val_main_cst_1]
  rfl

theorem frame_reference : quiescent_MixOutRefIdeal (hMixOutRefIdeal := MixOutRefIdeal.Gen.facts) := fun m g _ =>
  (θ_run (MixOutRefIdeal.defs (F := Ideal)) _ _).mono
    (fun r h => ⟨fun c => (h c).2.2, sem_eq_zero_of_no_sems (by decide) r.2⟩)
    (MixOutRefIdeal.Value.run (F := Ideal) m g)

theorem algebraic : algebraic_MixOutIdeal_MixOutRefIdeal (hMixOutIdeal := MixOutIdeal.Gen.facts)
    (hMixOutRefIdeal := MixOutRefIdeal.Gen.facts) := by
  intro m g m' g' _ hagree
  refine ⟨fun c => total (lhs m c) (rhs m c) (res m c), fun c => normed (lhs m c) (rhs m c) (res m c) (gn m c), ?_, ?_⟩
  · exact (θ_run MixOutIdeal.defs _ _).mono (fun r h c => ⟨(h c).1.trans (final4 m c), (h c).2.1.trans (final5 m c), (h c).2.2⟩) (MixOutIdeal.Value.run_blocks m g)
  · refine (θ_run MixOutRefIdeal.defs _ _).mono (fun r h c => ⟨?_, ?_, (h c).2.2⟩) (MixOutRefIdeal.Value.run (F := Ideal) m' g')
    · obtain ⟨e0, e1, e2, e3⟩ := hagree c
      refine (h c).1.trans ((MixOutRefIdeal.Read.val_main_v3_eq _ _ _).trans ((reference_sum _ _ _).trans ?_))
      rw [e0, e1, e2]
    · obtain ⟨e0, e1, e2, e3⟩ := hagree c
      refine (h c).2.1.trans ((MixOutRefIdeal.Read.val_main_v18_eq _ _ _ _).trans ((reference_norm _ _ _ _).trans ?_))
      rw [e0, e1, e2, e3]

end Cert.MixOutIdeal.Prod

end
-- ==== Proof.LossDownClaims.lean ====
/-
  The last product, its distance from the target, the loss and its gradient.
-/
module

public import proofs.«01_k».proof.Defs
public import proofs.«01_k».proof.Proof.Products
public import proofs.«01_k».proof.Proof.Rows
public import proofs.«01_k».proof.Proof.Gen.LossDownIdeal.Value
public import proofs.«01_k».proof.Proof.Gen.LossDownRefIdeal.Run
public import proofs.«01_k».proof.Proof.Gen.LossDownRefIdeal.Read
public import Idealize.ShloMosaic.Adequacy

@[expose] public section

set_option maxRecDepth 16384

noncomputable section

namespace Cert.LossDownIdeal.Prod

open Idealize.ShloMosaic Idealize.ShloMosaic.TcCoe Idealize.SL.Sem Cert.LossDownIdeal Cert.LossDownIdeal.Gen Cert.Products Cert.Rows
open scoped BigOperators

/-- Half of one, the loss's factor. -/
def half : EReal := Ideal.ofBits .f32 0x3F000000#32

/-- The distance from the target, entry by entry. -/
def err (a : Vec Ideal S8192x2816 .bf16) (b : Vec Ideal S2816x1024 .bf16) (h y : Vec Ideal S8192x1024 .f32)
    (p : Fin 8192) (q : Fin 1024) : EReal :=
  h (ix2 p q) + (∑ k : Fin 2816, a (ix2 p k) * b (ix2 k q)) - y (ix2 p q)

/-- The gradient: the distance over the length of a row. -/
def grad (a : Vec Ideal S8192x2816 .bf16) (b : Vec Ideal S2816x1024 .bf16) (h y : Vec Ideal S8192x1024 .f32) :
    Vec Ideal S8192x1024 .f32 :=
  fun i => Ideal.div (err a b h y (i 0) (i 1)) len

/-- The loss: half the sum over the rows of their mean square. -/
def loss (a : Vec Ideal S8192x2816 .bf16) (b : Vec Ideal S2816x1024 .bf16) (h y : Vec Ideal S8192x1024 .f32) : EReal :=
  half * ∑ p : Fin 8192, Ideal.div (∑ q : Fin 1024, err a b h y p q * err a b h y p q) len

/-! ## The two constants -/

theorem len_eq : len = ((1024 : ℝ) : EReal) := by
  unfold len; simp [Ideal.ofBits, Ideal.ieee, -EReal.coe_mul]; norm_num

theorem half_eq : half = ((1 / 2 : ℝ) : EReal) := by
  unfold half; simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

/-- A nonnegative real factor goes through a sum of any extended reals. -/
theorem mul_sum_real {ι : Type} (s : Finset ι) (f : ι → EReal) (r : ℝ) (hr : 0 ≤ r) :
    (r : EReal) * ∑ i ∈ s, f i = ∑ i ∈ s, (r : EReal) * f i := by
  induction s using Finset.cons_induction with
  | empty => simp
  | cons a s ha ih =>
    rw [Finset.sum_cons, Finset.sum_cons, ← ih]
    exact EReal.left_distrib_of_nonneg_of_ne_top (by exact_mod_cast hr) (EReal.coe_ne_top r) _ _

theorem div_len (x : EReal) : Ideal.div x len = ((1 / 1024 : ℝ) : EReal) * x := by
  rw [len_eq, Ideal.div_coe (by norm_num), mul_comm]

/-- The loss of tiles of rows, added up, is the loss of all rows. -/
theorem tiles (f : Fin 8192 → EReal) :
    ∑ j : Fin 8, Ideal.div (half * ∑ r : Fin 1024, f ⟨j.val * 1024 + r.val, by omega⟩) len
      = half * ∑ p : Fin 8192, Ideal.div (f p) len := by
  simp only [div_len]
  rw [← mul_sum_real _ _ _ (by norm_num), half_eq, ← mul_sum_real _ _ _ (by norm_num), ← mul_sum_real _ _ _ (by norm_num),
    ← blockSum (P := 8) (L := 1024) (K := 8192) rfl f]
  exact mul_left_comm _ _ _

/-- Half of one over the length, times twice `x`, is `x` over the length. -/
theorem slope (x : EReal) :
    Ideal.div (half * Ideal.ofBits .f32 0x3F800000#32) len * (Ideal.ofBits .f32 0x40000000#32 * x) = Ideal.div x len := by
  rw [div_len, div_len, half_eq, one_eq, two_eq, ← mul_assoc, ← EReal.coe_mul, ← EReal.coe_mul, ← EReal.coe_mul]
  norm_num

/-! ## The kernel's points -/

variable (m : (ℓ : Loc nD τ sig) → Buf (Elt Ideal) ℓ) (c : Dev nD)

theorem at0 : ∀ t : Fin cfg0.N, win0_0.index t = ![t.val / 2, t.val % 2] :=
  (by decide +kernel : ∀ t : Fin grid0.N, win0_0.index t = ![t.val / 2, t.val % 2])
theorem at1 : ∀ t : Fin cfg0.N, win0_1.index t = ![t.val % 2, 0] :=
  (by decide +kernel : ∀ t : Fin grid0.N, win0_1.index t = ![t.val % 2, 0])
theorem at2 : ∀ t : Fin cfg0.N, win0_2.index t = ![t.val / 2, 0] :=
  (by decide +kernel : ∀ t : Fin grid0.N, win0_2.index t = ![t.val / 2, 0])
theorem at3 : ∀ t : Fin cfg0.N, win0_3.index t = ![t.val / 2, 0] :=
  (by decide +kernel : ∀ t : Fin grid0.N, win0_3.index t = ![t.val / 2, 0])
theorem at4 : ∀ t : Fin cfg0.N, win0_4.index t = ![t.val / 2, 0] :=
  (by decide +kernel : ∀ t : Fin grid0.N, win0_4.index t = ![t.val / 2, 0])
theorem at5 : ∀ t : Fin cfg0.N, win0_5.index t = ![t.val / 2, 0] :=
  (by decide +kernel : ∀ t : Fin grid0.N, win0_5.index t = ![t.val / 2, 0])
theorem at6 : ∀ t : Fin cfg0.N, win0_6.index t = ![0, 0] :=
  (by decide +kernel : ∀ t : Fin grid0.N, win0_6.index t = ![0, 0])

theorem lt_points (t : Fin cfg0.N) : t.val < 16 := lt_of_lt_of_eq t.isLt N_0

/-- The array's row of a point's row. -/
def row (t : Fin cfg0.N) (r : Fin 1024) : Fin 8192 := ⟨t.val / 2 * 1024 + r, by have := lt_points t; omega⟩
/-- The place along the depth of a point's. -/
def dep (t : Fin cfg0.N) (k : Fin 1408) : Fin 2816 := ⟨t.val % 2 * 1408 + k, by omega⟩

abbrev lhs : Vec Ideal S8192x2816 .bf16 := V m c main_arg0
abbrev rhs : Vec Ideal S2816x1024 .bf16 := V m c main_arg1
abbrev res : Vec Ideal S8192x1024 .f32 := V m c main_arg2
abbrev tgt : Vec Ideal S8192x1024 .f32 := V m c main_arg3

theorem iblk0_apply (t : Fin cfg0.N) (r : Fin 1024) (k : Fin 1408) :
    (iblk m c 0 t : Vec Ideal S1024x1408 .bf16) (ix2 r k) = lhs m c (ix2 (row t r) (dep t k)) := by
  blk_simp [iblk]
  congr 1
  blk_ext [at0, row, dep]

theorem iblk1_apply (t : Fin cfg0.N) (k : Fin 1408) (s : Fin 1024) :
    (iblk m c 1 t : Vec Ideal S1408x1024 .bf16) (ix2 k s) = rhs m c (ix2 (dep t k) s) := by
  blk_simp [iblk]
  congr 1
  blk_ext [at1, dep]

theorem iblk2_apply (t : Fin cfg0.N) (r : Fin 1024) (s : Fin 1024) :
    (iblk m c 2 t : Vec Ideal S1024x1024 .f32) (ix2 r s) = res m c (ix2 (row t r) s) := by
  blk_simp [iblk]
  congr 1
  blk_ext [at2, row]

theorem iblk3_apply (t : Fin cfg0.N) (r : Fin 1024) (s : Fin 1024) :
    (iblk m c 3 t : Vec Ideal S1024x1024 .f32) (ix2 r s) = tgt m c (ix2 (row t r) s) := by
  blk_simp [iblk]
  congr 1
  blk_ext [at3, row]

theorem part_apply (x0 : Vec Ideal S1024x1408 .bf16) (x1 : Vec Ideal S1408x1024 .bf16) (r : Fin 1024) (s : Fin 1024) :
    k0_pay1 x0 x1 (ix2 r s) = ∑ k : Fin 1408, x0 (ix2 r k) * x1 (ix2 k s) := by
  unfold k0_pay1
  pointwise

theorem far_apply (x0 : Vec Ideal S1024x1408 .bf16) (x1 : Vec Ideal S1408x1024 .bf16) (z h y : Vec Ideal S1024x1024 .f32)
    (r : Fin 1024) (s : Fin 1024) :
    k0_pay4 x0 x1 z h y (ix2 r s) = z (ix2 r s) + k0_pay1 x0 x1 (ix2 r s) + h (ix2 r s) - y (ix2 r s) := by
  unfold k0_pay4
  generalize k0_pay1 x0 x1 = w
  pointwise

theorem over_apply (x0 : Vec Ideal S1024x1408 .bf16) (x1 : Vec Ideal S1408x1024 .bf16) (z h y : Vec Ideal S1024x1024 .f32)
    (r : Fin 1024) (s : Fin 1024) :
    k0_pay5 x0 x1 z h y (ix2 r s) = Ideal.div (k0_pay4 x0 x1 z h y (ix2 r s)) len := by
  unfold k0_pay5
  generalize k0_pay4 x0 x1 z h y = w
  pointwise
  rfl

theorem over16_apply (x0 : Vec Ideal S1024x1408 .bf16) (x1 : Vec Ideal S1408x1024 .bf16) (z h y : Vec Ideal S1024x1024 .f32)
    (r : Fin 1024) (s : Fin 1024) :
    k0_pay6 x0 x1 z h y (ix2 r s) = Ideal.div (k0_pay4 x0 x1 z h y (ix2 r s)) len := by
  unfold k0_pay6
  generalize k0_pay4 x0 x1 z h y = w
  pointwise
  rfl

theorem more_apply (x0 : Vec Ideal S1024x1408 .bf16) (x1 : Vec Ideal S1408x1024 .bf16) (z h y : Vec Ideal S1024x1024 .f32)
    (l : Vec Ideal S1x128 .f32) (r : Fin 1) (s : Fin 128) :
    k0_pay8 x0 x1 z h y l (ix2 r s)
      = l (ix2 r s) + Ideal.div (half * ∑ p : Fin 1024, ∑ q : Fin 1024,
          k0_pay4 x0 x1 z h y (ix2 p q) * k0_pay4 x0 x1 z h y (ix2 p q)) len := by
  unfold k0_pay8
  generalize k0_pay4 x0 x1 z h y = w
  pointwise
  rfl

/-- What a point's blocks give. -/
def part (n : ℕ) (h : n < cfg0.N) : Vec Ideal S1024x1024 .f32 := k0_pay1 (iblk m c 0 ⟨n, h⟩) (iblk m c 1 ⟨n, h⟩)

theorem part_eq (n : ℕ) (h : n < cfg0.N) (r : Fin 1024) (s : Fin 1024) :
    part m c n h (ix2 r s) = ∑ k : Fin 1408, lhs m c (ix2 (row ⟨n, h⟩ r) (dep ⟨n, h⟩ k)) * rhs m c (ix2 (dep ⟨n, h⟩ k) s) := by
  refine (part_apply _ _ r s).trans (Finset.sum_congr rfl fun k _ => ?_)
  rw [iblk0_apply, iblk1_apply]

theorem begun (t : Fin cfg0.N) (h : t.val % 2 = 0) (r : Fin 1024) (s : Fin 1024) :
    (outsAt0 m c t.val t.isLt).2.2.2 (ix2 r s) = part m c t.val t.isLt (ix2 r s) := by
  rw [outsAt0_A m c t h (by omega)]
  dsimp only
  unfold sout0_A_0
  rw [View.read_writes_eq_canon _ _ _ (fun y => scover0_A_0 (y := y) ..)]
  unfold kernelRun0_A
  dsimp only
  sl_unfold_words
  rw [View.canon_unit_zero zeros2]
  simp only [View.readAt_eq_ld, (hs0_0 t).read_unread, (hs0_1 t).read_unread, View.ld_unit_zero (S := S1024x1408) zeros2, View.ld_unit_zero (S := S1408x1024) zeros2]
  unfold k0_pay2
  simp only [shapeCast_self]
  rfl

/-- The distance at a point that ends a tile. -/
abbrev far (t : Fin cfg0.N) : Vec Ideal S1024x1024 .f32 :=
  k0_pay4 (iblk m c 0 t) (iblk m c 1 t) (outsAt0 m c (t.val - 1) (Nat.lt_of_le_of_lt (Nat.sub_le _ _) t.isLt)).2.2.2
    (iblk m c 2 t) (iblk m c 3 t)

theorem out4_far (t : Fin cfg0.N) (h : t.val % 2 = 1) (r : Fin 1024) (s : Fin 1024) :
    (outsAt0 m c t.val t.isLt).1 (ix2 r s) = Ideal.div (far m c t (ix2 r s)) len := by
  by_cases h3 : t.val < 2
  · rw [outsAt0_B m c t (by omega) h h3]
    dsimp only
    unfold out0_B_4
    rw [View.read_writes_eq_canon _ _ _ (fun y => cover0_B_4 (y := y) ..)]
    unfold kernelRun0_B
    dsimp only
    sl_unfold_words
    rw [View.canon_unit_zero zeros2]
    simp only [View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
    exact over_apply _ _ _ _ _ r s
  · rw [outsAt0_C m c t (by omega) h h3]
    dsimp only
    unfold out0_C_4
    rw [View.read_writes_eq_canon _ _ _ (fun y => cover0_C_4 (y := y) ..)]
    unfold kernelRun0_C
    dsimp only
    sl_unfold_words
    rw [View.canon_unit_zero zeros2]
    simp only [View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
    exact over_apply _ _ _ _ _ r s

theorem out5_far (t : Fin cfg0.N) (h : t.val % 2 = 1) (r : Fin 1024) (s : Fin 1024) :
    (outsAt0 m c t.val t.isLt).2.1 (ix2 r s) = Ideal.div (far m c t (ix2 r s)) len := by
  by_cases h3 : t.val < 2
  · rw [outsAt0_B m c t (by omega) h h3]
    dsimp only
    unfold out0_B_5
    rw [View.read_writes_eq_canon _ _ _ (fun y => cover0_B_5 (y := y) ..)]
    unfold kernelRun0_B
    dsimp only
    sl_unfold_words
    rw [View.canon_unit_zero zeros2]
    simp only [View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
    exact over16_apply _ _ _ _ _ r s
  · rw [outsAt0_C m c t (by omega) h h3]
    dsimp only
    unfold out0_C_5
    rw [View.read_writes_eq_canon _ _ _ (fun y => cover0_C_5 (y := y) ..)]
    unfold kernelRun0_C
    dsimp only
    sl_unfold_words
    rw [View.canon_unit_zero zeros2]
    simp only [View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
    exact over16_apply _ _ _ _ _ r s

/-- A tile's part of the loss. -/
def share (n : ℕ) (h : n < cfg0.N) : EReal :=
  Ideal.div (half * ∑ p : Fin 1024, ∑ q : Fin 1024, far m c ⟨n, h⟩ (ix2 p q) * far m c ⟨n, h⟩ (ix2 p q)) len

theorem same (t : Fin cfg0.N) (h : t.val % 2 = 0) (s : Fin 128) :
    (outsAt0 m c t.val t.isLt).2.2.1 (ix2 0 s)
      = (outsAt0 m c (t.val - 1) (Nat.lt_of_le_of_lt (Nat.sub_le _ _) t.isLt)).2.2.1 (ix2 0 s) := by
  rw [outsAt0_A m c t h (by omega)]
  dsimp only
  unfold out0_A_6
  rfl

theorem first (t : Fin cfg0.N) (h : t.val % 2 = 1) (h3 : t.val < 2) (s : Fin 128) :
    (outsAt0 m c t.val t.isLt).2.2.1 (ix2 0 s) = share m c t.val t.isLt := by
  rw [outsAt0_B m c t (by omega) h h3]
  dsimp only
  unfold out0_B_6
  rw [View.read_writes_eq_canon _ _ _ (fun y => cover0_B_6 (y := y) ..)]
  unfold kernelRun0_B
  dsimp only
  sl_unfold_words
  rw [View.canon_cons_unit_zero zeros2]
  simp only [View.readCov_unit_zero (S := S1x128) _ zeros2, View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
  refine (more_apply _ _ _ _ _ _ 0 s).trans ?_
  refine Eq.trans (congrArg (· + _) ?_) (zero_add _)
  unfold k0_pay7
  pointwise

theorem next (t : Fin cfg0.N) (h : t.val % 2 = 1) (h3 : ¬t.val < 2) (s : Fin 128) :
    (outsAt0 m c t.val t.isLt).2.2.1 (ix2 0 s)
      = (outsAt0 m c (t.val - 1) (Nat.lt_of_le_of_lt (Nat.sub_le _ _) t.isLt)).2.2.1 (ix2 0 s) + share m c t.val t.isLt := by
  rw [outsAt0_C m c t (by omega) h h3]
  dsimp only
  unfold out0_C_6
  rw [View.read_writes_eq_canon _ _ _ (fun y => cover0_C_6 (y := y) ..)]
  unfold kernelRun0_C
  dsimp only
  sl_unfold_words
  rw [View.canon_unit_zero zeros2]
  simp only [View.readAt_eq_ld, (hs0_0 t).read_unread, (hs0_1 t).read_unread, (hs0_2 t).read_unread, (hs0_3 t).read_unread, (hs0_6 t).read_unread, (Memref.isWhole_whole cc0_scratch0).read_unread, View.ld_unit_zero (S := S1024x1408) zeros2, View.ld_unit_zero (S := S1408x1024) zeros2, View.ld_unit_zero (S := S1024x1024) zeros2, View.ld_unit_zero (S := S1x128) zeros2]
  exact more_apply _ _ _ _ _ _ 0 s

/-- After tile `i` the accumulator holds the parts of the tiles up to it. -/
theorem upto (s : Fin 128) : ∀ (i : ℕ) (h : 2 * i + 1 < cfg0.N),
    (outsAt0 m c (2 * i + 1) h).2.2.1 (ix2 0 s) = ∑ j : Fin (i + 1), share m c (2 * j.val + 1) (by have := j.isLt; omega)
  | 0, h => by
    rw [Fin.sum_univ_one]
    exact first m c ⟨2 * 0 + 1, h⟩ (by simp) (by simp) s
  | i + 1, h => by
    rw [Fin.sum_univ_castSucc]
    refine (next m c ⟨2 * (i + 1) + 1, h⟩ (by dsimp only; omega) (by dsimp only; omega) s).trans ?_
    refine congrArg (· + _) ?_
    refine (same m c ⟨2 * (i + 1), by omega⟩ (by dsimp only; omega) s).trans ?_
    exact upto s i (by omega)

/-- The distance of a tile, over the arrays. -/
theorem far_eq (t : Fin cfg0.N) (h : t.val % 2 = 1) (r : Fin 1024) (s : Fin 1024) :
    far m c t (ix2 r s) = err (lhs m c) (rhs m c) (res m c) (tgt m c) (row t r) s := by
  have ht := lt_points t
  refine (far_apply _ _ _ _ _ r s).trans ?_
  rw [iblk2_apply, iblk3_apply]
  unfold err
  refine congrArg (· - _) ?_
  rw [add_comm]
  refine congrArg (res m c (ix2 (row t r) s) + ·) ?_
  rw [← blockSum (P := 2) (L := 1408) (K := 2816) rfl, Fin.sum_univ_two]
  refine congrArg₂ (· + ·) ?_ ?_
  · refine (begun m c ⟨t.val - 1, by omega⟩ (by dsimp only; omega) r s).trans ?_
    refine (part_eq m c _ _ r s).trans (Finset.sum_congr rfl fun k _ => ?_)
    have e1 : row ⟨t.val - 1, by omega⟩ r = row t r := by apply Fin.ext; simp only [row]; omega
    have e2 : dep ⟨t.val - 1, by omega⟩ k = ⟨(0 : Fin 2).val * 1408 + k.val, by omega⟩ := by
      apply Fin.ext; simp only [dep, Fin.val_zero]; omega
    rw [e1, e2]
  · refine (part_eq m c t.val t.isLt r s).trans (Finset.sum_congr rfl fun k _ => ?_)
    have e2 : dep ⟨t.val, t.isLt⟩ k = ⟨(1 : Fin 2).val * 1408 + k.val, by omega⟩ := by
      apply Fin.ext; simp only [dep, Fin.val_one]; omega
    rw [e2]

theorem final4 : (dats m 0 c).arrAt 4 cfg0.N = grad (lhs m c) (rhs m c) (res m c) (tgt m c) := by
  refine (dats m 0 c).arrAt_eq_of_covers 4 _ (by decide +kernel) fun t hf y => ?_
  have h : t.val % 2 = 1 := (flush0_4 t).mp hf
  blk_simp
  rw [after0_4]
  obtain ⟨r, s, rfl⟩ := eq_ix2 (a := 1024) (b := 1024) y
  refine (out4_far m c t h r s).trans ?_
  rw [far_eq m c t h]
  have e : (win0_4.blk t).view.emb (ix2 r s) = ix2 (row t r) s := by
    blk_ext [at4, row]
  rw [e]
  rfl

theorem final5 : (dats m 0 c).arrAt 5 cfg0.N = grad (lhs m c) (rhs m c) (res m c) (tgt m c) := by
  refine (dats m 0 c).arrAt_eq_of_covers 5 _ (by decide +kernel) fun t hf y => ?_
  have h : t.val % 2 = 1 := (flush0_5 t).mp hf
  blk_simp
  rw [after0_5]
  obtain ⟨r, s, rfl⟩ := eq_ix2 (a := 1024) (b := 1024) y
  refine (out5_far m c t h r s).trans ?_
  rw [far_eq m c t h]
  have e : (win0_5.blk t).view.emb (ix2 r s) = ix2 (row t r) s := by
    blk_ext [at5, row]
  rw [e]
  rfl

theorem final6 : (dats m 0 c).arrAt 6 cfg0.N = fun _ => loss (lhs m c) (rhs m c) (res m c) (tgt m c) := by
  refine (dats m 0 c).arrAt_eq_of_covers 6 _ (by decide +kernel) fun t hf y => ?_
  have h : t.val = 2 * 7 + 1 := by have := (flush0_6 t).mp hf; have := lt_points t; omega
  blk_simp
  rw [after0_6]
  obtain ⟨r, s, rfl⟩ := eq_ix2 (a := 1) (b := 128) y
  obtain rfl : r = 0 := Subsingleton.elim _ _
  obtain ⟨n, hn⟩ := t
  subst h
  refine (upto m c s 7 hn).trans ?_
  unfold loss
  rw [← tiles]
  refine Finset.sum_congr rfl fun j _ => ?_
  have hj := j.isLt
  unfold share
  refine congrArg (fun z => Ideal.div (half * z) len) ?_
  refine Finset.sum_congr rfl fun p _ => Finset.sum_congr rfl fun q _ => ?_
  rw [far_eq m c _ (by dsimp only; omega)]
  have e : row ⟨2 * j.val + 1, lt_of_lt_of_eq (by omega : 2 * j.val + 1 < 16) N_0.symm⟩ p = ⟨j.val * 1024 + p.val, by omega⟩ := by
    apply Fin.ext; simp only [row]; omega
  rw [e]

/-! ## The reference -/

theorem reference_err (a : Vec Ideal S8192x2816 .bf16) (b : Vec Ideal S2816x1024 .bf16) (h y : Vec Ideal S8192x1024 .f32) (p : Fin 8192) (q : Fin 1024) :
    LossDownRefIdeal.Read.val_main_v4 (F := Ideal) a b h y (ix2 p q) = err a b h y p q := by
  unfold LossDownRefIdeal.Read.val_main_v4 LossDownRefIdeal.Read.val_main_v3 LossDownRefIdeal.Read.val_main_v2 LossDownRefIdeal.Read.val_main_v0 LossDownRefIdeal.Read.val_main_v1
  pointwise [err]

theorem reference_grad (a : Vec Ideal S8192x2816 .bf16) (b : Vec Ideal S2816x1024 .bf16) (h y : Vec Ideal S8192x1024 .f32) : LossDownRefIdeal.Read.val_main_v18 (F := Ideal) a b h y = grad a b h y := by
  funext i
  obtain ⟨p, q, rfl⟩ := eq_ix2 (a := 8192) (b := 1024) i
  show _ = Ideal.div (err a b h y p q) len
  refine Eq.trans ?_ (slope _)
  rw [← reference_err a b h y]
  unfold LossDownRefIdeal.Read.val_main_v18 LossDownRefIdeal.Read.val_main_v17 LossDownRefIdeal.Read.val_main_v7
  generalize LossDownRefIdeal.Read.val_main_v4 (F := Ideal) a b h y = w
  pointwise [LossDownRefIdeal.Read.val_main_v16, LossDownRefIdeal.Read.val_main_v15, LossDownRefIdeal.Read.val_main_v14, LossDownRefIdeal.Read.val_main_v13, LossDownRefIdeal.Read.val_main_v6, LossDownRefIdeal.Read.val_main_cst, LossDownRefIdeal.Read.val_main_cst_4, LossDownRefIdeal.Read.val_main_cst_5, LossDownRefIdeal.Read.val_main_cst_6]
  rfl

theorem reference_grad16 (a : Vec Ideal S8192x2816 .bf16) (b : Vec Ideal S2816x1024 .bf16) (h y : Vec Ideal S8192x1024 .f32) : LossDownRefIdeal.Read.val_main_v19 (F := Ideal) a b h y = grad a b h y := by
  rw [← reference_grad]
  funext i
  obtain ⟨p, q, rfl⟩ := eq_ix2 (a := 8192) (b := 1024) i
  unfold LossDownRefIdeal.Read.val_main_v19
  generalize LossDownRefIdeal.Read.val_main_v18 (F := Ideal) a b h y = w
  pointwise

theorem reference_loss (a : Vec Ideal S8192x2816 .bf16) (b : Vec Ideal S2816x1024 .bf16) (h y : Vec Ideal S8192x1024 .f32) : LossDownRefIdeal.Read.val_main_v20 (F := Ideal) a b h y = fun _ => loss a b h y := by
  funext i
  obtain ⟨p, q, rfl⟩ := eq_ix2 (a := 1) (b := 128) i
  unfold loss
  simp only [← reference_err a b h y]
  unfold LossDownRefIdeal.Read.val_main_v20 LossDownRefIdeal.Read.val_main_v12 LossDownRefIdeal.Read.val_main_v11 LossDownRefIdeal.Read.val_main_v10 LossDownRefIdeal.Read.val_main_v8 LossDownRefIdeal.Read.val_main_v5
  generalize LossDownRefIdeal.Read.val_main_v4 (F := Ideal) a b h y = w
  pointwise [LossDownRefIdeal.Read.val_main_v9, LossDownRefIdeal.Read.val_main_cst_0, LossDownRefIdeal.Read.val_main_cst_1, LossDownRefIdeal.Read.val_main_cst_2, LossDownRefIdeal.Read.val_main_cst_3]
  rfl

theorem frame_reference : quiescent_LossDownRefIdeal (hLossDownRefIdeal := LossDownRefIdeal.Gen.facts) := fun m g _ =>
  (θ_run (LossDownRefIdeal.defs (F := Ideal)) _ _).mono
    (fun r h => ⟨fun c => (h c).2.2.2, sem_eq_zero_of_no_sems (by decide) r.2⟩)
    (LossDownRefIdeal.Value.run (F := Ideal) m g)

theorem algebraic : algebraic_LossDownIdeal_LossDownRefIdeal (hLossDownIdeal := LossDownIdeal.Gen.facts)
    (hLossDownRefIdeal := LossDownRefIdeal.Gen.facts) := by
  intro m g m' g' _ hagree
  refine ⟨fun c => grad (lhs m c) (rhs m c) (res m c) (tgt m c), fun c => grad (lhs m c) (rhs m c) (res m c) (tgt m c), fun c => (fun _ => loss (lhs m c) (rhs m c) (res m c) (tgt m c)), ?_, ?_⟩
  · exact (θ_run LossDownIdeal.defs _ _).mono (fun r h c => ⟨(h c).1.trans (final4 m c), (h c).2.1.trans (final5 m c), (h c).2.2.1.trans (final6 m c), (h c).2.2.2⟩) (LossDownIdeal.Value.run_blocks m g)
  · refine (θ_run LossDownRefIdeal.defs _ _).mono (fun r h c => ⟨?_, ?_, ?_, (h c).2.2.2⟩) (LossDownRefIdeal.Value.run (F := Ideal) m' g')
    · obtain ⟨e0, e1, e2, e3⟩ := hagree c
      refine (h c).1.trans ((LossDownRefIdeal.Read.val_main_v18_eq _ _ _ _).trans ((reference_grad _ _ _ _).trans ?_))
      rw [e0, e1, e2, e3]
    · obtain ⟨e0, e1, e2, e3⟩ := hagree c
      refine (h c).2.1.trans ((LossDownRefIdeal.Read.val_main_v19_eq _ _ _ _).trans ((reference_grad16 _ _ _ _).trans ?_))
      rw [e0, e1, e2, e3]
    · obtain ⟨e0, e1, e2, e3⟩ := hagree c
      refine (h c).2.2.1.trans ((LossDownRefIdeal.Read.val_main_v20_eq _ _ _ _).trans ((reference_loss _ _ _ _).trans ?_))
      rw [e0, e1, e2, e3]
      rfl

end Cert.LossDownIdeal.Prod

end
-- ==== Proof.NormBwdClaims.lean ====
/-
  The gradient of a norm, added to the stream's, with a copy of it, and of its gain.
-/
module

public import proofs.«01_k».proof.Defs
public import proofs.«01_k».proof.Proof.Products
public import proofs.«01_k».proof.Proof.Rows
public import proofs.«01_k».proof.Proof.Gen.NormBwdIdeal.Value
public import proofs.«01_k».proof.Proof.Gen.NormBwdRefIdeal.Run
public import proofs.«01_k».proof.Proof.Gen.NormBwdRefIdeal.Read
public import Idealize.ShloMosaic.Adequacy

@[expose] public section

set_option maxRecDepth 16384

noncomputable section

namespace Cert.NormBwdIdeal.Prod

open Idealize.ShloMosaic Idealize.ShloMosaic.TcCoe Idealize.SL.Sem Cert.NormBwdIdeal Cert.NormBwdIdeal.Gen Cert.Products Cert.Rows
open scoped BigOperators

/-- The gradient of the gain. -/
def dGain (x dy : Vec Ideal S8192x1024 .f32) : Vec Ideal S1x1024 .f32 :=
  fun i => ∑ p : Fin 8192, nr (at_ x p) (i 1) * dy (ix2 p (i 1))

/-- The gradient of the rows, added to what came along the stream. -/
def dRows (x res dy : Vec Ideal S8192x1024 .f32) (g : Vec Ideal S1x1024 .f32) : Vec Ideal S8192x1024 .f32 :=
  fun i => res i + back (at_ x (i 0)) (gain g) (at_ dy (i 0)) (i 1)

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![0, 0] :=
  (by decide +kernel : ∀ t : Fin grid0.N, win0_6.index t = ![0, 0])

theorem lt_points (t : Fin cfg0.N) : t.val < 32 := lt_of_lt_of_eq t.isLt N_0

/-- The array's row of a point's row. -/
def row (t : Fin cfg0.N) (r : Fin 256) : Fin 8192 := ⟨t.val * 256 + r, by have := lt_points t; omega⟩

abbrev rows : Vec Ideal S8192x1024 .f32 := V m c main_arg0
abbrev res : Vec Ideal S8192x1024 .f32 := V m c main_arg1
abbrev grd : Vec Ideal S8192x1024 .f32 := V m c main_arg2
abbrev gn : Vec Ideal S1x1024 .f32 := V m c main_arg3

theorem iblk0_apply (t : Fin cfg0.N) (r : Fin 256) (k : Fin 1024) :
    (iblk m c 0 t : Vec Ideal S256x1024 .f32) (ix2 r k) = rows m c (ix2 (row t r) k) := by
  blk_simp [iblk]
  congr 1
  blk_ext [at0, row]

theorem iblk1_apply (t : Fin cfg0.N) (r : Fin 256) (k : Fin 1024) :
    (iblk m c 1 t : Vec Ideal S256x1024 .f32) (ix2 r k) = res m c (ix2 (row t r) k) := by
  blk_simp [iblk]
  congr 1
  blk_ext [at1, row]

theorem iblk2_apply (t : Fin cfg0.N) (r : Fin 256) (k : Fin 1024) :
    (iblk m c 2 t : Vec Ideal S256x1024 .f32) (ix2 r k) = grd m c (ix2 (row t r) k) := by
  blk_simp [iblk]
  congr 1
  blk_ext [at2, row]

theorem iblk3_apply (t : Fin cfg0.N) (r : Fin 1) (k : Fin 1024) :
    (iblk m c 3 t : Vec Ideal S1x1024 .f32) (ix2 r k) = gn m c (ix2 r k) := by
  blk_simp [iblk]
  congr 1
  blk_ext [at3]

theorem ms_apply (x : Vec Ideal S256x1024 .f32) (r : Fin 256) (z : Fin 1) : k0_pay3 x (ix2 r z) = ms (at_ x r) := by
  unfold k0_pay3
  pointwise
  rfl

theorem ri_apply (x : Vec Ideal S256x1024 .f32) (r : Fin 256) (z : Fin 1) : k0_pay4 x (ix2 r z) = ri (at_ x r) := by
  unfold k0_pay4 ri
  rw [← ms_apply x r z]
  generalize k0_pay3 x = w
  pointwise

theorem part_apply (x dy : Vec Ideal S256x1024 .f32) (z : Fin 1) (s : Fin 1024) :
    k0_pay5 x dy (ix2 z s) = ∑ r : Fin 256, nr (at_ x r) s * dy (ix2 r s) := by
  unfold nr
  simp only [← ri_apply x _ 0]
  unfold k0_pay5
  generalize k0_pay4 x = w
  pointwise
  rfl

theorem more_apply (v l : Vec Ideal S1x1024 .f32) (z : Fin 1) (s : Fin 1024) : k0_pay2 v l (ix2 z s) = l (ix2 z s) + v (ix2 z s) := by
  unfold k0_pay2
  simp only [shapeCast_self]
  pointwise

theorem rows_apply (x e dy : Vec Ideal S256x1024 .f32) (g : Vec Ideal S1x1024 .f32) (r : Fin 256) (s : Fin 1024) :
    k0_pay6 x e dy g (ix2 r s) = e (ix2 r s) + back (at_ x r) (gain g) (at_ dy r) s := by
  unfold back tl di
  rw [← ri_apply x r 0, ← ms_apply x r 0]
  unfold k0_pay6
  generalize k0_pay4 x = w
  generalize k0_pay3 x = w'
  pointwise
  simp only [Fin.sum_univ_one]
  rfl

theorem copy_apply (x e dy : Vec Ideal S256x1024 .f32) (g : Vec Ideal S1x1024 .f32) (r : Fin 256) (s : Fin 1024) :
    k0_pay7 x e dy g (ix2 r s) = e (ix2 r s) + back (at_ x r) (gain g) (at_ dy r) s := by
  rw [← rows_apply]
  unfold k0_pay7
  generalize k0_pay6 x e dy g = w
  pointwise

theorem out4_apply (t : Fin cfg0.N) (r : Fin 256) (s : Fin 1024) :
    (outsAt0 m c t.val t.isLt).1 (ix2 r s) = dRows (rows m c) (res m c) (grd m c) (gn m c) (ix2 (row t r) s) := by
  have e : (outsAt0 m c t.val t.isLt).1 (ix2 r s) = @HAdd.hAdd EReal EReal EReal _ ((iblk m c 1 t : Vec Ideal S256x1024 .f32) (ix2 r s))
      ( back (at_ (iblk m c 0 t : Vec Ideal S256x1024 .f32) r) (gain (iblk m c 3 t : Vec Ideal S1x1024 .f32)) (at_ (iblk m c 2 t : Vec Ideal S256x1024 .f32) r) s) := by
    by_cases h0 : t.val % 32 = 0
    · rw [outsAt0_A m c t h0]
      dsimp only
      unfold out0_A_4
      rw [View.read_writes_eq_canon _ _ _ (fun y => cover0_A_4 (y := y) ..)]
      unfold kernelRun0_A
      dsimp only
      sl_unfold_words
      rw [View.canon_unit_zero zeros2]
      simp only [View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
      exact rows_apply _ _ _ _ r s
    · rw [outsAt0_B m c t h0]
      dsimp only
      unfold out0_B_4
      rw [View.read_writes_eq_canon _ _ _ (fun y => cover0_B_4 (y := y) ..)]
      unfold kernelRun0_B
      dsimp only
      sl_unfold_words
      rw [View.canon_unit_zero zeros2]
      simp only [View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
      exact rows_apply _ _ _ _ r s
  rw [e, iblk1_apply]
  have e0 : at_ (iblk m c 0 t : Vec Ideal S256x1024 .f32) r = at_ (rows m c) (row t r) := funext fun k => iblk0_apply m c t r k
  have e2 : at_ (iblk m c 2 t : Vec Ideal S256x1024 .f32) r = at_ (grd m c) (row t r) := funext fun k => iblk2_apply m c t r k
  have e3 : gain (iblk m c 3 t : Vec Ideal S1x1024 .f32) = gain (gn m c) := funext fun k => iblk3_apply m c t 0 k
  rw [e0, e2, e3]
  rfl

theorem final4 : (dats m 0 c).arrAt 4 cfg0.N = dRows (rows m c) (res m c) (grd m c) (gn m c) := by
  refine (dats m 0 c).arrAt_eq_of_covers 4 _ (by decide +kernel) fun t hf y => ?_
  blk_simp
  rw [after0_4]
  obtain ⟨r, s, rfl⟩ := eq_ix2 (a := 256) (b := 1024) y
  refine (out4_apply m c t r s).trans ?_
  congr 1
  blk_ext [at4, row]

theorem out5_apply (t : Fin cfg0.N) (r : Fin 256) (s : Fin 1024) :
    (outsAt0 m c t.val t.isLt).2.1 (ix2 r s) = dRows (rows m c) (res m c) (grd m c) (gn m c) (ix2 (row t r) s) := by
  have e : (outsAt0 m c t.val t.isLt).2.1 (ix2 r s) = @HAdd.hAdd EReal EReal EReal _ ((iblk m c 1 t : Vec Ideal S256x1024 .f32) (ix2 r s))
      ( back (at_ (iblk m c 0 t : Vec Ideal S256x1024 .f32) r) (gain (iblk m c 3 t : Vec Ideal S1x1024 .f32)) (at_ (iblk m c 2 t : Vec Ideal S256x1024 .f32) r) s) := by
    by_cases h0 : t.val % 32 = 0
    · rw [outsAt0_A m c t h0]
      dsimp only
      unfold out0_A_5
      rw [View.read_writes_eq_canon _ _ _ (fun y => cover0_A_5 (y := y) ..)]
      unfold kernelRun0_A
      dsimp only
      sl_unfold_words
      rw [View.canon_unit_zero zeros2]
      simp only [View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
      exact copy_apply _ _ _ _ r s
    · rw [outsAt0_B m c t h0]
      dsimp only
      unfold out0_B_5
      rw [View.read_writes_eq_canon _ _ _ (fun y => cover0_B_5 (y := y) ..)]
      unfold kernelRun0_B
      dsimp only
      sl_unfold_words
      rw [View.canon_unit_zero zeros2]
      simp only [View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
      exact copy_apply _ _ _ _ r s
  rw [e, iblk1_apply]
  have e0 : at_ (iblk m c 0 t : Vec Ideal S256x1024 .f32) r = at_ (rows m c) (row t r) := funext fun k => iblk0_apply m c t r k
  have e2 : at_ (iblk m c 2 t : Vec Ideal S256x1024 .f32) r = at_ (grd m c) (row t r) := funext fun k => iblk2_apply m c t r k
  have e3 : gain (iblk m c 3 t : Vec Ideal S1x1024 .f32) = gain (gn m c) := funext fun k => iblk3_apply m c t 0 k
  rw [e0, e2, e3]
  rfl

theorem final5 : (dats m 0 c).arrAt 5 cfg0.N = dRows (rows m c) (res m c) (grd m c) (gn m c) := by
  refine (dats m 0 c).arrAt_eq_of_covers 5 _ (by decide +kernel) fun t hf y => ?_
  blk_simp
  rw [after0_5]
  obtain ⟨r, s, rfl⟩ := eq_ix2 (a := 256) (b := 1024) y
  refine (out5_apply m c t r s).trans ?_
  congr 1
  blk_ext [at5, row]

/-- A block of rows' part of the gain's gradient. -/
def share (n : ℕ) (h : n < cfg0.N) (s : Fin 1024) : EReal :=
  ∑ r : Fin 256, nr (at_ (iblk m c 0 ⟨n, h⟩ : Vec Ideal S256x1024 .f32) r) s * (iblk m c 2 ⟨n, h⟩ : Vec Ideal S256x1024 .f32) (ix2 r s)

theorem first (t : Fin cfg0.N) (h : t.val % 32 = 0) (s : Fin 1024) :
    (outsAt0 m c t.val t.isLt).2.2 (ix2 0 s) = share m c t.val t.isLt s := by
  rw [outsAt0_A m c t h]
  dsimp only
  unfold out0_A_6
  rw [View.read_writes_eq_canon _ _ _ (fun y => cover0_A_6 (y := y) ..)]
  unfold kernelRun0_A
  dsimp only
  sl_unfold_words
  rw [View.canon_cons_unit_zero zeros2]
  simp only [View.readCov_unit_zero (S := S1x1024) _ zeros2, View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
  refine (more_apply _ _ 0 s).trans ?_
  refine Eq.trans (congrArg (· + _) ?_) (zero_add _) |>.trans ?_
  · unfold k0_pay1
    pointwise
  · exact part_apply _ _ 0 s

theorem next (t : Fin cfg0.N) (h : ¬t.val % 32 = 0) (s : Fin 1024) :
    (outsAt0 m c t.val t.isLt).2.2 (ix2 0 s)
      = (outsAt0 m c (t.val - 1) (Nat.lt_of_le_of_lt (Nat.sub_le _ _) t.isLt)).2.2 (ix2 0 s) + share m c t.val t.isLt s := by
  rw [outsAt0_B m c t h]
  dsimp only
  unfold out0_B_6
  rw [View.read_writes_eq_canon _ _ _ (fun y => cover0_B_6 (y := y) ..)]
  unfold kernelRun0_B
  dsimp only
  sl_unfold_words
  rw [View.canon_unit_zero zeros2]
  simp only [View.readAt_eq_ld, (hs0_0 t).read_unread, (hs0_1 t).read_unread, (hs0_2 t).read_unread, (hs0_3 t).read_unread, (hs0_6 t).read_unread, View.ld_unit_zero (S := S256x1024) zeros2, View.ld_unit_zero (S := S1x1024) zeros2]
  refine (more_apply _ _ 0 s).trans ?_
  exact congrArg (_ + ·) (part_apply _ _ 0 s)

/-- After block `i` the accumulator holds the parts of the blocks up to it. -/
theorem upto (s : Fin 1024) : ∀ (i : ℕ) (h : i < cfg0.N),
    (outsAt0 m c i h).2.2 (ix2 0 s) = ∑ j : Fin (i + 1), share m c j.val (by have := j.isLt; omega) s
  | 0, h => by
    rw [Fin.sum_univ_one]
    exact first m c ⟨0, h⟩ (by simp) s
  | i + 1, h => by
    rw [Fin.sum_univ_castSucc]
    refine (next m c ⟨i + 1, h⟩ (by have := lt_points ⟨i + 1, h⟩; dsimp only at this ⊢; omega) s).trans ?_
    exact congrArg (· + _) (upto s i (by omega))

theorem final6 : (dats m 0 c).arrAt 6 cfg0.N = dGain (rows m c) (grd m c) := by
  refine (dats m 0 c).arrAt_eq_of_covers 6 _ (by decide +kernel) fun t hf y => ?_
  have h : t.val = 31 := by have := (flush0_6 t).mp hf; have := lt_points t; omega
  blk_simp
  rw [after0_6]
  obtain ⟨r, s, rfl⟩ := eq_ix2 (a := 1) (b := 1024) y
  obtain rfl : r = 0 := Subsingleton.elim _ _
  have e : (win0_6.blk t).view.emb (ix2 0 s) = ix2 0 s := by
    blk_ext [at6]
  rw [e]
  obtain ⟨n, hn⟩ := t
  subst h
  refine (upto m c s 31 hn).trans ?_
  show _ = ∑ p : Fin 8192, nr (at_ (rows m c) p) s * grd m c (ix2 p s)
  rw [← blockSum (P := 32) (L := 256) (K := 8192) rfl]
  refine Finset.sum_congr rfl fun j _ => Finset.sum_congr rfl fun r _ => ?_
  have e0 : at_ (iblk m c 0 ⟨j.val, lt_of_lt_of_eq j.isLt N_0.symm⟩ : Vec Ideal S256x1024 .f32) r
      = at_ (rows m c) (row ⟨j.val, lt_of_lt_of_eq j.isLt N_0.symm⟩ r) := funext fun k => iblk0_apply m c _ r k
  rw [e0, iblk2_apply]
  rfl

theorem ref_ms (x : Vec Ideal S8192x1024 .f32) (p : Fin 8192) (z : Fin 1) : NormBwdRefIdeal.Read.val_main_v7 (F := Ideal) x (ix2 p z) = ms (at_ x p) := by
  unfold NormBwdRefIdeal.Read.val_main_v7 NormBwdRefIdeal.Read.val_main_v5 NormBwdRefIdeal.Read.val_main_v3 NormBwdRefIdeal.Read.val_main_v2 NormBwdRefIdeal.Read.val_main_v1
  pointwise [NormBwdRefIdeal.Read.val_main_v4, NormBwdRefIdeal.Read.val_main_v6, NormBwdRefIdeal.Read.val_main_cst, NormBwdRefIdeal.Read.val_main_cst_0, NormBwdRefIdeal.Read.val_main_cst_1]
  rfl

theorem ref_ri (x : Vec Ideal S8192x1024 .f32) (p : Fin 8192) (z : Fin 1) : NormBwdRefIdeal.Read.val_main_v8 (F := Ideal) x (ix2 p z) = ri (at_ x p) := by
  unfold ri
  rw [← ref_ms x p z]
  unfold NormBwdRefIdeal.Read.val_main_v8
  generalize NormBwdRefIdeal.Read.val_main_v7 (F := Ideal) x = w
  pointwise

theorem ref_slope (x dy : Vec Ideal S8192x1024 .f32) (g : Vec Ideal S1x1024 .f32) (p : Fin 8192) (s : Fin 1024) :
    NormBwdRefIdeal.Read.val_main_v21 (F := Ideal) dy g (ix2 p s) = at_ dy p s * gain g s := by
  unfold NormBwdRefIdeal.Read.val_main_v21 NormBwdRefIdeal.Read.val_main_v20 NormBwdRefIdeal.Read.val_main_v14 NormBwdRefIdeal.Read.val_main_v0
  pointwise
  rfl

theorem ref_tl (x dy : Vec Ideal S8192x1024 .f32) (g : Vec Ideal S1x1024 .f32) (p : Fin 8192) (s : Fin 1024) :
    NormBwdRefIdeal.Read.val_main_v32 (F := Ideal) x dy g (ix2 p s) = tl (at_ x p) (gain g) (at_ dy p) := by
  unfold tl di
  simp only [← ref_slope x dy g p]
  rw [← ref_ri x p 0, ← ref_ms x p 0]
  unfold NormBwdRefIdeal.Read.val_main_v32 NormBwdRefIdeal.Read.val_main_v31 NormBwdRefIdeal.Read.val_main_v30 NormBwdRefIdeal.Read.val_main_v28 NormBwdRefIdeal.Read.val_main_v25 NormBwdRefIdeal.Read.val_main_v24 NormBwdRefIdeal.Read.val_main_v23 NormBwdRefIdeal.Read.val_main_v11 NormBwdRefIdeal.Read.val_main_v9
  generalize NormBwdRefIdeal.Read.val_main_v8 (F := Ideal) x = w
  generalize NormBwdRefIdeal.Read.val_main_v7 (F := Ideal) x = w'
  generalize NormBwdRefIdeal.Read.val_main_v21 (F := Ideal) dy g = w''
  pointwise [NormBwdRefIdeal.Read.val_main_v29, NormBwdRefIdeal.Read.val_main_v10, NormBwdRefIdeal.Read.val_main_cst_2, NormBwdRefIdeal.Read.val_main_cst_5, NormBwdRefIdeal.Read.val_main_cst_6, NormBwdRefIdeal.Read.val_main_cst_7]
  exact Fin.sum_univ_one _

theorem reference_rows (x e dy : Vec Ideal S8192x1024 .f32) (g : Vec Ideal S1x1024 .f32) : NormBwdRefIdeal.Read.val_main_v38 (F := Ideal) x e dy g = dRows x e dy g := by
  funext y
  obtain ⟨p, s, rfl⟩ := eq_ix2 (a := 8192) (b := 1024) y
  show _ = e (ix2 p s) + back (at_ x p) (gain g) (at_ dy p) s
  unfold back
  rw [← ref_slope x dy g p, ← ref_ri x p 0, ← ref_tl x dy g p s]
  unfold NormBwdRefIdeal.Read.val_main_v38 NormBwdRefIdeal.Read.val_main_v36 NormBwdRefIdeal.Read.val_main_v35 NormBwdRefIdeal.Read.val_main_v34 NormBwdRefIdeal.Read.val_main_v33 NormBwdRefIdeal.Read.val_main_v27 NormBwdRefIdeal.Read.val_main_v26
  generalize NormBwdRefIdeal.Read.val_main_v8 (F := Ideal) x = w
  generalize NormBwdRefIdeal.Read.val_main_v32 (F := Ideal) x dy g = w'
  generalize NormBwdRefIdeal.Read.val_main_v21 (F := Ideal) dy g = w''
  pointwise
  rfl

theorem reference_copy (x e dy : Vec Ideal S8192x1024 .f32) (g : Vec Ideal S1x1024 .f32) : NormBwdRefIdeal.Read.val_main_v39 (F := Ideal) x e dy g = dRows x e dy g := by
  rw [← reference_rows]
  unfold NormBwdRefIdeal.Read.val_main_v39
  generalize NormBwdRefIdeal.Read.val_main_v38 (F := Ideal) x e dy g = w
  funext y
  obtain ⟨p, s, rfl⟩ := eq_ix2 (a := 8192) (b := 1024) y
  pointwise

theorem ref_cols (x dy : Vec Ideal S8192x1024 .f32) (s : Fin 1024) :
    NormBwdRefIdeal.Read.val_main_v18 (F := Ideal) x dy (ix1 s) = ∑ p : Fin 8192, nr (at_ x p) s * dy (ix2 p s) := by
  unfold nr
  simp only [← ref_ri x _ 0]
  unfold NormBwdRefIdeal.Read.val_main_v18 NormBwdRefIdeal.Read.val_main_v17 NormBwdRefIdeal.Read.val_main_v13 NormBwdRefIdeal.Read.val_main_v12
  generalize NormBwdRefIdeal.Read.val_main_v8 (F := Ideal) x = w
  pointwise [NormBwdRefIdeal.Read.val_main_cst_3]
  rfl

theorem reference_gain (x dy : Vec Ideal S8192x1024 .f32) : NormBwdRefIdeal.Read.val_main_v37 (F := Ideal) x dy = dGain x dy := by
  funext y
  obtain ⟨z, s, rfl⟩ := eq_ix2 (a := 1) (b := 1024) y
  refine Eq.trans ?_ (ref_cols x dy s)
  unfold NormBwdRefIdeal.Read.val_main_v37 NormBwdRefIdeal.Read.val_main_v22 NormBwdRefIdeal.Read.val_main_v19
  generalize NormBwdRefIdeal.Read.val_main_v18 (F := Ideal) x dy = w
  pointwise [NormBwdRefIdeal.Read.val_main_cst_4]
  exact Fin.sum_univ_one _

theorem frame_reference : quiescent_NormBwdRefIdeal (hNormBwdRefIdeal := NormBwdRefIdeal.Gen.facts) := fun m g _ =>
  (θ_run (NormBwdRefIdeal.defs (F := Ideal)) _ _).mono
    (fun r h => ⟨fun c => (h c).2.2.2, sem_eq_zero_of_no_sems (by decide) r.2⟩)
    (NormBwdRefIdeal.Value.run (F := Ideal) m g)

theorem algebraic : algebraic_NormBwdIdeal_NormBwdRefIdeal (hNormBwdIdeal := NormBwdIdeal.Gen.facts)
    (hNormBwdRefIdeal := NormBwdRefIdeal.Gen.facts) := by
  intro m g m' g' _ hagree
  refine ⟨fun c => dRows (rows m c) (res m c) (grd m c) (gn m c), fun c => dRows (rows m c) (res m c) (grd m c) (gn m c), fun c => dGain (rows m c) (grd m c), ?_, ?_⟩
  · exact (θ_run NormBwdIdeal.defs _ _).mono (fun r h c => ⟨(h c).1.trans (final4 m c), (h c).2.1.trans (final5 m c), (h c).2.2.1.trans (final6 m c), (h c).2.2.2⟩) (NormBwdIdeal.Value.run_blocks m g)
  · refine (θ_run NormBwdRefIdeal.defs _ _).mono (fun r h c => ⟨?_, ?_, ?_, (h c).2.2.2⟩) (NormBwdRefIdeal.Value.run (F := Ideal) m' g')
    · obtain ⟨e0, e1, e2, e3⟩ := hagree c
      refine (h c).1.trans ((NormBwdRefIdeal.Read.val_main_v38_eq _ _).trans ((reference_rows _ _ _ _).trans ?_))
      rw [e0, e1, e2, e3]
    · obtain ⟨e0, e1, e2, e3⟩ := hagree c
      refine (h c).2.1.trans ((NormBwdRefIdeal.Read.val_main_v39_eq _ _).trans ((reference_copy _ _ _ _).trans ?_))
      rw [e0, e1, e2, e3]
    · obtain ⟨e0, e1, e2, e3⟩ := hagree c
      refine (h c).2.2.1.trans ((NormBwdRefIdeal.Read.val_main_v37_eq _ _).trans ((reference_gain _ _).trans ?_))
      rw [e0, e2]

end Cert.NormBwdIdeal.Prod

end
-- ==== Proof.NormMixBwdClaims.lean ====
/-
  The gradient of the first norm, added to the stream's, and of its gain.
-/
module

public import proofs.«01_k».proof.Defs
public import proofs.«01_k».proof.Proof.Products
public import proofs.«01_k».proof.Proof.Rows
public import proofs.«01_k».proof.Proof.Gen.NormMixBwdIdeal.Value
public import proofs.«01_k».proof.Proof.Gen.NormMixBwdRefIdeal.Run
public import proofs.«01_k».proof.Proof.Gen.NormMixBwdRefIdeal.Read
public import Idealize.ShloMosaic.Adequacy

@[expose] public section

set_option maxRecDepth 16384

noncomputable section

namespace Cert.NormMixBwdIdeal.Prod

open Idealize.ShloMosaic Idealize.ShloMosaic.TcCoe Idealize.SL.Sem Cert.NormMixBwdIdeal Cert.NormMixBwdIdeal.Gen Cert.Products Cert.Rows
open scoped BigOperators

/-- The gradient of the gain. -/
def dGain (x dy : Vec Ideal S8192x1024 .f32) : Vec Ideal S1x1024 .f32 :=
  fun i => ∑ p : Fin 8192, nr (at_ x p) (i 1) * dy (ix2 p (i 1))

/-- The gradient of the rows, added to what came along the stream. -/
def dRows (x res dy : Vec Ideal S8192x1024 .f32) (g : Vec Ideal S1x1024 .f32) : Vec Ideal S8192x1024 .f32 :=
  fun i => res i + back (at_ x (i 0)) (gain g) (at_ dy (i 0)) (i 1)

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![0, 0] :=
  (by decide +kernel : ∀ t : Fin grid0.N, win0_3.index t = ![0, 0])
theorem at4 : ∀ t : Fin cfg0.N, win0_4.index t = ![t.val, 0] :=
  (by decide +kernel : ∀ t : Fin grid0.N, win0_4.index t = ![t.val, 0])
theorem at5 : ∀ t : Fin cfg0.N, win0_5.index t = ![0, 0] :=
  (by decide +kernel : ∀ t : Fin grid0.N, win0_5.index t = ![0, 0])

theorem lt_points (t : Fin cfg0.N) : t.val < 32 := lt_of_lt_of_eq t.isLt N_0

/-- The array's row of a point's row. -/
def row (t : Fin cfg0.N) (r : Fin 256) : Fin 8192 := ⟨t.val * 256 + r, by have := lt_points t; omega⟩

abbrev rows : Vec Ideal S8192x1024 .f32 := V m c main_arg0
abbrev res : Vec Ideal S8192x1024 .f32 := V m c main_arg1
abbrev grd : Vec Ideal S8192x1024 .f32 := V m c main_arg2
abbrev gn : Vec Ideal S1x1024 .f32 := V m c main_arg3

theorem iblk0_apply (t : Fin cfg0.N) (r : Fin 256) (k : Fin 1024) :
    (iblk m c 0 t : Vec Ideal S256x1024 .f32) (ix2 r k) = rows m c (ix2 (row t r) k) := by
  blk_simp [iblk]
  congr 1
  blk_ext [at0, row]

theorem iblk1_apply (t : Fin cfg0.N) (r : Fin 256) (k : Fin 1024) :
    (iblk m c 1 t : Vec Ideal S256x1024 .f32) (ix2 r k) = res m c (ix2 (row t r) k) := by
  blk_simp [iblk]
  congr 1
  blk_ext [at1, row]

theorem iblk2_apply (t : Fin cfg0.N) (r : Fin 256) (k : Fin 1024) :
    (iblk m c 2 t : Vec Ideal S256x1024 .f32) (ix2 r k) = grd m c (ix2 (row t r) k) := by
  blk_simp [iblk]
  congr 1
  blk_ext [at2, row]

theorem iblk3_apply (t : Fin cfg0.N) (r : Fin 1) (k : Fin 1024) :
    (iblk m c 3 t : Vec Ideal S1x1024 .f32) (ix2 r k) = gn m c (ix2 r k) := by
  blk_simp [iblk]
  congr 1
  blk_ext [at3]

theorem ms_apply (x : Vec Ideal S256x1024 .f32) (r : Fin 256) (z : Fin 1) : k0_pay3 x (ix2 r z) = ms (at_ x r) := by
  unfold k0_pay3
  pointwise
  rfl

theorem ri_apply (x : Vec Ideal S256x1024 .f32) (r : Fin 256) (z : Fin 1) : k0_pay4 x (ix2 r z) = ri (at_ x r) := by
  unfold k0_pay4 ri
  rw [← ms_apply x r z]
  generalize k0_pay3 x = w
  pointwise

theorem part_apply (x dy : Vec Ideal S256x1024 .f32) (z : Fin 1) (s : Fin 1024) :
    k0_pay5 x dy (ix2 z s) = ∑ r : Fin 256, nr (at_ x r) s * dy (ix2 r s) := by
  unfold nr
  simp only [← ri_apply x _ 0]
  unfold k0_pay5
  generalize k0_pay4 x = w
  pointwise
  rfl

theorem more_apply (v l : Vec Ideal S1x1024 .f32) (z : Fin 1) (s : Fin 1024) : k0_pay2 v l (ix2 z s) = l (ix2 z s) + v (ix2 z s) := by
  unfold k0_pay2
  simp only [shapeCast_self]
  pointwise

theorem rows_apply (x e dy : Vec Ideal S256x1024 .f32) (g : Vec Ideal S1x1024 .f32) (r : Fin 256) (s : Fin 1024) :
    k0_pay6 x e dy g (ix2 r s) = e (ix2 r s) + back (at_ x r) (gain g) (at_ dy r) s := by
  unfold back tl di
  rw [← ri_apply x r 0, ← ms_apply x r 0]
  unfold k0_pay6
  generalize k0_pay4 x = w
  generalize k0_pay3 x = w'
  pointwise
  simp only [Fin.sum_univ_one]
  rfl

theorem out4_apply (t : Fin cfg0.N) (r : Fin 256) (s : Fin 1024) :
    (outsAt0 m c t.val t.isLt).1 (ix2 r s) = dRows (rows m c) (res m c) (grd m c) (gn m c) (ix2 (row t r) s) := by
  have e : (outsAt0 m c t.val t.isLt).1 (ix2 r s) = @HAdd.hAdd EReal EReal EReal _ ((iblk m c 1 t : Vec Ideal S256x1024 .f32) (ix2 r s))
      ( back (at_ (iblk m c 0 t : Vec Ideal S256x1024 .f32) r) (gain (iblk m c 3 t : Vec Ideal S1x1024 .f32)) (at_ (iblk m c 2 t : Vec Ideal S256x1024 .f32) r) s) := by
    by_cases h0 : t.val % 32 = 0
    · rw [outsAt0_A m c t h0]
      dsimp only
      unfold out0_A_4
      rw [View.read_writes_eq_canon _ _ _ (fun y => cover0_A_4 (y := y) ..)]
      unfold kernelRun0_A
      dsimp only
      sl_unfold_words
      rw [View.canon_unit_zero zeros2]
      simp only [View.readAt_eq_ld, (hs0_0 t).read_unread, (hs0_1 t).read_unread, (hs0_2 t).read_unread, (hs0_3 t).read_unread, (hs0_5 t).read_unread, View.ld_unit_zero (S := S256x1024) zeros2, View.ld_unit_zero (S := S1x1024) zeros2]
      exact rows_apply _ _ _ _ r s
    · rw [outsAt0_B m c t h0]
      dsimp only
      unfold out0_B_4
      rw [View.read_writes_eq_canon _ _ _ (fun y => cover0_B_4 (y := y) ..)]
      unfold kernelRun0_B
      dsimp only
      sl_unfold_words
      rw [View.canon_unit_zero zeros2]
      simp only [View.readAt_eq_ld, (hs0_0 t).read_unread, (hs0_1 t).read_unread, (hs0_2 t).read_unread, (hs0_3 t).read_unread, (hs0_5 t).read_unread, View.ld_unit_zero (S := S256x1024) zeros2, View.ld_unit_zero (S := S1x1024) zeros2]
      exact rows_apply _ _ _ _ r s
  rw [e, iblk1_apply]
  have e0 : at_ (iblk m c 0 t : Vec Ideal S256x1024 .f32) r = at_ (rows m c) (row t r) := funext fun k => iblk0_apply m c t r k
  have e2 : at_ (iblk m c 2 t : Vec Ideal S256x1024 .f32) r = at_ (grd m c) (row t r) := funext fun k => iblk2_apply m c t r k
  have e3 : gain (iblk m c 3 t : Vec Ideal S1x1024 .f32) = gain (gn m c) := funext fun k => iblk3_apply m c t 0 k
  rw [e0, e2, e3]
  rfl

theorem final4 : (dats m 0 c).arrAt 4 cfg0.N = dRows (rows m c) (res m c) (grd m c) (gn m c) := by
  refine (dats m 0 c).arrAt_eq_of_covers 4 _ (by decide +kernel) fun t hf y => ?_
  blk_simp
  rw [after0_4]
  obtain ⟨r, s, rfl⟩ := eq_ix2 (a := 256) (b := 1024) y
  refine (out4_apply m c t r s).trans ?_
  congr 1
  blk_ext [at4, row]

/-- A block of rows' part of the gain's gradient. -/
def share (n : ℕ) (h : n < cfg0.N) (s : Fin 1024) : EReal :=
  ∑ r : Fin 256, nr (at_ (iblk m c 0 ⟨n, h⟩ : Vec Ideal S256x1024 .f32) r) s * (iblk m c 2 ⟨n, h⟩ : Vec Ideal S256x1024 .f32) (ix2 r s)

theorem first (t : Fin cfg0.N) (h : t.val % 32 = 0) (s : Fin 1024) :
    (outsAt0 m c t.val t.isLt).2 (ix2 0 s) = share m c t.val t.isLt s := by
  rw [outsAt0_A m c t h]
  dsimp only
  unfold out0_A_5
  rw [View.read_writes_eq_canon _ _ _ (fun y => cover0_A_5 (y := y) ..)]
  unfold kernelRun0_A
  dsimp only
  sl_unfold_words
  rw [View.canon_cons_unit_zero zeros2]
  simp only [View.readCov_unit_zero (S := S1x1024) _ zeros2, View.readAt_eq_ld, (hs0_0 t).read_unread, (hs0_1 t).read_unread, (hs0_2 t).read_unread, (hs0_3 t).read_unread, (hs0_5 t).read_unread, View.ld_unit_zero (S := S256x1024) zeros2, View.ld_unit_zero (S := S1x1024) zeros2]
  refine (more_apply _ _ 0 s).trans ?_
  refine Eq.trans (congrArg (· + _) ?_) (zero_add _) |>.trans ?_
  · unfold k0_pay1
    pointwise
  · exact part_apply _ _ 0 s

theorem next (t : Fin cfg0.N) (h : ¬t.val % 32 = 0) (s : Fin 1024) :
    (outsAt0 m c t.val t.isLt).2 (ix2 0 s)
      = (outsAt0 m c (t.val - 1) (Nat.lt_of_le_of_lt (Nat.sub_le _ _) t.isLt)).2 (ix2 0 s) + share m c t.val t.isLt s := by
  rw [outsAt0_B m c t h]
  dsimp only
  unfold out0_B_5
  rw [View.read_writes_eq_canon _ _ _ (fun y => cover0_B_5 (y := y) ..)]
  unfold kernelRun0_B
  dsimp only
  sl_unfold_words
  rw [View.canon_unit_zero zeros2]
  simp only [View.readAt_eq_ld, (hs0_0 t).read_unread, (hs0_1 t).read_unread, (hs0_2 t).read_unread, (hs0_3 t).read_unread, (hs0_5 t).read_unread, View.ld_unit_zero (S := S256x1024) zeros2, View.ld_unit_zero (S := S1x1024) zeros2]
  refine (more_apply _ _ 0 s).trans ?_
  exact congrArg (_ + ·) (part_apply _ _ 0 s)

/-- After block `i` the accumulator holds the parts of the blocks up to it. -/
theorem upto (s : Fin 1024) : ∀ (i : ℕ) (h : i < cfg0.N),
    (outsAt0 m c i h).2 (ix2 0 s) = ∑ j : Fin (i + 1), share m c j.val (by have := j.isLt; omega) s
  | 0, h => by
    rw [Fin.sum_univ_one]
    exact first m c ⟨0, h⟩ (by simp) s
  | i + 1, h => by
    rw [Fin.sum_univ_castSucc]
    refine (next m c ⟨i + 1, h⟩ (by have := lt_points ⟨i + 1, h⟩; dsimp only at this ⊢; omega) s).trans ?_
    exact congrArg (· + _) (upto s i (by omega))

theorem final5 : (dats m 0 c).arrAt 5 cfg0.N = dGain (rows m c) (grd m c) := by
  refine (dats m 0 c).arrAt_eq_of_covers 5 _ (by decide +kernel) fun t hf y => ?_
  have h : t.val = 31 := by have := (flush0_5 t).mp hf; have := lt_points t; omega
  blk_simp
  rw [after0_5]
  obtain ⟨r, s, rfl⟩ := eq_ix2 (a := 1) (b := 1024) y
  obtain rfl : r = 0 := Subsingleton.elim _ _
  have e : (win0_5.blk t).view.emb (ix2 0 s) = ix2 0 s := by
    blk_ext [at5]
  rw [e]
  obtain ⟨n, hn⟩ := t
  subst h
  refine (upto m c s 31 hn).trans ?_
  show _ = ∑ p : Fin 8192, nr (at_ (rows m c) p) s * grd m c (ix2 p s)
  rw [← blockSum (P := 32) (L := 256) (K := 8192) rfl]
  refine Finset.sum_congr rfl fun j _ => Finset.sum_congr rfl fun r _ => ?_
  have e0 : at_ (iblk m c 0 ⟨j.val, lt_of_lt_of_eq j.isLt N_0.symm⟩ : Vec Ideal S256x1024 .f32) r
      = at_ (rows m c) (row ⟨j.val, lt_of_lt_of_eq j.isLt N_0.symm⟩ r) := funext fun k => iblk0_apply m c _ r k
  rw [e0, iblk2_apply]
  rfl

theorem ref_ms (x : Vec Ideal S8192x1024 .f32) (p : Fin 8192) (z : Fin 1) : NormMixBwdRefIdeal.Read.val_main_v7 (F := Ideal) x (ix2 p z) = ms (at_ x p) := by
  unfold NormMixBwdRefIdeal.Read.val_main_v7 NormMixBwdRefIdeal.Read.val_main_v5 NormMixBwdRefIdeal.Read.val_main_v3 NormMixBwdRefIdeal.Read.val_main_v2 NormMixBwdRefIdeal.Read.val_main_v1
  pointwise [NormMixBwdRefIdeal.Read.val_main_v4, NormMixBwdRefIdeal.Read.val_main_v6, NormMixBwdRefIdeal.Read.val_main_cst, NormMixBwdRefIdeal.Read.val_main_cst_0, NormMixBwdRefIdeal.Read.val_main_cst_1]
  rfl

theorem ref_ri (x : Vec Ideal S8192x1024 .f32) (p : Fin 8192) (z : Fin 1) : NormMixBwdRefIdeal.Read.val_main_v8 (F := Ideal) x (ix2 p z) = ri (at_ x p) := by
  unfold ri
  rw [← ref_ms x p z]
  unfold NormMixBwdRefIdeal.Read.val_main_v8
  generalize NormMixBwdRefIdeal.Read.val_main_v7 (F := Ideal) x = w
  pointwise

theorem ref_slope (x dy : Vec Ideal S8192x1024 .f32) (g : Vec Ideal S1x1024 .f32) (p : Fin 8192) (s : Fin 1024) :
    NormMixBwdRefIdeal.Read.val_main_v21 (F := Ideal) dy g (ix2 p s) = at_ dy p s * gain g s := by
  unfold NormMixBwdRefIdeal.Read.val_main_v21 NormMixBwdRefIdeal.Read.val_main_v20 NormMixBwdRefIdeal.Read.val_main_v14 NormMixBwdRefIdeal.Read.val_main_v0
  pointwise
  rfl

theorem ref_tl (x dy : Vec Ideal S8192x1024 .f32) (g : Vec Ideal S1x1024 .f32) (p : Fin 8192) (s : Fin 1024) :
    NormMixBwdRefIdeal.Read.val_main_v32 (F := Ideal) x dy g (ix2 p s) = tl (at_ x p) (gain g) (at_ dy p) := by
  unfold tl di
  simp only [← ref_slope x dy g p]
  rw [← ref_ri x p 0, ← ref_ms x p 0]
  unfold NormMixBwdRefIdeal.Read.val_main_v32 NormMixBwdRefIdeal.Read.val_main_v31 NormMixBwdRefIdeal.Read.val_main_v30 NormMixBwdRefIdeal.Read.val_main_v28 NormMixBwdRefIdeal.Read.val_main_v25 NormMixBwdRefIdeal.Read.val_main_v24 NormMixBwdRefIdeal.Read.val_main_v23 NormMixBwdRefIdeal.Read.val_main_v11 NormMixBwdRefIdeal.Read.val_main_v9
  generalize NormMixBwdRefIdeal.Read.val_main_v8 (F := Ideal) x = w
  generalize NormMixBwdRefIdeal.Read.val_main_v7 (F := Ideal) x = w'
  generalize NormMixBwdRefIdeal.Read.val_main_v21 (F := Ideal) dy g = w''
  pointwise [NormMixBwdRefIdeal.Read.val_main_v29, NormMixBwdRefIdeal.Read.val_main_v10, NormMixBwdRefIdeal.Read.val_main_cst_2, NormMixBwdRefIdeal.Read.val_main_cst_5, NormMixBwdRefIdeal.Read.val_main_cst_6, NormMixBwdRefIdeal.Read.val_main_cst_7]
  exact Fin.sum_univ_one _

theorem reference_rows (x e dy : Vec Ideal S8192x1024 .f32) (g : Vec Ideal S1x1024 .f32) : NormMixBwdRefIdeal.Read.val_main_v38 (F := Ideal) x e dy g = dRows x e dy g := by
  funext y
  obtain ⟨p, s, rfl⟩ := eq_ix2 (a := 8192) (b := 1024) y
  show _ = e (ix2 p s) + back (at_ x p) (gain g) (at_ dy p) s
  unfold back
  rw [← ref_slope x dy g p, ← ref_ri x p 0, ← ref_tl x dy g p s]
  unfold NormMixBwdRefIdeal.Read.val_main_v38 NormMixBwdRefIdeal.Read.val_main_v36 NormMixBwdRefIdeal.Read.val_main_v35 NormMixBwdRefIdeal.Read.val_main_v34 NormMixBwdRefIdeal.Read.val_main_v33 NormMixBwdRefIdeal.Read.val_main_v27 NormMixBwdRefIdeal.Read.val_main_v26
  generalize NormMixBwdRefIdeal.Read.val_main_v8 (F := Ideal) x = w
  generalize NormMixBwdRefIdeal.Read.val_main_v32 (F := Ideal) x dy g = w'
  generalize NormMixBwdRefIdeal.Read.val_main_v21 (F := Ideal) dy g = w''
  pointwise
  rfl

theorem ref_cols (x dy : Vec Ideal S8192x1024 .f32) (s : Fin 1024) :
    NormMixBwdRefIdeal.Read.val_main_v18 (F := Ideal) x dy (ix1 s) = ∑ p : Fin 8192, nr (at_ x p) s * dy (ix2 p s) := by
  unfold nr
  simp only [← ref_ri x _ 0]
  unfold NormMixBwdRefIdeal.Read.val_main_v18 NormMixBwdRefIdeal.Read.val_main_v17 NormMixBwdRefIdeal.Read.val_main_v13 NormMixBwdRefIdeal.Read.val_main_v12
  generalize NormMixBwdRefIdeal.Read.val_main_v8 (F := Ideal) x = w
  pointwise [NormMixBwdRefIdeal.Read.val_main_cst_3]
  rfl

theorem reference_gain (x dy : Vec Ideal S8192x1024 .f32) : NormMixBwdRefIdeal.Read.val_main_v37 (F := Ideal) x dy = dGain x dy := by
  funext y
  obtain ⟨z, s, rfl⟩ := eq_ix2 (a := 1) (b := 1024) y
  refine Eq.trans ?_ (ref_cols x dy s)
  unfold NormMixBwdRefIdeal.Read.val_main_v37 NormMixBwdRefIdeal.Read.val_main_v22 NormMixBwdRefIdeal.Read.val_main_v19
  generalize NormMixBwdRefIdeal.Read.val_main_v18 (F := Ideal) x dy = w
  pointwise [NormMixBwdRefIdeal.Read.val_main_cst_4]
  exact Fin.sum_univ_one _

theorem frame_reference : quiescent_NormMixBwdRefIdeal (hNormMixBwdRefIdeal := NormMixBwdRefIdeal.Gen.facts) := fun m g _ =>
  (θ_run (NormMixBwdRefIdeal.defs (F := Ideal)) _ _).mono
    (fun r h => ⟨fun c => (h c).2.2, sem_eq_zero_of_no_sems (by decide) r.2⟩)
    (NormMixBwdRefIdeal.Value.run (F := Ideal) m g)

theorem algebraic : algebraic_NormMixBwdIdeal_NormMixBwdRefIdeal (hNormMixBwdIdeal := NormMixBwdIdeal.Gen.facts)
    (hNormMixBwdRefIdeal := NormMixBwdRefIdeal.Gen.facts) := by
  intro m g m' g' _ hagree
  refine ⟨fun c => dRows (rows m c) (res m c) (grd m c) (gn m c), fun c => dGain (rows m c) (grd m c), ?_, ?_⟩
  · exact (θ_run NormMixBwdIdeal.defs _ _).mono (fun r h c => ⟨(h c).1.trans (final4 m c), (h c).2.1.trans (final5 m c), (h c).2.2⟩) (NormMixBwdIdeal.Value.run_blocks m g)
  · refine (θ_run NormMixBwdRefIdeal.defs _ _).mono (fun r h c => ⟨?_, ?_, (h c).2.2⟩) (NormMixBwdRefIdeal.Value.run (F := Ideal) m' g')
    · obtain ⟨e0, e1, e2, e3⟩ := hagree c
      refine (h c).1.trans ((NormMixBwdRefIdeal.Read.val_main_v38_eq _ _).trans ((reference_rows _ _ _ _).trans ?_))
      rw [e0, e1, e2, e3]
    · obtain ⟨e0, e1, e2, e3⟩ := hagree c
      refine (h c).2.1.trans ((NormMixBwdRefIdeal.Read.val_main_v37_eq _ _).trans ((reference_gain _ _).trans ?_))
      rw [e0, e2]

end Cert.NormMixBwdIdeal.Prod

end
-- ==== Proof.NormMemBwdClaims.lean ====
/-
  The gradient of the memory norm's gain.
-/
module

public import proofs.«01_k».proof.Defs
public import proofs.«01_k».proof.Proof.Products
public import proofs.«01_k».proof.Proof.Rows
public import proofs.«01_k».proof.Proof.Gen.NormMemBwdIdeal.Value
public import proofs.«01_k».proof.Proof.Gen.NormMemBwdRefIdeal.Run
public import proofs.«01_k».proof.Proof.Gen.NormMemBwdRefIdeal.Read
public import Idealize.ShloMosaic.Adequacy

@[expose] public section

set_option maxRecDepth 16384

noncomputable section

namespace Cert.NormMemBwdIdeal.Prod

open Idealize.ShloMosaic Idealize.ShloMosaic.TcCoe Idealize.SL.Sem Cert.NormMemBwdIdeal Cert.NormMemBwdIdeal.Gen Cert.Products Cert.Rows
open scoped BigOperators

/-- The gradient of the gain. -/
def dGain (x dy : Vec Ideal S1024x1024 .f32) : Vec Ideal S1x1024 .f32 :=
  fun i => ∑ p : Fin 1024, nr (at_ x p) (i 1) * dy (ix2 p (i 1))

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![0, 0] :=
  (by decide +kernel : ∀ t : Fin grid0.N, win0_2.index t = ![0, 0])
theorem at3 : ∀ t : Fin cfg0.N, win0_3.index t = ![0, 0] :=
  (by decide +kernel : ∀ t : Fin grid0.N, win0_3.index t = ![0, 0])

theorem lt_points (t : Fin cfg0.N) : t.val < 4 := lt_of_lt_of_eq t.isLt N_0

/-- The array's row of a point's row. -/
def row (t : Fin cfg0.N) (r : Fin 256) : Fin 1024 := ⟨t.val * 256 + r, by have := lt_points t; omega⟩

abbrev rows : Vec Ideal S1024x1024 .f32 := V m c main_arg0
abbrev grd : Vec Ideal S1024x1024 .f32 := V m c main_arg1
abbrev gn : Vec Ideal S1x1024 .f32 := V m c main_arg2

theorem iblk0_apply (t : Fin cfg0.N) (r : Fin 256) (k : Fin 1024) :
    (iblk m c 0 t : Vec Ideal S256x1024 .f32) (ix2 r k) = rows m c (ix2 (row t r) k) := by
  blk_simp [iblk]
  congr 1
  blk_ext [at0, row]

theorem iblk1_apply (t : Fin cfg0.N) (r : Fin 256) (k : Fin 1024) :
    (iblk m c 1 t : Vec Ideal S256x1024 .f32) (ix2 r k) = grd m c (ix2 (row t r) k) := by
  blk_simp [iblk]
  congr 1
  blk_ext [at1, row]

theorem iblk2_apply (t : Fin cfg0.N) (r : Fin 1) (k : Fin 1024) :
    (iblk m c 2 t : Vec Ideal S1x1024 .f32) (ix2 r k) = gn m c (ix2 r k) := by
  blk_simp [iblk]
  congr 1
  blk_ext [at2]

theorem more_apply (x dy : Vec Ideal S256x1024 .f32) (l : Vec Ideal S1x1024 .f32) (z : Fin 1) (s : Fin 1024) :
    k0_pay2 x dy l (ix2 z s) = l (ix2 z s) + ∑ r : Fin 256, nr (at_ x r) s * dy (ix2 r s) := by
  unfold k0_pay2
  simp only [shapeCast_self]
  pointwise
  rfl

/-- A block of rows' part of the gain's gradient. -/
def share (n : ℕ) (h : n < cfg0.N) (s : Fin 1024) : EReal :=
  ∑ r : Fin 256, nr (at_ (iblk m c 0 ⟨n, h⟩ : Vec Ideal S256x1024 .f32) r) s * (iblk m c 1 ⟨n, h⟩ : Vec Ideal S256x1024 .f32) (ix2 r s)

theorem first (t : Fin cfg0.N) (h : t.val % 4 = 0) (s : Fin 1024) :
    (outsAt0 m c t.val t.isLt) (ix2 0 s) = share m c t.val t.isLt s := by
  rw [outsAt0_A m c t h]
  unfold out0_A_3
  rw [View.read_writes_eq_canon _ _ _ (fun y => cover0_A_3 (y := y) ..)]
  unfold kernelRun0_A
  dsimp only
  sl_unfold_words
  rw [View.canon_cons_unit_zero zeros2]
  simp only [View.readCov_unit_zero (S := S1x1024) _ zeros2, View.readAt_eq_ld, (hs0_0 t).read_unread, (hs0_1 t).read_unread, (hs0_2 t).read_unread, (hs0_3 t).read_unread, View.ld_unit_zero (S := S256x1024) zeros2, View.ld_unit_zero (S := S1x1024) zeros2]
  refine (more_apply _ _ _ 0 s).trans ?_
  refine Eq.trans (congrArg (· + _) ?_) (zero_add _) |>.trans ?_
  · unfold k0_pay1
    pointwise
  · rfl

theorem next (t : Fin cfg0.N) (h : ¬t.val % 4 = 0) (s : Fin 1024) :
    (outsAt0 m c t.val t.isLt) (ix2 0 s)
      = (outsAt0 m c (t.val - 1) (Nat.lt_of_le_of_lt (Nat.sub_le _ _) t.isLt)) (ix2 0 s) + share m c t.val t.isLt s := by
  rw [outsAt0_B m c t h]
  unfold out0_B_3
  rw [View.read_writes_eq_canon _ _ _ (fun y => cover0_B_3 (y := y) ..)]
  unfold kernelRun0_B
  dsimp only
  sl_unfold_words
  rw [View.canon_unit_zero zeros2]
  simp only [View.readAt_eq_ld, (hs0_0 t).read_unread, (hs0_1 t).read_unread, (hs0_2 t).read_unread, (hs0_3 t).read_unread, View.ld_unit_zero (S := S256x1024) zeros2, View.ld_unit_zero (S := S1x1024) zeros2]
  refine (more_apply _ _ _ 0 s).trans ?_
  rfl

/-- After block `i` the accumulator holds the parts of the blocks up to it. -/
theorem upto (s : Fin 1024) : ∀ (i : ℕ) (h : i < cfg0.N),
    (outsAt0 m c i h) (ix2 0 s) = ∑ j : Fin (i + 1), share m c j.val (by have := j.isLt; omega) s
  | 0, h => by
    rw [Fin.sum_univ_one]
    exact first m c ⟨0, h⟩ (by simp) s
  | i + 1, h => by
    rw [Fin.sum_univ_castSucc]
    refine (next m c ⟨i + 1, h⟩ (by have := lt_points ⟨i + 1, h⟩; dsimp only at this ⊢; omega) s).trans ?_
    exact congrArg (· + _) (upto s i (by omega))

theorem final3 : (dats m 0 c).arrAt 3 cfg0.N = dGain (rows m c) (grd m c) := by
  refine (dats m 0 c).arrAt_eq_of_covers 3 _ (by decide +kernel) fun t hf y => ?_
  have h : t.val = 3 := by have := (flush0_3 t).mp hf; have := lt_points t; omega
  blk_simp
  rw [after0_3]
  obtain ⟨r, s, rfl⟩ := eq_ix2 (a := 1) (b := 1024) y
  obtain rfl : r = 0 := Subsingleton.elim _ _
  have e : (win0_3.blk t).view.emb (ix2 0 s) = ix2 0 s := by
    blk_ext [at3]
  rw [e]
  obtain ⟨n, hn⟩ := t
  subst h
  refine (upto m c s 3 hn).trans ?_
  show _ = ∑ p : Fin 1024, nr (at_ (rows m c) p) s * grd m c (ix2 p s)
  rw [← blockSum (P := 4) (L := 256) (K := 1024) rfl]
  refine Finset.sum_congr rfl fun j _ => Finset.sum_congr rfl fun r _ => ?_
  have e0 : at_ (iblk m c 0 ⟨j.val, lt_of_lt_of_eq j.isLt N_0.symm⟩ : Vec Ideal S256x1024 .f32) r
      = at_ (rows m c) (row ⟨j.val, lt_of_lt_of_eq j.isLt N_0.symm⟩ r) := funext fun k => iblk0_apply m c _ r k
  rw [e0, iblk1_apply]
  rfl

theorem ref_cols (x dy : Vec Ideal S1024x1024 .f32) (s : Fin 1024) :
    NormMemBwdRefIdeal.Read.val_main_v15 (F := Ideal) x dy (ix1 s) = ∑ p : Fin 1024, nr (at_ x p) s * dy (ix2 p s) := by
  unfold NormMemBwdRefIdeal.Read.val_main_v15 NormMemBwdRefIdeal.Read.val_main_v14 NormMemBwdRefIdeal.Read.val_main_v10 NormMemBwdRefIdeal.Read.val_main_v9 NormMemBwdRefIdeal.Read.val_main_v8 NormMemBwdRefIdeal.Read.val_main_v7 NormMemBwdRefIdeal.Read.val_main_v5 NormMemBwdRefIdeal.Read.val_main_v3 NormMemBwdRefIdeal.Read.val_main_v2 NormMemBwdRefIdeal.Read.val_main_v1
  pointwise [NormMemBwdRefIdeal.Read.val_main_v4, NormMemBwdRefIdeal.Read.val_main_v6, NormMemBwdRefIdeal.Read.val_main_cst, NormMemBwdRefIdeal.Read.val_main_cst_0, NormMemBwdRefIdeal.Read.val_main_cst_1, NormMemBwdRefIdeal.Read.val_main_cst_2]
  rfl

theorem reference_gain (x dy : Vec Ideal S1024x1024 .f32) : NormMemBwdRefIdeal.Read.val_main_v18 (F := Ideal) x dy = dGain x dy := by
  funext y
  obtain ⟨z, s, rfl⟩ := eq_ix2 (a := 1) (b := 1024) y
  refine Eq.trans ?_ (ref_cols x dy s)
  unfold NormMemBwdRefIdeal.Read.val_main_v18 NormMemBwdRefIdeal.Read.val_main_v17 NormMemBwdRefIdeal.Read.val_main_v16
  generalize NormMemBwdRefIdeal.Read.val_main_v15 (F := Ideal) x dy = w
  pointwise [NormMemBwdRefIdeal.Read.val_main_cst_3]
  exact Fin.sum_univ_one _

theorem frame_reference : quiescent_NormMemBwdRefIdeal (hNormMemBwdRefIdeal := NormMemBwdRefIdeal.Gen.facts) := fun m g _ =>
  (θ_run (NormMemBwdRefIdeal.defs (F := Ideal)) _ _).mono
    (fun r h => ⟨fun c => (h c).2, sem_eq_zero_of_no_sems (by decide) r.2⟩)
    (NormMemBwdRefIdeal.Value.run (F := Ideal) m g)

theorem algebraic : algebraic_NormMemBwdIdeal_NormMemBwdRefIdeal (hNormMemBwdIdeal := NormMemBwdIdeal.Gen.facts)
    (hNormMemBwdRefIdeal := NormMemBwdRefIdeal.Gen.facts) := by
  intro m g m' g' _ hagree
  refine ⟨fun c => dGain (rows m c) (grd m c), ?_, ?_⟩
  · exact (θ_run NormMemBwdIdeal.defs _ _).mono (fun r h c => ⟨(h c).1.trans (final3 m c), (h c).2⟩) (NormMemBwdIdeal.Value.run_blocks m g)
  · refine (θ_run NormMemBwdRefIdeal.defs _ _).mono (fun r h c => ⟨?_, (h c).2⟩) (NormMemBwdRefIdeal.Value.run (F := Ideal) m' g')
    · obtain ⟨e0, e1, e2⟩ := hagree c
      refine (h c).1.trans ((NormMemBwdRefIdeal.Read.val_main_v18_eq _ _).trans ((reference_gain _ _).trans ?_))
      rw [e0, e1]

end Cert.NormMemBwdIdeal.Prod

end
-- ==== Proof.Gates.lean ====
/-
  The gate of a number over extended reals, and the two halves of a row of 2048.
-/
module

public import Idealize.ShloMosaic.Lib.Pointwise
public import Idealize.ShloMosaic.Lib.IdealHost

@[expose] public section

noncomputable section

namespace Cert.Gates

open Idealize.ShloMosaic

/-- The gate of a number: one over one and the exponential of its negative. -/
def gate (x : EReal) : EReal := Ideal.div 1 (1 + Ideal.exp (-x))

/-- The place of a column in the left half. -/
def left (s : Fin 1024) : Fin 2048 := ⟨s, by omega⟩
/-- The place of a column in the right half. -/
def right (s : Fin 1024) : Fin 2048 := ⟨1024 + s, by omega⟩

theorem gate_eq (x : EReal) : Ideal.logistic x = gate x := rfl

end Cert.Gates

end
-- ==== Proof.MergeBwdClaims.lean ====
/-
  The gradient of the two branches and of their gates.
-/
module

public import proofs.«01_k».proof.Defs
public import proofs.«01_k».proof.Proof.Products
public import proofs.«01_k».proof.Proof.Gates
public import proofs.«01_k».proof.Proof.Gen.MergeBwdIdeal.Value
public import proofs.«01_k».proof.Proof.Gen.MergeBwdRefIdeal.Run
public import proofs.«01_k».proof.Proof.Gen.MergeBwdRefIdeal.Read
public import Idealize.ShloMosaic.Adequacy

@[expose] public section

set_option maxRecDepth 16384

noncomputable section

namespace Cert.MergeBwdIdeal.Prod

open Idealize.ShloMosaic Idealize.ShloMosaic.TcCoe Idealize.SL.Sem Cert.MergeBwdIdeal Cert.MergeBwdIdeal.Gen Cert.Products Cert.Gates
open scoped BigOperators

/-- The gradient of the first branch. -/
def dOne (g : Vec Ideal S8192x2048 .f32) (d : Vec Ideal S8192x1024 .f32) : Vec Ideal S8192x1024 .bf16 :=
  fun i => gate (g (ix2 (i 0) (left (i 1)))) * d i
/-- The gradient of the second branch. -/
def dTwo (g : Vec Ideal S8192x2048 .f32) (d : Vec Ideal S8192x1024 .f32) : Vec Ideal S8192x1024 .bf16 :=
  fun i => gate (g (ix2 (i 0) (right (i 1)))) * d i
/-- The gradient of a gate's number `x`, of the branch's number `a` and its gradient `d`. -/
def dSlope (x a d : EReal) : EReal := d * a * (gate x * (1 - gate x))
/-- The gradient of the gates: the left half is of the first branch, the right half of the second. -/
def dGate (a b : Vec Ideal S8192x1024 .f32) (g : Vec Ideal S8192x2048 .f32) (d : Vec Ideal S8192x1024 .f32) :
    Vec Ideal S8192x2048 .bf16 :=
  fun i => if h : (i 1).val < 1024 then dSlope (g i) (a (ix2 (i 0) ⟨(i 1).val, h⟩)) (d (ix2 (i 0) ⟨(i 1).val, h⟩))
    else dSlope (g i) (b (ix2 (i 0) ⟨(i 1).val - 1024, by have := (i 1).isLt; have e : S8192x2048.size 1 = 2048 := rfl; omega⟩))
      (d (ix2 (i 0) ⟨(i 1).val - 1024, by have := (i 1).isLt; have e : S8192x2048.size 1 = 2048 := rfl; omega⟩))

/-- A column of the 2048 lies in the left half or in the right half. -/
theorem halves (q : Fin 2048) : (∃ s : Fin 1024, q = left s) ∨ ∃ s : Fin 1024, q = right s := by
  by_cases h : q.val < 1024
  · exact .inl ⟨⟨q.val, h⟩, rfl⟩
  · exact .inr ⟨⟨q.val - 1024, by omega⟩, Fin.ext (by simp only [right]; omega)⟩

theorem dGate_left (a b : Vec Ideal S8192x1024 .f32) (g : Vec Ideal S8192x2048 .f32) (d : Vec Ideal S8192x1024 .f32)
    (p : Fin 8192) (s : Fin 1024) :
    dGate a b g d (ix2 p (left s)) = dSlope (g (ix2 p (left s))) (a (ix2 p s)) (d (ix2 p s)) := by
  unfold dGate
  exact dif_pos s.isLt

theorem dGate_right (a b : Vec Ideal S8192x1024 .f32) (g : Vec Ideal S8192x2048 .f32) (d : Vec Ideal S8192x1024 .f32)
    (p : Fin 8192) (s : Fin 1024) :
    dGate a b g d (ix2 p (right s)) = dSlope (g (ix2 p (right s))) (b (ix2 p s)) (d (ix2 p s)) := by
  unfold dGate
  refine (dif_neg (by show ¬(1024 + s.val < 1024); omega)).trans ?_
  have e : (⟨1024 + s.val - 1024, by omega⟩ : Fin 1024) = s := Fin.ext (by simp)
  show dSlope _ (b (ix2 p ⟨1024 + s.val - 1024, _⟩)) (d (ix2 p ⟨1024 + s.val - 1024, _⟩)) = _
  rw [e]

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])
theorem at4 : ∀ t : Fin cfg0.N, win0_4.index t = ![t.val, 0] :=
  (by decide +kernel : ∀ t : Fin grid0.N, win0_4.index t = ![t.val, 0])
theorem at5 : ∀ t : Fin cfg0.N, win0_5.index t = ![t.val, 0] :=
  (by decide +kernel : ∀ t : Fin grid0.N, win0_5.index t = ![t.val, 0])
theorem at6 : ∀ t : Fin cfg0.N, win0_6.index t = ![t.val, 0] :=
  (by decide +kernel : ∀ t : Fin grid0.N, win0_6.index t = ![t.val, 0])
theorem lt_points (t : Fin cfg0.N) : t.val < 32 := lt_of_lt_of_eq t.isLt N_0

/-- The array's row of a point's row. -/
def row (t : Fin cfg0.N) (r : Fin 256) : Fin 8192 := ⟨t.val * 256 + r, by have := lt_points t; omega⟩

abbrev one : Vec Ideal S8192x1024 .f32 := V m c main_arg0
abbrev two : Vec Ideal S8192x1024 .f32 := V m c main_arg1
abbrev gts : Vec Ideal S8192x2048 .f32 := V m c main_arg2
abbrev out : Vec Ideal S8192x1024 .f32 := V m c main_arg3

theorem iblk0_apply (t : Fin cfg0.N) (r : Fin 256) (k : Fin 1024) :
    (iblk m c 0 t : Vec Ideal S256x1024 .f32) (ix2 r k) = one m c (ix2 (row t r) k) := by
  blk_simp [iblk]
  congr 1
  blk_ext [at0, row]

theorem iblk1_apply (t : Fin cfg0.N) (r : Fin 256) (k : Fin 1024) :
    (iblk m c 1 t : Vec Ideal S256x1024 .f32) (ix2 r k) = two m c (ix2 (row t r) k) := by
  blk_simp [iblk]
  congr 1
  blk_ext [at1, row]

theorem iblk2_apply (t : Fin cfg0.N) (r : Fin 256) (k : Fin 2048) :
    (iblk m c 2 t : Vec Ideal S256x2048 .f32) (ix2 r k) = gts m c (ix2 (row t r) k) := by
  blk_simp [iblk]
  congr 1
  blk_ext [at2, row]

theorem iblk3_apply (t : Fin cfg0.N) (r : Fin 256) (k : Fin 1024) :
    (iblk m c 3 t : Vec Ideal S256x1024 .f32) (ix2 r k) = out m c (ix2 (row t r) k) := by
  blk_simp [iblk]
  congr 1
  blk_ext [at3, row]

theorem gate1_apply (g : Vec Ideal S256x2048 .f32) (r : Fin 256) (s : Fin 1024) :
    k0_pay1 g (ix2 r s) = gate (g (ix2 r (left s))) := by
  unfold k0_pay1
  pointwise [gate_eq, left]

theorem gate2_apply (g : Vec Ideal S256x2048 .f32) (r : Fin 256) (s : Fin 1024) :
    k0_pay2 g (ix2 r s) = gate (g (ix2 r (right s))) := by
  unfold k0_pay2
  pointwise [gate_eq, right]

theorem same3 (d : Vec Ideal S256x1024 .f32) : k0_pay3 d = d := by unfold k0_pay3; simp only [shapeCast_self]
theorem same4 (d : Vec Ideal S256x1024 .f32) : k0_pay4 d = d := by unfold k0_pay4; simp only [shapeCast_self]

theorem pay5_apply (g : Vec Ideal S256x2048 .f32) (d : Vec Ideal S256x1024 .f32) (r : Fin 256) (s : Fin 1024) :
    k0_pay5 g d (ix2 r s) = gate (g (ix2 r (left s))) * d (ix2 r s) := by
  rw [← gate1_apply]
  unfold k0_pay5
  rw [same3]
  generalize k0_pay1 g = w
  pointwise

theorem pay6_apply (g : Vec Ideal S256x2048 .f32) (d : Vec Ideal S256x1024 .f32) (r : Fin 256) (s : Fin 1024) :
    k0_pay6 g d (ix2 r s) = gate (g (ix2 r (right s))) * d (ix2 r s) := by
  rw [← gate2_apply]
  unfold k0_pay6
  rw [same4]
  generalize k0_pay2 g = w
  pointwise

theorem pay7_left (a b : Vec Ideal S256x1024 .f32) (g : Vec Ideal S256x2048 .f32) (d : Vec Ideal S256x1024 .f32)
    (r : Fin 256) (s : Fin 1024) :
    k0_pay7 a b g d (ix2 r (left s)) = dSlope (g (ix2 r (left s))) (a (ix2 r s)) (d (ix2 r s)) := by
  unfold dSlope
  rw [← gate1_apply]
  unfold k0_pay7
  rw [same3, same4]
  generalize k0_pay1 g = w
  generalize k0_pay2 g = w'
  pointwise [left]

theorem pay7_right (a b : Vec Ideal S256x1024 .f32) (g : Vec Ideal S256x2048 .f32) (d : Vec Ideal S256x1024 .f32)
    (r : Fin 256) (s : Fin 1024) :
    k0_pay7 a b g d (ix2 r (right s)) = dSlope (g (ix2 r (right s))) (b (ix2 r s)) (d (ix2 r s)) := by
  unfold dSlope
  rw [← gate2_apply]
  unfold k0_pay7
  rw [same3, same4]
  generalize k0_pay1 g = w
  generalize k0_pay2 g = w'
  pointwise [right]

theorem out4_apply (t : Fin cfg0.N) (r : Fin 256) (s : Fin 1024) :
    out0_4 (iblk m c 0 t) (iblk m c 1 t) (iblk m c 2 t) (iblk m c 3 t) (ix2 r s) = dOne (gts m c) (out m c) (ix2 (row t r) s) := by
  unfold out0_4
  rw [View.canon_unit_zero zeros2, View.ld_unit_zero zeros2, View.ld_unit_zero zeros2]
  refine (pay5_apply _ _ r s).trans ?_
  rw [iblk2_apply, iblk3_apply]
  rfl

theorem final4 : (dats m 0 c).arrAt 4 cfg0.N = dOne (gts m c) (out m c) := by
  refine (dats m 0 c).arrAt_eq_of_covers 4 _ (by decide +kernel) fun t hf y => ?_
  blk_simp
  rw [after0_4]
  obtain ⟨r, s, rfl⟩ := eq_ix2 (a := 256) (b := 1024) y
  refine (out4_apply m c t r s).trans ?_
  congr 1
  blk_ext [at4, row]

theorem out5_apply (t : Fin cfg0.N) (r : Fin 256) (s : Fin 1024) :
    out0_5 (iblk m c 0 t) (iblk m c 1 t) (iblk m c 2 t) (iblk m c 3 t) (ix2 r s) = dTwo (gts m c) (out m c) (ix2 (row t r) s) := by
  unfold out0_5
  rw [View.canon_unit_zero zeros2, View.ld_unit_zero zeros2, View.ld_unit_zero zeros2]
  refine (pay6_apply _ _ r s).trans ?_
  rw [iblk2_apply, iblk3_apply]
  rfl

theorem final5 : (dats m 0 c).arrAt 5 cfg0.N = dTwo (gts m c) (out m c) := by
  refine (dats m 0 c).arrAt_eq_of_covers 5 _ (by decide +kernel) fun t hf y => ?_
  blk_simp
  rw [after0_5]
  obtain ⟨r, s, rfl⟩ := eq_ix2 (a := 256) (b := 1024) y
  refine (out5_apply m c t r s).trans ?_
  congr 1
  blk_ext [at5, row]

theorem out6_apply (t : Fin cfg0.N) (r : Fin 256) (q : Fin 2048) :
    out0_6 (iblk m c 0 t) (iblk m c 1 t) (iblk m c 2 t) (iblk m c 3 t) (ix2 r q) = dGate (one m c) (two m c) (gts m c) (out m c) (ix2 (row t r) q) := by
  unfold out0_6
  rw [View.canon_unit_zero zeros2, View.ld_unit_zero zeros2, View.ld_unit_zero zeros2, View.ld_unit_zero zeros2, View.ld_unit_zero zeros2]
  rcases halves q with ⟨s, rfl⟩ | ⟨s, rfl⟩
  · refine (pay7_left _ _ _ _ r s).trans ?_
    rw [iblk0_apply, iblk2_apply, iblk3_apply]
    exact (dGate_left _ _ _ _ _ s).symm
  · refine (pay7_right _ _ _ _ r s).trans ?_
    rw [iblk1_apply, iblk2_apply, iblk3_apply]
    exact (dGate_right _ _ _ _ _ s).symm

theorem final6 : (dats m 0 c).arrAt 6 cfg0.N = dGate (one m c) (two m c) (gts m c) (out m c) := by
  refine (dats m 0 c).arrAt_eq_of_covers 6 _ (by decide +kernel) fun t hf y => ?_
  blk_simp
  rw [after0_6]
  obtain ⟨r, s, rfl⟩ := eq_ix2 (a := 256) (b := 2048) y
  refine (out6_apply m c t r s).trans ?_
  congr 1
  blk_ext [at6, row]

theorem reference_gate1 (g : Vec Ideal S8192x2048 .f32) (p : Fin 8192) (s : Fin 1024) :
    MergeBwdRefIdeal.Read.val_main_v7 (F := Ideal) g (ix2 p s) = gate (g (ix2 p (left s))) := by
  unfold MergeBwdRefIdeal.Read.val_main_v7 MergeBwdRefIdeal.Read.val_main_v5 MergeBwdRefIdeal.Read.val_main_v3 MergeBwdRefIdeal.Read.val_main_v2 MergeBwdRefIdeal.Read.val_main_v0
  pointwise [MergeBwdRefIdeal.Read.val_main_v4, MergeBwdRefIdeal.Read.val_main_v6, MergeBwdRefIdeal.Read.val_main_cst, MergeBwdRefIdeal.Read.val_main_cst_0]
  rfl

theorem reference_gate2 (g : Vec Ideal S8192x2048 .f32) (p : Fin 8192) (s : Fin 1024) :
    MergeBwdRefIdeal.Read.val_main_v17 (F := Ideal) g (ix2 p s) = gate (g (ix2 p (right s))) := by
  unfold MergeBwdRefIdeal.Read.val_main_v17 MergeBwdRefIdeal.Read.val_main_v15 MergeBwdRefIdeal.Read.val_main_v13 MergeBwdRefIdeal.Read.val_main_v12 MergeBwdRefIdeal.Read.val_main_v1
  pointwise [MergeBwdRefIdeal.Read.val_main_v14, MergeBwdRefIdeal.Read.val_main_v16, MergeBwdRefIdeal.Read.val_main_cst_2, MergeBwdRefIdeal.Read.val_main_cst_3]
  rfl

theorem reference_one (a b : Vec Ideal S8192x1024 .f32) (g : Vec Ideal S8192x2048 .f32) (d : Vec Ideal S8192x1024 .f32) : MergeBwdRefIdeal.Read.val_main_v32 (F := Ideal) g d = dOne g d := by
  funext y
  obtain ⟨p, s, rfl⟩ := eq_ix2 (a := 8192) (b := 1024) y
  refine Eq.trans ?_ (congrArg (· * d (ix2 p s)) (reference_gate1 g p s))
  unfold MergeBwdRefIdeal.Read.val_main_v32 MergeBwdRefIdeal.Read.val_main_v28 MergeBwdRefIdeal.Read.val_main_v23
  generalize MergeBwdRefIdeal.Read.val_main_v7 (F := Ideal) g = w
  simp only [shapeCast_self]
  pointwise

theorem reference_two (a b : Vec Ideal S8192x1024 .f32) (g : Vec Ideal S8192x2048 .f32) (d : Vec Ideal S8192x1024 .f32) : MergeBwdRefIdeal.Read.val_main_v33 (F := Ideal) g d = dTwo g d := by
  funext y
  obtain ⟨p, s, rfl⟩ := eq_ix2 (a := 8192) (b := 1024) y
  refine Eq.trans ?_ (congrArg (· * d (ix2 p s)) (reference_gate2 g p s))
  unfold MergeBwdRefIdeal.Read.val_main_v33 MergeBwdRefIdeal.Read.val_main_v25 MergeBwdRefIdeal.Read.val_main_v24
  generalize MergeBwdRefIdeal.Read.val_main_v17 (F := Ideal) g = w
  simp only [shapeCast_self]
  pointwise

theorem reference_slope1 (a b : Vec Ideal S8192x1024 .f32) (g : Vec Ideal S8192x2048 .f32) (d : Vec Ideal S8192x1024 .f32) (p : Fin 8192) (s : Fin 1024) :
    MergeBwdRefIdeal.Read.val_main_v30 (F := Ideal) a g d (ix2 p s) = dSlope (g (ix2 p (left s))) (a (ix2 p s)) (d (ix2 p s)) := by
  unfold dSlope
  rw [← reference_gate1]
  unfold MergeBwdRefIdeal.Read.val_main_v30 MergeBwdRefIdeal.Read.val_main_v29 MergeBwdRefIdeal.Read.val_main_v23 MergeBwdRefIdeal.Read.val_main_v10 MergeBwdRefIdeal.Read.val_main_v9
  generalize MergeBwdRefIdeal.Read.val_main_v7 (F := Ideal) g = w
  simp only [shapeCast_self]
  pointwise [MergeBwdRefIdeal.Read.val_main_v8, MergeBwdRefIdeal.Read.val_main_cst_1]

theorem reference_slope2 (a b : Vec Ideal S8192x1024 .f32) (g : Vec Ideal S8192x2048 .f32) (d : Vec Ideal S8192x1024 .f32) (p : Fin 8192) (s : Fin 1024) :
    MergeBwdRefIdeal.Read.val_main_v27 (F := Ideal) b g d (ix2 p s) = dSlope (g (ix2 p (right s))) (b (ix2 p s)) (d (ix2 p s)) := by
  unfold dSlope
  rw [← reference_gate2]
  unfold MergeBwdRefIdeal.Read.val_main_v27 MergeBwdRefIdeal.Read.val_main_v26 MergeBwdRefIdeal.Read.val_main_v24 MergeBwdRefIdeal.Read.val_main_v20 MergeBwdRefIdeal.Read.val_main_v19
  generalize MergeBwdRefIdeal.Read.val_main_v17 (F := Ideal) g = w
  simp only [shapeCast_self]
  pointwise [MergeBwdRefIdeal.Read.val_main_v18, MergeBwdRefIdeal.Read.val_main_cst_4]

theorem reference_gates (a b : Vec Ideal S8192x1024 .f32) (g : Vec Ideal S8192x2048 .f32) (d : Vec Ideal S8192x1024 .f32) : MergeBwdRefIdeal.Read.val_main_v34 (F := Ideal) a b g d = dGate a b g d := by
  funext y
  obtain ⟨p, q, rfl⟩ := eq_ix2 (a := 8192) (b := 2048) y
  rcases halves q with ⟨s, rfl⟩ | ⟨s, rfl⟩
  · rw [dGate_left, ← reference_slope1 a b g d p s]
    unfold MergeBwdRefIdeal.Read.val_main_v34 MergeBwdRefIdeal.Read.val_main_v31
    generalize MergeBwdRefIdeal.Read.val_main_v30 (F := Ideal) a g d = w
    generalize MergeBwdRefIdeal.Read.val_main_v27 (F := Ideal) b g d = w'
    pointwise [left]
  · rw [dGate_right, ← reference_slope2 a b g d p s]
    unfold MergeBwdRefIdeal.Read.val_main_v34 MergeBwdRefIdeal.Read.val_main_v31
    generalize MergeBwdRefIdeal.Read.val_main_v30 (F := Ideal) a g d = w
    generalize MergeBwdRefIdeal.Read.val_main_v27 (F := Ideal) b g d = w'
    pointwise [right]

theorem frame_reference : quiescent_MergeBwdRefIdeal (hMergeBwdRefIdeal := MergeBwdRefIdeal.Gen.facts) := fun m g _ =>
  (θ_run (MergeBwdRefIdeal.defs (F := Ideal)) _ _).mono
    (fun r h => ⟨fun c => (h c).2.2.2, sem_eq_zero_of_no_sems (by decide) r.2⟩)
    (MergeBwdRefIdeal.Value.run (F := Ideal) m g)

theorem algebraic : algebraic_MergeBwdIdeal_MergeBwdRefIdeal (hMergeBwdIdeal := MergeBwdIdeal.Gen.facts)
    (hMergeBwdRefIdeal := MergeBwdRefIdeal.Gen.facts) := by
  intro m g m' g' _ hagree
  refine ⟨fun c => dOne (gts m c) (out m c), fun c => dTwo (gts m c) (out m c), fun c => dGate (one m c) (two m c) (gts m c) (out m c), ?_, ?_⟩
  · exact (θ_run MergeBwdIdeal.defs _ _).mono (fun r h c => ⟨(h c).1.trans (final4 m c), (h c).2.1.trans (final5 m c), (h c).2.2.1.trans (final6 m c), (h c).2.2.2⟩) (MergeBwdIdeal.Value.run_blocks m g)
  · refine (θ_run MergeBwdRefIdeal.defs _ _).mono (fun r h c => ⟨?_, ?_, ?_, (h c).2.2.2⟩) (MergeBwdRefIdeal.Value.run (F := Ideal) m' g')
    · obtain ⟨e0, e1, e2, e3⟩ := hagree c
      refine (h c).1.trans ((MergeBwdRefIdeal.Read.val_main_v32_eq _ _).trans ((reference_one (m' (c.tc.loc MergeBwdRefIdeal.main_arg0)) (m' (c.tc.loc MergeBwdRefIdeal.main_arg1)) _ _).trans ?_))
      rw [e2, e3]
    · obtain ⟨e0, e1, e2, e3⟩ := hagree c
      refine (h c).2.1.trans ((MergeBwdRefIdeal.Read.val_main_v33_eq _ _).trans ((reference_two (m' (c.tc.loc MergeBwdRefIdeal.main_arg0)) (m' (c.tc.loc MergeBwdRefIdeal.main_arg1)) _ _).trans ?_))
      rw [e2, e3]
    · obtain ⟨e0, e1, e2, e3⟩ := hagree c
      refine (h c).2.2.1.trans ((MergeBwdRefIdeal.Read.val_main_v34_eq _ _ _ _).trans ((reference_gates _ _ _ _).trans ?_))
      rw [e0, e1, e2, e3]

end Cert.MergeBwdIdeal.Prod

end
-- ==== Proof.MergeClaims.lean ====
/-
  The two branches under their gates, added.
-/
module

public import proofs.«01_k».proof.Defs
public import proofs.«01_k».proof.Proof.Products
public import proofs.«01_k».proof.Proof.Gates
public import proofs.«01_k».proof.Proof.Gen.MergeIdeal.Value
public import proofs.«01_k».proof.Proof.Gen.MergeRefIdeal.Run
public import proofs.«01_k».proof.Proof.Gen.MergeRefIdeal.Read
public import Idealize.ShloMosaic.Adequacy

@[expose] public section

set_option maxRecDepth 16384

noncomputable section

namespace Cert.MergeIdeal.Prod

open Idealize.ShloMosaic Idealize.ShloMosaic.TcCoe Idealize.SL.Sem Cert.MergeIdeal Cert.MergeIdeal.Gen Cert.Products Cert.Gates
open scoped BigOperators

/-- The gated sum, entry by entry. -/
def merged (a b : Vec Ideal S8192x1024 .f32) (g : Vec Ideal S8192x2048 .f32) : Vec Ideal S8192x1024 .bf16 :=
  fun i => gate (g (ix2 (i 0) (left (i 1)))) * a i + gate (g (ix2 (i 0) (right (i 1)))) * b i

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![t.val, 0] :=
  (by decide +kernel : ∀ t : Fin grid0.N, win0_1.index t = ![t.val, 0])
theorem at2 : ∀ t : Fin cfg0.N, win0_2.index t = ![t.val, 0] :=
  (by decide +kernel : ∀ t : Fin grid0.N, win0_2.index t = ![t.val, 0])
theorem at3 : ∀ t : Fin cfg0.N, win0_3.index t = ![t.val, 0] :=
  (by decide +kernel : ∀ t : Fin grid0.N, win0_3.index t = ![t.val, 0])
theorem lt_points (t : Fin cfg0.N) : t.val < 32 := lt_of_lt_of_eq t.isLt N_0

/-- The array's row of a point's row. -/
def row (t : Fin cfg0.N) (r : Fin 256) : Fin 8192 := ⟨t.val * 256 + r, by have := lt_points t; omega⟩

abbrev one : Vec Ideal S8192x1024 .f32 := V m c main_arg0
abbrev two : Vec Ideal S8192x1024 .f32 := V m c main_arg1
abbrev gts : Vec Ideal S8192x2048 .f32 := V m c main_arg2

theorem iblk0_apply (t : Fin cfg0.N) (r : Fin 256) (k : Fin 1024) :
    (iblk m c 0 t : Vec Ideal S256x1024 .f32) (ix2 r k) = one m c (ix2 (row t r) k) := by
  blk_simp [iblk]
  congr 1
  blk_ext [at0, row]

theorem iblk1_apply (t : Fin cfg0.N) (r : Fin 256) (k : Fin 1024) :
    (iblk m c 1 t : Vec Ideal S256x1024 .f32) (ix2 r k) = two m c (ix2 (row t r) k) := by
  blk_simp [iblk]
  congr 1
  blk_ext [at1, row]

theorem iblk2_apply (t : Fin cfg0.N) (r : Fin 256) (k : Fin 2048) :
    (iblk m c 2 t : Vec Ideal S256x2048 .f32) (ix2 r k) = gts m c (ix2 (row t r) k) := by
  blk_simp [iblk]
  congr 1
  blk_ext [at2, row]

theorem pay_apply (a b : Vec Ideal S256x1024 .f32) (g : Vec Ideal S256x2048 .f32) (r : Fin 256) (s : Fin 1024) :
    k0_pay1 a b g (ix2 r s) = gate (g (ix2 r (left s))) * a (ix2 r s) + gate (g (ix2 r (right s))) * b (ix2 r s) := by
  unfold k0_pay1
  pointwise [gate_eq, left, right]

theorem out_apply (t : Fin cfg0.N) (r : Fin 256) (s : Fin 1024) :
    out0_3 (iblk m c 0 t) (iblk m c 1 t) (iblk m c 2 t) (ix2 r s) = merged (one m c) (two m c) (gts m c) (ix2 (row t r) s) := by
  unfold out0_3
  rw [View.canon_unit_zero zeros2, View.ld_unit_zero zeros2, View.ld_unit_zero zeros2, View.ld_unit_zero zeros2]
  refine (pay_apply _ _ _ r s).trans ?_
  rw [iblk0_apply, iblk1_apply, iblk2_apply, iblk2_apply]
  rfl

theorem final3 : (dats m 0 c).arrAt 3 cfg0.N = merged (one m c) (two m c) (gts m c) := by
  refine (dats m 0 c).arrAt_eq_of_covers 3 _ (by decide +kernel) fun t hf y => ?_
  blk_simp
  rw [after0_3]
  obtain ⟨r, s, rfl⟩ := eq_ix2 (a := 256) (b := 1024) y
  refine (out_apply m c t r s).trans ?_
  congr 1
  blk_ext [at3, row]

theorem reference (a b : Vec Ideal S8192x1024 .f32) (g : Vec Ideal S8192x2048 .f32) :
    MergeRefIdeal.Read.val_main_v17 (F := Ideal) a b g = merged a b g := by
  funext y
  obtain ⟨r, s, rfl⟩ := eq_ix2 (a := 8192) (b := 1024) y
  unfold merged
  unfold MergeRefIdeal.Read.val_main_v17 MergeRefIdeal.Read.val_main_v16 MergeRefIdeal.Read.val_main_v15 MergeRefIdeal.Read.val_main_v14 MergeRefIdeal.Read.val_main_v12 MergeRefIdeal.Read.val_main_v10 MergeRefIdeal.Read.val_main_v9 MergeRefIdeal.Read.val_main_v1 MergeRefIdeal.Read.val_main_v8 MergeRefIdeal.Read.val_main_v7 MergeRefIdeal.Read.val_main_v5 MergeRefIdeal.Read.val_main_v3 MergeRefIdeal.Read.val_main_v2 MergeRefIdeal.Read.val_main_v0
  pointwise [MergeRefIdeal.Read.val_main_v4, MergeRefIdeal.Read.val_main_v6, MergeRefIdeal.Read.val_main_v11, MergeRefIdeal.Read.val_main_v13, MergeRefIdeal.Read.val_main_cst, MergeRefIdeal.Read.val_main_cst_0, MergeRefIdeal.Read.val_main_cst_1, MergeRefIdeal.Read.val_main_cst_2]
  rfl

theorem frame_reference : quiescent_MergeRefIdeal (hMergeRefIdeal := MergeRefIdeal.Gen.facts) := fun m g _ =>
  (θ_run (MergeRefIdeal.defs (F := Ideal)) _ _).mono
    (fun r h => ⟨fun c => (h c).2, sem_eq_zero_of_no_sems (by decide) r.2⟩)
    (MergeRefIdeal.Value.run (F := Ideal) m g)

theorem algebraic : algebraic_MergeIdeal_MergeRefIdeal (hMergeIdeal := MergeIdeal.Gen.facts)
    (hMergeRefIdeal := MergeRefIdeal.Gen.facts) := by
  intro m g m' g' _ hagree
  refine ⟨fun c => merged (one m c) (two m c) (gts m c), ?_, ?_⟩
  · exact (θ_run MergeIdeal.defs _ _).mono (fun r h c => ⟨(h c).1.trans (final3 m c), (h c).2⟩) (MergeIdeal.Value.run_blocks m g)
  · refine (θ_run MergeRefIdeal.defs _ _).mono (fun r h c => ⟨?_, (h c).2⟩) (MergeRefIdeal.Value.run (F := Ideal) m' g')
    · obtain ⟨e0, e1, e2⟩ := hagree c
      refine (h c).1.trans ((MergeRefIdeal.Read.val_main_v17_eq _ _ _).trans ((reference _ _ _).trans ?_))
      rw [e0, e1, e2]

end Cert.MergeIdeal.Prod

end
-- ==== Proof.NormMixClaims.lean ====
/-
  The normed rows of the positions.
-/
module

public import proofs.«01_k».proof.Defs
public import proofs.«01_k».proof.Proof.Products
public import proofs.«01_k».proof.Proof.Rows
public import proofs.«01_k».proof.Proof.Gen.NormMixIdeal.Value
public import proofs.«01_k».proof.Proof.Gen.NormMixRefIdeal.Run
public import proofs.«01_k».proof.Proof.Gen.NormMixRefIdeal.Read
public import Idealize.ShloMosaic.Adequacy

@[expose] public section

set_option maxRecDepth 16384

noncomputable section

namespace Cert.NormMixIdeal.Prod

open Idealize.ShloMosaic Idealize.ShloMosaic.TcCoe Idealize.SL.Sem Cert.NormMixIdeal Cert.NormMixIdeal.Gen Cert.Products Cert.Rows
open scoped BigOperators

/-- The normed rows, entry by entry. -/
def normed (x : Vec Ideal S8192x1024 .f32) (g : Vec Ideal S1x1024 .f32) : Vec Ideal S8192x1024 .bf16 :=
  fun i => hat (at_ x (i 0)) (gain g) (i 1)

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

theorem lt_points (t : Fin cfg0.N) : t.val < 32 := lt_of_lt_of_eq t.isLt N_0

/-- The array's row of a point's row. -/
def row (t : Fin cfg0.N) (r : Fin 256) : Fin 8192 := ⟨t.val * 256 + r, by have := lt_points t; omega⟩

abbrev rows : Vec Ideal S8192x1024 .f32 := V m c main_arg0
abbrev gn : Vec Ideal S1x1024 .f32 := V m c main_arg1

theorem iblk0_apply (t : Fin cfg0.N) (r : Fin 256) (k : Fin 1024) :
    (iblk m c 0 t : Vec Ideal S256x1024 .f32) (ix2 r k) = rows m c (ix2 (row t r) k) := by
  blk_simp [iblk]
  congr 1
  blk_ext [at0, row]

theorem iblk1_apply (t : Fin cfg0.N) (z : Fin 1) (s : Fin 1024) :
    (iblk m c 1 t : Vec Ideal S1x1024 .f32) (ix2 z s) = gn m c (ix2 z s) := by
  blk_simp [iblk]
  congr 1
  blk_ext [at1]

theorem norm_apply (x : Vec Ideal S256x1024 .f32) (g : Vec Ideal S1x1024 .f32) (r : Fin 256) (s : Fin 1024) :
    k0_pay1 x g (ix2 r s) = hat (at_ x r) (gain g) s := by
  unfold k0_pay1
  pointwise
  rfl

theorem out_apply (t : Fin cfg0.N) (r : Fin 256) (s : Fin 1024) :
    out0_2 (iblk m c 0 t) (iblk m c 1 t) (ix2 r s) = normed (rows m c) (gn m c) (ix2 (row t r) s) := by
  unfold out0_2
  rw [View.canon_unit_zero zeros2, View.ld_unit_zero zeros2, View.ld_unit_zero zeros2]
  refine (norm_apply _ _ r s).trans ?_
  have e0 : at_ (iblk m c 0 t) r = at_ (rows m c) (row t r) := funext fun k => iblk0_apply m c t r k
  have e1 : gain (iblk m c 1 t) = gain (gn m c) := funext fun k => iblk1_apply m c t 0 k
  rw [e0, e1]
  rfl

theorem final : (dats m 0 c).arrAt 2 cfg0.N = normed (rows m c) (gn m c) := by
  refine (dats m 0 c).arrAt_eq_of_covers 2 _ (by decide +kernel) fun t hf y => ?_
  blk_simp
  rw [after0_2]
  obtain ⟨r, s, rfl⟩ := eq_ix2 (a := 256) (b := 1024) y
  refine (out_apply m c t r s).trans ?_
  congr 1
  blk_ext [at2, row]

theorem reference (x : Vec Ideal S8192x1024 .f32) (g : Vec Ideal S1x1024 .f32) :
    NormMixRefIdeal.Read.val_main_v14 (F := Ideal) x g = normed x g := by
  funext y
  obtain ⟨r, s, rfl⟩ := eq_ix2 (a := 8192) (b := 1024) y
  unfold normed
  unfold NormMixRefIdeal.Read.val_main_v14 NormMixRefIdeal.Read.val_main_v13 NormMixRefIdeal.Read.val_main_v10 NormMixRefIdeal.Read.val_main_v9 NormMixRefIdeal.Read.val_main_v8 NormMixRefIdeal.Read.val_main_v7 NormMixRefIdeal.Read.val_main_v5 NormMixRefIdeal.Read.val_main_v3 NormMixRefIdeal.Read.val_main_v2 NormMixRefIdeal.Read.val_main_v1
  pointwise [NormMixRefIdeal.Read.val_main_v12, NormMixRefIdeal.Read.val_main_v11, NormMixRefIdeal.Read.val_main_v0, NormMixRefIdeal.Read.val_main_v4, NormMixRefIdeal.Read.val_main_v6, NormMixRefIdeal.Read.val_main_cst, NormMixRefIdeal.Read.val_main_cst_0, NormMixRefIdeal.Read.val_main_cst_1]
  rfl

theorem frame_reference : quiescent_NormMixRefIdeal (hNormMixRefIdeal := NormMixRefIdeal.Gen.facts) := fun m g _ =>
  (θ_run (NormMixRefIdeal.defs (F := Ideal)) _ _).mono
    (fun r h => ⟨fun c => (h c).2, sem_eq_zero_of_no_sems (by decide) r.2⟩)
    (NormMixRefIdeal.Value.run (F := Ideal) m g)

theorem algebraic : algebraic_NormMixIdeal_NormMixRefIdeal (hNormMixIdeal := NormMixIdeal.Gen.facts)
    (hNormMixRefIdeal := NormMixRefIdeal.Gen.facts) := by
  intro m g m' g' _ hagree
  refine ⟨fun c => normed (rows m c) (gn m c), ?_, ?_⟩
  · exact (θ_run NormMixIdeal.defs _ _).mono (fun r h c => ⟨(h c).1.trans (final m c), (h c).2⟩) (NormMixIdeal.Value.run_blocks m g)
  · refine (θ_run NormMixRefIdeal.defs _ _).mono (fun r h c => ⟨?_, (h c).2⟩) (NormMixRefIdeal.Value.run (F := Ideal) m' g')
    · obtain ⟨e0, e1⟩ := hagree c
      refine (h c).1.trans ((NormMixRefIdeal.Read.val_main_v14_eq _ _).trans ((reference _ _).trans ?_))
      rw [e0, e1]

end Cert.NormMixIdeal.Prod

end
-- ==== Proof.NormMemClaims.lean ====
/-
  The normed rows of the memory.
-/
module

public import proofs.«01_k».proof.Defs
public import proofs.«01_k».proof.Proof.Products
public import proofs.«01_k».proof.Proof.Rows
public import proofs.«01_k».proof.Proof.Gen.NormMemIdeal.Value
public import proofs.«01_k».proof.Proof.Gen.NormMemRefIdeal.Run
public import proofs.«01_k».proof.Proof.Gen.NormMemRefIdeal.Read
public import Idealize.ShloMosaic.Adequacy

@[expose] public section

set_option maxRecDepth 16384

noncomputable section

namespace Cert.NormMemIdeal.Prod

open Idealize.ShloMosaic Idealize.ShloMosaic.TcCoe Idealize.SL.Sem Cert.NormMemIdeal Cert.NormMemIdeal.Gen Cert.Products Cert.Rows
open scoped BigOperators

/-- The normed rows, entry by entry. -/
def normed (x : Vec Ideal S1024x1024 .f32) (g : Vec Ideal S1x1024 .f32) : Vec Ideal S1024x1024 .bf16 :=
  fun i => hat (at_ x (i 0)) (gain g) (i 1)

variable (m : (ℓ : Loc nD τ sig) → Buf (Elt Ideal) ℓ) (c : Dev nD)

theorem at0 : ∀ t : Fin cfg0.N, win0_0.index t = ![t.val, 0] :=
  (by decide +kernel : ∀ t : Fin grid0.N, win0_0.index t = ![t.val, 0])
theorem at1 : ∀ t : Fin cfg0.N, win0_1.index t = ![0, 0] :=
  (by decide +kernel : ∀ t : Fin grid0.N, win0_1.index t = ![0, 0])
theorem at2 : ∀ t : Fin cfg0.N, win0_2.index t = ![t.val, 0] :=
  (by decide +kernel : ∀ t : Fin grid0.N, win0_2.index t = ![t.val, 0])

theorem lt_points (t : Fin cfg0.N) : t.val < 4 := lt_of_lt_of_eq t.isLt N_0

/-- The array's row of a point's row. -/
def row (t : Fin cfg0.N) (r : Fin 256) : Fin 1024 := ⟨t.val * 256 + r, by have := lt_points t; omega⟩

abbrev rows : Vec Ideal S1024x1024 .f32 := V m c main_arg0
abbrev gn : Vec Ideal S1x1024 .f32 := V m c main_arg1

theorem iblk0_apply (t : Fin cfg0.N) (r : Fin 256) (k : Fin 1024) :
    (iblk m c 0 t : Vec Ideal S256x1024 .f32) (ix2 r k) = rows m c (ix2 (row t r) k) := by
  blk_simp [iblk]
  congr 1
  blk_ext [at0, row]

theorem iblk1_apply (t : Fin cfg0.N) (z : Fin 1) (s : Fin 1024) :
    (iblk m c 1 t : Vec Ideal S1x1024 .f32) (ix2 z s) = gn m c (ix2 z s) := by
  blk_simp [iblk]
  congr 1
  blk_ext [at1]

theorem norm_apply (x : Vec Ideal S256x1024 .f32) (g : Vec Ideal S1x1024 .f32) (r : Fin 256) (s : Fin 1024) :
    k0_pay1 x g (ix2 r s) = hat (at_ x r) (gain g) s := by
  unfold k0_pay1
  pointwise
  rfl

theorem out_apply (t : Fin cfg0.N) (r : Fin 256) (s : Fin 1024) :
    out0_2 (iblk m c 0 t) (iblk m c 1 t) (ix2 r s) = normed (rows m c) (gn m c) (ix2 (row t r) s) := by
  unfold out0_2
  rw [View.canon_unit_zero zeros2, View.ld_unit_zero zeros2, View.ld_unit_zero zeros2]
  refine (norm_apply _ _ r s).trans ?_
  have e0 : at_ (iblk m c 0 t) r = at_ (rows m c) (row t r) := funext fun k => iblk0_apply m c t r k
  have e1 : gain (iblk m c 1 t) = gain (gn m c) := funext fun k => iblk1_apply m c t 0 k
  rw [e0, e1]
  rfl

theorem final : (dats m 0 c).arrAt 2 cfg0.N = normed (rows m c) (gn m c) := by
  refine (dats m 0 c).arrAt_eq_of_covers 2 _ (by decide +kernel) fun t hf y => ?_
  blk_simp
  rw [after0_2]
  obtain ⟨r, s, rfl⟩ := eq_ix2 (a := 256) (b := 1024) y
  refine (out_apply m c t r s).trans ?_
  congr 1
  blk_ext [at2, row]

theorem reference (x : Vec Ideal S1024x1024 .f32) (g : Vec Ideal S1x1024 .f32) :
    NormMemRefIdeal.Read.val_main_v14 (F := Ideal) x g = normed x g := by
  funext y
  obtain ⟨r, s, rfl⟩ := eq_ix2 (a := 1024) (b := 1024) y
  unfold normed
  unfold NormMemRefIdeal.Read.val_main_v14 NormMemRefIdeal.Read.val_main_v13 NormMemRefIdeal.Read.val_main_v10 NormMemRefIdeal.Read.val_main_v9 NormMemRefIdeal.Read.val_main_v8 NormMemRefIdeal.Read.val_main_v7 NormMemRefIdeal.Read.val_main_v5 NormMemRefIdeal.Read.val_main_v3 NormMemRefIdeal.Read.val_main_v2 NormMemRefIdeal.Read.val_main_v1
  pointwise [NormMemRefIdeal.Read.val_main_v12, NormMemRefIdeal.Read.val_main_v11, NormMemRefIdeal.Read.val_main_v0, NormMemRefIdeal.Read.val_main_v4, NormMemRefIdeal.Read.val_main_v6, NormMemRefIdeal.Read.val_main_cst, NormMemRefIdeal.Read.val_main_cst_0, NormMemRefIdeal.Read.val_main_cst_1]
  rfl

theorem frame_reference : quiescent_NormMemRefIdeal (hNormMemRefIdeal := NormMemRefIdeal.Gen.facts) := fun m g _ =>
  (θ_run (NormMemRefIdeal.defs (F := Ideal)) _ _).mono
    (fun r h => ⟨fun c => (h c).2, sem_eq_zero_of_no_sems (by decide) r.2⟩)
    (NormMemRefIdeal.Value.run (F := Ideal) m g)

theorem algebraic : algebraic_NormMemIdeal_NormMemRefIdeal (hNormMemIdeal := NormMemIdeal.Gen.facts)
    (hNormMemRefIdeal := NormMemRefIdeal.Gen.facts) := by
  intro m g m' g' _ hagree
  refine ⟨fun c => normed (rows m c) (gn m c), ?_, ?_⟩
  · exact (θ_run NormMemIdeal.defs _ _).mono (fun r h c => ⟨(h c).1.trans (final m c), (h c).2⟩) (NormMemIdeal.Value.run_blocks m g)
  · refine (θ_run NormMemRefIdeal.defs _ _).mono (fun r h c => ⟨?_, (h c).2⟩) (NormMemRefIdeal.Value.run (F := Ideal) m' g')
    · obtain ⟨e0, e1⟩ := hagree c
      refine (h c).1.trans ((NormMemRefIdeal.Read.val_main_v14_eq _ _).trans ((reference _ _).trans ?_))
      rw [e0, e1]

end Cert.NormMemIdeal.Prod

end
-- ==== Proof.Head.lean ====
/-
  The kernel's body, one head at a time. The printed body unrolls the four heads and cuts the text at sixty statements;
  here each step of a head is one function of 256 × 256 blocks, and the four stores of the body are stated over them.
-/
module

public import proofs.«01_k».proof.Proof.Gen.KernelIdeal.Value

@[expose] public section

set_option maxRecDepth 16384

noncomputable section

namespace Cert.KernelIdeal.Head

open Idealize.ShloMosaic Idealize.SL.Sem Cert.KernelIdeal Cert.KernelIdeal.Gen

variable {F : FTy → Type} [FloatOps F]

/-! ## The steps of a head -/

/-- The mean square of each row, plus the norm's constant. -/
def meanSq (x : FVec F S256x256 .f32) : FVec F S256x1 .f32 :=
  addf (divf (shapeCast S256x1 (multiReduction .add [1] S256 (mulf x x) 0x00000000#32 reduces_S256x256_S256 (.inl rfl) rfl) shapeCasts_S256_S256x1)
    (broadcast S256x1 (Scalar.ofBits .f32 0x43800000#32))) (broadcast S256x1 (Scalar.ofBits .f32 0x358637BD#32))

/-- The reciprocal root of the mean square. -/
def rinv (x : FVec F S256x256 .f32) : FVec F S256x1 .f32 := rsqrt (meanSq x)

/-- The derivative of the reciprocal root at the mean square. -/
def drinv (x : FVec F S256x256 .f32) : FVec F S256x1 .f32 :=
  mulf (broadcast S256x1 (Scalar.ofBits .f32 0xBF000000#32)) (divf (rinv x) (meanSq x))

/-- The rows over their root mean square. -/
def unitRows (x : FVec F S256x256 .f32) : FVec F S256x256 .f32 :=
  mulf x (broadcastTo S256x256 (rinv x) broadcasts_S256x1_S256x256)

/-- The normed rows times the gain. -/
def normed (x : FVec F S256x256 .f32) (g : FVec F S1x256 .f32) : FVec F S256x256 .f32 :=
  mulf (unitRows x) (broadcastTo S256x256 g broadcasts_S1x256_S256x256)

/-- The product of `a` with the transpose of `b`. -/
def timesT (a b : FVec F S256x256 .f32) : FVec F S256x256 .f32 :=
  matmul dot_S256x256_S256x256_S256x256_1_1_0_0_n_n none (truncf .bf16 a bitsLt_bf16_f32) (truncf .bf16 b bitsLt_bf16_f32) (constant S256x256 .f32 0x00000000#32)

/-- The product of `a` with `b`. -/
def times (a b : FVec F S256x256 .f32) : FVec F S256x256 .f32 :=
  matmul dot_S256x256_S256x256_S256x256_1_0_0_1_n_n none (truncf .bf16 a bitsLt_bf16_f32) (truncf .bf16 b bitsLt_bf16_f32) (constant S256x256 .f32 0x00000000#32)

/-- The product of the transpose of `a` with `b`. -/
def tTimes (a b : FVec F S256x256 .f32) : FVec F S256x256 .f32 :=
  matmul dot_S256x256_S256x256_S256x256_0_0_1_1_n_n none (truncf .bf16 a bitsLt_bf16_f32) (truncf .bf16 b bitsLt_bf16_f32) (constant S256x256 .f32 0x00000000#32)

/-- The scaled scores. -/
def scores (q k : FVec F S256x256 .f32) : FVec F S256x256 .f32 :=
  mulf (timesT q k) (broadcast S256x256 (Scalar.ofBits .f32 0x3D800000#32))

/-- The exponentials of the scores below their row's greatest. -/
def expo (q k : FVec F S256x256 .f32) : FVec F S256x256 .f32 :=
  exp (subf (scores q k) (broadcastTo S256x256 (shapeCast S256x1 (multiReduction .maximumf [1] S256 (scores q k) 0xFF800000#32 reduces_S256x256_S256 (.inl rfl) rfl) shapeCasts_S256_S256x1) broadcasts_S256x1_S256x256))

/-- The sum of each row. -/
def rowSum (a : FVec F S256x256 .f32) : FVec F S256x1 .f32 :=
  shapeCast S256x1 (multiReduction .add [1] S256 a 0x00000000#32 reduces_S256x256_S256 (.inl rfl) rfl) shapeCasts_S256_S256x1

/-- A column summed over its one element. -/
def oneSum (a : FVec F S256x1 .f32) : FVec F S256x1 .f32 :=
  shapeCast S256x1 (multiReduction .add [1] S256 a 0x00000000#32 reduces_S256x1_S256 (.inl rfl) rfl) shapeCasts_S256_S256x1

/-- The sum of each column of the elementwise product. -/
def colSum (a b : FVec F S256x256 .f32) : FVec F S1x256 .f32 :=
  shapeCast S1x256 (multiReduction .add [0] S256 (mulf a b) 0x00000000#32 reduces_S256x256_S256_2 (.inl rfl) rfl) shapeCasts_S256_S1x256

/-- The column repeated along the rows. -/
def wide (a : FVec F S256x1 .f32) : FVec F S256x256 .f32 := broadcastTo S256x256 a broadcasts_S256x1_S256x256

/-- The weights. -/
def weights (e : FVec F S256x256 .f32) : FVec F S256x256 .f32 := divf e (wide (rowSum e))

/-- One over the square of the row's sum. -/
def invSq (e : FVec F S256x256 .f32) : FVec F S256x1 .f32 :=
  divf (broadcast S256x1 (Scalar.ofBits .f32 0x3F800000#32)) (mulf (rowSum e) (rowSum e))

/-- The gradient of the scores' products, from that of the weights. -/
def dscores (e dp : FVec F S256x256 .f32) : FVec F S256x256 .f32 :=
  mulf (mulf (addf (divf dp (wide (rowSum e)))
      (wide (oneSum (subf (broadcast S256x1 (Scalar.ofBits .f32 0x00000000#32)) (rowSum (mulf (mulf dp (wide (invSq e))) e)))))) e)
    (broadcast S256x256 (Scalar.ofBits .f32 0x3D800000#32))

/-- The gradient times the gain. -/
def gained (dy : FVec F S256x256 .f32) (g : FVec F S1x256 .f32) : FVec F S256x256 .f32 :=
  mulf dy (broadcastTo S256x256 g broadcasts_S1x256_S256x256)

/-- The gradient of the mean square, over the row's length. -/
def slope (x dy : FVec F S256x256 .f32) (g : FVec F S1x256 .f32) : FVec F S256x256 .f32 :=
  wide (oneSum (divf (mulf (rowSum (mulf x (gained dy g))) (drinv x)) (broadcast S256x1 (Scalar.ofBits .f32 0x43800000#32))))

/-- The gradient of the normed rows' argument. -/
def normBack (x dy : FVec F S256x256 .f32) (g : FVec F S1x256 .f32) : FVec F S256x256 .f32 :=
  addf (addf (mulf (gained dy g) (wide (rinv x))) (mulf x (slope x dy g))) (mulf (slope x dy g) x)

/-! ## The heads' blocks of the arguments -/

/-- Head `h`'s columns of the queries. -/
def qh (x0 : Vec F S1x256x1024 .f32) : Fin 4 → FVec F S256x256 .f32
  | 0 => extractStridedSlice S256x256 ![0, 0] (shapeCast S256x1024 x0 shapeCasts_S1x256x1024_S256x1024) slices_S256x1024_o0_0_S256x256
  | 1 => extractStridedSlice S256x256 ![0, 256] (shapeCast S256x1024 x0 shapeCasts_S1x256x1024_S256x1024) slices_S256x1024_o0_256_S256x256
  | 2 => extractStridedSlice S256x256 ![0, 512] (shapeCast S256x1024 x0 shapeCasts_S1x256x1024_S256x1024) slices_S256x1024_o0_512_S256x256
  | 3 => extractStridedSlice S256x256 ![0, 768] (shapeCast S256x1024 x0 shapeCasts_S1x256x1024_S256x1024) slices_S256x1024_o0_768_S256x256

/-- Head `h`'s columns of the keys. -/
def kh (x1 : Vec F S1x256x2048 .f32) : Fin 4 → FVec F S256x256 .f32
  | 0 => extractStridedSlice S256x256 ![0, 0] (shapeCast S256x2048 x1 shapeCasts_S1x256x2048_S256x2048) slices_S256x2048_o0_0_S256x256
  | 1 => extractStridedSlice S256x256 ![0, 256] (shapeCast S256x2048 x1 shapeCasts_S1x256x2048_S256x2048) slices_S256x2048_o0_256_S256x256
  | 2 => extractStridedSlice S256x256 ![0, 512] (shapeCast S256x2048 x1 shapeCasts_S1x256x2048_S256x2048) slices_S256x2048_o0_512_S256x256
  | 3 => extractStridedSlice S256x256 ![0, 768] (shapeCast S256x2048 x1 shapeCasts_S1x256x2048_S256x2048) slices_S256x2048_o0_768_S256x256

/-- Head `h`'s columns of the values. -/
def vh (x1 : Vec F S1x256x2048 .f32) : Fin 4 → FVec F S256x256 .f32
  | 0 => extractStridedSlice S256x256 ![0, 1024] (shapeCast S256x2048 x1 shapeCasts_S1x256x2048_S256x2048) slices_S256x2048_o0_1024_S256x256
  | 1 => extractStridedSlice S256x256 ![0, 1280] (shapeCast S256x2048 x1 shapeCasts_S1x256x2048_S256x2048) slices_S256x2048_o0_1280_S256x256
  | 2 => extractStridedSlice S256x256 ![0, 1536] (shapeCast S256x2048 x1 shapeCasts_S1x256x2048_S256x2048) slices_S256x2048_o0_1536_S256x256
  | 3 => extractStridedSlice S256x256 ![0, 1792] (shapeCast S256x2048 x1 shapeCasts_S1x256x2048_S256x2048) slices_S256x2048_o0_1792_S256x256

/-- Head `h`'s columns of the incoming gradient. -/
def oh (x4 : Vec F S1x256x1024 .bf16) : Fin 4 → FVec F S256x256 .f32
  | 0 => extractStridedSlice S256x256 ![0, 0] (extf .f32 (shapeCast S256x1024 x4 shapeCasts_S1x256x1024_S256x1024) bitsLt_bf16_f32) slices_S256x1024_o0_0_S256x256
  | 1 => extractStridedSlice S256x256 ![0, 256] (extf .f32 (shapeCast S256x1024 x4 shapeCasts_S1x256x1024_S256x1024) bitsLt_bf16_f32) slices_S256x1024_o0_256_S256x256
  | 2 => extractStridedSlice S256x256 ![0, 512] (extf .f32 (shapeCast S256x1024 x4 shapeCasts_S1x256x1024_S256x1024) bitsLt_bf16_f32) slices_S256x1024_o0_512_S256x256
  | 3 => extractStridedSlice S256x256 ![0, 768] (extf .f32 (shapeCast S256x1024 x4 shapeCasts_S1x256x1024_S256x1024) bitsLt_bf16_f32) slices_S256x1024_o0_768_S256x256

section Results

variable (x0 : Vec F S1x256x1024 .f32) (x1 : Vec F S1x256x2048 .f32) (x2 x3 : Vec F S1x256 .f32) (x4 : Vec F S1x256x1024 .bf16)

/-- Head `h`'s exponentials. -/
def eh (h : Fin 4) : FVec F S256x256 .f32 := expo (normed (qh x0 h) x2) (normed (kh x1 h) x3)

/-- Head `h`'s gradient of the scores' products. -/
def sh (h : Fin 4) : FVec F S256x256 .f32 := dscores (eh x0 x1 x2 x3 h) (timesT (oh x4 h) (vh x1 h))

/-- Head `h`'s gradient of the normed queries. -/
def dqn (h : Fin 4) : FVec F S256x256 .f32 := times (sh x0 x1 x2 x3 x4 h) (normed (kh x1 h) x3)

/-- Head `h`'s gradient of the normed keys, over the block's queries. -/
def dkn (h : Fin 4) : FVec F S256x256 .f32 := tTimes (sh x0 x1 x2 x3 x4 h) (normed (qh x0 h) x2)

/-- Head `h`'s gradient of the queries. -/
def dq (h : Fin 4) : FVec F S256x256 .f32 := normBack (qh x0 h) (dqn x0 x1 x2 x3 x4 h) x2

/-- Head `h`'s gradient of the keys, over the block's queries. -/
def dk (h : Fin 4) : FVec F S256x256 .f32 := normBack (kh x1 h) (dkn x0 x1 x2 x3 x4 h) x3

/-- Head `h`'s gradient of the values, over the block's queries. -/
def dv (h : Fin 4) : FVec F S256x256 .f32 := tTimes (weights (eh x0 x1 x2 x3 h)) (oh x4 h)

/-- The gradient of the queries' gain, over the block's queries: the heads' in the order the body adds them. -/
def gq : FVec F S1x256 .f32 :=
  addf (addf (addf (colSum (unitRows (qh x0 3)) (dqn x0 x1 x2 x3 x4 3)) (colSum (unitRows (qh x0 2)) (dqn x0 x1 x2 x3 x4 2)))
    (colSum (unitRows (qh x0 1)) (dqn x0 x1 x2 x3 x4 1))) (colSum (unitRows (qh x0 0)) (dqn x0 x1 x2 x3 x4 0))

/-- The gradient of the keys' gain, over the block's queries. -/
def gk : FVec F S1x256 .f32 :=
  addf (addf (addf (colSum (unitRows (kh x1 3)) (dkn x0 x1 x2 x3 x4 3)) (colSum (unitRows (kh x1 2)) (dkn x0 x1 x2 x3 x4 2)))
    (colSum (unitRows (kh x1 1)) (dkn x0 x1 x2 x3 x4 1))) (colSum (unitRows (kh x1 0)) (dkn x0 x1 x2 x3 x4 0))

/-- A block of zeros, `w` wide. -/
abbrev zeros (w : Nat) : FVec F ⟨2, ![256, w]⟩ .f32 := broadcast ⟨2, ![256, w]⟩ (Scalar.ofBits .f32 0x00000000#32)

/-- `x` with zeros to its left and to its right. -/
abbrev pad {a b w : Nat} (x : FVec F S256x256 .f32) (h : Shape.Concatenates [⟨2, ![256, a]⟩, S256x256] ⟨2, ![256, b]⟩ 1) {c : Nat}
    (h' : Shape.Concatenates [⟨2, ![256, b]⟩, ⟨2, ![256, c]⟩] ⟨2, ![256, w]⟩ 1) : FVec F ⟨2, ![256, w]⟩ .f32 :=
  concatenate ⟨2, ![256, w]⟩ 1 [⟨⟨2, ![256, b]⟩, concatenate ⟨2, ![256, b]⟩ 1 [⟨⟨2, ![256, a]⟩, zeros a⟩, ⟨S256x256, x⟩] h⟩, ⟨⟨2, ![256, c]⟩, zeros c⟩] h'

/-- `x` with zeros to its left. -/
abbrev padL {a w : Nat} (x : FVec F S256x256 .f32) (h : Shape.Concatenates [⟨2, ![256, a]⟩, S256x256] ⟨2, ![256, w]⟩ 1) : FVec F ⟨2, ![256, w]⟩ .f32 :=
  concatenate ⟨2, ![256, w]⟩ 1 [⟨⟨2, ![256, a]⟩, zeros a⟩, ⟨S256x256, x⟩] h

/-- `x` with zeros to its right. -/
abbrev padR {c w : Nat} (x : FVec F S256x256 .f32) (h : Shape.Concatenates [S256x256, ⟨2, ![256, c]⟩] ⟨2, ![256, w]⟩ 1) : FVec F ⟨2, ![256, w]⟩ .f32 :=
  concatenate ⟨2, ![256, w]⟩ 1 [⟨S256x256, x⟩, ⟨⟨2, ![256, c]⟩, zeros c⟩] h

/-- The block of the queries' gradient. -/
def dqs : FVec F S256x1024 .f32 :=
  addf (addf (addf (padL (dq x0 x1 x2 x3 x4 3) concatenates_S256x768_S256x256_S256x1024_d1)
      (pad (dq x0 x1 x2 x3 x4 2) concatenates_S256x512_S256x256_S256x768_d1 concatenates_S256x768_S256x256_S256x1024_d1))
    (pad (dq x0 x1 x2 x3 x4 1) concatenates_S256x256_S256x256_S256x512_d1 concatenates_S256x512_S256x512_S256x1024_d1))
    (padR (dq x0 x1 x2 x3 x4 0) concatenates_S256x256_S256x768_S256x1024_d1)

/-- The gradient of the keys and values over the block's queries. -/
def dkvs : FVec F S256x2048 .f32 :=
  addf (addf (addf (addf (addf (addf (addf
    (padL (dv x0 x1 x2 x3 x4 3) concatenates_S256x1792_S256x256_S256x2048_d1)
    (concatenate S256x2048 1 [⟨S256x1024, padL (dk x0 x1 x2 x3 x4 3) concatenates_S256x768_S256x256_S256x1024_d1⟩, ⟨S256x1024, zeros 1024⟩] concatenates_S256x1024_S256x1024_S256x2048_d1))
    (pad (dv x0 x1 x2 x3 x4 2) concatenates_S256x1536_S256x256_S256x1792_d1 concatenates_S256x1792_S256x256_S256x2048_d1))
    (pad (dk x0 x1 x2 x3 x4 2) concatenates_S256x512_S256x256_S256x768_d1 concatenates_S256x768_S256x1280_S256x2048_d1))
    (pad (dv x0 x1 x2 x3 x4 1) concatenates_S256x1280_S256x256_S256x1536_d1 concatenates_S256x1536_S256x512_S256x2048_d1))
    (pad (dk x0 x1 x2 x3 x4 1) concatenates_S256x256_S256x256_S256x512_d1 concatenates_S256x512_S256x1536_S256x2048_d1))
    (pad (dv x0 x1 x2 x3 x4 0) concatenates_S256x1024_S256x256_S256x1280_d1 concatenates_S256x1280_S256x768_S256x2048_d1))
    (padR (dk x0 x1 x2 x3 x4 0) concatenates_S256x256_S256x1792_S256x2048_d1)

end Results

end Cert.KernelIdeal.Head

end
-- ==== Proof.Math.lean ====
/-
  The gradient of one head of normed attention over extended reals, row by row: the words both programs' results are
  put into.
-/
module

public import Idealize.ShloMosaic.Lib.Pointwise

@[expose] public section

noncomputable section

namespace Cert.Attn

open Idealize.ShloMosaic
open scoped BigOperators

/-- A row of a head. -/
abbrev Row := Fin 256 → EReal

/-- The length of a row, as the printed constant. -/
def len : EReal := Ideal.ofBits .f32 0x43800000#32
/-- The norm's small constant. -/
def eps : EReal := Ideal.ofBits .f32 0x358637BD#32
/-- Minus one half. -/
def mhalf : EReal := Ideal.ofBits .f32 0xBF000000#32
/-- The scores' scale. -/
def scale : EReal := Ideal.ofBits .f32 0x3D800000#32
/-- What the greatest score is looked for from. -/
def bot : EReal := Ideal.ofBits .f32 0xFF800000#32

/-- The mean square plus the small constant. -/
def ms (x : Row) : EReal := Ideal.div (∑ k, x k * x k) len + eps
/-- The reciprocal root. -/
def ri (x : Row) : EReal := Ideal.rsqrt (ms x)
/-- The reciprocal root's derivative. -/
def di (x : Row) : EReal := mhalf * Ideal.div (ri x) (ms x)
/-- The normed row. -/
def nr (x : Row) (k : Fin 256) : EReal := x k * ri x
/-- The normed row times the gain. -/
def hat (x g : Row) (k : Fin 256) : EReal := nr x k * g k
/-- The gradient of the mean square over the row's length. -/
def tl (x g dy : Row) : EReal := Ideal.div ((∑ k, x k * (dy k * g k)) * di x) len
/-- The gradient of the row from that of its normed form times the gain. -/
def back (x g dy : Row) (k : Fin 256) : EReal := dy k * g k * ri x + x k * tl x g dy + tl x g dy * x k

/-- A query's score against a key. -/
def sc (gq gk q k : Row) : EReal := (∑ d, hat q gq d * hat k gk d) * scale
/-- The exponential of a query's score against key `m`, below the greatest. -/
def ex (gq gk q : Row) (K : Fin 256 → Row) (m : Fin 256) : EReal :=
  Ideal.exp (sc gq gk q (K m) - Finset.univ.fold max bot fun n => sc gq gk q (K n))
/-- The sum of a query's exponentials. -/
def zs (gq gk q : Row) (K : Fin 256 → Row) : EReal := ∑ m, ex gq gk q K m
/-- A query's weight of key `m`. -/
def wt (gq gk q : Row) (K : Fin 256 → Row) (m : Fin 256) : EReal := Ideal.div (ex gq gk q K m) (zs gq gk q K)
/-- The gradient of a weight. -/
def dw (o v : Row) : EReal := ∑ d, o d * v d
/-- The gradient of a score's product. -/
def ds (gq gk q : Row) (K V : Fin 256 → Row) (o : Row) (m : Fin 256) : EReal :=
  (Ideal.div (dw o (V m)) (zs gq gk q K)
    + -∑ n, dw o (V n) * Ideal.div 1 (zs gq gk q K * zs gq gk q K) * ex gq gk q K n) * ex gq gk q K m * scale
/-- The gradient of the normed query. -/
def dqh (gq gk q : Row) (K V : Fin 256 → Row) (o : Row) (d : Fin 256) : EReal :=
  ∑ m, ds gq gk q K V o m * hat (K m) gk d
/-- One query's part of the gradient of normed key `m`. -/
def dkp (gq gk q : Row) (K V : Fin 256 → Row) (o : Row) (m d : Fin 256) : EReal :=
  ds gq gk q K V o m * hat q gq d
/-- One query's part of the gradient of value `m`. -/
def dvp (gq gk q : Row) (K : Fin 256 → Row) (o : Row) (m d : Fin 256) : EReal := wt gq gk q K m * o d

/-- Column `k` of head `h` among the heads' columns. -/
def col (h : Fin 4) (k : Fin 256) : Fin 1024 := ⟨256 * h + k, by omega⟩
/-- Column `k` of head `h` among the keys' columns. -/
def kcol (h : Fin 4) (k : Fin 256) : Fin 2048 := ⟨256 * h + k, by omega⟩
/-- Column `k` of head `h` among the values' columns. -/
def vcol (h : Fin 4) (k : Fin 256) : Fin 2048 := ⟨1024 + (256 * h + k), by omega⟩

/-! ## The rows of the arrays, and the four gradients -/

/-- Contents of a rank-three array. -/
abbrev Arr (a b c : ℕ) := (⟨3, ![a, b, c]⟩ : Shape).Idx → EReal
/-- Contents of a gain. -/
abbrev Gain := (⟨2, ![1, 256]⟩ : Shape).Idx → EReal

/-- A gain's row. -/
def gr (g : Gain) : Row := fun k => g (ix2 0 k)
/-- Row `s` of head `h` in batch `b`. -/
def qr (x : Arr 4 2048 1024) (b : Fin 4) (h : Fin 4) (s : Fin 2048) : Row := fun k => x (ix3 b s (col h k))
/-- Key `m` of head `h` in batch `b`. -/
def kr (x : Arr 4 256 2048) (b : Fin 4) (h : Fin 4) (m : Fin 256) : Row := fun k => x (ix3 b m (kcol h k))
/-- Value `m` of head `h` in batch `b`. -/
def vr (x : Arr 4 256 2048) (b : Fin 4) (h : Fin 4) (m : Fin 256) : Row := fun k => x (ix3 b m (vcol h k))

section Arrays

variable (q : Arr 4 2048 1024) (kv : Arr 4 256 2048) (gq gk : Gain) (o : Arr 4 2048 1024)

/-- The gradient of the normed query `s`. -/
def aqh (b h : Fin 4) (s : Fin 2048) (d : Fin 256) : EReal :=
  dqh (gr gq) (gr gk) (qr q b h s) (kr kv b h) (vr kv b h) (qr o b h s) d
/-- Query `s`'s part of the gradient of normed key `m`. -/
def akp (b h : Fin 4) (m : Fin 256) (s : Fin 2048) (d : Fin 256) : EReal :=
  dkp (gr gq) (gr gk) (qr q b h s) (kr kv b h) (vr kv b h) (qr o b h s) m d
/-- Query `s`'s part of the gradient of value `m`. -/
def avp (b h : Fin 4) (m : Fin 256) (s : Fin 2048) (d : Fin 256) : EReal :=
  dvp (gr gq) (gr gk) (qr q b h s) (kr kv b h) (qr o b h s) m d

/-- The gradient of the queries. -/
def gradQ (b h : Fin 4) (s : Fin 2048) (k : Fin 256) : EReal :=
  back (qr q b h s) (gr gq) (aqh q kv gq gk o b h s) k
/-- The gradient of the keys. -/
def gradK (b h : Fin 4) (m k : Fin 256) : EReal :=
  back (kr kv b h m) (gr gk) (fun d => ∑ s, akp q kv gq gk o b h m s d) k
/-- The gradient of the values. -/
def gradV (b h : Fin 4) (m k : Fin 256) : EReal := ∑ s, avp q kv gq gk o b h m s k
/-- The gradient of the queries' gain. -/
def gradGQ (k : Fin 256) : EReal := ∑ b, ∑ h, ∑ s, nr (qr q b h s) k * aqh q kv gq gk o b h s k
/-- The gradient of the keys' gain. -/
def gradGK (k : Fin 256) : EReal :=
  ∑ b, ∑ h, ∑ m, nr (kr kv b h m) k * ∑ s, akp q kv gq gk o b h m s k

/-- Query `r` of block `i`. -/
def qpos (i : Fin 8) (r : Fin 256) : Fin 2048 := ⟨256 * i + r, by omega⟩

/-- The gradient of the keys, block by block of queries. -/
def blockK (b h : Fin 4) (m k : Fin 256) (i : Fin 8) : EReal :=
  back (kr kv b h m) (gr gk) (fun d => ∑ r, akp q kv gq gk o b h m (qpos i r) d) k
/-- The gradient of the values over block `i`. -/
def blockV (b h : Fin 4) (m k : Fin 256) (i : Fin 8) : EReal := ∑ r, avp q kv gq gk o b h m (qpos i r) k
/-- The gradient of the queries' gain over block `i` of batch `b`. -/
def blockGQ (k : Fin 256) (b : Fin 4) (i : Fin 8) : EReal :=
  ∑ h, ∑ r, nr (qr q b h (qpos i r)) k * aqh q kv gq gk o b h (qpos i r) k
/-- The gradient of the keys' gain over block `i` of batch `b`. -/
def blockGK (k : Fin 256) (b : Fin 4) (i : Fin 8) : EReal :=
  ∑ h, ∑ m, nr (kr kv b h m) k * ∑ r, akp q kv gq gk o b h m (qpos i r) k

end Arrays

end Cert.Attn

end
-- ==== Proof.Entry.lean ====
/-
  The steps of a head read at an entry over extended reals, and through them the body's four blocks.
-/
module

public import proofs.«01_k».proof.Proof.Head
public import proofs.«01_k».proof.Proof.Math

@[expose] public section

set_option maxRecDepth 16384

noncomputable section

namespace Cert.KernelIdeal.Head

open Idealize.ShloMosaic Idealize.SL.Sem Cert.KernelIdeal Cert.KernelIdeal.Gen Cert.Attn
open scoped BigOperators

/-- A block's row. -/
def row (x : FVec Ideal S256x256 .f32) (r : Fin 256) : Row := fun k => x (ix2 r k)
/-- A gain's row. -/
def gain (g : FVec Ideal S1x256 .f32) : Row := fun k => g (ix2 0 k)

theorem unitRows_apply (x : FVec Ideal S256x256 .f32) (r k : Fin 256) : unitRows x (ix2 r k) = nr (row x r) k := by
  pointwise [unitRows, rinv, meanSq]; rfl

theorem rinv_apply (x : FVec Ideal S256x256 .f32) (r : Fin 256) : rinv x (ix2 r 0) = ri (row x r) := by
  pointwise [rinv, meanSq]; rfl

theorem drinv_apply (x : FVec Ideal S256x256 .f32) (r : Fin 256) : drinv x (ix2 r 0) = di (row x r) := by
  pointwise [drinv, rinv, meanSq]; rfl

theorem normed_apply (x : FVec Ideal S256x256 .f32) (g : FVec Ideal S1x256 .f32) (r k : Fin 256) :
    normed x g (ix2 r k) = hat (row x r) (gain g) k := by
  pointwise [normed]; rw [unitRows_apply]; rfl

theorem timesT_apply (a b : FVec Ideal S256x256 .f32) (r k : Fin 256) :
    timesT a b (ix2 r k) = ∑ d, a (ix2 r d) * b (ix2 k d) := by
  pointwise [timesT]

theorem times_apply (a b : FVec Ideal S256x256 .f32) (r k : Fin 256) :
    times a b (ix2 r k) = ∑ d, a (ix2 r d) * b (ix2 d k) := by
  pointwise [times]

theorem tTimes_apply (a b : FVec Ideal S256x256 .f32) (r k : Fin 256) :
    tTimes a b (ix2 r k) = ∑ d, a (ix2 d r) * b (ix2 d k) := by
  pointwise [tTimes]

theorem scores_apply (a b : FVec Ideal S256x256 .f32) (r k : Fin 256) :
    scores a b (ix2 r k) = (∑ d, a (ix2 r d) * b (ix2 k d)) * scale := by
  pointwise [scores, timesT]; rfl

theorem expo_apply (q k : FVec Ideal S256x256 .f32) (gq gk : FVec Ideal S1x256 .f32) (r m : Fin 256) :
    expo (normed q gq) (normed k gk) (ix2 r m) = ex (gain gq) (gain gk) (row q r) (row k) m := by
  pointwise [expo]
  simp only [scores_apply, normed_apply]
  rfl

theorem rowSum_apply (a : FVec Ideal S256x256 .f32) (r : Fin 256) : rowSum a (ix2 r 0) = ∑ k, a (ix2 r k) := by
  pointwise [rowSum]

theorem oneSum_apply (a : FVec Ideal S256x1 .f32) (r : Fin 256) : oneSum a (ix2 r 0) = a (ix2 r 0) := by
  pointwise [oneSum]
  exact Fin.sum_univ_one _

theorem colSum_apply (a b : FVec Ideal S256x256 .f32) (k : Fin 256) :
    colSum a b (ix2 0 k) = ∑ r, a (ix2 r k) * b (ix2 r k) := by
  pointwise [colSum]

theorem wide_apply (a : FVec Ideal S256x1 .f32) (r k : Fin 256) : wide a (ix2 r k) = a (ix2 r 0) := by
  pointwise [wide]

theorem gained_apply (dy : FVec Ideal S256x256 .f32) (g : FVec Ideal S1x256 .f32) (r k : Fin 256) :
    gained dy g (ix2 r k) = dy (ix2 r k) * gain g k := by
  pointwise [gained]; rfl

theorem slope_apply (x dy : FVec Ideal S256x256 .f32) (g : FVec Ideal S1x256 .f32) (r k : Fin 256) :
    slope x dy g (ix2 r k) = tl (row x r) (gain g) (row dy r) := by
  unfold slope
  rw [wide_apply, oneSum_apply]
  pointwise
  rw [rowSum_apply, drinv_apply]
  pointwise
  simp only [gained_apply]
  rfl

theorem normBack_apply (x dy : FVec Ideal S256x256 .f32) (g : FVec Ideal S1x256 .f32) (r k : Fin 256) :
    normBack x dy g (ix2 r k) = back (row x r) (gain g) (row dy r) k := by
  pointwise [normBack]
  rw [slope_apply, wide_apply, rinv_apply, gained_apply]
  rfl

section Results

variable (x0 : Vec Ideal S1x256x1024 .f32) (x1 : Vec Ideal S1x256x2048 .f32) (x2 x3 : Vec Ideal S1x256 .f32)
  (x4 : Vec Ideal S1x256x1024 .bf16)

/-- Query `r`'s row of head `h`. -/
def qrow (h : Fin 4) (r : Fin 256) : Row := fun k => x0 (ix3 0 r (col h k))
/-- Key `m`'s row of head `h`. -/
def krow (h : Fin 4) (m : Fin 256) : Row := fun k => x1 (ix3 0 m (kcol h k))
/-- Value `m`'s row of head `h`. -/
def vrow (h : Fin 4) (m : Fin 256) : Row := fun k => x1 (ix3 0 m (vcol h k))
/-- The incoming gradient's row of head `h` at query `r`. -/
def orow (h : Fin 4) (r : Fin 256) : Row := fun k => x4 (ix3 0 r (col h k))

theorem row_qh (h : Fin 4) (r : Fin 256) : row (qh x0 h) r = qrow x0 h r := by
  funext k
  match h with
  | 0 => show qh x0 0 (ix2 r k) = x0 (ix3 0 r _); pointwise [qh]; congr 1; simp [col]
  | 1 => show qh x0 1 (ix2 r k) = x0 (ix3 0 r _); pointwise [qh]; rfl
  | 2 => show qh x0 2 (ix2 r k) = x0 (ix3 0 r _); pointwise [qh]; rfl
  | 3 => show qh x0 3 (ix2 r k) = x0 (ix3 0 r _); pointwise [qh]; rfl

theorem row_kh (h : Fin 4) (r : Fin 256) : row (kh x1 h) r = krow x1 h r := by
  funext k
  match h with
  | 0 => show kh x1 0 (ix2 r k) = x1 (ix3 0 r _); pointwise [kh]; congr 1; simp [kcol]
  | 1 => show kh x1 1 (ix2 r k) = x1 (ix3 0 r _); pointwise [kh]; rfl
  | 2 => show kh x1 2 (ix2 r k) = x1 (ix3 0 r _); pointwise [kh]; rfl
  | 3 => show kh x1 3 (ix2 r k) = x1 (ix3 0 r _); pointwise [kh]; rfl

theorem row_vh (h : Fin 4) (r : Fin 256) : row (vh x1 h) r = vrow x1 h r := by
  funext k
  match h with
  | 0 => show vh x1 0 (ix2 r k) = x1 (ix3 0 r _); pointwise [vh]; congr 2; apply Fin.ext; simp [vcol]
  | 1 => show vh x1 1 (ix2 r k) = x1 (ix3 0 r _); pointwise [vh]; congr 2; apply Fin.ext; simp [vcol]; omega
  | 2 => show vh x1 2 (ix2 r k) = x1 (ix3 0 r _); pointwise [vh]; congr 2; apply Fin.ext; simp [vcol]; omega
  | 3 => show vh x1 3 (ix2 r k) = x1 (ix3 0 r _); pointwise [vh]; congr 2; apply Fin.ext; simp [vcol]; omega

theorem row_oh (h : Fin 4) (r : Fin 256) : row (oh x4 h) r = orow x4 h r := by
  funext k
  match h with
  | 0 => show oh x4 0 (ix2 r k) = x4 (ix3 0 r _); pointwise [oh]; congr 1; simp [col]
  | 1 => show oh x4 1 (ix2 r k) = x4 (ix3 0 r _); pointwise [oh]; rfl
  | 2 => show oh x4 2 (ix2 r k) = x4 (ix3 0 r _); pointwise [oh]; rfl
  | 3 => show oh x4 3 (ix2 r k) = x4 (ix3 0 r _); pointwise [oh]; rfl

theorem eh_apply (h : Fin 4) (r m : Fin 256) :
    eh x0 x1 x2 x3 h (ix2 r m) = ex (gain x2) (gain x3) (qrow x0 h r) (krow x1 h) m := by
  unfold eh
  rw [expo_apply, row_qh, show row (kh x1 h) = krow x1 h from funext (row_kh x1 h)]

theorem sh_apply (h : Fin 4) (r m : Fin 256) :
    sh x0 x1 x2 x3 x4 h (ix2 r m)
      = ds (gain x2) (gain x3) (qrow x0 h r) (krow x1 h) (vrow x1 h) (orow x4 h r) m := by
  have hdp : ∀ n, timesT (oh x4 h) (vh x1 h) (ix2 r n) = dw (orow x4 h r) (vrow x1 h n) := fun n => by
    rw [timesT_apply, ← row_oh, ← row_vh]; rfl
  unfold sh
  pointwise [dscores]
  simp only [wide_apply, oneSum_apply]
  pointwise [invSq]
  simp only [rowSum_apply]
  pointwise
  simp only [wide_apply, hdp, eh_apply]
  pointwise
  simp only [rowSum_apply, eh_apply, zero_sub]
  rfl

theorem dqn_apply (h : Fin 4) (r k : Fin 256) :
    dqn x0 x1 x2 x3 x4 h (ix2 r k)
      = dqh (gain x2) (gain x3) (qrow x0 h r) (krow x1 h) (vrow x1 h) (orow x4 h r) k := by
  unfold dqn
  simp only [times_apply, sh_apply, normed_apply, row_kh]
  rfl

theorem dkn_apply (h : Fin 4) (m k : Fin 256) :
    dkn x0 x1 x2 x3 x4 h (ix2 m k)
      = ∑ r, dkp (gain x2) (gain x3) (qrow x0 h r) (krow x1 h) (vrow x1 h) (orow x4 h r) m k := by
  unfold dkn
  simp only [tTimes_apply, sh_apply, normed_apply, row_qh]
  rfl

theorem dq_apply (h : Fin 4) (r k : Fin 256) :
    dq x0 x1 x2 x3 x4 h (ix2 r k)
      = back (qrow x0 h r) (gain x2)
          (dqh (gain x2) (gain x3) (qrow x0 h r) (krow x1 h) (vrow x1 h) (orow x4 h r)) k := by
  unfold dq
  rw [normBack_apply, row_qh, show row (dqn x0 x1 x2 x3 x4 h) r = _ from funext (dqn_apply x0 x1 x2 x3 x4 h r)]

theorem dk_apply (h : Fin 4) (m k : Fin 256) :
    dk x0 x1 x2 x3 x4 h (ix2 m k)
      = back (krow x1 h m) (gain x3)
          (fun d => ∑ r, dkp (gain x2) (gain x3) (qrow x0 h r) (krow x1 h) (vrow x1 h) (orow x4 h r) m d) k := by
  unfold dk
  rw [normBack_apply, row_kh, show row (dkn x0 x1 x2 x3 x4 h) m = _ from funext (dkn_apply x0 x1 x2 x3 x4 h m)]

theorem dv_apply (h : Fin 4) (m k : Fin 256) :
    dv x0 x1 x2 x3 x4 h (ix2 m k)
      = ∑ r, dvp (gain x2) (gain x3) (qrow x0 h r) (krow x1 h) (orow x4 h r) m k := by
  unfold dv
  rw [tTimes_apply]
  refine Finset.sum_congr rfl fun r _ => ?_
  rw [show oh x4 h (ix2 r k) = orow x4 h r k from congrFun (row_oh x4 h r) k]
  pointwise [weights]
  rw [wide_apply, rowSum_apply]
  simp only [eh_apply]
  rfl

theorem gq_apply (k : Fin 256) :
    gq x0 x1 x2 x3 x4 (ix2 0 k)
      = ∑ h, ∑ r, nr (qrow x0 h r) k
          * dqh (gain x2) (gain x3) (qrow x0 h r) (krow x1 h) (vrow x1 h) (orow x4 h r) k := by
  pointwise [gq]
  simp only [colSum_apply, unitRows_apply, dqn_apply, row_qh, Fin.sum_univ_four]
  ac_rfl

theorem gk_apply (k : Fin 256) :
    gk x0 x1 x2 x3 x4 (ix2 0 k)
      = ∑ h, ∑ m, nr (krow x1 h m) k
          * ∑ r, dkp (gain x2) (gain x3) (qrow x0 h r) (krow x1 h) (vrow x1 h) (orow x4 h r) m k := by
  pointwise [gk]
  simp only [colSum_apply, unitRows_apply, dkn_apply, row_kh, Fin.sum_univ_four]
  ac_rfl

theorem dqs_apply (h : Fin 4) (r k : Fin 256) :
    dqs x0 x1 x2 x3 x4 (ix2 r (col h k)) = dq x0 x1 x2 x3 x4 h (ix2 r k) := by
  match h with
  | 0 =>
    have hc : (col 0 k : ℕ) = 0 + k := by simp [col]
    have hk := k.isLt
    pointwise [dqs]
    repeat' split
    all_goals first
      | (exfalso; omega)
      | (simp only [zero_add, add_zero]
         congr 2
         apply Fin.ext
         simp only [hc]
         omega)
  | 1 =>
    have hc : (col 1 k : ℕ) = 256 + k := by simp [col]
    have hk := k.isLt
    pointwise [dqs]
    repeat' split
    all_goals first
      | (exfalso; omega)
      | (simp only [zero_add, add_zero]
         congr 2
         apply Fin.ext
         simp only [hc]
         omega)
  | 2 =>
    have hc : (col 2 k : ℕ) = 512 + k := by simp [col]
    have hk := k.isLt
    pointwise [dqs]
    repeat' split
    all_goals first
      | (exfalso; omega)
      | (simp only [zero_add, add_zero]
         congr 2
         apply Fin.ext
         simp only [hc]
         omega)
  | 3 =>
    have hc : (col 3 k : ℕ) = 768 + k := by simp [col]
    have hk := k.isLt
    pointwise [dqs]
    repeat' split
    all_goals first
      | (exfalso; omega)
      | (simp only [zero_add, add_zero]
         congr 2
         apply Fin.ext
         simp only [hc]
         omega)

theorem dkvs_key (h : Fin 4) (m k : Fin 256) :
    dkvs x0 x1 x2 x3 x4 (ix2 m (kcol h k)) = dk x0 x1 x2 x3 x4 h (ix2 m k) := by
  match h with
  | 0 =>
    have hc : (kcol 0 k : ℕ) = 0 + k := by simp [kcol]
    have hk := k.isLt
    pointwise [dkvs]
    repeat' split
    all_goals first
      | (exfalso; omega)
      | (simp only [zero_add, add_zero]
         congr 2
         apply Fin.ext
         simp only [hc]
         omega)
  | 1 =>
    have hc : (kcol 1 k : ℕ) = 256 + k := by simp [kcol]
    have hk := k.isLt
    pointwise [dkvs]
    repeat' split
    all_goals first
      | (exfalso; omega)
      | (simp only [zero_add, add_zero]
         congr 2
         apply Fin.ext
         simp only [hc]
         omega)
  | 2 =>
    have hc : (kcol 2 k : ℕ) = 512 + k := by simp [kcol]
    have hk := k.isLt
    pointwise [dkvs]
    repeat' split
    all_goals first
      | (exfalso; omega)
      | (simp only [zero_add, add_zero]
         congr 2
         apply Fin.ext
         simp only [hc]
         omega)
  | 3 =>
    have hc : (kcol 3 k : ℕ) = 768 + k := by simp [kcol]
    have hk := k.isLt
    pointwise [dkvs]
    repeat' split
    all_goals first
      | (exfalso; omega)
      | (simp only [zero_add, add_zero]
         congr 2
         apply Fin.ext
         simp only [hc]
         omega)

theorem dkvs_value (h : Fin 4) (m k : Fin 256) :
    dkvs x0 x1 x2 x3 x4 (ix2 m (vcol h k)) = dv x0 x1 x2 x3 x4 h (ix2 m k) := by
  match h with
  | 0 =>
    have hc : (vcol 0 k : ℕ) = 1024 + k := by simp [vcol]
    have hk := k.isLt
    pointwise [dkvs]
    repeat' split
    all_goals first
      | (exfalso; omega)
      | (simp only [zero_add, add_zero]
         congr 2
         apply Fin.ext
         simp only [hc]
         omega)
  | 1 =>
    have hc : (vcol 1 k : ℕ) = 1280 + k := by simp [vcol]; omega
    have hk := k.isLt
    pointwise [dkvs]
    repeat' split
    all_goals first
      | (exfalso; omega)
      | (simp only [zero_add, add_zero]
         congr 2
         apply Fin.ext
         simp only [hc]
         omega)
  | 2 =>
    have hc : (vcol 2 k : ℕ) = 1536 + k := by simp [vcol]; omega
    have hk := k.isLt
    pointwise [dkvs]
    repeat' split
    all_goals first
      | (exfalso; omega)
      | (simp only [zero_add, add_zero]
         congr 2
         apply Fin.ext
         simp only [hc]
         omega)
  | 3 =>
    have hc : (vcol 3 k : ℕ) = 1792 + k := by simp [vcol]; omega
    have hk := k.isLt
    pointwise [dkvs]
    repeat' split
    all_goals first
      | (exfalso; omega)
      | (simp only [zero_add, add_zero]
         congr 2
         apply Fin.ext
         simp only [hc]
         omega)

end Results

end Cert.KernelIdeal.Head

end
-- ==== Proof.RefRows.lean ====
/-
  The reference's stages read at an entry over extended reals: norms, scores, weights and the gradients of the normed
  rows.
-/
module

public import proofs.«01_k».proof.Proof.Gen.ReferenceIdeal.Read
public import proofs.«01_k».proof.Proof.Math

@[expose] public section

set_option maxRecDepth 16384

noncomputable section

namespace Cert.ReferenceIdeal.Rows

open Idealize.ShloMosaic Idealize.SL.Sem Cert.ReferenceIdeal Cert.ReferenceIdeal.Gen Cert.ReferenceIdeal.Read Cert.Attn
open scoped BigOperators

variable (q : Arr 4 2048 1024) (kv : Arr 4 256 2048) (gq gk : Gain) (o : Arr 4 2048 1024)

/-! ## Heads and gains -/

theorem head_q (b : Fin 4) (s : Fin 2048) (h : Fin 4) (k : Fin 256) :
    val_main_v2 (F := Ideal) q (ix4 b s h k) = qr q b h s k := by
  pointwise [val_main_v2]
  exact congrArg (fun x => q (ix3 b s x)) (Fin.ext (by simp only [col]; omega))

theorem head_k (b : Fin 4) (m : Fin 256) (h : Fin 4) (k : Fin 256) :
    val_main_v20 (F := Ideal) kv (ix4 b m h k) = kr kv b h m k := by
  pointwise [val_main_v20, val_main_v19]
  exact congrArg (fun x => kv (ix3 b m x)) (Fin.ext (by simp only [kcol]; omega))

theorem head_v (b : Fin 4) (m : Fin 256) (h : Fin 4) (k : Fin 256) :
    val_main_v38 (F := Ideal) kv (ix4 b m h k) = vr kv b h m k := by
  pointwise [val_main_v38, val_main_v37]
  exact congrArg (fun x => kv (ix3 b m x)) (Fin.ext (by simp only [vcol]; omega))

theorem head_o (b : Fin 4) (h : Fin 4) (k : Fin 256) (s : Fin 2048) :
    val_main_v75 (F := Ideal) o (ix4 b h k s) = qr o b h s k := by
  pointwise [val_main_v75, val_main_v74, val_main_v73]
  exact congrArg (fun x => o (ix3 b s x)) (Fin.ext (by simp only [col]; omega))

theorem gain_q (b : Fin 4) (s : Fin 2048) (h : Fin 4) (k : Fin 256) :
    val_main_v17 (F := Ideal) gq (ix4 b s h k) = gr gq k := by
  pointwise [val_main_v17, val_main_v16, val_main_v0]; rfl

theorem gain_k (b : Fin 4) (m : Fin 256) (h : Fin 4) (k : Fin 256) :
    val_main_v35 (F := Ideal) gk (ix4 b m h k) = gr gk k := by
  pointwise [val_main_v35, val_main_v34, val_main_v1]; rfl

/-! ## Norms -/

theorem ms_q (b : Fin 4) (s : Fin 2048) (h : Fin 4) (z : Fin 1) :
    val_main_v9 (F := Ideal) q (ix4 b s h z) = ms (qr q b h s) := by
  pointwise [val_main_v9, val_main_v8, val_main_v7, val_main_v6, val_main_v5, val_main_v4, val_main_v3, val_main_cst,
    val_main_cst_0, val_main_cst_1]
  simp only [head_q]; rfl

theorem ms_k (b : Fin 4) (m : Fin 256) (h : Fin 4) (z : Fin 1) :
    val_main_v27 (F := Ideal) kv (ix4 b m h z) = ms (kr kv b h m) := by
  pointwise [val_main_v27, val_main_v26, val_main_v25, val_main_v24, val_main_v23, val_main_v22, val_main_v21,
    val_main_cst_3, val_main_cst_4, val_main_cst_5]
  simp only [head_k]; rfl

theorem ri_q (b : Fin 4) (s : Fin 2048) (h : Fin 4) (z : Fin 1) :
    val_main_v10 (F := Ideal) q (ix4 b s h z) = ri (qr q b h s) := by
  pointwise [val_main_v10]; rw [ms_q]; rfl

theorem ri_k (b : Fin 4) (m : Fin 256) (h : Fin 4) (z : Fin 1) :
    val_main_v28 (F := Ideal) kv (ix4 b m h z) = ri (kr kv b h m) := by
  pointwise [val_main_v28]; rw [ms_k]; rfl

theorem di_q (b : Fin 4) (s : Fin 2048) (h : Fin 4) (z : Fin 1) :
    val_main_v13 (F := Ideal) q (ix4 b s h z) = di (qr q b h s) := by
  pointwise [val_main_v13, val_main_v12, val_main_v11, val_main_cst_2]; rw [ms_q, ri_q]; rfl

theorem di_k (b : Fin 4) (m : Fin 256) (h : Fin 4) (z : Fin 1) :
    val_main_v31 (F := Ideal) kv (ix4 b m h z) = di (kr kv b h m) := by
  pointwise [val_main_v31, val_main_v30, val_main_v29, val_main_cst_6]; rw [ms_k, ri_k]; rfl

theorem nr_q (b : Fin 4) (s : Fin 2048) (h : Fin 4) (k : Fin 256) :
    val_main_v15 (F := Ideal) q (ix4 b s h k) = nr (qr q b h s) k := by
  pointwise [val_main_v15, val_main_v14]; rw [head_q, ri_q]; rfl

theorem nr_k (b : Fin 4) (m : Fin 256) (h : Fin 4) (k : Fin 256) :
    val_main_v33 (F := Ideal) kv (ix4 b m h k) = nr (kr kv b h m) k := by
  pointwise [val_main_v33, val_main_v32]; rw [head_k, ri_k]; rfl

theorem hat_q (b : Fin 4) (s : Fin 2048) (h : Fin 4) (k : Fin 256) :
    val_main_v18 (F := Ideal) q gq (ix4 b s h k) = hat (qr q b h s) (gr gq) k := by
  pointwise [val_main_v18]; rw [nr_q, gain_q]; rfl

theorem hat_k (b : Fin 4) (m : Fin 256) (h : Fin 4) (k : Fin 256) :
    val_main_v36 (F := Ideal) kv gk (ix4 b m h k) = hat (kr kv b h m) (gr gk) k := by
  pointwise [val_main_v36]; rw [nr_k, gain_k]; rfl

/-! ## Scores and weights -/

theorem sc_at (b h : Fin 4) (s : Fin 2048) (m : Fin 256) :
    val_main_v41 (F := Ideal) q kv gq gk (ix4 b h s m) = sc (gr gq) (gr gk) (qr q b h s) (kr kv b h m) := by
  unfold val_main_v41 val_main_v39
  have hq := hat_q q gq
  have hk := hat_k kv gk
  generalize val_main_v18 (F := Ideal) q gq = Q at hq ⊢
  generalize val_main_v36 (F := Ideal) kv gk = K at hk ⊢
  pointwise [val_main_v40, val_main_cst_7]
  simp only [hq, hk]; rfl

theorem max_bot_fold (f : Fin 256 → EReal) : max bot (Finset.univ.fold max bot f) = Finset.univ.fold max bot f :=
  max_eq_right ((Finset.le_fold_max bot).mpr (Or.inl le_rfl))

theorem greatest_at (S : FVec Ideal S4x4x2048x256 .f32) (a : FVec Ideal S_ .f32) (b h : Fin 4) (s : Fin 2048) :
    Host.reduce FloatOps.maximumf S a reducesTo_S4x4x2048x256_S4x4x2048_d3 h_S_ (ix3 b h s)
      = Finset.univ.fold max (a (Shape.Idx.first h_S_)) fun n => S (ix4 b h s n) := by
  pointwise

theorem below_at (S : FVec Ideal S4x4x2048x256 .f32) (M : FVec Ideal S4x4x2048 .f32) (b h : Fin 4) (s : Fin 2048)
    (m : Fin 256) :
    Host.exp (subf S (broadcastInDim S4x4x2048x256 ![0, 1, 2, 3] bcast_S4x4x2048x1_S4x4x2048x256_0_1_2_3
      (broadcastInDim S4x4x2048x1 ![0, 1, 2] bcast_S4x4x2048_S4x4x2048x1_0_1_2 M))) (ix4 b h s m)
      = Ideal.exp (S (ix4 b h s m) - M (ix3 b h s)) := by
  pointwise

theorem floor_at (M : FVec Ideal S4x4x2048 .f32) (b h : Fin 4) (s : Fin 2048) :
    maximumf (val_main_v48 (F := Ideal)) M (ix3 b h s) = max bot (M (ix3 b h s)) := by
  pointwise [val_main_v48, val_main_cst_10]; rfl

theorem from_bot : val_main_cst_8 (F := Ideal) (Shape.Idx.first h_S_) = bot := rfl

theorem ex_at (b h : Fin 4) (s : Fin 2048) (m : Fin 256) :
    val_main_v62 (F := Ideal) q kv gq gk (ix4 b h s m) = ex (gr gq) (gr gk) (qr q b h s) (kr kv b h) m := by
  have hs := sc_at q kv gq gk
  unfold val_main_v62 val_main_v61 val_main_v60 val_main_v59 val_main_v49 val_main_v42
  rw [below_at, floor_at, greatest_at, from_bot, max_bot_fold]
  simp only [hs, ex]

theorem zs_at (b h : Fin 4) (s : Fin 2048) (z : Fin 1) :
    val_main_v64 (F := Ideal) q kv gq gk (ix4 b h s z) = zs (gr gq) (gr gk) (qr q b h s) (kr kv b h) := by
  unfold val_main_v64 val_main_v63
  have he := ex_at q kv gq gk
  generalize val_main_v62 (F := Ideal) q kv gq gk = E at he ⊢
  pointwise [val_main_cst_16]
  simp only [he]; rfl

theorem wt_at (b h : Fin 4) (s : Fin 2048) (m : Fin 256) :
    val_main_v66 (F := Ideal) q kv gq gk (ix4 b h s m) = wt (gr gq) (gr gk) (qr q b h s) (kr kv b h) m := by
  unfold val_main_v66 val_main_v65
  have he := ex_at q kv gq gk
  have hz := zs_at q kv gq gk
  generalize val_main_v62 (F := Ideal) q kv gq gk = E at he ⊢
  generalize val_main_v64 (F := Ideal) q kv gq gk = Z at hz ⊢
  pointwise
  rw [he, hz]; rfl

theorem inv_at (b h : Fin 4) (s : Fin 2048) (z : Fin 1) :
    val_main_v69 (F := Ideal) q kv gq gk (ix4 b h s z)
      = Ideal.div 1 (zs (gr gq) (gr gk) (qr q b h s) (kr kv b h) * zs (gr gq) (gr gk) (qr q b h s) (kr kv b h)) := by
  unfold val_main_v69 val_main_v67
  have hz := zs_at q kv gq gk
  generalize val_main_v64 (F := Ideal) q kv gq gk = Z at hz ⊢
  pointwise [val_main_v68, val_main_cst_17]
  rw [hz]

theorem dw_at (b h : Fin 4) (s : Fin 2048) (m : Fin 256) :
    val_main_v76 (F := Ideal) kv o (ix4 b h s m) = dw (qr o b h s) (vr kv b h m) := by
  unfold val_main_v76
  have ho := head_o o
  have hv := head_v kv
  generalize val_main_v75 (F := Ideal) o = O at ho ⊢
  generalize val_main_v38 (F := Ideal) kv = W at hv ⊢
  pointwise
  simp only [ho, hv]; rfl

theorem ds_at (b h : Fin 4) (s : Fin 2048) (m : Fin 256) :
    val_main_v92 (F := Ideal) q kv gq gk o (ix4 b h s m)
      = ds (gr gq) (gr gk) (qr q b h s) (kr kv b h) (vr kv b h) (qr o b h s) m := by
  unfold val_main_v92 val_main_v90 val_main_v89 val_main_v88 val_main_v87 val_main_v86 val_main_v85 val_main_v84
    val_main_v83 val_main_v82 val_main_v81 val_main_v80 val_main_v79
  have he := ex_at q kv gq gk
  have hz := zs_at q kv gq gk
  have hi := inv_at q kv gq gk
  have hw := dw_at kv o
  generalize val_main_v62 (F := Ideal) q kv gq gk = E at he ⊢
  generalize val_main_v64 (F := Ideal) q kv gq gk = Z at hz ⊢
  generalize val_main_v69 (F := Ideal) q kv gq gk = I at hi ⊢
  generalize val_main_v76 (F := Ideal) kv o = W at hw ⊢
  pointwise [val_main_v91, val_main_cst_18, val_main_cst_19, val_main_cst_20]
  simp only [he, hz, hi, hw, Finset.univ_unique, Finset.sum_singleton]; rfl

/-! ## The gradients of the normed rows and of the values -/

theorem dq_at (b : Fin 4) (s : Fin 2048) (h : Fin 4) (d : Fin 256) :
    val_main_v96 (F := Ideal) q kv gq gk o (ix4 b s h d) = aqh q kv gq gk o b h s d := by
  unfold val_main_v96 val_main_v95
  have hs := ds_at q kv gq gk o
  have hk := hat_k kv gk
  generalize val_main_v92 (F := Ideal) q kv gq gk o = S at hs ⊢
  generalize val_main_v36 (F := Ideal) kv gk = K at hk ⊢
  pointwise
  simp only [hs, hk]; rfl

theorem dk_at (b : Fin 4) (m : Fin 256) (h : Fin 4) (d : Fin 256) :
    val_main_v94 (F := Ideal) q kv gq gk o (ix4 b m h d) = ∑ s, akp q kv gq gk o b h m s d := by
  unfold val_main_v94 val_main_v93
  have hs := ds_at q kv gq gk o
  have hq := hat_q q gq
  generalize val_main_v92 (F := Ideal) q kv gq gk o = S at hs ⊢
  generalize val_main_v18 (F := Ideal) q gq = Q at hq ⊢
  pointwise
  simp only [hs, hq]; rfl

theorem dv_at (b : Fin 4) (m : Fin 256) (h : Fin 4) (d : Fin 256) :
    val_main_v78 (F := Ideal) q kv gq gk o (ix4 b m h d) = gradV q kv gq gk o b h m d := by
  unfold val_main_v78 val_main_v77
  have ho := head_o o
  have hw := wt_at q kv gq gk
  generalize val_main_v75 (F := Ideal) o = O at ho ⊢
  generalize val_main_v66 (F := Ideal) q kv gq gk = W at hw ⊢
  pointwise
  simp only [ho, hw, mul_comm (qr o _ _ _ _)]; rfl

end Cert.ReferenceIdeal.Rows

end
-- ==== Proof.XattnFwdClaims.lean ====
/-
  Attention's forward pass: the heads' weighted sums of the values.
-/
module

public import proofs.«01_k».proof.Defs
public import proofs.«01_k».proof.Proof.Products
public import proofs.«01_k».proof.Proof.Entry
public import proofs.«01_k».proof.Proof.RefRows
public import proofs.«01_k».proof.Proof.Gen.XattnFwdIdeal.Value
public import proofs.«01_k».proof.Proof.Gen.XattnFwdRefIdeal.Run
public import proofs.«01_k».proof.Proof.Gen.XattnFwdRefIdeal.Read
public import Idealize.ShloMosaic.Adequacy

@[expose] public section

set_option maxRecDepth 16384

noncomputable section

namespace Cert.XattnFwdIdeal.Prod

open Idealize.ShloMosaic Idealize.ShloMosaic.TcCoe Idealize.SL.Sem Cert.XattnFwdIdeal Cert.XattnFwdIdeal.Gen Cert.Products Cert.Attn
open scoped BigOperators

/-- A query's weighted sum of the values. -/
def mix (gq gk q : Row) (K V : Fin 256 → Row) (k : Fin 256) : EReal := ∑ m, wt gq gk q K m * V m k

/-- The head of a column. -/
def hd (x : Fin 1024) : Fin 4 := ⟨x.val / 256, by omega⟩
/-- A column's place in its head. -/
def pl (x : Fin 1024) : Fin 256 := ⟨x.val % 256, by omega⟩

theorem col_eq (x : Fin 1024) : col (hd x) (pl x) = x := Fin.ext (by simp only [col, hd, pl]; omega)

/-- The heads' sums side by side, entry by entry. -/
def attended (q : Arr 4 2048 1024) (kv : Arr 4 256 2048) (gq gk : Gain) : Vec Ideal S4x2048x1024 .bf16 :=
  fun i => mix (gr gq) (gr gk) (qr q (i 0) (hd (i 2)) (i 1)) (kr kv (i 0) (hd (i 2))) (vr kv (i 0) (hd (i 2))) (pl (i 2))

/-! ## The body -/

theorem zeros3 : (![0, 0, 0] : Fin 3 → Nat) = fun _ => 0 := funext fun a => by fin_cases a <;> rfl

section Body

open Cert.KernelIdeal.Head

variable (x0 : Vec Ideal S1x256x1024 .f32) (x1 : Vec Ideal S1x256x2048 .f32) (x2 x3 : Vec Ideal S1x256 .f32)

/-- Head `h`'s weighted sums. -/
def sums (h : Fin 4) : FVec Ideal S256x256 .f32 := times (weights (eh x0 x1 x2 x3 h)) (vh x1 h)

/-- The heads' sums side by side. -/
def heads : FVec Ideal S256x1024 .f32 :=
  concatenate S256x1024 1 [⟨S256x256, sums x0 x1 x2 x3 0⟩, ⟨S256x256, sums x0 x1 x2 x3 1⟩,
    ⟨S256x256, sums x0 x1 x2 x3 2⟩, ⟨S256x256, sums x0 x1 x2 x3 3⟩]
    concatenates_S256x256_S256x256_S256x256_S256x256_S256x1024_d1

theorem sums_apply (h : Fin 4) (r k : Fin 256) :
    sums x0 x1 x2 x3 h (ix2 r k) = mix (gain x2) (gain x3) (qrow x0 h r) (krow x1 h) (vrow x1 h) k := by
  unfold sums
  rw [times_apply]
  refine Finset.sum_congr rfl fun m _ => ?_
  rw [show vh x1 h (ix2 m k) = vrow x1 h m k from congrFun (row_vh x1 h m) k]
  pointwise [weights]
  rw [wide_apply, rowSum_apply]
  simp only [eh_apply]
  rfl

theorem heads_apply (h : Fin 4) (r k : Fin 256) :
    heads x0 x1 x2 x3 (ix2 r (col h k)) = sums x0 x1 x2 x3 h (ix2 r k) := by
  have hc : (col h k : ℕ) = 256 * h + k := rfl
  have hk := k.isLt
  unfold heads
  generalize sums x0 x1 x2 x3 = S
  match h with
  | 0 | 1 | 2 | 3 =>
    simp only [Fin.val_zero, Fin.val_one, Fin.val_two, show ((3 : Fin 4) : ℕ) = 3 from rfl] at hc
    pointwise
    repeat' split
    all_goals first
      | (exfalso; omega)
      | (congr 2; apply Fin.ext; simp only [hc]; omega)

theorem stored (y : S1x256x1024.Idx) : out0_4 x0 x1 x2 x3 y
    = shapeCast S1x256x1024 (truncf .bf16 (heads x0 x1 x2 x3) bitsLt_bf16_f32) shapeCasts_S256x1024_S1x256x1024 y := by
  unfold_out out0_4
  rw [View.canon_unit_zero zeros3, View.ld_unit_zero zeros3, View.ld_unit_zero zeros3, View.ld_unit_zero zeros2,
    View.ld_unit_zero zeros2]
  rfl

end Body

/-! ## The blocks -/

variable (m : (ℓ : Loc nD τ sig) → Buf (Elt Ideal) ℓ) (c : Dev nD)

theorem at0 : ∀ t : Fin cfg0.N, win0_0.index t = ![t.val / 8, t.val % 8, 0] :=
  (by decide +kernel : ∀ t : Fin grid0.N, win0_0.index t = ![t.val / 8, t.val % 8, 0])
theorem at1 : ∀ t : Fin cfg0.N, win0_1.index t = ![t.val / 8, 0, 0] :=
  (by decide +kernel : ∀ t : Fin grid0.N, win0_1.index t = ![t.val / 8, 0, 0])
theorem at2 : ∀ t : Fin cfg0.N, win0_2.index t = ![0, 0] :=
  (by decide +kernel : ∀ t : Fin grid0.N, win0_2.index t = ![0, 0])
theorem at3 : ∀ t : Fin cfg0.N, win0_3.index t = ![0, 0] :=
  (by decide +kernel : ∀ t : Fin grid0.N, win0_3.index t = ![0, 0])
theorem at4 : ∀ t : Fin cfg0.N, win0_4.index t = ![t.val / 8, t.val % 8, 0] :=
  (by decide +kernel : ∀ t : Fin grid0.N, win0_4.index t = ![t.val / 8, t.val % 8, 0])

theorem lt_points (t : Fin cfg0.N) : t.val < 32 := lt_of_lt_of_eq t.isLt N_0

/-- The batch of a point. -/
def tb (t : Fin cfg0.N) : Fin 4 := ⟨t.val / 8, by have := lt_points t; omega⟩
/-- The block of queries of a point. -/
def ti (t : Fin cfg0.N) : Fin 8 := ⟨t.val % 8, by omega⟩

abbrev aq : Arr 4 2048 1024 := V m c main_arg0
abbrev akv : Arr 4 256 2048 := V m c main_arg1
abbrev agq : Gain := V m c main_arg2
abbrev agk : Gain := V m c main_arg3

theorem iblk0_apply (t : Fin cfg0.N) (r : Fin 256) (k : Fin 1024) :
    (iblk m c 0 t : Vec Ideal S1x256x1024 .f32) (ix3 0 r k) = aq m c (ix3 (tb t) (qpos (ti t) r) k) := by
  blk_simp [iblk]
  congr 1
  blk_ext [at0, tb, ti, qpos]

theorem iblk1_apply (t : Fin cfg0.N) (r : Fin 256) (k : Fin 2048) :
    (iblk m c 1 t : Vec Ideal S1x256x2048 .f32) (ix3 0 r k) = akv m c (ix3 (tb t) r k) := by
  blk_simp [iblk]
  congr 1
  blk_ext [at1, tb]

theorem iblk2_apply (t : Fin cfg0.N) (k : Fin 256) :
    (iblk m c 2 t : Vec Ideal S1x256 .f32) (ix2 0 k) = agq m c (ix2 0 k) := by
  blk_simp [iblk]
  congr 1
  blk_ext [at2]

theorem iblk3_apply (t : Fin cfg0.N) (k : Fin 256) :
    (iblk m c 3 t : Vec Ideal S1x256 .f32) (ix2 0 k) = agk m c (ix2 0 k) := by
  blk_simp [iblk]
  congr 1
  blk_ext [at3]

theorem out_apply (t : Fin cfg0.N) (z : Fin 1) (r : Fin 256) (x : Fin 1024) :
    out0_4 (iblk m c 0 t) (iblk m c 1 t) (iblk m c 2 t) (iblk m c 3 t) (ix3 z r x)
      = attended (aq m c) (akv m c) (agq m c) (agk m c) (ix3 (tb t) (qpos (ti t) r) x) := by
  rw [stored]
  have eq : KernelIdeal.Head.qrow (iblk m c 0 t) (hd x) r = qr (aq m c) (tb t) (hd x) (qpos (ti t) r) :=
    funext fun k => iblk0_apply m c t r (col (hd x) k)
  have ek : KernelIdeal.Head.krow (iblk m c 1 t) (hd x) = kr (akv m c) (tb t) (hd x) :=
    funext fun r => funext fun k => iblk1_apply m c t r (kcol (hd x) k)
  have ev : KernelIdeal.Head.vrow (iblk m c 1 t) (hd x) = vr (akv m c) (tb t) (hd x) :=
    funext fun r => funext fun k => iblk1_apply m c t r (vcol (hd x) k)
  have e2 : KernelIdeal.Head.gain (iblk m c 2 t) = gr (agq m c) := funext fun k => iblk2_apply m c t k
  have e3 : KernelIdeal.Head.gain (iblk m c 3 t) = gr (agk m c) := funext fun k => iblk3_apply m c t k
  have h := (heads_apply (iblk m c 0 t) (iblk m c 1 t) (iblk m c 2 t) (iblk m c 3 t) (hd x) r (pl x)).trans
    (sums_apply _ _ _ _ _ _ _)
  rw [col_eq, eq, ek, ev, e2, e3] at h
  generalize heads (iblk m c 0 t) (iblk m c 1 t) (iblk m c 2 t) (iblk m c 3 t) = H at h ⊢
  pointwise
  exact h

theorem final : (dats m 0 c).arrAt 4 cfg0.N = attended (aq m c) (akv m c) (agq m c) (agk m c) := by
  refine (dats m 0 c).arrAt_eq_of_covers 4 _ (by decide +kernel) fun t hf y => ?_
  blk_simp
  rw [after0_4]
  rw [show y = ix3 (y 0) (y 1) (y 2) from eq_ix3 (n0 := 1) (n1 := 256) (n2 := 1024) y]
  refine (out_apply m c t (y 0) (y 1) (y 2)).trans ?_
  congr 1
  blk_ext [at4, tb, ti, qpos]

/-! ## The reference -/

variable (q : Arr 4 2048 1024) (kv : Arr 4 256 2048) (gq gk : Gain)

theorem weights_same :
    XattnFwdRefIdeal.Read.val_main_v46 (F := Ideal) q kv gq gk = ReferenceIdeal.Read.val_main_v66 (F := Ideal) q kv gq gk :=
  rfl

theorem values_same :
    XattnFwdRefIdeal.Read.val_main_v32 (F := Ideal) kv = ReferenceIdeal.Read.val_main_v38 (F := Ideal) kv :=
  rfl

theorem reference_at (b : Fin 4) (s : Fin 2048) (h : Fin 4) (k : Fin 256) :
    XattnFwdRefIdeal.Read.val_main_v48 (F := Ideal) q kv gq gk (ix4 b s h k)
      = mix (gr gq) (gr gk) (qr q b h s) (kr kv b h) (vr kv b h) k := by
  unfold XattnFwdRefIdeal.Read.val_main_v48 XattnFwdRefIdeal.Read.val_main_v47
  rw [weights_same, values_same]
  have hw := ReferenceIdeal.Rows.wt_at q kv gq gk
  have hv := ReferenceIdeal.Rows.head_v kv
  generalize ReferenceIdeal.Read.val_main_v66 (F := Ideal) q kv gq gk = W at hw ⊢
  generalize ReferenceIdeal.Read.val_main_v38 (F := Ideal) kv = U at hv ⊢
  pointwise
  simp only [hw, hv, mix, mul_comm]

theorem reference : XattnFwdRefIdeal.Read.val_main_v50 (F := Ideal) q kv gq gk = attended q kv gq gk := by
  funext y
  rw [eq_ix3 (n0 := 4) (n1 := 2048) (n2 := 1024) y]
  generalize (y 0 : Fin 4) = b, (y 1 : Fin 2048) = s, (y 2 : Fin 1024) = x
  have h := reference_at q kv gq gk b s (hd x) (pl x)
  unfold XattnFwdRefIdeal.Read.val_main_v50 XattnFwdRefIdeal.Read.val_main_v49
  generalize XattnFwdRefIdeal.Read.val_main_v48 (F := Ideal) q kv gq gk = Y at h ⊢
  pointwise
  exact h

theorem frame_reference : quiescent_XattnFwdRefIdeal (hXattnFwdRefIdeal := XattnFwdRefIdeal.Gen.facts) := fun m g _ =>
  (θ_run (XattnFwdRefIdeal.defs (F := Ideal)) _ _).mono
    (fun r h => ⟨fun c => (h c).2, sem_eq_zero_of_no_sems (by decide) r.2⟩)
    (XattnFwdRefIdeal.Value.run (F := Ideal) m g)

theorem algebraic : algebraic_XattnFwdIdeal_XattnFwdRefIdeal (hXattnFwdIdeal := XattnFwdIdeal.Gen.facts)
    (hXattnFwdRefIdeal := XattnFwdRefIdeal.Gen.facts) := by
  intro m g m' g' _ hagree
  refine ⟨fun c => attended (aq m c) (akv m c) (agq m c) (agk m c), ?_, ?_⟩
  · exact (θ_run XattnFwdIdeal.defs _ _).mono (fun r h c => ⟨(h c).1.trans (final m c), (h c).2⟩) (XattnFwdIdeal.Value.run_blocks m g)
  · refine (θ_run XattnFwdRefIdeal.defs _ _).mono (fun r h c => ⟨?_, (h c).2⟩) (XattnFwdRefIdeal.Value.run (F := Ideal) m' g')
    · obtain ⟨e0, e1, e2, e3⟩ := hagree c
      refine (h c).1.trans ((XattnFwdRefIdeal.Read.val_main_v50_eq _ _).trans ((reference _ _ _ _).trans ?_))
      rw [e0, e1, e2, e3]

end Cert.XattnFwdIdeal.Prod

end
-- ==== Proof.Shifts.lean ====
/-
  A causal convolution of four taps along 2048 positions, over extended reals.
-/
module

public import Idealize.ShloMosaic.Lib.Pointwise
public import Idealize.ShloMosaic.Lib.IdealHost

@[expose] public section

noncomputable section

namespace Cert.Shifts

open Idealize.ShloMosaic
open scoped BigOperators

/-- The values of a channel along the positions. -/
abbrev Col := Fin 2048 → EReal

/-- The channel `n` positions back, zero before the beginning. -/
def back (n : ℕ) (x : Col) (s : Fin 2048) : EReal := if h : n ≤ s.val then x ⟨s.val - n, by omega⟩ else 0

/-- The channel `n` positions ahead, zero after the end. -/
def ahead (n : ℕ) (x : Col) (s : Fin 2048) : EReal := if h : s.val + n < 2048 then x ⟨s.val + n, h⟩ else 0

/-- The convolution with the taps `w`, the last of them at the position itself. -/
def conv (w : Fin 4 → EReal) (x : Col) (s : Fin 2048) : EReal :=
  x s * w 3 + back 3 x s * w 0 + back 2 x s * w 1 + back 1 x s * w 2

end Cert.Shifts

end
-- ==== Proof.FfnConvClaims.lean ====
/-
  The feed-forward's convolution and gate.
-/
module

public import proofs.«01_k».proof.Defs
public import proofs.«01_k».proof.Proof.Products
public import proofs.«01_k».proof.Proof.Gates
public import proofs.«01_k».proof.Proof.Shifts
public import proofs.«01_k».proof.Proof.Gen.FfnConvIdeal.Value
public import proofs.«01_k».proof.Proof.Gen.FfnConvRefIdeal.Run
public import proofs.«01_k».proof.Proof.Gen.FfnConvRefIdeal.Read
public import Idealize.ShloMosaic.Adequacy

@[expose] public section

set_option maxRecDepth 16384

noncomputable section

namespace Cert.FfnConvIdeal.Prod

open Idealize.ShloMosaic Idealize.ShloMosaic.TcCoe Idealize.SL.Sem Cert.FfnConvIdeal Cert.FfnConvIdeal.Gen Cert.Products Cert.Gates Cert.Shifts
open scoped BigOperators

/-- A column of the left half. -/
def lcol (k : Fin 2816) : Fin 5632 := ⟨k, by omega⟩
/-- A column of the right half. -/
def rcol (k : Fin 2816) : Fin 5632 := ⟨2816 + k, by omega⟩

/-- Channel `k` of batch `b`. -/
def chan (x : Vec Ideal S4x2048x5632 .f32) (b : Fin 4) (k : Fin 5632) : Col := fun s => x (ix3 b s k)
/-- The taps of channel `k`. -/
def taps (w : Vec Ideal S4x5632 .f32) (k : Fin 5632) : Fin 4 → EReal := fun j => w (ix2 j k)

/-- The convolution, entry by entry. -/
def conved (x : Vec Ideal S4x2048x5632 .f32) (w : Vec Ideal S4x5632 .f32) : Vec Ideal S4x2048x5632 .f32 :=
  fun i => conv (taps w (i 2)) (chan x (i 0) (i 2)) (i 1)

/-- The left half times its gate times the right half, entry by entry. -/
def acted (x : Vec Ideal S4x2048x5632 .f32) (w : Vec Ideal S4x5632 .f32) : Vec Ideal S4x2048x2816 .bf16 :=
  fun i => conv (taps w (lcol (i 2))) (chan x (i 0) (lcol (i 2))) (i 1)
    * gate (conv (taps w (lcol (i 2))) (chan x (i 0) (lcol (i 2))) (i 1))
    * conv (taps w (rcol (i 2))) (chan x (i 0) (rcol (i 2))) (i 1)

/-! ## The body's convolution -/

/-- A block moved down by `n` rows, with zeros above. -/
def down (n : BitVec 32) (x : FVec Ideal S2048x256 .f32) : FVec Ideal S2048x256 .f32 :=
  concatenate S2048x256 0
    [⟨S8x256, select (cmpi .sge (iota .tc S8x256 32 [0] iota_S8x256_d0_w32) (broadcast S8x256 n))
        (extractStridedSlice S8x256 ![0, 0] (dynamicRotate 0 n none x rotates_S2048x256_d0) slices_S2048x256_o0_0_S8x256)
        (broadcast S8x256 (Scalar.ofBits .f32 0x00000000#32))⟩,
     ⟨S2040x256, extractStridedSlice S2040x256 ![8, 0] (dynamicRotate 0 n none x rotates_S2048x256_d0) slices_S2048x256_o8_0_S2040x256⟩]
    concatenates_S8x256_S2040x256_S2048x256_d0

/-- Channel `k` of a block. -/
def bchan (x : FVec Ideal S2048x256 .f32) (k : Fin 256) : Col := fun s => x (ix2 s k)
/-- The taps of a block's channel `k`. -/
def btaps (w : Vec Ideal S4x256 .f32) (k : Fin 256) : Fin 4 → EReal := fun j => w (ix2 j k)

theorem zeros3 : (![0, 0, 0] : Fin 3 → Nat) = fun _ => 0 := funext fun a => by fin_cases a <;> rfl

theorem from1 : ∀ q : Fin 8, IntOp.cmpi .sge (BitVec.ofNat 32 q.val) 1#32 = BitVec.ofBool (decide (1 ≤ q.val)) := by decide
theorem from2 : ∀ q : Fin 8, IntOp.cmpi .sge (BitVec.ofNat 32 q.val) 2#32 = BitVec.ofBool (decide (2 ≤ q.val)) := by decide
theorem from3 : ∀ q : Fin 8, IntOp.cmpi .sge (BitVec.ofNat 32 q.val) 3#32 = BitVec.ofBool (decide (3 ≤ q.val)) := by decide

theorem row_eq (x : FVec Ideal S2048x256 .f32) (k : Fin 256) {a b : Fin 2048} (h : a.val = b.val) :
    x (ix2 a k) = x (ix2 b k) := by rw [Fin.ext h]

theorem down1_apply (x : FVec Ideal S2048x256 .f32) (s : Fin 2048) (k : Fin 256) :
    down 1#32 x (ix2 s k) = back 1 (bchan x k) s := by
  have hs := s.isLt
  unfold down
  pointwise
  unfold back bchan
  split
  next h =>
    rw [from1 ⟨s.val, h⟩]
    by_cases hn : 1 ≤ s.val
    · rw [dif_pos hn]
      simp only [hn, decide_true]
      exact row_eq x k (by show (s.val + 2048 - 1) % 2048 = s.val - 1; omega)
    · rw [dif_neg hn]
      simp only [hn, decide_false]
      rfl
  next h =>
    rw [dif_pos (by omega)]
    exact row_eq x k (by show (8 + (s.val - 8) + 2048 - 1) % 2048 = s.val - 1; omega)

theorem down2_apply (x : FVec Ideal S2048x256 .f32) (s : Fin 2048) (k : Fin 256) :
    down 2#32 x (ix2 s k) = back 2 (bchan x k) s := by
  have hs := s.isLt
  unfold down
  pointwise
  unfold back bchan
  split
  next h =>
    rw [from2 ⟨s.val, h⟩]
    by_cases hn : 2 ≤ s.val
    · rw [dif_pos hn]
      simp only [hn, decide_true]
      exact row_eq x k (by show (s.val + 2048 - 2) % 2048 = s.val - 2; omega)
    · rw [dif_neg hn]
      simp only [hn, decide_false]
      rfl
  next h =>
    rw [dif_pos (by omega)]
    exact row_eq x k (by show (8 + (s.val - 8) + 2048 - 2) % 2048 = s.val - 2; omega)

theorem down3_apply (x : FVec Ideal S2048x256 .f32) (s : Fin 2048) (k : Fin 256) :
    down 3#32 x (ix2 s k) = back 3 (bchan x k) s := by
  have hs := s.isLt
  unfold down
  pointwise
  unfold back bchan
  split
  next h =>
    rw [from3 ⟨s.val, h⟩]
    by_cases hn : 3 ≤ s.val
    · rw [dif_pos hn]
      simp only [hn, decide_true]
      exact row_eq x k (by show (s.val + 2048 - 3) % 2048 = s.val - 3; omega)
    · rw [dif_neg hn]
      simp only [hn, decide_false]
      rfl
  next h =>
    rw [dif_pos (by omega)]
    exact row_eq x k (by show (8 + (s.val - 8) + 2048 - 3) % 2048 = s.val - 3; omega)

/-- The body's convolution of a block. -/
def bconv (x : FVec Ideal S2048x256 .f32) (w : Vec Ideal S4x256 .f32) : FVec Ideal S2048x256 .f32 :=
  addf (addf (addf
      (mulf x (broadcastTo S2048x256 (extractStridedSlice S1x256 ![3, 0] w slices_S4x256_o3_0_S1x256) broadcasts_S1x256_S2048x256))
      (mulf (down 3#32 x) (broadcastTo S2048x256 (extractStridedSlice S1x256 ![0, 0] w slices_S4x256_o0_0_S1x256) broadcasts_S1x256_S2048x256)))
      (mulf (down 2#32 x) (broadcastTo S2048x256 (extractStridedSlice S1x256 ![1, 0] w slices_S4x256_o1_0_S1x256) broadcasts_S1x256_S2048x256)))
      (mulf (down 1#32 x) (broadcastTo S2048x256 (extractStridedSlice S1x256 ![2, 0] w slices_S4x256_o2_0_S1x256) broadcasts_S1x256_S2048x256))

theorem bconv_apply (x : FVec Ideal S2048x256 .f32) (w : Vec Ideal S4x256 .f32) (s : Fin 2048) (k : Fin 256) :
    bconv x w (ix2 s k) = conv (btaps w k) (bchan x k) s := by
  have h1 := down1_apply x
  have h2 := down2_apply x
  have h3 := down3_apply x
  unfold bconv
  generalize down 1#32 x = d1 at h1 ⊢
  generalize down 2#32 x = d2 at h2 ⊢
  generalize down 3#32 x = d3 at h3 ⊢
  pointwise
  rw [h1, h2, h3]
  rfl

/-- A block without its batch. -/
def flat (x : Vec Ideal S1x2048x256 .f32) : FVec Ideal S2048x256 .f32 := shapeCast S2048x256 x shapeCasts_S1x2048x256_S2048x256

theorem flat_apply (x : Vec Ideal S1x2048x256 .f32) (s : Fin 2048) (k : Fin 256) : flat x (ix2 s k) = x (ix3 0 s k) := by
  pointwise [flat]

theorem stored (x0 x1 : Vec Ideal S1x2048x256 .f32) (x2 x3 : Vec Ideal S4x256 .f32) :
    out0_4 x0 x1 x2 x3 = k0_pay1 (bconv (flat x0) x2) (bconv (flat x1) x3) := by
  unfold out0_4
  rw [View.canon_unit_zero zeros3]
  simp only [View.ld_unit_zero (S := S1x2048x256) zeros3, View.ld_unit_zero (S := S4x256) zeros2]
  rfl

/-! ## The blocks -/

variable (m : (ℓ : Loc nD τ sig) → Buf (Elt Ideal) ℓ) (c : Dev nD)

theorem at0 : ∀ t : Fin cfg0.N, win0_0.index t = ![t.val / 11, 0, t.val % 11] :=
  (by decide +kernel : ∀ t : Fin grid0.N, win0_0.index t = ![t.val / 11, 0, t.val % 11])
theorem at1 : ∀ t : Fin cfg0.N, win0_1.index t = ![t.val / 11, 0, t.val % 11 + 11] :=
  (by decide +kernel : ∀ t : Fin grid0.N, win0_1.index t = ![t.val / 11, 0, t.val % 11 + 11])
theorem at2 : ∀ t : Fin cfg0.N, win0_2.index t = ![0, t.val % 11] :=
  (by decide +kernel : ∀ t : Fin grid0.N, win0_2.index t = ![0, t.val % 11])
theorem at3 : ∀ t : Fin cfg0.N, win0_3.index t = ![0, t.val % 11 + 11] :=
  (by decide +kernel : ∀ t : Fin grid0.N, win0_3.index t = ![0, t.val % 11 + 11])
theorem at4 : ∀ t : Fin cfg0.N, win0_4.index t = ![t.val / 11, 0, t.val % 11] :=
  (by decide +kernel : ∀ t : Fin grid0.N, win0_4.index t = ![t.val / 11, 0, t.val % 11])

theorem lt_points (t : Fin cfg0.N) : t.val < 44 := lt_of_lt_of_eq t.isLt N_0

/-- The batch of a point. -/
def tb (t : Fin cfg0.N) : Fin 4 := ⟨t.val / 11, by have := lt_points t; omega⟩
/-- The column of a point's channel. -/
def tc (t : Fin cfg0.N) (k : Fin 256) : Fin 2816 := ⟨t.val % 11 * 256 + k, by omega⟩

abbrev ups : Vec Ideal S4x2048x5632 .f32 := V m c main_arg0
abbrev wts : Vec Ideal S4x5632 .f32 := V m c main_arg1

theorem iblk0_apply (t : Fin cfg0.N) (s : Fin 2048) (k : Fin 256) :
    (iblk m c 0 t : Vec Ideal S1x2048x256 .f32) (ix3 0 s k) = ups m c (ix3 (tb t) s (lcol (tc t k))) := by
  blk_simp [iblk]
  congr 1
  blk_ext [at0, tb, tc, lcol]

theorem iblk1_apply (t : Fin cfg0.N) (s : Fin 2048) (k : Fin 256) :
    (iblk m c 1 t : Vec Ideal S1x2048x256 .f32) (ix3 0 s k) = ups m c (ix3 (tb t) s (rcol (tc t k))) := by
  blk_simp [iblk]
  congr 1
  blk_ext [at1, tb, tc, rcol]

theorem iblk2_apply (t : Fin cfg0.N) (j : Fin 4) (k : Fin 256) :
    (iblk m c 2 t : Vec Ideal S4x256 .f32) (ix2 j k) = wts m c (ix2 j (lcol (tc t k))) := by
  blk_simp [iblk]
  congr 1
  blk_ext [at2, tc, lcol]

theorem iblk3_apply (t : Fin cfg0.N) (j : Fin 4) (k : Fin 256) :
    (iblk m c 3 t : Vec Ideal S4x256 .f32) (ix2 j k) = wts m c (ix2 j (rcol (tc t k))) := by
  blk_simp [iblk]
  congr 1
  blk_ext [at3, tc, rcol]

theorem out_apply (t : Fin cfg0.N) (z : Fin 1) (s : Fin 2048) (k : Fin 256) :
    out0_4 (iblk m c 0 t) (iblk m c 1 t) (iblk m c 2 t) (iblk m c 3 t) (ix3 z s k)
      = acted (ups m c) (wts m c) (ix3 (tb t) s (tc t k)) := by
  rw [stored]
  have e0 : bchan (flat (iblk m c 0 t)) k = chan (ups m c) (tb t) (lcol (tc t k)) :=
    funext fun s => (flat_apply _ s k).trans (iblk0_apply m c t s k)
  have e1 : bchan (flat (iblk m c 1 t)) k = chan (ups m c) (tb t) (rcol (tc t k)) :=
    funext fun s => (flat_apply _ s k).trans (iblk1_apply m c t s k)
  have e2 : btaps (iblk m c 2 t) k = taps (wts m c) (lcol (tc t k)) := funext fun j => iblk2_apply m c t j k
  have e3 : btaps (iblk m c 3 t) k = taps (wts m c) (rcol (tc t k)) := funext fun j => iblk3_apply m c t j k
  have h0 := bconv_apply (flat (iblk m c 0 t)) (iblk m c 2 t) s k
  have h1 := bconv_apply (flat (iblk m c 1 t)) (iblk m c 3 t) s k
  rw [e0, e2] at h0
  rw [e1, e3] at h1
  generalize bconv (flat (iblk m c 0 t)) (iblk m c 2 t) = P at h0 ⊢
  generalize bconv (flat (iblk m c 1 t)) (iblk m c 3 t) = Q at h1 ⊢
  unfold k0_pay1
  pointwise
  rw [h0, h1]
  rfl

theorem final : (dats m 0 c).arrAt 4 cfg0.N = acted (ups m c) (wts m c) := by
  refine (dats m 0 c).arrAt_eq_of_covers 4 _ (by decide +kernel) fun t hf y => ?_
  blk_simp
  rw [after0_4]
  rw [show y = ix3 (y 0) (y 1) (y 2) from eq_ix3 (n0 := 1) (n1 := 2048) (n2 := 256) y]
  refine (out_apply m c t (y 0) (y 1) (y 2)).trans ?_
  congr 1
  blk_ext [at4, tb, tc]

/-! ## The reference -/

variable (x : Vec Ideal S4x2048x5632 .f32) (w : Vec Ideal S4x5632 .f32)

theorem padded (b : Fin 4) (k : Fin 5632) (i n : ℕ) (s : Fin 2048) (h : ¬i + s.val < 3 → i + s.val - 3 < 2048) (e : i + n = 3) :
    (if h' : i + s.val < 3 then 0 else x (ix3 b ⟨i + s.val - 3, h h'⟩ k)) = back n (chan x b k) s := by
  unfold back chan
  by_cases hn : n ≤ s.val
  · rw [dif_neg (by omega), dif_pos hn]
    congr 2
    apply Fin.ext
    show i + s.val - 3 = s.val - n
    omega
  · rw [dif_pos (by omega), dif_neg hn]

open FfnConvRefIdeal.Read in
theorem reference_conv : val_main_v30 (F := Ideal) x w = conved x w := by
  funext y
  rw [eq_ix3 (n0 := 4) (n1 := 2048) (n2 := 5632) y]
  generalize (y 0 : Fin 4) = b, (y 1 : Fin 2048) = s, (y 2 : Fin 5632) = k
  have hs := s.isLt
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  refine Eq.trans (b := back 3 (chan x b k) s * w (ix2 0 k) + back 2 (chan x b k) s * w (ix2 1 k)
    + back 1 (chan x b k) s * w (ix2 2 k) + chan x b k s * w (ix2 3 k)) ?_
    (by show _ = chan x b k s * w (ix2 3 k) + back 3 (chan x b k) s * w (ix2 0 k) + back 2 (chan x b k) s * w (ix2 1 k)
          + back 1 (chan x b k) s * w (ix2 2 k)
        ac_rfl)
  refine congrArg₂ (· + ·) (congrArg₂ (· + ·) (congrArg₂ (· + ·) (congrArg (· * _) ?_) (congrArg (· * _) ?_))
    (congrArg (· * _) ?_)) rfl
  · have h := padded x b k 0 3 s (fun _ => by have : s.val < 2048 := hs; omega) rfl
    simp only [zero_add] at h
    exact h
  · exact padded x b k 1 2 s _ rfl
  · exact padded x b k 2 1 s _ rfl

open FfnConvRefIdeal.Read in
theorem reference : val_main_v35 (F := Ideal) x w = acted x w := by
  funext y
  rw [eq_ix3 (n0 := 4) (n1 := 2048) (n2 := 2816) y]
  generalize (y 0 : Fin 4) = b, (y 1 : Fin 2048) = s, (y 2 : Fin 2816) = k
  have e := reference_conv x w
  have e0 : conved x w (ix3 b s (lcol k)) = conv (taps w (lcol k)) (chan x b (lcol k)) s := rfl
  have e1 : conved x w (ix3 b s (rcol k)) = conv (taps w (rcol k)) (chan x b (rcol k)) s := rfl
  unfold acted
  unfold val_main_v35 val_main_v34 val_main_v33 val_main_v32 val_main_call0_v5 val_main_call0_v3 val_main_call0_v1
    val_main_call0_v0 val_main_v31
  show _ = conv (taps w (lcol k)) (chan x b (lcol k)) s * gate (conv (taps w (lcol k)) (chan x b (lcol k)) s)
    * conv (taps w (rcol k)) (chan x b (rcol k)) s
  rw [← e0, ← e1, e]
  generalize conved x w = Y
  pointwise [val_main_call0_v4, val_main_call0_v2, val_main_call0_cst, val_main_call0_cst_0]
  rfl

theorem frame_reference : quiescent_FfnConvRefIdeal (hFfnConvRefIdeal := FfnConvRefIdeal.Gen.facts) := fun m g _ =>
  (θ_run (FfnConvRefIdeal.defs (F := Ideal)) _ _).mono
    (fun r h => ⟨fun c => (h c).2, sem_eq_zero_of_no_sems (by decide) r.2⟩)
    (FfnConvRefIdeal.Value.run (F := Ideal) m g)

theorem algebraic : algebraic_FfnConvIdeal_FfnConvRefIdeal (hFfnConvIdeal := FfnConvIdeal.Gen.facts)
    (hFfnConvRefIdeal := FfnConvRefIdeal.Gen.facts) := by
  intro m g m' g' _ hagree
  refine ⟨fun c => acted (ups m c) (wts m c), ?_, ?_⟩
  · exact (θ_run FfnConvIdeal.defs _ _).mono (fun r h c => ⟨(h c).1.trans (final m c), (h c).2⟩) (FfnConvIdeal.Value.run_blocks m g)
  · refine (θ_run FfnConvRefIdeal.defs _ _).mono (fun r h c => ⟨?_, (h c).2⟩) (FfnConvRefIdeal.Value.run (F := Ideal) m' g')
    · obtain ⟨e0, e1⟩ := hagree c
      refine (h c).1.trans ((FfnConvRefIdeal.Read.val_main_v35_eq _ _).trans ((reference _ _).trans ?_))
      rw [e0, e1]

end Cert.FfnConvIdeal.Prod

end
-- ==== Proof.Exchange.lean ====
/- A launch in which every core's scoped semaphores and every core's arrays are dealt out together.

   A kernel whose cores write straight into one another's arrays, with no handshake before the first copy, wants at
   its start a share of the other cores' arrays and the tokens of the other cores' semaphores. The theorem here hands
   all that the cores hold at launch to one step, which deals it out again as the kernel's protocol asks. -/
module

public import Idealize.ShloMosaic.Lib.Pipeline.Regions
public import Idealize.ShloMosaic.Lib.Pipeline.Kit

@[expose] public section

noncomputable section

namespace Cert.Exchange

open Idealize.ShloMosaic Idealize.ShloMosaic.TcCoe Idealize.ShloMosaic.Pipeline
open Idealize.SL
open Idealize.SL.BI (sProp bigSep bigSep_sep' bigSep_mono bigSep_congr bigSep_univ_prod)
open scoped Idealize.SL.BI
open Idealize.SL.BI.BIBase Idealize.SL.BI.Laws Idealize.SL.Sem Idealize.SL.ProofMode
open Idealize.SL.RA

variable {nD : Nat} {τ : Topo} {sig : RefSig} {Val : EltTy → Type}
variable {Ix : Type} [DecidableEq Ix] {Name : Type} [DecidableEq Name] {U : Type} [URA U] {Lvl : Type} [Preorder Lvl]
variable {Λ : Labels}

local notation "𝕄" => MT nD τ sig Ix Val Name U Lvl

/-- What core `c` holds at launch, apart from the levels of its cells. -/
def atLaunch (O₀ : Dev nD → CellTallies nD τ sig Ix) (m : (ℓ : Loc nD τ sig) → Buf Val ℓ) (g : Dev nD → PrngReg) (c : Dev nD) : sProp 𝕄 :=
  iprop(scopedBufs (c.tc : Thread nD τ) ∗ scopedSems0 (c.tc : Thread nD τ) ∗ unscopedBufs c (fun b => m ((c.tc : Thread nD τ).loc b))
    ∗ unscopedSems0 c ∗ owes (c.tc : Thread nD τ) (O₀ c) ∅ ∗ launchCred O₀ c)

/-- The level facts of the TensorCores' cells, put together from each core's blank levels. -/
theorem levels_assigned (L : GSem nD τ sig → Finset Ix) (lv : GSem nD τ sig → Ix → Lvl) (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  have other (d : Dev nD) (p : Proc τ) (hp : p ≠ Proc.tc) : (coreLevAts ((d, p) : Thread nD τ) L lv : sProp 𝕄) = BI.emp := by
    unfold coreLevAts
    refine (bigSep_congr (Ψ := fun _ : SemLoc sig => (BI.emp : sProp 𝕄)) fun sm _ => ?_).trans (BI.bigSep_emp_const _)
    rw [hL (((d, p) : Thread nD τ), sm) hp, BI.bigSep_empty]
  have all : (levAts L lv : sProp 𝕄) = iprop((bigSep Finset.univ fun d : Dev nD => coreLevAts (d.tc : Thread nD τ) L lv) ∗ emp) := by
    refine (bigSep_univ_prod fun g : GSem nD τ sig => bigSep (L g) fun i => (levAt g i (lv g i) : sProp 𝕄)).trans ?_
    refine (bigSep_threads (fun c : Thread nD τ => coreLevAts c L lv)).trans ?_
    refine congrArg (fun R : sProp 𝕄 => iprop((bigSep Finset.univ fun d : Dev nD => coreLevAts (d.tc : Thread nD τ) L lv) ∗ R)) ?_
    refine (bigSep_congr (Ψ := fun _ : Dev nD => (BI.emp : sProp 𝕄)) fun d _ => ?_).trans (BI.bigSep_emp_const _)
    exact (bigSep_congr (Ψ := fun _ : Proc τ => (BI.emp : sProp 𝕄)) fun p hp => other d p (Finset.ne_of_mem_erase hp)).trans (BI.bigSep_emp_const _)
  have keep : (bigSep Finset.univ fun c : Dev nD =>
        iprop((bigSep Finset.univ fun sm : SemLoc sig => levels ((c.tc : Thread nD τ), sm) (L ((c.tc : Thread nD τ), sm))) ∗ coreLevAts (c.tc : Thread nD τ) L lv))
      ⊢ (levAts L lv : sProp 𝕄) := by
    rw [all, bigSep_sep']
    iintro ⟨-, H⟩
    isplitl [H]
    · iexact H
    · iempintro
  exact (bigSep_mono fun c _ => lev_assign_cells (c.tc : Thread nD τ) L lv).trans ((BI.bigSep_bupd _ _).trans (BI.bupd_mono keep))

/-- A program launched with counters at zero: one step `deal` turns what all the cores hold into the cores' starts,
    each core runs from its start (`run`), and the ends are read against the final memory (`read`). -/
theorem run_dealt [Infinite Name] {defs : Defs nD τ sig Val Λ} (𝒱 : Variants) (main : Dev nD → Prog (TpuEff nD τ sig Val Λ .tc) PUnit)
    (m : (ℓ : Loc nD τ sig) → Buf Val ℓ) (g : Dev nD → PrngReg) (O₀ : Dev nD → CellTallies nD τ sig Ix)
    (L : GSem nD τ sig → Finset Ix) (lv : GSem nD τ sig → Ix → Lvl) (hL : ∀ g : GSem nD τ sig, g.1.2 ≠ .tc → L g = ∅) (u₀ : U)
    (start fin : Dev nD → sProp 𝕄)
    (deal : iprop((bigSep Finset.univ fun c : Dev nD => atLaunch O₀ m g c) ∗ levAts L lv ∗ ownU u₀) ⊢ |={Set.univ}=> bigSep Finset.univ start)
    (run : ∀ c : Dev nD, start c ⊢ wp frame (wpE defs 𝒱 (c.tc : Thread nD τ) none) Set.univ (main c)
      (fun _ => iprop((fin c ∗ scopedSems0 (c.tc : Thread nD τ)) ∗ ∃ W, owes (c.tc : Thread nD τ) (0 : CellTallies nD τ sig Ix) W)))
    (QY : Dev nD → MemSt nD τ sig Val → Prop)
    (read : ∀ c (s' : Phys nD τ sig Val), iprop(fin c ∗ SI s') ⊢ |={Set.univ}=> iprop(⌜QY c s'.mem⌝ ∗ SI s')) :
    θ_run defs (onTc main) ⟨m, fun _ => 0, g⟩ (fun r => (∀ c : Dev nD, QY c r.2)
      ∧ ∀ g' : GSem nD τ sig, (g'.1.2 ≠ .tc ∨ g'.2.isScoped .tc = true) → r.2.sem g' = 0) := by
  classical
  refine (θ_run defs _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu defs _ _ _
    (reflect_intro_fupd_tc_sems (X := Unit) 𝒱 (owing O₀) 0 (noBookings fun _ => le_rfl) (owing_of_ne O₀) u₀ (fun _ => start)
      (fun _ c => iprop(fin c ∗ scopedSems0 (c.tc : Thread nD τ)))
      (fun _ => iprop(emp)) Set.univ ?_ (fun _ c => ?_) fun _ => ?_))
  · have held (c : Dev nD) : coreInit (Ix := Ix) (Name := Name) (U := U) (Lvl := Lvl) (owing O₀) 0 (⟨m, fun _ => 0, g⟩ : MemSt nD τ sig Val) (c.tc : Thread nD τ)
        ⊢ iprop(atLaunch O₀ m g c ∗ levels0 c) := (coreInit_boundary_owing O₀ m g c).trans (by
      unfold boundary atLaunch
      iintro ⟨⟨Hsb, Hss, -⟩, Hub, Hus, HO, Hlv, -, Hcr⟩
      isplitr [Hlv]
      · isplitl [Hsb]; · iexact Hsb
        isplitl [Hss]; · iexact Hss
        isplitl [Hub]; · iexact Hub
        isplitl [Hus]; · iexact Hus
        isplitl [HO]; · iexact HO
        iexact Hcr
      · iexact Hlv)
    have helds : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => atLaunch O₀ m g c) ∗ bigSep Finset.univ fun c : Dev nD => (levels0 c : sProp 𝕄)) := by
      rw [← bigSep_sep']
      exact bigSep_mono fun c _ => held c
    iintro ⟨Hc, Hu⟩
    ihave Hc' := helds $$ Hc
    icases Hc' with ⟨Hall, Hlv⟩
    imod (levels_assigned L lv hL) $$ Hlv with Hla
    imod deal $$ [Hall Hla Hu] with HS
    · isplitl [Hall]; · iexact Hall
      isplitl [Hla] <;> iassumption
    imodintro
    iexists ()
    isplitl [HS]; · iexact HS
    iempintro
  · refine (run c).trans (wp_mono _ _ _ fun _ => ?_)
    unfold post; simp only [liftTc_tc]
    exact BI.Entails.refl _
  · have last (c : Dev nD) (s' : Phys nD τ sig Val) : iprop((fin c ∗ scopedSems0 (c.tc : Thread nD τ)) ∗ SI s') ⊢ |={Set.univ}=>
        iprop(⌜QY c s'.mem ∧ ∀ sm : SemLoc sig, sm.isScoped .tc = true → s'.mem.sem ((c.tc : Thread nD τ), sm) = 0⌝ ∗ SI s') := by
      iintro ⟨⟨Hf, Hss⟩, HSI⟩
      ihave %hz := (tcScoped_read_pers c s') $$ [Hss HSI]
      · isplitl [Hss] <;> iassumption
      imod (read c s') $$ [Hf HSI] with ⟨%hy, HSI⟩
      · isplitl [Hf] <;> iassumption
      imodintro
      isplitr
      · ipureintro; exact ⟨hy, hz⟩
      · iexact HSI
    iintro ⟨H, -, Hsc⟩ %s' HSI
    ihave %hsc := (scSems_read_zero m g s') $$ [Hsc HSI]
    · isplitl [Hsc] <;> iassumption
    imod (posts_fupd Finset.univ last s') $$ [H HSI] with %h
    · isplitl [H] <;> iassumption
    imodintro
    ipureintro
    exact ⟨fun c => h c (Finset.mem_univ c), hsc⟩

end Cert.Exchange
-- ==== Proof.Copies.lean ====
/- Copies exchanged between cores, with no handshake before the first one.

   Every core copies `P` pieces of an array of its own into other cores' receiving arrays and waits until its own `P`
   pieces have come. The copies begin at once, so every core starts with the pieces of the other cores' receiving
   arrays that it fills, and the landed pieces come back to their core through its own waits. What a launch has to
   deal out for that, one core's copies and waits, and what a finished core's memory shows are proved here once for
   every such exchange; a kernel names its pieces, its semaphores and its partners (`Plan`). -/
module

public import proofs.«01_k».proof.Proof.Exchange
public import Idealize.ShloMosaic.Lib.Pipeline.FrameBody
public import Idealize.ShloMosaic.Lib.Ring
public import Idealize.ShloMosaic.Lib.Pipeline.BigSepL
public import Idealize.ShloMosaic.Lib.Tactic

@[expose] public section

noncomputable section

namespace Cert.Copies

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

/-- An exchange of `P` pieces per core: the pieces a core sends, the places of the receiving array, the semaphores (a
    send's first, then an arrival's), the core piece `k` of a core goes to, which is also the core that fills its own
    place `k`, and what a landed piece counts on its semaphore. -/
structure Plan (nD : ℕ) (τ : Topo) (sig : RefSig) (P : ℕ) where
  shape : Shape
  elt : EltTy
  src : Dev nD → Fin P → Memref sig .tc .hbm shape elt
  dst : Fin P → Memref sig .tc .hbm shape elt
  sem : Fin P ⊕ Fin P → DmaSem sig
  sem_inj : Function.Injective sem
  peer : Dev nD → Fin P → Dev nD
  peer_peer : ∀ c k, peer (peer c k) k = c
  credit : ℕ
  credit_pos : 0 < credit
  src_credit : ∀ c k, (src c k).view.dmaCredit = credit
  dst_credit : ∀ k, (dst k).view.dmaCredit = credit
  far : ∀ c k, τ.routes (c.tc : Thread nD τ) ((peer c k).tc : Thread nD τ) = true

variable {nD : ℕ} {τ : Topo} {sig : RefSig} {P : ℕ} {Val : EltTy → Type} {U : Type} [URA U] {Λ : Labels}

/-- One operation per member of a list, then the rest. -/
def series {α : Type} (op : Fin P → TpuEff nD τ sig Val Λ .tc PUnit) : List (Fin P) → Prog (TpuEff nD τ sig Val Λ .tc) α → Prog (TpuEff nD τ sig Val Λ .tc) α
  | [], k => k
  | j :: l, k => .op (op j) fun _ => series op l k

local notation "𝕄" => MT nD τ sig Unit Val ℕ U ℕ

/-- A series run one operation at a time: each turns its `A` into its `B` and moves the common state `S` one on. -/
theorem series_run {α : Type} {defs : Defs nD τ sig Val Λ} (𝒱 : Variants) (c : Dev nD) (op : Fin P → TpuEff nD τ sig Val Λ .tc PUnit)
    (A B : Fin P → sProp 𝕄) (S : List (Fin P) → sProp 𝕄) (Q : α → sProp 𝕄)
    (step : ∀ j l (K : PUnit → Prog (TpuEff nD τ sig Val Λ .tc) α), iprop(A j ∗ S (j :: l))
      ⊢ iprop(((B j ∗ S l) -∗ wp frame (wpE defs 𝒱 (c : Thread nD τ) none) Set.univ (K ⟨⟩) Q)
        -∗ wp frame (wpE defs 𝒱 (c : Thread nD τ) none) Set.univ (.op (op j) K) Q))
    (l : List (Fin P)) (k : Prog (TpuEff nD τ sig Val Λ .tc) α) :
    iprop(bigSepL l A ∗ S l) ⊢ iprop(((bigSepL l B ∗ S []) -∗ wp frame (wpE defs 𝒱 (c : Thread nD τ) none) Set.univ k Q)
      -∗ wp frame (wpE defs 𝒱 (c : Thread nD τ) none) Set.univ (series op l k) Q) := by
  induction l with
  | nil =>
    iintro H HK
    iapply HK; iexact H
  | cons j l ih =>
    rw [bigSepL_cons', bigSepL_cons']
    iintro ⟨⟨HA, HL⟩, HS⟩ HK
    iapply (step j l fun _ => series op l k) $$ [HA HS]
    · isplitl [HA] <;> iassumption
    iintro ⟨HB, HS⟩
    iapply ih $$ [HL HS]
    · isplitl [HL] <;> iassumption
    iintro ⟨HL, HS⟩
    iapply HK
    isplitr [HS]
    · isplitl [HB] <;> iassumption
    iexact HS

theorem listed (Φ : Fin P → sProp 𝕄) : bigSep Finset.univ Φ = bigSepL (List.finRange P) Φ :=
  bigSep_univ_eq_bigSepL _ (Finset.ext fun k => by simp) (List.nodup_finRange P) Φ

theorem both (Φ : Fin P ⊕ Fin P → sProp 𝕄) :
    bigSep Finset.univ Φ = iprop((bigSep Finset.univ fun k => Φ (.inl k)) ∗ bigSep Finset.univ fun k => Φ (.inr k)) := bigSep_univ_sum Φ

/-- An array held outright is kept at one share and lent, a part of it at a time, at others. -/
theorem lent {ℓ : Loc nD τ sig} (I : Fin P → Finset (Idx ℓ)) (f : Buf Val ℓ) :
    (ℓ ↦{fullShare} f : sProp 𝕄) ⊢ iprop((∃ q : PosShare TreeShare, ℓ ↦{q} f) ∗ bigSep Finset.univ fun k : Fin P => iprop(∃ q, ℓ ↦[I k]{q} f)) := by
  have hk (k : Fin P) : (ℓ ↦{Transfers.shareTok fullShare P k} f : sProp 𝕄) ⊢ iprop(∃ q, ℓ ↦[I k]{q} f) := by
    iintro H
    iexists (Transfers.shareTok fullShare P k)
    ihave H' := (pointsTo_split_subset (Finset.subset_univ (I k))).1 $$ H
    icases H' with ⟨H, -⟩
    iexact H
  have hs : (bigSep Finset.univ fun k : Fin P => (ℓ ↦{Transfers.shareTok fullShare P k} f : sProp 𝕄)) ⊢ bigSep Finset.univ fun k : Fin P => iprop(∃ q, ℓ ↦[I k]{q} f) :=
    BI.bigSep_mono fun k _ => hk k
  iintro HA
  ihave HA' := (Transfers.pointsTo_toks_split fullShare P) $$ HA
  icases HA' with ⟨HK, HS⟩
  isplitl [HK]; · iexists _; iexact HK
  iapply hs; iexact HS

/-- An array held at some share, read against the final memory. -/
theorem whole_read {ℓ : Loc nD τ sig} (f : Buf Val ℓ) (s : Phys nD τ sig Val) :
    iprop((∃ q : PosShare TreeShare, ℓ ↦{q} f) ∗ SI s) ⊢ (⌜s.mem.mem ℓ = f⌝ : sProp 𝕄) := by
  iintro ⟨⟨%q, HK⟩, HS⟩
  have h := SI_pointsTo_agree (Ix := Unit) (Name := ℕ) (U := U) (Lvl := ℕ) (st := s) (ℓ := ℓ) (I := Finset.univ) (q := q) (f := f)
  ihave %e := h $$ [HS HK]
  · isplitl [HS] <;> iassumption
  ipureintro
  exact funext fun i => e i (Finset.mem_univ i)

/-- Several arrays held whole, read against the final memory. -/
theorem wholes_read {K : Type} [Fintype K] [DecidableEq K] (ℓ : K → Loc nD τ sig) (f : (w : K) → Buf Val (ℓ w)) (s : Phys nD τ sig Val) :
    iprop((bigSep Finset.univ fun w => (ℓ w ↦{fullShare} f w : sProp 𝕄)) ∗ SI s) ⊢ (⌜∀ w, s.mem.mem (ℓ w) = f w⌝ : sProp 𝕄) := by
  refine Entails.trans (forall_intro fun w => ?_) pure_forall.2
  rw [show (bigSep Finset.univ fun w => (ℓ w ↦{fullShare} f w : sProp 𝕄))
      = iprop((ℓ w ↦{fullShare} f w) ∗ bigSep (Finset.univ.erase w) fun w => (ℓ w ↦{fullShare} f w : sProp 𝕄)) from BI.bigSep_erase (Finset.mem_univ w)]
  iintro ⟨⟨HL, -⟩, HS⟩
  iapply (whole_read (f w) s)
  isplitl [HL]
  · iexists fullShare; iexact HL
  iexact HS

namespace Plan

variable (p : Plan nD τ sig P) (m : (ℓ : Loc nD τ sig) → Buf Val ℓ)

/-! ## The cells and their rounds -/

/-- The semaphores of core `c`. -/
abbrev cell (c : Dev nD) (j : Fin P ⊕ Fin P) : GSem nD τ sig := ((c : Thread nD τ), .dma (p.sem j))

theorem cell_inj {c d : Dev nD} {j j' : Fin P ⊕ Fin P} : p.cell c j = p.cell d j' ↔ c = d ∧ j = j' :=
  ⟨fun h => ⟨congrArg (fun g : GSem nD τ sig => g.1.1) h, p.sem_inj (SemLoc.dma.inj (congrArg Prod.snd h))⟩, fun h => by rw [h.1, h.2]⟩

/-- What lies in place `k` of core `c`'s receiving array once it has landed, on the place. -/
def landed (c : Dev nD) (k : Fin P) : Buf Val ((p.dst k).view.loc (c : Thread nD τ)) :=
  (p.dst k).view.write Val (m ((p.dst k).view.loc (c : Thread nD τ)))
    ((p.src (p.peer c k) k).view.read Val (m ((p.src (p.peer c k) k).view.loc (p.peer c k : Thread nD τ)))) Finset.univ

def landedPts (c : Dev nD) (k : Fin P) : sProp 𝕄 :=
  iprop((p.dst k).view.loc (c : Thread nD τ) ↦[(p.dst k).view.set]{fullShare} p.landed m c k)

/-- The piece core `c` sends as piece `k`, at a share. -/
def srcPts (c : Dev nD) (k : Fin P) (q : PosShare TreeShare) : sProp 𝕄 :=
  iprop((p.src c k).view.loc (c : Thread nD τ) ↦[(p.src c k).view.set]{q} m ((p.src c k).view.loc (c : Thread nD τ)))

/-- Place `k` of core `c`'s receiving array as launched. -/
def dstPts (c : Dev nD) (k : Fin P) : sProp 𝕄 :=
  iprop((p.dst k).view.loc (c : Thread nD τ) ↦[(p.dst k).view.set]{fullShare} m ((p.dst k).view.loc (c : Thread nD τ)))

instance landedPts_storable (c : Dev nD) (k : Fin P) : BI.Storable (upEmb : UEmb _ 𝕄) (p.landedPts m c k) := by
  unfold landedPts; infer_instance

/-- What a full round of a semaphore hands over: an arrival's piece, and nothing for a send. -/
def pay (g : GSem nD τ sig) : sProp 𝕄 :=
  bigSep (Finset.univ.filter fun k : Fin P => g.2 = .dma (p.sem (.inr k))) fun k => p.landedPts m g.1.1 k

instance pay_storable (g : GSem nD τ sig) : BI.Storable (upEmb : UEmb _ 𝕄) (p.pay (U := U) m g) := by unfold pay; infer_instance

/-- One round of one duty per semaphore. -/
def rounds : Schedule (GSem nD τ sig) Unit 𝕄 where
  duties g r := if r = 0 ∧ g.1.2 = .tc then {()} else ∅
  amount _ _ _ := p.credit
  payload g _ _ := p.pay m g
  amount_pos _ _ _ _ := p.credit_pos

instance rounds_storable (g : GSem nD τ sig) (r : ℕ) (d : Unit) : BI.Storable (upEmb : UEmb _ 𝕄) ((p.rounds (U := U) m).payload g r d) := p.pay_storable m g

theorem duties_zero (c : Dev nD) (sm : SemLoc sig) : (p.rounds (U := U) m).duties ((c : Thread nD τ), sm) 0 = {()} := by
  simp [rounds]
theorem duties_later (g : GSem nD τ sig) (r : ℕ) (h : 1 ≤ r) : (p.rounds (U := U) m).duties g r = ∅ := if_neg fun h' => by omega
theorem expect_zero (c : Dev nD) (sm : SemLoc sig) : (p.rounds (U := U) m).expect ((c : Thread nD τ), sm) 0 = p.credit := by
  rw [Schedule.expect, duties_zero]; exact Finset.sum_singleton ..
theorem payload_send (c : Dev nD) (k : Fin P) : (p.rounds (U := U) m).payload (p.cell c (.inl k)) 0 () = iprop(emp) := by
  show p.pay m (p.cell c (.inl k)) = _
  unfold pay
  rw [Finset.filter_eq_empty_iff.mpr fun j _ h => Sum.inl_ne_inr (p.sem_inj (SemLoc.dma.inj h))]
  exact BI.bigSep_empty
theorem payload_recv (c : Dev nD) (k : Fin P) : (p.rounds (U := U) m).payload (p.cell c (.inr k)) 0 () = p.landedPts m c k := by
  show p.pay m (p.cell c (.inr k)) = _
  unfold pay
  rw [show (Finset.univ.filter fun j : Fin P => (p.cell c (.inr k)).2 = .dma (p.sem (.inr j))) = {k} from
    Finset.ext fun j => by
      simp only [Finset.mem_filter, Finset.mem_univ, true_and, Finset.mem_singleton]
      exact ⟨fun h => (Sum.inr_injective (p.sem_inj (SemLoc.dma.inj h))).symm, fun h => by rw [h]⟩]
  exact BI.bigSep_singleton ..
theorem rest_zero (c : Dev nD) (sm : SemLoc sig) :
    bigSep ((p.rounds (U := U) m).duties ((c : Thread nD τ), sm) 0 \ ∅) (fun d => (p.rounds (U := U) m).payload ((c : Thread nD τ), sm) 0 d)
      = (p.rounds (U := U) m).payload ((c : Thread nD τ), sm) 0 () := by
  rw [duties_zero, Finset.sdiff_empty]; exact BI.bigSep_singleton ..

/-- What core `c` owes at launch: one whole piece to an arrival of each of its partners. -/
abbrev due (c : Dev nD) (k : Fin P) : CellTallies nD τ sig Unit := tallyAt (p.cell (p.peer c k) (.inr k)) () p.credit
/-- What it still owes before the pieces in `l` are sent. -/
def owedL (c : Dev nD) (l : List (Fin P)) : CellTallies nD τ sig Unit := (l.map (p.due c)).sum
def owed₀ (c : Dev nD) : CellTallies nD τ sig Unit := p.owedL c (List.finRange P)

/-! ## One copy, and one wait -/

variable (ER : Emb (UR sig nD τ) (MT nD τ sig Unit Val ℕ U ℕ))

/-- What sending piece `k` asks, -/
def sendKit (κ : Dev nD → Fin P ⊕ Fin P → ℕ) (c : Dev nD) (k : Fin P) : sProp 𝕄 :=
  iprop(cellInv ER (p.rounds m) (κ c (.inl k)) (p.cell c (.inl k))
    ∗ cellInv ER (p.rounds m) (κ (p.peer c k) (.inr k)) (p.cell (p.peer c k) (.inr k))
    ∗ (∃ q, p.srcPts m c k q) ∗ p.dstPts m (p.peer c k) k ∗ dutyTok ER (p.cell c (.inl k)) 0 () ∗ reached ER (p.cell c (.inl k)) 0
    ∗ dutyTok ER (p.cell (p.peer c k) (.inr k)) 0 () ∗ reached ER (p.cell (p.peer c k) (.inr k)) 0 ∗ atPos ER (p.cell c (.inl k)) 0 ∅ 0)

/-- what is left of that for its wait, -/
def sentKit (κ : Dev nD → Fin P ⊕ Fin P → ℕ) (c : Dev nD) (k : Fin P) : sProp 𝕄 :=
  iprop(cellInv ER (p.rounds m) (κ c (.inl k)) (p.cell c (.inl k)) ∗ cred (tallyAt (p.cell c (.inl k)) () p.credit)
    ∗ atPos ER (p.cell c (.inl k)) 0 ∅ 0)

/-- what waiting for the arrival of piece `k` asks, -/
def recvKit (κ : Dev nD → Fin P ⊕ Fin P → ℕ) (c : Dev nD) (k : Fin P) : sProp 𝕄 :=
  iprop(cellInv ER (p.rounds m) (κ c (.inr k)) (p.cell c (.inr k)) ∗ cred (tallyAt (p.cell c (.inr k)) () p.credit)
    ∗ atPos ER (p.cell c (.inr k)) 0 ∅ 0)

variable {defs : Defs nD τ sig Val Λ} (𝒱 : Variants) {α : Type}

theorem send_step (κ : Dev nD → Fin P ⊕ Fin P → ℕ) (c : Dev nD) (k : Fin P) (l : List (Fin P)) {sS sR : SemLoc sig}
    (hS : sS = .dma (p.sem (.inl k))) (hR : sR = .dma (p.sem (.inr k)))
    {hsc : (p.dst k).view.ref.isScScratch = false} {hsrc : (p.src c k).view.WordExact} {hdst : (p.dst k).view.WordExact}
    {hsem : DmaTarget.Typed .hbm sR (.remote ((p.peer c k).tc : Thread nD τ) (p.dst k) sS hsc)}
    (K : PUnit → Prog (TpuEff nD τ sig Val Λ .tc) α) (Q : α → sProp 𝕄) :
    iprop(p.sendKit m ER κ c k ∗ ∃ W, owes (c : Thread nD τ) (p.owedL c (k :: l)) W)
      ⊢ iprop(((p.sentKit m ER κ c k ∗ ∃ W, owes (c : Thread nD τ) (p.owedL c l) W) -∗ wp frame (wpE defs 𝒱 (c : Thread nD τ) none) Set.univ (K ⟨⟩) Q)
          -∗ wp frame (wpE defs 𝒱 (c : Thread nD τ) none) Set.univ
            (.op (.enqueueDma (p.src c k) (.remote ((p.peer c k).tc : Thread nD τ) (p.dst k) sS hsc) sR hsrc hdst hsem) K) Q) := by
  subst hS; subst hR
  have h (q : PosShare TreeShare) (W : Waits sig Unit) := Rounds.wp_send_pointsTo (defs := defs) (Γ := .empty) 𝒱 ER (p.rounds m) (c : Thread nD τ) none (c' := (p.peer c k : Thread nD τ)) (src := p.src c k) (dst := p.dst k)
      (sS := .dma (p.sem (.inl k))) (sem := .dma (p.sem (.inr k))) (hsc := hsc) (hsrc := hsrc) (hdst := hdst) (hsem := hsem) (k := K) (Q := Q) (q := q)
      (fs := m ((p.src c k).view.loc (c : Thread nD τ))) (κ₁ := κ c (.inl k)) (κ₂ := κ (p.peer c k) (.inr k)) (Es := Set.univ)
      (r₁ := 0) (r₂ := 0) (d₁ := ()) (d₂ := ()) (fd := m ((p.dst k).view.loc (p.peer c k : Thread nD τ)))
      (by rw [duties_zero]; exact Finset.mem_singleton_self _) (by rw [duties_zero]; exact Finset.mem_singleton_self _)
      () () p.credit (p.dst_credit k) rfl rfl (p.owedL c l) (List.sum_cons.trans (add_comm _ _)) (W := W)
      (by rw [payload_send]; exact Affine.affine) (by rw [payload_recv]; unfold landedPts landed; rw [p.peer_peer]) (p.far c k)
  unfold sendKit sentKit srcPts dstPts
  iintro ⟨⟨#I1, #I2, ⟨%q, S⟩, D, T, #R, V, #V', A⟩, %W, HO⟩ HK
  iapply (h q W) $$ [S D HO T V]
  · isplitr; · iexact I1
    isplitr; · iexact I2
    isplitl [S]; · iexact S
    isplitl [D]; · iexact D
    isplitl [HO]; · iexact HO
    isplitl [T]; · iexact T
    isplitr; · iexact R
    isplitl [V]; · iexact V
    iexact V'
  iintro ⟨E, HO⟩
  iapply HK
  isplitr [HO]
  · isplitr; · iexact I1
    isplitl [E] <;> iassumption
  iexists W; iexact HO

theorem close (g : GSem nD τ sig) (κ : ℕ) :
    iprop(cellInv ER (p.rounds m) κ g ∗ atPos ER g 1 ∅ 0) ⊢ iprop(|={Set.univ}=> semVal g 0) :=
  Rounds.cell_close ER (p.rounds m) (Set.mem_univ κ) id (p.duties_later m g)

/-- A wait for the whole round of a semaphore `j`, by an operation that counts a piece. -/
theorem wait_step (c : Dev nD) (j : Fin P ⊕ Fin P) (κ : ℕ) {w : TpuEff nD τ sig Val Λ .tc PUnit}
    (hw : ∀ K : PUnit → sProp 𝕄, wpE defs 𝒱 (c : Thread nD τ) none Set.univ w K = waitSpec (c : Thread nD τ) Set.univ (.dma (p.sem j)) p.credit K)
    (K : PUnit → Prog (TpuEff nD τ sig Val Λ .tc) α) (Q : α → sProp 𝕄) :
    iprop((cellInv ER (p.rounds m) κ (p.cell c j) ∗ cred (tallyAt (p.cell c j) () p.credit) ∗ atPos ER (p.cell c j) 0 ∅ 0) ∗ ∃ W, owes (c : Thread nD τ) 0 W)
      ⊢ iprop((((semVal (p.cell c j) 0 ∗ (p.rounds m).payload (p.cell c j) 0 ()) ∗ ∃ W, owes (c : Thread nD τ) 0 W)
            -∗ wp frame (wpE defs 𝒱 (c : Thread nD τ) none) Set.univ (K ⟨⟩) Q)
          -∗ wp frame (wpE defs 𝒱 (c : Thread nD τ) none) Set.univ (.op w K) Q) := by
  have h (W : Waits sig Unit) := Rounds.wp_wait_rest_token (Γ := .empty) 𝒱 ER (p.rounds m) (c : Thread nD τ) none (κ := κ) (Q := Q) (k := K) (k' := p.credit) (defs := defs) (w := w)
      hw (Set.mem_univ _) () (O := 0) (W := W) (R := 0) (m := 0) (T := ∅) ((Nat.zero_add _).trans (p.expect_zero m c (.dma (p.sem j))).symm)
  iintro ⟨⟨#HI, Hc, Hat⟩, %W, HO⟩ HK
  iapply (h W) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (p.rest_zero m c (.dma (p.sem j)))) $$ Hpay
  imod (p.close m ER (p.cell c j) κ) $$ [Hat] with Hs
  · isplitr; · iexact HI
    iexact Hat
  iapply HK
  isplitr [HO]
  · isplitl [Hs] <;> iassumption
  iexists _; iexact HO

/-- What core `c` starts the exchange with, and what it has at its end. -/
def kits (c : Dev nD) : sProp 𝕄 :=
  iprop(∃ κ : Dev nD → Fin P ⊕ Fin P → ℕ, bigSep Finset.univ (p.sendKit m ER κ c) ∗ bigSep Finset.univ (p.recvKit m ER κ c))
def done (c : Dev nD) : sProp 𝕄 := iprop(bigSep Finset.univ (p.landedPts m c) ∗ bigSep Finset.univ fun j => semVal (p.cell c j) 0)

/-! ## All of a core's copies, and all of its waits -/

theorem sends_run (κ : Dev nD → Fin P ⊕ Fin P → ℕ) (c : Dev nD) (op : Fin P → TpuEff nD τ sig Val Λ .tc PUnit)
    (hop : ∀ k, ∃ hsc hsrc hdst hsem, op k = .enqueueDma (p.src c k) (.remote ((p.peer c k).tc : Thread nD τ) (p.dst k) (.dma (p.sem (.inl k))) hsc)
      (.dma (p.sem (.inr k))) hsrc hdst hsem) (K : Prog (TpuEff nD τ sig Val Λ .tc) α) (Q : α → sProp 𝕄) :
    iprop(bigSep Finset.univ (p.sendKit m ER κ c) ∗ ∃ W, owes (c : Thread nD τ) (p.owed₀ c) W)
      ⊢ iprop(((bigSep Finset.univ (p.sentKit m ER κ c) ∗ ∃ W, owes (c : Thread nD τ) 0 W) -∗ wp frame (wpE defs 𝒱 (c : Thread nD τ) none) Set.univ K Q)
          -∗ wp frame (wpE defs 𝒱 (c : Thread nD τ) none) Set.univ (series op (List.finRange P) K) Q) := by
  rw [listed, listed]
  refine series_run 𝒱 c op _ _ (fun l => iprop(∃ W, owes (c : Thread nD τ) (p.owedL c l) W)) Q (fun j l K' => ?_) _ K
  obtain ⟨_, _, _, _, e⟩ := hop j
  rw [e]
  exact p.send_step m ER 𝒱 κ c j l rfl rfl K' Q

/-- The waits for the arrivals, and then those for the sends. -/
theorem waits_run (κ : Dev nD → Fin P ⊕ Fin P → ℕ) (c : Dev nD) (opR opS : Fin P → TpuEff nD τ sig Val Λ .tc PUnit)
    (hR : ∀ k, ∃ (v : Memref sig .tc .hbm p.shape p.elt) (h₁ : v.view.WordExact) (h₂ : (p.dst k).view.WordExact), opR k = .waitDma2 (p.sem (.inr k)) v (p.dst k) h₁ h₂)
    (hS : ∀ k, ∃ (v : Memref sig .tc .hbm p.shape p.elt) (h₁ : v.view.WordExact) (h₂ : (p.src c k).view.WordExact), opS k = .waitDma2 (p.sem (.inl k)) v (p.src c k) h₁ h₂)
    (K : Prog (TpuEff nD τ sig Val Λ .tc) α) (Q : α → sProp 𝕄) :
    iprop(bigSep Finset.univ (p.sentKit m ER κ c) ∗ bigSep Finset.univ (p.recvKit m ER κ c) ∗ ∃ W, owes (c : Thread nD τ) 0 W)
      ⊢ iprop(((p.done m c ∗ ∃ W, owes (c : Thread nD τ) 0 W)
            -∗ wp frame (wpE defs 𝒱 (c : Thread nD τ) none) Set.univ K Q)
          -∗ wp frame (wpE defs 𝒱 (c : Thread nD τ) none) Set.univ (series opR (List.finRange P) (series opS (List.finRange P) K)) Q) := by
  have h1 := series_run 𝒱 c opR (p.recvKit m ER κ c) (fun k => iprop(semVal (p.cell c (.inr k)) 0 ∗ p.landedPts m c k)) (fun _ => iprop(∃ W, owes (c : Thread nD τ) 0 W)) Q
    (fun j l K' => by
      obtain ⟨v, _, _, e⟩ := hR j
      rw [e, ← payload_recv]
      exact p.wait_step m ER 𝒱 c (.inr j) _ (fun K => (wpE_waitDma2_eq (defs := defs) (src := v) (dst := p.dst j) 𝒱 (c : Thread nD τ) none Set.univ K).trans (by rw [p.dst_credit])) K' Q)
    (List.finRange P) (series opS (List.finRange P) K)
  have h2 := series_run 𝒱 c opS (p.sentKit m ER κ c) (fun k => iprop(semVal (p.cell c (.inl k)) 0 ∗ emp)) (fun _ => iprop(∃ W, owes (c : Thread nD τ) 0 W)) Q
    (fun j l K' => by
      obtain ⟨v, _, _, e⟩ := hS j
      rw [e, ← p.payload_send m c j]
      exact p.wait_step m ER 𝒱 c (.inl j) _ (fun K => (wpE_waitDma2_eq (defs := defs) (src := v) (dst := p.src c j) 𝒱 (c : Thread nD τ) none Set.univ K).trans (by rw [p.src_credit])) K' Q)
    (List.finRange P) K
  rw [← listed, ← listed] at h1 h2
  rw [bigSep_sep'] at h1 h2
  iintro ⟨HS, HR, HO⟩ HK
  iapply h1 $$ [HR HO]
  · isplitl [HR] <;> iassumption
  iintro ⟨⟨HX, HL⟩, HO⟩
  iapply h2 $$ [HS HO]
  · isplitl [HS] <;> iassumption
  iintro ⟨⟨HY, -⟩, HO⟩
  iapply HK
  unfold done
  rw [both]
  isplitr [HO]
  · isplitl [HL]; · iexact HL
    isplitl [HY]; · iexact HY
    iexact HX
  iexact HO

/-- The copies, the waits for the arrivals and those for the sends, one after another. -/
theorem swap_run (c : Dev nD) (opC opR opS : Fin P → TpuEff nD τ sig Val Λ .tc PUnit)
    (hC : ∀ k, ∃ hsc hsrc hdst hsem, opC k = .enqueueDma (p.src c k) (.remote ((p.peer c k).tc : Thread nD τ) (p.dst k) (.dma (p.sem (.inl k))) hsc)
      (.dma (p.sem (.inr k))) hsrc hdst hsem)
    (hR : ∀ k, ∃ (v : Memref sig .tc .hbm p.shape p.elt) (h₁ : v.view.WordExact) (h₂ : (p.dst k).view.WordExact), opR k = .waitDma2 (p.sem (.inr k)) v (p.dst k) h₁ h₂)
    (hS : ∀ k, ∃ (v : Memref sig .tc .hbm p.shape p.elt) (h₁ : v.view.WordExact) (h₂ : (p.src c k).view.WordExact), opS k = .waitDma2 (p.sem (.inl k)) v (p.src c k) h₁ h₂)
    (K : Prog (TpuEff nD τ sig Val Λ .tc) α) (Q : α → sProp 𝕄) :
    iprop(p.kits m ER c ∗ ∃ W, owes (c : Thread nD τ) (p.owed₀ c) W)
      ⊢ iprop(((p.done m c ∗ ∃ W, owes (c : Thread nD τ) 0 W) -∗ wp frame (wpE defs 𝒱 (c : Thread nD τ) none) Set.univ K Q)
          -∗ wp frame (wpE defs 𝒱 (c : Thread nD τ) none) Set.univ
            (series opC (List.finRange P) (series opR (List.finRange P) (series opS (List.finRange P) K))) Q) := by
  unfold kits
  iintro ⟨⟨%κ, HS, HR⟩, HO⟩ HK
  iapply (p.sends_run m ER 𝒱 κ c opC hC _ Q) $$ [HS HO]
  · isplitl [HS] <;> iassumption
  iintro ⟨HS, HO⟩
  iapply (p.waits_run m ER 𝒱 κ c opR opS hR hS K Q) $$ [HS HR HO]
  · isplitl [HS]; · iexact HS
    isplitl [HR] <;> iassumption
  iexact HK

/-! ## What the launch gives -/

theorem owed_recv (d c : Dev nD) (k : Fin P) : p.owed₀ d (p.cell c (.inr k)) () = if d = p.peer c k then p.credit else 0 := by
  have hs (j : Fin P) : (c = p.peer d j ∧ Sum.inr (α := Fin P) k = Sum.inr j) ↔ (j = k ∧ d = p.peer c k) := by
    constructor
    · rintro ⟨rfl, h⟩; obtain rfl := Sum.inr_injective h; exact ⟨rfl, (p.peer_peer _ _).symm⟩
    · rintro ⟨rfl, rfl⟩; exact ⟨(p.peer_peer _ _).symm, rfl⟩
  have e : p.owed₀ d = ∑ j, p.due d j := (Fin.sum_univ_def _).symm
  rw [e, Finset.sum_apply, Finsupp.finset_sum_apply]
  simp only [tallyAt_apply, cell_inj, and_true, hs, ite_and]
  exact Finset.sum_ite_eq' Finset.univ k _ |>.trans (if_pos (Finset.mem_univ _))

theorem owed_pos {c : Dev nD} {g : GSem nD τ sig} {u : Unit} (h : 0 < p.owed₀ c g u) : ∃ k, g = p.cell (p.peer c k) (.inr k) := by
  by_contra hn
  have e : p.owed₀ c = ∑ j, p.due c j := (Fin.sum_univ_def _).symm
  rw [e, Finset.sum_apply, Finsupp.finset_sum_apply] at h
  refine absurd h (Nat.not_lt.mpr (Nat.le_of_eq (Finset.sum_eq_zero fun j _ => ?_)))
  exact (tallyAt_apply ..).trans (if_neg fun h' => hn ⟨j, h'.1⟩)

theorem launch_recv (c : Dev nD) (k : Fin P) :
    tallyOn (p.cell c (.inr k)) (launchCredit (Pipeline.owing p.owed₀) 0 (p.cell c (.inr k))) = (tallyAt (p.cell c (.inr k)) () p.credit : CellTallies nD τ sig Unit) := by
  unfold tallyAt; refine congrArg _ (Finsupp.ext fun u => ?_); cases u
  rw [Pipeline.launchCredit_owing, Finsupp.single_eq_same, Finset.sum_congr rfl fun d _ => p.owed_recv d c k,
    Finset.sum_ite_eq' Finset.univ (p.peer c k) fun _ => p.credit, if_pos (Finset.mem_univ _)]

theorem creds (c : Dev nD) :
    (Pipeline.launchCred p.owed₀ c : sProp 𝕄) ⊢ bigSep Finset.univ fun k : Fin P => (cred (tallyAt (p.cell c (.inr k)) () p.credit) : sProp 𝕄) := by
  unfold Pipeline.launchCred
  refine (BI.bigSep_subset (Finset.subset_univ (Finset.univ.map ⟨fun k : Fin P => (SemLoc.dma (p.sem (.inr k)) : SemLoc sig),
    fun _ _ h => Sum.inr_injective (p.sem_inj (SemLoc.dma.inj h))⟩))).trans ?_
  rw [BI.bigSep_map]
  exact BI.bigSep_mono fun k _ => Entails.of_eq (congrArg cred (p.launch_recv c k))

/-- Every semaphore of every core. -/
def cellE : Dev nD × (Fin P ⊕ Fin P) ↪ GSem nD τ sig :=
  ⟨fun x => p.cell x.1 x.2, fun x y h => Prod.ext (p.cell_inj.mp h).1 (p.cell_inj.mp h).2⟩

/-- The one duty of every semaphore. -/
def dutyE : Dev nD × (Fin P ⊕ Fin P) ↪ GSem nD τ sig × ℕ × Unit :=
  ⟨fun x => (p.cellE x, 0, ()), fun x y h => p.cellE.injective (congrArg Prod.fst h)⟩

def ghost₀ : UR sig nD τ := initOf (Finset.univ.map p.cellE) (Finset.univ.map p.dutyE)

theorem ghost_dealt :
    (BI.own (ER p.ghost₀) : sProp 𝕄) ⊢ iprop(|==> ((bigSep Finset.univ fun x => roundState ER (p.rounds m) (p.cellE x) 0)
      ∗ (bigSep Finset.univ fun x => reached ER (p.cellE x) 0) ∗ (bigSep Finset.univ fun x => atPos ER (p.cellE x) 0 ∅ 0)
      ∗ bigSep Finset.univ fun x => dutyTok ER (p.cellE x) 0 ())) := by
  have h := Rounds.fund ER (p.rounds m) (Finset.univ.map p.cellE) (Finset.univ.map p.dutyE)
  rw [BI.bigSep_map, BI.bigSep_map, BI.bigSep_map, BI.bigSep_map] at h
  exact h

theorem invs_dealt [ER.LandsIn (upEmb : UEmb _ 𝕄)] :
    iprop((bigSep Finset.univ fun x => (semVal (p.cellE x) 0 : sProp 𝕄)) ∗ bigSep Finset.univ fun x => roundState ER (p.rounds m) (p.cellE x) 0)
      ⊢ iprop(|={Set.univ}=> ∃ ι : Dev nD × (Fin P ⊕ Fin P) → ℕ, invs (fun x => body ER (p.rounds m) (p.cellE x)) ι) := by
  have h1 : iprop((bigSep Finset.univ fun x => (semVal (p.cellE x) 0 : sProp 𝕄)) ∗ bigSep Finset.univ fun x => roundState ER (p.rounds m) (p.cellE x) 0)
      ⊢ bigSep Finset.univ fun x => body ER (p.rounds m) (p.cellE x) := by
    rw [← bigSep_sep']
    exact BI.bigSep_mono fun x _ => body_intro ER (p.rounds m) (p.cellE x)
  refine h1.trans ((invs_alloc (fun x => body ER (p.rounds m) (p.cellE x))).trans (BI.fupd_mono ?_))
  have h2 : iprop(∃ ι : Dev nD × (Fin P ⊕ Fin P) → ℕ, ⌜Function.Injective ι ∧ ∀ k, ι k ∉ (∅ : Finset ℕ)⌝ ∧ invs (fun x => body ER (p.rounds m) (p.cellE x)) ι)
      ⊢ iprop(∃ ι : Dev nD × (Fin P ⊕ Fin P) → ℕ, invs (fun x => body ER (p.rounds m) (p.cellE x)) ι) := by
    iintro ⟨%ι, -, H⟩
    iexists ι; iexact H
  exact h2

/-- A family over all semaphores, core by core and kind by kind. -/
theorem by_core (Φ : GSem nD τ sig → sProp 𝕄) : (bigSep Finset.univ fun x => Φ (p.cellE x))
    = iprop((bigSep Finset.univ fun c => bigSep Finset.univ fun k : Fin P => Φ (p.cell c (.inl k)))
      ∗ bigSep Finset.univ fun c => bigSep Finset.univ fun k : Fin P => Φ (p.cell c (.inr k))) := by
  rw [bigSep_univ_prod, ← bigSep_sep']
  exact BI.bigSep_congr fun c _ => both fun j => Φ (p.cell c j)

/-- What core `c` keeps of its own launch for piece `k`, what it gives to the core that fills its place `k`, and the
    invariants. -/
def ownKit (c : Dev nD) (k : Fin P) : sProp 𝕄 :=
  iprop((∃ q, p.srcPts m c k q) ∗ dutyTok ER (p.cell c (.inl k)) 0 () ∗ reached ER (p.cell c (.inl k)) 0 ∗ atPos ER (p.cell c (.inl k)) 0 ∅ 0
    ∗ cred (tallyAt (p.cell c (.inr k)) () p.credit) ∗ atPos ER (p.cell c (.inr k)) 0 ∅ 0)
def giveKit (c : Dev nD) (k : Fin P) : sProp 𝕄 :=
  iprop(p.dstPts m c k ∗ dutyTok ER (p.cell c (.inr k)) 0 () ∗ reached ER (p.cell c (.inr k)) 0)
def invKit (ι : Dev nD × (Fin P ⊕ Fin P) → ℕ) (c : Dev nD) (k : Fin P) : sProp 𝕄 :=
  iprop(cellInv ER (p.rounds m) (ι (c, .inl k)) (p.cell c (.inl k))
    ∗ cellInv ER (p.rounds m) (ι (p.peer c k, .inr k)) (p.cell (p.peer c k) (.inr k))
    ∗ cellInv ER (p.rounds m) (ι (c, .inr k)) (p.cell c (.inr k)))

theorem kit_of (ι : Dev nD × (Fin P ⊕ Fin P) → ℕ) (c : Dev nD) (k : Fin P) :
    iprop(p.invKit m ER ι c k ∗ p.ownKit m ER c k ∗ p.giveKit m ER (p.peer c k) k)
      ⊢ iprop(p.sendKit m ER (fun c j => ι (c, j)) c k ∗ p.recvKit m ER (fun c j => ι (c, j)) c k) := by
  unfold invKit ownKit giveKit sendKit recvKit
  iintro ⟨⟨#I1, #I2, #I3⟩, ⟨S, T, #R, A, C, B⟩, D, V, #V'⟩
  isplitr [C B]
  · isplitr; · iexact I1
    isplitr; · iexact I2
    isplitl [S]; · iexact S
    isplitl [D]; · iexact D
    isplitl [T]; · iexact T
    isplitr; · iexact R
    isplitl [V]; · iexact V
    isplitr; · iexact V'
    iexact A
  isplitr; · iexact I3
  isplitl [C] <;> iassumption

theorem inv_kits (ι : Dev nD × (Fin P ⊕ Fin P) → ℕ) :
    invs (fun x => body ER (p.rounds m) (p.cellE x)) ι ⊢ bigSep Finset.univ fun c => bigSep Finset.univ (p.invKit m ER ι c) := by
  refine BI.bigSep_intro_persistent fun c _ => BI.bigSep_intro_persistent fun k _ => ?_
  have h (x : Dev nD × (Fin P ⊕ Fin P)) := invs_elim (body := fun x => body ER (p.rounds m) (p.cellE x)) (ι := ι) x
  have h' : invs (fun x => body ER (p.rounds m) (p.cellE x)) ι ⊢ p.invKit m ER ι c k := by
    unfold invKit
    iintro #H
    isplitr; · iapply (h (c, .inl k)); iexact H
    isplitr; · iapply (h (p.peer c k, .inr k)); iexact H
    iapply (h (c, .inr k)); iexact H
  exact h'

/-- What core `c` brings from its launch. -/
def brings (c : Dev nD) : sProp 𝕄 :=
  iprop((bigSep Finset.univ fun k : Fin P => iprop(∃ q, p.srcPts m c k q)) ∗ bigSep Finset.univ (p.dstPts m c)
    ∗ (bigSep Finset.univ fun k : Fin P => cred (tallyAt (p.cell c (.inr k)) () p.credit)) ∗ bigSep Finset.univ fun j => semVal (p.cell c j) 0)

/-- What every core gives away, in the hands of the cores that use it. -/
theorem handed (Φ : Dev nD → Fin P → sProp 𝕄) : (bigSep Finset.univ fun c => bigSep Finset.univ (Φ c))
    = bigSep Finset.univ fun c => bigSep Finset.univ fun k => Φ (p.peer c k) k := by
  have h1 := bigSep_univ_prod (fun x : Dev nD × Fin P => Φ x.1 x.2)
  have h2 := bigSep_univ_prod (fun x : Dev nD × Fin P => Φ (p.peer x.1 x.2) x.2)
  exact h1.symm.trans ((bigSep_univ_equiv (⟨fun x => (p.peer x.1 x.2, x.2), fun x => (p.peer x.1 x.2, x.2), fun x => Prod.ext (p.peer_peer x.1 x.2) rfl,
    fun x => Prod.ext (p.peer_peer x.1 x.2) rfl⟩ : Dev nD × Fin P ≃ Dev nD × Fin P) fun x : Dev nD × Fin P => Φ x.1 x.2).trans h2)

/-- The launch dealt out to the cores. -/
theorem dealt [ER.LandsIn (upEmb : UEmb _ 𝕄)] : iprop((bigSep Finset.univ (p.brings m)) ∗ BI.own (ER p.ghost₀)) ⊢ iprop(|={Set.univ}=> bigSep Finset.univ (p.kits m ER)) := by
  have all (ι : Dev nD × (Fin P ⊕ Fin P) → ℕ) : iprop((bigSep Finset.univ fun c => bigSep Finset.univ (p.invKit m ER ι c))
      ∗ (bigSep Finset.univ fun c => bigSep Finset.univ (p.ownKit m ER c)) ∗ bigSep Finset.univ fun c => bigSep Finset.univ fun k => p.giveKit m ER (p.peer c k) k)
      ⊢ bigSep Finset.univ (p.kits m ER) := by
    rw [← bigSep_sep', ← bigSep_sep']
    refine BI.bigSep_mono fun c _ => ?_
    have h : iprop(bigSep Finset.univ (p.invKit m ER ι c) ∗ bigSep Finset.univ (p.ownKit m ER c) ∗ bigSep Finset.univ fun k => p.giveKit m ER (p.peer c k) k)
        ⊢ iprop(bigSep Finset.univ (p.sendKit m ER (fun c j => ι (c, j)) c) ∗ bigSep Finset.univ (p.recvKit m ER (fun c j => ι (c, j)) c)) := by
      rw [← bigSep_sep', ← bigSep_sep', ← bigSep_sep']
      exact BI.bigSep_mono fun k _ => p.kit_of m ER ι c k
    have h' : iprop(bigSep Finset.univ (p.invKit m ER ι c) ∗ bigSep Finset.univ (p.ownKit m ER c) ∗ bigSep Finset.univ fun k => p.giveKit m ER (p.peer c k) k)
        ⊢ p.kits m ER c := by
      unfold kits
      iintro H
      iexists (fun c j => ι (c, j))
      iapply h; iexact H
    exact h'
  have own : (bigSep Finset.univ fun c => bigSep Finset.univ (p.ownKit m ER c))
      = iprop((bigSep Finset.univ fun c => bigSep Finset.univ fun k : Fin P => iprop(∃ q, p.srcPts m c k q))
        ∗ (bigSep Finset.univ fun c => bigSep Finset.univ fun k : Fin P => (dutyTok ER (p.cell c (.inl k)) 0 () : sProp 𝕄))
        ∗ (bigSep Finset.univ fun c => bigSep Finset.univ fun k : Fin P => (reached ER (p.cell c (.inl k)) 0 : sProp 𝕄))
        ∗ (bigSep Finset.univ fun c => bigSep Finset.univ fun k : Fin P => (atPos ER (p.cell c (.inl k)) 0 ∅ 0 : sProp 𝕄))
        ∗ (bigSep Finset.univ fun c => bigSep Finset.univ fun k : Fin P => cred (tallyAt (p.cell c (.inr k)) () p.credit))
        ∗ bigSep Finset.univ fun c => bigSep Finset.univ fun k : Fin P => (atPos ER (p.cell c (.inr k)) 0 ∅ 0 : sProp 𝕄)) := by
    unfold ownKit; simp only [bigSep_sep']
  have give : (bigSep Finset.univ fun c => bigSep Finset.univ fun k => p.giveKit m ER (p.peer c k) k)
      = iprop((bigSep Finset.univ fun c => bigSep Finset.univ (p.dstPts m c))
        ∗ (bigSep Finset.univ fun c => bigSep Finset.univ fun k : Fin P => (dutyTok ER (p.cell c (.inr k)) 0 () : sProp 𝕄))
        ∗ bigSep Finset.univ fun c => bigSep Finset.univ fun k : Fin P => (reached ER (p.cell c (.inr k)) 0 : sProp 𝕄)) := by
    rw [← p.handed (p.giveKit m ER)]
    unfold giveKit; simp only [bigSep_sep']
  have e : bigSep Finset.univ (p.brings (U := U) m) = iprop((bigSep Finset.univ fun c => bigSep Finset.univ fun k : Fin P => iprop(∃ q, p.srcPts m c k q))
      ∗ (bigSep Finset.univ fun c => bigSep Finset.univ (p.dstPts m c))
      ∗ (bigSep Finset.univ fun c => bigSep Finset.univ fun k : Fin P => cred (tallyAt (p.cell c (.inr k)) () p.credit))
      ∗ bigSep Finset.univ fun x => (semVal (p.cellE x) 0 : sProp 𝕄)) := by
    rw [show (bigSep Finset.univ fun x => (semVal (p.cellE x) 0 : sProp 𝕄)) = bigSep Finset.univ fun c => bigSep Finset.univ fun j => semVal (p.cell c j) 0 from
      bigSep_univ_prod _]
    unfold brings; simp only [bigSep_sep']
  rw [e]
  iintro ⟨⟨HS, HD, HC, HV⟩, HU⟩
  imod (p.ghost_dealt m ER) $$ HU with ⟨HR, HW, HP, HT⟩
  imod (p.invs_dealt m ER) $$ [HV HR] with HI
  · isplitl [HV] <;> iassumption
  icases HI with ⟨%ι, HI⟩
  ihave HI' := (p.inv_kits m ER ι) $$ HI
  ihave HW' := (Entails.of_eq (p.by_core fun g => reached ER g 0)) $$ HW
  icases HW' with ⟨HW1, HW2⟩
  ihave HP' := (Entails.of_eq (p.by_core fun g => atPos ER g 0 ∅ 0)) $$ HP
  icases HP' with ⟨HP1, HP2⟩
  ihave HT' := (Entails.of_eq (p.by_core fun g => dutyTok ER g 0 ())) $$ HT
  icases HT' with ⟨HT1, HT2⟩
  imodintro
  iapply (all ι)
  isplitl [HI']; · iexact HI'
  rw [own, give]
  isplitr [HD HT2 HW2]
  · isplitl [HS]; · iexact HS
    isplitl [HT1]; · iexact HT1
    isplitl [HW1]; · iexact HW1
    isplitl [HP1]; · iexact HP1
    isplitl [HC] <;> iassumption
  isplitl [HD]; · iexact HD
  isplitl [HT2] <;> iassumption

/-- The landed pieces, read against the final memory. -/
theorem landed_read (c : Dev nD) (s : Phys nD τ sig Val) : iprop(bigSep Finset.univ (p.landedPts m c) ∗ SI s)
    ⊢ (⌜∀ k : Fin P, ∀ i ∈ (p.dst k).view.set, s.mem.mem ((p.dst k).view.loc (c : Thread nD τ)) i = p.landed m c k i⌝ : sProp 𝕄) := by
  refine Entails.trans (forall_intro fun k => ?_) pure_forall.2
  rw [show (bigSep Finset.univ (p.landedPts m c) : sProp 𝕄) = iprop(p.landedPts m c k ∗ bigSep (Finset.univ.erase k) (p.landedPts m c)) from
    BI.bigSep_erase (Finset.mem_univ k)]
  have h : iprop(SI s ∗ p.landedPts m c k) ⊢ (⌜∀ i ∈ (p.dst k).view.set, s.mem.mem ((p.dst k).view.loc (c : Thread nD τ)) i = p.landed m c k i⌝ : sProp 𝕄) := by
    unfold landedPts
    exact SI_pointsTo_agree
  iintro ⟨⟨HL, -⟩, HS⟩
  iapply h
  isplitl [HS] <;> iassumption

end Plan

end Cert.Copies

end
-- ==== Proof.SibEarlyRun.lean ====
/- The exchange of the early gradients between sibling cores, on one core.

   Every core copies four of its eight blocks into the other core of its chip, the blocks the other core is to sum,
   and waits until its own four blocks have come from there. Nothing is asked of the other core first: the copies
   begin at once. So every core starts with the other core's receiving array in its hands, piece by piece, and the
   landed pieces come back to that core through its own waits. -/
module

public import proofs.«01_k».proof.Proof.Copies
public import proofs.«01_k».proof.Proof.Gen.SibEarly.Frame
public import proofs.«01_k».proof.Proof.Gen.SibEarly.Skeleton

@[expose] public section

set_option maxRecDepth 16384

noncomputable section

namespace Cert.SibEarly.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Cert.Copies (series)

variable {F : FTy → Type} [FloatOps F] [Facts₀] [Facts]

local notation "𝕄" => MT nD τ sig Unit (Elt F) ℕ (UR sig nD τ) ℕ

/-! ## The text of the body -/

/-- The other core of the chip. -/
def sib (c : Dev nD) : Dev nD := ⟨if c.val % 2 = 0 then c.val + 1 else c.val - 1, by have := c.isLt; have h : c.val < 8 := this; split <;> (show _ < 8; omega)⟩

theorem sib_sib (c : Dev nD) : sib (sib c) = c := by revert c; decide

/-- The place of piece `k` in the receiving array. -/
theorem dst_inb (k : Fin 4) : ∀ a, (![k.val, 0, 0] : Fin 3 → ℕ) a + S1x2048x1024.size a ≤ S4x2048x1024.size a := by
  intro a
  have := k.isLt
  fin_cases a <;> simp [Shape.size] <;> omega

/-- The block core `c` sends as piece `k`. -/
abbrev srcM (c : Dev nD) (k : Fin 4) : Memref sig .tc .hbm S2048x1024 .f32 :=
  ((Memref.whole main_arg0).slice (Rect.unit (s := S8x2048x1024) (k0_off1 c (BitVec.ofNat 32 (2 * k.val))) S1x2048x1024.size
    (k0_off1_inb c k)) (fun _ => rfl)).squeeze S2048x1024 squeezes_S1x2048x1024_S2048x1024

/-- Piece `k` of the receiving array. -/
abbrev dstM (k : Fin 4) : Memref sig .tc .hbm S2048x1024 .f32 :=
  ((Memref.whole main_v1).slice (Rect.unit (s := S4x2048x1024) ![k.val, 0, 0] S1x2048x1024.size (dst_inb k)) (fun _ => rfl)).squeeze
    S2048x1024 squeezes_S1x2048x1024_S2048x1024

abbrev sendS (k : Fin 4) : DmaSem sig := ⟨k.val, Nat.lt_of_lt_of_le k.isLt (by decide)⟩
abbrev recvS (k : Fin 4) : DmaSem sig := ⟨4 + k.val, by have := k.isLt; show 4 + k.val < 8; omega⟩

abbrev sendTo (c e : Dev nD) (k : Fin 4) : TpuEff nD τ sig (Elt F) Λ₀ .tc PUnit :=
  .enqueueDma (srcM c k) (.remote (Dev.tc e) (dstM k) (.dma (sendS k))) (.dma (recvS k))
    ((View.wordExact_bits rfl).reshape _ _) ((View.wordExact_bits rfl).reshape _ _) ⟨⟨rfl, Or.inl rfl⟩, trivial⟩

abbrev awaitRecv (c : Dev nD) (k : Fin 4) : TpuEff nD τ sig (Elt F) Λ₀ .tc PUnit :=
  .waitDma2 (recvS k) (srcM c k) (dstM k) ((View.wordExact_bits rfl).reshape _ _) ((View.wordExact_bits rfl).reshape _ _)

abbrev awaitSend (c : Dev nD) (k : Fin 4) : TpuEff nD τ sig (Elt F) Λ₀ .tc PUnit :=
  .waitDma2 (sendS k) (dstM k) (srcM c k) ((View.wordExact_bits rfl).reshape _ _) ((View.wordExact_bits rfl).reshape _ _)

/-- The body once the core knows which device it is, and `e` the devices its copies go to. -/
def scriptAt (d : Dev nD) (e : Fin 4 → Dev nD) : Prog (TpuEff nD τ sig (Elt F) Λ₀ .tc) PUnit :=
  series (fun k => sendTo d (e k) k) [0, 1, 2, 3] (series (awaitRecv d) [0, 1, 2, 3] (series (awaitSend d) [0, 1, 2, 3] (.ret ⟨⟩)))

/-- The printed body is that text. -/
theorem body_eq : cc0_grads_to_sibling_early (F := F) (Memref.whole main_arg0) (Memref.isWhole_whole _) (Memref.whole main_v1)
      (Memref.isWhole_whole _) cc0_scratch0 cc0_scratch1
    = .op .deviceId fun d => scriptAt d ![⟨k0_dev1 d, k0_dev1_lt d⟩, ⟨k0_dev2 d, k0_dev2_lt d⟩, ⟨k0_dev3 d, k0_dev3_lt d⟩,
        ⟨k0_dev4 d, k0_dev4_lt d⟩] := by
  with_unfolding_all rfl

theorem dev1_val : ∀ d : Dev nD, k0_dev1 d = (sib d).val := by decide
theorem dev2_val : ∀ d : Dev nD, k0_dev2 d = (sib d).val := by decide
theorem dev3_val : ∀ d : Dev nD, k0_dev3 d = (sib d).val := by decide
theorem dev4_val : ∀ d : Dev nD, k0_dev4 d = (sib d).val := by decide

theorem devs_eq (d : Dev nD) : (![⟨k0_dev1 d, k0_dev1_lt d⟩, ⟨k0_dev2 d, k0_dev2_lt d⟩, ⟨k0_dev3 d, k0_dev3_lt d⟩,
    ⟨k0_dev4 d, k0_dev4_lt d⟩] : Fin 4 → Dev nD) = fun _ => sib d := by
  funext k
  fin_cases k
  exacts [Fin.ext (dev1_val d), Fin.ext (dev2_val d), Fin.ext (dev3_val d), Fin.ext (dev4_val d)]

/-! ## The exchange -/

theorem far : ∀ c : Dev nD, τ.routes (c.tc : Thread nD τ) ((sib c).tc : Thread nD τ) = true := by decide

abbrev sems : Fin 4 ⊕ Fin 4 → DmaSem sig := Sum.elim sendS recvS

theorem sems_inj : Function.Injective sems := by decide

/-- The exchange of the kernel. -/
abbrev plan : Copies.Plan nD τ sig 4 where
  shape := S2048x1024
  elt := .f32
  src := srcM
  dst := dstM
  sem := sems
  sem_inj := sems_inj
  peer c _ := sib c
  peer_peer c _ := sib_sib c
  credit := (dstM 0).view.dmaCredit
  credit_pos := View.dmaCredit_pos _ (by decide)
  src_credit _ _ := rfl
  dst_credit _ := rfl
  far c _ := far c

variable (m : (ℓ : Loc nD τ sig) → Buf (Elt F) ℓ)

abbrev ER : Emb (UR sig nD τ) (MT nD τ sig Unit (Elt F) ℕ (UR sig nD τ) ℕ) := emb₁
abbrev 𝒱₀ : Variants := Variants.none

theorem body_run (c : Dev nD) (Q : PUnit → sProp 𝕄) :
    iprop(plan.kits m ER c ∗ (∃ W, owes (c : Thread nD τ) (plan.owed₀ c) W) ∗ ((plan.done m c ∗ ∃ W, owes (c : Thread nD τ) 0 W) -∗ Q ⟨⟩))
      ⊢ wp frame (wpE defs₀ 𝒱₀ (c : Thread nD τ) none) Set.univ
          (cc0_grads_to_sibling_early (F := F) (Memref.whole main_arg0) (Memref.isWhole_whole _) (Memref.whole main_v1)
            (Memref.isWhole_whole _) cc0_scratch0 cc0_scratch1) Q := by
  rw [body_eq, wp_deviceId, devs_eq]
  have h := plan.swap_run m ER (defs := defs₀ (F := F)) 𝒱₀ c (fun k => sendTo c (sib c) k) (awaitRecv c) (awaitSend c)
    (fun k => ⟨_, _, _, _, rfl⟩) (fun k => ⟨_, _, _, rfl⟩) (fun k => ⟨_, _, _, rfl⟩) (.ret ⟨⟩) Q
  iintro ⟨HK, HO, HQ⟩
  iapply h $$ [HK HO]
  · isplitl [HK] <;> iassumption
  iintro H
  rw [wp_ret]
  imodintro
  iapply HQ; iexact H

/-! ## The region, and the core's whole program -/

theorem scopedSems0_eq (c : Dev nD) : (scopedSems0 (c : Thread nD τ) : sProp 𝕄) = bigSep Finset.univ fun j => semVal (plan.cell c j) 0 := by
  rw [scopedSems0_tc, show (Finset.univ.filter fun sm : SemLoc sig => sm.isScoped .tc)
    = Finset.univ.map ⟨fun j => (SemLoc.dma (sems j) : SemLoc sig), by decide⟩ from by decide, BI.bigSep_map]
  rfl

/-- Core `c`'s own array at a share. -/
def keep (c : Dev nD) : sProp 𝕄 := iprop(∃ q : PosShare TreeShare, (c : Thread nD τ).loc main_arg0 ↦{q} m ((c : Thread nD τ).loc main_arg0))

/-- What core `c` starts with, and what it ends with. -/
def start (c : Dev nD) : sProp 𝕄 :=
  iprop(plan.kits m ER c ∗ keep m c ∗ owes (c : Thread nD τ) (plan.owed₀ c) ∅ ∗ scopedBufs (c : Thread nD τ))
def fin (c : Dev nD) : sProp 𝕄 := iprop(keep m c ∗ bigSep Finset.univ (plan.landedPts m c))

def dat (c : Dev nD) : Pipeline.Dat τ (Elt F) Unit ℕ (UR sig nD τ) ℕ cfg0 c where
  A w := w.elim0
  after w := w.elim0
  Φ t := if t.val = 0 then iprop(plan.kits m ER c ∗ scopedBufs (c : Thread nD τ)) else iprop(plan.done m c ∗ scopedBufs (c : Thread nD τ))
  q w := w.elim0
  owed t := if t.val = 0 then plan.owed₀ c else 0

abbrev adm : (p : Fin 1) → (pcfgs (F := F) p).Adm := fun p => (cfgs p).toPCfg_adm
def pdats : (p : Fin 1) → (c : Dev nD) → Pipeline.Dat τ (Elt F) Unit ℕ (UR sig nD τ) ℕ (Pipeline.pin (pcfgs (F := F)) adm p) c
  | 0 => dat m

theorem bigSep_W {M : Type} [URA M] (Φ : Fin 0 → sProp M) : bigSep Finset.univ Φ = (BI.emp : sProp M) :=
  bigSep_univ_eq_bigSepL [] (by decide) (by decide) Φ

theorem owed_first (c : Dev nD) : (dat (F := F) m c).owed Gen.t0_0.castSucc = plan.owed₀ c := by
  show (if (Gen.t0_0.castSucc : Fin (cfg0.N + 1)).val = 0 then plan.owed₀ c else 0) = plan.owed₀ c; exact if_pos rfl
theorem owed_zero (c : Dev nD) : (dat (F := F) m c).owed 0 = plan.owed₀ c := owed_first m c
theorem owed_last (c : Dev nD) : (dat (F := F) m c).owed (Fin.last _) = 0 := by
  show (if (Fin.last cfg0.N).val = 0 then plan.owed₀ c else 0) = 0
  rw [Fin.val_last, if_neg (by rw [show cfg0.N = 1 from Gen.N_0]; decide)]
theorem owed_succ (c : Dev nD) : (dat (F := F) m c).owed Gen.t0_0.succ = 0 := owed_last m c

theorem owesAt_intro {cfg : Pipeline.Cfg sig Λ₀} {c : Dev nD} (dat : Dat τ (Elt F) Unit ℕ (UR sig nD τ) ℕ cfg c) (t : Fin (cfg.N + 1))
    (O : CellTallies nD τ sig Unit) (h0 : dat.owed t = O) (W : Waits sig Unit) (hr : dat.recorded t = Set.univ := by first | rfl | skip) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (dat : Dat τ (Elt F) Unit ℕ (UR sig nD τ) ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem body_ok (c : Dev nD) : BodyObligation (dat (F := F) m c) defs₀ 𝒱₀ () Set.univ := fun t => by
  obtain rfl := Gen.fin_N0 t
  rw [bigSep_W, bigSep_W]
  rw [show (dat m c).Φ Gen.t0_0.castSucc = iprop(plan.kits m ER c ∗ scopedBufs (c : Thread nD τ)) from rfl,
    show (dat m c).Φ Gen.t0_0.succ = iprop(plan.done m c ∗ scopedBufs (c : Thread nD τ)) from rfl]
  iintro ⟨⟨HK, Hb⟩, HO, -⟩
  ihave HO' := (owesAt_elim (dat m c) _ (plan.owed₀ c) (owed_first m c)) $$ HO
  iapply (body_run m c _)
  isplitl [HK]; · iexact HK
  isplitl [HO']; · iexact HO'
  iintro ⟨HG, %W', HO⟩
  isplitl [HG Hb]; · isplitl [HG] <;> iassumption
  isplitl [HO]; · iapply (owesAt_intro (dat m c) Gen.t0_0.succ 0 (owed_succ m c) W'); iexact HO
  iempintro

theorem run (c : Dev nD) :
    start m c ⊢ wp frame (wpE defs (Variants.lift 𝒱₀) (c : Thread nD τ) none) Set.univ (main (F := F) c)
      (fun _ => iprop((fin m c ∗ scopedSems0 (c : Thread nD τ)) ∗ ∃ W, owes (c : Thread nD τ) 0 W)) := by
  rw [show main (F := F) c = .op (.customCall (Pipeline.entry 0) ()) fun _ => .ret ⟨⟩ from rfl]
  have hst : (Dat.staging (Pipeline.pin (pcfgs (F := F)) adm 0) c : sProp 𝕄) = BI.emp := bigSep_W _
  have hfirst : (pdats m 0 c).Φ 0 = iprop(plan.kits m ER c ∗ scopedBufs (c : Thread nD τ)) := rfl
  have hlast : (pdats m 0 c).Φ (Fin.last _) = iprop(plan.done m c ∗ scopedBufs (c : Thread nD τ)) := rfl
  have hpre : iprop(owes (c : Thread nD τ) (plan.owed₀ c) ∅)
      ⊢ Pipeline.EntryPre (Pipeline.pin (pcfgs (F := F)) adm) (pdats m) () ER (fun _ => 0) 0 c := by
    unfold Pipeline.EntryPre Pipeline.PerCore.EntryPre Pipeline.PerCore.cellsWaits Pipeline.PerCore.cellsInit Pipeline.PerCore.toksInit
      Pipeline.PerCore.RDat.cellsWaits Pipeline.PerCore.RDat.cellsInit Dat.arrays
    iintro HO
    isplitr; · rw [show bigSep _ _ = _ from bigSep_W _]; iempintro
    isplitl [HO]; · iapply (owesAt_intro (dat m c) 0 (plan.owed₀ c) (owed_zero m c) ∅); iexact HO
    isplitr; · rw [show bigSep _ _ = _ from bigSep_W _]; iempintro
    isplitr; · rw [show bigSep _ _ = _ from bigSep_W _]; iempintro
    rw [show bigSep _ _ = _ from bigSep_W _]; iempintro
  have hpost : Pipeline.EntryPost (Pipeline.pin (pcfgs (F := F)) adm) (pdats m) () 0 c ⊢ iprop(∃ W, owes (c : Thread nD τ) 0 W) := by
    unfold Pipeline.EntryPost Pipeline.PerCore.EntryPost
    iintro ⟨-, HO⟩
    iapply (owesAt_elim (dat m c) _ 0 (owed_last m c)); iexact HO
  have hpf : (BI.emp : sProp 𝕄) ⊢ Pipeline.prefHeld (pcfgs (F := F) 0).pre c (fun _ => fullShare) (adm 0).1 := by
    rw [show Pipeline.prefHeld (pcfgs (F := F) 0).pre c (fun _ => fullShare) (adm 0).1 = (BI.emp : sProp 𝕄) from bigSep_W _]
  unfold start
  iintro ⟨HK, Hkeep, HO, Hb⟩
  have h := Pipeline.wp_customCall_entry_frame pcfgs adm (pdats m) () ER (fun _ => 0) Gen.cellOf_inj 0 defs₀ 𝒱₀ (fun _ => fullShare) c Set.univ
    (fun w => w.elim0) (body_ok m c).loose (fun w => w.elim0) none (fun u hu => by cases hu)
    (X := plan.kits m ER c) (Y := bigSep Finset.univ (plan.landedPts m c)) (R := scopedBufs (c : Thread nD τ)) (I := iprop(emp))
    (by
      rw [hst]; iintro H; isplitr; · iempintro
      iexact H)
    (by
      rw [hfirst]; iintro ⟨HX, -, HR⟩
      isplitl [HX] <;> iassumption)
    (by
      rw [hlast, hst]
      unfold Copies.Plan.done
      iintro ⟨⟨⟨HL, HS⟩, Hb⟩, -, -, -⟩
      rw [scopedSems0_eq]
      isplitl [HL]; · iexact HL
      isplitl [HS] <;> iassumption)
    (α := PUnit) (k := fun _ => .ret ⟨⟩) (Q := fun _ => iprop((fin m c ∗ scopedSems0 (c : Thread nD τ)) ∗ ∃ W, owes (c : Thread nD τ) 0 W))
  iapply h $$ [HK HO Hb]
  · isplitl [HO]; · iapply hpre; iexact HO
    isplitr; · iapply hpf; iempintro
    isplitl [HK]; · iexact HK
    isplitr; · iempintro
    iexact Hb
  iintro ⟨HP, HL, HS, -⟩
  ihave HO := hpost $$ HP
  rw [wp_ret]
  imodintro
  unfold fin
  isplitr [HO]
  · isplitr [HS]
    · isplitl [Hkeep] <;> iassumption
    iexact HS
  iexact HO

/-! ## What the launch gives -/

theorem dst_set (k : Fin 4) : (dstM k).view.set
    = (Rect.unit (s := S4x2048x1024) ![k.val, 0, 0] S1x2048x1024.size (dst_inb k)).set :=
  (View.set_reshape (v := _) squeezes_S1x2048x1024_S2048x1024.numel_eq).trans (View.set_slice_whole _ _)

theorem dst_cover : (Finset.univ : Finset (Fin 4)).biUnion (β := S4x2048x1024.Idx) (fun k => (dstM k).view.set) = Finset.univ := by
  rw [Finset.biUnion_congr rfl (fun k _ => dst_set k)]
  exact Ring.lead_cover (s := S4x2048x1024) 0 1 (fun k : Fin 4 => ![k.val, 0, 0]) S1x2048x1024.size dst_inb (by intro b; simp) (by decide) (by decide)
    (by decide) (by decide)

theorem dst_covers (i : S4x2048x1024.Idx) : ∃ k : Fin 4, i ∈ (dstM k).view.set := by
  have h := Finset.mem_univ i
  rw [← dst_cover, Finset.mem_biUnion] at h
  exact h.imp fun _ h => h.2

theorem dst_disjoint (k j : Fin 4) (h : k ≠ j) : Disjoint (dstM k).view.set (dstM j).view.set := by
  rw [dst_set, dst_set]
  exact Ring.lead_disjoint (s := S4x2048x1024) 0 1 (fun k : Fin 4 => ![k.val, 0, 0]) S1x2048x1024.size dst_inb (by intro b; simp) (by decide) k j h

/-- Core `c`'s two arrays as launched: its own array is kept at one share and lent to its four sends at others, and
    the receiving array falls into its pieces. -/
theorem arrays_dealt (c : Dev nD) :
    (unscopedBufs c (fun b => m ((c : Thread nD τ).loc b)) : sProp 𝕄)
      ⊢ iprop(keep m c ∗ (bigSep Finset.univ fun k : Fin 4 => iprop(∃ q, plan.srcPts m c k q)) ∗ bigSep Finset.univ (plan.dstPts m c)) := by
  unfold unscopedBufs
  rw [bigSep_eq_bigSepL_of_eq [main_arg0, main_v1] (by decide) (by decide)]
  show iprop((((c : Thread nD τ).loc main_arg0) ↦{fullShare} m ((c : Thread nD τ).loc main_arg0))
    ∗ (((c : Thread nD τ).loc main_v1) ↦{fullShare} m ((c : Thread nD τ).loc main_v1))) ⊢ _
  have hd : (((c : Thread nD τ).loc main_v1) ↦{fullShare} m ((c : Thread nD τ).loc main_v1) : sProp 𝕄) = bigSep Finset.univ (plan.dstPts m c) := by
    unfold Copies.Plan.dstPts
    exact Ring.pointsTo_blocks (ℓ := (c : Thread nD τ).loc main_v1) (fun k : Fin 4 => (dstM k).view.set) dst_disjoint
      (Finset.eq_univ_of_forall fun i => Finset.mem_biUnion.mpr ((dst_covers i).imp fun _ h => ⟨Finset.mem_univ _, h⟩)) _
  rw [hd]
  have hs : (((c : Thread nD τ).loc main_arg0) ↦{fullShare} m ((c : Thread nD τ).loc main_arg0) : sProp 𝕄)
      ⊢ iprop(keep m c ∗ bigSep Finset.univ fun k : Fin 4 => iprop(∃ q, plan.srcPts m c k q)) :=
    Copies.lent (ℓ := (c : Thread nD τ).loc main_arg0) (fun k : Fin 4 => (srcM c k).view.set) _
  iintro ⟨HA, HD⟩
  ihave HA' := hs $$ HA
  icases HA' with ⟨HK, HS⟩
  isplitl [HK]; · iexact HK
  isplitl [HS] <;> iassumption

/-- One core's launch, sorted. -/
theorem launch_sorted (g : Dev nD → PrngReg) (c : Dev nD) : (Exchange.atLaunch plan.owed₀ m g c : sProp 𝕄)
    ⊢ iprop((keep m c ∗ owes (c : Thread nD τ) (plan.owed₀ c) ∅ ∗ scopedBufs (c : Thread nD τ)) ∗ plan.brings m c) := by
  unfold Exchange.atLaunch Copies.Plan.brings
  rw [scopedSems0_eq]
  iintro ⟨Hsb, Hss, Hub, -, HO, Hcr⟩
  ihave Ha := (arrays_dealt m c) $$ Hub
  icases Ha with ⟨HK, HS, HD⟩
  ihave Hc := (plan.creds c) $$ Hcr
  isplitl [HK HO Hsb]
  · isplitl [HK]; · iexact HK
    isplitl [HO] <;> iassumption
  isplitl [HS]; · iexact HS
  isplitl [HD]; · iexact HD
  isplitl [Hc] <;> iassumption

/-- The launch dealt out to the cores. -/
theorem deal (g : Dev nD → PrngReg) (L : GSem nD τ sig → Finset Unit) (lv : GSem nD τ sig → Unit → ℕ) :
    iprop((bigSep Finset.univ fun c => (Exchange.atLaunch plan.owed₀ m g c : sProp 𝕄)) ∗ levAts L lv ∗ ownU plan.ghost₀)
      ⊢ iprop(|={Set.univ}=> bigSep Finset.univ (start m)) := by
  have h1 : (bigSep Finset.univ fun c => (Exchange.atLaunch plan.owed₀ m g c : sProp 𝕄))
      ⊢ iprop((bigSep Finset.univ fun c => iprop(keep m c ∗ owes (c : Thread nD τ) (plan.owed₀ c) ∅ ∗ scopedBufs (c : Thread nD τ)))
        ∗ bigSep Finset.univ (plan.brings m)) := by
    rw [← bigSep_sep']
    exact BI.bigSep_mono fun c _ => launch_sorted m g c
  have h2 : bigSep Finset.univ (start m) = iprop((bigSep Finset.univ (plan.kits m ER))
      ∗ bigSep Finset.univ fun c => iprop(keep m c ∗ owes (c : Thread nD τ) (plan.owed₀ c) ∅ ∗ scopedBufs (c : Thread nD τ))) := by
    rw [← bigSep_sep']; rfl
  iintro ⟨HL, -, HU⟩
  ihave HL' := h1 $$ HL
  icases HL' with ⟨HK, HB⟩
  ihave HU' := (show (ownU plan.ghost₀ : sProp 𝕄) ⊢ BI.own (ER plan.ghost₀) from BI.Entails.refl _) $$ HU
  imod (plan.dealt m ER) $$ [HB HU'] with HX
  · isplitl [HB] <;> iassumption
  imodintro
  rw [h2]
  isplitl [HX] <;> iassumption

/-- What a finished core's memory shows: its argument, and the four pieces the other core copied into its result. -/
def shows (c : Dev nD) (s : MemSt nD τ sig (Elt F)) : Prop :=
  s.mem ((c : Thread nD τ).loc main_arg0) = m ((c : Thread nD τ).loc main_arg0)
    ∧ ∀ k : Fin 4, ∀ i : S4x2048x1024.Idx, i ∈ (dstM k).view.set → s.mem ((c : Thread nD τ).loc main_v1) i = (plan.landed m c k : Buf (Elt F) ((c : Thread nD τ).loc main_v1)) i

theorem read (c : Dev nD) (s : Phys nD τ sig (Elt F)) : iprop(fin m c ∗ SI s) ⊢ (iprop(|={Set.univ}=> (⌜shows m c s.mem⌝ ∗ SI s)) : sProp 𝕄) := by
  have arg : iprop(fin m c ∗ SI s) ⊢ (⌜s.mem.mem ((c : Thread nD τ).loc main_arg0) = m ((c : Thread nD τ).loc main_arg0)⌝ : sProp 𝕄) := by
    unfold fin keep
    iintro ⟨⟨HK, -⟩, HS⟩
    iapply (Copies.whole_read (U := UR sig nD τ) (m ((c : Thread nD τ).loc main_arg0)) s)
    isplitl [HK] <;> iassumption
  have pieces : iprop(fin m c ∗ SI s) ⊢ (⌜∀ k : Fin 4, ∀ i : S4x2048x1024.Idx, i ∈ (dstM k).view.set → s.mem.mem ((c : Thread nD τ).loc main_v1) i = (plan.landed m c k : Buf (Elt F) ((c : Thread nD τ).loc main_v1)) i⌝ : sProp 𝕄) := by
    unfold fin
    iintro ⟨⟨-, HL⟩, HS⟩
    iapply (plan.landed_read (U := UR sig nD τ) m c s)
    isplitl [HL] <;> iassumption
  refine pure_elim _ arg fun ha => ?_
  refine pure_elim _ pieces fun hp => ?_
  have hq : shows m c s.mem := ⟨ha, hp⟩
  iintro ⟨-, HS⟩
  imodintro
  isplitr
  · ipureintro; exact hq
  iexact HS

/-- The exchange runs: every core's argument ends unchanged, its result holds the four pieces the other core copied, and every semaphore is back at zero. -/
theorem runs (g : Dev nD → PrngReg) :
    θ_run (defs (F := F)) (onTc (τ := τ) (main (F := F))) ⟨m, fun _ => 0, g⟩ (fun r => (∀ c : Dev nD, shows m c r.2) ∧ r.2.sem = fun _ => 0) := by
  have h := Exchange.run_dealt (defs := defs (F := F)) (Variants.lift 𝒱₀) (main (F := F)) m g plan.owed₀ (fun _ => ∅) (fun _ _ => 0) (fun _ _ => rfl) plan.ghost₀
    (start m) (fin m) (deal m g _ _) (run m) (shows m) (read m)
  refine (θ_run defs _ _).mono (fun r hr => ⟨hr.1, funext fun g' => hr.2 g' ?_⟩) h
  obtain ⟨⟨d, p⟩, sm⟩ := g'
  right
  revert sm
  exact (by decide : ∀ sm : SemLoc sig, sm.isScoped .tc = true)

end Cert.SibEarly.Swap

end
-- ==== Proof.SibEarlyClaims.lean ====
/-
  The exchange of the early gradients: its frames, and its value beside a reshape and a stack of the whole arrays.

  The kernel's text is the same at the bits and at the extended reals, so the one run of it gives both frames.
-/
module

public import proofs.«01_k».proof.Defs
public import proofs.«01_k».proof.Proof.Products
public import proofs.«01_k».proof.Proof.SibEarlyRun
public import proofs.«01_k».proof.Proof.Gen.SibEarly
public import proofs.«01_k».proof.Proof.Gen.SibEarlyIdeal
public import proofs.«01_k».proof.Proof.Gen.SibEarlyRefIdeal.Run
public import proofs.«01_k».proof.Proof.Gen.SibEarlyRefIdeal.Read
public import Idealize.ShloMosaic.Adequacy

@[expose] public section

set_option maxRecDepth 16384

noncomputable section

namespace Cert.SibEarly.Prod

open Idealize.ShloMosaic Idealize.ShloMosaic.TcCoe Idealize.SL.Sem Cert.SibEarly Cert.SibEarly.Gen Cert.SibEarly.Swap Cert.Products

variable {F : FTy → Type} [FloatOps F]

/-- Where piece `k` starts in the sender's array. -/
theorem src_at : ∀ (c : Dev nD) (k : Fin 4) (a : Fin 3), (k0_off1 c (BitVec.ofNat 32 (2 * k.val))) a = (![2 * k.val + (1 - c.val % 2), 0, 0] : Fin 3 → ℕ) a := by
  decide +kernel

theorem squeezed (x : Vec F S1x2048x1024 .f32) (h : S1x2048x1024.ShapeCasts S2048x1024) (a : Fin 2048) (b : Fin 1024) :
    shapeCast S2048x1024 x h (ix2 a b) = x (ix3 0 a b) :=
  shapeCast_apply x h _ _ (by rw [Shape.rowMajor_val_two, Shape.rowMajor_val_three]; simp [Shape.size])

theorem dst_read (f : (main_v1 : Ref sig .tc).ty.Contents (Elt F)) (k : Fin 4) (a : Fin 2048) (b : Fin 1024) :
    (dstM k).view.read (Elt F) f (ix2 a b) = (f : Vec F S4x2048x1024 .f32) (ix3 k a b) := by
  refine (congrFun (Memref.read_squeeze_slice (Val := Elt F) (Memref.whole main_v1) (Rect.unit (s := S4x2048x1024) ![k.val, 0, 0] S1x2048x1024.size (dst_inb k))
    (fun _ => rfl) SibEarly.Gen.squeezes_S1x2048x1024_S2048x1024 (show S1x2048x1024.ShapeCasts S2048x1024 by decide) f) (ix2 a b)).trans ((squeezed _ _ a b).trans ?_)
  refine congrArg f (funext fun i => Fin.ext ((Rect.idx_unit_val _ _ _ _ i).trans ?_))
  fin_cases i
  · show k.val + 0 = k.val; rfl
  · show 0 + a.val = a.val; omega
  · show 0 + b.val = b.val; omega

/-- The row of the sender's array that piece `k` comes from. -/
def sent (c : Dev nD) (k : Fin 4) : Fin 8 := ⟨2 * k.val + (1 - c.val % 2), by have := k.isLt; omega⟩

theorem src_read (c : Dev nD) (f : (main_arg0 : Ref sig .tc).ty.Contents (Elt F)) (k : Fin 4) (a : Fin 2048) (b : Fin 1024) :
    (srcM c k).view.read (Elt F) f (ix2 a b) = (f : Vec F S8x2048x1024 .f32) (ix3 (sent c k) a b) := by
  refine (congrFun (Memref.read_squeeze_slice (Val := Elt F) (Memref.whole main_arg0) (Rect.unit (s := S8x2048x1024) (k0_off1 c (BitVec.ofNat 32 (2 * k.val))) S1x2048x1024.size
    (SibEarly.Gen.facts₀.k0_off1_inb c k)) (fun _ => rfl) SibEarly.Gen.squeezes_S1x2048x1024_S2048x1024 (show S1x2048x1024.ShapeCasts S2048x1024 by decide) f) (ix2 a b)).trans ((squeezed _ _ a b).trans ?_)
  refine congrArg f (funext fun i => Fin.ext ((Rect.idx_unit_val _ _ _ _ i).trans ((congrArg (· + _) (src_at c k i)).trans ?_)))
  fin_cases i
  · show 2 * k.val + (1 - c.val % 2) + 0 = _; rfl
  · show 0 + a.val = a.val; omega
  · show 0 + b.val = b.val; omega

variable (m : (ℓ : Loc nD τ sig) → Buf (Elt F) ℓ)

/-- Core `c`'s result: piece `k` is the sent row of the other core's array. -/
theorem result_apply (c : Dev nD) (s : MemSt nD τ sig (Elt F)) (h : shows m c s) (k : Fin 4) (a : Fin 2048) (b : Fin 1024) :
    (s.mem ((c : Thread nD τ).loc main_v1) : Vec F S4x2048x1024 .f32) (ix3 k a b)
      = (m ((sib c : Thread nD τ).loc main_arg0) : Vec F S8x2048x1024 .f32) (ix3 (sent (sib c) k) a b) := by
  rw [← src_read (sib c) (m ((sib c : Thread nD τ).loc main_arg0)) k a b, ← dst_read (F := F) (s.mem ((c : Thread nD τ).loc main_v1)) k a b,
    ← View.read_write_univ (v := (dstM k).view) (Val := Elt F) (m ((c : Thread nD τ).loc main_v1)) ((srcM (sib c) k).view.read (Elt F) (m ((sib c : Thread nD τ).loc main_arg0)))]
  exact h.2 k _ (Finset.mem_map_of_mem _ (Finset.mem_univ (ix2 a b : S2048x1024.Idx)))

theorem frame : quiescent_SibEarly (hSibEarly := SibEarly.Gen.facts) := fun m g _ =>
  (θ_run (SibEarly.defs (F := Bits)) _ _).mono (fun r h => ⟨fun c => (h.1 c).1, h.2⟩) (runs (F := Bits) m g)

theorem frame_ideal : quiescent_SibEarlyIdeal (hSibEarlyIdeal := SibEarlyIdeal.Gen.facts) := fun m g _ =>
  (θ_run (SibEarly.defs (F := Ideal)) _ _).mono (fun r h => ⟨fun c => (h.1 c).1, h.2⟩) (runs (F := Ideal) m g)

theorem frame_reference : quiescent_SibEarlyRefIdeal (hSibEarlyRefIdeal := SibEarlyRefIdeal.Gen.facts) := fun m g _ =>
  (θ_run (SibEarlyRefIdeal.defs (F := Ideal)) _ _).mono
    (fun r h => ⟨fun c => (h c).2, sem_eq_zero_of_no_sems (by decide) r.2⟩)
    (SibEarlyRefIdeal.Value.run (F := Ideal) m g)

/-- The whole exchanged array: chip by chip, the other core's rows. -/
def swapped (x : Vec Ideal ⟨3, ![64, 2048, 1024]⟩ .f32) : Vec Ideal ⟨3, ![32, 2048, 1024]⟩ .f32 :=
  fun i => x (ix3 (n0 := 64) ⟨(i 0).val / 8 * 16 + (1 - (i 0).val / 4 % 2) * 8 + (i 0).val % 4 * 2 + (i 0).val / 4 % 2,
    by have h : (i 0).val < 32 := (i 0).isLt; omega⟩ (i 1) (i 2))

theorem reference (x : Vec Ideal ⟨3, ![64, 2048, 1024]⟩ .f32) : SibEarlyRefIdeal.Read.val_main_v8 (F := Ideal) x = swapped x := by
  funext y
  obtain ⟨r, a, b, rfl⟩ : ∃ (r : Fin 32) (a : Fin 2048) (b : Fin 1024), y = ix3 r a b := ⟨y 0, y 1, y 2, eq_ix3 (n0 := 32) (n1 := 2048) (n2 := 1024) y⟩
  unfold swapped
  unfold SibEarlyRefIdeal.Read.val_main_v8 SibEarlyRefIdeal.Read.val_main_v7 SibEarlyRefIdeal.Read.val_main_v6 SibEarlyRefIdeal.Read.val_main_v5 SibEarlyRefIdeal.Read.val_main_v4 SibEarlyRefIdeal.Read.val_main_v3 SibEarlyRefIdeal.Read.val_main_v2 SibEarlyRefIdeal.Read.val_main_v1 SibEarlyRefIdeal.Read.val_main_v0
  pointwise []
  have hr : r.val < 32 := r.isLt
  split <;> rename_i h
  · congr 2
    apply Fin.ext
    show r.val / 8 * 16 + 8 + r.val % 4 * 2 = r.val / 8 * 16 + (1 - r.val / 4 % 2) * 8 + r.val % 4 * 2 + r.val / 4 % 2
    omega
  · congr 2
    apply Fin.ext
    show r.val / 8 * 16 + r.val % 4 * 2 + 1 = r.val / 8 * 16 + (1 - r.val / 4 % 2) * 8 + r.val % 4 * 2 + r.val / 4 % 2
    omega

theorem rows_meet : ∀ (c : Fin 8) (k : Fin 4), (sib c).val * 8 + (2 * k.val + (1 - (sib c).val % 2))
    = (c.val * 4 + k.val) / 8 * 16 + (1 - (c.val * 4 + k.val) / 4 % 2) * 8 + (c.val * 4 + k.val) % 4 * 2 + (c.val * 4 + k.val) / 4 % 2 := by
  decide +kernel

theorem algebraic : algebraic_SibEarlyIdeal_SibEarlyRefIdeal (hSibEarlyIdeal := SibEarlyIdeal.Gen.facts)
    (hSibEarlyRefIdeal := SibEarlyRefIdeal.Gen.facts) := by
  intro m g m' g' _ hagree
  refine ⟨swapped (m' (((0 : Dev SibEarlyRefIdeal.nD).tc : Thread SibEarlyRefIdeal.nD SibEarlyRefIdeal.τ).loc SibEarlyRefIdeal.main_arg0)), ?_, ?_⟩
  · refine (θ_run (SibEarly.defs (F := Ideal)) _ _).mono (fun r h c => ⟨?_, (h.1 c).1⟩) (runs (F := Ideal) m g)
    funext y
    obtain ⟨k, a, b, rfl⟩ : ∃ (k : Fin 4) (a : Fin 2048) (b : Fin 1024), y = ix3 k a b := ⟨y 0, y 1, y 2, eq_ix3 (n0 := 4) (n1 := 2048) (n2 := 1024) y⟩
    refine (result_apply m c r.2 (h.1 c) k a b).trans ((congrFun (hagree (sib c)) _).trans ?_)
    rw [Layout.block_apply, Layout.block_apply]
    unfold swapped
    congr 1
    funext i
    apply Fin.ext
    fin_cases i
    · exact rows_meet c k
    · rfl
    · rfl
  · refine (θ_run SibEarlyRefIdeal.defs _ _).mono (fun r h => ⟨?_, (h 0).2⟩) (SibEarlyRefIdeal.Value.run (F := Ideal) m' g')
    exact (h 0).1.trans ((SibEarlyRefIdeal.Read.val_main_v8_eq _).trans (reference _))

end Cert.SibEarly.Prod

end
-- ==== Proof.SibLateRun.lean ====
/- The exchange of the late gradients between sibling cores, on one core.

   Every core copies four of its eight blocks into the other core of its chip, the blocks the other core is to sum,
   and waits until its own four blocks have come from there. Nothing is asked of the other core first: the copies
   begin at once. So every core starts with the other core's receiving array in its hands, piece by piece, and the
   landed pieces come back to that core through its own waits. -/
module

public import proofs.«01_k».proof.Proof.Copies
public import proofs.«01_k».proof.Proof.Gen.SibLate.Frame
public import proofs.«01_k».proof.Proof.Gen.SibLate.Skeleton

@[expose] public section

set_option maxRecDepth 16384

noncomputable section

namespace Cert.SibLate.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Cert.Copies (series)

variable {F : FTy → Type} [FloatOps F] [Facts₀] [Facts]

local notation "𝕄" => MT nD τ sig Unit (Elt F) ℕ (UR sig nD τ) ℕ

/-! ## The text of the body -/

/-- The other core of the chip. -/
def sib (c : Dev nD) : Dev nD := ⟨if c.val % 2 = 0 then c.val + 1 else c.val - 1, by have := c.isLt; have h : c.val < 8 := this; split <;> (show _ < 8; omega)⟩

theorem sib_sib (c : Dev nD) : sib (sib c) = c := by revert c; decide

/-- The place of piece `k` in the receiving array. -/
theorem dst_inb (k : Fin 4) : ∀ a, (![k.val, 0, 0] : Fin 3 → ℕ) a + S1x1280x1024.size a ≤ S4x1280x1024.size a := by
  intro a
  have := k.isLt
  fin_cases a <;> simp [Shape.size] <;> omega

/-- The block core `c` sends as piece `k`. -/
abbrev srcM (c : Dev nD) (k : Fin 4) : Memref sig .tc .hbm S1280x1024 .f32 :=
  ((Memref.whole main_arg0).slice (Rect.unit (s := S8x1280x1024) (k0_off1 c (BitVec.ofNat 32 (2 * k.val))) S1x1280x1024.size
    (k0_off1_inb c k)) (fun _ => rfl)).squeeze S1280x1024 squeezes_S1x1280x1024_S1280x1024

/-- Piece `k` of the receiving array. -/
abbrev dstM (k : Fin 4) : Memref sig .tc .hbm S1280x1024 .f32 :=
  ((Memref.whole main_v1).slice (Rect.unit (s := S4x1280x1024) ![k.val, 0, 0] S1x1280x1024.size (dst_inb k)) (fun _ => rfl)).squeeze
    S1280x1024 squeezes_S1x1280x1024_S1280x1024

abbrev sendS (k : Fin 4) : DmaSem sig := ⟨k.val, Nat.lt_of_lt_of_le k.isLt (by decide)⟩
abbrev recvS (k : Fin 4) : DmaSem sig := ⟨4 + k.val, by have := k.isLt; show 4 + k.val < 8; omega⟩

abbrev sendTo (c e : Dev nD) (k : Fin 4) : TpuEff nD τ sig (Elt F) Λ₀ .tc PUnit :=
  .enqueueDma (srcM c k) (.remote (Dev.tc e) (dstM k) (.dma (sendS k))) (.dma (recvS k))
    ((View.wordExact_bits rfl).reshape _ _) ((View.wordExact_bits rfl).reshape _ _) ⟨⟨rfl, Or.inl rfl⟩, trivial⟩

abbrev awaitRecv (c : Dev nD) (k : Fin 4) : TpuEff nD τ sig (Elt F) Λ₀ .tc PUnit :=
  .waitDma2 (recvS k) (srcM c k) (dstM k) ((View.wordExact_bits rfl).reshape _ _) ((View.wordExact_bits rfl).reshape _ _)

abbrev awaitSend (c : Dev nD) (k : Fin 4) : TpuEff nD τ sig (Elt F) Λ₀ .tc PUnit :=
  .waitDma2 (sendS k) (dstM k) (srcM c k) ((View.wordExact_bits rfl).reshape _ _) ((View.wordExact_bits rfl).reshape _ _)

/-- The body once the core knows which device it is, and `e` the devices its copies go to. -/
def scriptAt (d : Dev nD) (e : Fin 4 → Dev nD) : Prog (TpuEff nD τ sig (Elt F) Λ₀ .tc) PUnit :=
  series (fun k => sendTo d (e k) k) [0, 1, 2, 3] (series (awaitRecv d) [0, 1, 2, 3] (series (awaitSend d) [0, 1, 2, 3] (.ret ⟨⟩)))

/-- The printed body is that text. -/
theorem body_eq : cc0_grads_to_sibling_late (F := F) (Memref.whole main_arg0) (Memref.isWhole_whole _) (Memref.whole main_v1)
      (Memref.isWhole_whole _) cc0_scratch0 cc0_scratch1
    = .op .deviceId fun d => scriptAt d ![⟨k0_dev1 d, k0_dev1_lt d⟩, ⟨k0_dev2 d, k0_dev2_lt d⟩, ⟨k0_dev3 d, k0_dev3_lt d⟩,
        ⟨k0_dev4 d, k0_dev4_lt d⟩] := by
  with_unfolding_all rfl

theorem dev1_val : ∀ d : Dev nD, k0_dev1 d = (sib d).val := by decide
theorem dev2_val : ∀ d : Dev nD, k0_dev2 d = (sib d).val := by decide
theorem dev3_val : ∀ d : Dev nD, k0_dev3 d = (sib d).val := by decide
theorem dev4_val : ∀ d : Dev nD, k0_dev4 d = (sib d).val := by decide

theorem devs_eq (d : Dev nD) : (![⟨k0_dev1 d, k0_dev1_lt d⟩, ⟨k0_dev2 d, k0_dev2_lt d⟩, ⟨k0_dev3 d, k0_dev3_lt d⟩,
    ⟨k0_dev4 d, k0_dev4_lt d⟩] : Fin 4 → Dev nD) = fun _ => sib d := by
  funext k
  fin_cases k
  exacts [Fin.ext (dev1_val d), Fin.ext (dev2_val d), Fin.ext (dev3_val d), Fin.ext (dev4_val d)]

/-! ## The exchange -/

theorem far : ∀ c : Dev nD, τ.routes (c.tc : Thread nD τ) ((sib c).tc : Thread nD τ) = true := by decide

abbrev sems : Fin 4 ⊕ Fin 4 → DmaSem sig := Sum.elim sendS recvS

theorem sems_inj : Function.Injective sems := by decide

/-- The exchange of the kernel. -/
abbrev plan : Copies.Plan nD τ sig 4 where
  shape := S1280x1024
  elt := .f32
  src := srcM
  dst := dstM
  sem := sems
  sem_inj := sems_inj
  peer c _ := sib c
  peer_peer c _ := sib_sib c
  credit := (dstM 0).view.dmaCredit
  credit_pos := View.dmaCredit_pos _ (by decide)
  src_credit _ _ := rfl
  dst_credit _ := rfl
  far c _ := far c

variable (m : (ℓ : Loc nD τ sig) → Buf (Elt F) ℓ)

abbrev ER : Emb (UR sig nD τ) (MT nD τ sig Unit (Elt F) ℕ (UR sig nD τ) ℕ) := emb₁
abbrev 𝒱₀ : Variants := Variants.none

theorem body_run (c : Dev nD) (Q : PUnit → sProp 𝕄) :
    iprop(plan.kits m ER c ∗ (∃ W, owes (c : Thread nD τ) (plan.owed₀ c) W) ∗ ((plan.done m c ∗ ∃ W, owes (c : Thread nD τ) 0 W) -∗ Q ⟨⟩))
      ⊢ wp frame (wpE defs₀ 𝒱₀ (c : Thread nD τ) none) Set.univ
          (cc0_grads_to_sibling_late (F := F) (Memref.whole main_arg0) (Memref.isWhole_whole _) (Memref.whole main_v1)
            (Memref.isWhole_whole _) cc0_scratch0 cc0_scratch1) Q := by
  rw [body_eq, wp_deviceId, devs_eq]
  have h := plan.swap_run m ER (defs := defs₀ (F := F)) 𝒱₀ c (fun k => sendTo c (sib c) k) (awaitRecv c) (awaitSend c)
    (fun k => ⟨_, _, _, _, rfl⟩) (fun k => ⟨_, _, _, rfl⟩) (fun k => ⟨_, _, _, rfl⟩) (.ret ⟨⟩) Q
  iintro ⟨HK, HO, HQ⟩
  iapply h $$ [HK HO]
  · isplitl [HK] <;> iassumption
  iintro H
  rw [wp_ret]
  imodintro
  iapply HQ; iexact H

/-! ## The region, and the core's whole program -/

theorem scopedSems0_eq (c : Dev nD) : (scopedSems0 (c : Thread nD τ) : sProp 𝕄) = bigSep Finset.univ fun j => semVal (plan.cell c j) 0 := by
  rw [scopedSems0_tc, show (Finset.univ.filter fun sm : SemLoc sig => sm.isScoped .tc)
    = Finset.univ.map ⟨fun j => (SemLoc.dma (sems j) : SemLoc sig), by decide⟩ from by decide, BI.bigSep_map]
  rfl

/-- Core `c`'s own array at a share. -/
def keep (c : Dev nD) : sProp 𝕄 := iprop(∃ q : PosShare TreeShare, (c : Thread nD τ).loc main_arg0 ↦{q} m ((c : Thread nD τ).loc main_arg0))

/-- What core `c` starts with, and what it ends with. -/
def start (c : Dev nD) : sProp 𝕄 :=
  iprop(plan.kits m ER c ∗ keep m c ∗ owes (c : Thread nD τ) (plan.owed₀ c) ∅ ∗ scopedBufs (c : Thread nD τ))
def fin (c : Dev nD) : sProp 𝕄 := iprop(keep m c ∗ bigSep Finset.univ (plan.landedPts m c))

def dat (c : Dev nD) : Pipeline.Dat τ (Elt F) Unit ℕ (UR sig nD τ) ℕ cfg0 c where
  A w := w.elim0
  after w := w.elim0
  Φ t := if t.val = 0 then iprop(plan.kits m ER c ∗ scopedBufs (c : Thread nD τ)) else iprop(plan.done m c ∗ scopedBufs (c : Thread nD τ))
  q w := w.elim0
  owed t := if t.val = 0 then plan.owed₀ c else 0

abbrev adm : (p : Fin 1) → (pcfgs (F := F) p).Adm := fun p => (cfgs p).toPCfg_adm
def pdats : (p : Fin 1) → (c : Dev nD) → Pipeline.Dat τ (Elt F) Unit ℕ (UR sig nD τ) ℕ (Pipeline.pin (pcfgs (F := F)) adm p) c
  | 0 => dat m

theorem bigSep_W {M : Type} [URA M] (Φ : Fin 0 → sProp M) : bigSep Finset.univ Φ = (BI.emp : sProp M) :=
  bigSep_univ_eq_bigSepL [] (by decide) (by decide) Φ

theorem owed_first (c : Dev nD) : (dat (F := F) m c).owed Gen.t0_0.castSucc = plan.owed₀ c := by
  show (if (Gen.t0_0.castSucc : Fin (cfg0.N + 1)).val = 0 then plan.owed₀ c else 0) = plan.owed₀ c; exact if_pos rfl
theorem owed_zero (c : Dev nD) : (dat (F := F) m c).owed 0 = plan.owed₀ c := owed_first m c
theorem owed_last (c : Dev nD) : (dat (F := F) m c).owed (Fin.last _) = 0 := by
  show (if (Fin.last cfg0.N).val = 0 then plan.owed₀ c else 0) = 0
  rw [Fin.val_last, if_neg (by rw [show cfg0.N = 1 from Gen.N_0]; decide)]
theorem owed_succ (c : Dev nD) : (dat (F := F) m c).owed Gen.t0_0.succ = 0 := owed_last m c

theorem owesAt_intro {cfg : Pipeline.Cfg sig Λ₀} {c : Dev nD} (dat : Dat τ (Elt F) Unit ℕ (UR sig nD τ) ℕ cfg c) (t : Fin (cfg.N + 1))
    (O : CellTallies nD τ sig Unit) (h0 : dat.owed t = O) (W : Waits sig Unit) (hr : dat.recorded t = Set.univ := by first | rfl | skip) :
    (owes (c : Thread nD τ) O W : sProp 𝕄) ⊢ (dat.owesAt () t : sProp 𝕄) := by
  unfold Dat.owesAt Pipeline.owesWithin Dat.bound; rw [h0, hr]
  iintro HO; iexists W; isplitr; · ipureintro; exact fun _ _ => Or.inl trivial
  iexact HO
theorem owesAt_elim {cfg : Pipeline.Cfg sig Λ₀} {c : Dev nD} (dat : Dat τ (Elt F) Unit ℕ (UR sig nD τ) ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

theorem body_ok (c : Dev nD) : BodyObligation (dat (F := F) m c) defs₀ 𝒱₀ () Set.univ := fun t => by
  obtain rfl := Gen.fin_N0 t
  rw [bigSep_W, bigSep_W]
  rw [show (dat m c).Φ Gen.t0_0.castSucc = iprop(plan.kits m ER c ∗ scopedBufs (c : Thread nD τ)) from rfl,
    show (dat m c).Φ Gen.t0_0.succ = iprop(plan.done m c ∗ scopedBufs (c : Thread nD τ)) from rfl]
  iintro ⟨⟨HK, Hb⟩, HO, -⟩
  ihave HO' := (owesAt_elim (dat m c) _ (plan.owed₀ c) (owed_first m c)) $$ HO
  iapply (body_run m c _)
  isplitl [HK]; · iexact HK
  isplitl [HO']; · iexact HO'
  iintro ⟨HG, %W', HO⟩
  isplitl [HG Hb]; · isplitl [HG] <;> iassumption
  isplitl [HO]; · iapply (owesAt_intro (dat m c) Gen.t0_0.succ 0 (owed_succ m c) W'); iexact HO
  iempintro

theorem run (c : Dev nD) :
    start m c ⊢ wp frame (wpE defs (Variants.lift 𝒱₀) (c : Thread nD τ) none) Set.univ (main (F := F) c)
      (fun _ => iprop((fin m c ∗ scopedSems0 (c : Thread nD τ)) ∗ ∃ W, owes (c : Thread nD τ) 0 W)) := by
  rw [show main (F := F) c = .op (.customCall (Pipeline.entry 0) ()) fun _ => .ret ⟨⟩ from rfl]
  have hst : (Dat.staging (Pipeline.pin (pcfgs (F := F)) adm 0) c : sProp 𝕄) = BI.emp := bigSep_W _
  have hfirst : (pdats m 0 c).Φ 0 = iprop(plan.kits m ER c ∗ scopedBufs (c : Thread nD τ)) := rfl
  have hlast : (pdats m 0 c).Φ (Fin.last _) = iprop(plan.done m c ∗ scopedBufs (c : Thread nD τ)) := rfl
  have hpre : iprop(owes (c : Thread nD τ) (plan.owed₀ c) ∅)
      ⊢ Pipeline.EntryPre (Pipeline.pin (pcfgs (F := F)) adm) (pdats m) () ER (fun _ => 0) 0 c := by
    unfold Pipeline.EntryPre Pipeline.PerCore.EntryPre Pipeline.PerCore.cellsWaits Pipeline.PerCore.cellsInit Pipeline.PerCore.toksInit
      Pipeline.PerCore.RDat.cellsWaits Pipeline.PerCore.RDat.cellsInit Dat.arrays
    iintro HO
    isplitr; · rw [show bigSep _ _ = _ from bigSep_W _]; iempintro
    isplitl [HO]; · iapply (owesAt_intro (dat m c) 0 (plan.owed₀ c) (owed_zero m c) ∅); iexact HO
    isplitr; · rw [show bigSep _ _ = _ from bigSep_W _]; iempintro
    isplitr; · rw [show bigSep _ _ = _ from bigSep_W _]; iempintro
    rw [show bigSep _ _ = _ from bigSep_W _]; iempintro
  have hpost : Pipeline.EntryPost (Pipeline.pin (pcfgs (F := F)) adm) (pdats m) () 0 c ⊢ iprop(∃ W, owes (c : Thread nD τ) 0 W) := by
    unfold Pipeline.EntryPost Pipeline.PerCore.EntryPost
    iintro ⟨-, HO⟩
    iapply (owesAt_elim (dat m c) _ 0 (owed_last m c)); iexact HO
  have hpf : (BI.emp : sProp 𝕄) ⊢ Pipeline.prefHeld (pcfgs (F := F) 0).pre c (fun _ => fullShare) (adm 0).1 := by
    rw [show Pipeline.prefHeld (pcfgs (F := F) 0).pre c (fun _ => fullShare) (adm 0).1 = (BI.emp : sProp 𝕄) from bigSep_W _]
  unfold start
  iintro ⟨HK, Hkeep, HO, Hb⟩
  have h := Pipeline.wp_customCall_entry_frame pcfgs adm (pdats m) () ER (fun _ => 0) Gen.cellOf_inj 0 defs₀ 𝒱₀ (fun _ => fullShare) c Set.univ
    (fun w => w.elim0) (body_ok m c).loose (fun w => w.elim0) none (fun u hu => by cases hu)
    (X := plan.kits m ER c) (Y := bigSep Finset.univ (plan.landedPts m c)) (R := scopedBufs (c : Thread nD τ)) (I := iprop(emp))
    (by
      rw [hst]; iintro H; isplitr; · iempintro
      iexact H)
    (by
      rw [hfirst]; iintro ⟨HX, -, HR⟩
      isplitl [HX] <;> iassumption)
    (by
      rw [hlast, hst]
      unfold Copies.Plan.done
      iintro ⟨⟨⟨HL, HS⟩, Hb⟩, -, -, -⟩
      rw [scopedSems0_eq]
      isplitl [HL]; · iexact HL
      isplitl [HS] <;> iassumption)
    (α := PUnit) (k := fun _ => .ret ⟨⟩) (Q := fun _ => iprop((fin m c ∗ scopedSems0 (c : Thread nD τ)) ∗ ∃ W, owes (c : Thread nD τ) 0 W))
  iapply h $$ [HK HO Hb]
  · isplitl [HO]; · iapply hpre; iexact HO
    isplitr; · iapply hpf; iempintro
    isplitl [HK]; · iexact HK
    isplitr; · iempintro
    iexact Hb
  iintro ⟨HP, HL, HS, -⟩
  ihave HO := hpost $$ HP
  rw [wp_ret]
  imodintro
  unfold fin
  isplitr [HO]
  · isplitr [HS]
    · isplitl [Hkeep] <;> iassumption
    iexact HS
  iexact HO

/-! ## What the launch gives -/

theorem dst_set (k : Fin 4) : (dstM k).view.set
    = (Rect.unit (s := S4x1280x1024) ![k.val, 0, 0] S1x1280x1024.size (dst_inb k)).set :=
  (View.set_reshape (v := _) squeezes_S1x1280x1024_S1280x1024.numel_eq).trans (View.set_slice_whole _ _)

theorem dst_cover : (Finset.univ : Finset (Fin 4)).biUnion (β := S4x1280x1024.Idx) (fun k => (dstM k).view.set) = Finset.univ := by
  rw [Finset.biUnion_congr rfl (fun k _ => dst_set k)]
  exact Ring.lead_cover (s := S4x1280x1024) 0 1 (fun k : Fin 4 => ![k.val, 0, 0]) S1x1280x1024.size dst_inb (by intro b; simp) (by decide) (by decide)
    (by decide) (by decide)

theorem dst_covers (i : S4x1280x1024.Idx) : ∃ k : Fin 4, i ∈ (dstM k).view.set := by
  have h := Finset.mem_univ i
  rw [← dst_cover, Finset.mem_biUnion] at h
  exact h.imp fun _ h => h.2

theorem dst_disjoint (k j : Fin 4) (h : k ≠ j) : Disjoint (dstM k).view.set (dstM j).view.set := by
  rw [dst_set, dst_set]
  exact Ring.lead_disjoint (s := S4x1280x1024) 0 1 (fun k : Fin 4 => ![k.val, 0, 0]) S1x1280x1024.size dst_inb (by intro b; simp) (by decide) k j h

/-- Core `c`'s two arrays as launched: its own array is kept at one share and lent to its four sends at others, and
    the receiving array falls into its pieces. -/
theorem arrays_dealt (c : Dev nD) :
    (unscopedBufs c (fun b => m ((c : Thread nD τ).loc b)) : sProp 𝕄)
      ⊢ iprop(keep m c ∗ (bigSep Finset.univ fun k : Fin 4 => iprop(∃ q, plan.srcPts m c k q)) ∗ bigSep Finset.univ (plan.dstPts m c)) := by
  unfold unscopedBufs
  rw [bigSep_eq_bigSepL_of_eq [main_arg0, main_v1] (by decide) (by decide)]
  show iprop((((c : Thread nD τ).loc main_arg0) ↦{fullShare} m ((c : Thread nD τ).loc main_arg0))
    ∗ (((c : Thread nD τ).loc main_v1) ↦{fullShare} m ((c : Thread nD τ).loc main_v1))) ⊢ _
  have hd : (((c : Thread nD τ).loc main_v1) ↦{fullShare} m ((c : Thread nD τ).loc main_v1) : sProp 𝕄) = bigSep Finset.univ (plan.dstPts m c) := by
    unfold Copies.Plan.dstPts
    exact Ring.pointsTo_blocks (ℓ := (c : Thread nD τ).loc main_v1) (fun k : Fin 4 => (dstM k).view.set) dst_disjoint
      (Finset.eq_univ_of_forall fun i => Finset.mem_biUnion.mpr ((dst_covers i).imp fun _ h => ⟨Finset.mem_univ _, h⟩)) _
  rw [hd]
  have hs : (((c : Thread nD τ).loc main_arg0) ↦{fullShare} m ((c : Thread nD τ).loc main_arg0) : sProp 𝕄)
      ⊢ iprop(keep m c ∗ bigSep Finset.univ fun k : Fin 4 => iprop(∃ q, plan.srcPts m c k q)) :=
    Copies.lent (ℓ := (c : Thread nD τ).loc main_arg0) (fun k : Fin 4 => (srcM c k).view.set) _
  iintro ⟨HA, HD⟩
  ihave HA' := hs $$ HA
  icases HA' with ⟨HK, HS⟩
  isplitl [HK]; · iexact HK
  isplitl [HS] <;> iassumption

/-- One core's launch, sorted. -/
theorem launch_sorted (g : Dev nD → PrngReg) (c : Dev nD) : (Exchange.atLaunch plan.owed₀ m g c : sProp 𝕄)
    ⊢ iprop((keep m c ∗ owes (c : Thread nD τ) (plan.owed₀ c) ∅ ∗ scopedBufs (c : Thread nD τ)) ∗ plan.brings m c) := by
  unfold Exchange.atLaunch Copies.Plan.brings
  rw [scopedSems0_eq]
  iintro ⟨Hsb, Hss, Hub, -, HO, Hcr⟩
  ihave Ha := (arrays_dealt m c) $$ Hub
  icases Ha with ⟨HK, HS, HD⟩
  ihave Hc := (plan.creds c) $$ Hcr
  isplitl [HK HO Hsb]
  · isplitl [HK]; · iexact HK
    isplitl [HO] <;> iassumption
  isplitl [HS]; · iexact HS
  isplitl [HD]; · iexact HD
  isplitl [Hc] <;> iassumption

/-- The launch dealt out to the cores. -/
theorem deal (g : Dev nD → PrngReg) (L : GSem nD τ sig → Finset Unit) (lv : GSem nD τ sig → Unit → ℕ) :
    iprop((bigSep Finset.univ fun c => (Exchange.atLaunch plan.owed₀ m g c : sProp 𝕄)) ∗ levAts L lv ∗ ownU plan.ghost₀)
      ⊢ iprop(|={Set.univ}=> bigSep Finset.univ (start m)) := by
  have h1 : (bigSep Finset.univ fun c => (Exchange.atLaunch plan.owed₀ m g c : sProp 𝕄))
      ⊢ iprop((bigSep Finset.univ fun c => iprop(keep m c ∗ owes (c : Thread nD τ) (plan.owed₀ c) ∅ ∗ scopedBufs (c : Thread nD τ)))
        ∗ bigSep Finset.univ (plan.brings m)) := by
    rw [← bigSep_sep']
    exact BI.bigSep_mono fun c _ => launch_sorted m g c
  have h2 : bigSep Finset.univ (start m) = iprop((bigSep Finset.univ (plan.kits m ER))
      ∗ bigSep Finset.univ fun c => iprop(keep m c ∗ owes (c : Thread nD τ) (plan.owed₀ c) ∅ ∗ scopedBufs (c : Thread nD τ))) := by
    rw [← bigSep_sep']; rfl
  iintro ⟨HL, -, HU⟩
  ihave HL' := h1 $$ HL
  icases HL' with ⟨HK, HB⟩
  ihave HU' := (show (ownU plan.ghost₀ : sProp 𝕄) ⊢ BI.own (ER plan.ghost₀) from BI.Entails.refl _) $$ HU
  imod (plan.dealt m ER) $$ [HB HU'] with HX
  · isplitl [HB] <;> iassumption
  imodintro
  rw [h2]
  isplitl [HX] <;> iassumption

/-- What a finished core's memory shows: its argument, and the four pieces the other core copied into its result. -/
def shows (c : Dev nD) (s : MemSt nD τ sig (Elt F)) : Prop :=
  s.mem ((c : Thread nD τ).loc main_arg0) = m ((c : Thread nD τ).loc main_arg0)
    ∧ ∀ k : Fin 4, ∀ i : S4x1280x1024.Idx, i ∈ (dstM k).view.set → s.mem ((c : Thread nD τ).loc main_v1) i = (plan.landed m c k : Buf (Elt F) ((c : Thread nD τ).loc main_v1)) i

theorem read (c : Dev nD) (s : Phys nD τ sig (Elt F)) : iprop(fin m c ∗ SI s) ⊢ (iprop(|={Set.univ}=> (⌜shows m c s.mem⌝ ∗ SI s)) : sProp 𝕄) := by
  have arg : iprop(fin m c ∗ SI s) ⊢ (⌜s.mem.mem ((c : Thread nD τ).loc main_arg0) = m ((c : Thread nD τ).loc main_arg0)⌝ : sProp 𝕄) := by
    unfold fin keep
    iintro ⟨⟨HK, -⟩, HS⟩
    iapply (Copies.whole_read (U := UR sig nD τ) (m ((c : Thread nD τ).loc main_arg0)) s)
    isplitl [HK] <;> iassumption
  have pieces : iprop(fin m c ∗ SI s) ⊢ (⌜∀ k : Fin 4, ∀ i : S4x1280x1024.Idx, i ∈ (dstM k).view.set → s.mem.mem ((c : Thread nD τ).loc main_v1) i = (plan.landed m c k : Buf (Elt F) ((c : Thread nD τ).loc main_v1)) i⌝ : sProp 𝕄) := by
    unfold fin
    iintro ⟨⟨-, HL⟩, HS⟩
    iapply (plan.landed_read (U := UR sig nD τ) m c s)
    isplitl [HL] <;> iassumption
  refine pure_elim _ arg fun ha => ?_
  refine pure_elim _ pieces fun hp => ?_
  have hq : shows m c s.mem := ⟨ha, hp⟩
  iintro ⟨-, HS⟩
  imodintro
  isplitr
  · ipureintro; exact hq
  iexact HS

/-- The exchange runs: every core's argument ends unchanged, its result holds the four pieces the other core copied, and every semaphore is back at zero. -/
theorem runs (g : Dev nD → PrngReg) :
    θ_run (defs (F := F)) (onTc (τ := τ) (main (F := F))) ⟨m, fun _ => 0, g⟩ (fun r => (∀ c : Dev nD, shows m c r.2) ∧ r.2.sem = fun _ => 0) := by
  have h := Exchange.run_dealt (defs := defs (F := F)) (Variants.lift 𝒱₀) (main (F := F)) m g plan.owed₀ (fun _ => ∅) (fun _ _ => 0) (fun _ _ => rfl) plan.ghost₀
    (start m) (fin m) (deal m g _ _) (run m) (shows m) (read m)
  refine (θ_run defs _ _).mono (fun r hr => ⟨hr.1, funext fun g' => hr.2 g' ?_⟩) h
  obtain ⟨⟨d, p⟩, sm⟩ := g'
  right
  revert sm
  exact (by decide : ∀ sm : SemLoc sig, sm.isScoped .tc = true)

end Cert.SibLate.Swap

end
-- ==== Proof.SibLateClaims.lean ====
/-
  The exchange of the late gradients: its frames, and its value beside a reshape and a stack of the whole arrays.

  The kernel's text is the same at the bits and at the extended reals, so the one run of it gives both frames.
-/
module

public import proofs.«01_k».proof.Defs
public import proofs.«01_k».proof.Proof.Products
public import proofs.«01_k».proof.Proof.SibLateRun
public import proofs.«01_k».proof.Proof.Gen.SibLate
public import proofs.«01_k».proof.Proof.Gen.SibLateIdeal
public import proofs.«01_k».proof.Proof.Gen.SibLateRefIdeal.Run
public import proofs.«01_k».proof.Proof.Gen.SibLateRefIdeal.Read
public import Idealize.ShloMosaic.Adequacy

@[expose] public section

set_option maxRecDepth 16384

noncomputable section

namespace Cert.SibLate.Prod

open Idealize.ShloMosaic Idealize.ShloMosaic.TcCoe Idealize.SL.Sem Cert.SibLate Cert.SibLate.Gen Cert.SibLate.Swap Cert.Products

variable {F : FTy → Type} [FloatOps F]

/-- Where piece `k` starts in the sender's array. -/
theorem src_at : ∀ (c : Dev nD) (k : Fin 4) (a : Fin 3), (k0_off1 c (BitVec.ofNat 32 (2 * k.val))) a = (![2 * k.val + (1 - c.val % 2), 0, 0] : Fin 3 → ℕ) a := by
  decide +kernel

theorem squeezed (x : Vec F S1x1280x1024 .f32) (h : S1x1280x1024.ShapeCasts S1280x1024) (a : Fin 1280) (b : Fin 1024) :
    shapeCast S1280x1024 x h (ix2 a b) = x (ix3 0 a b) :=
  shapeCast_apply x h _ _ (by rw [Shape.rowMajor_val_two, Shape.rowMajor_val_three]; simp [Shape.size])

theorem dst_read (f : (main_v1 : Ref sig .tc).ty.Contents (Elt F)) (k : Fin 4) (a : Fin 1280) (b : Fin 1024) :
    (dstM k).view.read (Elt F) f (ix2 a b) = (f : Vec F S4x1280x1024 .f32) (ix3 k a b) := by
  refine (congrFun (Memref.read_squeeze_slice (Val := Elt F) (Memref.whole main_v1) (Rect.unit (s := S4x1280x1024) ![k.val, 0, 0] S1x1280x1024.size (dst_inb k))
    (fun _ => rfl) SibLate.Gen.squeezes_S1x1280x1024_S1280x1024 (show S1x1280x1024.ShapeCasts S1280x1024 by decide) f) (ix2 a b)).trans ((squeezed _ _ a b).trans ?_)
  refine congrArg f (funext fun i => Fin.ext ((Rect.idx_unit_val _ _ _ _ i).trans ?_))
  fin_cases i
  · show k.val + 0 = k.val; rfl
  · show 0 + a.val = a.val; omega
  · show 0 + b.val = b.val; omega

/-- The row of the sender's array that piece `k` comes from. -/
def sent (c : Dev nD) (k : Fin 4) : Fin 8 := ⟨2 * k.val + (1 - c.val % 2), by have := k.isLt; omega⟩

theorem src_read (c : Dev nD) (f : (main_arg0 : Ref sig .tc).ty.Contents (Elt F)) (k : Fin 4) (a : Fin 1280) (b : Fin 1024) :
    (srcM c k).view.read (Elt F) f (ix2 a b) = (f : Vec F S8x1280x1024 .f32) (ix3 (sent c k) a b) := by
  refine (congrFun (Memref.read_squeeze_slice (Val := Elt F) (Memref.whole main_arg0) (Rect.unit (s := S8x1280x1024) (k0_off1 c (BitVec.ofNat 32 (2 * k.val))) S1x1280x1024.size
    (SibLate.Gen.facts₀.k0_off1_inb c k)) (fun _ => rfl) SibLate.Gen.squeezes_S1x1280x1024_S1280x1024 (show S1x1280x1024.ShapeCasts S1280x1024 by decide) f) (ix2 a b)).trans ((squeezed _ _ a b).trans ?_)
  refine congrArg f (funext fun i => Fin.ext ((Rect.idx_unit_val _ _ _ _ i).trans ((congrArg (· + _) (src_at c k i)).trans ?_)))
  fin_cases i
  · show 2 * k.val + (1 - c.val % 2) + 0 = _; rfl
  · show 0 + a.val = a.val; omega
  · show 0 + b.val = b.val; omega

variable (m : (ℓ : Loc nD τ sig) → Buf (Elt F) ℓ)

/-- Core `c`'s result: piece `k` is the sent row of the other core's array. -/
theorem result_apply (c : Dev nD) (s : MemSt nD τ sig (Elt F)) (h : shows m c s) (k : Fin 4) (a : Fin 1280) (b : Fin 1024) :
    (s.mem ((c : Thread nD τ).loc main_v1) : Vec F S4x1280x1024 .f32) (ix3 k a b)
      = (m ((sib c : Thread nD τ).loc main_arg0) : Vec F S8x1280x1024 .f32) (ix3 (sent (sib c) k) a b) := by
  rw [← src_read (sib c) (m ((sib c : Thread nD τ).loc main_arg0)) k a b, ← dst_read (F := F) (s.mem ((c : Thread nD τ).loc main_v1)) k a b,
    ← View.read_write_univ (v := (dstM k).view) (Val := Elt F) (m ((c : Thread nD τ).loc main_v1)) ((srcM (sib c) k).view.read (Elt F) (m ((sib c : Thread nD τ).loc main_arg0)))]
  exact h.2 k _ (Finset.mem_map_of_mem _ (Finset.mem_univ (ix2 a b : S1280x1024.Idx)))

theorem frame : quiescent_SibLate (hSibLate := SibLate.Gen.facts) := fun m g _ =>
  (θ_run (SibLate.defs (F := Bits)) _ _).mono (fun r h => ⟨fun c => (h.1 c).1, h.2⟩) (runs (F := Bits) m g)

theorem frame_ideal : quiescent_SibLateIdeal (hSibLateIdeal := SibLateIdeal.Gen.facts) := fun m g _ =>
  (θ_run (SibLate.defs (F := Ideal)) _ _).mono (fun r h => ⟨fun c => (h.1 c).1, h.2⟩) (runs (F := Ideal) m g)

theorem frame_reference : quiescent_SibLateRefIdeal (hSibLateRefIdeal := SibLateRefIdeal.Gen.facts) := fun m g _ =>
  (θ_run (SibLateRefIdeal.defs (F := Ideal)) _ _).mono
    (fun r h => ⟨fun c => (h c).2, sem_eq_zero_of_no_sems (by decide) r.2⟩)
    (SibLateRefIdeal.Value.run (F := Ideal) m g)

/-- The whole exchanged array: chip by chip, the other core's rows. -/
def swapped (x : Vec Ideal ⟨3, ![64, 1280, 1024]⟩ .f32) : Vec Ideal ⟨3, ![32, 1280, 1024]⟩ .f32 :=
  fun i => x (ix3 (n0 := 64) ⟨(i 0).val / 8 * 16 + (1 - (i 0).val / 4 % 2) * 8 + (i 0).val % 4 * 2 + (i 0).val / 4 % 2,
    by have h : (i 0).val < 32 := (i 0).isLt; omega⟩ (i 1) (i 2))

theorem reference (x : Vec Ideal ⟨3, ![64, 1280, 1024]⟩ .f32) : SibLateRefIdeal.Read.val_main_v8 (F := Ideal) x = swapped x := by
  funext y
  obtain ⟨r, a, b, rfl⟩ : ∃ (r : Fin 32) (a : Fin 1280) (b : Fin 1024), y = ix3 r a b := ⟨y 0, y 1, y 2, eq_ix3 (n0 := 32) (n1 := 1280) (n2 := 1024) y⟩
  unfold swapped
  unfold SibLateRefIdeal.Read.val_main_v8 SibLateRefIdeal.Read.val_main_v7 SibLateRefIdeal.Read.val_main_v6 SibLateRefIdeal.Read.val_main_v5 SibLateRefIdeal.Read.val_main_v4 SibLateRefIdeal.Read.val_main_v3 SibLateRefIdeal.Read.val_main_v2 SibLateRefIdeal.Read.val_main_v1 SibLateRefIdeal.Read.val_main_v0
  pointwise []
  have hr : r.val < 32 := r.isLt
  split <;> rename_i h
  · congr 2
    apply Fin.ext
    show r.val / 8 * 16 + 8 + r.val % 4 * 2 = r.val / 8 * 16 + (1 - r.val / 4 % 2) * 8 + r.val % 4 * 2 + r.val / 4 % 2
    omega
  · congr 2
    apply Fin.ext
    show r.val / 8 * 16 + r.val % 4 * 2 + 1 = r.val / 8 * 16 + (1 - r.val / 4 % 2) * 8 + r.val % 4 * 2 + r.val / 4 % 2
    omega

theorem rows_meet : ∀ (c : Fin 8) (k : Fin 4), (sib c).val * 8 + (2 * k.val + (1 - (sib c).val % 2))
    = (c.val * 4 + k.val) / 8 * 16 + (1 - (c.val * 4 + k.val) / 4 % 2) * 8 + (c.val * 4 + k.val) % 4 * 2 + (c.val * 4 + k.val) / 4 % 2 := by
  decide +kernel

theorem algebraic : algebraic_SibLateIdeal_SibLateRefIdeal (hSibLateIdeal := SibLateIdeal.Gen.facts)
    (hSibLateRefIdeal := SibLateRefIdeal.Gen.facts) := by
  intro m g m' g' _ hagree
  refine ⟨swapped (m' (((0 : Dev SibLateRefIdeal.nD).tc : Thread SibLateRefIdeal.nD SibLateRefIdeal.τ).loc SibLateRefIdeal.main_arg0)), ?_, ?_⟩
  · refine (θ_run (SibLate.defs (F := Ideal)) _ _).mono (fun r h c => ⟨?_, (h.1 c).1⟩) (runs (F := Ideal) m g)
    funext y
    obtain ⟨k, a, b, rfl⟩ : ∃ (k : Fin 4) (a : Fin 1280) (b : Fin 1024), y = ix3 k a b := ⟨y 0, y 1, y 2, eq_ix3 (n0 := 4) (n1 := 1280) (n2 := 1024) y⟩
    refine (result_apply m c r.2 (h.1 c) k a b).trans ((congrFun (hagree (sib c)) _).trans ?_)
    rw [Layout.block_apply, Layout.block_apply]
    unfold swapped
    congr 1
    funext i
    apply Fin.ext
    fin_cases i
    · exact rows_meet c k
    · rfl
    · rfl
  · refine (θ_run SibLateRefIdeal.defs _ _).mono (fun r h => ⟨?_, (h 0).2⟩) (SibLateRefIdeal.Value.run (F := Ideal) m' g')
    exact (h 0).1.trans ((SibLateRefIdeal.Read.val_main_v8_eq _).trans (reference _))

end Cert.SibLate.Prod

end
-- ==== Proof.DXnBody.lean ====
/- What one point of the activation gradient's grid does to the staged blocks and to the running sum.

   The sum in the scratch array is reset at the first step of a row block and grows by one of the seven products at
   every step, the product whose step it is. At the last step of the row block the sum is what the result's block gets.
   Loads and stores here all take a whole staged block. -/
module

public import proofs.«01_k».proof.Proof.Exchange
public import proofs.«01_k».proof.Proof.Products
public import proofs.«01_k».proof.Proof.Gen.DXn.Frame
public import proofs.«01_k».proof.Proof.Gen.DXn.Skeleton

@[expose] public section

set_option maxRecDepth 16384

noncomputable section

namespace Cert.DXn.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Gen (k0_pay1 k0_pay2 k0_pay3 k0_pay4 k0_pay5 k0_pay6 k0_pay7 k0_pay8)

variable {F : FTy → Type} [FloatOps F] [Facts₀] [Facts]

/-- The resources beside the machine's: the pipeline's rounds, and the exchange's. -/
abbrev UU : Type := UR sig nD τ × UR sig nD τ

local notation "𝕄" => MT nD τ sig Unit (Elt F) ℕ UU ℕ

abbrev 𝒱₀ : Variants := Variants.none

/-! ## Whole blocks loaded and stored -/

section Whole

variable {S : Shape} {e : EltTy} {off : Fin S.rank → ℕ} {inb : ∀ a, off a + S.size a ≤ S.size a} {α : Type}

theorem load_owns (c : Dev nD) {M : Memref sig .tc .vmem S e} (hz : off = fun _ => 0)
    {hl : M.view.LoadsAt (Rect.unit off S.size inb).toLoadRect} {q : PosShare TreeShare} {X : S.Idx → Elt F e}
    {k : (S.Idx → Elt F e) → Prog (TpuEff nD τ sig (Elt F) Λ₀ .tc) α} {Q : α → sProp 𝕄} :
    (owns (c : Thread nD τ) M q X : sProp 𝕄)
      ⊢ iprop((owns (c : Thread nD τ) M q X -∗ wp frame (wpE defs₀ 𝒱₀ (c : Thread nD τ) none) Set.univ (k X) Q)
          -∗ wp frame (wpE defs₀ 𝒱₀ (c : Thread nD τ) none) Set.univ (.op (.load M (Rect.unit off S.size inb).toLoadRect hl) k) Q) := by
  unfold owns
  iintro ⟨%f, %hf, H⟩ HK
  iapply (wp_load 𝒱₀ (c : Thread nD τ) none Set.univ (m := M) (View.setOn_subset_set _ _)) $$ H
  iintro H
  rw [show M.view.readAt (Elt F) (Rect.unit off S.size inb).toLoadRect f = X from by
    rw [← hf]; exact View.ld_unit_zero hz inb (M.view.read (Elt F) f)]
  iapply HK
  iexists f
  isplitr; · ipureintro; exact hf
  iexact H

theorem read_write_whole (M : Memref sig .tc .vmem S e) (hz : off = fun _ => 0) (f : M.view.ty.Contents (Elt F)) (w : S.Idx → Elt F e) :
    M.view.read (Elt F) ((M.access (Rect.unit off S.size inb)).write (Elt F) f w Finset.univ) = w := by
  refine (View.read_writes_eq_canon M.view f [⟨Rect.unit off S.size inb, w⟩] (fun y => ⟨_, List.mem_singleton_self _, ?_⟩)).trans
    (View.canon_unit_zero hz inb w)
  subst hz
  show y ∈ (Rect.whole S).set
  rw [Rect.set_whole]; exact Finset.mem_univ y

theorem store_owns (c : Dev nD) {M : Memref sig .tc .vmem S e} (hz : off = fun _ => 0) {w : S.Idx → Elt F e}
    {hx : (M.access (Rect.unit off S.size inb)).Stores Finset.univ} {hm} {X : S.Idx → Elt F e}
    {k : PUnit → Prog (TpuEff nD τ sig (Elt F) Λ₀ .tc) α} {Q : α → sProp 𝕄} :
    (owns (c : Thread nD τ) M fullShare X : sProp 𝕄)
      ⊢ iprop((owns (c : Thread nD τ) M fullShare w -∗ wp frame (wpE defs₀ 𝒱₀ (c : Thread nD τ) none) Set.univ (k ⟨⟩) Q)
          -∗ wp frame (wpE defs₀ 𝒱₀ (c : Thread nD τ) none) Set.univ (.op (.store M (Rect.unit off S.size inb) w Finset.univ hx hm) k) Q) := by
  unfold owns
  iintro ⟨%f, %hf, H⟩ HK
  iapply (wp_store 𝒱₀ (c : Thread nD τ) none Set.univ (m := M) (r := Rect.unit off S.size inb) (Mk := Finset.univ)
    ((View.setOn_subset_set _ _).trans (View.set_slice_subset _ _))) $$ H
  iintro H
  iapply HK
  iexists ((M.access (Rect.unit off S.size inb)).write (Elt F) f w Finset.univ)
  isplitr; · ipureintro; exact read_write_whole M hz f w
  iexact H

end Whole

/-! ## The text of a point, piece by piece -/

section Text

variable {α : Type}

abbrev RS : Rect S1024x1024 := Rect.unit (s := S1024x1024) ![0, 0] S1024x1024.size inb_S1024x1024_S1024x1024_0_0

/-- Whether the step's number lies in a product's range. -/
abbrev within (w lo hi : BitVec 32) : Prop :=
  Scalar.cmpi .ne (Scalar.extui (Scalar.andi (Scalar.cmpi .sge w lo) (Scalar.cmpi .slt w hi)) : BitVec 32) 0#32 = 1#1

/-- Whether the step is the first of its row block. -/
abbrev isFirst (v : BitVec 32) : Prop := Scalar.cmpi .ne v 0#32 = 1#1

def fresh (C : Prop) [Decidable C] (acc : Memref sig .tc .vmem S1024x1024 .f32) (k : Prog (TpuEff nD τ sig (Elt F) Λ₀ .tc) α) :
    Prog (TpuEff nD τ sig (Elt F) Λ₀ .tc) α :=
  if _h : C then
    .op (.load acc RS.toLoadRect (View.loadsAt_vmem h_S1024x1024)) fun _ =>
    .op (.store acc RS (k0_pay2 (F := F)) Finset.univ (View.stores_vmem_bits_univ h_S1024x1024 rfl) (.inl rfl)) fun _ => k
  else k

/-- A product's staged blocks, of any depth, multiplied into the sum. -/
def piece {A B : Shape} {oa : Fin A.rank → ℕ} {ob : Fin B.rank → ℕ} (ia : ∀ x, oa x + A.size x ≤ A.size x) (ib : ∀ x, ob x + B.size x ≤ B.size x)
    (ha : 0 < A.numel) (hb : 0 < B.numel) (C : Prop) [Decidable C] (acc : Memref sig .tc .vmem S1024x1024 .f32) (a : Memref sig .tc .vmem A .bf16)
    (b : Memref sig .tc .vmem B .bf16) (pay : Vec F S1024x1024 .f32 → Vec F A .bf16 → Vec F B .bf16 → Vec F S1024x1024 .f32)
    (k : Prog (TpuEff nD τ sig (Elt F) Λ₀ .tc) α) : Prog (TpuEff nD τ sig (Elt F) Λ₀ .tc) α :=
  if _h : C then
    .op (.load acc RS.toLoadRect (View.loadsAt_vmem h_S1024x1024)) fun x =>
    .op (.load a (Rect.unit (s := A) oa A.size ia).toLoadRect (View.loadsAt_vmem ha)) fun u =>
    .op (.load b (Rect.unit (s := B) ob B.size ib).toLoadRect (View.loadsAt_vmem hb)) fun v =>
    .op (.load acc RS.toLoadRect (View.loadsAt_vmem h_S1024x1024)) fun _ =>
    .op (.store acc RS (pay x u v) Finset.univ (View.stores_vmem_bits_univ h_S1024x1024 rfl) (.inl rfl)) fun _ => k
  else k

abbrev part (C : Prop) [Decidable C] :=
  piece (F := F) (α := α) inb_S1024x512_S1024x512_0_0 inb_S512x1024_S512x1024_0_0 h_S1024x512 h_S512x1024 C
abbrev thin (C : Prop) [Decidable C] :=
  piece (F := F) (α := α) inb_S1024x128_S1024x128_0_0 inb_S128x1024_S128x1024_0_0 h_S1024x128 h_S128x1024 C

/-- The sum handed to the result's block. -/
def emit (C : Prop) [Decidable C] (acc out : Memref sig .tc .vmem S1024x1024 .f32) (k : Prog (TpuEff nD τ sig (Elt F) Λ₀ .tc) α) :
    Prog (TpuEff nD τ sig (Elt F) Λ₀ .tc) α :=
  if _h : C then
    .op (.load acc RS.toLoadRect (View.loadsAt_vmem h_S1024x1024)) fun x =>
    .op (.load out RS.toLoadRect (View.loadsAt_vmem h_S1024x1024)) fun _ =>
    .op (.store out RS x Finset.univ (View.stores_vmem_bits_univ h_S1024x1024 rfl) (.inl rfl)) fun _ => k
  else k

variable (i : grid0.Coords) (arg2 : Memref sig .tc .vmem S1024x512 .bf16) (harg2 : arg2.IsWhole) (arg3 : Memref sig .tc .vmem S512x1024 .bf16)
    (harg3 : arg3.IsWhole) (arg4 : Memref sig .tc .vmem S1024x128 .bf16) (harg4 : arg4.IsWhole) (arg5 : Memref sig .tc .vmem S128x1024 .bf16)
    (harg5 : arg5.IsWhole) (arg6 : Memref sig .tc .vmem S1024x512 .bf16) (harg6 : arg6.IsWhole) (arg7 : Memref sig .tc .vmem S512x1024 .bf16)
    (harg7 : arg7.IsWhole) (arg8 : Memref sig .tc .vmem S1024x512 .bf16) (harg8 : arg8.IsWhole) (arg9 : Memref sig .tc .vmem S512x1024 .bf16)
    (harg9 : arg9.IsWhole) (arg10 : Memref sig .tc .vmem S1024x512 .bf16) (harg10 : arg10.IsWhole) (arg11 : Memref sig .tc .vmem S512x1024 .bf16)
    (harg11 : arg11.IsWhole) (arg12 : Memref sig .tc .vmem S1024x512 .bf16) (harg12 : arg12.IsWhole) (arg13 : Memref sig .tc .vmem S512x1024 .bf16)
    (harg13 : arg13.IsWhole) (arg14 : Memref sig .tc .vmem S1024x512 .bf16) (harg14 : arg14.IsWhole) (arg15 : Memref sig .tc .vmem S512x1024 .bf16)
    (harg15 : arg15.IsWhole) (arg16 : Memref sig .tc .hbm S4x1280x1024 .bf16) (harg16 : arg16.IsWhole) (arg17 : Memref sig .tc .vmem S1024x1024 .f32)
    (harg17 : arg17.IsWhole) (arg18 : Memref sig .tc .hbm S3x1280x1024 .bf16) (harg18 : arg18.IsWhole) (arg19 : Memref sig .tc .vmem S1024x1024 .f32)
    (harg19 : arg19.IsWhole) (arg20 arg21 : DmaSems sig S3) (w v : BitVec 32)

theorem part4_text :
    k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 w v =
      fresh (isFirst v) arg19 (part (within w 0#32 6#32) arg19 arg2 arg3 k0_pay3 (thin (within w 6#32 7#32) arg19 arg4 arg5 k0_pay4
        (part (within w 7#32 9#32) arg19 arg6 arg7 k0_pay5 (part (within w 9#32 11#32) arg19 arg8 arg9 k0_pay6
          (part (within w 11#32 13#32) arg19 arg10 arg11 k0_pay7 (part (within w 13#32 15#32) arg19 arg12 arg13 k0_pay8
            (.ret ⟨Scalar.cmpi .sge w 15#32, 19#32⟩))))))) := by
  with_unfolding_all rfl

theorem fresh_bind {β : Type} (C : Prop) [Decidable C] (acc : Memref sig .tc .vmem S1024x1024 .f32) (k : Prog (TpuEff nD τ sig (Elt F) Λ₀ .tc) α)
    (f : α → Prog (TpuEff nD τ sig (Elt F) Λ₀ .tc) β) : (fresh C acc k).bind f = fresh C acc (k.bind f) := by
  unfold fresh; split <;> rfl

theorem piece_bind {β : Type} {A B : Shape} {oa : Fin A.rank → ℕ} {ob : Fin B.rank → ℕ} {ia : ∀ x, oa x + A.size x ≤ A.size x}
    {ib : ∀ x, ob x + B.size x ≤ B.size x} {ha : 0 < A.numel} {hb : 0 < B.numel} (C : Prop) [Decidable C] (acc : Memref sig .tc .vmem S1024x1024 .f32)
    (a : Memref sig .tc .vmem A .bf16) (b : Memref sig .tc .vmem B .bf16) (pay : Vec F S1024x1024 .f32 → Vec F A .bf16 → Vec F B .bf16 → Vec F S1024x1024 .f32)
    (k : Prog (TpuEff nD τ sig (Elt F) Λ₀ .tc) α) (f : α → Prog (TpuEff nD τ sig (Elt F) Λ₀ .tc) β) :
    (piece ia ib ha hb C acc a b pay k).bind f = piece ia ib ha hb C acc a b pay (k.bind f) := by
  unfold piece; split <;> rfl

theorem part4_bind
    {β : Type} (f : (Σ' (_ : BitVec 1), BitVec 32) → Prog (TpuEff nD τ sig (Elt F) Λ₀ .tc) β) :
    (k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 w v).bind f =
      fresh (isFirst v) arg19 (part (within w 0#32 6#32) arg19 arg2 arg3 k0_pay3 (thin (within w 6#32 7#32) arg19 arg4 arg5 k0_pay4
        (part (within w 7#32 9#32) arg19 arg6 arg7 k0_pay5 (part (within w 9#32 11#32) arg19 arg8 arg9 k0_pay6
          (part (within w 11#32 13#32) arg19 arg10 arg11 k0_pay7 (part (within w 13#32 15#32) arg19 arg12 arg13 k0_pay8
            (f ⟨Scalar.cmpi .sge w 15#32, 19#32⟩))))))) := by
  rw [part4_text]
  simp only [fresh_bind, piece_bind]
  rfl

/-! ## The exchange's text -/

/-- The first point of the grid. -/
def i₀ : grid0.Coords := grid0.coords ⟨0, by decide⟩

theorem first_cond : k0_cond1 i₀ = 1#1 := by decide

/-- The place of slot `k` in the receiving array. -/
theorem dst_inb (k : Fin 3) : ∀ a, (![k.val, 0, 0] : Fin 3 → ℕ) a + S1x1280x1024.size a ≤ S3x1280x1024.size a := by
  intro a
  have := k.isLt
  fin_cases a <;> simp [Shape.size] <;> omega

/-- The block core `c` sends as piece `k`. -/
abbrev srcM (c : Dev nD) (k : Fin 3) : Memref sig .tc .hbm S1280x1024 .bf16 :=
  ((Memref.whole main_arg14).slice (Rect.unit (s := S4x1280x1024) (k0_off1 c (k0_off1_at k).1 (k0_off1_at k).2) S1x1280x1024.size
    (k0_off1_inb i₀ c first_cond k)) (fun _ => rfl)).squeeze S1280x1024 squeezes_S1x1280x1024_S1280x1024

/-- Slot `k` of the receiving array. -/
abbrev dstM (k : Fin 3) : Memref sig .tc .hbm S1280x1024 .bf16 :=
  ((Memref.whole main_v1_1).slice (Rect.unit (s := S3x1280x1024) ![k.val, 0, 0] S1x1280x1024.size (dst_inb k)) (fun _ => rfl)).squeeze
    S1280x1024 squeezes_S1x1280x1024_S1280x1024

abbrev sendS (k : Fin 3) : DmaSem sig := ⟨30 + k.val, by have := k.isLt; show 30 + k.val < 36; omega⟩
abbrev recvS (k : Fin 3) : DmaSem sig := ⟨33 + k.val, by have := k.isLt; show 33 + k.val < 36; omega⟩

theorem src_words (c : Dev nD) (k : Fin 3) : (srcM c k).view.WordExact :=
  ((Memref.isWhole_whole main_arg14).wordExact_slice rfl _ (k0_off1_wordsbf16 i₀ c first_cond k)).reshape _ _
theorem dst_words (k : Fin 3) : (dstM k).view.WordExact := by
  fin_cases k
  · exact ((Memref.isWhole_whole main_v1_1).wordExact_slice rfl _ wordsbf16_S3x1280x1024_S1x1280x1024_0_0_0).reshape _ _
  · exact ((Memref.isWhole_whole main_v1_1).wordExact_slice rfl _ wordsbf16_S3x1280x1024_S1x1280x1024_1_0_0).reshape _ _
  · exact ((Memref.isWhole_whole main_v1_1).wordExact_slice rfl _ wordsbf16_S3x1280x1024_S1x1280x1024_2_0_0).reshape _ _

abbrev sendTo (c e : Dev nD) (k : Fin 3) : TpuEff nD τ sig (Elt F) Λ₀ .tc PUnit :=
  .enqueueDma (srcM c k) (.remote (Dev.tc e) (dstM k) (.dma (sendS k))) (.dma (recvS k)) (src_words c k) (dst_words k) ⟨⟨rfl, Or.inl rfl⟩, trivial⟩

abbrev awaitRecv (c : Dev nD) (k : Fin 3) : TpuEff nD τ sig (Elt F) Λ₀ .tc PUnit :=
  .waitDma2 (recvS k) (srcM c k) (dstM k) (src_words c k) (dst_words k)

abbrev awaitSend (c : Dev nD) (k : Fin 3) : TpuEff nD τ sig (Elt F) Λ₀ .tc PUnit :=
  .waitDma2 (sendS k) (dstM k) (srcM c k) (dst_words k) (src_words c k)

/-- The three copies, begun at the first point. -/
def sendAll (d : Dev nD) (k : Prog (TpuEff nD τ sig (Elt F) Λ₀ .tc) α) : Prog (TpuEff nD τ sig (Elt F) Λ₀ .tc) α :=
  if h : k0_cond1 i = 1#1 then
    .op (sendTo d ⟨k0_dev1 d, k0_dev1_lt i d h⟩ 0) fun _ => .op (sendTo d ⟨k0_dev2 d, k0_dev2_lt i d h⟩ 1) fun _ =>
    .op (sendTo d ⟨k0_dev3 d, k0_dev3_lt i d h⟩ 2) fun _ => k
  else k

/-- The six waits, at the last point. -/
def waitAll (d : Dev nD) : Prog (TpuEff nD τ sig (Elt F) Λ₀ .tc) PUnit :=
  if _h : k0_cond11 i = 1#1 then
    .op (awaitRecv d 0) fun _ => .op (awaitRecv d 1) fun _ => .op (awaitRecv d 2) fun _ =>
    .op (awaitSend d 0) fun _ => .op (awaitSend d 1) fun _ => .op (awaitSend d 2) fun _ => .ret ⟨⟩
  else .ret ⟨⟩

theorem sendAll_bind {β : Type} (d : Dev nD) (k : Prog (TpuEff nD τ sig (Elt F) Λ₀ .tc) α) (f : α → Prog (TpuEff nD τ sig (Elt F) Λ₀ .tc) β) :
    (sendAll i d k).bind f = sendAll i d (k.bind f) := by
  unfold sendAll; split <;> rfl

/-- The step's number within its row block, and the flag of its being the first. -/
abbrev step : BitVec 32 := BitVec.ofNat 32 (i 1).val
abbrev flag : BitVec 32 := Scalar.extui (Scalar.cmpi .eq (step i) 0#32)

/-- The compute half of a point, before `k`. -/
def summed (k : Prog (TpuEff nD τ sig (Elt F) Λ₀ .tc) α) : Prog (TpuEff nD τ sig (Elt F) Λ₀ .tc) α :=
  fresh (isFirst (flag i)) arg19 (part (within (step i) 0#32 6#32) arg19 arg2 arg3 k0_pay3 (thin (within (step i) 6#32 7#32) arg19 arg4 arg5 k0_pay4
        (part (within (step i) 7#32 9#32) arg19 arg6 arg7 k0_pay5 (part (within (step i) 9#32 11#32) arg19 arg8 arg9 k0_pay6
          (part (within (step i) 11#32 13#32) arg19 arg10 arg11 k0_pay7 (part (within (step i) 13#32 15#32) arg19 arg12 arg13 k0_pay8
            (part (within (step i) 15#32 19#32) arg19 arg14 arg15 k0_pay1 (emit (k0_cond10 i = 1#1) arg19 arg17 k))))))))

theorem part3_text :
    k0_part3 (F := F) i arg2 harg2 arg3 harg3 arg4 harg4 arg5 harg5 arg6 harg6 arg7 harg7 arg8 harg8 arg9 harg9 arg10 harg10 arg11 harg11 arg12 harg12 arg13 harg13 arg14 harg14 arg15 harg15 (Memref.whole main_arg14) (Memref.isWhole_whole _) arg17 harg17 (Memref.whole main_v1_1) (Memref.isWhole_whole _) arg19 harg19 cc0_scratch1 cc0_scratch2 =
      .op .deviceId fun d => sendAll i d (.ret ⟨BitVec.ofNat 32 (i 0).val, step i, d,
        Scalar.remsi (Scalar.divsi (Dev.word d) 1#32) 2#32,
        Scalar.xori (Scalar.remsi (Scalar.divsi (Dev.word d) 4#32) 2#32) 0#32, Scalar.xori (Scalar.remsi (Scalar.divsi (Dev.word d) 2#32) 2#32) 1#32,
        Scalar.xori (Scalar.remsi (Scalar.divsi (Dev.word d) 4#32) 2#32) 1#32, Scalar.xori (Scalar.remsi (Scalar.divsi (Dev.word d) 2#32) 2#32) 0#32,
        Scalar.xori (Scalar.remsi (Scalar.divsi (Dev.word d) 4#32) 2#32) 1#32, Scalar.xori (Scalar.remsi (Scalar.divsi (Dev.word d) 2#32) 2#32) 1#32,
        flag i⟩) := by
  with_unfolding_all rfl

theorem part3_bind
    {β : Type} (f : (Σ' (arg0 : BitVec 32) (arg1 : BitVec 32) (d0 : Dev nD) (v8 : BitVec 32) (v9 : BitVec 32) (v10 : BitVec 32) (v13 : BitVec 32) (v14 : BitVec 32) (v17 : BitVec 32) (v18 : BitVec 32), BitVec 32) → Prog (TpuEff nD τ sig (Elt F) Λ₀ .tc) β) :
    (k0_part3 (F := F) i arg2 harg2 arg3 harg3 arg4 harg4 arg5 harg5 arg6 harg6 arg7 harg7 arg8 harg8 arg9 harg9 arg10 harg10 arg11 harg11 arg12 harg12 arg13 harg13 arg14 harg14 arg15 harg15 (Memref.whole main_arg14) (Memref.isWhole_whole _) arg17 harg17 (Memref.whole main_v1_1) (Memref.isWhole_whole _) arg19 harg19 cc0_scratch1 cc0_scratch2).bind f =
      .op .deviceId fun d => sendAll i d (f ⟨BitVec.ofNat 32 (i 0).val, step i, d,
        Scalar.remsi (Scalar.divsi (Dev.word d) 1#32) 2#32,
        Scalar.xori (Scalar.remsi (Scalar.divsi (Dev.word d) 4#32) 2#32) 0#32, Scalar.xori (Scalar.remsi (Scalar.divsi (Dev.word d) 2#32) 2#32) 1#32,
        Scalar.xori (Scalar.remsi (Scalar.divsi (Dev.word d) 4#32) 2#32) 1#32, Scalar.xori (Scalar.remsi (Scalar.divsi (Dev.word d) 2#32) 2#32) 0#32,
        Scalar.xori (Scalar.remsi (Scalar.divsi (Dev.word d) 4#32) 2#32) 1#32, Scalar.xori (Scalar.remsi (Scalar.divsi (Dev.word d) 2#32) 2#32) 1#32,
        flag i⟩) := by
  rw [part3_text]
  show Prog.op _ (fun d => (sendAll i d _).bind f) = _
  simp only [sendAll_bind]
  rfl

/-- The whole text of a point. -/
theorem body_text :
    cc0_d_xn (F := F) i arg2 harg2 arg3 harg3 arg4 harg4 arg5 harg5 arg6 harg6 arg7 harg7 arg8 harg8 arg9 harg9 arg10 harg10 arg11 harg11 arg12 harg12 arg13 harg13 arg14 harg14 arg15 harg15 (Memref.whole main_arg14) (Memref.isWhole_whole _) arg17 harg17 (Memref.whole main_v1_1) (Memref.isWhole_whole _) arg19 harg19 cc0_scratch1 cc0_scratch2 =
      .op .deviceId fun d => sendAll i d (summed i arg2 arg3 arg4 arg5 arg6 arg7 arg8 arg9 arg10 arg11 arg12 arg13 arg14 arg15 arg17 arg19 (waitAll i d)) := by
  rw [Gen.cc0_d_xn_eq_skeleton]
  refine (part3_bind i arg2 harg2 arg3 harg3 arg4 harg4 arg5 harg5 arg6 harg6 arg7 harg7 arg8 harg8 arg9 harg9 arg10 harg10 arg11 harg11 arg12 harg12 arg13 harg13 arg14 harg14 arg15 harg15 arg17 harg17 arg19 harg19 _).trans (congrArg (Prog.op .deviceId) (funext fun d => congrArg (sendAll i d)
    ((part4_bind i arg2 harg2 arg3 harg3 arg4 harg4 arg5 harg5 arg6 harg6 arg7 harg7 arg8 harg8 arg9 harg9 arg10 harg10 arg11 harg11 arg12 harg12 arg13 harg13 arg14 harg14 arg15 harg15 (Memref.whole main_arg14) (Memref.isWhole_whole _) arg17 harg17 (Memref.whole main_v1_1) (Memref.isWhole_whole _) arg19 harg19 cc0_scratch1 cc0_scratch2 _ _ _).trans ?_)))
  with_unfolding_all rfl

end Text

end Cert.DXn.Swap

end
-- ==== Proof.DXnStep.lean ====
/- What one point of the activation gradient's grid leaves: the running sum after the step, and the result's block at
   the last step of a row block. -/
module

public import proofs.«01_k».proof.Proof.DXnBody

@[expose] public section

set_option maxRecDepth 16384

noncomputable section

namespace Cert.DXn.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Gen (k0_pay1 k0_pay2 k0_pay3 k0_pay4 k0_pay5 k0_pay6 k0_pay7 k0_pay8)

variable {F : FTy → Type} [FloatOps F] [Facts₀] [Facts]

local notation "𝕄" => MT nD τ sig Unit (Elt F) ℕ UU ℕ

/-! ## Each piece of the text -/

section Runs

variable {α : Type}

theorem fresh_run (c : Dev nD) {C : Prop} [Decidable C] {acc : Memref sig .tc .vmem S1024x1024 .f32}
    {k : Prog (TpuEff nD τ sig (Elt F) Λ₀ .tc) α} {Q : α → sProp 𝕄} {x : Vec F S1024x1024 .f32} :
    (owns (c : Thread nD τ) acc fullShare x : sProp 𝕄)
      ⊢ iprop((owns (c : Thread nD τ) acc fullShare (if C then k0_pay2 (F := F) else x) -∗ wp frame (wpE defs₀ 𝒱₀ (c : Thread nD τ) none) Set.univ k Q)
          -∗ wp frame (wpE defs₀ 𝒱₀ (c : Thread nD τ) none) Set.univ (fresh C acc k) Q) := by
  unfold fresh
  split
  · iintro H HK
    iapply (load_owns c Cert.Products.zeros2) $$ H; iintro H
    iapply (store_owns c Cert.Products.zeros2) $$ H; iintro H
    iapply HK; iexact H
  · iintro H HK
    iapply HK; iexact H

theorem piece_run (c : Dev nD) {A B : Shape} {oa : Fin A.rank → ℕ} {ob : Fin B.rank → ℕ} {ia : ∀ x, oa x + A.size x ≤ A.size x}
    {ib : ∀ x, ob x + B.size x ≤ B.size x} {ha : 0 < A.numel} {hb : 0 < B.numel} (za : oa = fun _ => 0) (zb : ob = fun _ => 0)
    {C : Prop} [Decidable C] {acc : Memref sig .tc .vmem S1024x1024 .f32} {a : Memref sig .tc .vmem A .bf16} {b : Memref sig .tc .vmem B .bf16}
    {pay : Vec F S1024x1024 .f32 → Vec F A .bf16 → Vec F B .bf16 → Vec F S1024x1024 .f32}
    {k : Prog (TpuEff nD τ sig (Elt F) Λ₀ .tc) α} {Q : α → sProp 𝕄} {x : Vec F S1024x1024 .f32} {u : Vec F A .bf16} {v : Vec F B .bf16} :
    (iprop(owns (c : Thread nD τ) acc fullShare x ∗ owns (c : Thread nD τ) a fullShare u ∗ owns (c : Thread nD τ) b fullShare v) : sProp 𝕄)
      ⊢ iprop(((owns (c : Thread nD τ) acc fullShare (if C then pay x u v else x) ∗ owns (c : Thread nD τ) a fullShare u
            ∗ owns (c : Thread nD τ) b fullShare v) -∗ wp frame (wpE defs₀ 𝒱₀ (c : Thread nD τ) none) Set.univ k Q)
          -∗ wp frame (wpE defs₀ 𝒱₀ (c : Thread nD τ) none) Set.univ (piece ia ib ha hb C acc a b pay k) Q) := by
  unfold piece
  split
  · iintro ⟨H, Ha, Hb⟩ HK
    iapply (load_owns c Cert.Products.zeros2) $$ H; iintro H
    iapply (load_owns c za) $$ Ha; iintro Ha
    iapply (load_owns c zb) $$ Hb; iintro Hb
    iapply (load_owns c Cert.Products.zeros2) $$ H; iintro H
    iapply (store_owns c Cert.Products.zeros2) $$ H; iintro H
    iapply HK
    isplitl [H]; · iexact H
    isplitl [Ha] <;> iassumption
  · iintro H HK
    iapply HK; iexact H

theorem emit_run (c : Dev nD) {C : Prop} [Decidable C] {acc out : Memref sig .tc .vmem S1024x1024 .f32}
    {k : Prog (TpuEff nD τ sig (Elt F) Λ₀ .tc) α} {Q : α → sProp 𝕄} {x y : Vec F S1024x1024 .f32} :
    (iprop(owns (c : Thread nD τ) acc fullShare x ∗ owns (c : Thread nD τ) out fullShare y) : sProp 𝕄)
      ⊢ iprop(((owns (c : Thread nD τ) acc fullShare x ∗ owns (c : Thread nD τ) out fullShare (if C then x else y))
            -∗ wp frame (wpE defs₀ 𝒱₀ (c : Thread nD τ) none) Set.univ k Q)
          -∗ wp frame (wpE defs₀ 𝒱₀ (c : Thread nD τ) none) Set.univ (emit C acc out k) Q) := by
  unfold emit
  split
  · iintro ⟨H, Ho⟩ HK
    iapply (load_owns c Cert.Products.zeros2) $$ H; iintro H
    iapply (load_owns c Cert.Products.zeros2) $$ Ho; iintro Ho
    iapply (store_owns c Cert.Products.zeros2) $$ Ho; iintro Ho
    iapply HK
    isplitl [H] <;> iassumption
  · iintro H HK
    iapply HK; iexact H

end Runs

/-! ## A point's step of the running sum -/

variable (c : Dev nD) (i : grid0.Coords) (m0 : Memref sig .tc .vmem S1024x512 .bf16) (n0 : Memref sig .tc .vmem S512x1024 .bf16)
    (m1 : Memref sig .tc .vmem S1024x128 .bf16) (n1 : Memref sig .tc .vmem S128x1024 .bf16) (m2 : Memref sig .tc .vmem S1024x512 .bf16)
    (n2 : Memref sig .tc .vmem S512x1024 .bf16) (m3 : Memref sig .tc .vmem S1024x512 .bf16) (n3 : Memref sig .tc .vmem S512x1024 .bf16)
    (m4 : Memref sig .tc .vmem S1024x512 .bf16) (n4 : Memref sig .tc .vmem S512x1024 .bf16) (m5 : Memref sig .tc .vmem S1024x512 .bf16)
    (n5 : Memref sig .tc .vmem S512x1024 .bf16) (m6 : Memref sig .tc .vmem S1024x512 .bf16) (n6 : Memref sig .tc .vmem S512x1024 .bf16)
    (x : Vec F S1024x1024 .f32) (a0 : Vec F S1024x512 .bf16) (b0 : Vec F S512x1024 .bf16) (a1 : Vec F S1024x128 .bf16) (b1 : Vec F S128x1024 .bf16)
    (a2 : Vec F S1024x512 .bf16) (b2 : Vec F S512x1024 .bf16) (a3 : Vec F S1024x512 .bf16) (b3 : Vec F S512x1024 .bf16) (a4 : Vec F S1024x512 .bf16)
    (b4 : Vec F S512x1024 .bf16) (a5 : Vec F S1024x512 .bf16) (b5 : Vec F S512x1024 .bf16) (a6 : Vec F S1024x512 .bf16) (b6 : Vec F S512x1024 .bf16)

/-- The running sum after the point at `i`, from the sum before it and the staged blocks. -/
def stepAcc : Vec F S1024x1024 .f32 :=
  let x₀ := if isFirst (flag i) then k0_pay2 (F := F) else x
  let x₁ := if within (step i) 0#32 6#32 then k0_pay3 x₀ a0 b0 else x₀
  let x₂ := if within (step i) 6#32 7#32 then k0_pay4 x₁ a1 b1 else x₁
  let x₃ := if within (step i) 7#32 9#32 then k0_pay5 x₂ a2 b2 else x₂
  let x₄ := if within (step i) 9#32 11#32 then k0_pay6 x₃ a3 b3 else x₃
  let x₅ := if within (step i) 11#32 13#32 then k0_pay7 x₄ a4 b4 else x₄
  let x₆ := if within (step i) 13#32 15#32 then k0_pay8 x₅ a5 b5 else x₅
  let x₇ := if within (step i) 15#32 19#32 then k0_pay1 x₆ a6 b6 else x₆
  x₇

/-- The seven products' blocks, staged. -/
def staged : sProp 𝕄 :=
  iprop(owns (c : Thread nD τ) m0 fullShare a0 ∗ owns (c : Thread nD τ) n0 fullShare b0 ∗ owns (c : Thread nD τ) m1 fullShare a1 ∗ owns (c : Thread nD τ) n1 fullShare b1 ∗ owns (c : Thread nD τ) m2 fullShare a2 ∗ owns (c : Thread nD τ) n2 fullShare b2 ∗ owns (c : Thread nD τ) m3 fullShare a3 ∗ owns (c : Thread nD τ) n3 fullShare b3 ∗ owns (c : Thread nD τ) m4 fullShare a4 ∗ owns (c : Thread nD τ) n4 fullShare b4 ∗ owns (c : Thread nD τ) m5 fullShare a5 ∗ owns (c : Thread nD τ) n5 fullShare b5 ∗ owns (c : Thread nD τ) m6 fullShare a6 ∗ owns (c : Thread nD τ) n6 fullShare b6)

variable {m0 n0 m1 n1 m2 n2 m3 n3 m4 n4 m5 n5 m6 n6 x a0 b0 a1 b1 a2 b2 a3 b3 a4 b4 a5 b5 a6 b6}

/-- At the first step of a row block the sum before it is of no account. -/
theorem stepAcc_first (h : isFirst (flag i)) (x' : Vec F S1024x1024 .f32) :
    stepAcc i x a0 b0 a1 b1 a2 b2 a3 b3 a4 b4 a5 b5 a6 b6 = stepAcc i x' a0 b0 a1 b1 a2 b2 a3 b3 a4 b4 a5 b5 a6 b6 := by
  unfold stepAcc; simp only [if_pos h]

theorem compute_run {acc out : Memref sig .tc .vmem S1024x1024 .f32} {y : Vec F S1024x1024 .f32}
    {k : Prog (TpuEff nD τ sig (Elt F) Λ₀ .tc) PUnit} {Q : PUnit → sProp 𝕄} :
    iprop(owns (c : Thread nD τ) acc fullShare x ∗ owns (c : Thread nD τ) out fullShare y ∗ staged c m0 n0 m1 n1 m2 n2 m3 n3 m4 n4 m5 n5 m6 n6 a0 b0 a1 b1 a2 b2 a3 b3 a4 b4 a5 b5 a6 b6)
      ⊢ iprop(((owns (c : Thread nD τ) acc fullShare (stepAcc i x a0 b0 a1 b1 a2 b2 a3 b3 a4 b4 a5 b5 a6 b6)
            ∗ owns (c : Thread nD τ) out fullShare (if k0_cond10 i = 1#1 then stepAcc i x a0 b0 a1 b1 a2 b2 a3 b3 a4 b4 a5 b5 a6 b6 else y) ∗ staged c m0 n0 m1 n1 m2 n2 m3 n3 m4 n4 m5 n5 m6 n6 a0 b0 a1 b1 a2 b2 a3 b3 a4 b4 a5 b5 a6 b6)
            -∗ wp frame (wpE defs₀ 𝒱₀ (c : Thread nD τ) none) Set.univ k Q)
          -∗ wp frame (wpE defs₀ 𝒱₀ (c : Thread nD τ) none) Set.univ
      (summed i m0 n0 m1 n1 m2 n2 m3 n3 m4 n4 m5 n5 m6 n6 out acc k) Q) := by
  unfold summed staged
  iintro ⟨H, Ho, A0, B0, A1, B1, A2, B2, A3, B3, A4, B4, A5, B5, A6, B6⟩ HK
  iapply (fresh_run c) $$ H; iintro H
  iapply (piece_run c Cert.Products.zeros2 Cert.Products.zeros2) $$ [H A0 B0]
  · isplitl [H]; · iexact H
    isplitl [A0] <;> iassumption
  iintro ⟨H, A0, B0⟩
  iapply (piece_run c Cert.Products.zeros2 Cert.Products.zeros2) $$ [H A1 B1]
  · isplitl [H]; · iexact H
    isplitl [A1] <;> iassumption
  iintro ⟨H, A1, B1⟩
  iapply (piece_run c Cert.Products.zeros2 Cert.Products.zeros2) $$ [H A2 B2]
  · isplitl [H]; · iexact H
    isplitl [A2] <;> iassumption
  iintro ⟨H, A2, B2⟩
  iapply (piece_run c Cert.Products.zeros2 Cert.Products.zeros2) $$ [H A3 B3]
  · isplitl [H]; · iexact H
    isplitl [A3] <;> iassumption
  iintro ⟨H, A3, B3⟩
  iapply (piece_run c Cert.Products.zeros2 Cert.Products.zeros2) $$ [H A4 B4]
  · isplitl [H]; · iexact H
    isplitl [A4] <;> iassumption
  iintro ⟨H, A4, B4⟩
  iapply (piece_run c Cert.Products.zeros2 Cert.Products.zeros2) $$ [H A5 B5]
  · isplitl [H]; · iexact H
    isplitl [A5] <;> iassumption
  iintro ⟨H, A5, B5⟩
  iapply (piece_run c Cert.Products.zeros2 Cert.Products.zeros2) $$ [H A6 B6]
  · isplitl [H]; · iexact H
    isplitl [A6] <;> iassumption
  iintro ⟨H, A6, B6⟩
  iapply (emit_run c) $$ [H Ho]
  · isplitl [H] <;> iassumption
  iintro ⟨H, Ho⟩
  iapply HK
  isplitl [H]; · iexact H
  isplitl [Ho]; · iexact Ho
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  isplitl [B5]; · iexact B5
  isplitl [A6]; · iexact A6
  iexact B6

end Cert.DXn.Swap

end
-- ==== Proof.DXnSwap.lean ====
/- The exchange inside the activation gradient, on one core.

   At the first point of the grid every core copies a quarter of the weight gradient's rows to each of the three other
   chips' cores of its own kind, and at the last point it waits for the three quarters that came in and for its own
   copies to have left. Nothing is asked of the other cores first, so every core starts with the three slots it is to
   fill in the other cores' receiving arrays in its hands, and the landed slots come back to their core through its waits. -/
module

public import proofs.«01_k».proof.Proof.DXnStep
public import proofs.«01_k».proof.Proof.Copies

@[expose] public section

set_option maxRecDepth 16384

noncomputable section

namespace Cert.DXn.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Gen (k0_pay1 k0_pay2 k0_pay3 k0_pay4 k0_pay5 k0_pay6 k0_pay7 k0_pay8)

variable {F : FTy → Type} [FloatOps F] [Facts₀] [Facts]

local notation "𝕄" => MT nD τ sig Unit (Elt F) ℕ UU ℕ

/-! ## The peers -/

/-- The core piece `k` of core `c` goes to, and the core slot `k` of core `c` is filled by. -/
def peer (c : Dev nD) (k : Fin 3) : Dev nD := ⟨(c.val ^^^ (2 * (k.val + 1))) % 8, by show _ < 8; omega⟩

theorem peer_peer (c : Dev nD) (k : Fin 3) : peer (peer c k) k = c := by revert c k; decide

theorem dev1_eq (d : Dev nD) (h : k0_dev1 d < nD) : (⟨k0_dev1 d, h⟩ : Dev nD) = peer d 0 :=
  Fin.ext ((by decide : ∀ d : Dev nD, k0_dev1 d = (peer d 0).val) d)
theorem dev2_eq (d : Dev nD) (h : k0_dev2 d < nD) : (⟨k0_dev2 d, h⟩ : Dev nD) = peer d 1 :=
  Fin.ext ((by decide : ∀ d : Dev nD, k0_dev2 d = (peer d 1).val) d)
theorem dev3_eq (d : Dev nD) (h : k0_dev3 d < nD) : (⟨k0_dev3 d, h⟩ : Dev nD) = peer d 2 :=
  Fin.ext ((by decide : ∀ d : Dev nD, k0_dev3 d = (peer d 2).val) d)

/-! ## The exchange -/

theorem far : ∀ (c : Dev nD) (k : Fin 3), τ.routes (c.tc : Thread nD τ) ((peer c k).tc : Thread nD τ) = true := by decide

abbrev sems : Fin 3 ⊕ Fin 3 → DmaSem sig := Sum.elim sendS recvS

theorem sems_inj : Function.Injective sems := by decide

/-- The exchange of the kernel. -/
abbrev plan : Copies.Plan nD τ sig 3 where
  shape := S1280x1024
  elt := .bf16
  src := srcM
  dst := dstM
  sem := sems
  sem_inj := sems_inj
  peer := peer
  peer_peer := peer_peer
  credit := (dstM 0).view.dmaCredit
  credit_pos := View.dmaCredit_pos _ (by decide)
  src_credit _ _ := rfl
  dst_credit _ := rfl
  far := far

variable (m : (ℓ : Loc nD τ sig) → Buf (Elt F) ℓ)

abbrev EP : Emb (UR sig nD τ) (MT nD τ sig Unit (Elt F) ℕ UU ℕ) := embL
abbrev ER : Emb (UR sig nD τ) (MT nD τ sig Unit (Elt F) ℕ UU ℕ) := embR

/-- The first point's copies. -/
theorem sendAll_run {α : Type} (i : grid0.Coords) (h : k0_cond1 i = 1#1) (κ : Dev nD → Fin 3 ⊕ Fin 3 → ℕ) (c : Dev nD)
    {k : Prog (TpuEff nD τ sig (Elt F) Λ₀ .tc) α} {Q : α → sProp 𝕄} :
    iprop((bigSep Finset.univ (plan.sendKit m ER κ c)) ∗ ∃ W, owes (c : Thread nD τ) (plan.owed₀ c) W)
      ⊢ iprop(((bigSep Finset.univ (plan.sentKit m ER κ c) ∗ ∃ W, owes (c : Thread nD τ) 0 W) -∗ wp frame (wpE defs₀ 𝒱₀ (c : Thread nD τ) none) Set.univ k Q)
          -∗ wp frame (wpE defs₀ 𝒱₀ (c : Thread nD τ) none) Set.univ (sendAll i c k) Q) := by
  unfold sendAll
  rw [dif_pos h, dev1_eq, dev2_eq, dev3_eq]
  exact plan.sends_run m ER 𝒱₀ κ c (fun j => sendTo c (peer c j) j) (fun j => ⟨_, _, _, _, rfl⟩) k Q

/-- At the other points nothing is sent. -/
theorem sendAll_skip {α : Type} (i : grid0.Coords) (h : ¬k0_cond1 i = 1#1) (c : Dev nD) (k : Prog (TpuEff nD τ sig (Elt F) Λ₀ .tc) α) :
    sendAll i c k = k := dif_neg h

/-- The last point's waits. -/
theorem waitAll_run (i : grid0.Coords) (h : k0_cond11 i = 1#1) (κ : Dev nD → Fin 3 ⊕ Fin 3 → ℕ) (c : Dev nD) {Q : PUnit → sProp 𝕄} :
    iprop((bigSep Finset.univ (plan.sentKit m ER κ c)) ∗ (bigSep Finset.univ (plan.recvKit m ER κ c)) ∗ ∃ W, owes (c : Thread nD τ) 0 W)
      ⊢ iprop(((plan.done m c ∗ ∃ W, owes (c : Thread nD τ) 0 W) -∗ wp frame (wpE defs₀ 𝒱₀ (c : Thread nD τ) none) Set.univ (.ret ⟨⟩) Q)
          -∗ wp frame (wpE defs₀ 𝒱₀ (c : Thread nD τ) none) Set.univ (waitAll (F := F) i c) Q) := by
  unfold waitAll
  rw [dif_pos h]
  exact plan.waits_run m ER 𝒱₀ κ c (awaitRecv c) (awaitSend c) (fun j => ⟨_, _, _, rfl⟩) (fun j => ⟨_, _, _, rfl⟩) (.ret ⟨⟩) Q

/-- At the other points nothing is waited for. -/
theorem waitAll_skip (i : grid0.Coords) (h : ¬k0_cond11 i = 1#1) (c : Dev nD) : waitAll (F := F) i c = .ret ⟨⟩ := dif_neg h

end Cert.DXn.Swap

end
-- ==== Proof.DXnPoint.lean ====
/- One point of the activation gradient's grid within the pipeline: what the scratch array and the exchange hold before
   and after it, and that the body takes the one to the other. -/
module

public import proofs.«01_k».proof.Proof.DXnSwap

@[expose] public section

set_option maxRecDepth 16384

noncomputable section

namespace Cert.DXn.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Gen (k0_pay1 k0_pay2 k0_pay3 k0_pay4 k0_pay5 k0_pay6 k0_pay7 k0_pay8)

variable {F : FTy → Type} [FloatOps F] [Facts₀] [Facts]

local notation "𝕄" => MT nD τ sig Unit (Elt F) ℕ UU ℕ

variable (m : (ℓ : Loc nD τ sig) → Buf (Elt F) ℓ)

/-! ## Which point is which -/

theorem cond1_iff (t : Fin cfg0.N) : k0_cond1 (grid0.coords t) = 1#1 ↔ t.val = 0 :=
  (by decide +kernel : ∀ t : Fin grid0.N, k0_cond1 (grid0.coords t) = 1#1 ↔ t.val = 0) t
theorem cond10_iff (t : Fin cfg0.N) : k0_cond10 (grid0.coords t) = 1#1 ↔ t.val % 19 = 18 :=
  (by decide +kernel : ∀ t : Fin grid0.N, k0_cond10 (grid0.coords t) = 1#1 ↔ t.val % 19 = 18) t
theorem cond11_iff (t : Fin cfg0.N) : k0_cond11 (grid0.coords t) = 1#1 ↔ t.val = 151 :=
  (by decide +kernel : ∀ t : Fin grid0.N, k0_cond11 (grid0.coords t) = 1#1 ↔ t.val = 151) t
theorem first_iff (t : Fin cfg0.N) : isFirst (flag (grid0.coords t)) ↔ t.val % 19 = 0 :=
  (by decide +kernel : ∀ t : Fin grid0.N, isFirst (flag (grid0.coords t)) ↔ t.val % 19 = 0) t

variable (c : Dev nD) (t : Fin cfg0.N)

/-! ## The running sum -/

/-- The step of point `t`. -/
abbrev stepAt (x : Vec F S1024x1024 .f32) : Vec F S1024x1024 .f32 :=
  stepAcc (grid0.coords t) x (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t)

/-- The running sum before point `n`; nothing is asked of it before the first. -/
def accAt : ℕ → Vec F S1024x1024 .f32
  | 0 => k0_pay2 (F := F)
  | n + 1 => if h : n < cfg0.N then stepAt m c ⟨n, h⟩ (accAt n) else accAt n

theorem accAt_succ :
    accAt m c (t.val + 1) = stepAcc (grid0.coords t) (accAt m c t.val) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t) := dif_pos t.isLt

theorem step_acc (x : Vec F S1024x1024 .f32) (h : t.val = 0 ∨ x = accAt m c t.val) :
    stepAt m c t x = accAt m c (t.val + 1) := by
  rw [accAt_succ]
  rcases h with h | rfl
  · exact stepAcc_first _ ((first_iff t).mpr (by rw [h])) _
  · rfl

/-! ## What is held between the points -/

def flying : sProp 𝕄 :=
  iprop(∃ κ : Dev nD → Fin 3 ⊕ Fin 3 → ℕ, (bigSep Finset.univ (plan.sentKit m ER κ c)) ∗ bigSep Finset.univ (plan.recvKit m ER κ c))

/-- The exchange before point `n`: not begun, under way, or over. -/
def exch (n : ℕ) : sProp 𝕄 :=
  if n = 0 then plan.kits m ER c else if n = 152 then plan.done m c else flying m c

theorem exch_first (n : ℕ) (h : n = 0) : exch m c n = plan.kits m ER c := if_pos h
theorem exch_last (n : ℕ) (h : n = 152) : exch m c n = plan.done m c := by
  unfold exch; rw [if_neg (by omega), if_pos h]
theorem exch_mid (n : ℕ) (h : n ≠ 0) (h' : n ≠ 152) : exch m c n = flying m c := by
  unfold exch; rw [if_neg h, if_neg h']

/-- The scratch array before point `n`. -/
def sumHeld (n : ℕ) : sProp 𝕄 :=
  iprop(∃ X : Vec F S1024x1024 .f32, ⌜n = 0 ∨ X = accAt m c n⌝ ∗ owns (c : Thread nD τ) (Memref.whole cc0_scratch0) fullShare X)

def dat : Dat τ (Elt F) Unit ℕ UU ℕ cfg0 c where
  A w := Gen.V m c (Pipeline.arrRef spec0 w)
  after w t := match w with
    | ⟨0, _⟩ => Gen.iblk m c 0 t
    | ⟨1, _⟩ => Gen.iblk m c 1 t
    | ⟨2, _⟩ => Gen.iblk m c 2 t
    | ⟨3, _⟩ => Gen.iblk m c 3 t
    | ⟨4, _⟩ => Gen.iblk m c 4 t
    | ⟨5, _⟩ => Gen.iblk m c 5 t
    | ⟨6, _⟩ => Gen.iblk m c 6 t
    | ⟨7, _⟩ => Gen.iblk m c 7 t
    | ⟨8, _⟩ => Gen.iblk m c 8 t
    | ⟨9, _⟩ => Gen.iblk m c 9 t
    | ⟨10, _⟩ => Gen.iblk m c 10 t
    | ⟨11, _⟩ => Gen.iblk m c 11 t
    | ⟨12, _⟩ => Gen.iblk m c 12 t
    | ⟨13, _⟩ => Gen.iblk m c 13 t
    | ⟨14, _⟩ => accAt m c (t.val + 1)
  Φ t := iprop(sumHeld m c t.val ∗ exch m c t.val)
  q _ := fullShare
  owed t := if t.val = 0 then plan.owed₀ c else 0

theorem A_eq (w : Fin cfg0.W) : (dat m c).A w = Gen.V m c (Pipeline.arrRef spec0 w) := rfl
theorem after_14 : (dat m c).after 14 t = accAt m c (t.val + 1) := rfl

theorem owed_first (t : Fin (cfg0.N + 1)) (h : t.val = 0) : (dat m c).owed t = plan.owed₀ c := if_pos h
theorem owed_later (t : Fin (cfg0.N + 1)) (h : t.val ≠ 0) : (dat m c).owed t = 0 := if_neg h
theorem phi_eq (t : Fin (cfg0.N + 1)) : (dat m c).Φ t = iprop(sumHeld m c t.val ∗ exch m c t.val) := rfl

theorem phi_before : (dat m c).Φ t.castSucc = iprop(sumHeld m c t.val ∗ exch m c t.val) := by
  rw [phi_eq, Fin.val_castSucc]
theorem phi_after : (dat m c).Φ t.succ = iprop(sumHeld m c (t.val + 1) ∗ exch m c (t.val + 1)) := by
  rw [phi_eq, Fin.val_succ]
theorem owed_before (h : t.val = 0) : (dat m c).owed t.castSucc = plan.owed₀ c :=
  owed_first m c _ ((Fin.val_castSucc t).trans h)
theorem owed_between (h : t.val ≠ 0) : (dat m c).owed t.castSucc = 0 :=
  owed_later m c _ (by rw [Fin.val_castSucc]; exact h)
theorem owed_after : (dat m c).owed t.succ = 0 :=
  owed_later m c _ (by rw [Fin.val_succ]; exact Nat.succ_ne_zero _)

theorem owesAt_intro (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## One point -/

/-- The input windows' staged blocks at point `t`. -/
def stagedAt : sProp 𝕄 :=
  staged c (Gen.st0_0 t) (Gen.st0_1 t) (Gen.st0_2 t) (Gen.st0_3 t) (Gen.st0_4 t) (Gen.st0_5 t) (Gen.st0_6 t) (Gen.st0_7 t) (Gen.st0_8 t) (Gen.st0_9 t) (Gen.st0_10 t) (Gen.st0_11 t) (Gen.st0_12 t) (Gen.st0_13 t) (Gen.iblk m c 0 t) (Gen.iblk m c 1 t) (Gen.iblk m c 2 t) (Gen.iblk m c 3 t) (Gen.iblk m c 4 t) (Gen.iblk m c 5 t) (Gen.iblk m c 6 t) (Gen.iblk m c 7 t) (Gen.iblk m c 8 t) (Gen.iblk m c 9 t) (Gen.iblk m c 10 t) (Gen.iblk m c 11 t) (Gen.iblk m c 12 t) (Gen.iblk m c 13 t)

/-- The compute half of a point's program, before `k`. -/
def compute (k : Prog (TpuEff nD τ sig (Elt F) Λ₀ .tc) PUnit) : Prog (TpuEff nD τ sig (Elt F) Λ₀ .tc) PUnit :=
  summed (grid0.coords t) (Gen.st0_0 t) (Gen.st0_1 t) (Gen.st0_2 t) (Gen.st0_3 t) (Gen.st0_4 t) (Gen.st0_5 t) (Gen.st0_6 t) (Gen.st0_7 t) (Gen.st0_8 t) (Gen.st0_9 t) (Gen.st0_10 t) (Gen.st0_11 t) (Gen.st0_12 t) (Gen.st0_13 t) (Gen.st0_14 t) (Memref.whole cc0_scratch0) k

theorem point_text : Gen.bodyAt0 (F := F) t
    = .op .deviceId fun d => sendAll (grid0.coords t) d (compute t (waitAll (grid0.coords t) d)) :=
  body_text (grid0.coords t) _ _ _ _ _ _ _ _ _ _ _ _ _ _ _ _ _ _ _ _ _ _ _ _ _ _ _ _ _ _ _ _

/-- The compute half of a point, in the pipeline's terms. -/
theorem inner {y : Vec F S1024x1024 .f32} {k : Prog (TpuEff nD τ sig (Elt F) Λ₀ .tc) PUnit} {Q : PUnit → sProp 𝕄} :
    iprop(sumHeld m c t.val ∗ owns (c : Thread nD τ) (Gen.st0_14 t) fullShare y ∗ stagedAt m c t)
      ⊢ iprop(((sumHeld m c (t.val + 1) ∗ owns (c : Thread nD τ) (Gen.st0_14 t) fullShare (if k0_cond10 (grid0.coords t) = 1#1 then accAt m c (t.val + 1) else y)
            ∗ stagedAt m c t) -∗ wp frame (wpE defs₀ 𝒱₀ (c : Thread nD τ) none) Set.univ k Q)
          -∗ wp frame (wpE defs₀ 𝒱₀ (c : Thread nD τ) none) Set.univ (compute t k) Q) := by
  unfold sumHeld stagedAt compute
  iintro ⟨⟨%X, %hX, HS⟩, Ho, HI⟩ HK
  iapply (compute_run c (grid0.coords t)) $$ [HS Ho HI]
  · isplitl [HS]; · iexact HS
    isplitl [Ho]; · iexact Ho
    iexact HI
  have e := step_acc m c t X hX
  unfold stepAt at e; rw [e]
  iintro ⟨HS, Ho, HI⟩
  iapply HK
  isplitl [HS]
  · iexists _
    isplitr; · ipureintro; exact Or.inr rfl
    iexact HS
  isplitl [Ho]; · iexact Ho
  iexact HI

/-- The result's block after a point, as the pipeline asks it back. -/
theorem out_left (y : Vec F S1024x1024 .f32) (hy : ∃ d, y = (dat m c).before 14 t d) :
    (owns (c : Thread nD τ) (Gen.st0_14 t) fullShare (if k0_cond10 (grid0.coords t) = 1#1 then accAt m c (t.val + 1) else y) : sProp 𝕄)
      ⊢ (dat m c).leavesExact 14 t := by
  by_cases h : k0_cond10 (grid0.coords t) = 1#1
  · rw [if_pos h]
    have hi : cfg0.idle 14 (cfg0.grid.coords t) = false := by
      show (!(k0_cond10 (grid0.coords t) == 1#1)) = false
      rw [h]; rfl
    rw [show (dat m c).leavesExact 14 t = owns (c : Thread nD τ) (Gen.st0_14 t) fullShare ((dat m c).after 14 t) from by
      unfold Dat.leavesExact; rw [hi]; rfl, after_14]
  · rw [if_neg h]
    obtain ⟨d, rfl⟩ := hy
    have hi : cfg0.idle 14 (cfg0.grid.coords t) = true := by
      show (!(k0_cond10 (grid0.coords t) == 1#1)) = true
      rw [beq_eq_false_iff_ne.mpr h]; rfl
    have hf : (cfg0.win 14).flush t = false := by
      cases hf : (cfg0.win 14).flush t
      · rfl
      · exact absurd ((cond10_iff t).mpr ((Gen.flush0_14 t).mp hf)) h
    rw [Dat.leavesExact_idle (dat m c) 14 t hi hf]
    iintro H; iexists d; iexact H

/-- What window `w`'s staging buffer holds when the body starts. -/
abbrev found (w : Fin cfg0.W) : sProp 𝕄 :=
  iprop(∃ d, owns (c : Thread nD τ) ((cfg0.win w).stage (cfg0.slots t w)) fullShare ((dat m c).before w t d))

/-- What the body is called with at point `t`, and what it returns. -/
def bodyPre : sProp 𝕄 :=
  iprop((dat m c).Φ t.castSucc ∗ (dat m c).owesAt () t.castSucc ∗ found m c t 0 ∗ found m c t 1 ∗ found m c t 2 ∗ found m c t 3 ∗ found m c t 4 ∗ found m c t 5 ∗ found m c t 6 ∗ found m c t 7 ∗ found m c t 8 ∗ found m c t 9 ∗ found m c t 10 ∗ found m c t 11 ∗ found m c t 12 ∗ found m c t 13 ∗ found m c t 14)
def bodyPost : sProp 𝕄 :=
  iprop((dat m c).Φ t.succ ∗ (dat m c).owesAt () t.succ ∗ (dat m c).leavesExact 0 t ∗ (dat m c).leavesExact 1 t ∗ (dat m c).leavesExact 2 t ∗ (dat m c).leavesExact 3 t ∗ (dat m c).leavesExact 4 t ∗ (dat m c).leavesExact 5 t ∗ (dat m c).leavesExact 6 t ∗ (dat m c).leavesExact 7 t ∗ (dat m c).leavesExact 8 t ∗ (dat m c).leavesExact 9 t ∗ (dat m c).leavesExact 10 t ∗ (dat m c).leavesExact 11 t ∗ (dat m c).leavesExact 12 t ∗ (dat m c).leavesExact 13 t ∗ (dat m c).leavesExact 14 t)

/-- An input window's staging buffer holds its block. -/
theorem in_of (w : Fin cfg0.W) {x : (cfg0.win w).block.Idx → Elt F (cfg0.win w).elt}
    (ho : (cfg0.win w).isOut = false := by rfl) (hi : ∀ i, cfg0.idle w i = false := by intros; rfl)
    (hc : ∀ t t' : Fin cfg0.N, (cfg0.win w).index t = (cfg0.win w).index t' →
      (cfg0.win w).clip (cfg0.grid.coords t) = (cfg0.win w).clip (cfg0.grid.coords t') := by intros; rfl)
    (hk : ∀ t, (cfg0.win w).cut (cfg0.grid.coords t) ((dat m c).after w t) = (dat m c).blockOf w t := by intros; rfl)
    (hx : ∀ d, (dat m c).fetched w t d = x := by intros; rfl) :
    found m c t w
      ⊢ (owns (c : Thread nD τ) ((cfg0.win w).stage (cfg0.slots t w)) fullShare x : sProp 𝕄) := by
  iintro ⟨%d, H⟩
  rw [(dat m c).before_in_eq_fetched w ho hi hc hk t d, hx]
  iexact H

/-- It is left so. -/
theorem left_of (w : Fin cfg0.W) (hi : cfg0.idle w (cfg0.grid.coords t) = false := by rfl) :
    (owns (c : Thread nD τ) ((cfg0.win w).stage (cfg0.slots t w)) fullShare ((dat m c).after w t) : sProp 𝕄) ⊢ (dat m c).leavesExact w t :=
  Entails.of_eq (by unfold Dat.leavesExact; rw [hi])

theorem sorted (S E O P0 P1 P2 P3 P4 P5 P6 P7 P8 P9 P10 P11 P12 P13 P14 : sProp 𝕄) : iprop((S ∗ E) ∗ O ∗ P0 ∗ P1 ∗ P2 ∗ P3 ∗ P4 ∗ P5 ∗ P6 ∗ P7 ∗ P8 ∗ P9 ∗ P10 ∗ P11 ∗ P12 ∗ P13 ∗ P14) ⊣⊢ iprop(S ∗ E ∗ O ∗ (P0 ∗ P1 ∗ P2 ∗ P3 ∗ P4 ∗ P5 ∗ P6 ∗ P7 ∗ P8 ∗ P9 ∗ P10 ∗ P11 ∗ P12 ∗ P13) ∗ P14) := by
  have assoc (P Q R : sProp 𝕄) : iprop((P ∗ Q) ∗ R) = iprop(P ∗ Q ∗ R) := equiv_iff.mp ⟨BI.sep_assoc, BI.sep_assoc'⟩
  simp only [assoc]
  exact ⟨.rfl, .rfl⟩

theorem out_in :
    found m c t 14
      ⊢ (iprop(∃ y : Vec F S1024x1024 .f32, owns (c : Thread nD τ) (Gen.st0_14 t) fullShare y ∗ ⌜∃ d, y = (dat m c).before 14 t d⌝) : sProp 𝕄) := by
  iintro ⟨%d, H⟩
  iexists (dat m c).before 14 t d
  isplitl [H]; · iexact H
  ipureintro; exact ⟨d, rfl⟩

theorem pre_sorted : bodyPre m c t
    ⊢ iprop(sumHeld m c t.val ∗ exch m c t.val ∗ (dat m c).owesAt () t.castSucc ∗ stagedAt m c t
      ∗ ∃ y : Vec F S1024x1024 .f32, owns (c : Thread nD τ) (Gen.st0_14 t) fullShare y ∗ ⌜∃ d, y = (dat m c).before 14 t d⌝) := by
  refine BI.Entails.trans ?_ (sorted _ _ _ _ _ _ _ _ _ _ _ _ _ _ _ _ _ _).1
  exact BI.sep_mono (Entails.of_eq (phi_before m c t)) (BI.sep_mono (BI.Entails.refl _) (BI.sep_mono (in_of m c t 0) (BI.sep_mono (in_of m c t 1) (BI.sep_mono (in_of m c t 2) (BI.sep_mono (in_of m c t 3) (BI.sep_mono (in_of m c t 4) (BI.sep_mono (in_of m c t 5) (BI.sep_mono (in_of m c t 6) (BI.sep_mono (in_of m c t 7) (BI.sep_mono (in_of m c t 8) (BI.sep_mono (in_of m c t 9) (BI.sep_mono (in_of m c t 10) (BI.sep_mono (in_of m c t 11) (BI.sep_mono (in_of m c t 12) (BI.sep_mono (in_of m c t 13) ((out_in m c t)))))))))))))))))

theorem post_sorted :
    iprop(sumHeld m c (t.val + 1) ∗ exch m c (t.val + 1) ∗ (dat m c).owesAt () t.succ ∗ stagedAt m c t ∗ (dat m c).leavesExact 14 t) ⊢ bodyPost m c t :=
  (sorted _ _ _ _ _ _ _ _ _ _ _ _ _ _ _ _ _ _).2.trans (BI.sep_mono (Entails.of_eq (phi_after m c t).symm) (BI.sep_mono (BI.Entails.refl _) (BI.sep_mono (left_of m c t 0) (BI.sep_mono (left_of m c t 1) (BI.sep_mono (left_of m c t 2) (BI.sep_mono (left_of m c t 3) (BI.sep_mono (left_of m c t 4) (BI.sep_mono (left_of m c t 5) (BI.sep_mono (left_of m c t 6) (BI.sep_mono (left_of m c t 7) (BI.sep_mono (left_of m c t 8) (BI.sep_mono (left_of m c t 9) (BI.sep_mono (left_of m c t 10) (BI.sep_mono (left_of m c t 11) (BI.sep_mono (left_of m c t 12) (BI.sep_mono (left_of m c t 13) ((BI.Entails.refl _))))))))))))))))))

theorem point_first (h : t.val = 0) :
    bodyPre m c t ⊢ wp frame (wpE defs₀ 𝒱₀ (c : Thread nD τ) none) Set.univ (Gen.bodyAt0 t) (fun _ => bodyPost m c t) := by
  refine (pre_sorted m c t).trans ?_
  rw [point_text, wp_deviceId]
  rw [exch_first m c _ h]
  unfold Copies.Plan.kits
  iintro ⟨HS, ⟨%κ, HA, HR⟩, HO, HI, %y, Ho, %hy⟩
  ihave HO' := (owesAt_elim m c t.castSucc (plan.owed₀ c) (owed_before m c t h)) $$ HO
  iapply (sendAll_run m (grid0.coords t) ((cond1_iff t).mpr h) κ c) $$ [HA HO']
  · isplitl [HA] <;> iassumption
  iintro ⟨HE, %W, HO⟩
  iapply (inner m c t) $$ [HS Ho HI]
  · isplitl [HS]; · iexact HS
    isplitl [Ho]; · iexact Ho
    iexact HI
  iintro ⟨HS, Ho, HI⟩
  ihave Ho' := (out_left m c t y hy) $$ Ho
  rw [waitAll_skip (grid0.coords t) (fun h' => by have := (cond11_iff t).mp h'; omega), wp_ret]
  imodintro
  iapply (post_sorted m c t)
  isplitl [HS]; · iexact HS
  isplitl [HE HR]
  · rw [exch_mid m c _ (by omega) (by omega)]
    unfold flying
    iexists κ
    isplitl [HE] <;> iassumption
  isplitl [HO]; · iapply (owesAt_intro m c t.succ 0 (owed_after m c t) W); iexact HO
  isplitl [HI]; · iexact HI
  iexact Ho'

theorem point_mid (h : t.val ≠ 0) (h' : t.val ≠ 151) :
    bodyPre m c t ⊢ wp frame (wpE defs₀ 𝒱₀ (c : Thread nD τ) none) Set.univ (Gen.bodyAt0 t) (fun _ => bodyPost m c t) := by
  refine (pre_sorted m c t).trans ?_
  rw [point_text, wp_deviceId]
  rw [sendAll_skip (grid0.coords t) (fun h0 => h ((cond1_iff t).mp h0))]
  have hN : t.val < 152 := lt_of_lt_of_eq t.isLt Gen.N_0
  rw [exch_mid m c _ h (by omega)]
  iintro ⟨HS, HE, HO, HI, %y, Ho, %hy⟩
  ihave HO' := (owesAt_elim m c t.castSucc 0 (owed_between m c t h)) $$ HO
  icases HO' with ⟨%W, HO⟩
  iapply (inner m c t) $$ [HS Ho HI]
  · isplitl [HS]; · iexact HS
    isplitl [Ho]; · iexact Ho
    iexact HI
  iintro ⟨HS, Ho, HI⟩
  ihave Ho' := (out_left m c t y hy) $$ Ho
  rw [waitAll_skip (grid0.coords t) (fun h0 => h' ((cond11_iff t).mp h0)), wp_ret]
  imodintro
  iapply (post_sorted m c t)
  isplitl [HS]; · iexact HS
  isplitl [HE]
  · rw [exch_mid m c _ (by omega) (by omega)]
    iexact HE
  isplitl [HO]; · iapply (owesAt_intro m c t.succ 0 (owed_after m c t) W); iexact HO
  isplitl [HI]; · iexact HI
  iexact Ho'

theorem point_last (h : t.val = 151) :
    bodyPre m c t ⊢ wp frame (wpE defs₀ 𝒱₀ (c : Thread nD τ) none) Set.univ (Gen.bodyAt0 t) (fun _ => bodyPost m c t) := by
  refine (pre_sorted m c t).trans ?_
  rw [point_text, wp_deviceId]
  rw [sendAll_skip (grid0.coords t) (fun h0 => by have := (cond1_iff t).mp h0; omega)]
  rw [exch_mid m c _ (by omega) (by omega)]
  unfold flying
  iintro ⟨HS, ⟨%κ, HA, HR⟩, HO, HI, %y, Ho, %hy⟩
  ihave HO' := (owesAt_elim m c t.castSucc 0 (owed_between m c t (by omega))) $$ HO
  iapply (inner m c t) $$ [HS Ho HI]
  · isplitl [HS]; · iexact HS
    isplitl [Ho]; · iexact Ho
    iexact HI
  iintro ⟨HS, Ho, HI⟩
  ihave Ho' := (out_left m c t y hy) $$ Ho
  iapply (waitAll_run m (grid0.coords t) ((cond11_iff t).mpr h) κ c) $$ [HA HR HO']
  · isplitl [HA]; · iexact HA
    isplitl [HR] <;> iassumption
  iintro ⟨HE, %W', HO⟩
  rw [wp_ret]
  imodintro
  iapply (post_sorted m c t)
  isplitl [HS]; · iexact HS
  isplitl [HE]
  · rw [exch_last m c _ (by omega)]
    iexact HE
  isplitl [HO]; · iapply (owesAt_intro m c t.succ 0 (owed_after m c t) W'); iexact HO
  isplitl [HI]; · iexact HI
  iexact Ho'

theorem point :
    bodyPre m c t ⊢ wp frame (wpE defs₀ 𝒱₀ (c : Thread nD τ) none) Set.univ (Gen.bodyAt0 t) (fun _ => bodyPost m c t) := by
  by_cases h : t.val = 0
  · exact point_first m c t h
  by_cases h' : t.val = 151
  · exact point_last m c t h'
  exact point_mid m c t h h'

theorem body_row : defs₀ (F := F) .tc cfg0.body (cfg0.bodyArgs t (cfg0.slots t)) = Gen.bodyAt0 t := by
  unfold defs₀; rw [Defs.onTc_tc]

theorem body_ok : BodyObligation (dat (F := F) m c) defs₀ 𝒱₀ () Set.univ := fun t => by
  rw [Gen.bigSep_W0, Gen.bigSep_W0, body_row]
  exact triple_restated (point m c t) rfl .rfl fun _ => .rfl

end Cert.DXn.Swap

end
-- ==== Proof.DXnRun.lean ====
/- The launch of the activation gradient and its exchange: what the cores hold at the start is dealt out so that every
   core has what its copies and its waits ask, the grid is run on every core, and the final memory is read. -/
module

public import proofs.«01_k».proof.Proof.DXnPoint
public import proofs.«01_k».proof.Proof.Exchange

@[expose] public section

set_option maxRecDepth 16384

noncomputable section

namespace Cert.DXn.Swap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Facts₀ Facts
open Gen (k0_pay1 k0_pay2 k0_pay3 k0_pay4 k0_pay5 k0_pay6 k0_pay7 k0_pay8)

/-! ## The semaphores -/

def osem : Fin 3 ⊕ Fin 3 → SemLoc sig := fun j => .dma (sems j)

theorem osem_facts : Pipeline.OwnSemFacts spec0 osem := by decide +kernel

theorem stage_low : ∀ (w : Fin 15) (s : Fin (cfg0.win w).nbuf), ((cfg0.win w).sem s).val < 33 := by decide +kernel

variable {F : FTy → Type} [FloatOps F] [Facts₀] [Facts]

local notation "𝕄" => MT nD τ sig Unit (Elt F) ℕ UU ℕ

variable (m : (ℓ : Loc nD τ sig) → Buf (Elt F) ℓ)

/-! ## The counters and the pieces -/

/-- The exchange's counters at zero, piece by piece. -/
def counters (c : Dev nD) : sProp 𝕄 := bigSep Finset.univ fun j => semVal (plan.cell c j) 0

theorem ownSems_eq (c : Dev nD) : (Pipeline.ownSems0 osem c : sProp 𝕄) = counters c := rfl

/-- Core `c`'s weight gradient at a share. -/
def keep (c : Dev nD) : sProp 𝕄 := iprop(∃ q : PosShare TreeShare, (c : Thread nD τ).loc main_arg14 ↦{q} m ((c : Thread nD τ).loc main_arg14))

abbrev adm : (p : Fin 1) → (pcfgs (F := F) p).Adm := fun p => (cfgs p).toPCfg_adm
abbrev PC : (p : Fin 1) → Cfg sig Λ₀ := Pipeline.pin (pcfgs (F := F)) adm
def pdats : (p : Fin 1) → (c : Dev nD) → Pipeline.Dat τ (Elt F) Unit ℕ UU ℕ (Pipeline.pin (pcfgs (F := F)) adm p) c
  | 0 => dat m

theorem cells_inj : Function.Injective (Pipeline.cellOf (nD := nD) (τ := τ) (Pipeline.pin (pcfgs (F := F)) adm)) := Gen.cellOf_inj

/-- The semaphores no part of the kernel uses. -/
def idle (c : Dev nD) : sProp 𝕄 := Pipeline.idleSems0 (Pipeline.pin (pcfgs (F := F)) adm) cells_inj 0 osem_facts c

theorem sems_split (c : Dev nD) : (scopedSems0 (c : Thread nD τ) : sProp 𝕄)
    = iprop((Pipeline.cellsSems0 (Pipeline.pin (pcfgs (F := F)) adm) 0 c ∗ counters c) ∗ idle c) :=
  Pipeline.scopedSems0_split (Pipeline.pin (pcfgs (F := F)) adm) cells_inj 0 Gen.winFacts0.to₀ osem_facts c

theorem share_eq (c : Dev nD) (w : Fin cfg0.W) : (dat m c).share w = fullShare := by unfold Dat.share; split <;> rfl

/-- The windows' arrays at contents `X`. -/
theorem arrays_whole (c : Dev nD) (X : (w : Fin cfg0.W) → Buf (Elt F) ((cfg0.win w).arr.view.loc (c : Thread nD τ))) :
    (dat m c).arrays X = bigSep Finset.univ fun w : Fin cfg0.W => (((c : Thread nD τ).loc (Pipeline.arrRef spec0 w)) ↦{fullShare} X w : sProp 𝕄) :=
  Pipeline.arrays_eq (Pipeline.pin (pcfgs (F := F)) adm) (pdats m) 0 c Gen.arr_whole0 (share_eq m c) X

def arrays₀ (c : Dev nD) : sProp 𝕄 := (pdats m 0 c).arrays fun w => (pdats m 0 c).arrAt w 0
def arraysN (c : Dev nD) : sProp 𝕄 := (pdats m 0 c).arrays fun w => (pdats m 0 c).arrAt w (Pipeline.pin (pcfgs (F := F)) adm 0).N

theorem arraysN_eq (c : Dev nD) : arraysN m c
    = bigSep Finset.univ fun w : Fin cfg0.W => (((c : Thread nD τ).loc (Pipeline.arrRef spec0 w)) ↦{fullShare} (dat m c).arrAt w cfg0.N : sProp 𝕄) :=
  arrays_whole m c _
theorem arrays₀_eq (c : Dev nD) : arrays₀ m c
    = bigSep Finset.univ fun w : Fin cfg0.W => (((c : Thread nD τ).loc (Pipeline.arrRef spec0 w)) ↦{fullShare} (dat m c).arrAt w 0 : sProp 𝕄) :=
  arrays_whole m c _

theorem bufs_split (c : Dev nD) : (unscopedBufs c (fun b => m ((c : Thread nD τ).loc b)) : sProp 𝕄)
    = iprop(arrays₀ m c ∗ (((c : Thread nD τ).loc main_arg14) ↦{fullShare} m ((c : Thread nD τ).loc main_arg14))
      ∗ (((c : Thread nD τ).loc main_v1_1) ↦{fullShare} m ((c : Thread nD τ).loc main_v1_1))) := by
  rw [arrays₀_eq]
  refine (Pipeline.unscopedBufs_split (Pipeline.pin (pcfgs (F := F)) adm) 0 Gen.winFacts0.arr_unscoped Gen.winFacts0.arr_inj c _).trans ?_
  refine congrArg₂ (fun A B : sProp 𝕄 => iprop(A ∗ B)) rfl ?_
  exact Gen.unscopedRest0_eq c _

theorem scoped_split (c : Dev nD) : (scopedBufs (c : Thread nD τ) : sProp 𝕄)
    = iprop(Dat.staging cfg0 c ∗ ∃ f : Buf (Elt F) ((c : Thread nD τ).loc cc0_scratch0), ((c : Thread nD τ).loc cc0_scratch0) ↦{fullShare} f) := by
  refine (Pipeline.scopedBufs_split (Pipeline.pin (pcfgs (F := F)) adm) 0 Gen.winFacts0.stage_scoped Gen.winFacts0.stage_inj Gen.stage_whole0 c).trans ?_
  exact congrArg (fun B : sProp 𝕄 => iprop(Dat.staging cfg0 c ∗ B)) (Gen.scopedRest0_eq c)

theorem scratch_eq (c : Dev nD) : (iprop(∃ X : Vec F S1024x1024 .f32, owns (c : Thread nD τ) (Memref.whole cc0_scratch0) fullShare X) : sProp 𝕄)
    = iprop(∃ f : Buf (Elt F) ((c : Thread nD τ).loc cc0_scratch0), ((c : Thread nD τ).loc cc0_scratch0) ↦{fullShare} f) :=
  Memref.IsWhole.exists_owns_eq (Memref.isWhole_whole cc0_scratch0) fullShare

/-! ## The levels -/

def Lv (g : GSem nD τ sig) : Finset Unit := if g.1.2 = .tc then {()} else ∅
/-- An arrival's semaphore is above every other. -/
def lv (g : GSem nD τ sig) (_ : Unit) : ℕ := match g.2 with | .dma s => if 33 ≤ s.val then 1 else 0 | _ => 0

theorem Lv_tc (c : Dev nD) (sm : SemLoc sig) : Lv ((c : Thread nD τ), sm) = {()} := if_pos rfl

theorem mayWait_stage (c : Dev nD) (q : DmaSem sig) (hq : q.val < 33) (O : CellTallies nD τ sig Unit) (hO : O = plan.owed₀ c ∨ O = 0) :
    (levAts Lv lv : sProp 𝕄) ⊢ MayWait (c : Thread nD τ) (.dma q) () O := by
  rcases hO with rfl | rfl
  · refine MayOwe.of_cut (L := Lv) (lev := lv) 0 (fun p hp => by rw [Finset.mem_singleton.mp hp, Lv_tc]; exact Finset.mem_singleton_self _)
      (fun g u hg => by obtain ⟨k, rfl⟩ := plan.owed_pos hg; exact Finset.mem_singleton_self _)
      (fun p hp => by
        rw [Finset.mem_singleton.mp hp]
        show (if 33 ≤ q.val then 1 else 0) ≤ 0
        rw [if_neg (by omega)])
      (fun g u hg => by
        obtain ⟨k, rfl⟩ := plan.owed_pos hg
        show 0 < (if 33 ≤ 33 + k.val then 1 else 0)
        rw [if_pos (by omega)]; decide)
  · rw [MayWait_zero]; iintro -; iempintro

theorem owed_cases (c : Dev nD) (t : Fin (cfg0.N + 1)) : (dat m c).owed t = plan.owed₀ c ∨ (dat m c).owed t = 0 := by
  by_cases h : t.val = 0
  · exact Or.inl (owed_first m c t h)
  · exact Or.inr (owed_later m c t h)

def waits (c : Dev nD) : sProp 𝕄 := Pipeline.cellsWaits (Pipeline.pin (pcfgs (F := F)) adm) (pdats m) () 0 c

theorem waits_of (c : Dev nD) : (levAts Lv lv : sProp 𝕄) ⊢ waits m c :=
  Pipeline.cellsWaits_intro (Pipeline.pin (pcfgs (F := F)) adm) (pdats m) () 0 c fun w s t => mayWait_stage c _ (stage_low w s) _ (owed_cases m c t)

/-! ## The region, and the core's whole program -/

/-- What core `c` holds of its own launch throughout. -/
def held (c : Dev nD) : sProp 𝕄 :=
  iprop(keep m c ∗ owes (c : Thread nD τ) (plan.owed₀ c) ∅ ∗ scopedBufs (c : Thread nD τ) ∗ arrays₀ m c
    ∗ Pipeline.cellsSems0 (Pipeline.pin (pcfgs (F := F)) adm) 0 c ∗ idle c)
def ghosts (c : Dev nD) : sProp 𝕄 :=
  iprop(Pipeline.cellsGhost (Pipeline.pin (pcfgs (F := F)) adm) EP 0 c ∗ Pipeline.toksInit (Pipeline.pin (pcfgs (F := F)) adm) EP 0 c)

/-- What core `c` starts with, and what it ends with. -/
def start (c : Dev nD) : sProp 𝕄 := iprop(plan.kits m ER c ∗ held m c ∗ waits m c ∗ ghosts c)
def fin (c : Dev nD) : sProp 𝕄 := iprop(arraysN m c ∗ keep m c ∗ bigSep Finset.univ (plan.landedPts m c))

theorem bigSep_W {M : Type} [URA M] (Φ : Fin 0 → sProp M) : bigSep Finset.univ Φ = (BI.emp : sProp M) :=
  bigSep_univ_eq_bigSepL [] (by decide) (by decide) Φ

theorem owed_zero (c : Dev nD) : (dat (F := F) m c).owed 0 = plan.owed₀ c := owed_first m c _ rfl
theorem owed_last (c : Dev nD) : (dat (F := F) m c).owed (Fin.last _) = 0 :=
  owed_later m c _ (by rw [Fin.val_last, show cfg0.N = 152 from Gen.N_0]; decide)
theorem phi_first (c : Dev nD) : (dat (F := F) m c).Φ 0 = iprop(sumHeld m c 0 ∗ plan.kits m ER c) := by
  rw [phi_eq, show ((0 : Fin (cfg0.N + 1)).val) = 0 from rfl, exch_first m c _ rfl]
theorem phi_last (c : Dev nD) : (dat (F := F) m c).Φ (Fin.last _) = iprop(sumHeld m c 152 ∗ plan.done m c) := by
  rw [phi_eq, Fin.val_last, show cfg0.N = 152 from Gen.N_0, exch_last m c _ rfl]

theorem pre_of (c : Dev nD) (κ : GSem nD τ sig → ℕ) :
    iprop(arrays₀ m c ∗ owes (c : Thread nD τ) (plan.owed₀ c) ∅ ∗ waits m c ∗ Pipeline.cellsInit (Pipeline.pin (pcfgs (F := F)) adm) (pdats m) EP κ 0 c
        ∗ Pipeline.toksInit (Pipeline.pin (pcfgs (F := F)) adm) EP 0 c)
      ⊢ Pipeline.EntryPre (Pipeline.pin (pcfgs (F := F)) adm) (pdats m) () EP κ 0 c := by
  unfold Pipeline.EntryPre Pipeline.PerCore.EntryPre arrays₀ waits
  iintro ⟨HA, HO, HW, HI, HT⟩
  isplitl [HA]; · iexact HA
  isplitl [HO]; · iapply (owesAt_intro m c 0 (plan.owed₀ c) (owed_zero m c) ∅); iexact HO
  isplitl [HW]; · iexact HW
  isplitl [HI] <;> iassumption

theorem post_of (c : Dev nD) : Pipeline.EntryPost (Pipeline.pin (pcfgs (F := F)) adm) (pdats m) () 0 c
    ⊢ iprop(arraysN m c ∗ ∃ W, owes (c : Thread nD τ) 0 W) := by
  unfold Pipeline.EntryPost Pipeline.PerCore.EntryPost arraysN
  iintro ⟨HA, HO⟩
  isplitl [HA]; · iexact HA
  iapply (owesAt_elim m c _ 0 (owed_last m c)); iexact HO

theorem run (c : Dev nD) :
    start m c ⊢ wp frame (wpE defs (Variants.lift 𝒱₀) (c : Thread nD τ) none) Set.univ (main (F := F) c)
      (fun _ => iprop((fin m c ∗ scopedSems0 (c : Thread nD τ)) ∗ ∃ W, owes (c : Thread nD τ) 0 W)) := by
  rw [show main (F := F) c = .op (.customCall (Pipeline.entry 0) ()) fun _ => .ret ⟨⟩ from rfl]
  have hpf : (BI.emp : sProp 𝕄) ⊢ Pipeline.prefHeld (pcfgs (F := F) 0).pre c (fun _ => fullShare) (adm 0).1 := by
    rw [show Pipeline.prefHeld (pcfgs (F := F) 0).pre c (fun _ => fullShare) (adm 0).1 = (BI.emp : sProp 𝕄) from bigSep_W _]
  unfold start held ghosts
  iintro ⟨HK, ⟨Hkeep, HO, Hb, HA, HS, HI⟩, HW, HG, HT⟩
  imod (Pipeline.cellsInit_alloc (Pipeline.pin (pcfgs (F := F)) adm) (pdats m) EP cells_inj 0 c) $$ [HS HG] with HC
  · isplitl [HS] <;> iassumption
  icases HC with ⟨%κ, -, HC⟩
  have h := Pipeline.wp_customCall_entry_frame pcfgs adm (pdats m) () EP κ cells_inj 0 defs₀ 𝒱₀ (fun _ => fullShare) c Set.univ
    (fun _ _ => Set.mem_univ _) (body_ok m c).loose Gen.block_pos0 none (fun u hu => by cases hu)
    (X := plan.kits m ER c) (Y := bigSep Finset.univ (plan.landedPts m c))
    (R := iprop(∃ f : Buf (Elt F) ((c : Thread nD τ).loc cc0_scratch0), ((c : Thread nD τ).loc cc0_scratch0) ↦{fullShare} f)) (I := idle c)
    (Entails.of_eq (scoped_split c))
    (by
      refine BIBase.Entails.trans ?_ (Entails.of_eq (phi_first m c).symm)
      rw [← scratch_eq]
      unfold sumHeld
      iintro ⟨HX, -, %X, HR⟩
      isplitl [HR]
      · iexists X
        isplitr; · ipureintro; exact Or.inl rfl
        iexact HR
      iexact HX)
    (by
      have hl : iprop((pdats m 0 c).Φ (Fin.last (Pipeline.pin (pcfgs (F := F)) adm 0).N) ∗ Pipeline.cellsSems0 (Pipeline.pin (pcfgs (F := F)) adm) 0 c
            ∗ Dat.staging (Pipeline.pin (pcfgs (F := F)) adm 0) c ∗ idle c)
          ⊢ iprop((sumHeld m c 152 ∗ plan.done m c) ∗ Pipeline.cellsSems0 (Pipeline.pin (pcfgs (F := F)) adm) 0 c ∗ Dat.staging cfg0 c ∗ idle c) :=
        BI.sep_mono (Entails.of_eq (phi_last m c)) (BI.Entails.refl _)
      refine hl.trans ?_
      rw [sems_split, scoped_split, ← scratch_eq]
      unfold sumHeld Copies.Plan.done counters
      iintro ⟨⟨⟨%X, -, HX⟩, HL, HZ⟩, HS, Hst, HI⟩
      isplitl [HL]; · iexact HL
      isplitl [HS HZ HI]
      · isplitr [HI]
        · isplitl [HS] <;> iassumption
        iexact HI
      isplitl [Hst]; · iexact Hst
      iexists X; iexact HX)
    (α := PUnit) (k := fun _ => .ret ⟨⟩) (Q := fun _ => iprop((fin m c ∗ scopedSems0 (c : Thread nD τ)) ∗ ∃ W, owes (c : Thread nD τ) 0 W))
  iapply h $$ [HK HO Hb HA HW HC HT HI]
  · isplitl [HO HA HW HC HT]
    · iapply (pre_of m c κ)
      isplitl [HA]; · iexact HA
      isplitl [HO]; · iexact HO
      isplitl [HW]; · iexact HW
      isplitl [HC] <;> iassumption
    isplitr; · iapply hpf; iempintro
    isplitl [HK]; · iexact HK
    isplitl [HI] <;> iassumption
  iintro ⟨HP, HL, HS, -⟩
  ihave HP' := (post_of m c) $$ HP
  icases HP' with ⟨HA, HO⟩
  rw [wp_ret]
  imodintro
  unfold fin
  isplitr [HO]
  · isplitr [HS]
    · isplitl [HA]; · iexact HA
      isplitl [Hkeep] <;> iassumption
    iexact HS
  iexact HO

/-! ## What one core's launch gives -/

theorem dst_set (k : Fin 3) : (dstM k).view.set
    = (Rect.unit (s := S3x1280x1024) ![k.val, 0, 0] S1x1280x1024.size (dst_inb k)).set :=
  (View.set_reshape (v := _) squeezes_S1x1280x1024_S1280x1024.numel_eq).trans (View.set_slice_whole _ _)

theorem dst_cover : (Finset.univ : Finset (Fin 3)).biUnion (β := S3x1280x1024.Idx) (fun k => (dstM k).view.set) = Finset.univ := by
  rw [Finset.biUnion_congr rfl (fun k _ => dst_set k)]
  exact Ring.lead_cover (s := S3x1280x1024) 0 1 (fun k : Fin 3 => ![k.val, 0, 0]) S1x1280x1024.size dst_inb (by intro b; simp) (by decide) (by decide)
    (by decide) (by decide)

theorem dst_covers (i : S3x1280x1024.Idx) : ∃ k : Fin 3, i ∈ (dstM k).view.set := by
  have h := Finset.mem_univ i
  rw [← dst_cover, Finset.mem_biUnion] at h
  exact h.imp fun _ h => h.2

theorem dst_disjoint (k j : Fin 3) (h : k ≠ j) : Disjoint (dstM k).view.set (dstM j).view.set := by
  rw [dst_set, dst_set]
  exact Ring.lead_disjoint (s := S3x1280x1024) 0 1 (fun k : Fin 3 => ![k.val, 0, 0]) S1x1280x1024.size dst_inb (by intro b; simp) (by decide) k j h

/-- Core `c`'s two exchanged arrays as launched: its own is kept at one share and lent to its three sends at others, and
    the receiving array falls into its slots. -/
theorem arrays_dealt (c : Dev nD) :
    iprop((((c : Thread nD τ).loc main_arg14) ↦{fullShare} m ((c : Thread nD τ).loc main_arg14))
      ∗ (((c : Thread nD τ).loc main_v1_1) ↦{fullShare} m ((c : Thread nD τ).loc main_v1_1)))
      ⊢ iprop(keep m c ∗ (bigSep Finset.univ fun k : Fin 3 => iprop(∃ q, plan.srcPts m c k q)) ∗ bigSep Finset.univ (plan.dstPts m c)) := by
  have hd : (((c : Thread nD τ).loc main_v1_1) ↦{fullShare} m ((c : Thread nD τ).loc main_v1_1) : sProp 𝕄) = bigSep Finset.univ (plan.dstPts m c) := by
    unfold Copies.Plan.dstPts
    exact Ring.pointsTo_blocks (ℓ := (c : Thread nD τ).loc main_v1_1) (fun k : Fin 3 => (dstM k).view.set) dst_disjoint
      (Finset.eq_univ_of_forall fun i => Finset.mem_biUnion.mpr ((dst_covers i).imp fun _ h => ⟨Finset.mem_univ _, h⟩)) _
  rw [hd]
  have hs : (((c : Thread nD τ).loc main_arg14) ↦{fullShare} m ((c : Thread nD τ).loc main_arg14) : sProp 𝕄)
      ⊢ iprop(keep m c ∗ bigSep Finset.univ fun k : Fin 3 => iprop(∃ q, plan.srcPts m c k q)) :=
    Copies.lent (ℓ := (c : Thread nD τ).loc main_arg14) (fun k : Fin 3 => (srcM c k).view.set) _
  iintro ⟨HA, HD⟩
  ihave HA' := hs $$ HA
  icases HA' with ⟨HK, HS⟩
  isplitl [HK]; · iexact HK
  isplitl [HS] <;> iassumption

/-- One core's launch, sorted. -/
theorem launch_sorted (g : Dev nD → PrngReg) (c : Dev nD) : (Exchange.atLaunch plan.owed₀ m g c : sProp 𝕄)
    ⊢ iprop(held m c ∗ plan.brings m c) := by
  unfold Exchange.atLaunch Copies.Plan.brings
  rw [sems_split, bufs_split]
  unfold held counters
  iintro ⟨Hsb, ⟨⟨Hcs, Hct⟩, Hid⟩, ⟨Harr, Hub⟩, -, HO, Hcr⟩
  ihave Ha := (arrays_dealt m c) $$ Hub
  icases Ha with ⟨HK, HS, HD⟩
  ihave Hc := (plan.creds c) $$ Hcr
  isplitl [HK HO Hsb Harr Hcs Hid]
  · isplitl [HK]; · iexact HK
    isplitl [HO]; · iexact HO
    isplitl [Hsb]; · iexact Hsb
    isplitl [Harr]; · iexact Harr
    isplitl [Hcs] <;> iassumption
  isplitl [HS]; · iexact HS
  isplitl [HD]; · iexact HD
  isplitl [Hc] <;> iassumption

/-- The ghost state at launch: the pipeline's, and the exchange's. -/
def ghost₀ : UU :=
  (initOf (Pipeline.cells (nD := nD) (τ := τ) (Pipeline.pin (pcfgs (F := F)) adm) cells_inj)
    (Pipeline.launchToks (nD := nD) (τ := τ) (Pipeline.pin (pcfgs (F := F)) adm) cells_inj), plan.ghost₀)

theorem one (Φ : Fin 1 → sProp 𝕄) : bigSep Finset.univ Φ = Φ 0 := bigSep_univ_eq_bigSepL [0] (by decide) (by decide) Φ

theorem ghosts_dealt : (BI.own (EP (initOf (Pipeline.cells (nD := nD) (τ := τ) (Pipeline.pin (pcfgs (F := F)) adm) cells_inj)
      (Pipeline.launchToks (nD := nD) (τ := τ) (Pipeline.pin (pcfgs (F := F)) adm) cells_inj))) : sProp 𝕄)
    ⊢ iprop(|==> bigSep Finset.univ (ghosts (F := F))) := by
  have h := Pipeline.fund_ghost (nD := nD) (τ := τ) (Pipeline.pin (pcfgs (F := F)) adm) (EP (F := F)) cells_inj
  simp only [one] at h
  rw [← bigSep_sep'] at h
  exact h

theorem waits_all : (levAts Lv lv : sProp 𝕄) ⊢ bigSep Finset.univ (waits m) :=
  BI.bigSep_intro_persistent fun c _ => waits_of m c

/-- The launch dealt out to the cores. -/
theorem deal (g : Dev nD → PrngReg) :
    iprop((bigSep Finset.univ fun c => (Exchange.atLaunch plan.owed₀ m g c : sProp 𝕄)) ∗ levAts Lv lv ∗ ownU (ghost₀ (F := F)))
      ⊢ iprop(|={Set.univ}=> bigSep Finset.univ (start m)) := by
  have h1 : (bigSep Finset.univ fun c => (Exchange.atLaunch plan.owed₀ m g c : sProp 𝕄))
      ⊢ iprop(bigSep Finset.univ (held m) ∗ bigSep Finset.univ (plan.brings m)) := by
    rw [← bigSep_sep']
    exact BI.bigSep_mono fun c _ => launch_sorted m g c
  have h2 : bigSep Finset.univ (start m) = iprop(bigSep Finset.univ (plan.kits m ER) ∗ bigSep Finset.univ (held m)
      ∗ bigSep Finset.univ (waits m) ∗ bigSep Finset.univ (ghosts (F := F))) := by
    rw [← bigSep_sep', ← bigSep_sep', ← bigSep_sep']; rfl
  iintro ⟨HL, HV, HU⟩
  ihave HL' := h1 $$ HL
  icases HL' with ⟨HH, HB⟩
  ihave HW := (waits_all m) $$ HV
  unfold ghost₀
  ihave HU' := (ownU_pair _ _) $$ HU
  icases HU' with ⟨HU1, HU2⟩
  imod (ghosts_dealt) $$ HU1 with HG
  imod (plan.dealt m ER) $$ [HB HU2] with HK
  · isplitl [HB] <;> iassumption
  imodintro
  rw [h2]
  isplitl [HK]; · iexact HK
  isplitl [HH]; · iexact HH
  isplitl [HW] <;> iassumption

/-- What a finished core's memory shows: its windows' arrays after the grid, the weight gradient, and the three slots
    the other cores copied into its second result. -/
def shows (c : Dev nD) (s : MemSt nD τ sig (Elt F)) : Prop :=
  (∀ w : Fin cfg0.W, s.mem ((c : Thread nD τ).loc (Pipeline.arrRef spec0 w)) = (dat m c).arrAt w cfg0.N)
    ∧ s.mem ((c : Thread nD τ).loc main_arg14) = m ((c : Thread nD τ).loc main_arg14)
    ∧ ∀ k : Fin 3, ∀ i : S3x1280x1024.Idx, i ∈ (dstM k).view.set → s.mem ((c : Thread nD τ).loc main_v1_1) i = (plan.landed m c k : Buf (Elt F) ((c : Thread nD τ).loc main_v1_1)) i

theorem read (c : Dev nD) (s : Phys nD τ sig (Elt F)) : iprop(fin m c ∗ SI s) ⊢ (iprop(|={Set.univ}=> (⌜shows m c s.mem⌝ ∗ SI s)) : sProp 𝕄) := by
  have arrays : iprop(fin m c ∗ SI s) ⊢ (⌜∀ w : Fin cfg0.W, s.mem.mem ((c : Thread nD τ).loc (Pipeline.arrRef spec0 w)) = (dat m c).arrAt w cfg0.N⌝ : sProp 𝕄) := by
    unfold fin
    rw [arraysN_eq]
    iintro ⟨⟨HA, -⟩, HS⟩
    iapply (Copies.wholes_read (U := UU) (fun w : Fin cfg0.W => (c : Thread nD τ).loc (Pipeline.arrRef spec0 w)) (fun w => (dat m c).arrAt w cfg0.N) s)
    isplitl [HA] <;> iassumption
  have arg : iprop(fin m c ∗ SI s) ⊢ (⌜s.mem.mem ((c : Thread nD τ).loc main_arg14) = m ((c : Thread nD τ).loc main_arg14)⌝ : sProp 𝕄) := by
    unfold fin keep
    iintro ⟨⟨-, HK, -⟩, HS⟩
    iapply (Copies.whole_read (U := UU) (m ((c : Thread nD τ).loc main_arg14)) s)
    isplitl [HK] <;> iassumption
  have pieces : iprop(fin m c ∗ SI s) ⊢ (⌜∀ k : Fin 3, ∀ i : S3x1280x1024.Idx, i ∈ (dstM k).view.set → s.mem.mem ((c : Thread nD τ).loc main_v1_1) i = (plan.landed m c k : Buf (Elt F) ((c : Thread nD τ).loc main_v1_1)) i⌝ : sProp 𝕄) := by
    unfold fin
    iintro ⟨⟨-, -, HL⟩, HS⟩
    iapply (plan.landed_read (U := UU) m c s)
    isplitl [HL] <;> iassumption
  refine pure_elim _ arrays fun hw => ?_
  refine pure_elim _ arg fun ha => ?_
  refine pure_elim _ pieces fun hp => ?_
  have hq : shows m c s.mem := ⟨hw, ha, hp⟩
  iintro ⟨-, HS⟩
  imodintro
  isplitr
  · ipureintro; exact hq
  iexact HS

/-- The kernel runs: every core's arrays end as `shows` says, and every semaphore is back at zero. -/
theorem runs (g : Dev nD → PrngReg) :
    θ_run (defs (F := F)) (onTc (τ := τ) (main (F := F))) ⟨m, fun _ => 0, g⟩ (fun r => (∀ c : Dev nD, shows m c r.2) ∧ r.2.sem = fun _ => 0) := by
  have h := Exchange.run_dealt (defs := defs (F := F)) (Variants.lift 𝒱₀) (main (F := F)) m g plan.owed₀ Lv lv (fun g h => if_neg h) (ghost₀ (F := F))
    (start m) (fin m) (deal m g) (run m) (shows m) (read m)
  refine (θ_run defs _ _).mono (fun r hr => ⟨hr.1, funext fun g' => hr.2 g' ?_⟩) h
  obtain ⟨⟨d, p⟩, sm⟩ := g'
  right
  revert sm
  exact (by decide : ∀ sm : SemLoc sig, sm.isScoped .tc = true)

end Cert.DXn.Swap

end
-- ==== Proof.DXnSame.lean ====
/-
  The kernel's text at the extended reals beside the one at the bits: they are one text.
-/
module

public import proofs.«01_k».proof.Proof.DXnRun
public import proofs.«01_k».proof.Proof.Gen.DXn
public import proofs.«01_k».proof.Proof.Gen.DXnIdeal
public import Idealize.ShloMosaic.PureOps.Ideal.Laws
public import Idealize.ShloMosaic.Adequacy

@[expose] public section

set_option maxRecDepth 16384

noncomputable section

namespace Cert.DXn.Swap

open Idealize.ShloMosaic Idealize.ShloMosaic.TcCoe Idealize.SL.Sem Cert.DXn Cert.DXn.Facts₀ Cert.DXn.Facts

/-- The kernel's text at the extended reals is the one at the bits. -/
theorem same_body (i : grid0.Coords) (arg2 : Memref sig .tc .vmem S1024x512 .bf16) (harg2 : arg2.IsWhole) (arg3 : Memref sig .tc .vmem S512x1024 .bf16) (harg3 : arg3.IsWhole) (arg4 : Memref sig .tc .vmem S1024x128 .bf16) (harg4 : arg4.IsWhole) (arg5 : Memref sig .tc .vmem S128x1024 .bf16) (harg5 : arg5.IsWhole) (arg6 : Memref sig .tc .vmem S1024x512 .bf16) (harg6 : arg6.IsWhole) (arg7 : Memref sig .tc .vmem S512x1024 .bf16) (harg7 : arg7.IsWhole) (arg8 : Memref sig .tc .vmem S1024x512 .bf16) (harg8 : arg8.IsWhole) (arg9 : Memref sig .tc .vmem S512x1024 .bf16) (harg9 : arg9.IsWhole) (arg10 : Memref sig .tc .vmem S1024x512 .bf16) (harg10 : arg10.IsWhole) (arg11 : Memref sig .tc .vmem S512x1024 .bf16) (harg11 : arg11.IsWhole) (arg12 : Memref sig .tc .vmem S1024x512 .bf16) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .hbm S4x1280x1024 .bf16) (harg16 : arg16.IsWhole) (arg17 : Memref sig .tc .vmem S1024x1024 .f32) (harg17 : arg17.IsWhole) (arg18 : Memref sig .tc .hbm S3x1280x1024 .bf16) (harg18 : arg18.IsWhole) (arg19 : Memref sig .tc .vmem S1024x1024 .f32) (harg19 : arg19.IsWhole) (arg20 : DmaSems sig S3) (arg21 : DmaSems sig S3) :
    DXnIdeal.cc0_d_xn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 = DXn.cc0_d_xn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 arg21 := by
  with_unfolding_all rfl

set_option maxHeartbeats 4000000 in
theorem same_defs₀ : DXnIdeal.defs₀ (F := Ideal) = DXn.defs₀ (F := Ideal) := by
  refine congrArg (Defs.onTc (nD := nD) (τ := τ) (sig := sig) (Val := Elt Ideal) (Λ := Λ₀)) (funext fun l => funext fun x => ?_)
  match l, x with
  | 0, (t, s) => exact same_body (grid0.coords t) (win0_0.stage (s 0)) (hstage0_0 ((s 0).cast nbuf0_0)) (win0_1.stage (s 1)) (hstage0_1 ((s 1).cast nbuf0_1)) (win0_2.stage (s 2)) (hstage0_2 ((s 2).cast nbuf0_2)) (win0_3.stage (s 3)) (hstage0_3 ((s 3).cast nbuf0_3)) (win0_4.stage (s 4)) (hstage0_4 ((s 4).cast nbuf0_4)) (win0_5.stage (s 5)) (hstage0_5 ((s 5).cast nbuf0_5)) (win0_6.stage (s 6)) (hstage0_6 ((s 6).cast nbuf0_6)) (win0_7.stage (s 7)) (hstage0_7 ((s 7).cast nbuf0_7)) (win0_8.stage (s 8)) (hstage0_8 ((s 8).cast nbuf0_8)) (win0_9.stage (s 9)) (hstage0_9 ((s 9).cast nbuf0_9)) (win0_10.stage (s 10)) (hstage0_10 ((s 10).cast nbuf0_10)) (win0_11.stage (s 11)) (hstage0_11 ((s 11).cast nbuf0_11)) (win0_12.stage (s 12)) (hstage0_12 ((s 12).cast nbuf0_12)) (win0_13.stage (s 13)) (hstage0_13 ((s 13).cast nbuf0_13)) (Memref.whole main_arg14) (Memref.isWhole_whole _) (win0_14.stage (s 14)) (hstage0_14 ((s 14).cast nbuf0_14)) (Memref.whole main_v1_1) (Memref.isWhole_whole _) (Memref.whole cc0_scratch0) (Memref.isWhole_whole _) cc0_scratch1 cc0_scratch2

theorem same_defs : DXnIdeal.defs (F := Ideal) = DXn.defs (F := Ideal) :=
  congrArg (Pipeline.defs (DXn.pcfgs (F := Ideal))) same_defs₀

theorem runs_ideal (m : (ℓ : Loc nD τ sig) → Buf (Elt Ideal) ℓ) (g : Dev nD → PrngReg) :
    θ_run (DXnIdeal.defs (F := Ideal)) (onTc (τ := DXnIdeal.τ) (DXnIdeal.main (F := Ideal))) ⟨m, fun _ => 0, g⟩
      (fun r => (∀ c : Dev nD, shows m c r.2) ∧ r.2.sem = fun _ => 0) :=
  (congrArg (fun D => θ_run D (onTc (τ := τ) (DXn.main (F := Ideal))) ⟨m, fun _ => 0, g⟩
    (fun r => (∀ c : Dev nD, shows m c r.2) ∧ r.2.sem = fun _ => 0)) same_defs).mpr (runs (F := Ideal) m g)

end Cert.DXn.Swap

end
-- ==== Proof.DXnClaims.lean ====
/-
  The gradient of the normed input: its frames, and its value — the seven products' sum, and the pieces the chips exchange
  meanwhile beside a reshape and a stack of the whole arrays.

  The kernel's text is the same at the bits and at the extended reals, so the one run of it gives both frames.
-/
module

public import proofs.«01_k».proof.Defs
public import proofs.«01_k».proof.Proof.Products
public import proofs.«01_k».proof.Proof.DXnSame
public import proofs.«01_k».proof.Proof.Gen.DXn
public import proofs.«01_k».proof.Proof.Gen.DXnIdeal
public import proofs.«01_k».proof.Proof.Gen.DXnRefIdeal.Run
public import proofs.«01_k».proof.Proof.Gen.DXnRefIdeal.Read
public import Idealize.ShloMosaic.Adequacy

@[expose] public section

set_option maxRecDepth 16384

noncomputable section

namespace Cert.DXn.Prod

open Idealize.ShloMosaic Idealize.ShloMosaic.TcCoe Idealize.SL.Sem Cert.DXn Cert.DXn.Gen Cert.DXn.Swap Cert.Products
open scoped BigOperators

/-! ## The points -/

theorem at0 : ∀ t : Fin grid0.N, win0_0.index t = ![t.val / 19, min (t.val % 19) 5] := by decide +kernel
theorem at1 : ∀ t : Fin grid0.N, win0_1.index t = ![min (t.val % 19) 5, 0] := by decide +kernel
theorem at2 : ∀ t : Fin grid0.N, win0_2.index t = ![t.val / 19, 0] := by decide +kernel
theorem at3 : ∀ t : Fin grid0.N, win0_3.index t = ![0, 0] := by decide +kernel
theorem at4 : ∀ t : Fin grid0.N, win0_4.index t = ![t.val / 19, min (t.val % 19 - 7) 1] := by decide +kernel
theorem at5 : ∀ t : Fin grid0.N, win0_5.index t = ![min (t.val % 19 - 7) 1, 0] := by decide +kernel
theorem at6 : ∀ t : Fin grid0.N, win0_6.index t = ![t.val / 19, min (t.val % 19 - 9) 1] := by decide +kernel
theorem at7 : ∀ t : Fin grid0.N, win0_7.index t = ![min (t.val % 19 - 9) 1, 0] := by decide +kernel
theorem at8 : ∀ t : Fin grid0.N, win0_8.index t = ![t.val / 19, min (t.val % 19 - 11) 1] := by decide +kernel
theorem at9 : ∀ t : Fin grid0.N, win0_9.index t = ![min (t.val % 19 - 11) 1, 0] := by decide +kernel
theorem at10 : ∀ t : Fin grid0.N, win0_10.index t = ![t.val / 19, min (t.val % 19 - 13) 1] := by decide +kernel
theorem at11 : ∀ t : Fin grid0.N, win0_11.index t = ![min (t.val % 19 - 13) 1, 0] := by decide +kernel
theorem at12 : ∀ t : Fin grid0.N, win0_12.index t = ![t.val / 19, min (t.val % 19 - 15) 3] := by decide +kernel
theorem at13 : ∀ t : Fin grid0.N, win0_13.index t = ![min (t.val % 19 - 15) 3, 0] := by decide +kernel
theorem at14 : ∀ t : Fin grid0.N, win0_14.index t = ![t.val / 19, 0] := by decide +kernel
theorem in0 : ∀ t : Fin grid0.N, within (step (grid0.coords t)) 0#32 6#32 ↔ 0 ≤ t.val % 19 ∧ t.val % 19 < 6 := by decide +kernel
theorem in1 : ∀ t : Fin grid0.N, within (step (grid0.coords t)) 6#32 7#32 ↔ 6 ≤ t.val % 19 ∧ t.val % 19 < 7 := by decide +kernel
theorem in2 : ∀ t : Fin grid0.N, within (step (grid0.coords t)) 7#32 9#32 ↔ 7 ≤ t.val % 19 ∧ t.val % 19 < 9 := by decide +kernel
theorem in3 : ∀ t : Fin grid0.N, within (step (grid0.coords t)) 9#32 11#32 ↔ 9 ≤ t.val % 19 ∧ t.val % 19 < 11 := by decide +kernel
theorem in4 : ∀ t : Fin grid0.N, within (step (grid0.coords t)) 11#32 13#32 ↔ 11 ≤ t.val % 19 ∧ t.val % 19 < 13 := by decide +kernel
theorem in5 : ∀ t : Fin grid0.N, within (step (grid0.coords t)) 13#32 15#32 ↔ 13 ≤ t.val % 19 ∧ t.val % 19 < 15 := by decide +kernel
theorem in6 : ∀ t : Fin grid0.N, within (step (grid0.coords t)) 15#32 19#32 ↔ 15 ≤ t.val % 19 ∧ t.val % 19 < 19 := by decide +kernel

theorem lt_points (t : Fin cfg0.N) : t.val < 152 := t.isLt

/-- The array's row of a point's row. -/
def row (t : Fin cfg0.N) (r : Fin 1024) : Fin 8192 := ⟨t.val / 19 * 1024 + r, by have := lt_points t; omega⟩

/-! ## The sum -/

abbrev Mat (R K : ℕ) : Type := Vec Ideal ⟨2, ![R, K]⟩ .bf16

/-- The seven products' factors, the left ones with `R` rows. -/
structure Factors (R : ℕ) where
  (a0 : Mat R 3072) (a1 : Mat R 128) (a2 a3 a4 a5 : Mat R 1024) (a6 : Mat R 2048)
  (b0 : Mat 3072 1024) (b1 : Mat 128 1024) (b2 b3 b4 b5 : Mat 1024 1024) (b6 : Mat 2048 1024)

/-- A product's part over its depth's block `d` of `L`. -/
def piece {R K : ℕ} (L : ℕ) (a : Mat R K) (b : Mat K 1024) (i : Fin R) (s : Fin 1024) (d : ℕ) : EReal :=
  ∑ k : Fin L, if h : d * L + k < K then a (ix2 i ⟨d * L + k, h⟩) * b (ix2 ⟨d * L + k, h⟩ s) else 0

/-- A product's entry. -/
def dot {R K : ℕ} (a : Mat R K) (b : Mat K 1024) (i : Fin R) (s : Fin 1024) : EReal :=
  ∑ k : Fin K, a (ix2 i k) * b (ix2 k s)

theorem pieces {R K : ℕ} (L P : ℕ) (hK : P * L = K) (a : Mat R K) (b : Mat K 1024) (i : Fin R) (s : Fin 1024) :
    ∑ d ∈ Finset.range P, piece L a b i s d = dot a b i s := by
  rw [Finset.sum_range]
  refine Eq.trans ?_ (blockSum hK fun k => a (ix2 i k) * b (ix2 k s))
  refine Finset.sum_congr rfl fun j _ => Finset.sum_congr rfl fun k _ => dif_pos ?_
  have h1 := j.isLt
  have h2 := k.isLt
  calc j.val * L + k.val < j.val * L + L := by omega
    _ = (j.val + 1) * L := by ring
    _ ≤ P * L := Nat.mul_le_mul_right _ h1
    _ = K := hK

/-- The steps of a row block, product by product. -/
theorem cut (p0 p1 p2 p3 p4 p5 p6 : ℕ → EReal) :
    ∑ i ∈ Finset.range 19, (if i < 6 then p0 i else if i < 7 then p1 (i - 6) else if i < 9 then p2 (i - 7) else if i < 11 then p3 (i - 9)
        else if i < 13 then p4 (i - 11) else if i < 15 then p5 (i - 13) else p6 (i - 15))
      = (∑ i ∈ Finset.range 4, p6 i) + (∑ i ∈ Finset.range 2, p5 i) + (∑ i ∈ Finset.range 2, p4 i) + (∑ i ∈ Finset.range 2, p3 i)
        + (∑ i ∈ Finset.range 2, p2 i) + (∑ i ∈ Finset.range 1, p1 i) + ∑ i ∈ Finset.range 6, p0 i := by
  simp [Finset.sum_range_succ]
  abel

section
variable {R : ℕ} (P : Factors R)

/-- What step `k` of a row block adds. -/
def part (i : Fin R) (s : Fin 1024) (k : ℕ) : EReal :=
  if k < 6 then piece 512 P.a0 P.b0 i s k else if k < 7 then piece 128 P.a1 P.b1 i s (k - 6) else if k < 9 then piece 512 P.a2 P.b2 i s (k - 7)
    else if k < 11 then piece 512 P.a3 P.b3 i s (k - 9) else if k < 13 then piece 512 P.a4 P.b4 i s (k - 11)
    else if k < 15 then piece 512 P.a5 P.b5 i s (k - 13) else piece 512 P.a6 P.b6 i s (k - 15)

/-- The seven products' sum. -/
def total : Vec Ideal ⟨2, ![R, 1024]⟩ .f32 := fun i =>
  dot P.a6 P.b6 (i 0) (i 1) + dot P.a5 P.b5 (i 0) (i 1) + dot P.a4 P.b4 (i 0) (i 1) + dot P.a3 P.b3 (i 0) (i 1) + dot P.a2 P.b2 (i 0) (i 1)
    + dot P.a1 P.b1 (i 0) (i 1) + dot P.a0 P.b0 (i 0) (i 1)

theorem parts (i : Fin R) (s : Fin 1024) : ∑ k ∈ Finset.range 19, part P i s k = total P (ix2 i s) := by
  unfold part
  rw [cut, pieces 512 6 rfl, pieces 128 1 rfl, pieces 512 2 rfl, pieces 512 2 rfl, pieces 512 2 rfl, pieces 512 2 rfl, pieces 512 4 rfl]
  rfl
end

section
variable (x : Vec Ideal S1024x1024 .f32) (a : Vec Ideal S1024x512 .bf16) (b : Vec Ideal S512x1024 .bf16) (r s : Fin 1024)

theorem pay3_apply :
    k0_pay3 x a b (ix2 r s) = x (ix2 r s) + dot (R := 1024) (K := 512) a b r s := by
  unfold k0_pay3 dot
  pointwise
theorem pay4_apply (a : Vec Ideal S1024x128 .bf16) (b : Vec Ideal S128x1024 .bf16) :
    k0_pay4 x a b (ix2 r s) = x (ix2 r s) + dot (R := 1024) (K := 128) a b r s := by
  unfold k0_pay4 dot
  pointwise
theorem pay5_apply :
    k0_pay5 x a b (ix2 r s) = x (ix2 r s) + dot (R := 1024) (K := 512) a b r s := by
  unfold k0_pay5 dot
  pointwise
theorem pay6_apply :
    k0_pay6 x a b (ix2 r s) = x (ix2 r s) + dot (R := 1024) (K := 512) a b r s := by
  unfold k0_pay6 dot
  pointwise
theorem pay7_apply :
    k0_pay7 x a b (ix2 r s) = x (ix2 r s) + dot (R := 1024) (K := 512) a b r s := by
  unfold k0_pay7 dot
  pointwise
theorem pay8_apply :
    k0_pay8 x a b (ix2 r s) = x (ix2 r s) + dot (R := 1024) (K := 512) a b r s := by
  unfold k0_pay8 dot
  pointwise
theorem pay1_apply :
    k0_pay1 x a b (ix2 r s) = x (ix2 r s) + dot (R := 1024) (K := 512) a b r s := by
  unfold k0_pay1 dot
  pointwise
theorem pay2_apply : k0_pay2 (F := Ideal) (ix2 r s) = 0 := by
  unfold k0_pay2
  pointwise
end

/-- One step over any blocks. -/
theorem stepAcc_apply (t : Fin cfg0.N) (x : Vec Ideal S1024x1024 .f32) (a0 a2 a3 a4 a5 a6 : Vec Ideal S1024x512 .bf16)
    (b0 b2 b3 b4 b5 b6 : Vec Ideal S512x1024 .bf16) (a1 : Vec Ideal S1024x128 .bf16) (b1 : Vec Ideal S128x1024 .bf16) (r s : Fin 1024) :
    stepAcc (grid0.coords t) x a0 b0 a1 b1 a2 b2 a3 b3 a4 b4 a5 b5 a6 b6 (ix2 r s) = (if t.val % 19 = 0 then 0 else x (ix2 r s))
      + (if t.val % 19 < 6 then dot (R := 1024) (K := 512) a0 b0 r s else if t.val % 19 < 7 then dot (R := 1024) (K := 128) a1 b1 r s
        else if t.val % 19 < 9 then dot (R := 1024) (K := 512) a2 b2 r s else if t.val % 19 < 11 then dot (R := 1024) (K := 512) a3 b3 r s
        else if t.val % 19 < 13 then dot (R := 1024) (K := 512) a4 b4 r s else if t.val % 19 < 15 then dot (R := 1024) (K := 512) a5 b5 r s
        else dot (R := 1024) (K := 512) a6 b6 r s) := by
  have base : (if isFirst (flag (grid0.coords t)) then k0_pay2 (F := Ideal) else x) (ix2 r s) = if t.val % 19 = 0 then 0 else x (ix2 r s) := by
    by_cases h : t.val % 19 = 0
    · rw [if_pos ((first_iff t).mpr h), if_pos h, pay2_apply]
    · rw [if_neg (fun h' => h ((first_iff t).mp h')), if_neg h]
  rw [← base]
  unfold stepAcc
  generalize (if isFirst (flag (grid0.coords t)) then k0_pay2 (F := Ideal) else x) = z
  simp only [in0, in1, in2, in3, in4, in5, in6]
  have hl : t.val % 19 < 19 := Nat.mod_lt _ (by decide)
  generalize t.val % 19 = k at hl ⊢
  interval_cases k <;> simp [pay1_apply, pay3_apply, pay4_apply, pay5_apply, pay6_apply, pay7_apply, pay8_apply]

/-- A product over two blocks, once the blocks are the arrays' parts. -/
theorem dot_piece {K L : ℕ} {x : Mat 1024 L} {y : Mat L 1024} {A : Mat 8192 K} {B : Mat K 1024} {i : Fin 8192} {r s : Fin 1024} {d : ℕ}
    (hk : ∀ k : Fin L, d * L + k.val < K) (ea : ∀ k : Fin L, x (ix2 r k) = A (ix2 i ⟨d * L + k.val, hk k⟩))
    (eb : ∀ k : Fin L, y (ix2 k s) = B (ix2 ⟨d * L + k.val, hk k⟩ s)) : dot x y r s = piece L A B i s d :=
  Finset.sum_congr rfl fun k _ => by rw [dif_pos (hk k), ea, eb]

section
variable (m : (ℓ : Loc nD τ sig) → Buf (Elt Ideal) ℓ) (c : Dev nD)

/-- The factors core `c` holds. -/
def mine : Factors 8192 where
  a0 := V m c main_arg0
  b0 := V m c main_arg7
  a1 := V m c main_arg1
  b1 := V m c main_arg8
  a2 := V m c main_arg2
  b2 := V m c main_arg9
  a3 := V m c main_arg3
  b3 := V m c main_arg10
  a4 := V m c main_arg4
  b4 := V m c main_arg11
  a5 := V m c main_arg5
  b5 := V m c main_arg12
  a6 := V m c main_arg6
  b6 := V m c main_arg13

variable (t : Fin cfg0.N) (r s : Fin 1024)

theorem piece0 (h : 0 ≤ t.val % 19 ∧ t.val % 19 < 6) :
    dot (R := 1024) (K := 512) (iblk m c 0 t) (iblk m c 1 t) r s = piece 512 (mine m c).a0 (mine m c).b0 (row t r) s (t.val % 19) :=
  dot_piece (fun k => by have := k.isLt; omega) (fun k => by blk_simp [iblk, mine]; congr 1; blk_ext [at0, row])
    fun k => by blk_simp [iblk, mine]; congr 1; blk_ext [at1]
theorem piece1 (h : 6 ≤ t.val % 19 ∧ t.val % 19 < 7) :
    dot (R := 1024) (K := 128) (iblk m c 2 t) (iblk m c 3 t) r s = piece 128 (mine m c).a1 (mine m c).b1 (row t r) s (t.val % 19 - 6) :=
  dot_piece (fun k => by have := k.isLt; omega) (fun k => by blk_simp [iblk, mine]; congr 1; blk_ext [at2, row])
    fun k => by blk_simp [iblk, mine]; congr 1; blk_ext [at3]
theorem piece2 (h : 7 ≤ t.val % 19 ∧ t.val % 19 < 9) :
    dot (R := 1024) (K := 512) (iblk m c 4 t) (iblk m c 5 t) r s = piece 512 (mine m c).a2 (mine m c).b2 (row t r) s (t.val % 19 - 7) :=
  dot_piece (fun k => by have := k.isLt; omega) (fun k => by blk_simp [iblk, mine]; congr 1; blk_ext [at4, row])
    fun k => by blk_simp [iblk, mine]; congr 1; blk_ext [at5]
theorem piece3 (h : 9 ≤ t.val % 19 ∧ t.val % 19 < 11) :
    dot (R := 1024) (K := 512) (iblk m c 6 t) (iblk m c 7 t) r s = piece 512 (mine m c).a3 (mine m c).b3 (row t r) s (t.val % 19 - 9) :=
  dot_piece (fun k => by have := k.isLt; omega) (fun k => by blk_simp [iblk, mine]; congr 1; blk_ext [at6, row])
    fun k => by blk_simp [iblk, mine]; congr 1; blk_ext [at7]
theorem piece4 (h : 11 ≤ t.val % 19 ∧ t.val % 19 < 13) :
    dot (R := 1024) (K := 512) (iblk m c 8 t) (iblk m c 9 t) r s = piece 512 (mine m c).a4 (mine m c).b4 (row t r) s (t.val % 19 - 11) :=
  dot_piece (fun k => by have := k.isLt; omega) (fun k => by blk_simp [iblk, mine]; congr 1; blk_ext [at8, row])
    fun k => by blk_simp [iblk, mine]; congr 1; blk_ext [at9]
theorem piece5 (h : 13 ≤ t.val % 19 ∧ t.val % 19 < 15) :
    dot (R := 1024) (K := 512) (iblk m c 10 t) (iblk m c 11 t) r s = piece 512 (mine m c).a5 (mine m c).b5 (row t r) s (t.val % 19 - 13) :=
  dot_piece (fun k => by have := k.isLt; omega) (fun k => by blk_simp [iblk, mine]; congr 1; blk_ext [at10, row])
    fun k => by blk_simp [iblk, mine]; congr 1; blk_ext [at11]
theorem piece6 (h : 15 ≤ t.val % 19 ∧ t.val % 19 < 19) :
    dot (R := 1024) (K := 512) (iblk m c 12 t) (iblk m c 13 t) r s = piece 512 (mine m c).a6 (mine m c).b6 (row t r) s (t.val % 19 - 15) :=
  dot_piece (fun k => by have := k.isLt; omega) (fun k => by blk_simp [iblk, mine]; congr 1; blk_ext [at12, row])
    fun k => by blk_simp [iblk, mine]; congr 1; blk_ext [at13]

/-- One step: the sum before it, which the first step of a row block begins anew, and the step's part. -/
theorem step_apply :
    accAt m c (t.val + 1) (ix2 r s) = (if t.val % 19 = 0 then 0 else accAt m c t.val (ix2 r s)) + part (mine m c) (row t r) s (t.val % 19) := by
  rw [accAt_succ]
  refine (stepAcc_apply t _ _ _ _ _ _ _ _ _ _ _ _ _ _ _ r s).trans (congrArg ((if t.val % 19 = 0 then 0 else accAt m c t.val (ix2 r s)) + ·) ?_)
  unfold part
  have hl : t.val % 19 < 19 := Nat.mod_lt _ (by decide)
  by_cases h0 : t.val % 19 < 6
  · rw [if_pos h0, if_pos h0]; exact piece0 m c t r s ⟨by omega, by omega⟩
  rw [if_neg h0, if_neg h0]
  by_cases h1 : t.val % 19 < 7
  · rw [if_pos h1, if_pos h1]; exact piece1 m c t r s ⟨by omega, by omega⟩
  rw [if_neg h1, if_neg h1]
  by_cases h2 : t.val % 19 < 9
  · rw [if_pos h2, if_pos h2]; exact piece2 m c t r s ⟨by omega, by omega⟩
  rw [if_neg h2, if_neg h2]
  by_cases h3 : t.val % 19 < 11
  · rw [if_pos h3, if_pos h3]; exact piece3 m c t r s ⟨by omega, by omega⟩
  rw [if_neg h3, if_neg h3]
  by_cases h4 : t.val % 19 < 13
  · rw [if_pos h4, if_pos h4]; exact piece4 m c t r s ⟨by omega, by omega⟩
  rw [if_neg h4, if_neg h4]
  by_cases h5 : t.val % 19 < 15
  · rw [if_pos h5, if_pos h5]; exact piece5 m c t r s ⟨by omega, by omega⟩
  rw [if_neg h5, if_neg h5]
  exact piece6 m c t r s ⟨by omega, by omega⟩

/-- The steps of row block `q` up to the `j`th. -/
theorem upto (q : ℕ) (hq : q < 8) (r s : Fin 1024) : ∀ j, j < 19 → accAt m c (19 * q + j + 1) (ix2 r s)
    = ∑ i ∈ Finset.range (j + 1), part (mine m c) ⟨q * 1024 + r, by have := r.isLt; omega⟩ s i := by
  intro j
  induction j with
  | zero =>
    intro _
    refine (step_apply m c ⟨19 * q, by show _ < 152; omega⟩ r s).trans ?_
    have e : (19 * q) % 19 = 0 := by omega
    have er : row ⟨19 * q, by show _ < 152; omega⟩ r = ⟨q * 1024 + r, by have := r.isLt; omega⟩ := Fin.ext (by show 19 * q / 19 * 1024 + r.val = q * 1024 + r.val; omega)
    simp only [e, er, if_true, Finset.sum_range_one, zero_add]
  | succ j ih =>
    intro hj
    refine (step_apply m c ⟨19 * q + (j + 1), by show _ < 152; omega⟩ r s).trans ?_
    have e : (19 * q + (j + 1)) % 19 = j + 1 := by omega
    have er : row ⟨19 * q + (j + 1), by show _ < 152; omega⟩ r = ⟨q * 1024 + r, by have := r.isLt; omega⟩ := Fin.ext (by show (19 * q + (j + 1)) / 19 * 1024 + r.val = q * 1024 + r.val; omega)
    simp only [e, er]
    rw [if_neg (by omega), Finset.sum_range_succ _ (j + 1), ← ih (by omega)]
    rfl

theorem final : (dat m c).arrAt 14 cfg0.N = total (mine m c) := by
  refine (dat m c).arrAt_eq_of_covers 14 _ (by decide +kernel) fun t hf y => ?_
  blk_simp
  rw [after_14]
  obtain ⟨r, s, rfl⟩ := eq_ix2 (a := 1024) (b := 1024) y
  have h18 := (flush0_14 t).mp hf
  have ht := lt_points t
  have e : t.val = 19 * (t.val / 19) + 18 := by omega
  have hu := (upto m c (t.val / 19) (by omega) r s 18 (by omega)).trans (parts ..)
  rw [← e] at hu
  refine hu.trans ?_
  have ee : (win0_14.blk t).view.emb (ix2 r s) = ix2 (row t r) s := by
    blk_ext [at14, row]
  rw [ee]
  rfl
end

/-! ## The exchange -/

section
variable {F : FTy → Type} [FloatOps F]

/-- Where piece `k` starts in the sender's array. -/
theorem src_at : ∀ (c : Dev nD) (k : Fin 3) (a : Fin 3), (k0_off1 c (k0_off1_at k).1 (k0_off1_at k).2) a = (![(peer c k).val / 2, 0, 0] : Fin 3 → ℕ) a := by
  decide +kernel

theorem squeezed (x : Vec F S1x1280x1024 .bf16) (h : S1x1280x1024.ShapeCasts S1280x1024) (a : Fin 1280) (b : Fin 1024) :
    shapeCast S1280x1024 x h (ix2 a b) = x (ix3 0 a b) :=
  shapeCast_apply x h _ _ (by rw [Shape.rowMajor_val_two, Shape.rowMajor_val_three]; simp [Shape.size])

theorem dst_read (f : (main_v1_1 : Ref sig .tc).ty.Contents (Elt F)) (k : Fin 3) (a : Fin 1280) (b : Fin 1024) :
    (dstM k).view.read (Elt F) f (ix2 a b) = (f : Vec F S3x1280x1024 .bf16) (ix3 k a b) := by
  refine (congrFun (Memref.read_squeeze_slice (Val := Elt F) (Memref.whole main_v1_1) (Rect.unit (s := S3x1280x1024) ![k.val, 0, 0] S1x1280x1024.size (dst_inb k))
    (fun _ => rfl) DXn.Gen.squeezes_S1x1280x1024_S1280x1024 (show S1x1280x1024.ShapeCasts S1280x1024 by decide) f) (ix2 a b)).trans ((squeezed _ _ a b).trans ?_)
  refine congrArg f (funext fun i => Fin.ext ((Rect.idx_unit_val _ _ _ _ i).trans ?_))
  fin_cases i
  · show k.val + 0 = k.val; rfl
  · show 0 + a.val = a.val; omega
  · show 0 + b.val = b.val; omega

/-- The row of the sender's array that piece `k` comes from. -/
def sent (c : Dev nD) (k : Fin 3) : Fin 4 := ⟨(peer c k).val / 2, by have h : (peer c k).val < 8 := (peer c k).isLt; omega⟩

theorem src_read (c : Dev nD) (f : (main_arg14 : Ref sig .tc).ty.Contents (Elt F)) (k : Fin 3) (a : Fin 1280) (b : Fin 1024) :
    (srcM c k).view.read (Elt F) f (ix2 a b) = (f : Vec F S4x1280x1024 .bf16) (ix3 (sent c k) a b) := by
  refine (congrFun (Memref.read_squeeze_slice (Val := Elt F) (Memref.whole main_arg14) (Rect.unit (s := S4x1280x1024) (k0_off1 c (k0_off1_at k).1 (k0_off1_at k).2) S1x1280x1024.size
    (DXn.Gen.facts₀.k0_off1_inb i₀ c first_cond k)) (fun _ => rfl) DXn.Gen.squeezes_S1x1280x1024_S1280x1024 (show S1x1280x1024.ShapeCasts S1280x1024 by decide) f) (ix2 a b)).trans ((squeezed _ _ a b).trans ?_)
  refine congrArg f (funext fun i => Fin.ext ((Rect.idx_unit_val _ _ _ _ i).trans ((congrArg (· + _) (src_at c k i)).trans ?_)))
  fin_cases i
  · show (peer c k).val / 2 + 0 = _; rfl
  · show 0 + a.val = a.val; omega
  · show 0 + b.val = b.val; omega

variable (m : (ℓ : Loc nD τ sig) → Buf (Elt F) ℓ)

/-- Core `c`'s second result: slot `k` is the sent row of its `k`th peer's array. -/
theorem result_apply (c : Dev nD) (s : MemSt nD τ sig (Elt F)) (h : shows m c s) (k : Fin 3) (a : Fin 1280) (b : Fin 1024) :
    (s.mem ((c : Thread nD τ).loc main_v1_1) : Vec F S3x1280x1024 .bf16) (ix3 k a b)
      = (m ((peer c k : Thread nD τ).loc main_arg14) : Vec F S4x1280x1024 .bf16) (ix3 (sent (peer c k) k) a b) := by
  rw [← src_read (peer c k) (m ((peer c k : Thread nD τ).loc main_arg14)) k a b, ← dst_read (F := F) (s.mem ((c : Thread nD τ).loc main_v1_1)) k a b,
    ← View.read_write_univ (v := (dstM k).view) (Val := Elt F) (m ((c : Thread nD τ).loc main_v1_1)) ((srcM (peer c k) k).view.read (Elt F) (m ((peer c k : Thread nD τ).loc main_arg14)))]
  exact h.2.2 k _ (Finset.mem_map_of_mem _ (Finset.mem_univ (ix2 a b : S1280x1024.Idx)))

/-- The arguments end as they began. -/
theorem kept (c : Dev nD) (s : MemSt nD τ sig (Elt F)) (h : shows m c s) :
    s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)
    ∧ s.mem ((c : Thread nD τ).loc main_arg8) = m ((c : Thread nD τ).loc main_arg8)
    ∧ s.mem ((c : Thread nD τ).loc main_arg9) = m ((c : Thread nD τ).loc main_arg9)
    ∧ s.mem ((c : Thread nD τ).loc main_arg10) = m ((c : Thread nD τ).loc main_arg10)
    ∧ s.mem ((c : Thread nD τ).loc main_arg11) = m ((c : Thread nD τ).loc main_arg11)
    ∧ s.mem ((c : Thread nD τ).loc main_arg12) = m ((c : Thread nD τ).loc main_arg12)
    ∧ s.mem ((c : Thread nD τ).loc main_arg13) = m ((c : Thread nD τ).loc main_arg13)
    ∧ s.mem ((c : Thread nD τ).loc main_arg14) = m ((c : Thread nD τ).loc main_arg14) := by
  have inp (w : Fin cfg0.W) (hw : (cfg0.win w).isOut = false) : s.mem ((c : Thread nD τ).loc (Pipeline.arrRef spec0 w)) = V m c (Pipeline.arrRef spec0 w) :=
    (h.1 w).trans (((dat m c).arrAt_in w hw _).trans (A_eq m c w))
  exact ⟨(inp 0 rfl).trans (V_main_arg0 m c),
    (inp 2 rfl).trans (V_main_arg1 m c),
    (inp 4 rfl).trans (V_main_arg2 m c),
    (inp 6 rfl).trans (V_main_arg3 m c),
    (inp 8 rfl).trans (V_main_arg4 m c),
    (inp 10 rfl).trans (V_main_arg5 m c),
    (inp 12 rfl).trans (V_main_arg6 m c),
    (inp 1 rfl).trans (V_main_arg7 m c),
    (inp 3 rfl).trans (V_main_arg8 m c),
    (inp 5 rfl).trans (V_main_arg9 m c),
    (inp 7 rfl).trans (V_main_arg10 m c),
    (inp 9 rfl).trans (V_main_arg11 m c),
    (inp 11 rfl).trans (V_main_arg12 m c),
    (inp 13 rfl).trans (V_main_arg13 m c), h.2.1⟩
end

theorem frame : quiescent_DXn (hDXn := DXn.Gen.facts) := fun m g _ =>
  (θ_run (DXn.defs (F := Bits)) _ _).mono (fun r h => ⟨fun c => kept m c r.2 (h.1 c), h.2⟩) (runs (F := Bits) m g)

theorem frame_ideal : quiescent_DXnIdeal (hDXnIdeal := DXnIdeal.Gen.facts) := fun m g _ =>
  (θ_run (DXnIdeal.defs (F := Ideal)) _ _).mono (fun r h => ⟨fun c => kept m c r.2 (h.1 c), h.2⟩) (runs_ideal m g)

theorem frame_reference : quiescent_DXnRefIdeal (hDXnRefIdeal := DXnRefIdeal.Gen.facts) := fun m g _ =>
  (θ_run (DXnRefIdeal.defs (F := Ideal)) _ _).mono
    (fun r h => ⟨fun c => (h c).2.2, sem_eq_zero_of_no_sems (by decide) r.2⟩)
    (DXnRefIdeal.Value.run (F := Ideal) m g)

/-! ## The references -/

theorem r6 (a : Mat 65536 2048) (b : Mat 2048 1024) (r : Fin 65536) (s : Fin 1024) :
    DXnRefIdeal.Read.val_main_v29 (F := Ideal) a b (ix2 r s) = dot a b r s := by
  unfold DXnRefIdeal.Read.val_main_v29 DXnRefIdeal.Read.val_main_v6 DXnRefIdeal.Read.val_main_v27 DXnRefIdeal.Read.val_main_v13
  pointwise [dot]
theorem r5 (a : Mat 65536 1024) (b : Mat 1024 1024) (r : Fin 65536) (s : Fin 1024) :
    DXnRefIdeal.Read.val_main_v30 (F := Ideal) a b (ix2 r s) = dot a b r s := by
  unfold DXnRefIdeal.Read.val_main_v30 DXnRefIdeal.Read.val_main_v5 DXnRefIdeal.Read.val_main_v25 DXnRefIdeal.Read.val_main_v12
  pointwise [dot]
theorem r4 (a : Mat 65536 1024) (b : Mat 1024 1024) (r : Fin 65536) (s : Fin 1024) :
    DXnRefIdeal.Read.val_main_v32 (F := Ideal) a b (ix2 r s) = dot a b r s := by
  unfold DXnRefIdeal.Read.val_main_v32 DXnRefIdeal.Read.val_main_v4 DXnRefIdeal.Read.val_main_v23 DXnRefIdeal.Read.val_main_v11
  pointwise [dot]
theorem r3 (a : Mat 65536 1024) (b : Mat 1024 1024) (r : Fin 65536) (s : Fin 1024) :
    DXnRefIdeal.Read.val_main_v34 (F := Ideal) a b (ix2 r s) = dot a b r s := by
  unfold DXnRefIdeal.Read.val_main_v34 DXnRefIdeal.Read.val_main_v3 DXnRefIdeal.Read.val_main_v21 DXnRefIdeal.Read.val_main_v10
  pointwise [dot]
theorem r2 (a : Mat 65536 1024) (b : Mat 1024 1024) (r : Fin 65536) (s : Fin 1024) :
    DXnRefIdeal.Read.val_main_v36 (F := Ideal) a b (ix2 r s) = dot a b r s := by
  unfold DXnRefIdeal.Read.val_main_v36 DXnRefIdeal.Read.val_main_v2 DXnRefIdeal.Read.val_main_v19 DXnRefIdeal.Read.val_main_v9
  pointwise [dot]
theorem r1 (a : Mat 65536 128) (b : Mat 128 1024) (r : Fin 65536) (s : Fin 1024) :
    DXnRefIdeal.Read.val_main_v38 (F := Ideal) a b (ix2 r s) = dot a b r s := by
  unfold DXnRefIdeal.Read.val_main_v38 DXnRefIdeal.Read.val_main_v1 DXnRefIdeal.Read.val_main_v17 DXnRefIdeal.Read.val_main_v8
  pointwise [dot]
theorem r0 (a : Mat 65536 3072) (b : Mat 3072 1024) (r : Fin 65536) (s : Fin 1024) :
    DXnRefIdeal.Read.val_main_v40 (F := Ideal) a b (ix2 r s) = dot a b r s := by
  unfold DXnRefIdeal.Read.val_main_v40 DXnRefIdeal.Read.val_main_v0 DXnRefIdeal.Read.val_main_v15 DXnRefIdeal.Read.val_main_v7
  pointwise [dot]

theorem reference (P : Factors 65536) :
    DXnRefIdeal.Read.val_main_v41 (F := Ideal) P.a0 P.a1 P.a2 P.a3 P.a4 P.a5 P.a6 P.b0 P.b1 P.b2 P.b3 P.b4 P.b5 P.b6 = total P := by
  funext y
  obtain ⟨r, s, rfl⟩ := eq_ix2 (a := 65536) (b := 1024) y
  rw [DXnRefIdeal.Read.val_main_v41_apply, DXnRefIdeal.Read.val_main_v39_apply, DXnRefIdeal.Read.val_main_v37_apply, DXnRefIdeal.Read.val_main_v35_apply,
    DXnRefIdeal.Read.val_main_v33_apply, DXnRefIdeal.Read.val_main_v31_apply, r0, r1, r2, r3, r4, r5, r6]
  rfl

/-- The row of the whole array a received row is. -/
def source (i : Fin 24) : Fin 32 := ⟨((i.val / 6) ^^^ (i.val % 3 + 1)) % 4 * 8 + i.val / 3 % 2 * 4 + i.val / 6, by have := i.isLt; omega⟩

theorem source_cases : ∀ r : Fin 24, (source r).val =
    (if r.val / 6 < 1 then (if r.val % 3 < 1 then 8 + r.val / 3 % 2 * 4 else if r.val % 3 - 1 < 1 then 16 + r.val / 3 % 2 * 4 else 24 + r.val / 3 % 2 * 4)
    else if r.val / 6 - 1 < 1 then (if r.val % 3 < 1 then r.val / 3 % 2 * 4 + 1 else if r.val % 3 - 1 < 1 then 24 + r.val / 3 % 2 * 4 + 1 else 16 + r.val / 3 % 2 * 4 + 1)
    else if r.val / 6 - 1 - 1 < 1 then (if r.val % 3 < 1 then 24 + r.val / 3 % 2 * 4 + 2 else if r.val % 3 - 1 < 1 then r.val / 3 % 2 * 4 + 2 else 8 + r.val / 3 % 2 * 4 + 2)
    else (if r.val % 3 < 1 then 16 + r.val / 3 % 2 * 4 + 3 else if r.val % 3 - 1 < 1 then 8 + r.val / 3 % 2 * 4 + 3 else r.val / 3 % 2 * 4 + 3)) := by
  decide +kernel

/-- The exchanged array, whole. -/
def swapped (x : Vec Ideal ⟨3, ![32, 1280, 1024]⟩ .bf16) : Vec Ideal ⟨3, ![24, 1280, 1024]⟩ .bf16 :=
  fun i => x (ix3 (n0 := 32) (source (i 0)) (i 1) (i 2))

theorem reference_swap (x : Vec Ideal ⟨3, ![32, 1280, 1024]⟩ .bf16) : DXnRefIdeal.Read.val_main_v88 (F := Ideal) x = swapped x := by
  funext y
  obtain ⟨r, a, b, rfl⟩ : ∃ (r : Fin 24) (a : Fin 1280) (b : Fin 1024), y = ix3 r a b := ⟨y 0, y 1, y 2, eq_ix3 (n0 := 24) (n1 := 1280) (n2 := 1024) y⟩
  unfold swapped
  unfold DXnRefIdeal.Read.val_main_v88 DXnRefIdeal.Read.val_main_v87 DXnRefIdeal.Read.val_main_v86 DXnRefIdeal.Read.val_main_v85 DXnRefIdeal.Read.val_main_v84 DXnRefIdeal.Read.val_main_v83 DXnRefIdeal.Read.val_main_v82 DXnRefIdeal.Read.val_main_v81 DXnRefIdeal.Read.val_main_v80 DXnRefIdeal.Read.val_main_v79 DXnRefIdeal.Read.val_main_v78 DXnRefIdeal.Read.val_main_v77 DXnRefIdeal.Read.val_main_v76 DXnRefIdeal.Read.val_main_v75 DXnRefIdeal.Read.val_main_v74 DXnRefIdeal.Read.val_main_v73 DXnRefIdeal.Read.val_main_v72 DXnRefIdeal.Read.val_main_v71 DXnRefIdeal.Read.val_main_v70 DXnRefIdeal.Read.val_main_v69 DXnRefIdeal.Read.val_main_v68 DXnRefIdeal.Read.val_main_v67 DXnRefIdeal.Read.val_main_v66 DXnRefIdeal.Read.val_main_v65 DXnRefIdeal.Read.val_main_v64 DXnRefIdeal.Read.val_main_v63 DXnRefIdeal.Read.val_main_v62 DXnRefIdeal.Read.val_main_v61 DXnRefIdeal.Read.val_main_v60 DXnRefIdeal.Read.val_main_v59 DXnRefIdeal.Read.val_main_v58 DXnRefIdeal.Read.val_main_v57 DXnRefIdeal.Read.val_main_v56 DXnRefIdeal.Read.val_main_v55 DXnRefIdeal.Read.val_main_v54 DXnRefIdeal.Read.val_main_v53 DXnRefIdeal.Read.val_main_v52 DXnRefIdeal.Read.val_main_v51 DXnRefIdeal.Read.val_main_v50 DXnRefIdeal.Read.val_main_v49 DXnRefIdeal.Read.val_main_v48 DXnRefIdeal.Read.val_main_v47 DXnRefIdeal.Read.val_main_v46 DXnRefIdeal.Read.val_main_v45 DXnRefIdeal.Read.val_main_v44 DXnRefIdeal.Read.val_main_v43 DXnRefIdeal.Read.val_main_v42
  pointwise []
  repeat' split
  all_goals
    congr 2
    apply Fin.ext
    refine Eq.trans ?_ (source_cases r).symm
    simp only [*, if_true, if_false]

theorem rows_meet : ∀ (c : Fin 8) (k : Fin 3), (peer c k).val * 4 + (sent (peer c k) k).val = (source ⟨c.val * 3 + k.val, by omega⟩).val := by
  decide +kernel

theorem block_rows {K : ℕ} (h : Layout.Tiles ⟨2, ![8192, K]⟩ ⟨2, ![65536, K]⟩ 0 8) (c : Dev nD) (x : Mat 65536 K) (r : Fin 8192) (k : Fin K) :
    (Layout.block ⟨2, ![8192, K]⟩ ⟨2, ![65536, K]⟩ 0 8 c x (h := h) : Mat 8192 K) (ix2 r k)
      = x (ix2 ⟨c.val * 8192 + r.val, by have h : c.val < 8 := c.isLt; have := r.isLt; omega⟩ k) := by
  rw [Layout.block_apply]
  congr 1
  funext i
  apply Fin.ext
  fin_cases i <;> rfl

theorem dot_block {K : ℕ} (h : Layout.Tiles ⟨2, ![8192, K]⟩ ⟨2, ![65536, K]⟩ 0 8) (c : Dev nD) (x : Mat 65536 K)
    (b : Mat K 1024) (r : Fin 8192) (s : Fin 1024) :
    dot (Layout.block ⟨2, ![8192, K]⟩ ⟨2, ![65536, K]⟩ 0 8 c x (h := h) : Mat 8192 K) b r s
      = dot x b ⟨c.val * 8192 + r.val, by have h : c.val < 8 := c.isLt; have := r.isLt; omega⟩ s :=
  Finset.sum_congr rfl fun k _ => congrArg (· * b (ix2 k s)) (block_rows h c x r k)

/-- The factors core `c` holds of `P`. -/
def Factors.share (P : Factors 65536) (c : Dev nD) : Factors 8192 where
  a0 := Layout.block ⟨2, ![8192, 3072]⟩ ⟨2, ![65536, 3072]⟩ 0 8 c P.a0
  b0 := P.b0
  a1 := Layout.block ⟨2, ![8192, 128]⟩ ⟨2, ![65536, 128]⟩ 0 8 c P.a1
  b1 := P.b1
  a2 := Layout.block ⟨2, ![8192, 1024]⟩ ⟨2, ![65536, 1024]⟩ 0 8 c P.a2
  b2 := P.b2
  a3 := Layout.block ⟨2, ![8192, 1024]⟩ ⟨2, ![65536, 1024]⟩ 0 8 c P.a3
  b3 := P.b3
  a4 := Layout.block ⟨2, ![8192, 1024]⟩ ⟨2, ![65536, 1024]⟩ 0 8 c P.a4
  b4 := P.b4
  a5 := Layout.block ⟨2, ![8192, 1024]⟩ ⟨2, ![65536, 1024]⟩ 0 8 c P.a5
  b5 := P.b5
  a6 := Layout.block ⟨2, ![8192, 2048]⟩ ⟨2, ![65536, 2048]⟩ 0 8 c P.a6
  b6 := P.b6

theorem total_share (c : Dev nD) (P : Factors 65536) :
    total (P.share c) = Layout.block ⟨2, ![8192, 1024]⟩ ⟨2, ![65536, 1024]⟩ 0 8 c (total P) := by
  funext y
  obtain ⟨r, s, rfl⟩ := eq_ix2 (a := 8192) (b := 1024) y
  have e : (Layout.block ⟨2, ![8192, 1024]⟩ ⟨2, ![65536, 1024]⟩ 0 8 c (total P) : Vec Ideal ⟨2, ![8192, 1024]⟩ .f32) (ix2 r s)
      = total P (ix2 ⟨c.val * 8192 + r.val, by have h : c.val < 8 := c.isLt; have := r.isLt; omega⟩ s) := by
    rw [Layout.block_apply]
    congr 1
    funext i
    apply Fin.ext
    fin_cases i <;> rfl
  rw [e]
  exact congrArg₂ (· + ·) (congrArg₂ (· + ·) (congrArg₂ (· + ·) (congrArg₂ (· + ·) (congrArg₂ (· + ·) (congrArg₂ (· + ·)
    (dot_block _ c _ _ r s) (dot_block _ c _ _ r s)) (dot_block _ c _ _ r s)) (dot_block _ c _ _ r s)) (dot_block _ c _ _ r s))
    (dot_block _ c _ _ r s)) (dot_block _ c _ _ r s)

theorem result (m : (ℓ : Loc nD τ sig) → Buf (Elt Ideal) ℓ) (c : Dev nD) (s : MemSt nD τ sig (Elt Ideal)) (h : shows m c s) (P : Factors 65536)
    (e : mine m c = P.share c) :
    s.mem ((c : Thread nD τ).loc main_v1_0) = Layout.block ⟨2, ![8192, 1024]⟩ ⟨2, ![65536, 1024]⟩ 0 8 c (total P) :=
  (h.1 14).trans ((final m c).trans ((congrArg total e).trans (total_share c P)))

/-- The reference's factors. -/
def given (m' : (ℓ : Loc DXnRefIdeal.nD DXnRefIdeal.τ DXnRefIdeal.sig) → Buf (Elt Ideal) ℓ) : Factors 65536 where
  a0 := m' (((0 : Dev DXnRefIdeal.nD).tc : Thread DXnRefIdeal.nD DXnRefIdeal.τ).loc DXnRefIdeal.main_arg0)
  b0 := m' (((0 : Dev DXnRefIdeal.nD).tc : Thread DXnRefIdeal.nD DXnRefIdeal.τ).loc DXnRefIdeal.main_arg7)
  a1 := m' (((0 : Dev DXnRefIdeal.nD).tc : Thread DXnRefIdeal.nD DXnRefIdeal.τ).loc DXnRefIdeal.main_arg1)
  b1 := m' (((0 : Dev DXnRefIdeal.nD).tc : Thread DXnRefIdeal.nD DXnRefIdeal.τ).loc DXnRefIdeal.main_arg8)
  a2 := m' (((0 : Dev DXnRefIdeal.nD).tc : Thread DXnRefIdeal.nD DXnRefIdeal.τ).loc DXnRefIdeal.main_arg2)
  b2 := m' (((0 : Dev DXnRefIdeal.nD).tc : Thread DXnRefIdeal.nD DXnRefIdeal.τ).loc DXnRefIdeal.main_arg9)
  a3 := m' (((0 : Dev DXnRefIdeal.nD).tc : Thread DXnRefIdeal.nD DXnRefIdeal.τ).loc DXnRefIdeal.main_arg3)
  b3 := m' (((0 : Dev DXnRefIdeal.nD).tc : Thread DXnRefIdeal.nD DXnRefIdeal.τ).loc DXnRefIdeal.main_arg10)
  a4 := m' (((0 : Dev DXnRefIdeal.nD).tc : Thread DXnRefIdeal.nD DXnRefIdeal.τ).loc DXnRefIdeal.main_arg4)
  b4 := m' (((0 : Dev DXnRefIdeal.nD).tc : Thread DXnRefIdeal.nD DXnRefIdeal.τ).loc DXnRefIdeal.main_arg11)
  a5 := m' (((0 : Dev DXnRefIdeal.nD).tc : Thread DXnRefIdeal.nD DXnRefIdeal.τ).loc DXnRefIdeal.main_arg5)
  b5 := m' (((0 : Dev DXnRefIdeal.nD).tc : Thread DXnRefIdeal.nD DXnRefIdeal.τ).loc DXnRefIdeal.main_arg12)
  a6 := m' (((0 : Dev DXnRefIdeal.nD).tc : Thread DXnRefIdeal.nD DXnRefIdeal.τ).loc DXnRefIdeal.main_arg6)
  b6 := m' (((0 : Dev DXnRefIdeal.nD).tc : Thread DXnRefIdeal.nD DXnRefIdeal.τ).loc DXnRefIdeal.main_arg13)

theorem algebraic : algebraic_DXnIdeal_DXnRefIdeal (hDXnIdeal := DXnIdeal.Gen.facts)
    (hDXnRefIdeal := DXnRefIdeal.Gen.facts) := by
  intro m g m' g' _ hagree
  refine ⟨total (given m'),
    swapped (m' (((0 : Dev DXnRefIdeal.nD).tc : Thread DXnRefIdeal.nD DXnRefIdeal.τ).loc DXnRefIdeal.main_arg14)), ?_, ?_⟩
  · refine (θ_run (DXnIdeal.defs (F := Ideal)) _ _).mono (fun r h c => ⟨?_, ?_, kept m c r.2 (h.1 c)⟩) (runs_ideal m g)
    · obtain ⟨e0, e1, e2, e3, e4, e5, e6, e7, e8, e9, e10, e11, e12, e13, e14⟩ := hagree c
      refine result m c r.2 (h.1 c) (given m') ?_
      unfold mine given Factors.share
      congr 1
    · funext y
      obtain ⟨k, a, b, rfl⟩ : ∃ (k : Fin 3) (a : Fin 1280) (b : Fin 1024), y = ix3 k a b := ⟨y 0, y 1, y 2, eq_ix3 (n0 := 3) (n1 := 1280) (n2 := 1024) y⟩
      have e14 := (hagree (peer c k)).2.2.2.2.2.2.2.2.2.2.2.2.2.2
      refine (result_apply m c r.2 (h.1 c) k a b).trans ((congrFun e14 _).trans ?_)
      rw [Layout.block_apply, Layout.block_apply]
      unfold swapped
      congr 1
      funext i
      apply Fin.ext
      fin_cases i
      · exact rows_meet c k
      · rfl
      · rfl
  · refine (θ_run DXnRefIdeal.defs _ _).mono (fun r h => ⟨?_, ?_, (h 0).2.2⟩) (DXnRefIdeal.Value.run (F := Ideal) m' g')
    · exact (h 0).1.trans ((DXnRefIdeal.Read.val_main_v41_eq ..).trans (reference (given m')))
    · exact (h 0).2.1.trans ((DXnRefIdeal.Read.val_main_v88_eq ..).trans (reference_swap _))

end Cert.DXn.Prod

end
-- ==== Proof.Algebra.lean ====
/-
  Block by block or all at once: the two ways of summing the queries agree. For the values and the queries' gain this
  is a matter of order; for the keys and their gain each block's part goes through the norm's backward pass, which is
  linear where values, gains and the incoming gradient are finite.
-/
module

public import proofs.«01_k».proof.Proof.Math

@[expose] public section

noncomputable section

namespace Cert.Attn

open Idealize.ShloMosaic
open scoped BigOperators

/-! ## Reals among the extended reals -/

/-- An extended real that is a real number. -/
def IsR (x : EReal) : Prop := ∃ r : ℝ, x = (r : EReal)

theorem coe_total {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.add {x y : EReal} : IsR x → IsR y → IsR (x + y) := by
  rintro ⟨a, rfl⟩ ⟨b, rfl⟩; exact ⟨a + b, (EReal.coe_add a b).symm⟩

theorem IsR.mul {x y : EReal} : IsR x → IsR y → IsR (x * y) := by
  rintro ⟨a, rfl⟩ ⟨b, rfl⟩; exact ⟨a * b, (EReal.coe_mul a b).symm⟩

theorem IsR.neg {x : EReal} : IsR x → IsR (-x) := by
  rintro ⟨a, rfl⟩; exact ⟨-a, (EReal.coe_neg a).symm⟩

theorem IsR.sum {ι : Type*} {s : Finset ι} {f : ι → EReal} (h : ∀ i, IsR (f i)) : IsR (∑ i ∈ s, f i) := by
  choose g hg using h
  exact ⟨∑ i ∈ s, g i, by rw [coe_total]; exact Finset.sum_congr rfl fun i _ => hg i⟩

theorem IsR.div {x : EReal} {y : ℝ} (hx : IsR x) (hy : y ≠ 0) : IsR (Ideal.div x (y : EReal)) := by
  rw [Ideal.div_coe hy]; exact hx.mul ⟨_, rfl⟩

theorem IsR.cases (x : EReal) : IsR x ∨ x = ⊤ ∨ x = ⊥ := by
  induction x with
  | bot => exact Or.inr (Or.inr rfl)
  | top => exact Or.inr (Or.inl rfl)
  | coe r => exact Or.inl ⟨r, rfl⟩

/-- A real factor goes into a sum of reals. -/
theorem real_mul_sum {ι : Type*} {s : Finset ι} {a : EReal} {f : ι → EReal} (ha : IsR a) (hf : ∀ i, IsR (f i)) :
    a * ∑ i ∈ s, f i = ∑ i ∈ s, a * f i := by
  obtain ⟨r, rfl⟩ := ha
  choose g hg using hf
  simp only [hg, ← EReal.coe_mul, ← coe_total, Finset.mul_sum]

/-! ## The constants -/

theorem len_eq : len = ((256 : ℝ) : EReal) := by
  unfold len; simp [Ideal.ofBits, Ideal.ieee, -EReal.coe_mul]; norm_num

theorem eps_pos : ∃ e : ℝ, 0 < e ∧ eps = (e : EReal) := by
  unfold eps
  refine ⟨_, ?_, by simp [Ideal.ofBits, Ideal.ieee, -EReal.coe_mul]; rfl⟩
  norm_num

theorem mhalf_real : IsR mhalf := by
  unfold mhalf
  exact ⟨_, by simp [Ideal.ofBits, Ideal.ieee, -EReal.coe_mul]; rfl⟩

theorem scale_real : IsR scale := by
  unfold scale
  exact ⟨_, by simp [Ideal.ofBits, Ideal.ieee, -EReal.coe_mul]; rfl⟩

theorem bot_eq : bot = ⊥ := by
  unfold bot; simp [Ideal.ofBits, Ideal.ieee]

/-! ## The norm of a row, whatever the row holds -/

theorem sq_nonneg' (x : EReal) : 0 ≤ x * x := by
  rcases IsR.cases x with ⟨r, rfl⟩ | rfl | rfl
  · rw [← EReal.coe_mul]; exact_mod_cast mul_self_nonneg r
  · simp
  · simp

theorem ms_pos {x : Row} (h : ∀ k, IsR (x k)) : ∃ r : ℝ, 0 < r ∧ ms x = (r : EReal) := by
  choose X hX using h
  obtain ⟨e, he, e'⟩ := eps_pos
  refine ⟨(∑ k, X k * X k) * (1 / 256) + e, ?_, ?_⟩
  · have : 0 ≤ ∑ k, X k * X k := Finset.sum_nonneg fun k _ => mul_self_nonneg _
    positivity
  · unfold ms
    simp only [hX, ← EReal.coe_mul, ← coe_total, len_eq]
    rw [Ideal.div_coe (by norm_num), e', ← EReal.coe_mul, ← EReal.coe_add]

theorem ms_top {x : Row} (h : ∃ k, ¬ IsR (x k)) : ms x = ⊤ := by
  obtain ⟨k, hk⟩ := h
  have hs : ∑ k, x k * x k = ⊤ := by
    refine top_le_iff.mp (le_trans (le_of_eq ?_) (Finset.single_le_sum (f := fun k => x k * x k)
      (fun i _ => sq_nonneg' (x i)) (Finset.mem_univ k)))
    rcases IsR.cases (x k) with h | h | h
    · exact absurd h hk
    · simp only [h, EReal.top_mul_top]
    · simp only [h, EReal.bot_mul_bot]
  obtain ⟨e, -, e'⟩ := eps_pos
  unfold ms
  rw [hs, len_eq, Ideal.div_coe (by norm_num), EReal.top_mul_coe_of_pos (by norm_num), e', EReal.top_add_coe]

theorem ri_real {x : Row} (h : ∀ k, IsR (x k)) : IsR (ri x) := by
  obtain ⟨r, hr, e⟩ := ms_pos h
  unfold ri
  rw [e, Ideal.rsqrt_coe, if_neg hr.not_gt, if_neg hr.ne']
  exact ⟨_, rfl⟩

theorem ri_zero {x : Row} (h : ∃ k, ¬ IsR (x k)) : ri x = 0 := by
  unfold ri; rw [ms_top h, Ideal.rsqrt_top]

theorem di_real {x : Row} (h : ∀ k, IsR (x k)) : IsR (di x) := by
  obtain ⟨r, hr, e⟩ := ms_pos h
  unfold di
  rw [e]
  exact mhalf_real.mul ((ri_real h).div hr.ne')

theorem di_zero {x : Row} (h : ∃ k, ¬ IsR (x k)) : di x = 0 := by
  unfold di; rw [ri_zero h, ms_top h]; simp [Ideal.div]

theorem nr_real (x : Row) (k : Fin 256) : IsR (nr x k) := by
  unfold nr
  by_cases h : ∀ k, IsR (x k)
  · exact (h k).mul (ri_real h)
  · rw [ri_zero (not_forall.mp h), mul_zero]; exact ⟨0, rfl⟩

theorem hat_real (x : Row) {g : Row} (hg : ∀ k, IsR (g k)) (k : Fin 256) : IsR (hat x g k) := (nr_real x k).mul (hg k)

/-- The norm's backward pass takes a sum of real gradients part by part. -/
theorem back_sum {ι : Type*} [Fintype ι] (x : Row) {g : Row} (hg : ∀ k, IsR (g k)) {dy : ι → Row}
    (hd : ∀ i k, IsR (dy i k)) (k : Fin 256) :
    ∑ i, back x g (dy i) k = back x g (fun d => ∑ i, dy i d) k := by
  by_cases h : ∀ k, IsR (x k)
  · obtain ⟨r, hr⟩ := ri_real h
    obtain ⟨d, hdi⟩ := di_real h
    choose X hX using h
    choose G hG using hg
    choose D hD using hd
    unfold back tl
    simp only [hX, hG, hD, hr, hdi, len_eq, Ideal.div_coe (show (256 : ℝ) ≠ 0 by norm_num), ← EReal.coe_mul, ← coe_total,
      ← EReal.coe_add]
    congr 1
    simp only [Finset.sum_add_distrib, ← Finset.sum_mul, ← Finset.mul_sum]
    rw [Finset.sum_comm]
    simp only [← Finset.sum_mul, ← Finset.mul_sum]
  · have hz := not_forall.mp h
    have ht : ∀ dy : Row, tl x g dy = 0 := fun dy => by
      unfold tl; rw [di_zero hz, mul_zero, len_eq, Ideal.div_coe (by norm_num), zero_mul]
    unfold back
    simp only [ri_zero hz, ht, mul_zero, zero_mul, add_zero, Finset.sum_const_zero]

/-! ## The gradient of a score is real -/

theorem sc_real {gq gk : Row} (hq : ∀ k, IsR (gq k)) (hk : ∀ k, IsR (gk k)) (q k : Row) : IsR (sc gq gk q k) :=
  (IsR.sum fun d => (hat_real q hq d).mul (hat_real k hk d)).mul scale_real

theorem fold_real {f : Fin 256 → EReal} (h : ∀ m, IsR (f m)) : IsR (Finset.univ.fold max bot f) := by
  have hb : ∀ s : Finset (Fin 256), s.fold max bot f = ⊥ ∨ IsR (s.fold max bot f) := by
    intro s
    induction s using Finset.induction_on with
    | empty => exact Or.inl bot_eq
    | insert a s ha ih =>
      rw [Finset.fold_insert ha]
      rcases ih with e | e
      · rw [e, max_eq_left bot_le]; exact Or.inr (h a)
      · rcases max_choice (f a) (s.fold max bot f) with e' | e' <;> rw [e']
        · exact Or.inr (h a)
        · exact Or.inr e
  rcases hb Finset.univ with e | e
  · obtain ⟨r, hr⟩ := h 0
    have h0 : f 0 ≤ Finset.univ.fold max bot f := (Finset.le_fold_max _).mpr (Or.inr ⟨0, Finset.mem_univ _, le_rfl⟩)
    rw [e, hr] at h0
    exact absurd (le_bot_iff.mp h0) (EReal.coe_ne_bot r)
  · exact e

theorem ex_pos {gq gk : Row} (hq : ∀ k, IsR (gq k)) (hk : ∀ k, IsR (gk k)) (q : Row) (K : Fin 256 → Row) (m : Fin 256) :
    ∃ r : ℝ, 0 < r ∧ ex gq gk q K m = (r : EReal) := by
  obtain ⟨a, ha⟩ := sc_real hq hk q (K m)
  obtain ⟨b, hb⟩ := fold_real fun n => sc_real hq hk q (K n)
  refine ⟨Real.exp (a - b), Real.exp_pos _, ?_⟩
  unfold ex
  rw [ha, hb, ← EReal.coe_sub, Ideal.exp_coe]

theorem zs_pos {gq gk : Row} (hq : ∀ k, IsR (gq k)) (hk : ∀ k, IsR (gk k)) (q : Row) (K : Fin 256 → Row) :
    ∃ r : ℝ, 0 < r ∧ zs gq gk q K = (r : EReal) := by
  choose E hp hE using ex_pos hq hk q K
  refine ⟨∑ m, E m, Finset.sum_pos (fun m _ => hp m) ⟨0, Finset.mem_univ _⟩, ?_⟩
  unfold zs
  simp only [hE, ← coe_total]

theorem ds_real {gq gk : Row} (hq : ∀ k, IsR (gq k)) (hk : ∀ k, IsR (gk k)) (q : Row) (K : Fin 256 → Row)
    {V : Fin 256 → Row} (hV : ∀ m k, IsR (V m k)) {o : Row} (ho : ∀ k, IsR (o k)) (m : Fin 256) :
    IsR (ds gq gk q K V o m) := by
  obtain ⟨z, hz, e⟩ := zs_pos hq hk q K
  have hx : ∀ m, IsR (ex gq gk q K m) := fun m => (ex_pos hq hk q K m).imp fun _ h => h.2
  have hw : ∀ m, IsR (dw o (V m)) := fun m => IsR.sum fun d => (ho d).mul (hV m d)
  unfold ds
  rw [e, ← EReal.coe_mul]
  refine ((IsR.add ((hw m).div hz.ne') (IsR.neg (IsR.sum fun n => ?_))).mul (hx m)).mul scale_real
  exact ((hw n).mul (IsR.div ⟨1, EReal.coe_one.symm⟩ (mul_pos hz hz).ne')).mul (hx n)

/-! ## The queries in blocks -/

/-- A query's block and its place in the block. -/
def blocks : Fin 8 × Fin 256 ≃ Fin 2048 where
  toFun p := qpos p.1 p.2
  invFun s := (⟨s / 256, by omega⟩, ⟨s % 256, by omega⟩)
  left_inv p := Prod.ext (Fin.ext (by simp only [qpos]; omega)) (Fin.ext (by simp only [qpos]; omega))
  right_inv s := Fin.ext (by simp only [qpos]; omega)

theorem sum_blocks {M : Type*} [AddCommMonoid M] (f : Fin 2048 → M) : ∑ i, ∑ r, f (qpos i r) = ∑ s, f s := by
  rw [← Equiv.sum_comp blocks f, Fintype.sum_prod_type]; rfl

section Arrays

variable (q : Arr 4 2048 1024) (kv : Arr 4 256 2048) (gq gk : Gain) (o : Arr 4 2048 1024)

theorem sum_blockV (b h : Fin 4) (m k : Fin 256) : ∑ i, blockV q kv gq gk o b h m k i = gradV q kv gq gk o b h m k :=
  sum_blocks fun s => avp q kv gq gk o b h m s k

theorem sum_blockGQ (k : Fin 256) : ∑ b, ∑ i, blockGQ q kv gq gk o k b i = gradGQ q kv gq gk o k :=
  Finset.sum_congr rfl fun b _ => Finset.sum_comm.trans <| Finset.sum_congr rfl fun h _ =>
    sum_blocks fun s => nr (qr q b h s) k * aqh q kv gq gk o b h s k

variable {q kv gq gk o}

/-- The values, both gains and the incoming gradient are real. -/
structure Finite (kv : Arr 4 256 2048) (gq gk : Gain) (o : Arr 4 2048 1024) : Prop where
  v : ∀ b h m k, IsR (vr kv b h m k)
  gq : ∀ k, IsR (gr gq k)
  gk : ∀ k, IsR (gr gk k)
  o : ∀ b h s k, IsR (qr o b h s k)

theorem akp_real (F : Finite kv gq gk o) (b h : Fin 4) (m : Fin 256) (s : Fin 2048) (d : Fin 256) :
    IsR (akp q kv gq gk o b h m s d) :=
  (ds_real F.gq F.gk _ _ (F.v b h) (F.o b h s) m).mul (hat_real _ F.gq d)

theorem sum_blockK (F : Finite kv gq gk o) (b h : Fin 4) (m k : Fin 256) :
    ∑ i, blockK q kv gq gk o b h m k i = gradK q kv gq gk o b h m k := by
  unfold blockK gradK
  rw [back_sum _ F.gk fun i d => IsR.sum fun r => akp_real F b h m (qpos i r) d]
  exact congrArg (fun dy => back _ _ dy k) (funext fun d => sum_blocks fun s => akp q kv gq gk o b h m s d)

theorem sum_blockGK (F : Finite kv gq gk o) (k : Fin 256) :
    ∑ b, ∑ i, blockGK q kv gq gk o k b i = gradGK q kv gq gk o k := by
  refine Finset.sum_congr rfl fun b _ => Finset.sum_comm.trans <| Finset.sum_congr rfl fun h _ =>
    Finset.sum_comm.trans <| Finset.sum_congr rfl fun m _ => ?_
  rw [← real_mul_sum (nr_real _ k) fun i => IsR.sum fun r => akp_real F b h m (qpos i r) k]
  exact congrArg (nr (kr kv b h m) k * ·) (sum_blocks fun s => akp q kv gq gk o b h m s k)

end Arrays

end Cert.Attn

end
-- ==== Proof.Finite.lean ====
/-
  What the precondition says of the arrays: values, gains and incoming gradient are real numbers.
-/
module

public import proofs.«01_k».proof.Defs
public import proofs.«01_k».proof.Proof.Gen.ReferenceIdeal
public import proofs.«01_k».proof.Proof.Algebra

@[expose] public section

noncomputable section

namespace Cert.Finite

open Idealize.ShloMosaic Cert.Attn Cert.Pre_finite

/-- The side conditions the precondition's function states. -/
theorem facts : Cert.Pre_finite.Facts where
  slices_S4x256x2048_S4x256x1024_0_0_1024 := Cert.ReferenceIdeal.Gen.slices_S4x256x2048_S4x256x1024_0_0_1024
  bcast_S_S4x256x1024 := by decide
  bcast_S_S1x256 := by decide
  bitsLt_bf16_f32 := by decide
  bcast_S_S4x2048x1024 := by decide

theorem word_top : Ideal.ofBits .f32 0x7F800000#32 = ⊤ := by
  simp [Ideal.ofBits, Ideal.ieee]

theorem below_top {x : EReal}
    (h : BitVec.ofBool (decide (FloatOps.absf (F := Ideal) (φ := .f32) x < Ideal.ofBits .f32 0x7F800000#32)) = 1#1) :
    IsR x := by
  rw [word_top] at h
  have h' : max x (-x) < (⊤ : EReal) := by
    by_contra hn
    rw [decide_eq_false (show ¬ FloatOps.absf (F := Ideal) (φ := .f32) x < (⊤ : EReal) from hn)] at h
    exact absurd h (by decide)
  rcases IsR.cases x with e | rfl | rfl
  · exact e
  · exact absurd h' (by simp)
  · exact absurd h' (by simp)

variable [Facts] {q : Arr 4 2048 1024} {kv : Arr 4 256 2048} {gq gk : Gain} {o : Arr 4 2048 1024}

theorem v_real (h : (Cert.Pre_finite.fn (F := Ideal) q kv gq gk o).1 = fun _ => 1#1) (b : Fin 4) (m : Fin 256)
    (x : Fin 1024) : IsR (kv (ix3 b m ⟨1024 + x, by omega⟩)) := by
  have e := congrFun h (ix3 b m x)
  revert e
  simp only [Cert.Pre_finite.fn]
  pointwise
  exact below_top

theorem gq_real (h : (Cert.Pre_finite.fn (F := Ideal) q kv gq gk o).2.1 = fun _ => 1#1) (k : Fin 256) :
    IsR (gq (ix2 0 k)) := by
  have e := congrFun h (ix2 0 k)
  revert e
  simp only [Cert.Pre_finite.fn]
  pointwise
  exact below_top

theorem gk_real (h : (Cert.Pre_finite.fn (F := Ideal) q kv gq gk o).2.2.1 = fun _ => 1#1) (k : Fin 256) :
    IsR (gk (ix2 0 k)) := by
  have e := congrFun h (ix2 0 k)
  revert e
  simp only [Cert.Pre_finite.fn]
  pointwise
  exact below_top

theorem o_real (h : (Cert.Pre_finite.fn (F := Ideal) q kv gq gk o).2.2.2 = fun _ => 1#1) (b : Fin 4) (s : Fin 2048)
    (x : Fin 1024) : IsR (o (ix3 b s x)) := by
  have e := congrFun h (ix3 b s x)
  revert e
  simp only [Cert.Pre_finite.fn]
  pointwise
  exact below_top

theorem finite (h1 : (Cert.Pre_finite.fn (F := Ideal) q kv gq gk o).1 = fun _ => 1#1)
    (h2 : (Cert.Pre_finite.fn (F := Ideal) q kv gq gk o).2.1 = fun _ => 1#1)
    (h3 : (Cert.Pre_finite.fn (F := Ideal) q kv gq gk o).2.2.1 = fun _ => 1#1)
    (h4 : (Cert.Pre_finite.fn (F := Ideal) q kv gq gk o).2.2.2 = fun _ => 1#1) : Attn.Finite kv gq gk o where
  v b h m k := v_real h1 b m ⟨256 * h + k, by omega⟩
  gq k := gq_real h2 k
  gk k := gk_real h3 k
  o b h s k := o_real h4 b s (col h k)

end Cert.Finite

end
-- ==== Proof.Cases.lean ====
/-
  What each grid point leaves in its four output blocks, over the steps of a head (`Head`).
-/
module

public import proofs.«01_k».proof.Proof.Head

@[expose] public section

set_option maxRecDepth 16384

noncomputable section

namespace Cert.KernelIdeal.Head

open Idealize.ShloMosaic Idealize.ShloMosaic.TcCoe Idealize.SL.Sem Cert.KernelIdeal Cert.KernelIdeal.Gen

variable {F : FTy → Type} [FloatOps F]

theorem z2 : (![0, 0] : Fin 2 → Nat) = fun _ => 0 := funext fun a => by fin_cases a <;> rfl
theorem z3 : (![0, 0, 0] : Fin 3 → Nat) = fun _ => 0 := funext fun a => by fin_cases a <;> rfl

theorem caseA_5 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : cond0_1 i)
    (x0 : Vec F S1x256x1024 .f32) (x1 : Vec F S1x256x2048 .f32) (x2 : Vec F S1x256 .f32) (x3 : Vec F S1x256 .f32) (x4 : Vec F S1x256x1024 .bf16) :
    out0_A_5 c i arg2 harg2 arg3 harg3 arg4 harg4 arg5 harg5 arg6 harg6 arg7 harg7 arg8 harg8 arg9 harg9 arg10 harg10 hc0 hc1 x0 x1 x2 x3 x4 = shapeCast S1x256x1024 (truncf .bf16 (dqs x0 x1 x2 x3 x4) bitsLt_bf16_f32) shapeCasts_S256x1024_S1x256x1024 := by
  unfold out0_A_5
  rw [View.read_writes_eq_canon _ _ _ (cover0_A_5 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseA_6 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : cond0_1 i)
    (x0 : Vec F S1x256x1024 .f32) (x1 : Vec F S1x256x2048 .f32) (x2 : Vec F S1x256 .f32) (x3 : Vec F S1x256 .f32) (x4 : Vec F S1x256x1024 .bf16) :
    out0_A_6 c i arg2 harg2 arg3 harg3 arg4 harg4 arg5 harg5 arg6 harg6 arg7 harg7 arg8 harg8 arg9 harg9 arg10 harg10 hc0 hc1 x0 x1 x2 x3 x4 = shapeCast S1x256x2048 (addf (shapeCast S256x2048 (broadcast S1x256x2048 (Scalar.ofBits .f32 0x00000000#32)) shapeCasts_S1x256x2048_S256x2048) (dkvs x0 x1 x2 x3 x4)) shapeCasts_S256x2048_S1x256x2048 := by
  unfold out0_A_6
  rw [View.read_writes_eq_canon _ _ _ (cover0_A_6 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x256x2048) z3, View.readCov_unit_zero (S := S1x256x2048) _ z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseA_7 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : cond0_1 i)
    (x0 : Vec F S1x256x1024 .f32) (x1 : Vec F S1x256x2048 .f32) (x2 : Vec F S1x256 .f32) (x3 : Vec F S1x256 .f32) (x4 : Vec F S1x256x1024 .bf16) :
    out0_A_7 c i arg2 harg2 arg3 harg3 arg4 harg4 arg5 harg5 arg6 harg6 arg7 harg7 arg8 harg8 arg9 harg9 arg10 harg10 hc0 hc1 x0 x1 x2 x3 x4 = addf (broadcast S1x256 (Scalar.ofBits .f32 0x00000000#32)) (gq x0 x1 x2 x3 x4) := by
  unfold out0_A_7
  rw [View.read_writes_eq_canon _ _ _ (cover0_A_7 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x256) z2, View.readCov_unit_zero (S := S1x256) _ z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay1
  simp only [shapeCast_self]
  rfl

theorem caseA_8 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : cond0_0 i) (hc1 : cond0_1 i)
    (x0 : Vec F S1x256x1024 .f32) (x1 : Vec F S1x256x2048 .f32) (x2 : Vec F S1x256 .f32) (x3 : Vec F S1x256 .f32) (x4 : Vec F S1x256x1024 .bf16) :
    out0_A_8 c i arg2 harg2 arg3 harg3 arg4 harg4 arg5 harg5 arg6 harg6 arg7 harg7 arg8 harg8 arg9 harg9 arg10 harg10 hc0 hc1 x0 x1 x2 x3 x4 = addf (broadcast S1x256 (Scalar.ofBits .f32 0x00000000#32)) (gk x0 x1 x2 x3 x4) := by
  unfold out0_A_8
  rw [View.read_writes_eq_canon _ _ _ (cover0_A_8 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1x256) z2, View.readCov_unit_zero (S := S1x256) _ z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay2
  simp only [shapeCast_self]
  rfl

theorem caseB_5 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S1x256x1024 .f32) (x1 : Vec F S1x256x2048 .f32) (x2 : Vec F S1x256 .f32) (x3 : Vec F S1x256 .f32) (x4 : Vec F S1x256x1024 .bf16) (xo6 : Vec F S1x256x2048 .f32) (xo7 : Vec F S1x256 .f32) (xo8 : Vec F S1x256 .f32) :
    out0_B_5 c i arg2 harg2 arg3 harg3 arg4 harg4 arg5 harg5 arg6 harg6 arg7 harg7 arg8 harg8 arg9 harg9 arg10 harg10 hc0 hc1 x0 x1 x2 x3 x4 xo6 xo7 xo8 = shapeCast S1x256x1024 (truncf .bf16 (dqs x0 x1 x2 x3 x4) bitsLt_bf16_f32) shapeCasts_S256x1024_S1x256x1024 := by
  unfold out0_B_5
  rw [View.read_writes_eq_canon _ _ _ (cover0_B_5 c i arg2 harg2 arg3 harg3 arg4 harg4 arg5 harg5 arg6 harg6 arg7 harg7 arg8 harg8 arg9 harg9 arg10 harg10 hc0 hc1 x0 x1 x2 x3 x4 xo6 xo7 xo8)]
  unfold kernelRun0_B
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseB_6 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S1x256x1024 .f32) (x1 : Vec F S1x256x2048 .f32) (x2 : Vec F S1x256 .f32) (x3 : Vec F S1x256 .f32) (x4 : Vec F S1x256x1024 .bf16) (xo6 : Vec F S1x256x2048 .f32) (xo7 : Vec F S1x256 .f32) (xo8 : Vec F S1x256 .f32) :
    out0_B_6 c i arg2 harg2 arg3 harg3 arg4 harg4 arg5 harg5 arg6 harg6 arg7 harg7 arg8 harg8 arg9 harg9 arg10 harg10 hc0 hc1 x0 x1 x2 x3 x4 xo6 xo7 xo8 = shapeCast S1x256x2048 (addf (shapeCast S256x2048 xo6 shapeCasts_S1x256x2048_S256x2048) (dkvs x0 x1 x2 x3 x4)) shapeCasts_S256x2048_S1x256x2048 := by
  unfold out0_B_6
  rw [View.read_writes_eq_canon _ _ _ (cover0_B_6 c i arg2 harg2 arg3 harg3 arg4 harg4 arg5 harg5 arg6 harg6 arg7 harg7 arg8 harg8 arg9 harg9 arg10 harg10 hc0 hc1 x0 x1 x2 x3 x4 xo6 xo7 xo8)]
  unfold kernelRun0_B
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseB_7 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S1x256x1024 .f32) (x1 : Vec F S1x256x2048 .f32) (x2 : Vec F S1x256 .f32) (x3 : Vec F S1x256 .f32) (x4 : Vec F S1x256x1024 .bf16) (xo6 : Vec F S1x256x2048 .f32) (xo7 : Vec F S1x256 .f32) (xo8 : Vec F S1x256 .f32) :
    out0_B_7 c i arg2 harg2 arg3 harg3 arg4 harg4 arg5 harg5 arg6 harg6 arg7 harg7 arg8 harg8 arg9 harg9 arg10 harg10 hc0 hc1 x0 x1 x2 x3 x4 xo6 xo7 xo8 = addf xo7 (gq x0 x1 x2 x3 x4) := by
  unfold out0_B_7
  rw [View.read_writes_eq_canon _ _ _ (cover0_B_7 c i arg2 harg2 arg3 harg3 arg4 harg4 arg5 harg5 arg6 harg6 arg7 harg7 arg8 harg8 arg9 harg9 arg10 harg10 hc0 hc1 x0 x1 x2 x3 x4 xo6 xo7 xo8)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay1
  simp only [shapeCast_self]
  rfl

theorem caseB_8 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : ¬cond0_1 i)
    (x0 : Vec F S1x256x1024 .f32) (x1 : Vec F S1x256x2048 .f32) (x2 : Vec F S1x256 .f32) (x3 : Vec F S1x256 .f32) (x4 : Vec F S1x256x1024 .bf16) (xo6 : Vec F S1x256x2048 .f32) (xo7 : Vec F S1x256 .f32) (xo8 : Vec F S1x256 .f32) :
    out0_B_8 c i arg2 harg2 arg3 harg3 arg4 harg4 arg5 harg5 arg6 harg6 arg7 harg7 arg8 harg8 arg9 harg9 arg10 harg10 hc0 hc1 x0 x1 x2 x3 x4 xo6 xo7 xo8 = addf xo8 (gk x0 x1 x2 x3 x4) := by
  unfold out0_B_8
  rw [View.read_writes_eq_canon _ _ _ (cover0_B_8 c i arg2 harg2 arg3 harg3 arg4 harg4 arg5 harg5 arg6 harg6 arg7 harg7 arg8 harg8 arg9 harg9 arg10 harg10 hc0 hc1 x0 x1 x2 x3 x4 xo6 xo7 xo8)]
  unfold kernelRun0_B
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay2
  simp only [shapeCast_self]
  rfl

theorem caseC_5 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S1x256x1024 .f32) (x1 : Vec F S1x256x2048 .f32) (x2 : Vec F S1x256 .f32) (x3 : Vec F S1x256 .f32) (x4 : Vec F S1x256x1024 .bf16) (xo7 : Vec F S1x256 .f32) (xo8 : Vec F S1x256 .f32) :
    out0_C_5 c i arg2 harg2 arg3 harg3 arg4 harg4 arg5 harg5 arg6 harg6 arg7 harg7 arg8 harg8 arg9 harg9 arg10 harg10 hc0 hc1 x0 x1 x2 x3 x4 xo7 xo8 = shapeCast S1x256x1024 (truncf .bf16 (dqs x0 x1 x2 x3 x4) bitsLt_bf16_f32) shapeCasts_S256x1024_S1x256x1024 := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xo7 xo8)]
  unfold kernelRun0_C
  dsimp only
  sl_unfold_words
  rw [View.canon_unit_zero z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseC_6 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S1x256x1024 .f32) (x1 : Vec F S1x256x2048 .f32) (x2 : Vec F S1x256 .f32) (x3 : Vec F S1x256 .f32) (x4 : Vec F S1x256x1024 .bf16) (xo7 : Vec F S1x256 .f32) (xo8 : Vec F S1x256 .f32) :
    out0_C_6 c i arg2 harg2 arg3 harg3 arg4 harg4 arg5 harg5 arg6 harg6 arg7 harg7 arg8 harg8 arg9 harg9 arg10 harg10 hc0 hc1 x0 x1 x2 x3 x4 xo7 xo8 = shapeCast S1x256x2048 (addf (shapeCast S256x2048 (broadcast S1x256x2048 (Scalar.ofBits .f32 0x00000000#32)) shapeCasts_S1x256x2048_S256x2048) (dkvs x0 x1 x2 x3 x4)) shapeCasts_S256x2048_S1x256x2048 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 xo7 xo8)]
  unfold kernelRun0_C
  dsimp only
  sl_unfold_words
  rw [View.canon_cons_unit_zero (S := S1x256x2048) z3, View.readCov_unit_zero (S := S1x256x2048) _ z3]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  rfl

theorem caseC_7 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S1x256x1024 .f32) (x1 : Vec F S1x256x2048 .f32) (x2 : Vec F S1x256 .f32) (x3 : Vec F S1x256 .f32) (x4 : Vec F S1x256x1024 .bf16) (xo7 : Vec F S1x256 .f32) (xo8 : Vec F S1x256 .f32) :
    out0_C_7 c i arg2 harg2 arg3 harg3 arg4 harg4 arg5 harg5 arg6 harg6 arg7 harg7 arg8 harg8 arg9 harg9 arg10 harg10 hc0 hc1 x0 x1 x2 x3 x4 xo7 xo8 = addf xo7 (gq x0 x1 x2 x3 x4) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 x0 x1 x2 x3 x4 xo7 xo8)]
  unfold kernelRun0_C
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay1
  simp only [shapeCast_self]
  rfl

theorem caseC_8 (c : Dev nD) (i : grid0.Coords) (arg2 : Memref sig .tc .vmem S1x256x1024 .f32) (harg2 : arg2.IsWhole) (arg3 : Memref sig .tc .vmem S1x256x2048 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S1x256x1024 .bf16) (harg6 : arg6.IsWhole) (arg7 : Memref sig .tc .vmem S1x256x1024 .bf16) (harg7 : arg7.IsWhole) (arg8 : Memref sig .tc .vmem S1x256x2048 .f32) (harg8 : arg8.IsWhole) (arg9 : Memref sig .tc .vmem S1x256 .f32) (harg9 : arg9.IsWhole) (arg10 : Memref sig .tc .vmem S1x256 .f32) (harg10 : arg10.IsWhole) (hc0 : ¬cond0_0 i) (hc1 : cond0_1 i)
    (x0 : Vec F S1x256x1024 .f32) (x1 : Vec F S1x256x2048 .f32) (x2 : Vec F S1x256 .f32) (x3 : Vec F S1x256 .f32) (x4 : Vec F S1x256x1024 .bf16) (xo7 : Vec F S1x256 .f32) (xo8 : Vec F S1x256 .f32) :
    out0_C_8 c i arg2 harg2 arg3 harg3 arg4 harg4 arg5 harg5 arg6 harg6 arg7 harg7 arg8 harg8 arg9 harg9 arg10 harg10 hc0 hc1 x0 x1 x2 x3 x4 xo7 xo8 = addf xo8 (gk x0 x1 x2 x3 x4) := by
  unfold out0_C_8
  rw [View.read_writes_eq_canon _ _ _ (cover0_C_8 c i arg2 harg2 arg3 harg3 arg4 harg4 arg5 harg5 arg6 harg6 arg7 harg7 arg8 harg8 arg9 harg9 arg10 harg10 hc0 hc1 x0 x1 x2 x3 x4 xo7 xo8)]
  unfold kernelRun0_C
  dsimp only
  sl_unfold_words
  rw [View.canon_unit_zero z2]
  simp only [View.readAt_eq_ld, harg2.read_unread, harg3.read_unread, harg4.read_unread, harg5.read_unread, harg6.read_unread, harg7.read_unread, harg8.read_unread, harg9.read_unread, harg10.read_unread, View.ld_unit_zero (S := S1x256x1024) z3,
    View.ld_unit_zero (S := S1x256x2048) z3, View.ld_unit_zero (S := S1x256) z2]
  unfold k0_pay2
  simp only [shapeCast_self]
  rfl

end Cert.KernelIdeal.Head

end
-- ==== Proof.Blocks.lean ====
/-
  The kernel's four result arrays after its run, entry by entry, as sums over the blocks of queries.
-/
module

public import proofs.«01_k».proof.Proof.Cases
public import proofs.«01_k».proof.Proof.Entry
public import Idealize.ShloMosaic.Lib.Pipeline.ValueKit.Geometry
public import Idealize.ShloMosaic.Lib.Pipeline.ValueKit

@[expose] public section

set_option maxRecDepth 16384

noncomputable section

namespace Cert.KernelIdeal.Head

open Idealize.ShloMosaic Idealize.ShloMosaic.TcCoe Idealize.SL.Sem Cert.KernelIdeal Cert.KernelIdeal.Gen Cert.Attn
open scoped BigOperators

variable (m : (ℓ : Loc nD τ sig) → Buf (Elt Ideal) ℓ) (c : Dev nD)

theorem ix0 : ∀ t : Fin cfg0.N, win0_0.index t = ![t.val / 8, t.val % 8, 0] :=
  (by decide +kernel : ∀ t : Fin grid0.N, win0_0.index t = ![t.val / 8, t.val % 8, 0])
theorem ix1' : ∀ t : Fin cfg0.N, win0_1.index t = ![t.val / 8, 0, 0] :=
  (by decide +kernel : ∀ t : Fin grid0.N, win0_1.index t = ![t.val / 8, 0, 0])
theorem ix2' : ∀ t : Fin cfg0.N, win0_2.index t = ![0, 0] :=
  (by decide +kernel : ∀ t : Fin grid0.N, win0_2.index t = ![0, 0])
theorem ix3' : ∀ t : Fin cfg0.N, win0_3.index t = ![0, 0] :=
  (by decide +kernel : ∀ t : Fin grid0.N, win0_3.index t = ![0, 0])
theorem ix4' : ∀ t : Fin cfg0.N, win0_4.index t = ![t.val / 8, t.val % 8, 0] :=
  (by decide +kernel : ∀ t : Fin grid0.N, win0_4.index t = ![t.val / 8, t.val % 8, 0])
theorem ix5' : ∀ t : Fin cfg0.N, win0_5.index t = ![t.val / 8, t.val % 8, 0] :=
  (by decide +kernel : ∀ t : Fin grid0.N, win0_5.index t = ![t.val / 8, t.val % 8, 0])
theorem ix6' : ∀ t : Fin cfg0.N, win0_6.index t = ![t.val / 8, 0, 0] :=
  (by decide +kernel : ∀ t : Fin grid0.N, win0_6.index t = ![t.val / 8, 0, 0])

theorem ix7' : ∀ t : Fin cfg0.N, win0_7.index t = ![0, 0] :=
  (by decide +kernel : ∀ t : Fin grid0.N, win0_7.index t = ![0, 0])
theorem ix8' : ∀ t : Fin cfg0.N, win0_8.index t = ![0, 0] :=
  (by decide +kernel : ∀ t : Fin grid0.N, win0_8.index t = ![0, 0])

theorem lt32 (t : Fin cfg0.N) : t.val < 32 := lt_of_lt_of_eq t.isLt N_0

/-- The batch of a point. -/
def tb (t : Fin cfg0.N) : Fin 4 := ⟨t.val / 8, by have := lt32 t; omega⟩
/-- The block of queries of a point. -/
def ti (t : Fin cfg0.N) : Fin 8 := ⟨t.val % 8, by omega⟩

/-- The arguments' contents. -/
abbrev aq : Arr 4 2048 1024 := V m c main_arg0
abbrev akv : Arr 4 256 2048 := V m c main_arg1
abbrev agq : Gain := V m c main_arg2
abbrev agk : Gain := V m c main_arg3
abbrev ao : Arr 4 2048 1024 := V m c main_arg4

theorem iblk0_apply (t : Fin cfg0.N) (r : Fin 256) (k : Fin 1024) :
    (iblk m c 0 t : Vec Ideal S1x256x1024 .f32) (ix3 0 r k) = aq m c (ix3 (tb t) (qpos (ti t) r) k) := by
  blk_simp [iblk]
  congr 1
  blk_ext [ix0, tb, ti, qpos]

theorem iblk1_apply (t : Fin cfg0.N) (r : Fin 256) (k : Fin 2048) :
    (iblk m c 1 t : Vec Ideal S1x256x2048 .f32) (ix3 0 r k) = akv m c (ix3 (tb t) r k) := by
  blk_simp [iblk]
  congr 1
  blk_ext [ix1', tb]

theorem iblk2_apply (t : Fin cfg0.N) (k : Fin 256) :
    (iblk m c 2 t : Vec Ideal S1x256 .f32) (ix2 0 k) = agq m c (ix2 0 k) := by
  blk_simp [iblk]
  congr 1
  blk_ext [ix2']

theorem iblk3_apply (t : Fin cfg0.N) (k : Fin 256) :
    (iblk m c 3 t : Vec Ideal S1x256 .f32) (ix2 0 k) = agk m c (ix2 0 k) := by
  blk_simp [iblk]
  congr 1
  blk_ext [ix3']

theorem iblk4_apply (t : Fin cfg0.N) (r : Fin 256) (k : Fin 1024) :
    (iblk m c 4 t : Vec Ideal S1x256x1024 .bf16) (ix3 0 r k) = ao m c (ix3 (tb t) (qpos (ti t) r) k) := by
  blk_simp [iblk]
  congr 1
  blk_ext [ix4', tb, ti, qpos]

/-! ## The blocks' rows are the arrays' -/

theorem qrow_blk (t : Fin cfg0.N) (h : Fin 4) (r : Fin 256) :
    qrow (iblk m c 0 t) h r = qr (aq m c) (tb t) h (qpos (ti t) r) :=
  funext fun k => iblk0_apply m c t r (col h k)
theorem krow_blk (t : Fin cfg0.N) (h : Fin 4) : krow (iblk m c 1 t) h = kr (akv m c) (tb t) h :=
  funext fun r => funext fun k => iblk1_apply m c t r (kcol h k)
theorem vrow_blk (t : Fin cfg0.N) (h : Fin 4) : vrow (iblk m c 1 t) h = vr (akv m c) (tb t) h :=
  funext fun r => funext fun k => iblk1_apply m c t r (vcol h k)
theorem gain_blk2 (t : Fin cfg0.N) : gain (iblk m c 2 t) = gr (agq m c) := funext fun k => iblk2_apply m c t k
theorem gain_blk3 (t : Fin cfg0.N) : gain (iblk m c 3 t) = gr (agk m c) := funext fun k => iblk3_apply m c t k
theorem orow_blk (t : Fin cfg0.N) (h : Fin 4) (r : Fin 256) :
    orow (iblk m c 4 t) h r = qr (ao m c) (tb t) h (qpos (ti t) r) :=
  funext fun k => iblk4_apply m c t r (col h k)

/-! ## What a point adds -/

/-- The body's block of the queries' gradient. -/
abbrev B5 (t : Fin cfg0.N) : FVec Ideal S256x1024 .f32 :=
  dqs (iblk m c 0 t) (iblk m c 1 t) (iblk m c 2 t) (iblk m c 3 t) (iblk m c 4 t)
/-- What the body adds to the keys' and values' gradient. -/
abbrev B6 (t : Fin cfg0.N) : FVec Ideal S256x2048 .f32 :=
  dkvs (iblk m c 0 t) (iblk m c 1 t) (iblk m c 2 t) (iblk m c 3 t) (iblk m c 4 t)
/-- What the body adds to the queries' gain's gradient. -/
abbrev B7 (t : Fin cfg0.N) : FVec Ideal S1x256 .f32 :=
  gq (iblk m c 0 t) (iblk m c 1 t) (iblk m c 2 t) (iblk m c 3 t) (iblk m c 4 t)
/-- What the body adds to the keys' gain's gradient. -/
abbrev B8 (t : Fin cfg0.N) : FVec Ideal S1x256 .f32 :=
  gk (iblk m c 0 t) (iblk m c 1 t) (iblk m c 2 t) (iblk m c 3 t) (iblk m c 4 t)

theorem B5_apply (t : Fin cfg0.N) (h : Fin 4) (r k : Fin 256) :
    B5 m c t (ix2 r (col h k)) = gradQ (aq m c) (akv m c) (agq m c) (agk m c) (ao m c) (tb t) h (qpos (ti t) r) k := by
  unfold B5
  rw [dqs_apply, dq_apply, qrow_blk, krow_blk, vrow_blk, gain_blk2, gain_blk3, orow_blk]
  rfl

theorem B6_key (t : Fin cfg0.N) (h : Fin 4) (r k : Fin 256) :
    B6 m c t (ix2 r (kcol h k)) = blockK (aq m c) (akv m c) (agq m c) (agk m c) (ao m c) (tb t) h r k (ti t) := by
  unfold B6
  rw [dkvs_key, dk_apply]
  simp only [qrow_blk, krow_blk, vrow_blk, gain_blk2, gain_blk3, orow_blk]
  rfl

theorem B6_value (t : Fin cfg0.N) (h : Fin 4) (r k : Fin 256) :
    B6 m c t (ix2 r (vcol h k)) = blockV (aq m c) (akv m c) (agq m c) (agk m c) (ao m c) (tb t) h r k (ti t) := by
  unfold B6
  rw [dkvs_value, dv_apply]
  simp only [qrow_blk, krow_blk, gain_blk2, gain_blk3, orow_blk]
  rfl

theorem B7_apply (t : Fin cfg0.N) (k : Fin 256) :
    B7 m c t (ix2 0 k) = blockGQ (aq m c) (akv m c) (agq m c) (agk m c) (ao m c) k (tb t) (ti t) := by
  unfold B7
  rw [gq_apply]
  simp only [qrow_blk, krow_blk, vrow_blk, gain_blk2, gain_blk3, orow_blk]
  rfl

theorem B8_apply (t : Fin cfg0.N) (k : Fin 256) :
    B8 m c t (ix2 0 k) = blockGK (aq m c) (akv m c) (agq m c) (agk m c) (ao m c) k (tb t) (ti t) := by
  unfold B8
  rw [gk_apply]
  simp only [qrow_blk, krow_blk, vrow_blk, gain_blk2, gain_blk3, orow_blk]
  rfl

/-! ## What the points leave -/

theorem left5 (t : Fin cfg0.N) (r : Fin 256) (x : Fin 1024) :
    (outsAt0 m c t.val t.isLt).1 (ix3 0 r x) = B5 m c t (ix2 r x) := by
  have key : ∀ u : FVec Ideal S256x1024 .f32, shapeCast S1x256x1024 (truncf .bf16 u bitsLt_bf16_f32) shapeCasts_S256x1024_S1x256x1024 (ix3 0 r x) = u (ix2 r x) := fun u => by
    pointwise
  by_cases h0 : t.val % 32 = 0
  · have h1 : t.val % 8 = 0 := by omega
    rw [outsAt0_A m c t h0 h1]; dsimp only; rw [caseA_5]; exact key _
  · by_cases h1 : t.val % 8 = 0
    · rw [outsAt0_C m c t h0 h1]; dsimp only; rw [caseC_5]; exact key _
    · rw [outsAt0_B m c t h0 h1]; dsimp only; rw [caseB_5]; exact key _

theorem add6 (u : Vec Ideal S1x256x2048 .f32) (v : FVec Ideal S256x2048 .f32) (r : Fin 256) (x : Fin 2048) :
    shapeCast S1x256x2048 (addf (shapeCast S256x2048 u shapeCasts_S1x256x2048_S256x2048) v) shapeCasts_S256x2048_S1x256x2048 (ix3 0 r x)
      = u (ix3 0 r x) + v (ix2 r x) := by
  pointwise

theorem zero6 (r : Fin 256) (x : Fin 2048) :
    (broadcast S1x256x2048 (Scalar.ofBits .f32 0x00000000#32) : FVec Ideal S1x256x2048 .f32) (ix3 0 r x) = 0 := by
  pointwise

theorem zero7 (x : Fin 256) :
    (broadcast S1x256 (Scalar.ofBits .f32 0x00000000#32) : FVec Ideal S1x256 .f32) (ix2 0 x) = 0 := by
  pointwise

theorem left6_first (t : Fin cfg0.N) (h1 : t.val % 8 = 0) (r : Fin 256) (x : Fin 2048) :
    (outsAt0 m c t.val t.isLt).2.1 (ix3 0 r x) = B6 m c t (ix2 r x) := by
  by_cases h0 : t.val % 32 = 0
  · rw [outsAt0_A m c t h0 h1]; dsimp only; rw [caseA_6, add6, zero6, zero_add]
  · rw [outsAt0_C m c t h0 h1]; dsimp only; rw [caseC_6, add6, zero6, zero_add]

theorem left6_next (t : Fin cfg0.N) (h1 : ¬t.val % 8 = 0) (r : Fin 256) (x : Fin 2048) :
    (outsAt0 m c t.val t.isLt).2.1 (ix3 0 r x)
      = (outsAt0 m c (t.val - 1) (Nat.lt_of_le_of_lt (Nat.sub_le _ _) t.isLt)).2.1 (ix3 0 r x) + B6 m c t (ix2 r x) := by
  have h0 : ¬t.val % 32 = 0 := by omega
  rw [outsAt0_B m c t h0 h1]; dsimp only; rw [caseB_6, add6]

theorem left7_first (t : Fin cfg0.N) (h0 : t.val % 32 = 0) (x : Fin 256) :
    (outsAt0 m c t.val t.isLt).2.2.1 (ix2 0 x) = B7 m c t (ix2 0 x) := by
  rw [outsAt0_A m c t h0 (by omega)]; dsimp only; rw [caseA_7]
  pointwise

theorem left7_next (t : Fin cfg0.N) (h0 : ¬t.val % 32 = 0) (x : Fin 256) :
    (outsAt0 m c t.val t.isLt).2.2.1 (ix2 0 x)
      = (outsAt0 m c (t.val - 1) (Nat.lt_of_le_of_lt (Nat.sub_le _ _) t.isLt)).2.2.1 (ix2 0 x) + B7 m c t (ix2 0 x) := by
  by_cases h1 : t.val % 8 = 0
  · rw [outsAt0_C m c t h0 h1]; dsimp only; rw [caseC_7]; rfl
  · rw [outsAt0_B m c t h0 h1]; dsimp only; rw [caseB_7]; rfl

theorem left8_first (t : Fin cfg0.N) (h0 : t.val % 32 = 0) (x : Fin 256) :
    (outsAt0 m c t.val t.isLt).2.2.2 (ix2 0 x) = B8 m c t (ix2 0 x) := by
  rw [outsAt0_A m c t h0 (by omega)]; dsimp only; rw [caseA_8]
  pointwise

theorem left8_next (t : Fin cfg0.N) (h0 : ¬t.val % 32 = 0) (x : Fin 256) :
    (outsAt0 m c t.val t.isLt).2.2.2 (ix2 0 x)
      = (outsAt0 m c (t.val - 1) (Nat.lt_of_le_of_lt (Nat.sub_le _ _) t.isLt)).2.2.2 (ix2 0 x) + B8 m c t (ix2 0 x) := by
  by_cases h1 : t.val % 8 = 0
  · rw [outsAt0_C m c t h0 h1]; dsimp only; rw [caseC_8]; rfl
  · rw [outsAt0_B m c t h0 h1]; dsimp only; rw [caseB_8]; rfl

/-- The point of block `i` of batch `b`. -/
def pt (b : Fin 4) (i : Fin 8) : Fin cfg0.N := ⟨8 * b + i, by have : cfg0.N = 32 := N_0; omega⟩

theorem tb_pt (b : Fin 4) (i : Fin 8) : tb (pt b i) = b := Fin.ext (by simp only [tb, pt]; omega)
theorem ti_pt (b : Fin 4) (i : Fin 8) : ti (pt b i) = i := Fin.ext (by simp only [ti, pt]; omega)

/-- A sum kept while the points go on, begun anew at every `P`-th. -/
theorem runSum {N P : ℕ} (hP : 0 < P) (f g : (n : ℕ) → n < N → EReal)
    (first : ∀ n h, n % P = 0 → f n h = g n h)
    (next : ∀ n h, ¬n % P = 0 → f n h = f (n - 1) (Nat.lt_of_le_of_lt (Nat.sub_le _ _) h) + g n h)
    (b : ℕ) : ∀ (i : ℕ) (hi : i < P) (h : P * b + i < N),
      f (P * b + i) h = ∑ j : Fin (i + 1), g (P * b + j) (lt_of_le_of_lt (by have := j.isLt; omega) h)
  | 0, hi, h => by
    rw [first _ h (by simp), Fin.sum_univ_one]
    rfl
  | i + 1, hi, h => by
    rw [next _ h (by rw [Nat.mul_add_mod, Nat.mod_eq_of_lt hi]; omega), Fin.sum_univ_castSucc]
    congr 1
    exact runSum hP f g first next b i (by omega) (by omega)

theorem left6 (b : Fin 4) (r : Fin 256) (x : Fin 2048) :
    (outsAt0 m c (pt b 7).val (pt b 7).isLt).2.1 (ix3 0 r x) = ∑ i : Fin 8, B6 m c (pt b i) (ix2 r x) :=
  runSum (N := cfg0.N) (P := 8) (by decide) (fun n h => (outsAt0 m c n h).2.1 (ix3 0 r x)) (fun n h => B6 m c ⟨n, h⟩ (ix2 r x))
    (fun n h h1 => left6_first m c ⟨n, h⟩ h1 r x) (fun n h h1 => left6_next m c ⟨n, h⟩ h1 r x) b.val 7 (by decide) (pt b 7).isLt

/-- A sum over the points, batch by batch. -/
theorem sum32 (f : Fin cfg0.N → EReal) : ∑ j : Fin 32, f ⟨j, j.isLt.trans_eq N_0.symm⟩ = ∑ b, ∑ i, f (pt b i) := by
  rw [← Fintype.sum_prod_type', ← (finProdFinEquiv (m := 4) (n := 8)).sum_comp]
  refine Finset.sum_congr rfl fun p _ => ?_
  congr 1
  apply Fin.ext
  show (p.2 : ℕ) + 8 * p.1 = 8 * p.1 + p.2
  omega

theorem left7 (x : Fin 256) :
    (outsAt0 m c (pt 3 7).val (pt 3 7).isLt).2.2.1 (ix2 0 x) = ∑ b, ∑ i, B7 m c (pt b i) (ix2 0 x) := by
  rw [← sum32 (fun t => B7 m c t (ix2 0 x))]
  refine (runSum (N := cfg0.N) (P := 32) (by decide) (fun n h => (outsAt0 m c n h).2.2.1 (ix2 0 x)) (fun n h => B7 m c ⟨n, h⟩ (ix2 0 x))
    (fun n h h1 => left7_first m c ⟨n, h⟩ h1 x) (fun n h h1 => left7_next m c ⟨n, h⟩ h1 x) 0 31 (by decide) (pt 3 7).isLt).trans ?_
  refine Finset.sum_congr rfl fun j _ => ?_
  congr 2
  omega

theorem left8 (x : Fin 256) :
    (outsAt0 m c (pt 3 7).val (pt 3 7).isLt).2.2.2 (ix2 0 x) = ∑ b, ∑ i, B8 m c (pt b i) (ix2 0 x) := by
  rw [← sum32 (fun t => B8 m c t (ix2 0 x))]
  refine (runSum (N := cfg0.N) (P := 32) (by decide) (fun n h => (outsAt0 m c n h).2.2.2 (ix2 0 x)) (fun n h => B8 m c ⟨n, h⟩ (ix2 0 x))
    (fun n h h1 => left8_first m c ⟨n, h⟩ h1 x) (fun n h h1 => left8_next m c ⟨n, h⟩ h1 x) 0 31 (by decide) (pt 3 7).isLt).trans ?_
  refine Finset.sum_congr rfl fun j _ => ?_
  congr 2
  omega

/-! ## The arrays after the run -/

/-- The head of a column. -/
def hd (x : Fin 1024) : Fin 4 := ⟨x / 256, by omega⟩
/-- The column within its head. -/
def lo (x : Fin 1024) : Fin 256 := ⟨x % 256, by omega⟩

theorem col_hd_lo (x : Fin 1024) : col (hd x) (lo x) = x := Fin.ext (by simp only [col, hd, lo]; omega)

theorem final5 : (dats m 0 c).arrAt 5 cfg0.N
    = fun i : S4x2048x1024.Idx => gradQ (aq m c) (akv m c) (agq m c) (agk m c) (ao m c) (i 0) (hd (i 2)) (i 1) (lo (i 2)) := by
  refine (dats m 0 c).arrAt_eq_of_covers 5 _ (by decide +kernel) fun t hf y => ?_
  blk_simp
  rw [after0_5]
  obtain ⟨r, x, rfl⟩ : ∃ (r : Fin 256) (x : Fin 1024), y = ix3 0 r x := ⟨y 1, y 2, by
    funext a; match a with
    | ⟨0, _⟩ => exact Fin.ext (by have := (y 0).isLt; show (y 0).val = 0; have h : (y 0).val < 1 := this; omega)
    | ⟨1, _⟩ => rfl
    | ⟨2, _⟩ => rfl⟩
  refine (left5 m c t r x).trans ?_
  rw [← col_hd_lo x, B5_apply]
  have e : (win0_5.blk t).view.emb (ix3 0 r (col (hd x) (lo x))) = ix3 (tb t) (qpos (ti t) r) x := by
    rw [col_hd_lo]; blk_ext [ix5', tb, ti, qpos]
  rw [e]
  rfl

/-- The entry of the keys' and values' gradient: a key's column or a value's. -/
def entry6 (b : Fin 4) (r : Fin 256) (x : Fin 2048) : EReal :=
  if h : x.val < 1024 then
    ∑ i, blockK (aq m c) (akv m c) (agq m c) (agk m c) (ao m c) b (hd ⟨x, h⟩) r (lo ⟨x, h⟩) i
  else
    ∑ i, blockV (aq m c) (akv m c) (agq m c) (agk m c) (ao m c) b (hd ⟨x - 1024, by omega⟩) r (lo ⟨x - 1024, by omega⟩) i

theorem entry6_eq (b : Fin 4) (r : Fin 256) (x : Fin 2048) :
    ∑ i : Fin 8, B6 m c (pt b i) (ix2 r x) = entry6 m c b r x := by
  unfold entry6
  split
  next h =>
    refine Finset.sum_congr rfl fun i _ => ?_
    have e : x = kcol (hd ⟨x, h⟩) (lo ⟨x, h⟩) := Fin.ext (by simp only [kcol, hd, lo]; omega)
    rw [show B6 m c (pt b i) (ix2 r x) = B6 m c (pt b i) (ix2 r (kcol (hd ⟨x, h⟩) (lo ⟨x, h⟩))) from by rw [← e],
      B6_key, tb_pt, ti_pt]
  next h =>
    refine Finset.sum_congr rfl fun i _ => ?_
    have e : x = vcol (hd ⟨x - 1024, by omega⟩) (lo ⟨x - 1024, by omega⟩) := Fin.ext (by simp only [vcol, hd, lo]; omega)
    rw [show B6 m c (pt b i) (ix2 r x) = B6 m c (pt b i) (ix2 r (vcol (hd ⟨x - 1024, by omega⟩) (lo ⟨x - 1024, by omega⟩))) from by rw [← e],
      B6_value, tb_pt, ti_pt]

theorem final6 : (dats m 0 c).arrAt 6 cfg0.N = fun i : S4x256x2048.Idx => entry6 m c (i 0) (i 1) (i 2) := by
  refine (dats m 0 c).arrAt_eq_of_covers 6 _ (by decide +kernel) fun t hf y => ?_
  blk_simp
  rw [after0_6]
  obtain ⟨r, x, rfl⟩ : ∃ (r : Fin 256) (x : Fin 2048), y = ix3 0 r x := ⟨y 1, y 2, by
    funext a; match a with
    | ⟨0, _⟩ => exact Fin.ext (by have := (y 0).isLt; show (y 0).val = 0; have h : (y 0).val < 1 := this; omega)
    | ⟨1, _⟩ => rfl
    | ⟨2, _⟩ => rfl⟩
  have h7 : t.val % 8 = 7 := (flush0_6 t).mp hf
  have ht : t = pt (tb t) 7 := Fin.ext (by have := lt32 t; simp only [pt, tb]; omega)
  have e : (win0_6.blk t).view.emb (ix3 0 r x) = ix3 (tb t) r x := by
    blk_ext [ix6', tb]
  rw [e]
  show (outsAt0 m c t.val t.isLt).2.1 (ix3 0 r x) = entry6 m c (tb t) r x
  rw [← entry6_eq, ← left6, ← ht]

theorem final7 : (dats m 0 c).arrAt 7 cfg0.N
    = fun i : S1x256.Idx => ∑ b, ∑ j, blockGQ (aq m c) (akv m c) (agq m c) (agk m c) (ao m c) (i 1) b j := by
  refine (dats m 0 c).arrAt_eq_of_covers 7 _ (by decide +kernel) fun t hf y => ?_
  blk_simp
  rw [after0_7]
  obtain ⟨x, rfl⟩ : ∃ (x : Fin 256), y = ix2 0 x := ⟨y 1, by
    funext a; match a with
    | ⟨0, _⟩ => exact Fin.ext (by have := (y 0).isLt; show (y 0).val = 0; have h : (y 0).val < 1 := this; omega)
    | ⟨1, _⟩ => rfl⟩
  have h7 : t.val % 32 = 31 := (flush0_7 t).mp hf
  have ht : t = pt 3 7 := Fin.ext (by have := lt32 t; simp only [pt]; omega)
  have e : (win0_7.blk t).view.emb (ix2 0 x) = ix2 0 x := by
    blk_ext [ix7']
  rw [e, ht]
  refine (left7 m c x).trans ?_
  simp only [B7_apply, tb_pt, ti_pt]
  rfl

theorem final8 : (dats m 0 c).arrAt 8 cfg0.N
    = fun i : S1x256.Idx => ∑ b, ∑ j, blockGK (aq m c) (akv m c) (agq m c) (agk m c) (ao m c) (i 1) b j := by
  refine (dats m 0 c).arrAt_eq_of_covers 8 _ (by decide +kernel) fun t hf y => ?_
  blk_simp
  rw [after0_8]
  obtain ⟨x, rfl⟩ : ∃ (x : Fin 256), y = ix2 0 x := ⟨y 1, by
    funext a; match a with
    | ⟨0, _⟩ => exact Fin.ext (by have := (y 0).isLt; show (y 0).val = 0; have h : (y 0).val < 1 := this; omega)
    | ⟨1, _⟩ => rfl⟩
  have h7 : t.val % 32 = 31 := (flush0_8 t).mp hf
  have ht : t = pt 3 7 := Fin.ext (by have := lt32 t; simp only [pt]; omega)
  have e : (win0_8.blk t).view.emb (ix2 0 x) = ix2 0 x := by
    blk_ext [ix8']
  rw [e, ht]
  refine (left8 m c x).trans ?_
  simp only [B8_apply, tb_pt, ti_pt]
  rfl

end Cert.KernelIdeal.Head

end
-- ==== Proof.RefGrads.lean ====
/-
  The reference's four results read at an entry: the gradients of the queries, of the keys and values, and of the two
  gains.
-/
module

public import proofs.«01_k».proof.Proof.RefRows

@[expose] public section

set_option maxRecDepth 16384

noncomputable section

namespace Cert.ReferenceIdeal.Rows

open Idealize.ShloMosaic Idealize.SL.Sem Cert.ReferenceIdeal Cert.ReferenceIdeal.Gen Cert.ReferenceIdeal.Read Cert.Attn
open scoped BigOperators

/-- The host's sum over the first three of four axes. -/
theorem sum_front {n0 n1 n2 n3 : ℕ} (h : (⟨4, ![n0, n1, n2, n3]⟩ : Shape).ReducesTo [0, 1, 2] ⟨1, ![n3]⟩)
    (v : (⟨4, ![n0, n1, n2, n3]⟩ : Shape).Idx → EReal) (init : EReal) (k : Fin n3) :
    Ideal.hostReduceAdd h v init (ix1 k) = init + ∑ a, ∑ b, ∑ c, v (ix4 a b c k) := by
  unfold Ideal.hostReduceAdd
  refine congrArg (init + ·) ((Finset.sum_filter_eq_sum_of_fiber _ (fun p : Fin n0 × Fin n1 × Fin n2 =>
    (ix4 p.1 p.2.1 p.2.2 k : (⟨4, ![n0, n1, n2, n3]⟩ : Shape).Idx))
    (fun _ _ e => Prod.ext (congrFun e 0) (Prod.ext (congrFun e 1) (congrFun e 2))) (fun i => ⟨fun e => ?_, ?_⟩) v).trans ?_)
  · refine ⟨(i 0, i 1, i 2), ?_⟩
    funext a
    apply Fin.ext
    match a with
    | ⟨0, _⟩ => rfl
    | ⟨1, _⟩ => rfl
    | ⟨2, _⟩ => rfl
    | ⟨3, _⟩ => exact (congrArg Fin.val (congrFun e ⟨0, Nat.one_pos⟩)).symm
  · rintro ⟨p, rfl⟩
    funext b
    apply Fin.ext
    match b with
    | ⟨0, _⟩ => rfl
  · simp only [Fintype.sum_prod_type]

variable (q : Arr 4 2048 1024) (kv : Arr 4 256 2048) (gq gk : Gain) (o : Arr 4 2048 1024)

/-! ## The gains -/

theorem front_q (v : FVec Ideal S4x2048x4x256 .f32) (a : FVec Ideal S_ .f32) (k : Fin 256) :
    Host.reduceAdd v a reducesTo_S4x2048x4x256_S256_d0_1_2 h_S_ (ix1 k)
      = a (Shape.Idx.first h_S_) + ∑ b, ∑ s, ∑ h, v (ix4 b s h k) :=
  sum_front _ v _ k

theorem front_k (v : FVec Ideal S4x256x4x256 .f32) (a : FVec Ideal S_ .f32) (k : Fin 256) :
    Host.reduceAdd v a reducesTo_S4x256x4x256_S256_d0_1_2 h_S_ (ix1 k)
      = a (Shape.Idx.first h_S_) + ∑ b, ∑ m, ∑ h, v (ix4 b m h k) :=
  sum_front _ v _ k

theorem front_one (v : FVec Ideal S1x1x1x256 .f32) (a : FVec Ideal S_ .f32) (k : Fin 256) :
    Host.reduceAdd v a reducesTo_S1x1x1x256_S256_d0_1_2 h_S_ (ix1 k)
      = a (Shape.Idx.first h_S_) + v (ix4 0 0 0 k) :=
  (sum_front _ v _ k).trans (by simp only [Finset.univ_unique, Finset.sum_singleton]; rfl)

theorem lift_one (v : FVec Ideal S256 .f32) (k : Fin 256) :
    shapeCast S1x1x1x256 v shapeCasts_S256_S1x1x1x256 (ix4 0 0 0 k) = v (ix1 k) := by
  pointwise

theorem widen_one (v : FVec Ideal S256 .f32) (z : Fin 1) (k : Fin 256) :
    broadcastInDim S1x256 ![1] bcast_S256_S1x256_1 v (ix2 z k) = v (ix1 k) := by
  pointwise

theorem zero_word : Ideal.ofBits .f32 0x00000000#32 = (0 : EReal) := by
  pointwise

theorem gain_q_at (z : Fin 1) (k : Fin 256) :
    val_main_v144 (F := Ideal) q kv gq gk o (ix2 z k) = gradGQ q kv gq gk o k := by
  have hn := nr_q q
  have hd := dq_at q kv gq gk o
  unfold val_main_v144 val_main_v127 val_main_v124 val_main_v123 val_main_v122
  rw [widen_one, front_one, lift_one, front_q]
  have e1 : val_main_cst_28 (F := Ideal) (Shape.Idx.first h_S_) = 0 := zero_word
  have e2 : val_main_cst_29 (F := Ideal) (Shape.Idx.first h_S_) = 0 := zero_word
  rw [e1, e2, zero_add, zero_add]
  refine Finset.sum_congr rfl fun b _ => Finset.sum_comm.trans ?_
  refine Finset.sum_congr rfl fun h _ => Finset.sum_congr rfl fun s _ => ?_
  exact congrArg₂ (· * ·) (hn b s h k) (hd b s h k)

theorem gain_k_at (z : Fin 1) (k : Fin 256) :
    val_main_v143 (F := Ideal) q kv gq gk o (ix2 z k) = gradGK q kv gq gk o k := by
  have hn := nr_k kv
  have hd := dk_at q kv gq gk o
  unfold val_main_v143 val_main_v104 val_main_v101 val_main_v100 val_main_v99
  rw [widen_one, front_one, lift_one, front_k]
  have e1 : val_main_cst_22 (F := Ideal) (Shape.Idx.first h_S_) = 0 := zero_word
  have e2 : val_main_cst_23 (F := Ideal) (Shape.Idx.first h_S_) = 0 := zero_word
  rw [e1, e2, zero_add, zero_add]
  refine Finset.sum_congr rfl fun b _ => Finset.sum_comm.trans ?_
  refine Finset.sum_congr rfl fun h _ => Finset.sum_congr rfl fun m _ => ?_
  exact congrArg₂ (· * ·) (hn b m h k) (hd b m h k)

/-! ## The queries -/

theorem gain_q' (b : Fin 4) (s : Fin 2048) (h : Fin 4) (k : Fin 256) :
    val_main_v125 (F := Ideal) gq (ix4 b s h k) = gr gq k := by
  pointwise [val_main_v125, val_main_v16, val_main_v0]; rfl

theorem gained_q (b : Fin 4) (s : Fin 2048) (h : Fin 4) (k : Fin 256) :
    val_main_v126 (F := Ideal) q kv gq gk o (ix4 b s h k) = aqh q kv gq gk o b h s k * gr gq k := by
  have hd := dq_at q kv gq gk o
  unfold val_main_v126
  generalize val_main_v96 (F := Ideal) q kv gq gk o = D at hd ⊢
  pointwise
  rw [hd, gain_q']

theorem tail_q (b : Fin 4) (s : Fin 2048) (h : Fin 4) (k : Fin 256) :
    val_main_v137 (F := Ideal) q kv gq gk o (ix4 b s h k) = tl (qr q b h s) (gr gq) (aqh q kv gq gk o b h s) := by
  have hx := head_q q
  have hg := gained_q q kv gq gk o
  have hi := di_q q
  unfold val_main_v137 val_main_v136 val_main_v135 val_main_v133 val_main_v130 val_main_v129 val_main_v128
  generalize val_main_v126 (F := Ideal) q kv gq gk o = D at hg ⊢
  generalize val_main_v2 (F := Ideal) q = X at hx ⊢
  generalize val_main_v13 (F := Ideal) q = I at hi ⊢
  pointwise [val_main_v134, val_main_cst_30, val_main_cst_31, val_main_cst_32]
  simp only [hx, hg, hi, Finset.univ_unique, Finset.sum_singleton]; rfl

theorem query_at (b : Fin 4) (s : Fin 2048) (h : Fin 4) (k : Fin 256) :
    val_main_v141 (F := Ideal) q kv gq gk o (ix4 b s h k) = gradQ q kv gq gk o b h s k := by
  have hx := head_q q
  have hg := gained_q q kv gq gk o
  have ht := tail_q q kv gq gk o
  have hr := ri_q q
  unfold val_main_v141 val_main_v140 val_main_v139 val_main_v138 val_main_v132 val_main_v131
  generalize val_main_v126 (F := Ideal) q kv gq gk o = D at hg ⊢
  generalize val_main_v137 (F := Ideal) q kv gq gk o = T at ht ⊢
  generalize val_main_v2 (F := Ideal) q = X at hx ⊢
  generalize val_main_v10 (F := Ideal) q = I at hr ⊢
  pointwise
  simp only [hx, hg, ht, hr]; rfl

/-- A column's head and its place in the head. -/
theorem query_col (b : Fin 4) (s : Fin 2048) (x : Fin 1024) :
    val_main_v145 (F := Ideal) q kv gq gk o (ix3 b s x)
      = gradQ q kv gq gk o b ⟨x / 256, by omega⟩ s ⟨x % 256, by omega⟩ := by
  have h := query_at q kv gq gk o
  unfold val_main_v145 val_main_v142
  generalize val_main_v141 (F := Ideal) q kv gq gk o = D at h ⊢
  pointwise
  rw [h]

/-! ## The keys and the values -/

theorem gain_k' (b : Fin 4) (m : Fin 256) (h : Fin 4) (k : Fin 256) :
    val_main_v102 (F := Ideal) gk (ix4 b m h k) = gr gk k := by
  pointwise [val_main_v102, val_main_v34, val_main_v1]; rfl

theorem gained_k (b : Fin 4) (m : Fin 256) (h : Fin 4) (k : Fin 256) :
    val_main_v103 (F := Ideal) q kv gq gk o (ix4 b m h k) = (∑ s, akp q kv gq gk o b h m s k) * gr gk k := by
  have hd := dk_at q kv gq gk o
  unfold val_main_v103
  generalize val_main_v94 (F := Ideal) q kv gq gk o = D at hd ⊢
  pointwise
  rw [hd, gain_k']

theorem tail_k (b : Fin 4) (m : Fin 256) (h : Fin 4) (k : Fin 256) :
    val_main_v114 (F := Ideal) q kv gq gk o (ix4 b m h k)
      = tl (kr kv b h m) (gr gk) (fun d => ∑ s, akp q kv gq gk o b h m s d) := by
  have hx := head_k kv
  have hg := gained_k q kv gq gk o
  have hi := di_k kv
  unfold val_main_v114 val_main_v113 val_main_v112 val_main_v110 val_main_v107 val_main_v106 val_main_v105
  generalize val_main_v103 (F := Ideal) q kv gq gk o = D at hg ⊢
  generalize val_main_v20 (F := Ideal) kv = X at hx ⊢
  generalize val_main_v31 (F := Ideal) kv = I at hi ⊢
  pointwise [val_main_v111, val_main_cst_24, val_main_cst_25, val_main_cst_26]
  simp only [hx, hg, hi, Finset.univ_unique, Finset.sum_singleton]; rfl

theorem key_at (b : Fin 4) (m : Fin 256) (h : Fin 4) (k : Fin 256) :
    val_main_v118 (F := Ideal) q kv gq gk o (ix4 b m h k) = gradK q kv gq gk o b h m k := by
  have hx := head_k kv
  have hg := gained_k q kv gq gk o
  have ht := tail_k q kv gq gk o
  have hr := ri_k kv
  unfold val_main_v118 val_main_v117 val_main_v116 val_main_v115 val_main_v109 val_main_v108
  generalize val_main_v103 (F := Ideal) q kv gq gk o = D at hg ⊢
  generalize val_main_v114 (F := Ideal) q kv gq gk o = T at ht ⊢
  generalize val_main_v20 (F := Ideal) kv = X at hx ⊢
  generalize val_main_v28 (F := Ideal) kv = I at hr ⊢
  pointwise
  simp only [hx, hg, ht, hr]; rfl

theorem key_value_col (b : Fin 4) (m : Fin 256) (x : Fin 2048) :
    val_main_v121 (F := Ideal) q kv gq gk o (ix3 b m x)
      = if h : (x : ℕ) < 1024 then gradK q kv gq gk o b ⟨x / 256, by omega⟩ m ⟨x % 256, by omega⟩
        else gradV q kv gq gk o b ⟨(x - 1024) / 256, by omega⟩ m ⟨(x - 1024) % 256, by omega⟩ := by
  have hk := key_at q kv gq gk o
  have hv := dv_at q kv gq gk o
  unfold val_main_v121 val_main_v120 val_main_v119 val_main_v98 val_main_v97
  generalize val_main_v118 (F := Ideal) q kv gq gk o = D at hk ⊢
  generalize val_main_v78 (F := Ideal) q kv gq gk o = E at hv ⊢
  pointwise [val_main_cst_21, val_main_cst_27]
  by_cases h : (x : ℕ) < 1024
  · rw [dif_pos h, dif_pos h, dif_neg (by omega), hk, zero_add]
  · rw [dif_neg h, dif_neg h, dif_pos (by omega), hv, add_zero]

end Cert.ReferenceIdeal.Rows

end
-- ==== Proof.AttnClaims.lean ====
/-
  The claims about the gradient of the attention: the frames, and the kernel's four results against the reference's.
-/
module

public import proofs.«01_k».proof.Proof.Finite
public import proofs.«01_k».proof.Proof.Blocks
public import proofs.«01_k».proof.Proof.RefGrads
public import proofs.«01_k».proof.Proof.Gen.Kernel.Frame
public import proofs.«01_k».proof.Proof.Gen.KernelIdeal.Value
public import Idealize.ShloMosaic.Adequacy
public import Idealize.ShloMosaic.Init

@[expose] public section

noncomputable section

namespace Cert.AttnClaims

open Idealize.ShloMosaic Idealize.SL.Sem Cert.Attn

theorem frame_reference : quiescent_ReferenceIdeal (hReferenceIdeal := ReferenceIdeal.Gen.facts) := fun m g _ =>
  (θ_run (ReferenceIdeal.defs (F := Ideal)) _ _).mono
    (fun r h => ⟨fun c => (h c).2.2.2.2, sem_eq_zero_of_no_sems (by decide) r.2⟩)
    (ReferenceIdeal.Value.run (F := Ideal) m g)

section Results

variable (q : Arr 4 2048 1024) (kv : Arr 4 256 2048) (gq gk : Gain) (o : Arr 4 2048 1024)

/-- The queries' gradient as an array. -/
def outQ : Arr 4 2048 1024 := fun i => gradQ q kv gq gk o (i 0) (KernelIdeal.Head.hd (i 2)) (i 1) (KernelIdeal.Head.lo (i 2))
/-- The keys' and values' gradient as an array. -/
def outKV : Arr 4 256 2048 := fun i =>
  if h : (i 2).val < 1024 then
    gradK q kv gq gk o (i 0) (KernelIdeal.Head.hd ⟨i 2, h⟩) (i 1) (KernelIdeal.Head.lo ⟨i 2, h⟩)
  else
    gradV q kv gq gk o (i 0) (KernelIdeal.Head.hd ⟨(i 2).val - 1024, by have h : (i 2).val < 2048 := (i 2).isLt; omega⟩) (i 1)
      (KernelIdeal.Head.lo ⟨(i 2).val - 1024, by have h : (i 2).val < 2048 := (i 2).isLt; omega⟩)
/-- The queries' gain's gradient as an array. -/
def outGQ : Gain := fun i => gradGQ q kv gq gk o (i 1)
/-- The keys' gain's gradient as an array. -/
def outGK : Gain := fun i => gradGK q kv gq gk o (i 1)

end Results

section Kernel

open Cert.KernelIdeal Cert.KernelIdeal.Gen Cert.KernelIdeal.Head

variable (m : (ℓ : Loc nD τ sig) → Buf (Elt Ideal) ℓ) (c : Dev nD)

theorem kernel_q : (dats m 0 c).arrAt 5 cfg0.N = outQ (aq m c) (akv m c) (agq m c) (agk m c) (ao m c) := final5 m c

theorem kernel_kv (F : Attn.Finite (akv m c) (agq m c) (agk m c) (ao m c)) :
    (dats m 0 c).arrAt 6 cfg0.N = outKV (aq m c) (akv m c) (agq m c) (agk m c) (ao m c) := by
  rw [final6]
  funext i
  unfold entry6 outKV
  split
  · exact sum_blockK F _ _ _ _
  · exact sum_blockV _ _ _ _ _ _ _ _ _

theorem kernel_gq : (dats m 0 c).arrAt 7 cfg0.N = outGQ (aq m c) (akv m c) (agq m c) (agk m c) (ao m c) := by
  rw [final7]; exact funext fun i => sum_blockGQ _ _ _ _ _ _

theorem kernel_gk (F : Attn.Finite (akv m c) (agq m c) (agk m c) (ao m c)) :
    (dats m 0 c).arrAt 8 cfg0.N = outGK (aq m c) (akv m c) (agq m c) (agk m c) (ao m c) := by
  rw [final8]; exact funext fun i => sum_blockGK F _

end Kernel

section Reference

open Cert.ReferenceIdeal Cert.ReferenceIdeal.Read

variable (q : Arr 4 2048 1024) (kv : Arr 4 256 2048) (gq gk : Gain) (o : Arr 4 2048 1024)

theorem reference_q : val_main_v145 (F := Ideal) q kv gq gk o = outQ q kv gq gk o := by
  funext i
  obtain ⟨a, b, x, rfl⟩ : ∃ a b x, i = ix3 a b x := ⟨i 0, i 1, i 2, by
    funext a; match a with | ⟨0, _⟩ => rfl | ⟨1, _⟩ => rfl | ⟨2, _⟩ => rfl⟩
  exact Rows.query_col q kv gq gk o a b x

theorem reference_kv : val_main_v121 (F := Ideal) q kv gq gk o = outKV q kv gq gk o := by
  funext i
  obtain ⟨a, b, x, rfl⟩ : ∃ a b x, i = ix3 a b x := ⟨i 0, i 1, i 2, by
    funext a; match a with | ⟨0, _⟩ => rfl | ⟨1, _⟩ => rfl | ⟨2, _⟩ => rfl⟩
  exact Rows.key_value_col q kv gq gk o a b x

theorem reference_gq : val_main_v144 (F := Ideal) q kv gq gk o = outGQ q kv gq gk o := by
  funext i
  obtain ⟨a, x, rfl⟩ : ∃ a x, i = ix2 a x := ⟨i 0, i 1, by
    funext a; match a with | ⟨0, _⟩ => rfl | ⟨1, _⟩ => rfl⟩
  exact Rows.gain_q_at q kv gq gk o a x

theorem reference_gk : val_main_v143 (F := Ideal) q kv gq gk o = outGK q kv gq gk o := by
  funext i
  obtain ⟨a, x, rfl⟩ : ∃ a x, i = ix2 a x := ⟨i 0, i 1, by
    funext a; match a with | ⟨0, _⟩ => rfl | ⟨1, _⟩ => rfl⟩
  exact Rows.gain_k_at q kv gq gk o a x

end Reference

theorem algebraic [hp : Cert.Pre_finite.Facts] :
    algebraic_KernelIdeal_ReferenceIdeal_pre_finite (hKernelIdeal := KernelIdeal.Gen.facts)
      (hReferenceIdeal := ReferenceIdeal.Gen.facts) (hPre_finite := hp) := by
  intro m g m' g' hpre hagree
  have hF : ∀ c, Attn.Finite (KernelIdeal.Head.akv m c) (KernelIdeal.Head.agq m c) (KernelIdeal.Head.agk m c)
      (KernelIdeal.Head.ao m c) := fun c => by
    obtain ⟨h1, h2, h3, h4⟩ := hpre c
    exact Cert.Finite.finite h1 h2 h3 h4
  refine ⟨fun c => outQ (KernelIdeal.Head.aq m c) (KernelIdeal.Head.akv m c) (KernelIdeal.Head.agq m c) (KernelIdeal.Head.agk m c) (KernelIdeal.Head.ao m c),
    fun c => outKV (KernelIdeal.Head.aq m c) (KernelIdeal.Head.akv m c) (KernelIdeal.Head.agq m c) (KernelIdeal.Head.agk m c) (KernelIdeal.Head.ao m c),
    fun c => outGQ (KernelIdeal.Head.aq m c) (KernelIdeal.Head.akv m c) (KernelIdeal.Head.agq m c) (KernelIdeal.Head.agk m c) (KernelIdeal.Head.ao m c),
    fun c => outGK (KernelIdeal.Head.aq m c) (KernelIdeal.Head.akv m c) (KernelIdeal.Head.agq m c) (KernelIdeal.Head.agk m c) (KernelIdeal.Head.ao m c),
    ?_, ?_⟩
  · exact (θ_run KernelIdeal.defs _ _).mono (fun r h c =>
      ⟨(h c).1.trans (kernel_q m c), (h c).2.1.trans (kernel_kv m c (hF c)), (h c).2.2.1.trans (kernel_gq m c),
        (h c).2.2.2.1.trans (kernel_gk m c (hF c)), (h c).2.2.2.2⟩) (KernelIdeal.Value.run_blocks m g)
  · refine (θ_run ReferenceIdeal.defs _ _).mono (fun r h c => ?_) (ReferenceIdeal.Value.run (F := Ideal) m' g')
    obtain ⟨e0, e1, e2, e3, e4⟩ := hagree c
    have ea : ∀ V : (q : Arr 4 2048 1024) → (kv : Arr 4 256 2048) → (gq gk : Gain) → (o : Arr 4 2048 1024) → Prop,
        V (KernelIdeal.Head.aq m c) (KernelIdeal.Head.akv m c) (KernelIdeal.Head.agq m c) (KernelIdeal.Head.agk m c) (KernelIdeal.Head.ao m c) →
        V (m' ((c.tc : Thread ReferenceIdeal.nD ReferenceIdeal.τ).loc ReferenceIdeal.main_arg0)) (m' ((c.tc : Thread ReferenceIdeal.nD ReferenceIdeal.τ).loc ReferenceIdeal.main_arg1))
          (m' ((c.tc : Thread ReferenceIdeal.nD ReferenceIdeal.τ).loc ReferenceIdeal.main_arg2)) (m' ((c.tc : Thread ReferenceIdeal.nD ReferenceIdeal.τ).loc ReferenceIdeal.main_arg3))
          (m' ((c.tc : Thread ReferenceIdeal.nD ReferenceIdeal.τ).loc ReferenceIdeal.main_arg4)) := fun V hV => by
      rw [e0, e1, e2, e3, e4]; exact hV
    refine ⟨(h c).1.trans ((ReferenceIdeal.Read.val_main_v145_eq _).trans (ea (fun q kv gq gk o => ReferenceIdeal.Read.val_main_v145 (F := Ideal) q kv gq gk o = _) (reference_q _ _ _ _ _))),
      (h c).2.1.trans ((ReferenceIdeal.Read.val_main_v121_eq _).trans (ea (fun q kv gq gk o => ReferenceIdeal.Read.val_main_v121 (F := Ideal) q kv gq gk o = _) (reference_kv _ _ _ _ _))),
      (h c).2.2.1.trans ((ReferenceIdeal.Read.val_main_v144_eq _).trans (ea (fun q kv gq gk o => ReferenceIdeal.Read.val_main_v144 (F := Ideal) q kv gq gk o = _) (reference_gq _ _ _ _ _))),
      (h c).2.2.2.1.trans ((ReferenceIdeal.Read.val_main_v143_eq _).trans (ea (fun q kv gq gk o => ReferenceIdeal.Read.val_main_v143 (F := Ideal) q kv gq gk o = _) (reference_gk _ _ _ _ _))),
      (h c).2.2.2.2⟩

end Cert.AttnClaims

end
-- ==== Proof.lean ====
/-
  The certificate: the claims about every program, proved in the modules imported here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DAct.Frame
public import proofs.«01_k».proof.Proof.Gen.DActIdeal.Frame
public import proofs.«01_k».proof.Proof.Gen.DActIdeal.Value
public import proofs.«01_k».proof.Proof.Gen.DActRefIdeal.Run
public import proofs.«01_k».proof.Proof.Gen.DActRefIdeal.Read
public import proofs.«01_k».proof.Proof.Gen.DwDown.Frame
public import proofs.«01_k».proof.Proof.Gen.DwDownIdeal.Frame
public import proofs.«01_k».proof.Proof.Gen.DwDownIdeal.Value
public import proofs.«01_k».proof.Proof.Gen.DwDownRefIdeal.Run
public import proofs.«01_k».proof.Proof.Gen.DwDownRefIdeal.Read
public import proofs.«01_k».proof.Proof.Gen.DHn.Frame
public import proofs.«01_k».proof.Proof.Gen.DHnIdeal.Frame
public import proofs.«01_k».proof.Proof.Gen.DHnIdeal.Value
public import proofs.«01_k».proof.Proof.Gen.DHnRefIdeal.Run
public import proofs.«01_k».proof.Proof.Gen.DHnRefIdeal.Read
public import proofs.«01_k».proof.Proof.Gen.DwUp.Frame
public import proofs.«01_k».proof.Proof.Gen.DwUpIdeal.Frame
public import proofs.«01_k».proof.Proof.Gen.DwUpIdeal.Value
public import proofs.«01_k».proof.Proof.Gen.DwUpRefIdeal.Run
public import proofs.«01_k».proof.Proof.Gen.DwUpRefIdeal.Read
public import proofs.«01_k».proof.Proof.Gen.DwSq.Frame
public import proofs.«01_k».proof.Proof.Gen.DwSqIdeal.Frame
public import proofs.«01_k».proof.Proof.Gen.DwSqIdeal.Value
public import proofs.«01_k».proof.Proof.Gen.DwSqRefIdeal.Run
public import proofs.«01_k».proof.Proof.Gen.DwSqRefIdeal.Read
public import proofs.«01_k».proof.Proof.Gen.DwInSq.Frame
public import proofs.«01_k».proof.Proof.Gen.DwInSqIdeal.Frame
public import proofs.«01_k».proof.Proof.Gen.DwInSqIdeal.Value
public import proofs.«01_k».proof.Proof.Gen.DwInSqRefIdeal.Run
public import proofs.«01_k».proof.Proof.Gen.DwInSqRefIdeal.Read
public import proofs.«01_k».proof.Proof.Gen.DwInQkv.Frame
public import proofs.«01_k».proof.Proof.Gen.DwInQkvIdeal.Frame
public import proofs.«01_k».proof.Proof.Gen.DwInQkvIdeal.Value
public import proofs.«01_k».proof.Proof.Gen.DwInQkvRefIdeal.Run
public import proofs.«01_k».proof.Proof.Gen.DwInQkvRefIdeal.Read
public import proofs.«01_k».proof.Proof.Gen.DwInGate.Frame
public import proofs.«01_k».proof.Proof.Gen.DwInGateIdeal.Frame
public import proofs.«01_k».proof.Proof.Gen.DwInGateIdeal.Value
public import proofs.«01_k».proof.Proof.Gen.DwInGateRefIdeal.Run
public import proofs.«01_k».proof.Proof.Gen.DwInGateRefIdeal.Read
public import proofs.«01_k».proof.Proof.Gen.DwInAb.Frame
public import proofs.«01_k».proof.Proof.Gen.DwInAbIdeal.Frame
public import proofs.«01_k».proof.Proof.Gen.DwInAbIdeal.Value
public import proofs.«01_k».proof.Proof.Gen.DwInAbRefIdeal.Run
public import proofs.«01_k».proof.Proof.Gen.DwInAbRefIdeal.Read
public import proofs.«01_k».proof.Proof.Gen.DxSq.Frame
public import proofs.«01_k».proof.Proof.Gen.DxSqIdeal.Frame
public import proofs.«01_k».proof.Proof.Gen.DxSqIdeal.Value
public import proofs.«01_k».proof.Proof.Gen.DxSqRefIdeal.Run
public import proofs.«01_k».proof.Proof.Gen.DxSqRefIdeal.Read
public import proofs.«01_k».proof.Proof.Gen.DXo.Frame
public import proofs.«01_k».proof.Proof.Gen.DXoIdeal.Frame
public import proofs.«01_k».proof.Proof.Gen.DXoIdeal.Value
public import proofs.«01_k».proof.Proof.Gen.DXoRefIdeal.Run
public import proofs.«01_k».proof.Proof.Gen.DXoRefIdeal.Read
public import proofs.«01_k».proof.Proof.Gen.DMn.Frame
public import proofs.«01_k».proof.Proof.Gen.DMnIdeal.Frame
public import proofs.«01_k».proof.Proof.Gen.DMnIdeal.Value
public import proofs.«01_k».proof.Proof.Gen.DMnRefIdeal.Run
public import proofs.«01_k».proof.Proof.Gen.DMnRefIdeal.Read
public import proofs.«01_k».proof.Proof.Gen.DwXkv.Frame
public import proofs.«01_k».proof.Proof.Gen.DwXkvIdeal.Frame
public import proofs.«01_k».proof.Proof.Gen.DwXkvIdeal.Value
public import proofs.«01_k».proof.Proof.Gen.DwXkvRefIdeal.Run
public import proofs.«01_k».proof.Proof.Gen.DwXkvRefIdeal.Read
public import proofs.«01_k».proof.Proof.Gen.ProjQkv.Frame
public import proofs.«01_k».proof.Proof.Gen.ProjQkvIdeal.Frame
public import proofs.«01_k».proof.Proof.Gen.ProjQkvIdeal.Value
public import proofs.«01_k».proof.Proof.Gen.ProjQkvRefIdeal.Run
public import proofs.«01_k».proof.Proof.Gen.ProjQkvRefIdeal.Read
public import proofs.«01_k».proof.Proof.Gen.ProjGate.Frame
public import proofs.«01_k».proof.Proof.Gen.ProjGateIdeal.Frame
public import proofs.«01_k».proof.Proof.Gen.ProjGateIdeal.Value
public import proofs.«01_k».proof.Proof.Gen.ProjGateRefIdeal.Run
public import proofs.«01_k».proof.Proof.Gen.ProjGateRefIdeal.Read
public import proofs.«01_k».proof.Proof.Gen.ProjZ.Frame
public import proofs.«01_k».proof.Proof.Gen.ProjZIdeal.Frame
public import proofs.«01_k».proof.Proof.Gen.ProjZIdeal.Value
public import proofs.«01_k».proof.Proof.Gen.ProjZRefIdeal.Run
public import proofs.«01_k».proof.Proof.Gen.ProjZRefIdeal.Read
public import proofs.«01_k».proof.Proof.Gen.ProjAb.Frame
public import proofs.«01_k».proof.Proof.Gen.ProjAbIdeal.Frame
public import proofs.«01_k».proof.Proof.Gen.ProjAbIdeal.Value
public import proofs.«01_k».proof.Proof.Gen.ProjAbRefIdeal.Run
public import proofs.«01_k».proof.Proof.Gen.ProjAbRefIdeal.Read
public import proofs.«01_k».proof.Proof.Gen.XattnKv.Frame
public import proofs.«01_k».proof.Proof.Gen.XattnKvIdeal.Frame
public import proofs.«01_k».proof.Proof.Gen.XattnKvIdeal.Value
public import proofs.«01_k».proof.Proof.Gen.XattnKvRefIdeal.Run
public import proofs.«01_k».proof.Proof.Gen.XattnKvRefIdeal.Read
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.Gen.ProjSq.Frame
public import proofs.«01_k».proof.Proof.Gen.ProjSqIdeal.Frame
public import proofs.«01_k».proof.Proof.Gen.ProjSqIdeal.Value
public import proofs.«01_k».proof.Proof.Gen.ProjSqRefIdeal.Run
public import proofs.«01_k».proof.Proof.Gen.ProjSqRefIdeal.Read
public import proofs.«01_k».proof.Proof.DActClaims
public import proofs.«01_k».proof.Proof.DwDownClaims
public import proofs.«01_k».proof.Proof.DHnClaims
public import proofs.«01_k».proof.Proof.DwUpClaims
public import proofs.«01_k».proof.Proof.DwSqClaims
public import proofs.«01_k».proof.Proof.DwInSqClaims
public import proofs.«01_k».proof.Proof.DwInQkvClaims
public import proofs.«01_k».proof.Proof.DwInGateClaims
public import proofs.«01_k».proof.Proof.DwInAbClaims
public import proofs.«01_k».proof.Proof.DxSqClaims
public import proofs.«01_k».proof.Proof.DXoClaims
public import proofs.«01_k».proof.Proof.DMnClaims
public import proofs.«01_k».proof.Proof.DwXkvClaims
public import proofs.«01_k».proof.Proof.ProjQkvClaims
public import proofs.«01_k».proof.Proof.ProjGateClaims
public import proofs.«01_k».proof.Proof.ProjZClaims
public import proofs.«01_k».proof.Proof.ProjAbClaims
public import proofs.«01_k».proof.Proof.XattnKvClaims
public import proofs.«01_k».proof.Proof.FfnUpClaims
public import proofs.«01_k».proof.Proof.ProjSqClaims
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.LossDown.Frame
public import proofs.«01_k».proof.Proof.Gen.LossDownIdeal.Frame
public import proofs.«01_k».proof.Proof.Gen.LossDownIdeal.Value
public import proofs.«01_k».proof.Proof.Gen.LossDownRefIdeal.Run
public import proofs.«01_k».proof.Proof.Gen.LossDownRefIdeal.Read
public import proofs.«01_k».proof.Proof.Gen.NormBwd.Frame
public import proofs.«01_k».proof.Proof.Gen.NormBwdIdeal.Frame
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.NormMixBwd.Frame
public import proofs.«01_k».proof.Proof.Gen.NormMixBwdIdeal.Frame
public import proofs.«01_k».proof.Proof.Gen.NormMixBwdIdeal.Value
public import proofs.«01_k».proof.Proof.Gen.NormMixBwdRefIdeal.Run
public import proofs.«01_k».proof.Proof.Gen.NormMixBwdRefIdeal.Read
public import proofs.«01_k».proof.Proof.Gen.NormMemBwd.Frame
public import proofs.«01_k».proof.Proof.Gen.NormMemBwdIdeal.Frame
public import proofs.«01_k».proof.Proof.Gen.NormMemBwdIdeal.Value
public import proofs.«01_k».proof.Proof.Gen.NormMemBwdRefIdeal.Run
public import proofs.«01_k».proof.Proof.Gen.NormMemBwdRefIdeal.Read
public import proofs.«01_k».proof.Proof.Gen.MergeBwd.Frame
public import proofs.«01_k».proof.Proof.Gen.MergeBwdIdeal.Frame
public import proofs.«01_k».proof.Proof.Gen.MergeBwdIdeal.Value
public import proofs.«01_k».proof.Proof.Gen.MergeBwdRefIdeal.Run
public import proofs.«01_k».proof.Proof.Gen.MergeBwdRefIdeal.Read
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Gen.NormMix.Frame
public import proofs.«01_k».proof.Proof.Gen.NormMixIdeal.Frame
public import proofs.«01_k».proof.Proof.Gen.NormMixIdeal.Value
public import proofs.«01_k».proof.Proof.Gen.NormMixRefIdeal.Run
public import proofs.«01_k».proof.Proof.Gen.NormMixRefIdeal.Read
public import proofs.«01_k».proof.Proof.Gen.NormMem.Frame
public import proofs.«01_k».proof.Proof.Gen.NormMemIdeal.Frame
public import proofs.«01_k».proof.Proof.Gen.NormMemIdeal.Value
public import proofs.«01_k».proof.Proof.Gen.NormMemRefIdeal.Run
public import proofs.«01_k».proof.Proof.Gen.NormMemRefIdeal.Read
public import proofs.«01_k».proof.Proof.Gen.XattnFwd.Frame
public import proofs.«01_k».proof.Proof.Gen.XattnFwdIdeal.Frame
public import proofs.«01_k».proof.Proof.Gen.XattnFwdIdeal.Value
public import proofs.«01_k».proof.Proof.Gen.XattnFwdRefIdeal.Run
public import proofs.«01_k».proof.Proof.Gen.XattnFwdRefIdeal.Read
public import proofs.«01_k».proof.Proof.Gen.FfnConv.Frame
public import proofs.«01_k».proof.Proof.Gen.FfnConvIdeal.Frame
public import proofs.«01_k».proof.Proof.Gen.FfnConvIdeal.Value
public import proofs.«01_k».proof.Proof.Gen.SibEarly.Launch
public import proofs.«01_k».proof.Proof.Gen.SibEarly.Frame
public import proofs.«01_k».proof.Proof.Gen.SibEarly.Skeleton
public import proofs.«01_k».proof.Proof.Gen.SibEarly
public import proofs.«01_k».proof.Proof.Gen.SibEarlyRefIdeal.Read
public import proofs.«01_k».proof.Proof.Gen.SibEarlyRefIdeal.Run
public import proofs.«01_k».proof.Proof.Gen.SibEarlyIdeal
public import proofs.«01_k».proof.Proof.Gen.SibLate.Launch
public import proofs.«01_k».proof.Proof.Gen.SibLate.Frame
public import proofs.«01_k».proof.Proof.Gen.SibLate.Skeleton
public import proofs.«01_k».proof.Proof.Gen.SibLate
public import proofs.«01_k».proof.Proof.Gen.SibLateRefIdeal.Read
public import proofs.«01_k».proof.Proof.Gen.SibLateRefIdeal.Run
public import proofs.«01_k».proof.Proof.Gen.SibLateIdeal
public import proofs.«01_k».proof.Proof.Gen.DXn.Launch
public import proofs.«01_k».proof.Proof.Gen.DXn.Frame
public import proofs.«01_k».proof.Proof.Gen.DXn.Skeleton
public import proofs.«01_k».proof.Proof.Gen.DXn
public import proofs.«01_k».proof.Proof.Gen.DXnRefIdeal.Read
public import proofs.«01_k».proof.Proof.Gen.DXnRefIdeal.Run
public import proofs.«01_k».proof.Proof.Gen.DXnIdeal
public import proofs.«01_k».proof.Proof.Gen.FfnConvRefIdeal.Run
public import proofs.«01_k».proof.Proof.Gen.FfnConvRefIdeal.Read
public import proofs.«01_k».proof.Proof.MixOutClaims
public import proofs.«01_k».proof.Proof.LossDownClaims
public import proofs.«01_k».proof.Proof.NormBwdClaims
public import proofs.«01_k».proof.Proof.NormMixBwdClaims
public import proofs.«01_k».proof.Proof.NormMemBwdClaims
public import proofs.«01_k».proof.Proof.MergeBwdClaims
public import proofs.«01_k».proof.Proof.MergeClaims
public import proofs.«01_k».proof.Proof.NormMixClaims
public import proofs.«01_k».proof.Proof.NormMemClaims
public import proofs.«01_k».proof.Proof.XattnFwdClaims
public import proofs.«01_k».proof.Proof.FfnConvClaims
public import proofs.«01_k».proof.Proof.SibEarlyClaims
public import proofs.«01_k».proof.Proof.SibLateClaims
public import proofs.«01_k».proof.Proof.DXnClaims
public import proofs.«01_k».proof.Proof.AttnClaims
public import Idealize.ShloMosaic.Adequacy
public import Idealize.ShloMosaic.Init

@[expose] public section

noncomputable section

namespace Cert.Proof

open Idealize.ShloMosaic Idealize.SL.Sem Cert.Kernel

theorem claim : Cert.Claim :=
  ⟨
    Cert.Kernel.Gen.facts, Cert.KernelIdeal.Gen.facts, Cert.ReferenceIdeal.Gen.facts, Cert.DAct.Gen.facts,
    Cert.DActIdeal.Gen.facts, Cert.DActRefIdeal.Gen.facts, Cert.DwDown.Gen.facts, Cert.DwDownIdeal.Gen.facts,
    Cert.DwDownRefIdeal.Gen.facts, Cert.DHn.Gen.facts, Cert.DHnIdeal.Gen.facts, Cert.DHnRefIdeal.Gen.facts,
    Cert.DwUp.Gen.facts, Cert.DwUpIdeal.Gen.facts, Cert.DwUpRefIdeal.Gen.facts, Cert.DwSq.Gen.facts,
    Cert.DwSqIdeal.Gen.facts, Cert.DwSqRefIdeal.Gen.facts, Cert.DwInSq.Gen.facts, Cert.DwInSqIdeal.Gen.facts,
    Cert.DwInSqRefIdeal.Gen.facts, Cert.DwInQkv.Gen.facts, Cert.DwInQkvIdeal.Gen.facts,
    Cert.DwInQkvRefIdeal.Gen.facts, Cert.DwInGate.Gen.facts, Cert.DwInGateIdeal.Gen.facts,
    Cert.DwInGateRefIdeal.Gen.facts, Cert.DwInAb.Gen.facts, Cert.DwInAbIdeal.Gen.facts, Cert.DwInAbRefIdeal.Gen.facts,
    Cert.DxSq.Gen.facts, Cert.DxSqIdeal.Gen.facts, Cert.DxSqRefIdeal.Gen.facts, Cert.DXo.Gen.facts,
    Cert.DXoIdeal.Gen.facts, Cert.DXoRefIdeal.Gen.facts, Cert.DMn.Gen.facts, Cert.DMnIdeal.Gen.facts,
    Cert.DMnRefIdeal.Gen.facts, Cert.DwXkv.Gen.facts, Cert.DwXkvIdeal.Gen.facts, Cert.DwXkvRefIdeal.Gen.facts,
    Cert.ProjQkv.Gen.facts, Cert.ProjQkvIdeal.Gen.facts, Cert.ProjQkvRefIdeal.Gen.facts, Cert.ProjGate.Gen.facts,
    Cert.ProjGateIdeal.Gen.facts, Cert.ProjGateRefIdeal.Gen.facts, Cert.ProjZ.Gen.facts, Cert.ProjZIdeal.Gen.facts,
    Cert.ProjZRefIdeal.Gen.facts, Cert.ProjAb.Gen.facts, Cert.ProjAbIdeal.Gen.facts, Cert.ProjAbRefIdeal.Gen.facts,
    Cert.XattnKv.Gen.facts, Cert.XattnKvIdeal.Gen.facts, Cert.XattnKvRefIdeal.Gen.facts, Cert.FfnUp.Gen.facts,
    Cert.FfnUpIdeal.Gen.facts, Cert.FfnUpRefIdeal.Gen.facts, Cert.ProjSq.Gen.facts, Cert.ProjSqIdeal.Gen.facts,
    Cert.ProjSqRefIdeal.Gen.facts, Cert.MixOut.Gen.facts, Cert.MixOutIdeal.Gen.facts, Cert.MixOutRefIdeal.Gen.facts,
    Cert.LossDown.Gen.facts, Cert.LossDownIdeal.Gen.facts, Cert.LossDownRefIdeal.Gen.facts, Cert.NormBwd.Gen.facts,
    Cert.NormBwdIdeal.Gen.facts, Cert.NormBwdRefIdeal.Gen.facts, Cert.NormMixBwd.Gen.facts,
    Cert.NormMixBwdIdeal.Gen.facts, Cert.NormMixBwdRefIdeal.Gen.facts, Cert.NormMemBwd.Gen.facts,
    Cert.NormMemBwdIdeal.Gen.facts, Cert.NormMemBwdRefIdeal.Gen.facts, Cert.MergeBwd.Gen.facts,
    Cert.MergeBwdIdeal.Gen.facts, Cert.MergeBwdRefIdeal.Gen.facts, Cert.Merge.Gen.facts, Cert.MergeIdeal.Gen.facts,
    Cert.MergeRefIdeal.Gen.facts, Cert.NormMix.Gen.facts, Cert.NormMixIdeal.Gen.facts, Cert.NormMixRefIdeal.Gen.facts,
    Cert.NormMem.Gen.facts, Cert.NormMemIdeal.Gen.facts, Cert.NormMemRefIdeal.Gen.facts, Cert.XattnFwd.Gen.facts,
    Cert.XattnFwdIdeal.Gen.facts, Cert.XattnFwdRefIdeal.Gen.facts, Cert.FfnConv.Gen.facts,
    Cert.FfnConvIdeal.Gen.facts, Cert.FfnConvRefIdeal.Gen.facts, Cert.SibEarly.Gen.facts,
    Cert.SibEarlyIdeal.Gen.facts, Cert.SibEarlyRefIdeal.Gen.facts, Cert.SibLate.Gen.facts,
    Cert.SibLateIdeal.Gen.facts, Cert.SibLateRefIdeal.Gen.facts, Cert.DXn.Gen.facts, Cert.DXnIdeal.Gen.facts,
    Cert.DXnRefIdeal.Gen.facts, Cert.Finite.facts, fun m g _ => Cert.Kernel.Gen.frame m g,
    fun m g _ => Cert.KernelIdeal.Gen.frame m g, fun m g _ => Cert.KernelIdeal.Gen.frame m g,
    Cert.AttnClaims.frame_reference, fun m g _ => Cert.AttnClaims.frame_reference m g trivial,
    fun m g _ => Cert.DAct.Gen.frame m g, fun m g _ => Cert.DActIdeal.Gen.frame m g,
    Cert.DActIdeal.Prod.frame_reference, fun m g _ => Cert.DwDown.Gen.frame m g,
    fun m g _ => Cert.DwDownIdeal.Gen.frame m g, Cert.DwDownIdeal.Prod.frame_reference,
    fun m g _ => Cert.DHn.Gen.frame m g, fun m g _ => Cert.DHnIdeal.Gen.frame m g, Cert.DHnIdeal.Prod.frame_reference,
    fun m g _ => Cert.DwUp.Gen.frame m g, fun m g _ => Cert.DwUpIdeal.Gen.frame m g,
    Cert.DwUpIdeal.Prod.frame_reference, fun m g _ => Cert.DwSq.Gen.frame m g,
    fun m g _ => Cert.DwSqIdeal.Gen.frame m g, Cert.DwSqIdeal.Prod.frame_reference,
    fun m g _ => Cert.DwInSq.Gen.frame m g, fun m g _ => Cert.DwInSqIdeal.Gen.frame m g,
    Cert.DwInSqIdeal.Prod.frame_reference, fun m g _ => Cert.DwInQkv.Gen.frame m g,
    fun m g _ => Cert.DwInQkvIdeal.Gen.frame m g, Cert.DwInQkvIdeal.Prod.frame_reference,
    fun m g _ => Cert.DwInGate.Gen.frame m g, fun m g _ => Cert.DwInGateIdeal.Gen.frame m g,
    Cert.DwInGateIdeal.Prod.frame_reference, fun m g _ => Cert.DwInAb.Gen.frame m g,
    fun m g _ => Cert.DwInAbIdeal.Gen.frame m g, Cert.DwInAbIdeal.Prod.frame_reference,
    fun m g _ => Cert.DxSq.Gen.frame m g, fun m g _ => Cert.DxSqIdeal.Gen.frame m g,
    Cert.DxSqIdeal.Prod.frame_reference, fun m g _ => Cert.DXo.Gen.frame m g,
    fun m g _ => Cert.DXoIdeal.Gen.frame m g, Cert.DXoIdeal.Prod.frame_reference, fun m g _ => Cert.DMn.Gen.frame m g,
    fun m g _ => Cert.DMnIdeal.Gen.frame m g, Cert.DMnIdeal.Prod.frame_reference,
    fun m g _ => Cert.DwXkv.Gen.frame m g, fun m g _ => Cert.DwXkvIdeal.Gen.frame m g,
    Cert.DwXkvIdeal.Prod.frame_reference, fun m g _ => Cert.ProjQkv.Gen.frame m g,
    fun m g _ => Cert.ProjQkvIdeal.Gen.frame m g, Cert.ProjQkvIdeal.Prod.frame_reference,
    fun m g _ => Cert.ProjGate.Gen.frame m g, fun m g _ => Cert.ProjGateIdeal.Gen.frame m g,
    Cert.ProjGateIdeal.Prod.frame_reference, fun m g _ => Cert.ProjZ.Gen.frame m g,
    fun m g _ => Cert.ProjZIdeal.Gen.frame m g, Cert.ProjZIdeal.Prod.frame_reference,
    fun m g _ => Cert.ProjAb.Gen.frame m g, fun m g _ => Cert.ProjAbIdeal.Gen.frame m g,
    Cert.ProjAbIdeal.Prod.frame_reference, fun m g _ => Cert.XattnKv.Gen.frame m g,
    fun m g _ => Cert.XattnKvIdeal.Gen.frame m g, Cert.XattnKvIdeal.Prod.frame_reference,
    fun m g _ => Cert.FfnUp.Gen.frame m g, fun m g _ => Cert.FfnUpIdeal.Gen.frame m g,
    Cert.FfnUpIdeal.Prod.frame_reference, fun m g _ => Cert.ProjSq.Gen.frame m g,
    fun m g _ => Cert.ProjSqIdeal.Gen.frame m g, Cert.ProjSqIdeal.Prod.frame_reference,
    fun m g _ => Cert.MixOut.Gen.frame m g, fun m g _ => Cert.MixOutIdeal.Gen.frame m g,
    Cert.MixOutIdeal.Prod.frame_reference, fun m g _ => Cert.LossDown.Gen.frame m g,
    fun m g _ => Cert.LossDownIdeal.Gen.frame m g, Cert.LossDownIdeal.Prod.frame_reference,
    fun m g _ => Cert.NormBwd.Gen.frame m g, fun m g _ => Cert.NormBwdIdeal.Gen.frame m g,
    Cert.NormBwdIdeal.Prod.frame_reference, fun m g _ => Cert.NormMixBwd.Gen.frame m g,
    fun m g _ => Cert.NormMixBwdIdeal.Gen.frame m g, Cert.NormMixBwdIdeal.Prod.frame_reference,
    fun m g _ => Cert.NormMemBwd.Gen.frame m g, fun m g _ => Cert.NormMemBwdIdeal.Gen.frame m g,
    Cert.NormMemBwdIdeal.Prod.frame_reference, fun m g _ => Cert.MergeBwd.Gen.frame m g,
    fun m g _ => Cert.MergeBwdIdeal.Gen.frame m g, Cert.MergeBwdIdeal.Prod.frame_reference,
    fun m g _ => Cert.Merge.Gen.frame m g, fun m g _ => Cert.MergeIdeal.Gen.frame m g,
    Cert.MergeIdeal.Prod.frame_reference, fun m g _ => Cert.NormMix.Gen.frame m g,
    fun m g _ => Cert.NormMixIdeal.Gen.frame m g, Cert.NormMixIdeal.Prod.frame_reference,
    fun m g _ => Cert.NormMem.Gen.frame m g, fun m g _ => Cert.NormMemIdeal.Gen.frame m g,
    Cert.NormMemIdeal.Prod.frame_reference, fun m g _ => Cert.XattnFwd.Gen.frame m g,
    fun m g _ => Cert.XattnFwdIdeal.Gen.frame m g, Cert.XattnFwdIdeal.Prod.frame_reference,
    fun m g _ => Cert.FfnConv.Gen.frame m g, fun m g _ => Cert.FfnConvIdeal.Gen.frame m g,
    Cert.FfnConvIdeal.Prod.frame_reference, Cert.SibEarly.Prod.frame, Cert.SibEarly.Prod.frame_ideal,
    Cert.SibEarly.Prod.frame_reference, Cert.SibLate.Prod.frame, Cert.SibLate.Prod.frame_ideal,
    Cert.SibLate.Prod.frame_reference, Cert.DXn.Prod.frame, Cert.DXn.Prod.frame_ideal, Cert.DXn.Prod.frame_reference,
    trivial, haveI := Cert.Finite.facts; Cert.AttnClaims.algebraic, trivial, Cert.DActIdeal.Prod.algebraic, trivial,
    Cert.DwDownIdeal.Prod.algebraic, trivial, Cert.DHnIdeal.Prod.algebraic, trivial, Cert.DwUpIdeal.Prod.algebraic,
    trivial, Cert.DwSqIdeal.Prod.algebraic, trivial, Cert.DwInSqIdeal.Prod.algebraic, trivial,
    Cert.DwInQkvIdeal.Prod.algebraic, trivial, Cert.DwInGateIdeal.Prod.algebraic, trivial,
    Cert.DwInAbIdeal.Prod.algebraic, trivial, Cert.DxSqIdeal.Prod.algebraic, trivial, Cert.DXoIdeal.Prod.algebraic,
    trivial, Cert.DMnIdeal.Prod.algebraic, trivial, Cert.DwXkvIdeal.Prod.algebraic, trivial,
    Cert.ProjQkvIdeal.Prod.algebraic, trivial, Cert.ProjGateIdeal.Prod.algebraic, trivial,
    Cert.ProjZIdeal.Prod.algebraic, trivial, Cert.ProjAbIdeal.Prod.algebraic, trivial,
    Cert.XattnKvIdeal.Prod.algebraic, trivial, Cert.FfnUpIdeal.Prod.algebraic, trivial,
    Cert.ProjSqIdeal.Prod.algebraic, trivial, Cert.MixOutIdeal.Prod.algebraic, trivial,
    Cert.LossDownIdeal.Prod.algebraic, trivial, Cert.NormBwdIdeal.Prod.algebraic, trivial,
    Cert.NormMixBwdIdeal.Prod.algebraic, trivial, Cert.NormMemBwdIdeal.Prod.algebraic, trivial,
    Cert.MergeBwdIdeal.Prod.algebraic, trivial, Cert.MergeIdeal.Prod.algebraic, trivial,
    Cert.NormMixIdeal.Prod.algebraic, trivial, Cert.NormMemIdeal.Prod.algebraic, trivial,
    Cert.XattnFwdIdeal.Prod.algebraic, trivial, Cert.FfnConvIdeal.Prod.algebraic, trivial,
    Cert.SibEarly.Prod.algebraic, trivial, Cert.SibLate.Prod.algebraic, trivial, Cert.DXn.Prod.algebraic⟩

end Cert.Proof

end
